-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownReferenceIdeal (m : (ℓ : Loc Cert.GradDownReferenceIdeal.nD Cert.GradDownReferenceIdeal.τ Cert.GradDownReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownReferenceIdeal [hGradDownReferenceIdeal : Cert.GradDownReferenceIdeal.Facts] : Prop :=
  ∀ (m : (ℓ : Loc Cert.GradDownReferenceIdeal.nD Cert.GradDownReferenceIdeal.τ Cert.GradDownReferenceIdeal.sig) → Buf (Elt Ideal) ℓ) (g : Dev Cert.GradDownReferenceIdeal.nD → PrngReg), Pre_GradDownReferenceIdeal m →
    θ_run (Cert.GradDownReferenceIdeal.defs (F := Ideal)) (onTc (τ := Cert.GradDownReferenceIdeal.τ) (Cert.GradDownReferenceIdeal.main (F := Ideal))) ⟨m, fun _ => 0, g⟩ (fun r => (∀ c : Dev Cert.GradDownReferenceIdeal.nD,
      r.2.mem ((c.tc : Thread Cert.GradDownReferenceIdeal.nD Cert.GradDownReferenceIdeal.τ).loc Cert.GradDownReferenceIdeal.main_arg0) = m ((c.tc : Thread Cert.GradDownReferenceIdeal.nD Cert.GradDownReferenceIdeal.τ).loc Cert.GradDownReferenceIdeal.main_arg0)
      ∧ r.2.mem ((c.tc : Thread Cert.GradDownReferenceIdeal.nD Cert.GradDownReferenceIdeal.τ).loc Cert.GradDownReferenceIdeal.main_arg1) = m ((c.tc : Thread Cert.GradDownReferenceIdeal.nD Cert.GradDownReferenceIdeal.τ).loc Cert.GradDownReferenceIdeal.main_arg1))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4)
      ∧ r.2.mem ((c.tc : Thread Cert.AdamUpReferenceIdeal.nD Cert.AdamUpReferenceIdeal.τ).loc Cert.AdamUpReferenceIdeal.main_arg5) = m ((c.tc : Thread Cert.AdamUpReferenceIdeal.nD Cert.AdamUpReferenceIdeal.τ).loc Cert.AdamUpReferenceIdeal.main_arg5))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4)
      ∧ r.2.mem ((c.tc : Thread Cert.AdamDownReferenceIdeal.nD Cert.AdamDownReferenceIdeal.τ).loc Cert.AdamDownReferenceIdeal.main_arg5) = m ((c.tc : Thread Cert.AdamDownReferenceIdeal.nD Cert.AdamDownReferenceIdeal.τ).loc Cert.AdamDownReferenceIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3)
      ∧ r.2.mem ((c.tc : Thread Cert.AdamSmallReferenceIdeal.nD Cert.AdamSmallReferenceIdeal.τ).loc Cert.AdamSmallReferenceIdeal.main_arg4) = m ((c.tc : Thread Cert.AdamSmallReferenceIdeal.nD Cert.AdamSmallReferenceIdeal.τ).loc Cert.AdamSmallReferenceIdeal.main_arg4)
      ∧ r.2.mem ((c.tc : Thread Cert.AdamSmallReferenceIdeal.nD Cert.AdamSmallReferenceIdeal.τ).loc Cert.AdamSmallReferenceIdeal.main_arg5) = m ((c.tc : Thread Cert.AdamSmallReferenceIdeal.nD Cert.AdamSmallReferenceIdeal.τ).loc Cert.AdamSmallReferenceIdeal.main_arg5)
      ∧ r.2.mem ((c.tc : Thread Cert.AdamSmallReferenceIdeal.nD Cert.AdamSmallReferenceIdeal.τ).loc Cert.AdamSmallReferenceIdeal.main_arg6) = m ((c.tc : Thread Cert.AdamSmallReferenceIdeal.nD Cert.AdamSmallReferenceIdeal.τ).loc Cert.AdamSmallReferenceIdeal.main_arg6)
      ∧ r.2.mem ((c.tc : Thread Cert.AdamSmallReferenceIdeal.nD Cert.AdamSmallReferenceIdeal.τ).loc Cert.AdamSmallReferenceIdeal.main_arg7) = m ((c.tc : Thread Cert.AdamSmallReferenceIdeal.nD Cert.AdamSmallReferenceIdeal.τ).loc Cert.AdamSmallReferenceIdeal.main_arg7)
      ∧ r.2.mem ((c.tc : Thread Cert.AdamSmallReferenceIdeal.nD Cert.AdamSmallReferenceIdeal.τ).loc Cert.AdamSmallReferenceIdeal.main_arg8) = m ((c.tc : Thread Cert.AdamSmallReferenceIdeal.nD Cert.AdamSmallReferenceIdeal.τ).loc Cert.AdamSmallReferenceIdeal.main_arg8)
      ∧ r.2.mem ((c.tc : Thread Cert.AdamSmallReferenceIdeal.nD Cert.AdamSmallReferenceIdeal.τ).loc Cert.AdamSmallReferenceIdeal.main_arg9) = m ((c.tc : Thread Cert.AdamSmallReferenceIdeal.nD Cert.AdamSmallReferenceIdeal.τ).loc Cert.AdamSmallReferenceIdeal.main_arg9)
      ∧ r.2.mem ((c.tc : Thread Cert.AdamSmallReferenceIdeal.nD Cert.AdamSmallReferenceIdeal.τ).loc Cert.AdamSmallReferenceIdeal.main_arg10) = m ((c.tc : Thread Cert.AdamSmallReferenceIdeal.nD Cert.AdamSmallReferenceIdeal.τ).loc Cert.AdamSmallReferenceIdeal.main_arg10)
      ∧ r.2.mem ((c.tc : Thread Cert.AdamSmallReferenceIdeal.nD Cert.AdamSmallReferenceIdeal.τ).loc Cert.AdamSmallReferenceIdeal.main_arg11) = m ((c.tc : Thread Cert.AdamSmallReferenceIdeal.nD Cert.AdamSmallReferenceIdeal.τ).loc Cert.AdamSmallReferenceIdeal.main_arg11)
      ∧ r.2.mem ((c.tc : Thread Cert.AdamSmallReferenceIdeal.nD Cert.AdamSmallReferenceIdeal.τ).loc Cert.AdamSmallReferenceIdeal.main_arg12) = m ((c.tc : Thread Cert.AdamSmallReferenceIdeal.nD Cert.AdamSmallReferenceIdeal.τ).loc Cert.AdamSmallReferenceIdeal.main_arg12)
      ∧ r.2.mem ((c.tc : Thread Cert.AdamSmallReferenceIdeal.nD Cert.AdamSmallReferenceIdeal.τ).loc Cert.AdamSmallReferenceIdeal.main_arg13) = m ((c.tc : Thread Cert.AdamSmallReferenceIdeal.nD Cert.AdamSmallReferenceIdeal.τ).loc Cert.AdamSmallReferenceIdeal.main_arg13)
      ∧ r.2.mem ((c.tc : Thread Cert.AdamSmallReferenceIdeal.nD Cert.AdamSmallReferenceIdeal.τ).loc Cert.AdamSmallReferenceIdeal.main_arg14) = m ((c.tc : Thread Cert.AdamSmallReferenceIdeal.nD Cert.AdamSmallReferenceIdeal.τ).loc Cert.AdamSmallReferenceIdeal.main_arg14)
      ∧ r.2.mem ((c.tc : Thread Cert.AdamSmallReferenceIdeal.nD Cert.AdamSmallReferenceIdeal.τ).loc Cert.AdamSmallReferenceIdeal.main_arg15) = m ((c.tc : Thread Cert.AdamSmallReferenceIdeal.nD Cert.AdamSmallReferenceIdeal.τ).loc Cert.AdamSmallReferenceIdeal.main_arg15)
      ∧ r.2.mem ((c.tc : Thread Cert.AdamSmallReferenceIdeal.nD Cert.AdamSmallReferenceIdeal.τ).loc Cert.AdamSmallReferenceIdeal.main_arg16) = m ((c.tc : Thread Cert.AdamSmallReferenceIdeal.nD Cert.AdamSmallReferenceIdeal.τ).loc Cert.AdamSmallReferenceIdeal.main_arg16)
      ∧ r.2.mem ((c.tc : Thread Cert.AdamSmallReferenceIdeal.nD Cert.AdamSmallReferenceIdeal.τ).loc Cert.AdamSmallReferenceIdeal.main_arg17) = m ((c.tc : Thread Cert.AdamSmallReferenceIdeal.nD Cert.AdamSmallReferenceIdeal.τ).loc Cert.AdamSmallReferenceIdeal.main_arg17)
      ∧ r.2.mem ((c.tc : Thread Cert.AdamSmallReferenceIdeal.nD Cert.AdamSmallReferenceIdeal.τ).loc Cert.AdamSmallReferenceIdeal.main_arg18) = m ((c.tc : Thread Cert.AdamSmallReferenceIdeal.nD Cert.AdamSmallReferenceIdeal.τ).loc Cert.AdamSmallReferenceIdeal.main_arg18)
      ∧ r.2.mem ((c.tc : Thread Cert.AdamSmallReferenceIdeal.nD Cert.AdamSmallReferenceIdeal.τ).loc Cert.AdamSmallReferenceIdeal.main_arg19) = m ((c.tc : Thread Cert.AdamSmallReferenceIdeal.nD Cert.AdamSmallReferenceIdeal.τ).loc Cert.AdamSmallReferenceIdeal.main_arg19)
      ∧ r.2.mem ((c.tc : Thread Cert.AdamSmallReferenceIdeal.nD Cert.AdamSmallReferenceIdeal.τ).loc Cert.AdamSmallReferenceIdeal.main_arg20) = m ((c.tc : Thread Cert.AdamSmallReferenceIdeal.nD Cert.AdamSmallReferenceIdeal.τ).loc Cert.AdamSmallReferenceIdeal.main_arg20)
      ∧ r.2.mem ((c.tc : Thread Cert.AdamSmallReferenceIdeal.nD Cert.AdamSmallReferenceIdeal.τ).loc Cert.AdamSmallReferenceIdeal.main_arg21) = m ((c.tc : Thread Cert.AdamSmallReferenceIdeal.nD Cert.AdamSmallReferenceIdeal.τ).loc Cert.AdamSmallReferenceIdeal.main_arg21)
      ∧ r.2.mem ((c.tc : Thread Cert.AdamSmallReferenceIdeal.nD Cert.AdamSmallReferenceIdeal.τ).loc Cert.AdamSmallReferenceIdeal.main_arg22) = m ((c.tc : Thread Cert.AdamSmallReferenceIdeal.nD Cert.AdamSmallReferenceIdeal.τ).loc Cert.AdamSmallReferenceIdeal.main_arg22)
      ∧ r.2.mem ((c.tc : Thread Cert.AdamSmallReferenceIdeal.nD Cert.AdamSmallReferenceIdeal.τ).loc Cert.AdamSmallReferenceIdeal.main_arg23) = m ((c.tc : Thread Cert.AdamSmallReferenceIdeal.nD Cert.AdamSmallReferenceIdeal.τ).loc Cert.AdamSmallReferenceIdeal.main_arg23)
      ∧ r.2.mem ((c.tc : Thread Cert.AdamSmallReferenceIdeal.nD Cert.AdamSmallReferenceIdeal.τ).loc Cert.AdamSmallReferenceIdeal.main_arg24) = m ((c.tc : Thread Cert.AdamSmallReferenceIdeal.nD Cert.AdamSmallReferenceIdeal.τ).loc Cert.AdamSmallReferenceIdeal.main_arg24)
      ∧ r.2.mem ((c.tc : Thread Cert.AdamSmallReferenceIdeal.nD Cert.AdamSmallReferenceIdeal.τ).loc Cert.AdamSmallReferenceIdeal.main_arg25) = m ((c.tc : Thread Cert.AdamSmallReferenceIdeal.nD Cert.AdamSmallReferenceIdeal.τ).loc Cert.AdamSmallReferenceIdeal.main_arg25))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)) (v5 : (c : Dev Cert.KernelIdeal.nD) → Buf (Elt Ideal) ((c.tc : Thread Cert.KernelIdeal.nD Cert.KernelIdeal.τ).loc Cert.KernelIdeal.main_v21_5)) (v6 : (c : Dev Cert.KernelIdeal.nD) → Buf (Elt Ideal) ((c.tc : Thread Cert.KernelIdeal.nD Cert.KernelIdeal.τ).loc Cert.KernelIdeal.main_v21_6)) (v7 : (c : Dev Cert.KernelIdeal.nD) → Buf (Elt Ideal) ((c.tc : Thread Cert.KernelIdeal.nD Cert.KernelIdeal.τ).loc Cert.KernelIdeal.main_v21_7)) (v8 : (c : Dev Cert.KernelIdeal.nD) → Buf (Elt Ideal) ((c.tc : Thread Cert.KernelIdeal.nD Cert.KernelIdeal.τ).loc Cert.KernelIdeal.main_v21_8)) (v9 : (c : Dev Cert.KernelIdeal.nD) → Buf (Elt Ideal) ((c.tc : Thread Cert.KernelIdeal.nD Cert.KernelIdeal.τ).loc Cert.KernelIdeal.main_v21_9)) (v10 : (c : Dev Cert.KernelIdeal.nD) → Buf (Elt Ideal) ((c.tc : Thread Cert.KernelIdeal.nD Cert.KernelIdeal.τ).loc Cert.KernelIdeal.main_v21_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_v21_5) = v5 c
          ∧ r.2.mem ((c.tc : Thread Cert.KernelIdeal.nD Cert.KernelIdeal.τ).loc Cert.KernelIdeal.main_v21_6) = v6 c
          ∧ r.2.mem ((c.tc : Thread Cert.KernelIdeal.nD Cert.KernelIdeal.τ).loc Cert.KernelIdeal.main_v21_7) = v7 c
          ∧ r.2.mem ((c.tc : Thread Cert.KernelIdeal.nD Cert.KernelIdeal.τ).loc Cert.KernelIdeal.main_v21_8) = v8 c
          ∧ r.2.mem ((c.tc : Thread Cert.KernelIdeal.nD Cert.KernelIdeal.τ).loc Cert.KernelIdeal.main_v21_9) = v9 c
          ∧ r.2.mem ((c.tc : Thread Cert.KernelIdeal.nD Cert.KernelIdeal.τ).loc Cert.KernelIdeal.main_v21_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_v201) = v1 c
          ∧ r.2.mem ((c.tc : Thread Cert.ReferenceIdeal.nD Cert.ReferenceIdeal.τ).loc Cert.ReferenceIdeal.main_v202) = v2 c
          ∧ r.2.mem ((c.tc : Thread Cert.ReferenceIdeal.nD Cert.ReferenceIdeal.τ).loc Cert.ReferenceIdeal.main_v203) = v3 c
          ∧ r.2.mem ((c.tc : Thread Cert.ReferenceIdeal.nD Cert.ReferenceIdeal.τ).loc Cert.ReferenceIdeal.main_v204) = v4 c
          ∧ r.2.mem ((c.tc : Thread Cert.ReferenceIdeal.nD Cert.ReferenceIdeal.τ).loc Cert.ReferenceIdeal.main_v103) = v5 c
          ∧ r.2.mem ((c.tc : Thread Cert.ReferenceIdeal.nD Cert.ReferenceIdeal.τ).loc Cert.ReferenceIdeal.main_v100) = v6 c
          ∧ r.2.mem ((c.tc : Thread Cert.ReferenceIdeal.nD Cert.ReferenceIdeal.τ).loc Cert.ReferenceIdeal.main_v174) = v7 c
          ∧ r.2.mem ((c.tc : Thread Cert.ReferenceIdeal.nD Cert.ReferenceIdeal.τ).loc Cert.ReferenceIdeal.main_v171) = v8 c
          ∧ r.2.mem ((c.tc : Thread Cert.ReferenceIdeal.nD Cert.ReferenceIdeal.τ).loc Cert.ReferenceIdeal.main_v137) = v9 c
          ∧ r.2.mem ((c.tc : Thread Cert.ReferenceIdeal.nD Cert.ReferenceIdeal.τ).loc Cert.ReferenceIdeal.main_v160) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_GradDown_GradDownIdeal : Prop :=
  True

def algebraic_GradDownIdeal_GradDownReferenceIdeal [hGradDownIdeal : Cert.GradDownIdeal.Facts] [hGradDownReferenceIdeal : Cert.GradDownReferenceIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownReferenceIdeal.nD Cert.GradDownReferenceIdeal.τ Cert.GradDownReferenceIdeal.sig) → Buf (Elt Ideal) ℓ) (g' : Dev Cert.GradDownReferenceIdeal.nD → PrngReg), Pre_GradDownIdeal m →
    (∀ c : Dev Cert.GradDownIdeal.nD,
      m' ((c.tc : Thread Cert.GradDownReferenceIdeal.nD Cert.GradDownReferenceIdeal.τ).loc Cert.GradDownReferenceIdeal.main_arg0) = m ((c.tc : Thread Cert.GradDownIdeal.nD Cert.GradDownIdeal.τ).loc Cert.GradDownIdeal.main_arg0)
      ∧ m' ((c.tc : Thread Cert.GradDownReferenceIdeal.nD Cert.GradDownReferenceIdeal.τ).loc Cert.GradDownReferenceIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownReferenceIdeal.defs (F := Ideal)) (onTc (τ := Cert.GradDownReferenceIdeal.τ) (Cert.GradDownReferenceIdeal.main (F := Ideal))) ⟨m', fun _ => 0, g'⟩ (fun r => ∀ c : Dev Cert.GradDownReferenceIdeal.nD,
          r.2.mem ((c.tc : Thread Cert.GradDownReferenceIdeal.nD Cert.GradDownReferenceIdeal.τ).loc Cert.GradDownReferenceIdeal.main_v6) = v0 c
          ∧ r.2.mem ((c.tc : Thread Cert.GradDownReferenceIdeal.nD Cert.GradDownReferenceIdeal.τ).loc Cert.GradDownReferenceIdeal.main_arg0) = m' ((c.tc : Thread Cert.GradDownReferenceIdeal.nD Cert.GradDownReferenceIdeal.τ).loc Cert.GradDownReferenceIdeal.main_arg0)
          ∧ r.2.mem ((c.tc : Thread Cert.GradDownReferenceIdeal.nD Cert.GradDownReferenceIdeal.τ).loc Cert.GradDownReferenceIdeal.main_arg1) = m' ((c.tc : Thread Cert.GradDownReferenceIdeal.nD Cert.GradDownReferenceIdeal.τ).loc Cert.GradDownReferenceIdeal.main_arg1))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)
      ∧ m' ((c.tc : Thread Cert.AdamUpReferenceIdeal.nD Cert.AdamUpReferenceIdeal.τ).loc Cert.AdamUpReferenceIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v3) = v0 c
          ∧ r.2.mem ((c.tc : Thread Cert.AdamUpReferenceIdeal.nD Cert.AdamUpReferenceIdeal.τ).loc Cert.AdamUpReferenceIdeal.main_v27) = v1 c
          ∧ r.2.mem ((c.tc : Thread Cert.AdamUpReferenceIdeal.nD Cert.AdamUpReferenceIdeal.τ).loc Cert.AdamUpReferenceIdeal.main_v8) = v2 c
          ∧ r.2.mem ((c.tc : Thread Cert.AdamUpReferenceIdeal.nD Cert.AdamUpReferenceIdeal.τ).loc Cert.AdamUpReferenceIdeal.main_v14) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4)
          ∧ r.2.mem ((c.tc : Thread Cert.AdamUpReferenceIdeal.nD Cert.AdamUpReferenceIdeal.τ).loc Cert.AdamUpReferenceIdeal.main_arg5) = m' ((c.tc : Thread Cert.AdamUpReferenceIdeal.nD Cert.AdamUpReferenceIdeal.τ).loc Cert.AdamUpReferenceIdeal.main_arg5))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)
      ∧ m' ((c.tc : Thread Cert.AdamDownReferenceIdeal.nD Cert.AdamDownReferenceIdeal.τ).loc Cert.AdamDownReferenceIdeal.main_arg4) = m ((c.tc : Thread Cert.AdamDownIdeal.nD Cert.AdamDownIdeal.τ).loc Cert.AdamDownIdeal.main_arg4)
      ∧ m' ((c.tc : Thread Cert.AdamDownReferenceIdeal.nD Cert.AdamDownReferenceIdeal.τ).loc Cert.AdamDownReferenceIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v3) = v0 c
          ∧ r.2.mem ((c.tc : Thread Cert.AdamDownReferenceIdeal.nD Cert.AdamDownReferenceIdeal.τ).loc Cert.AdamDownReferenceIdeal.main_v27) = v1 c
          ∧ r.2.mem ((c.tc : Thread Cert.AdamDownReferenceIdeal.nD Cert.AdamDownReferenceIdeal.τ).loc Cert.AdamDownReferenceIdeal.main_v8) = v2 c
          ∧ r.2.mem ((c.tc : Thread Cert.AdamDownReferenceIdeal.nD Cert.AdamDownReferenceIdeal.τ).loc Cert.AdamDownReferenceIdeal.main_v14) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4)
          ∧ r.2.mem ((c.tc : Thread Cert.AdamDownReferenceIdeal.nD Cert.AdamDownReferenceIdeal.τ).loc Cert.AdamDownReferenceIdeal.main_arg5) = m' ((c.tc : Thread Cert.AdamDownReferenceIdeal.nD Cert.AdamDownReferenceIdeal.τ).loc Cert.AdamDownReferenceIdeal.main_arg5))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)
      ∧ m' ((c.tc : Thread Cert.AdamOutReferenceIdeal.nD Cert.AdamOutReferenceIdeal.τ).loc Cert.AdamOutReferenceIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v3) = v0 c
          ∧ r.2.mem ((c.tc : Thread Cert.AdamOutReferenceIdeal.nD Cert.AdamOutReferenceIdeal.τ).loc Cert.AdamOutReferenceIdeal.main_v27) = v1 c
          ∧ r.2.mem ((c.tc : Thread Cert.AdamOutReferenceIdeal.nD Cert.AdamOutReferenceIdeal.τ).loc Cert.AdamOutReferenceIdeal.main_v8) = v2 c
          ∧ r.2.mem ((c.tc : Thread Cert.AdamOutReferenceIdeal.nD Cert.AdamOutReferenceIdeal.τ).loc Cert.AdamOutReferenceIdeal.main_v14) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4)
          ∧ r.2.mem ((c.tc : Thread Cert.AdamOutReferenceIdeal.nD Cert.AdamOutReferenceIdeal.τ).loc Cert.AdamOutReferenceIdeal.main_arg5) = m' ((c.tc : Thread Cert.AdamOutReferenceIdeal.nD Cert.AdamOutReferenceIdeal.τ).loc Cert.AdamOutReferenceIdeal.main_arg5))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v3) = v0 c
          ∧ r.2.mem ((c.tc : Thread Cert.AdamInReferenceIdeal.nD Cert.AdamInReferenceIdeal.τ).loc Cert.AdamInReferenceIdeal.main_v27) = v1 c
          ∧ r.2.mem ((c.tc : Thread Cert.AdamInReferenceIdeal.nD Cert.AdamInReferenceIdeal.τ).loc Cert.AdamInReferenceIdeal.main_v8) = v2 c
          ∧ r.2.mem ((c.tc : Thread Cert.AdamInReferenceIdeal.nD Cert.AdamInReferenceIdeal.τ).loc Cert.AdamInReferenceIdeal.main_v14) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)
      ∧ m' ((c.tc : Thread Cert.AdamSmallReferenceIdeal.nD Cert.AdamSmallReferenceIdeal.τ).loc Cert.AdamSmallReferenceIdeal.main_arg4) = m ((c.tc : Thread Cert.AdamSmallIdeal.nD Cert.AdamSmallIdeal.τ).loc Cert.AdamSmallIdeal.main_arg4)
      ∧ m' ((c.tc : Thread Cert.AdamSmallReferenceIdeal.nD Cert.AdamSmallReferenceIdeal.τ).loc Cert.AdamSmallReferenceIdeal.main_arg5) = m ((c.tc : Thread Cert.AdamSmallIdeal.nD Cert.AdamSmallIdeal.τ).loc Cert.AdamSmallIdeal.main_arg5)
      ∧ m' ((c.tc : Thread Cert.AdamSmallReferenceIdeal.nD Cert.AdamSmallReferenceIdeal.τ).loc Cert.AdamSmallReferenceIdeal.main_arg6) = m ((c.tc : Thread Cert.AdamSmallIdeal.nD Cert.AdamSmallIdeal.τ).loc Cert.AdamSmallIdeal.main_arg6)
      ∧ m' ((c.tc : Thread Cert.AdamSmallReferenceIdeal.nD Cert.AdamSmallReferenceIdeal.τ).loc Cert.AdamSmallReferenceIdeal.main_arg7) = m ((c.tc : Thread Cert.AdamSmallIdeal.nD Cert.AdamSmallIdeal.τ).loc Cert.AdamSmallIdeal.main_arg7)
      ∧ m' ((c.tc : Thread Cert.AdamSmallReferenceIdeal.nD Cert.AdamSmallReferenceIdeal.τ).loc Cert.AdamSmallReferenceIdeal.main_arg8) = m ((c.tc : Thread Cert.AdamSmallIdeal.nD Cert.AdamSmallIdeal.τ).loc Cert.AdamSmallIdeal.main_arg8)
      ∧ m' ((c.tc : Thread Cert.AdamSmallReferenceIdeal.nD Cert.AdamSmallReferenceIdeal.τ).loc Cert.AdamSmallReferenceIdeal.main_arg9) = m ((c.tc : Thread Cert.AdamSmallIdeal.nD Cert.AdamSmallIdeal.τ).loc Cert.AdamSmallIdeal.main_arg9)
      ∧ m' ((c.tc : Thread Cert.AdamSmallReferenceIdeal.nD Cert.AdamSmallReferenceIdeal.τ).loc Cert.AdamSmallReferenceIdeal.main_arg10) = m ((c.tc : Thread Cert.AdamSmallIdeal.nD Cert.AdamSmallIdeal.τ).loc Cert.AdamSmallIdeal.main_arg10)
      ∧ m' ((c.tc : Thread Cert.AdamSmallReferenceIdeal.nD Cert.AdamSmallReferenceIdeal.τ).loc Cert.AdamSmallReferenceIdeal.main_arg11) = m ((c.tc : Thread Cert.AdamSmallIdeal.nD Cert.AdamSmallIdeal.τ).loc Cert.AdamSmallIdeal.main_arg11)
      ∧ m' ((c.tc : Thread Cert.AdamSmallReferenceIdeal.nD Cert.AdamSmallReferenceIdeal.τ).loc Cert.AdamSmallReferenceIdeal.main_arg12) = m ((c.tc : Thread Cert.AdamSmallIdeal.nD Cert.AdamSmallIdeal.τ).loc Cert.AdamSmallIdeal.main_arg12)
      ∧ m' ((c.tc : Thread Cert.AdamSmallReferenceIdeal.nD Cert.AdamSmallReferenceIdeal.τ).loc Cert.AdamSmallReferenceIdeal.main_arg13) = m ((c.tc : Thread Cert.AdamSmallIdeal.nD Cert.AdamSmallIdeal.τ).loc Cert.AdamSmallIdeal.main_arg13)
      ∧ m' ((c.tc : Thread Cert.AdamSmallReferenceIdeal.nD Cert.AdamSmallReferenceIdeal.τ).loc Cert.AdamSmallReferenceIdeal.main_arg14) = m ((c.tc : Thread Cert.AdamSmallIdeal.nD Cert.AdamSmallIdeal.τ).loc Cert.AdamSmallIdeal.main_arg14)
      ∧ m' ((c.tc : Thread Cert.AdamSmallReferenceIdeal.nD Cert.AdamSmallReferenceIdeal.τ).loc Cert.AdamSmallReferenceIdeal.main_arg15) = m ((c.tc : Thread Cert.AdamSmallIdeal.nD Cert.AdamSmallIdeal.τ).loc Cert.AdamSmallIdeal.main_arg15)
      ∧ m' ((c.tc : Thread Cert.AdamSmallReferenceIdeal.nD Cert.AdamSmallReferenceIdeal.τ).loc Cert.AdamSmallReferenceIdeal.main_arg16) = m ((c.tc : Thread Cert.AdamSmallIdeal.nD Cert.AdamSmallIdeal.τ).loc Cert.AdamSmallIdeal.main_arg16)
      ∧ m' ((c.tc : Thread Cert.AdamSmallReferenceIdeal.nD Cert.AdamSmallReferenceIdeal.τ).loc Cert.AdamSmallReferenceIdeal.main_arg17) = m ((c.tc : Thread Cert.AdamSmallIdeal.nD Cert.AdamSmallIdeal.τ).loc Cert.AdamSmallIdeal.main_arg17)
      ∧ m' ((c.tc : Thread Cert.AdamSmallReferenceIdeal.nD Cert.AdamSmallReferenceIdeal.τ).loc Cert.AdamSmallReferenceIdeal.main_arg18) = m ((c.tc : Thread Cert.AdamSmallIdeal.nD Cert.AdamSmallIdeal.τ).loc Cert.AdamSmallIdeal.main_arg18)
      ∧ m' ((c.tc : Thread Cert.AdamSmallReferenceIdeal.nD Cert.AdamSmallReferenceIdeal.τ).loc Cert.AdamSmallReferenceIdeal.main_arg19) = m ((c.tc : Thread Cert.AdamSmallIdeal.nD Cert.AdamSmallIdeal.τ).loc Cert.AdamSmallIdeal.main_arg19)
      ∧ m' ((c.tc : Thread Cert.AdamSmallReferenceIdeal.nD Cert.AdamSmallReferenceIdeal.τ).loc Cert.AdamSmallReferenceIdeal.main_arg20) = m ((c.tc : Thread Cert.AdamSmallIdeal.nD Cert.AdamSmallIdeal.τ).loc Cert.AdamSmallIdeal.main_arg20)
      ∧ m' ((c.tc : Thread Cert.AdamSmallReferenceIdeal.nD Cert.AdamSmallReferenceIdeal.τ).loc Cert.AdamSmallReferenceIdeal.main_arg21) = m ((c.tc : Thread Cert.AdamSmallIdeal.nD Cert.AdamSmallIdeal.τ).loc Cert.AdamSmallIdeal.main_arg21)
      ∧ m' ((c.tc : Thread Cert.AdamSmallReferenceIdeal.nD Cert.AdamSmallReferenceIdeal.τ).loc Cert.AdamSmallReferenceIdeal.main_arg22) = m ((c.tc : Thread Cert.AdamSmallIdeal.nD Cert.AdamSmallIdeal.τ).loc Cert.AdamSmallIdeal.main_arg22)
      ∧ m' ((c.tc : Thread Cert.AdamSmallReferenceIdeal.nD Cert.AdamSmallReferenceIdeal.τ).loc Cert.AdamSmallReferenceIdeal.main_arg23) = m ((c.tc : Thread Cert.AdamSmallIdeal.nD Cert.AdamSmallIdeal.τ).loc Cert.AdamSmallIdeal.main_arg23)
      ∧ m' ((c.tc : Thread Cert.AdamSmallReferenceIdeal.nD Cert.AdamSmallReferenceIdeal.τ).loc Cert.AdamSmallReferenceIdeal.main_arg24) = m ((c.tc : Thread Cert.AdamSmallIdeal.nD Cert.AdamSmallIdeal.τ).loc Cert.AdamSmallIdeal.main_arg24)
      ∧ m' ((c.tc : Thread Cert.AdamSmallReferenceIdeal.nD Cert.AdamSmallReferenceIdeal.τ).loc Cert.AdamSmallReferenceIdeal.main_arg25) = m ((c.tc : Thread Cert.AdamSmallIdeal.nD Cert.AdamSmallIdeal.τ).loc Cert.AdamSmallIdeal.main_arg25)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)) (v21 : (c : Dev Cert.AdamSmallIdeal.nD) → Buf (Elt Ideal) ((c.tc : Thread Cert.AdamSmallIdeal.nD Cert.AdamSmallIdeal.τ).loc Cert.AdamSmallIdeal.main_v0_21)) (v22 : (c : Dev Cert.AdamSmallIdeal.nD) → Buf (Elt Ideal) ((c.tc : Thread Cert.AdamSmallIdeal.nD Cert.AdamSmallIdeal.τ).loc Cert.AdamSmallIdeal.main_v0_22)) (v23 : (c : Dev Cert.AdamSmallIdeal.nD) → Buf (Elt Ideal) ((c.tc : Thread Cert.AdamSmallIdeal.nD Cert.AdamSmallIdeal.τ).loc Cert.AdamSmallIdeal.main_v0_23)) (v24 : (c : Dev Cert.AdamSmallIdeal.nD) → Buf (Elt Ideal) ((c.tc : Thread Cert.AdamSmallIdeal.nD Cert.AdamSmallIdeal.τ).loc Cert.AdamSmallIdeal.main_v0_24)) (v25 : (c : Dev Cert.AdamSmallIdeal.nD) → Buf (Elt Ideal) ((c.tc : Thread Cert.AdamSmallIdeal.nD Cert.AdamSmallIdeal.τ).loc Cert.AdamSmallIdeal.main_v0_25)) (v26 : (c : Dev Cert.AdamSmallIdeal.nD) → Buf (Elt Ideal) ((c.tc : Thread Cert.AdamSmallIdeal.nD Cert.AdamSmallIdeal.τ).loc Cert.AdamSmallIdeal.main_v0_26)) (v27 : (c : Dev Cert.AdamSmallIdeal.nD) → Buf (Elt Ideal) ((c.tc : Thread Cert.AdamSmallIdeal.nD Cert.AdamSmallIdeal.τ).loc Cert.AdamSmallIdeal.main_v0_27)) (v28 : (c : Dev Cert.AdamSmallIdeal.nD) → Buf (Elt Ideal) ((c.tc : Thread Cert.AdamSmallIdeal.nD Cert.AdamSmallIdeal.τ).loc Cert.AdamSmallIdeal.main_v0_28)) (v29 : (c : Dev Cert.AdamSmallIdeal.nD) → Buf (Elt Ideal) ((c.tc : Thread Cert.AdamSmallIdeal.nD Cert.AdamSmallIdeal.τ).loc Cert.AdamSmallIdeal.main_v0_29)) (v30 : (c : Dev Cert.AdamSmallIdeal.nD) → Buf (Elt Ideal) ((c.tc : Thread Cert.AdamSmallIdeal.nD Cert.AdamSmallIdeal.τ).loc Cert.AdamSmallIdeal.main_v0_30)) (v31 : (c : Dev Cert.AdamSmallIdeal.nD) → Buf (Elt Ideal) ((c.tc : Thread Cert.AdamSmallIdeal.nD Cert.AdamSmallIdeal.τ).loc Cert.AdamSmallIdeal.main_v0_31)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_v0_21) = v21 c
          ∧ r.2.mem ((c.tc : Thread Cert.AdamSmallIdeal.nD Cert.AdamSmallIdeal.τ).loc Cert.AdamSmallIdeal.main_v0_22) = v22 c
          ∧ r.2.mem ((c.tc : Thread Cert.AdamSmallIdeal.nD Cert.AdamSmallIdeal.τ).loc Cert.AdamSmallIdeal.main_v0_23) = v23 c
          ∧ r.2.mem ((c.tc : Thread Cert.AdamSmallIdeal.nD Cert.AdamSmallIdeal.τ).loc Cert.AdamSmallIdeal.main_v0_24) = v24 c
          ∧ r.2.mem ((c.tc : Thread Cert.AdamSmallIdeal.nD Cert.AdamSmallIdeal.τ).loc Cert.AdamSmallIdeal.main_v0_25) = v25 c
          ∧ r.2.mem ((c.tc : Thread Cert.AdamSmallIdeal.nD Cert.AdamSmallIdeal.τ).loc Cert.AdamSmallIdeal.main_v0_26) = v26 c
          ∧ r.2.mem ((c.tc : Thread Cert.AdamSmallIdeal.nD Cert.AdamSmallIdeal.τ).loc Cert.AdamSmallIdeal.main_v0_27) = v27 c
          ∧ r.2.mem ((c.tc : Thread Cert.AdamSmallIdeal.nD Cert.AdamSmallIdeal.τ).loc Cert.AdamSmallIdeal.main_v0_28) = v28 c
          ∧ r.2.mem ((c.tc : Thread Cert.AdamSmallIdeal.nD Cert.AdamSmallIdeal.τ).loc Cert.AdamSmallIdeal.main_v0_29) = v29 c
          ∧ r.2.mem ((c.tc : Thread Cert.AdamSmallIdeal.nD Cert.AdamSmallIdeal.τ).loc Cert.AdamSmallIdeal.main_v0_30) = v30 c
          ∧ r.2.mem ((c.tc : Thread Cert.AdamSmallIdeal.nD Cert.AdamSmallIdeal.τ).loc Cert.AdamSmallIdeal.main_v0_31) = v31 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v2) = v1 c
          ∧ r.2.mem ((c.tc : Thread Cert.AdamSmallReferenceIdeal.nD Cert.AdamSmallReferenceIdeal.τ).loc Cert.AdamSmallReferenceIdeal.main_v4) = v2 c
          ∧ r.2.mem ((c.tc : Thread Cert.AdamSmallReferenceIdeal.nD Cert.AdamSmallReferenceIdeal.τ).loc Cert.AdamSmallReferenceIdeal.main_v6) = v3 c
          ∧ r.2.mem ((c.tc : Thread Cert.AdamSmallReferenceIdeal.nD Cert.AdamSmallReferenceIdeal.τ).loc Cert.AdamSmallReferenceIdeal.main_v8) = v4 c
          ∧ r.2.mem ((c.tc : Thread Cert.AdamSmallReferenceIdeal.nD Cert.AdamSmallReferenceIdeal.τ).loc Cert.AdamSmallReferenceIdeal.main_v10) = v5 c
          ∧ r.2.mem ((c.tc : Thread Cert.AdamSmallReferenceIdeal.nD Cert.AdamSmallReferenceIdeal.τ).loc Cert.AdamSmallReferenceIdeal.main_v12) = v6 c
          ∧ r.2.mem ((c.tc : Thread Cert.AdamSmallReferenceIdeal.nD Cert.AdamSmallReferenceIdeal.τ).loc Cert.AdamSmallReferenceIdeal.main_v36) = v7 c
          ∧ r.2.mem ((c.tc : Thread Cert.AdamSmallReferenceIdeal.nD Cert.AdamSmallReferenceIdeal.τ).loc Cert.AdamSmallReferenceIdeal.main_v60) = v8 c
          ∧ r.2.mem ((c.tc : Thread Cert.AdamSmallReferenceIdeal.nD Cert.AdamSmallReferenceIdeal.τ).loc Cert.AdamSmallReferenceIdeal.main_v84) = v9 c
          ∧ r.2.mem ((c.tc : Thread Cert.AdamSmallReferenceIdeal.nD Cert.AdamSmallReferenceIdeal.τ).loc Cert.AdamSmallReferenceIdeal.main_v108) = v10 c
          ∧ r.2.mem ((c.tc : Thread Cert.AdamSmallReferenceIdeal.nD Cert.AdamSmallReferenceIdeal.τ).loc Cert.AdamSmallReferenceIdeal.main_v132) = v11 c
          ∧ r.2.mem ((c.tc : Thread Cert.AdamSmallReferenceIdeal.nD Cert.AdamSmallReferenceIdeal.τ).loc Cert.AdamSmallReferenceIdeal.main_v156) = v12 c
          ∧ r.2.mem ((c.tc : Thread Cert.AdamSmallReferenceIdeal.nD Cert.AdamSmallReferenceIdeal.τ).loc Cert.AdamSmallReferenceIdeal.main_v180) = v13 c
          ∧ r.2.mem ((c.tc : Thread Cert.AdamSmallReferenceIdeal.nD Cert.AdamSmallReferenceIdeal.τ).loc Cert.AdamSmallReferenceIdeal.main_v204) = v14 c
          ∧ r.2.mem ((c.tc : Thread Cert.AdamSmallReferenceIdeal.nD Cert.AdamSmallReferenceIdeal.τ).loc Cert.AdamSmallReferenceIdeal.main_v17) = v15 c
          ∧ r.2.mem ((c.tc : Thread Cert.AdamSmallReferenceIdeal.nD Cert.AdamSmallReferenceIdeal.τ).loc Cert.AdamSmallReferenceIdeal.main_v41) = v16 c
          ∧ r.2.mem ((c.tc : Thread Cert.AdamSmallReferenceIdeal.nD Cert.AdamSmallReferenceIdeal.τ).loc Cert.AdamSmallReferenceIdeal.main_v65) = v17 c
          ∧ r.2.mem ((c.tc : Thread Cert.AdamSmallReferenceIdeal.nD Cert.AdamSmallReferenceIdeal.τ).loc Cert.AdamSmallReferenceIdeal.main_v89) = v18 c
          ∧ r.2.mem ((c.tc : Thread Cert.AdamSmallReferenceIdeal.nD Cert.AdamSmallReferenceIdeal.τ).loc Cert.AdamSmallReferenceIdeal.main_v113) = v19 c
          ∧ r.2.mem ((c.tc : Thread Cert.AdamSmallReferenceIdeal.nD Cert.AdamSmallReferenceIdeal.τ).loc Cert.AdamSmallReferenceIdeal.main_v137) = v20 c
          ∧ r.2.mem ((c.tc : Thread Cert.AdamSmallReferenceIdeal.nD Cert.AdamSmallReferenceIdeal.τ).loc Cert.AdamSmallReferenceIdeal.main_v161) = v21 c
          ∧ r.2.mem ((c.tc : Thread Cert.AdamSmallReferenceIdeal.nD Cert.AdamSmallReferenceIdeal.τ).loc Cert.AdamSmallReferenceIdeal.main_v185) = v22 c
          ∧ r.2.mem ((c.tc : Thread Cert.AdamSmallReferenceIdeal.nD Cert.AdamSmallReferenceIdeal.τ).loc Cert.AdamSmallReferenceIdeal.main_v23) = v23 c
          ∧ r.2.mem ((c.tc : Thread Cert.AdamSmallReferenceIdeal.nD Cert.AdamSmallReferenceIdeal.τ).loc Cert.AdamSmallReferenceIdeal.main_v47) = v24 c
          ∧ r.2.mem ((c.tc : Thread Cert.AdamSmallReferenceIdeal.nD Cert.AdamSmallReferenceIdeal.τ).loc Cert.AdamSmallReferenceIdeal.main_v71) = v25 c
          ∧ r.2.mem ((c.tc : Thread Cert.AdamSmallReferenceIdeal.nD Cert.AdamSmallReferenceIdeal.τ).loc Cert.AdamSmallReferenceIdeal.main_v95) = v26 c
          ∧ r.2.mem ((c.tc : Thread Cert.AdamSmallReferenceIdeal.nD Cert.AdamSmallReferenceIdeal.τ).loc Cert.AdamSmallReferenceIdeal.main_v119) = v27 c
          ∧ r.2.mem ((c.tc : Thread Cert.AdamSmallReferenceIdeal.nD Cert.AdamSmallReferenceIdeal.τ).loc Cert.AdamSmallReferenceIdeal.main_v143) = v28 c
          ∧ r.2.mem ((c.tc : Thread Cert.AdamSmallReferenceIdeal.nD Cert.AdamSmallReferenceIdeal.τ).loc Cert.AdamSmallReferenceIdeal.main_v167) = v29 c
          ∧ r.2.mem ((c.tc : Thread Cert.AdamSmallReferenceIdeal.nD Cert.AdamSmallReferenceIdeal.τ).loc Cert.AdamSmallReferenceIdeal.main_v191) = v30 c
          ∧ r.2.mem ((c.tc : Thread Cert.AdamSmallReferenceIdeal.nD Cert.AdamSmallReferenceIdeal.τ).loc Cert.AdamSmallReferenceIdeal.main_v205) = v31 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3)
          ∧ r.2.mem ((c.tc : Thread Cert.AdamSmallReferenceIdeal.nD Cert.AdamSmallReferenceIdeal.τ).loc Cert.AdamSmallReferenceIdeal.main_arg4) = m' ((c.tc : Thread Cert.AdamSmallReferenceIdeal.nD Cert.AdamSmallReferenceIdeal.τ).loc Cert.AdamSmallReferenceIdeal.main_arg4)
          ∧ r.2.mem ((c.tc : Thread Cert.AdamSmallReferenceIdeal.nD Cert.AdamSmallReferenceIdeal.τ).loc Cert.AdamSmallReferenceIdeal.main_arg5) = m' ((c.tc : Thread Cert.AdamSmallReferenceIdeal.nD Cert.AdamSmallReferenceIdeal.τ).loc Cert.AdamSmallReferenceIdeal.main_arg5)
          ∧ r.2.mem ((c.tc : Thread Cert.AdamSmallReferenceIdeal.nD Cert.AdamSmallReferenceIdeal.τ).loc Cert.AdamSmallReferenceIdeal.main_arg6) = m' ((c.tc : Thread Cert.AdamSmallReferenceIdeal.nD Cert.AdamSmallReferenceIdeal.τ).loc Cert.AdamSmallReferenceIdeal.main_arg6)
          ∧ r.2.mem ((c.tc : Thread Cert.AdamSmallReferenceIdeal.nD Cert.AdamSmallReferenceIdeal.τ).loc Cert.AdamSmallReferenceIdeal.main_arg7) = m' ((c.tc : Thread Cert.AdamSmallReferenceIdeal.nD Cert.AdamSmallReferenceIdeal.τ).loc Cert.AdamSmallReferenceIdeal.main_arg7)
          ∧ r.2.mem ((c.tc : Thread Cert.AdamSmallReferenceIdeal.nD Cert.AdamSmallReferenceIdeal.τ).loc Cert.AdamSmallReferenceIdeal.main_arg8) = m' ((c.tc : Thread Cert.AdamSmallReferenceIdeal.nD Cert.AdamSmallReferenceIdeal.τ).loc Cert.AdamSmallReferenceIdeal.main_arg8)
          ∧ r.2.mem ((c.tc : Thread Cert.AdamSmallReferenceIdeal.nD Cert.AdamSmallReferenceIdeal.τ).loc Cert.AdamSmallReferenceIdeal.main_arg9) = m' ((c.tc : Thread Cert.AdamSmallReferenceIdeal.nD Cert.AdamSmallReferenceIdeal.τ).loc Cert.AdamSmallReferenceIdeal.main_arg9)
          ∧ r.2.mem ((c.tc : Thread Cert.AdamSmallReferenceIdeal.nD Cert.AdamSmallReferenceIdeal.τ).loc Cert.AdamSmallReferenceIdeal.main_arg10) = m' ((c.tc : Thread Cert.AdamSmallReferenceIdeal.nD Cert.AdamSmallReferenceIdeal.τ).loc Cert.AdamSmallReferenceIdeal.main_arg10)
          ∧ r.2.mem ((c.tc : Thread Cert.AdamSmallReferenceIdeal.nD Cert.AdamSmallReferenceIdeal.τ).loc Cert.AdamSmallReferenceIdeal.main_arg11) = m' ((c.tc : Thread Cert.AdamSmallReferenceIdeal.nD Cert.AdamSmallReferenceIdeal.τ).loc Cert.AdamSmallReferenceIdeal.main_arg11)
          ∧ r.2.mem ((c.tc : Thread Cert.AdamSmallReferenceIdeal.nD Cert.AdamSmallReferenceIdeal.τ).loc Cert.AdamSmallReferenceIdeal.main_arg12) = m' ((c.tc : Thread Cert.AdamSmallReferenceIdeal.nD Cert.AdamSmallReferenceIdeal.τ).loc Cert.AdamSmallReferenceIdeal.main_arg12)
          ∧ r.2.mem ((c.tc : Thread Cert.AdamSmallReferenceIdeal.nD Cert.AdamSmallReferenceIdeal.τ).loc Cert.AdamSmallReferenceIdeal.main_arg13) = m' ((c.tc : Thread Cert.AdamSmallReferenceIdeal.nD Cert.AdamSmallReferenceIdeal.τ).loc Cert.AdamSmallReferenceIdeal.main_arg13)
          ∧ r.2.mem ((c.tc : Thread Cert.AdamSmallReferenceIdeal.nD Cert.AdamSmallReferenceIdeal.τ).loc Cert.AdamSmallReferenceIdeal.main_arg14) = m' ((c.tc : Thread Cert.AdamSmallReferenceIdeal.nD Cert.AdamSmallReferenceIdeal.τ).loc Cert.AdamSmallReferenceIdeal.main_arg14)
          ∧ r.2.mem ((c.tc : Thread Cert.AdamSmallReferenceIdeal.nD Cert.AdamSmallReferenceIdeal.τ).loc Cert.AdamSmallReferenceIdeal.main_arg15) = m' ((c.tc : Thread Cert.AdamSmallReferenceIdeal.nD Cert.AdamSmallReferenceIdeal.τ).loc Cert.AdamSmallReferenceIdeal.main_arg15)
          ∧ r.2.mem ((c.tc : Thread Cert.AdamSmallReferenceIdeal.nD Cert.AdamSmallReferenceIdeal.τ).loc Cert.AdamSmallReferenceIdeal.main_arg16) = m' ((c.tc : Thread Cert.AdamSmallReferenceIdeal.nD Cert.AdamSmallReferenceIdeal.τ).loc Cert.AdamSmallReferenceIdeal.main_arg16)
          ∧ r.2.mem ((c.tc : Thread Cert.AdamSmallReferenceIdeal.nD Cert.AdamSmallReferenceIdeal.τ).loc Cert.AdamSmallReferenceIdeal.main_arg17) = m' ((c.tc : Thread Cert.AdamSmallReferenceIdeal.nD Cert.AdamSmallReferenceIdeal.τ).loc Cert.AdamSmallReferenceIdeal.main_arg17)
          ∧ r.2.mem ((c.tc : Thread Cert.AdamSmallReferenceIdeal.nD Cert.AdamSmallReferenceIdeal.τ).loc Cert.AdamSmallReferenceIdeal.main_arg18) = m' ((c.tc : Thread Cert.AdamSmallReferenceIdeal.nD Cert.AdamSmallReferenceIdeal.τ).loc Cert.AdamSmallReferenceIdeal.main_arg18)
          ∧ r.2.mem ((c.tc : Thread Cert.AdamSmallReferenceIdeal.nD Cert.AdamSmallReferenceIdeal.τ).loc Cert.AdamSmallReferenceIdeal.main_arg19) = m' ((c.tc : Thread Cert.AdamSmallReferenceIdeal.nD Cert.AdamSmallReferenceIdeal.τ).loc Cert.AdamSmallReferenceIdeal.main_arg19)
          ∧ r.2.mem ((c.tc : Thread Cert.AdamSmallReferenceIdeal.nD Cert.AdamSmallReferenceIdeal.τ).loc Cert.AdamSmallReferenceIdeal.main_arg20) = m' ((c.tc : Thread Cert.AdamSmallReferenceIdeal.nD Cert.AdamSmallReferenceIdeal.τ).loc Cert.AdamSmallReferenceIdeal.main_arg20)
          ∧ r.2.mem ((c.tc : Thread Cert.AdamSmallReferenceIdeal.nD Cert.AdamSmallReferenceIdeal.τ).loc Cert.AdamSmallReferenceIdeal.main_arg21) = m' ((c.tc : Thread Cert.AdamSmallReferenceIdeal.nD Cert.AdamSmallReferenceIdeal.τ).loc Cert.AdamSmallReferenceIdeal.main_arg21)
          ∧ r.2.mem ((c.tc : Thread Cert.AdamSmallReferenceIdeal.nD Cert.AdamSmallReferenceIdeal.τ).loc Cert.AdamSmallReferenceIdeal.main_arg22) = m' ((c.tc : Thread Cert.AdamSmallReferenceIdeal.nD Cert.AdamSmallReferenceIdeal.τ).loc Cert.AdamSmallReferenceIdeal.main_arg22)
          ∧ r.2.mem ((c.tc : Thread Cert.AdamSmallReferenceIdeal.nD Cert.AdamSmallReferenceIdeal.τ).loc Cert.AdamSmallReferenceIdeal.main_arg23) = m' ((c.tc : Thread Cert.AdamSmallReferenceIdeal.nD Cert.AdamSmallReferenceIdeal.τ).loc Cert.AdamSmallReferenceIdeal.main_arg23)
          ∧ r.2.mem ((c.tc : Thread Cert.AdamSmallReferenceIdeal.nD Cert.AdamSmallReferenceIdeal.τ).loc Cert.AdamSmallReferenceIdeal.main_arg24) = m' ((c.tc : Thread Cert.AdamSmallReferenceIdeal.nD Cert.AdamSmallReferenceIdeal.τ).loc Cert.AdamSmallReferenceIdeal.main_arg24)
          ∧ r.2.mem ((c.tc : Thread Cert.AdamSmallReferenceIdeal.nD Cert.AdamSmallReferenceIdeal.τ).loc Cert.AdamSmallReferenceIdeal.main_arg25) = m' ((c.tc : Thread Cert.AdamSmallReferenceIdeal.nD Cert.AdamSmallReferenceIdeal.τ).loc Cert.AdamSmallReferenceIdeal.main_arg25))

def Claim : Prop :=
  ∃ (hKernel : Cert.Kernel.Facts) (hKernelIdeal : Cert.KernelIdeal.Facts) (hReferenceIdeal : Cert.ReferenceIdeal.Facts) (hGradDown : Cert.GradDown.Facts) (hGradDownIdeal : Cert.GradDownIdeal.Facts) (hGradDownReferenceIdeal : Cert.GradDownReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hAdamOut : Cert.AdamOut.Facts) (hAdamOutIdeal : Cert.AdamOutIdeal.Facts) (hAdamOutReferenceIdeal : Cert.AdamOutReferenceIdeal.Facts) (hAdamIn : Cert.AdamIn.Facts) (hAdamInIdeal : Cert.AdamInIdeal.Facts) (hAdamInReferenceIdeal : Cert.AdamInReferenceIdeal.Facts) (hAdamSmall : Cert.AdamSmall.Facts) (hAdamSmallIdeal : Cert.AdamSmallIdeal.Facts) (hAdamSmallReferenceIdeal : Cert.AdamSmallReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradDown (hGradDown := hGradDown)
    ∧ quiescent_GradDownIdeal (hGradDownIdeal := hGradDownIdeal)
    ∧ quiescent_GradDownReferenceIdeal (hGradDownReferenceIdeal := hGradDownReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradDown_GradDownIdeal
    ∧ algebraic_GradDownIdeal_GradDownReferenceIdeal (hGradDownIdeal := hGradDownIdeal) (hGradDownReferenceIdeal := hGradDownReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
-- ==== Pre_finite.lean ====
abbrev S4096x1024 : Shape := ⟨2, ![4096, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x2816 : S_.BroadcastsInDim S3x2816 (![] : Fin 0 → Fin S3x2816.rank)
  bcast_S_S1x2816 : S_.BroadcastsInDim S1x2816 (![] : Fin 0 → Fin S1x2816.rank)
  bcast_S_S2816x1024 : S_.BroadcastsInDim S2816x1024 (![] : Fin 0 → Fin S2816x1024.rank)

variable [Facts]

def fn_part1 {F : FTy → Type} [FloatOps F] (main_arg6 : FVec F S2816x1024 .f32) (main_arg7 : FVec F S1x1024 .f32) (main_arg8 : FVec F S1x1024 .f32) (main_arg9 : FVec F S4096x1024 .f32) (main_v2 : IVec S4096x1024 1) (main_v5 : IVec S1x1024 1) (main_v8 : IVec S1x1024 1) (main_v11 : IVec S1024x5632 1) (main_v14 : IVec S3x2816 1) (main_v17 : IVec S1x2816 1) : IVec S4096x1024 1 × IVec S1x1024 1 × IVec S1x1024 1 × IVec S1024x5632 1 × IVec S3x2816 1 × IVec S1x2816 1 × IVec S2816x1024 1 × IVec S1x1024 1 × IVec S1x1024 1 × IVec S4096x1024 1 :=
  let main_v18 : FVec F S2816x1024 .f32 := Host.absf main_arg6
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S4096x1024 .f32 := Host.absf main_arg9
  let main_cst_8 : FVec F S_ .f32 := constant S_ .f32 0x7F800000#32
  let main_v28 : FVec F S4096x1024 .f32 := broadcastInDim S4096x1024 ![] bcast_S_S4096x1024 main_cst_8
  let main_v29 : IVec S4096x1024 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S1x1024 .f32) (main_arg2 : FVec F S1x1024 .f32) (main_arg3 : FVec F S1024x5632 .f32) (main_arg4 : FVec F S3x2816 .f32) (main_arg5 : FVec F S1x2816 .f32) (main_arg6 : FVec F S2816x1024 .f32) (main_arg7 : FVec F S1x1024 .f32) (main_arg8 : FVec F S1x1024 .f32) (main_arg9 : FVec F S4096x1024 .f32) : IVec S4096x1024 1 × IVec S1x1024 1 × IVec S1x1024 1 × IVec S1024x5632 1 × IVec S3x2816 1 × IVec S1x2816 1 × IVec S2816x1024 1 × IVec S1x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S3x2816 .f32 := Host.absf main_arg4
  let main_cst_3 : FVec F S_ .f32 := constant S_ .f32 0x7F800000#32
  let main_v13 : FVec F S3x2816 .f32 := broadcastInDim S3x2816 ![] bcast_S_S3x2816 main_cst_3
  let main_v14 : IVec S3x2816 1 := cmpf .olt main_v12 main_v13
  let main_v15 : FVec F S1x2816 .f32 := Host.absf main_arg5
  let main_cst_4 : FVec F S_ .f32 := constant S_ .f32 0x7F800000#32
  let main_v16 : FVec F S1x2816 .f32 := broadcastInDim S1x2816 ![] bcast_S_S1x2816 main_cst_4
  let main_v17 : IVec S1x2816 1 := cmpf .olt main_v15 main_v16
  fn_part1 (F := F) main_arg6 main_arg7 main_arg8 main_arg9 main_v2 main_v5 main_v8 main_v11 main_v14 main_v17
-- ==== Kernel.lean ====
abbrev S4096x1024 : Shape := ⟨2, ![4096, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S5632x1024 : Shape := ⟨2, ![5632, 1024]⟩
abbrev S4096x5632 : Shape := ⟨2, ![4096, 5632]⟩
abbrev S4096x2816 : Shape := ⟨2, ![4096, 2816]⟩
abbrev S8x128 : Shape := ⟨2, ![8, 128]⟩
abbrev S256x1024 : Shape := ⟨2, ![256, 1024]⟩
abbrev S16x1024 : Shape := ⟨2, ![16, 1024]⟩
abbrev S256x1 : Shape := ⟨2, ![256, 1]⟩
abbrev S256x5632 : Shape := ⟨2, ![256, 5632]⟩
abbrev S256x2816 : Shape := ⟨2, ![256, 2816]⟩
abbrev S22x272x128 : Shape := ⟨3, ![22, 272, 128]⟩
abbrev S22x264x128 : Shape := ⟨3, ![22, 264, 128]⟩
abbrev S22x8x128 : Shape := ⟨3, ![22, 8, 128]⟩
abbrev S272x1024 : Shape := ⟨2, ![272, 1024]⟩
abbrev S272x2816 : Shape := ⟨2, ![272, 2816]⟩
abbrev S272x128 : Shape := ⟨2, ![272, 128]⟩
abbrev S1x272x128 : Shape := ⟨3, ![1, 272, 128]⟩
abbrev S1x256x128 : Shape := ⟨3, ![1, 256, 128]⟩
abbrev S256x128 : Shape := ⟨2, ![256, 128]⟩
abbrev S256 : Shape := ⟨1, ![256]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩
abbrev S2816 : Shape := ⟨1, ![2816]⟩

abbrev nBuf : Space → Nat
  | .hbm => 47
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S3x2816, .f32⟩
  | .hbm, ⟨5, _⟩ => ⟨S1x2816, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S5632x1024, .f32⟩
  | .hbm, ⟨34, _⟩ => ⟨S5632x1024, .bf16⟩
  | .hbm, ⟨35, _⟩ => ⟨S2816x1024, .bf16⟩
  | .hbm, ⟨36, _⟩ => ⟨S4096x1024, .f32⟩
  | .hbm, ⟨37, _⟩ => ⟨S4096x1024, .bf16⟩
  | .hbm, ⟨38, _⟩ => ⟨S4096x5632, .bf16⟩
  | .hbm, ⟨39, _⟩ => ⟨S4096x2816, .bf16⟩
  | .hbm, ⟨40, _⟩ => ⟨S8x128, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x2816, .f32⟩
  | .hbm, ⟨46, _⟩ => ⟨S3x2816, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1, .f32⟩
  | .local _ .vmem, ⟨5, _⟩ => ⟨S256x1, .f32⟩
  | .local _ .vmem, ⟨6, _⟩ => ⟨S1x1024, .f32⟩
  | .local _ .vmem, ⟨7, _⟩ => ⟨S1x1024, .f32⟩
  | .local _ .vmem, ⟨8, _⟩ => ⟨S5632x1024, .bf16⟩
  | .local _ .vmem, ⟨9, _⟩ => ⟨S3x2816, .f32⟩
  | .local _ .vmem, ⟨10, _⟩ => ⟨S1x2816, .f32⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x5632, .bf16⟩
  | .local _ .vmem, ⟨21, _⟩ => ⟨S256x5632, .bf16⟩
  | .local _ .vmem, ⟨22, _⟩ => ⟨S256x2816, .bf16⟩
  | .local _ .vmem, ⟨23, _⟩ => ⟨S256x2816, .bf16⟩
  | .local _ .vmem, ⟨24, _⟩ => ⟨S8x128, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x2816, .f32⟩
  | .local _ .vmem, ⟨30, _⟩ => ⟨S3x2816, .f32⟩
  | .local _ .vmem, ⟨31, _⟩ => ⟨S22x272x128, .f32⟩
  | .local _ .vmem, ⟨32, _⟩ => ⟨S256x2816, .f32⟩
  | .local _ .vmem, ⟨33, _⟩ => ⟨S22x264x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v21_3 : Ref sig .tc := ⟨.hbm, 39, rfl⟩
abbrev main_v21_4 : Ref sig .tc := ⟨.hbm, 40, rfl⟩
abbrev main_v21_5 : Ref sig .tc := ⟨.hbm, 41, rfl⟩
abbrev main_v21_6 : Ref sig .tc := ⟨.hbm, 42, rfl⟩
abbrev main_v21_7 : Ref sig .tc := ⟨.hbm, 43, rfl⟩
abbrev main_v21_8 : Ref sig .tc := ⟨.hbm, 44, rfl⟩
abbrev main_v21_9 : Ref sig .tc := ⟨.hbm, 45, rfl⟩
abbrev main_v21_10 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x2816 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S3x2816 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ReferenceIdeal.lean ====
abbrev S4096x1024 : Shape := ⟨2, ![4096, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S2x2816 : Shape := ⟨2, ![2, 2816]⟩
abbrev S4098x2816 : Shape := ⟨2, ![4098, 2816]⟩
abbrev S1024 : Shape := ⟨1, ![1024]⟩
abbrev S2816 : Shape := ⟨1, ![2816]⟩
abbrev S8x128 : Shape := ⟨2, ![8, 128]⟩

abbrev nBuf : Space → Nat
  | .hbm => 287
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1024x5632, .f32⟩
  | 4 => ⟨S3x2816, .f32⟩
  | 5 => ⟨S1x2816, .f32⟩
  | 6 => ⟨S2816x1024, .f32⟩
  | 7 => ⟨S1x1024, .f32⟩
  | 8 => ⟨S1x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S_, .f32⟩
  | 31 => ⟨S4096x1, .f32⟩
  | 32 => ⟨S4096x1, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x5632, .f32⟩
  | 45 => ⟨S4096x2816, .f32⟩
  | 46 => ⟨S4096x2816, .f32⟩
  | 47 => ⟨S_, .f32⟩
  | 48 => ⟨S2x2816, .f32⟩
  | 49 => ⟨S4098x2816, .f32⟩
  | 50 => ⟨S_, .f32⟩
  | 51 => ⟨S2x2816, .f32⟩
  | 52 => ⟨S4096x2816, .f32⟩
  | 53 => ⟨S1x2816, .f32⟩
  | 54 => ⟨S4096x2816, .f32⟩
  | 55 => ⟨S4096x2816, .f32⟩
  | 56 => ⟨S_, .f32⟩
  | 57 => ⟨S4096x2816, .f32⟩
  | 58 => ⟨S4096x2816, .f32⟩
  | 59 => ⟨S4096x2816, .f32⟩
  | 60 => ⟨S1x2816, .f32⟩
  | 61 => ⟨S4096x2816, .f32⟩
  | 62 => ⟨S4096x2816, .f32⟩
  | 63 => ⟨S4096x2816, .f32⟩
  | 64 => ⟨S4096x2816, .f32⟩
  | 65 => ⟨S1x2816, .f32⟩
  | 66 => ⟨S4096x2816, .f32⟩
  | 67 => ⟨S4096x2816, .f32⟩
  | 68 => ⟨S4096x2816, .f32⟩
  | 69 => ⟨S4096x2816, .f32⟩
  | 70 => ⟨S4096x2816, .f32⟩
  | 71 => ⟨S4096x2816, .f32⟩
  | 72 => ⟨S4096x2816, .f32⟩
  | 73 => ⟨S_, .f32⟩
  | 74 => ⟨S4096x2816, .f32⟩
  | 75 => ⟨S4096x2816, .f32⟩
  | 76 => ⟨S_, .f32⟩
  | 77 => ⟨S4096x2816, .f32⟩
  | 78 => ⟨S4096x2816, .f32⟩
  | 79 => ⟨S_, .f32⟩
  | 80 => ⟨S4096x2816, .f32⟩
  | 81 => ⟨S4096x2816, .f32⟩
  | 82 => ⟨S4096x2816, .f32⟩
  | 83 => ⟨S4096x2816, .f32⟩
  | 84 => ⟨S4096x2816, .f32⟩
  | 85 => ⟨S_, .f32⟩
  | 86 => ⟨S4096x1024, .f32⟩
  | 87 => ⟨S4096x1024, .f32⟩
  | 88 => ⟨S4096x1024, .f32⟩
  | 89 => ⟨S4096x1024, .f32⟩
  | 90 => ⟨S_, .f32⟩
  | 91 => ⟨S4096, .f32⟩
  | 92 => ⟨S4096x1, .f32⟩
  | 93 => ⟨S_, .f32⟩
  | 94 => ⟨S4096x1, .f32⟩
  | 95 => ⟨S4096x1, .f32⟩
  | 96 => ⟨S4096x1024, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S_, .f32⟩
  | 103 => ⟨S4096, .f32⟩
  | 104 => ⟨S4096x1, .f32⟩
  | 105 => ⟨S_, .f32⟩
  | 106 => ⟨S4096x1, .f32⟩
  | 107 => ⟨S4096x1, .f32⟩
  | 108 => ⟨S4096x1024, .f32⟩
  | 109 => ⟨S4096x1024, .f32⟩
  | 110 => ⟨S_, .f32⟩
  | 111 => ⟨S4096x1, .f32⟩
  | 112 => ⟨S4096x1, .f32⟩
  | 113 => ⟨S4096x1, .f32⟩
  | 114 => ⟨S4096x1, .f32⟩
  | 115 => ⟨S_, .f32⟩
  | 116 => ⟨S4096x1, .f32⟩
  | 117 => ⟨S4096x1, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S_, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S4096, .f32⟩
  | 3 => ⟨S_, .f32⟩
  | 4 => ⟨S4096, .f32⟩
  | 5 => ⟨S4096, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S4096, .f32⟩
  | 14 => ⟨S_, .f32⟩
  | 15 => ⟨S4096, .f32⟩
  | 16 => ⟨S4096, .f32⟩
  | 17 => ⟨S4096x1024, .f32⟩
  | 18 => ⟨S4096x1024, .f32⟩
  | 19 => ⟨S_, .f32⟩
  | 20 => ⟨S1024, .f32⟩
  | 21 => ⟨S1x1024, .f32⟩
  | 22 => ⟨S4096x1024, .f32⟩
  | 23 => ⟨S_, .f32⟩
  | 24 => ⟨S1024, .f32⟩
  | 25 => ⟨S1x1024, .f32⟩
  | 26 => ⟨S4096x1024, .f32⟩
  | 27 => ⟨S4096x1024, .f32⟩
  | 28 => ⟨S4096x1024, .f32⟩
  | 29 => ⟨S_, .f32⟩
  | 30 => ⟨S4096, .f32⟩
  | 31 => ⟨S4096x1, .f32⟩
  | 32 => ⟨S4096x1024, .f32⟩
  | 33 => ⟨S4096x1024, .f32⟩
  | 34 => ⟨S4096x1, .f32⟩
  | 35 => ⟨S4096x1024, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096, .f32⟩
  | 44 => ⟨S4096x1024, .f32⟩
  | 45 => ⟨S4096x1024, .f32⟩
  | 46 => ⟨S4096x1024, .f32⟩
  | 47 => ⟨S_, .f32⟩
  | 48 => ⟨S4096, .f32⟩
  | 49 => ⟨S4096x1, .f32⟩
  | 50 => ⟨S4096x1024, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096, .f32⟩
  | 57 => ⟨S4096x1024, .f32⟩
  | 58 => ⟨S4096x1024, .f32⟩
  | 59 => ⟨S4096x2816, .f32⟩
  | 60 => ⟨S_, .f32⟩
  | 61 => ⟨S4096x1024, .f32⟩
  | 62 => ⟨S4096x1024, .f32⟩
  | 63 => ⟨S4096x2816, .f32⟩
  | 64 => ⟨S4096x2816, .f32⟩
  | 65 => ⟨S4096x2816, .f32⟩
  | 66 => ⟨S4096x2816, .f32⟩
  | 67 => ⟨S4096x2816, .f32⟩
  | 68 => ⟨S4096x2816, .f32⟩
  | 69 => ⟨S_, .f32⟩
  | 70 => ⟨S2816, .f32⟩
  | 71 => ⟨S1x2816, .f32⟩
  | 72 => ⟨S4096x2816, .f32⟩
  | 73 => ⟨S_, .f32⟩
  | 74 => ⟨S2816, .f32⟩
  | 75 => ⟨S1x2816, .f32⟩
  | 76 => ⟨S4096x2816, .f32⟩
  | 77 => ⟨S4096x2816, .f32⟩
  | 78 => ⟨S_, .f32⟩
  | 79 => ⟨S3x2816, .f32⟩
  | 80 => ⟨S_, .f32⟩
  | 81 => ⟨S4098x2816, .f32⟩
  | 82 => ⟨S4096x2816, .f32⟩
  | 83 => ⟨S_, .f32⟩
  | 84 => ⟨S2816, .f32⟩
  | 85 => ⟨S1x2816, .f32⟩
  | 86 => ⟨S4096x2816, .f32⟩
  | 87 => ⟨S4096x2816, .f32⟩
  | 88 => ⟨S_, .f32⟩
  | 89 => ⟨S3x2816, .f32⟩
  | 90 => ⟨S3x2816, .f32⟩
  | 91 => ⟨S_, .f32⟩
  | 92 => ⟨S4098x2816, .f32⟩
  | 93 => ⟨S4098x2816, .f32⟩
  | 94 => ⟨S4096x2816, .f32⟩
  | 95 => ⟨S_, .f32⟩
  | 96 => ⟨S2816, .f32⟩
  | 97 => ⟨S1x2816, .f32⟩
  | 98 => ⟨S4096x2816, .f32⟩
  | 99 => ⟨S4096x2816, .f32⟩
  | 100 => ⟨S_, .f32⟩
  | 101 => ⟨S3x2816, .f32⟩
  | 102 => ⟨S3x2816, .f32⟩
  | 103 => ⟨S_, .f32⟩
  | 104 => ⟨S4098x2816, .f32⟩
  | 105 => ⟨S4098x2816, .f32⟩
  | 106 => ⟨S2x2816, .f32⟩
  | 107 => ⟨S4096x2816, .f32⟩
  | 108 => ⟨S_, .f32⟩
  | 109 => ⟨S4096x5632, .f32⟩
  | 110 => ⟨S_, .f32⟩
  | 111 => ⟨S4096x5632, .f32⟩
  | 112 => ⟨S4096x5632, .f32⟩
  | 113 => ⟨S4096x1024, .f32⟩
  | 114 => ⟨S4096x1024, .f32⟩
  | 115 => ⟨S_, .f32⟩
  | 116 => ⟨S1024, .f32⟩
  | 117 => ⟨S1x1024, .f32⟩
  | 118 => ⟨S4096x1024, .f32⟩
  | 119 => ⟨S_, .f32⟩
  | 120 => ⟨S1024, .f32⟩
  | 121 => ⟨S1x1024, .f32⟩
  | 122 => ⟨S4096x1024, .f32⟩
  | 123 => ⟨S4096x1024, .f32⟩
  | 124 => ⟨S4096x1024, .f32⟩
  | 125 => ⟨S_, .f32⟩
  | 126 => ⟨S4096, .f32⟩
  | 127 => ⟨S4096x1, .f32⟩
  | _ => ⟨S4096x1024, .f32⟩

abbrev hbmTy0_2 (i : Nat) : BufTy := match i % 128 with
  | 0 => ⟨S4096x1024, .f32⟩
  | 1 => ⟨S4096x1024, .f32⟩
  | 2 => ⟨S4096x1, .f32⟩
  | 3 => ⟨S4096x1024, .f32⟩
  | 4 => ⟨S_, .f32⟩
  | 5 => ⟨S4096, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S4096x1024, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096, .f32⟩
  | 25 => ⟨S4096x1024, .f32⟩
  | 26 => ⟨S4096x1024, .f32⟩
  | 27 => ⟨S4096x1024, .bf16⟩
  | 28 => ⟨S4096x5632, .bf16⟩
  | 29 => ⟨S4096x2816, .bf16⟩
  | 30 => ⟨S8x128, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_v51_2 : Ref sig .tc := ⟨.hbm, 78, rfl⟩
abbrev main_call0_cst_1 : Ref sig .tc := ⟨.hbm, 79, rfl⟩
abbrev main_call0_v6 : Ref sig .tc := ⟨.hbm, 80, rfl⟩
abbrev main_call0_v7 : Ref sig .tc := ⟨.hbm, 81, rfl⟩
abbrev main_v51_1 : Ref sig .tc := ⟨.hbm, 82, rfl⟩
abbrev main_v51_0 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_12 : Ref sig .tc := ⟨.hbm, 99, rfl⟩
abbrev main_v64 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_v67 : Ref sig .tc := ⟨.hbm, 104, rfl⟩
abbrev main_cst_14 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_15 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_16 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_17 : Ref sig .tc := ⟨.hbm, 126, rfl⟩
abbrev main_v86 : Ref sig .tc := ⟨.hbm, 127, rfl⟩
abbrev main_v87 : Ref sig .tc := ⟨.hbm, 128, rfl⟩
abbrev main_cst_18 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_v90 : Ref sig .tc := ⟨.hbm, 133, rfl⟩
abbrev main_cst_20 : Ref sig .tc := ⟨.hbm, 134, rfl⟩
abbrev main_v91 : Ref sig .tc := ⟨.hbm, 135, rfl⟩
abbrev main_cst_21 : Ref sig .tc := ⟨.hbm, 136, rfl⟩
abbrev main_v92 : Ref sig .tc := ⟨.hbm, 137, rfl⟩
abbrev main_cst_22 : Ref sig .tc := ⟨.hbm, 138, rfl⟩
abbrev main_cst_23 : Ref sig .tc := ⟨.hbm, 139, rfl⟩
abbrev main_v93 : Ref sig .tc := ⟨.hbm, 140, rfl⟩
abbrev main_v94 : Ref sig .tc := ⟨.hbm, 141, rfl⟩
abbrev main_cst_24 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_25 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_26 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_27 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_28 : Ref sig .tc := ⟨.hbm, 164, rfl⟩
abbrev main_v113 : Ref sig .tc := ⟨.hbm, 165, rfl⟩
abbrev main_v114 : Ref sig .tc := ⟨.hbm, 166, rfl⟩
abbrev main_cst_29 : Ref sig .tc := ⟨.hbm, 167, rfl⟩
abbrev main_v115 : Ref sig .tc := ⟨.hbm, 168, rfl⟩
abbrev main_v116 : Ref sig .tc := ⟨.hbm, 169, rfl⟩
abbrev main_cst_30 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_31 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_32 : Ref sig .tc := ⟨.hbm, 180, rfl⟩
abbrev main_v125 : Ref sig .tc := ⟨.hbm, 181, rfl⟩
abbrev main_v126 : Ref sig .tc := ⟨.hbm, 182, rfl⟩
abbrev main_cst_33 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_cst_34 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_call1_v0 : Ref sig .tc := ⟨.hbm, 193, rfl⟩
abbrev main_call1_v1 : Ref sig .tc := ⟨.hbm, 194, rfl⟩
abbrev main_call1_v2 : Ref sig .tc := ⟨.hbm, 195, rfl⟩
abbrev main_v135 : Ref sig .tc := ⟨.hbm, 196, rfl⟩
abbrev main_cst_35 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_cst_36 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_37 : Ref sig .tc := ⟨.hbm, 206, rfl⟩
abbrev main_v143 : Ref sig .tc := ⟨.hbm, 207, rfl⟩
abbrev main_cst_38 : Ref sig .tc := ⟨.hbm, 208, rfl⟩
abbrev main_v144 : Ref sig .tc := ⟨.hbm, 209, rfl⟩
abbrev main_v145 : Ref sig .tc := ⟨.hbm, 210, rfl⟩
abbrev main_cst_39 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_cst_40 : Ref sig .tc := ⟨.hbm, 216, rfl⟩
abbrev main_v150 : Ref sig .tc := ⟨.hbm, 217, rfl⟩
abbrev main_v151 : Ref sig .tc := ⟨.hbm, 218, rfl⟩
abbrev main_cst_41 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_cst_42 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_cst_43 : Ref sig .tc := ⟨.hbm, 228, rfl⟩
abbrev main_v159 : Ref sig .tc := ⟨.hbm, 229, rfl⟩
abbrev main_v160 : Ref sig .tc := ⟨.hbm, 230, rfl⟩
abbrev main_cst_44 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_cst_45 : Ref sig .tc := ⟨.hbm, 236, rfl⟩
abbrev main_v165 : Ref sig .tc := ⟨.hbm, 237, rfl⟩
abbrev main_cst_46 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_cst_47 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_cst_48 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_cst_49 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_cst_50 : Ref sig .tc := ⟨.hbm, 260, rfl⟩
abbrev main_v184 : Ref sig .tc := ⟨.hbm, 261, rfl⟩
abbrev main_v185 : Ref sig .tc := ⟨.hbm, 262, rfl⟩
abbrev main_cst_51 : Ref sig .tc := ⟨.hbm, 263, rfl⟩
abbrev main_v186 : Ref sig .tc := ⟨.hbm, 264, rfl⟩
abbrev main_v187 : Ref sig .tc := ⟨.hbm, 265, rfl⟩
abbrev main_cst_52 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_cst_53 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_cst_54 : Ref sig .tc := ⟨.hbm, 276, rfl⟩
abbrev main_v196 : Ref sig .tc := ⟨.hbm, 277, rfl⟩
abbrev main_v197 : Ref sig .tc := ⟨.hbm, 278, rfl⟩
abbrev main_cst_55 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩

abbrev nD : Nat := 1
abbrev τ : Topo := Topo.v7x

variable {F : FTy → Type} [FloatOps F]
-- ==== GradDown.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradDownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamUp.lean ====
abbrev S704x1024 : Shape := ⟨2, ![704, 1024]⟩
abbrev S3x704x1024 : Shape := ⟨3, ![3, 704, 1024]⟩
abbrev S8x128 : Shape := ⟨2, ![8, 128]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 10
  | .vmem => 18
  | .smem => 0
  | _ => 0

abbrev bufTy : (tb : Table) → Fin (tcTables nBuf tb) → BufTy
  | .hbm, ⟨0, _⟩ => ⟨S704x1024, .bf16⟩
  | .hbm, ⟨1, _⟩ => ⟨S3x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S8x128, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .local _ .vmem, ⟨0, _⟩ => ⟨S176x1024, .bf16⟩
  | .local _ .vmem, ⟨1, _⟩ => ⟨S176x1024, .bf16⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpReferenceIdeal.lean ====
abbrev S704x1024 : Shape := ⟨2, ![704, 1024]⟩
abbrev S3x704x1024 : Shape := ⟨3, ![3, 704, 1024]⟩
abbrev S8x128 : Shape := ⟨2, ![8, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S704x1024, .bf16⟩
  | .hbm, ⟨1, _⟩ => ⟨S3x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S8x128, .f32⟩
  | .hbm, ⟨6, _⟩ => ⟨S704x1024, .f32⟩
  | .hbm, ⟨7, _⟩ => ⟨S3x704x1024, .f32⟩
  | .hbm, ⟨8, _⟩ => ⟨S_, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S_, .f32⟩
  | .hbm, ⟨42, _⟩ => ⟨S704x1024, .f32⟩
  | .hbm, ⟨43, _⟩ => ⟨S704x1024, .f32⟩
  | _, _ => ⟨S704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== AdamDown.lean ====
abbrev S352x1024 : Shape := ⟨2, ![352, 1024]⟩
abbrev S3x352x1024 : Shape := ⟨3, ![3, 352, 1024]⟩
abbrev S8x128 : Shape := ⟨2, ![8, 128]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 10
  | .vmem => 18
  | .smem => 0
  | _ => 0

abbrev bufTy : (tb : Table) → Fin (tcTables nBuf tb) → BufTy
  | .hbm, ⟨0, _⟩ => ⟨S352x1024, .bf16⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S8x128, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .local _ .vmem, ⟨0, _⟩ => ⟨S176x1024, .bf16⟩
  | .local _ .vmem, ⟨1, _⟩ => ⟨S176x1024, .bf16⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownReferenceIdeal.lean ====
abbrev S352x1024 : Shape := ⟨2, ![352, 1024]⟩
abbrev S3x352x1024 : Shape := ⟨3, ![3, 352, 1024]⟩
abbrev S8x128 : Shape := ⟨2, ![8, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S352x1024, .bf16⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S8x128, .f32⟩
  | .hbm, ⟨6, _⟩ => ⟨S352x1024, .f32⟩
  | .hbm, ⟨7, _⟩ => ⟨S3x352x1024, .f32⟩
  | .hbm, ⟨8, _⟩ => ⟨S_, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | _, _ => ⟨S352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== AdamOut.lean ====
abbrev S128x1024 : Shape := ⟨2, ![128, 1024]⟩
abbrev S3x128x1024 : Shape := ⟨3, ![3, 128, 1024]⟩
abbrev S8x128 : Shape := ⟨2, ![8, 128]⟩
abbrev S64x1024 : Shape := ⟨2, ![64, 1024]⟩
abbrev S3x64x1024 : Shape := ⟨3, ![3, 64, 1024]⟩
abbrev S1x64x1024 : Shape := ⟨3, ![1, 64, 1024]⟩

abbrev nBuf : Space → Nat
  | .hbm => 10
  | .vmem => 18
  | .smem => 0
  | _ => 0

abbrev bufTy : (tb : Table) → Fin (tcTables nBuf tb) → BufTy
  | .hbm, ⟨0, _⟩ => ⟨S128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S8x128, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S64x1024, .bf16⟩
  | .local _ .vmem, ⟨1, _⟩ => ⟨S64x1024, .bf16⟩
  | .local _ .vmem, ⟨2, _⟩ => ⟨S3x64x1024, .bf16⟩
  | .local _ .vmem, ⟨3, _⟩ => ⟨S3x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutReferenceIdeal.lean ====
abbrev S128x1024 : Shape := ⟨2, ![128, 1024]⟩
abbrev S3x128x1024 : Shape := ⟨3, ![3, 128, 1024]⟩
abbrev S8x128 : Shape := ⟨2, ![8, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S8x128, .f32⟩
  | .hbm, ⟨6, _⟩ => ⟨S128x1024, .f32⟩
  | .hbm, ⟨7, _⟩ => ⟨S3x128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== AdamIn.lean ====
abbrev S320x1024 : Shape := ⟨2, ![320, 1024]⟩
abbrev S3x320x1024 : Shape := ⟨3, ![3, 320, 1024]⟩
abbrev S80x1024 : Shape := ⟨2, ![80, 1024]⟩
abbrev S3x80x1024 : Shape := ⟨3, ![3, 80, 1024]⟩
abbrev S1x80x1024 : Shape := ⟨3, ![1, 80, 1024]⟩

abbrev nBuf : Space → Nat
  | .hbm => 9
  | .vmem => 18
  | .smem => 0
  | _ => 0

abbrev bufTy : (tb : Table) → Fin (tcTables nBuf tb) → BufTy
  | .hbm, ⟨0, _⟩ => ⟨S320x1024, .bf16⟩
  | .hbm, ⟨1, _⟩ => ⟨S3x320x1024, .bf16⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .hbm, ⟨7, _⟩ => ⟨S320x1024, .f32⟩
  | .hbm, ⟨8, _⟩ => ⟨S320x1024, .f32⟩
  | .local _ .vmem, ⟨0, _⟩ => ⟨S80x1024, .bf16⟩
  | .local _ .vmem, ⟨1, _⟩ => ⟨S80x1024, .bf16⟩
  | .local _ .vmem, ⟨2, _⟩ => ⟨S3x80x1024, .bf16⟩
  | .local _ .vmem, ⟨3, _⟩ => ⟨S3x80x1024, .bf16⟩
  | .local _ .vmem, ⟨4, _⟩ => ⟨S80x1024, .f32⟩
  | .local _ .vmem, ⟨5, _⟩ => ⟨S80x1024, .f32⟩
  | .local _ .vmem, ⟨6, _⟩ => ⟨S80x1024, .f32⟩
  | .local _ .vmem, ⟨7, _⟩ => ⟨S80x1024, .f32⟩
  | .local _ .vmem, ⟨8, _⟩ => ⟨S80x1024, .f32⟩
  | .local _ .vmem, ⟨9, _⟩ => ⟨S80x1024, .f32⟩
  | .local _ .vmem, ⟨10, _⟩ => ⟨S80x1024, .f32⟩
  | .local _ .vmem, ⟨11, _⟩ => ⟨S80x1024, .f32⟩
  | .local _ .vmem, ⟨12, _⟩ => ⟨S80x1024, .f32⟩
  | .local _ .vmem, ⟨13, _⟩ => ⟨S80x1024, .f32⟩
  | .local _ .vmem, ⟨14, _⟩ => ⟨S80x1024, .f32⟩
  | .local _ .vmem, ⟨15, _⟩ => ⟨S80x1024, .f32⟩
  | .local _ .vmem, ⟨16, _⟩ => ⟨S80x1024, .f32⟩
  | .local _ .vmem, ⟨17, _⟩ => ⟨S80x1024, .f32⟩
  | _, _ => ⟨S320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x80x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S80x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S80x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInReferenceIdeal.lean ====
abbrev S320x1024 : Shape := ⟨2, ![320, 1024]⟩
abbrev S3x320x1024 : Shape := ⟨3, ![3, 320, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S320x1024, .bf16⟩
  | .hbm, ⟨1, _⟩ => ⟨S3x320x1024, .bf16⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S3x320x1024, .f32⟩
  | .hbm, ⟨7, _⟩ => ⟨S_, .f32⟩
  | .hbm, ⟨8, _⟩ => ⟨S320x1024, .f32⟩
  | .hbm, ⟨9, _⟩ => ⟨S320x1024, .f32⟩
  | .hbm, ⟨10, _⟩ => ⟨S_, .f32⟩
  | .hbm, ⟨11, _⟩ => ⟨S320x1024, .f32⟩
  | .hbm, ⟨12, _⟩ => ⟨S320x1024, .f32⟩
  | .hbm, ⟨13, _⟩ => ⟨S_, .f32⟩
  | .hbm, ⟨14, _⟩ => ⟨S320x1024, .f32⟩
  | .hbm, ⟨15, _⟩ => ⟨S320x1024, .f32⟩
  | .hbm, ⟨16, _⟩ => ⟨S320x1024, .f32⟩
  | .hbm, ⟨17, _⟩ => ⟨S_, .f32⟩
  | .hbm, ⟨18, _⟩ => ⟨S320x1024, .f32⟩
  | .hbm, ⟨19, _⟩ => ⟨S320x1024, .f32⟩
  | .hbm, ⟨20, _⟩ => ⟨S320x1024, .f32⟩
  | .hbm, ⟨21, _⟩ => ⟨S_, .f32⟩
  | .hbm, ⟨22, _⟩ => ⟨S320x1024, .f32⟩
  | .hbm, ⟨23, _⟩ => ⟨S320x1024, .f32⟩
  | .hbm, ⟨24, _⟩ => ⟨S320x1024, .f32⟩
  | .hbm, ⟨25, _⟩ => ⟨S_, .f32⟩
  | .hbm, ⟨26, _⟩ => ⟨S320x1024, .f32⟩
  | .hbm, ⟨27, _⟩ => ⟨S320x1024, .f32⟩
  | .hbm, ⟨28, _⟩ => ⟨S_, .f32⟩
  | .hbm, ⟨29, _⟩ => ⟨S320x1024, .f32⟩
  | .hbm, ⟨30, _⟩ => ⟨S320x1024, .f32⟩
  | .hbm, ⟨31, _⟩ => ⟨S320x1024, .f32⟩
  | .hbm, ⟨32, _⟩ => ⟨S_, .f32⟩
  | .hbm, ⟨33, _⟩ => ⟨S320x1024, .f32⟩
  | .hbm, ⟨34, _⟩ => ⟨S320x1024, .f32⟩
  | .hbm, ⟨35, _⟩ => ⟨S320x1024, .f32⟩
  | .hbm, ⟨36, _⟩ => ⟨S_, .f32⟩
  | .hbm, ⟨37, _⟩ => ⟨S320x1024, .f32⟩
  | .hbm, ⟨38, _⟩ => ⟨S320x1024, .f32⟩
  | .hbm, ⟨39, _⟩ => ⟨S320x1024, .f32⟩
  | .hbm, ⟨40, _⟩ => ⟨S_, .f32⟩
  | .hbm, ⟨41, _⟩ => ⟨S320x1024, .f32⟩
  | .hbm, ⟨42, _⟩ => ⟨S320x1024, .f32⟩
  | _, _ => ⟨S320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamSmall.lean ====
abbrev S704x128 : Shape := ⟨2, ![704, 128]⟩
abbrev S512x128 : Shape := ⟨2, ![512, 128]⟩
abbrev S1x512 : Shape := ⟨2, ![1, 512]⟩
abbrev S1x1024 : Shape := ⟨2, ![1, 1024]⟩
abbrev S3x1x352 : Shape := ⟨3, ![3, 1, 352]⟩
abbrev S1x2816 : Shape := ⟨2, ![1, 2816]⟩
abbrev S1x1 : Shape := ⟨2, ![1, 1]⟩
abbrev S1x128 : Shape := ⟨2, ![1, 128]⟩

abbrev nBuf : Space → Nat
  | .hbm => 58
  | .vmem => 58
  | .smem => 0
  | _ => 0

abbrev bufTy : (tb : Table) → Fin (tcTables nBuf tb) → BufTy
  | .hbm, ⟨0, _⟩ => ⟨S704x128, .f32⟩
  | .hbm, ⟨1, _⟩ => ⟨S512x128, .f32⟩
  | .hbm, ⟨2, _⟩ => ⟨S1x512, .f32⟩
  | .hbm, ⟨3, _⟩ => ⟨S1x1024, .f32⟩
  | .hbm, ⟨4, _⟩ => ⟨S1x1024, .f32⟩
  | .hbm, ⟨5, _⟩ => ⟨S3x1x352, .f32⟩
  | .hbm, ⟨6, _⟩ => ⟨S1x2816, .f32⟩
  | .hbm, ⟨7, _⟩ => ⟨S1x1024, .f32⟩
  | .hbm, ⟨8, _⟩ => ⟨S1x1024, .f32⟩
  | .hbm, ⟨9, _⟩ => ⟨S512x128, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S3x1x352, .f32⟩
  | .hbm, ⟨14, _⟩ => ⟨S1x2816, .f32⟩
  | .hbm, ⟨15, _⟩ => ⟨S1x1024, .f32⟩
  | .hbm, ⟨16, _⟩ => ⟨S1x1024, .f32⟩
  | .hbm, ⟨17, _⟩ => ⟨S512x128, .f32⟩
  | .hbm, ⟨18, _⟩ => ⟨S1x512, .f32⟩
  | .hbm, ⟨19, _⟩ => ⟨S1x1024, .f32⟩
  | .hbm, ⟨20, _⟩ => ⟨S1x1024, .f32⟩
  | .hbm, ⟨21, _⟩ => ⟨S3x1x352, .f32⟩
  | .hbm, ⟨22, _⟩ => ⟨S1x2816, .f32⟩
  | .hbm, ⟨23, _⟩ => ⟨S1x1024, .f32⟩
  | .hbm, ⟨24, _⟩ => ⟨S1x1024, .f32⟩
  | .hbm, ⟨25, _⟩ => ⟨S3x1x352, .f32⟩
  | .hbm, ⟨26, _⟩ => ⟨S512x128, .f32⟩
  | .hbm, ⟨27, _⟩ => ⟨S1x512, .f32⟩
  | .hbm, ⟨28, _⟩ => ⟨S1x1024, .f32⟩
  | .hbm, ⟨29, _⟩ => ⟨S1x1024, .f32⟩
  | .hbm, ⟨30, _⟩ => ⟨S1x2816, .f32⟩
  | .hbm, ⟨31, _⟩ => ⟨S1x1024, .f32⟩
  | .hbm, ⟨32, _⟩ => ⟨S1x1024, .f32⟩
  | .hbm, ⟨33, _⟩ => ⟨S512x128, .f32⟩
  | .hbm, ⟨34, _⟩ => ⟨S1x512, .f32⟩
  | .hbm, ⟨35, _⟩ => ⟨S1x1024, .f32⟩
  | .hbm, ⟨36, _⟩ => ⟨S1x1024, .f32⟩
  | .hbm, ⟨37, _⟩ => ⟨S3x1x352, .f32⟩
  | .hbm, ⟨38, _⟩ => ⟨S1x2816, .f32⟩
  | .hbm, ⟨39, _⟩ => ⟨S1x1024, .f32⟩
  | .hbm, ⟨40, _⟩ => ⟨S1x1024, .f32⟩
  | .hbm, ⟨41, _⟩ => ⟨S512x128, .f32⟩
  | .hbm, ⟨42, _⟩ => ⟨S1x512, .f32⟩
  | .hbm, ⟨43, _⟩ => ⟨S1x1024, .f32⟩
  | .hbm, ⟨44, _⟩ => ⟨S1x1024, .f32⟩
  | .hbm, ⟨45, _⟩ => ⟨S3x1x352, .f32⟩
  | .hbm, ⟨46, _⟩ => ⟨S1x2816, .f32⟩
  | .hbm, ⟨47, _⟩ => ⟨S1x1024, .f32⟩
  | .hbm, ⟨48, _⟩ => ⟨S1x1024, .f32⟩
  | .hbm, ⟨49, _⟩ => ⟨S512x128, .f32⟩
  | .hbm, ⟨50, _⟩ => ⟨S1x512, .f32⟩
  | .hbm, ⟨51, _⟩ => ⟨S1x1024, .f32⟩
  | .hbm, ⟨52, _⟩ => ⟨S1x1024, .f32⟩
  | .hbm, ⟨53, _⟩ => ⟨S3x1x352, .f32⟩
  | .hbm, ⟨54, _⟩ => ⟨S1x2816, .f32⟩
  | .hbm, ⟨55, _⟩ => ⟨S1x1024, .f32⟩
  | .hbm, ⟨56, _⟩ => ⟨S1x1024, .f32⟩
  | .hbm, ⟨57, _⟩ => ⟨S1x1, .f32⟩
  | .local _ .vmem, ⟨0, _⟩ => ⟨S704x128, .f32⟩
  | .local _ .vmem, ⟨1, _⟩ => ⟨S512x128, .f32⟩
  | .local _ .vmem, ⟨2, _⟩ => ⟨S1x512, .f32⟩
  | .local _ .vmem, ⟨3, _⟩ => ⟨S1x1024, .f32⟩
  | .local _ .vmem, ⟨4, _⟩ => ⟨S1x1024, .f32⟩
  | .local _ .vmem, ⟨5, _⟩ => ⟨S3x1x352, .f32⟩
  | .local _ .vmem, ⟨6, _⟩ => ⟨S1x2816, .f32⟩
  | .local _ .vmem, ⟨7, _⟩ => ⟨S1x1024, .f32⟩
  | .local _ .vmem, ⟨8, _⟩ => ⟨S1x1024, .f32⟩
  | .local _ .vmem, ⟨9, _⟩ => ⟨S512x128, .f32⟩
  | .local _ .vmem, ⟨10, _⟩ => ⟨S1x512, .f32⟩
  | .local _ .vmem, ⟨11, _⟩ => ⟨S1x1024, .f32⟩
  | .local _ .vmem, ⟨12, _⟩ => ⟨S1x1024, .f32⟩
  | .local _ .vmem, ⟨13, _⟩ => ⟨S3x1x352, .f32⟩
  | .local _ .vmem, ⟨14, _⟩ => ⟨S1x2816, .f32⟩
  | .local _ .vmem, ⟨15, _⟩ => ⟨S1x1024, .f32⟩
  | .local _ .vmem, ⟨16, _⟩ => ⟨S1x1024, .f32⟩
  | .local _ .vmem, ⟨17, _⟩ => ⟨S512x128, .f32⟩
  | .local _ .vmem, ⟨18, _⟩ => ⟨S1x512, .f32⟩
  | .local _ .vmem, ⟨19, _⟩ => ⟨S1x1024, .f32⟩
  | .local _ .vmem, ⟨20, _⟩ => ⟨S1x1024, .f32⟩
  | .local _ .vmem, ⟨21, _⟩ => ⟨S3x1x352, .f32⟩
  | .local _ .vmem, ⟨22, _⟩ => ⟨S1x2816, .f32⟩
  | .local _ .vmem, ⟨23, _⟩ => ⟨S1x1024, .f32⟩
  | .local _ .vmem, ⟨24, _⟩ => ⟨S1x1024, .f32⟩
  | .local _ .vmem, ⟨25, _⟩ => ⟨S3x1x352, .f32⟩
  | .local _ .vmem, ⟨26, _⟩ => ⟨S512x128, .f32⟩
  | .local _ .vmem, ⟨27, _⟩ => ⟨S1x512, .f32⟩
  | .local _ .vmem, ⟨28, _⟩ => ⟨S1x1024, .f32⟩
  | .local _ .vmem, ⟨29, _⟩ => ⟨S1x1024, .f32⟩
  | .local _ .vmem, ⟨30, _⟩ => ⟨S1x2816, .f32⟩
  | .local _ .vmem, ⟨31, _⟩ => ⟨S1x1024, .f32⟩
  | .local _ .vmem, ⟨32, _⟩ => ⟨S1x1024, .f32⟩
  | .local _ .vmem, ⟨33, _⟩ => ⟨S512x128, .f32⟩
  | .local _ .vmem, ⟨34, _⟩ => ⟨S1x512, .f32⟩
  | .local _ .vmem, ⟨35, _⟩ => ⟨S1x1024, .f32⟩
  | .local _ .vmem, ⟨36, _⟩ => ⟨S1x1024, .f32⟩
  | .local _ .vmem, ⟨37, _⟩ => ⟨S3x1x352, .f32⟩
  | .local _ .vmem, ⟨38, _⟩ => ⟨S1x2816, .f32⟩
  | .local _ .vmem, ⟨39, _⟩ => ⟨S1x1024, .f32⟩
  | .local _ .vmem, ⟨40, _⟩ => ⟨S1x1024, .f32⟩
  | .local _ .vmem, ⟨41, _⟩ => ⟨S512x128, .f32⟩
  | .local _ .vmem, ⟨42, _⟩ => ⟨S1x512, .f32⟩
  | .local _ .vmem, ⟨43, _⟩ => ⟨S1x1024, .f32⟩
  | .local _ .vmem, ⟨44, _⟩ => ⟨S1x1024, .f32⟩
  | .local _ .vmem, ⟨45, _⟩ => ⟨S3x1x352, .f32⟩
  | .local _ .vmem, ⟨46, _⟩ => ⟨S1x2816, .f32⟩
  | .local _ .vmem, ⟨47, _⟩ => ⟨S1x1024, .f32⟩
  | .local _ .vmem, ⟨48, _⟩ => ⟨S1x1024, .f32⟩
  | .local _ .vmem, ⟨49, _⟩ => ⟨S512x128, .f32⟩
  | .local _ .vmem, ⟨50, _⟩ => ⟨S1x512, .f32⟩
  | .local _ .vmem, ⟨51, _⟩ => ⟨S1x1024, .f32⟩
  | .local _ .vmem, ⟨52, _⟩ => ⟨S1x1024, .f32⟩
  | .local _ .vmem, ⟨53, _⟩ => ⟨S3x1x352, .f32⟩
  | .local _ .vmem, ⟨54, _⟩ => ⟨S1x2816, .f32⟩
  | .local _ .vmem, ⟨55, _⟩ => ⟨S1x1024, .f32⟩
  | .local _ .vmem, ⟨56, _⟩ => ⟨S1x1024, .f32⟩
  | .local _ .vmem, ⟨57, _⟩ => ⟨S1x1, .f32⟩
  | _, _ => ⟨S704x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0_0 : Ref sig .tc := ⟨.hbm, 26, rfl⟩
abbrev main_v0_1 : Ref sig .tc := ⟨.hbm, 27, rfl⟩
abbrev main_v0_2 : Ref sig .tc := ⟨.hbm, 28, rfl⟩
abbrev main_v0_3 : Ref sig .tc := ⟨.hbm, 29, rfl⟩
abbrev main_v0_4 : Ref sig .tc := ⟨.hbm, 30, rfl⟩
abbrev main_v0_5 : Ref sig .tc := ⟨.hbm, 31, rfl⟩
abbrev main_v0_6 : Ref sig .tc := ⟨.hbm, 32, rfl⟩
abbrev main_v0_7 : Ref sig .tc := ⟨.hbm, 33, rfl⟩
abbrev main_v0_8 : Ref sig .tc := ⟨.hbm, 34, rfl⟩
abbrev main_v0_9 : Ref sig .tc := ⟨.hbm, 35, rfl⟩
abbrev main_v0_10 : Ref sig .tc := ⟨.hbm, 36, rfl⟩
abbrev main_v0_11 : Ref sig .tc := ⟨.hbm, 37, rfl⟩
abbrev main_v0_12 : Ref sig .tc := ⟨.hbm, 38, rfl⟩
abbrev main_v0_13 : Ref sig .tc := ⟨.hbm, 39, rfl⟩
abbrev main_v0_14 : Ref sig .tc := ⟨.hbm, 40, rfl⟩
abbrev main_v0_15 : Ref sig .tc := ⟨.hbm, 41, rfl⟩
abbrev main_v0_16 : Ref sig .tc := ⟨.hbm, 42, rfl⟩
abbrev main_v0_17 : Ref sig .tc := ⟨.hbm, 43, rfl⟩
abbrev main_v0_18 : Ref sig .tc := ⟨.hbm, 44, rfl⟩
abbrev main_v0_19 : Ref sig .tc := ⟨.hbm, 45, rfl⟩
abbrev main_v0_20 : Ref sig .tc := ⟨.hbm, 46, rfl⟩
abbrev main_v0_21 : Ref sig .tc := ⟨.hbm, 47, rfl⟩
abbrev main_v0_22 : Ref sig .tc := ⟨.hbm, 48, rfl⟩
abbrev main_v0_23 : Ref sig .tc := ⟨.hbm, 49, rfl⟩
abbrev main_v0_24 : Ref sig .tc := ⟨.hbm, 50, rfl⟩
abbrev main_v0_25 : Ref sig .tc := ⟨.hbm, 51, rfl⟩
abbrev main_v0_26 : Ref sig .tc := ⟨.hbm, 52, rfl⟩
abbrev main_v0_27 : Ref sig .tc := ⟨.hbm, 53, rfl⟩
abbrev main_v0_28 : Ref sig .tc := ⟨.hbm, 54, rfl⟩
abbrev main_v0_29 : Ref sig .tc := ⟨.hbm, 55, rfl⟩
abbrev main_v0_30 : Ref sig .tc := ⟨.hbm, 56, rfl⟩
abbrev main_v0_31 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57

abbrev nD : Nat := 1
abbrev τ : Topo := Topo.v7x

variable {F : FTy → Type} [FloatOps F]

abbrev grid0 : Pipeline.Grid := .none

abbrev stage0_0 : Fin 1 → Memref sig .tc .vmem S704x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x1x352 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x1x352 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x2816 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S3x1x352 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S512x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x2816 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S512x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S3x1x352 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x2816 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S512x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x512 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S3x1x352 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x2816 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S512x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x512 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S3x1x352 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x2816 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
-- ==== AdamSmallReferenceIdeal.lean ====
abbrev S704x128 : Shape := ⟨2, ![704, 128]⟩
abbrev S512x128 : Shape := ⟨2, ![512, 128]⟩
abbrev S1x512 : Shape := ⟨2, ![1, 512]⟩
abbrev S1x1024 : Shape := ⟨2, ![1, 1024]⟩
abbrev S3x1x352 : Shape := ⟨3, ![3, 1, 352]⟩
abbrev S1x2816 : Shape := ⟨2, ![1, 2816]⟩
abbrev S4x128 : Shape := ⟨2, ![4, 128]⟩
abbrev S8x128 : Shape := ⟨2, ![8, 128]⟩
abbrev S22x128 : Shape := ⟨2, ![22, 128]⟩
abbrev S_ : Shape := ⟨0, ![]⟩
abbrev S1x1 : Shape := ⟨2, ![1, 1]⟩

abbrev nBuf : Space → Nat
  | .hbm => 304
  | .vmem => 0
  | .smem => 0
  | _ => 0

abbrev hbmTy0_0 (i : Nat) : BufTy := match i % 128 with
  | 0 => ⟨S704x128, .f32⟩
  | 1 => ⟨S512x128, .f32⟩
  | 2 => ⟨S1x512, .f32⟩
  | 3 => ⟨S1x1024, .f32⟩
  | 4 => ⟨S1x1024, .f32⟩
  | 5 => ⟨S3x1x352, .f32⟩
  | 6 => ⟨S1x2816, .f32⟩
  | 7 => ⟨S1x1024, .f32⟩
  | 8 => ⟨S1x1024, .f32⟩
  | 9 => ⟨S512x128, .f32⟩
  | 10 => ⟨S1x512, .f32⟩
  | 11 => ⟨S1x1024, .f32⟩
  | 12 => ⟨S1x1024, .f32⟩
  | 13 => ⟨S3x1x352, .f32⟩
  | 14 => ⟨S1x2816, .f32⟩
  | 15 => ⟨S1x1024, .f32⟩
  | 16 => ⟨S1x1024, .f32⟩
  | 17 => ⟨S512x128, .f32⟩
  | 18 => ⟨S1x512, .f32⟩
  | 19 => ⟨S1x1024, .f32⟩
  | 20 => ⟨S1x1024, .f32⟩
  | 21 => ⟨S3x1x352, .f32⟩
  | 22 => ⟨S1x2816, .f32⟩
  | 23 => ⟨S1x1024, .f32⟩
  | 24 => ⟨S1x1024, .f32⟩
  | 25 => ⟨S3x1x352, .f32⟩
  | 26 => ⟨S512x128, .f32⟩
  | 27 => ⟨S4x128, .f32⟩
  | 28 => ⟨S1x512, .f32⟩
  | 29 => ⟨S8x128, .f32⟩
  | 30 => ⟨S1x1024, .f32⟩
  | 31 => ⟨S8x128, .f32⟩
  | 32 => ⟨S1x1024, .f32⟩
  | 33 => ⟨S22x128, .f32⟩
  | 34 => ⟨S1x2816, .f32⟩
  | 35 => ⟨S8x128, .f32⟩
  | 36 => ⟨S1x1024, .f32⟩
  | 37 => ⟨S8x128, .f32⟩
  | 38 => ⟨S1x1024, .f32⟩
  | 39 => ⟨S_, .f32⟩
  | 40 => ⟨S512x128, .f32⟩
  | 41 => ⟨S512x128, .f32⟩
  | 42 => ⟨S_, .f32⟩
  | 43 => ⟨S512x128, .f32⟩
  | 44 => ⟨S512x128, .f32⟩
  | 45 => ⟨S512x128, .f32⟩
  | 46 => ⟨S_, .f32⟩
  | 47 => ⟨S512x128, .f32⟩
  | 48 => ⟨S512x128, .f32⟩
  | 49 => ⟨S512x128, .f32⟩
  | 50 => ⟨S_, .f32⟩
  | 51 => ⟨S512x128, .f32⟩
  | 52 => ⟨S512x128, .f32⟩
  | 53 => ⟨S512x128, .f32⟩
  | 54 => ⟨S_, .f32⟩
  | 55 => ⟨S512x128, .f32⟩
  | 56 => ⟨S512x128, .f32⟩
  | 57 => ⟨S_, .f32⟩
  | 58 => ⟨S512x128, .f32⟩
  | 59 => ⟨S512x128, .f32⟩
  | 60 => ⟨S512x128, .f32⟩
  | 61 => ⟨S_, .f32⟩
  | 62 => ⟨S512x128, .f32⟩
  | 63 => ⟨S512x128, .f32⟩
  | 64 => ⟨S512x128, .f32⟩
  | 65 => ⟨S_, .f32⟩
  | 66 => ⟨S512x128, .f32⟩
  | 67 => ⟨S512x128, .f32⟩
  | 68 => ⟨S512x128, .f32⟩
  | 69 => ⟨S_, .f32⟩
  | 70 => ⟨S512x128, .f32⟩
  | 71 => ⟨S512x128, .f32⟩
  | 72 => ⟨S_, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S1x512, .f32⟩
  | 83 => ⟨S_, .f32⟩
  | 84 => ⟨S1x512, .f32⟩
  | 85 => ⟨S1x512, .f32⟩
  | 86 => ⟨S1x512, .f32⟩
  | 87 => ⟨S_, .f32⟩
  | 88 => ⟨S1x512, .f32⟩
  | 89 => ⟨S1x512, .f32⟩
  | 90 => ⟨S_, .f32⟩
  | 91 => ⟨S1x512, .f32⟩
  | 92 => ⟨S1x512, .f32⟩
  | 93 => ⟨S1x512, .f32⟩
  | 94 => ⟨S_, .f32⟩
  | 95 => ⟨S1x512, .f32⟩
  | 96 => ⟨S1x512, .f32⟩
  | 97 => ⟨S1x512, .f32⟩
  | 98 => ⟨S_, .f32⟩
  | 99 => ⟨S1x512, .f32⟩
  | 100 => ⟨S1x512, .f32⟩
  | 101 => ⟨S1x512, .f32⟩
  | 102 => ⟨S_, .f32⟩
  | 103 => ⟨S1x512, .f32⟩
  | 104 => ⟨S1x512, .f32⟩
  | 105 => ⟨S_, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S704x128, .f32⟩

abbrev hbmTy0_1 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S_, .f32⟩
  | 44 => ⟨S3x1x352, .f32⟩
  | 45 => ⟨S3x1x352, .f32⟩
  | 46 => ⟨S_, .f32⟩
  | 47 => ⟨S3x1x352, .f32⟩
  | 48 => ⟨S3x1x352, .f32⟩
  | 49 => ⟨S3x1x352, .f32⟩
  | 50 => ⟨S_, .f32⟩
  | 51 => ⟨S3x1x352, .f32⟩
  | 52 => ⟨S3x1x352, .f32⟩
  | 53 => ⟨S3x1x352, .f32⟩
  | 54 => ⟨S_, .f32⟩
  | 55 => ⟨S3x1x352, .f32⟩
  | 56 => ⟨S3x1x352, .f32⟩
  | 57 => ⟨S3x1x352, .f32⟩
  | 58 => ⟨S_, .f32⟩
  | 59 => ⟨S3x1x352, .f32⟩
  | 60 => ⟨S3x1x352, .f32⟩
  | 61 => ⟨S_, .f32⟩
  | 62 => ⟨S3x1x352, .f32⟩
  | 63 => ⟨S3x1x352, .f32⟩
  | 64 => ⟨S3x1x352, .f32⟩
  | 65 => ⟨S_, .f32⟩
  | 66 => ⟨S3x1x352, .f32⟩
  | 67 => ⟨S3x1x352, .f32⟩
  | 68 => ⟨S3x1x352, .f32⟩
  | 69 => ⟨S_, .f32⟩
  | 70 => ⟨S3x1x352, .f32⟩
  | 71 => ⟨S3x1x352, .f32⟩
  | 72 => ⟨S3x1x352, .f32⟩
  | 73 => ⟨S_, .f32⟩
  | 74 => ⟨S3x1x352, .f32⟩
  | 75 => ⟨S3x1x352, .f32⟩
  | 76 => ⟨S_, .f32⟩
  | 77 => ⟨S1x2816, .f32⟩
  | 78 => ⟨S1x2816, .f32⟩
  | 79 => ⟨S_, .f32⟩
  | 80 => ⟨S1x2816, .f32⟩
  | 81 => ⟨S1x2816, .f32⟩
  | 82 => ⟨S1x2816, .f32⟩
  | 83 => ⟨S_, .f32⟩
  | 84 => ⟨S1x2816, .f32⟩
  | 85 => ⟨S1x2816, .f32⟩
  | 86 => ⟨S1x2816, .f32⟩
  | 87 => ⟨S_, .f32⟩
  | 88 => ⟨S1x2816, .f32⟩
  | 89 => ⟨S1x2816, .f32⟩
  | 90 => ⟨S1x2816, .f32⟩
  | 91 => ⟨S_, .f32⟩
  | 92 => ⟨S1x2816, .f32⟩
  | 93 => ⟨S1x2816, .f32⟩
  | 94 => ⟨S_, .f32⟩
  | 95 => ⟨S1x2816, .f32⟩
  | 96 => ⟨S1x2816, .f32⟩
  | 97 => ⟨S1x2816, .f32⟩
  | 98 => ⟨S_, .f32⟩
  | 99 => ⟨S1x2816, .f32⟩
  | 100 => ⟨S1x2816, .f32⟩
  | 101 => ⟨S1x2816, .f32⟩
  | 102 => ⟨S_, .f32⟩
  | 103 => ⟨S1x2816, .f32⟩
  | 104 => ⟨S1x2816, .f32⟩
  | 105 => ⟨S1x2816, .f32⟩
  | 106 => ⟨S_, .f32⟩
  | 107 => ⟨S1x2816, .f32⟩
  | 108 => ⟨S1x2816, .f32⟩
  | 109 => ⟨S_, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S_, .f32⟩
  | _ => ⟨S704x128, .f32⟩

abbrev hbmTy0_2 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S1x1, .f32⟩
  | _ => ⟨S704x128, .f32⟩

abbrev hbmTy (i : Nat) : BufTy := match i / 128 with
  | 0 => hbmTy0_0 i
  | 1 => hbmTy0_1 i
  | 2 => hbmTy0_2 i
  | _ => ⟨S704x128, .f32⟩

abbrev bufTy : (tb : Table) → Fin (tcTables nBuf tb) → BufTy
  | .hbm, ⟨i, _⟩ => hbmTy i
  | _, _ => ⟨S704x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_3 : Ref sig .tc := ⟨.hbm, 54, rfl⟩
abbrev main_v24 : Ref sig .tc := ⟨.hbm, 55, rfl⟩
abbrev main_v25 : Ref sig .tc := ⟨.hbm, 56, rfl⟩
abbrev main_cst_4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_6 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_7 : Ref sig .tc := ⟨.hbm, 69, rfl⟩
abbrev main_v35 : Ref sig .tc := ⟨.hbm, 70, rfl⟩
abbrev main_v36 : Ref sig .tc := ⟨.hbm, 71, rfl⟩
abbrev main_cst_8 : Ref sig .tc := ⟨.hbm, 72, rfl⟩
abbrev main_v37 : Ref sig .tc := ⟨.hbm, 73, rfl⟩
abbrev main_v38 : Ref sig .tc := ⟨.hbm, 74, rfl⟩
abbrev main_cst_9 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_10 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_11 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_12 : Ref sig .tc := ⟨.hbm, 87, rfl⟩
abbrev main_v48 : Ref sig .tc := ⟨.hbm, 88, rfl⟩
abbrev main_v49 : Ref sig .tc := ⟨.hbm, 89, rfl⟩
abbrev main_cst_13 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_14 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_15 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_16 : Ref sig .tc := ⟨.hbm, 102, rfl⟩
abbrev main_v59 : Ref sig .tc := ⟨.hbm, 103, rfl⟩
abbrev main_v60 : Ref sig .tc := ⟨.hbm, 104, rfl⟩
abbrev main_cst_17 : Ref sig .tc := ⟨.hbm, 105, rfl⟩
abbrev main_v61 : Ref sig .tc := ⟨.hbm, 106, rfl⟩
abbrev main_v62 : Ref sig .tc := ⟨.hbm, 107, rfl⟩
abbrev main_cst_18 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_19 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_20 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_21 : Ref sig .tc := ⟨.hbm, 120, rfl⟩
abbrev main_v72 : Ref sig .tc := ⟨.hbm, 121, rfl⟩
abbrev main_v73 : Ref sig .tc := ⟨.hbm, 122, rfl⟩
abbrev main_cst_22 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_23 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_24 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_25 : Ref sig .tc := ⟨.hbm, 135, rfl⟩
abbrev main_v83 : Ref sig .tc := ⟨.hbm, 136, rfl⟩
abbrev main_v84 : Ref sig .tc := ⟨.hbm, 137, rfl⟩
abbrev main_cst_26 : Ref sig .tc := ⟨.hbm, 138, rfl⟩
abbrev main_v85 : Ref sig .tc := ⟨.hbm, 139, rfl⟩
abbrev main_v86 : Ref sig .tc := ⟨.hbm, 140, rfl⟩
abbrev main_cst_27 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_28 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_29 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_30 : Ref sig .tc := ⟨.hbm, 153, rfl⟩
abbrev main_v96 : Ref sig .tc := ⟨.hbm, 154, rfl⟩
abbrev main_v97 : Ref sig .tc := ⟨.hbm, 155, rfl⟩
abbrev main_cst_31 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_32 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_33 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_34 : Ref sig .tc := ⟨.hbm, 168, rfl⟩
abbrev main_v107 : Ref sig .tc := ⟨.hbm, 169, rfl⟩
abbrev main_v108 : Ref sig .tc := ⟨.hbm, 170, rfl⟩
abbrev main_cst_35 : Ref sig .tc := ⟨.hbm, 171, rfl⟩
abbrev main_v109 : Ref sig .tc := ⟨.hbm, 172, rfl⟩
abbrev main_v110 : Ref sig .tc := ⟨.hbm, 173, rfl⟩
abbrev main_cst_36 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_37 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_cst_38 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_cst_39 : Ref sig .tc := ⟨.hbm, 186, rfl⟩
abbrev main_v120 : Ref sig .tc := ⟨.hbm, 187, rfl⟩
abbrev main_v121 : Ref sig .tc := ⟨.hbm, 188, rfl⟩
abbrev main_cst_40 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_cst_41 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_cst_42 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_cst_43 : Ref sig .tc := ⟨.hbm, 201, rfl⟩
abbrev main_v131 : Ref sig .tc := ⟨.hbm, 202, rfl⟩
abbrev main_v132 : Ref sig .tc := ⟨.hbm, 203, rfl⟩
abbrev main_cst_44 : Ref sig .tc := ⟨.hbm, 204, rfl⟩
abbrev main_v133 : Ref sig .tc := ⟨.hbm, 205, rfl⟩
abbrev main_v134 : Ref sig .tc := ⟨.hbm, 206, rfl⟩
abbrev main_cst_45 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_cst_46 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_47 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_cst_48 : Ref sig .tc := ⟨.hbm, 219, rfl⟩
abbrev main_v144 : Ref sig .tc := ⟨.hbm, 220, rfl⟩
abbrev main_v145 : Ref sig .tc := ⟨.hbm, 221, rfl⟩
abbrev main_cst_49 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_50 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_cst_51 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_cst_52 : Ref sig .tc := ⟨.hbm, 234, rfl⟩
abbrev main_v155 : Ref sig .tc := ⟨.hbm, 235, rfl⟩
abbrev main_v156 : Ref sig .tc := ⟨.hbm, 236, rfl⟩
abbrev main_cst_53 : Ref sig .tc := ⟨.hbm, 237, rfl⟩
abbrev main_v157 : Ref sig .tc := ⟨.hbm, 238, rfl⟩
abbrev main_v158 : Ref sig .tc := ⟨.hbm, 239, rfl⟩
abbrev main_cst_54 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_cst_55 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_cst_56 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_cst_57 : Ref sig .tc := ⟨.hbm, 252, rfl⟩
abbrev main_v168 : Ref sig .tc := ⟨.hbm, 253, rfl⟩
abbrev main_v169 : Ref sig .tc := ⟨.hbm, 254, rfl⟩
abbrev main_cst_58 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_cst_59 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_cst_60 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_cst_61 : Ref sig .tc := ⟨.hbm, 267, rfl⟩
abbrev main_v179 : Ref sig .tc := ⟨.hbm, 268, rfl⟩
abbrev main_v180 : Ref sig .tc := ⟨.hbm, 269, rfl⟩
abbrev main_cst_62 : Ref sig .tc := ⟨.hbm, 270, rfl⟩
abbrev main_v181 : Ref sig .tc := ⟨.hbm, 271, rfl⟩
abbrev main_v182 : Ref sig .tc := ⟨.hbm, 272, rfl⟩
abbrev main_cst_63 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_cst_64 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_cst_65 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_cst_66 : Ref sig .tc := ⟨.hbm, 285, rfl⟩
abbrev main_v192 : Ref sig .tc := ⟨.hbm, 286, rfl⟩
abbrev main_v193 : Ref sig .tc := ⟨.hbm, 287, rfl⟩
abbrev main_cst_67 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_cst_68 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_cst_69 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_cst_70 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩

abbrev nD : Nat := 1
abbrev τ : Topo := Topo.v7x

variable {F : FTy → Type} [FloatOps F]
-- ==== Proof.Ideal.OutsA.lean ====
/- What the first point's body leaves in each output's buffer and in the carried scratch: its stores cover them. -/
module

public import proofs.«01_k».proof.Proof.Gen.KernelIdeal.Frame.RunA
public import Idealize.ShloMosaic.Lib.Claim

@[expose] public section

-- membership in a rectangle of production extents (`View.cover_of_tiled`): checking it
-- goes once over each coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x1024 .f32) (harg1 : arg1.IsWhole)
    (arg2 : Memref sig .tc .vmem S16x1024 .f32) (harg2 : arg2.IsWhole) (arg3 : Memref sig .tc .vmem S256x1 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S5632x1024 .bf16) (harg6 : arg6.IsWhole) (arg7 : Memref sig .tc .vmem S3x2816 .f32) (harg7 : arg7.IsWhole)
    (arg8 : Memref sig .tc .vmem S1x2816 .f32) (harg8 : arg8.IsWhole) (arg9 : Memref sig .tc .vmem S2816x1024 .bf16) (harg9 : arg9.IsWhole)
    (arg10 : Memref sig .tc .vmem S1x1024 .f32) (harg10 : arg10.IsWhole) (arg11 : Memref sig .tc .vmem S1x1024 .f32) (harg11 : arg11.IsWhole)
    (arg12 : Memref sig .tc .vmem S256x1024 .f32) (harg12 : arg12.IsWhole) (arg13 : Memref sig .tc .vmem S256x1024 .f32) (harg13 : arg13.IsWhole)
    (arg14 : Memref sig .tc .vmem S256x1024 .bf16) (harg14 : arg14.IsWhole) (arg15 : Memref sig .tc .vmem S256x5632 .bf16) (harg15 : arg15.IsWhole)
    (arg16 : Memref sig .tc .vmem S256x2816 .bf16) (harg16 : arg16.IsWhole) (arg17 : Memref sig .tc .vmem S8x128 .f32) (harg17 : arg17.IsWhole)
    (arg18 : Memref sig .tc .vmem S1x1024 .f32) (harg18 : arg18.IsWhole) (arg19 : Memref sig .tc .vmem S1x1024 .f32) (harg19 : arg19.IsWhole)
    (arg20 : Memref sig .tc .vmem S1x1024 .f32) (harg20 : arg20.IsWhole) (arg21 : Memref sig .tc .vmem S1x1024 .f32) (harg21 : arg21.IsWhole)
    (arg22 : Memref sig .tc .vmem S1x2816 .f32) (harg22 : arg22.IsWhole) (arg23 : Memref sig .tc .vmem S3x2816 .f32) (harg23 : arg23.IsWhole)
    (arg24 : Memref sig .tc .vmem S22x272x128 .f32) (harg24 : arg24.IsWhole) (arg25 : Memref sig .tc .vmem S256x2816 .f32) (harg25 : arg25.IsWhole)
    (arg26 : Memref sig .tc .vmem S22x264x128 .f32) (harg26 : arg26.IsWhole) (hc0 : cond0_0 i) (x0 : Vec F S256x1024 .f32) (x1 : Vec F S16x1024 .f32)
    (x2 : Vec F S256x1 .f32) (x3 : Vec F S1x1024 .f32) (x4 : Vec F S1x1024 .f32) (x5 : Vec F S5632x1024 .bf16) (x6 : Vec F S3x2816 .f32)
    (x7 : Vec F S1x2816 .f32) (x8 : Vec F S2816x1024 .bf16) (x9 : Vec F S1x1024 .f32) (x10 : Vec F S1x1024 .f32) (x11 : Vec F S256x1024 .f32)

theorem cover0_A_12 (y : S256x1024.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).1, y ∈ pc.1.set :=
  View.cover_of_tiledL _ S256x1024.size (by sl_kernel_rfl) y

/-- What case A leaves in output 12's staging buffer: its pieces read back over junk. -/
def out0_A_12 : Vec F S256x1024 .f32 :=
  VO0_12.read (Elt F) (VO0_12.writes (Elt F) VO0_12.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).1)

/-- Case A's pieces for output 13 cover its block. -/
theorem cover0_A_13 (y : S256x1024.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.1, y ∈ pc.1.set :=
  View.cover_of_tiledL _ S256x1024.size (by sl_kernel_rfl) y

def out0_A_13 : Vec F S256x1024 .bf16 :=
  VO0_13.read (Elt F) (VO0_13.writes (Elt F) VO0_13.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.1)

theorem cover0_A_14 (y : S256x5632.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.1 S256x2816.size (by sl_kernel_rfl) y

def out0_A_14 : Vec F S256x5632 .bf16 :=
  VO0_14.read (Elt F) (VO0_14.writes (Elt F) VO0_14.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.1)

theorem cover0_A_15 (y : S256x2816.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.1, y ∈ pc.1.set :=
  View.cover_of_tiledL _ S256x2816.size (by sl_kernel_rfl) y

def out0_A_15 : Vec F S256x2816 .bf16 :=
  VO0_15.read (Elt F) (VO0_15.writes (Elt F) VO0_15.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.1)

theorem cover0_A_16 (y : S8x128.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.1, y ∈ pc.1.set :=
  View.cover_of_tiledL _ S8x128.size (by sl_kernel_rfl) y

def out0_A_16 : Vec F S8x128 .f32 :=
  VO0_16.read (Elt F) (VO0_16.writes (Elt F) VO0_16.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.1)

theorem cover0_A_17 (y : S1x1024.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.1, y ∈ pc.1.set :=
  View.cover_of_tiledL _ S1x1024.size (by sl_kernel_rfl) y

def out0_A_17 : Vec F S1x1024 .f32 :=
  VO0_17.read (Elt F) (VO0_17.writes (Elt F) VO0_17.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.1)

theorem cover0_A_18 (y : S1x1024.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.1, y ∈ pc.1.set :=
  View.cover_of_tiledL _ S1x1024.size (by sl_kernel_rfl) y

def out0_A_18 : Vec F S1x1024 .f32 :=
  VO0_18.read (Elt F) (VO0_18.writes (Elt F) VO0_18.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.1)

theorem cover0_A_19 (y : S1x1024.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.1, y ∈ pc.1.set :=
  View.cover_of_tiledL _ S1x1024.size (by sl_kernel_rfl) y

def out0_A_19 : Vec F S1x1024 .f32 :=
  VO0_19.read (Elt F) (VO0_19.writes (Elt F) VO0_19.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.1)

theorem cover0_A_20 (y : S1x1024.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.2.1, y ∈ pc.1.set :=
  View.cover_of_tiledL _ S1x1024.size (by sl_kernel_rfl) y

def out0_A_20 : Vec F S1x1024 .f32 :=
  VO0_20.read (Elt F) (VO0_20.writes (Elt F) VO0_20.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.2.1)

theorem cover0_A_21 (y : S1x2816.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.2.2.1, y ∈ pc.1.set :=
  View.cover_of_tiledL _ S1x2816.size (by sl_kernel_rfl) y

def out0_A_21 : Vec F S1x2816 .f32 :=
  VO0_21.read (Elt F) (VO0_21.writes (Elt F) VO0_21.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.2.2.1)

/-- Case A's pieces for output 22 are of SEVERAL sizes (4 stores of `S1x2816`, `S3x2816`): cut into blocks of `![1, 2816]` they tile its block (checked by the kernel's evaluation: Lib/Ring.lean `Piece.tiledBy`), so they cover it. -/
theorem cover0_A_22 (y : S3x2816.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.2.2.2.1, y ∈ pc.1.set :=
  View.cover_of_tiledBy (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.2.2.2.1 ![1, 2816] (by sl_kernel_rfl) y

def out0_A_22 : Vec F S3x2816 .f32 :=
  VO0_22.read (Elt F) (VO0_22.writes (Elt F) VO0_22.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.2.2.2.1)

/-- Case A's pieces for scratch `arg26`, which the kernel carries between points, cover it: 46 pieces (stores and landed copies) of several sizes (`S1x256x128`, `S22x8x128`) tiling it when cut into blocks of `![1, 8, 128]` (Lib/Ring.lean `Piece.tiledBy`). -/
theorem scover0_A_2 (y : S22x264x128.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.2.2.2.2.1, y ∈ pc.1.set :=
  View.cover_of_tiledBy (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.2.2.2.2.1 ![1, 8, 128] (by sl_kernel_rfl) y

/-- What case A leaves in scratch `arg26`: its pieces read back over junk. -/
def sout0_A_2 : Vec F S22x264x128 .f32 :=
  VS0_2.read (Elt F) (VS0_2.writes (Elt F) VS0_2.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11).2.2.2.2.2.2.2.2.2.2.2.1)

end Cert.KernelIdeal.Gen

end
-- ==== Proof.Ideal.OutsB.lean ====
/- What a later point's body leaves in each output's buffer and in the carried scratch: its stores cover them. -/
module

public import proofs.«01_k».proof.Proof.Gen.KernelIdeal.Frame.RunB
public import Idealize.ShloMosaic.Lib.Claim

@[expose] public section

-- membership in a rectangle of production extents (`View.cover_of_tiled`): checking it
-- goes once over each coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x1024 .f32) (harg1 : arg1.IsWhole)
    (arg2 : Memref sig .tc .vmem S16x1024 .f32) (harg2 : arg2.IsWhole) (arg3 : Memref sig .tc .vmem S256x1 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S5632x1024 .bf16) (harg6 : arg6.IsWhole) (arg7 : Memref sig .tc .vmem S3x2816 .f32) (harg7 : arg7.IsWhole)
    (arg8 : Memref sig .tc .vmem S1x2816 .f32) (harg8 : arg8.IsWhole) (arg9 : Memref sig .tc .vmem S2816x1024 .bf16) (harg9 : arg9.IsWhole)
    (arg10 : Memref sig .tc .vmem S1x1024 .f32) (harg10 : arg10.IsWhole) (arg11 : Memref sig .tc .vmem S1x1024 .f32) (harg11 : arg11.IsWhole)
    (arg12 : Memref sig .tc .vmem S256x1024 .f32) (harg12 : arg12.IsWhole) (arg13 : Memref sig .tc .vmem S256x1024 .f32) (harg13 : arg13.IsWhole)
    (arg14 : Memref sig .tc .vmem S256x1024 .bf16) (harg14 : arg14.IsWhole) (arg15 : Memref sig .tc .vmem S256x5632 .bf16) (harg15 : arg15.IsWhole)
    (arg16 : Memref sig .tc .vmem S256x2816 .bf16) (harg16 : arg16.IsWhole) (arg17 : Memref sig .tc .vmem S8x128 .f32) (harg17 : arg17.IsWhole)
    (arg18 : Memref sig .tc .vmem S1x1024 .f32) (harg18 : arg18.IsWhole) (arg19 : Memref sig .tc .vmem S1x1024 .f32) (harg19 : arg19.IsWhole)
    (arg20 : Memref sig .tc .vmem S1x1024 .f32) (harg20 : arg20.IsWhole) (arg21 : Memref sig .tc .vmem S1x1024 .f32) (harg21 : arg21.IsWhole)
    (arg22 : Memref sig .tc .vmem S1x2816 .f32) (harg22 : arg22.IsWhole) (arg23 : Memref sig .tc .vmem S3x2816 .f32) (harg23 : arg23.IsWhole)
    (arg24 : Memref sig .tc .vmem S22x272x128 .f32) (harg24 : arg24.IsWhole) (arg25 : Memref sig .tc .vmem S256x2816 .f32) (harg25 : arg25.IsWhole)
    (arg26 : Memref sig .tc .vmem S22x264x128 .f32) (harg26 : arg26.IsWhole) (hc0 : ¬cond0_0 i) (x0 : Vec F S256x1024 .f32) (x1 : Vec F S16x1024 .f32)
    (x2 : Vec F S256x1 .f32) (x3 : Vec F S1x1024 .f32) (x4 : Vec F S1x1024 .f32) (x5 : Vec F S5632x1024 .bf16) (x6 : Vec F S3x2816 .f32)
    (x7 : Vec F S1x2816 .f32) (x8 : Vec F S2816x1024 .bf16) (x9 : Vec F S1x1024 .f32) (x10 : Vec F S1x1024 .f32) (x11 : Vec F S256x1024 .f32)
    (xo16 : Vec F S8x128 .f32) (xo17 : Vec F S1x1024 .f32) (xo18 : Vec F S1x1024 .f32) (xo19 : Vec F S1x1024 .f32) (xo20 : Vec F S1x1024 .f32)
    (xo21 : Vec F S1x2816 .f32) (xo22 : Vec F S3x2816 .f32) (xs2 : Vec F S22x264x128 .f32)

theorem cover0_B_12 (y : S256x1024.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).1, y ∈ pc.1.set :=
  View.cover_of_tiledL _ S256x1024.size (by sl_kernel_rfl) y

/-- What case B leaves in output 12's staging buffer: its pieces read back over junk. -/
def out0_B_12 : Vec F S256x1024 .f32 :=
  VO0_12.read (Elt F) (VO0_12.writes (Elt F) VO0_12.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).1)

/-- Case B's pieces for output 13 cover its block. -/
theorem cover0_B_13 (y : S256x1024.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.1, y ∈ pc.1.set :=
  View.cover_of_tiledL _ S256x1024.size (by sl_kernel_rfl) y

def out0_B_13 : Vec F S256x1024 .bf16 :=
  VO0_13.read (Elt F) (VO0_13.writes (Elt F) VO0_13.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.1)

theorem cover0_B_14 (y : S256x5632.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.1 S256x2816.size (by sl_kernel_rfl) y

def out0_B_14 : Vec F S256x5632 .bf16 :=
  VO0_14.read (Elt F) (VO0_14.writes (Elt F) VO0_14.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.1)

theorem cover0_B_15 (y : S256x2816.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.1, y ∈ pc.1.set :=
  View.cover_of_tiledL _ S256x2816.size (by sl_kernel_rfl) y

def out0_B_15 : Vec F S256x2816 .bf16 :=
  VO0_15.read (Elt F) (VO0_15.writes (Elt F) VO0_15.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.1)

theorem cover0_B_16 (y : S8x128.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.1, y ∈ pc.1.set :=
  View.cover_of_tiledL _ S8x128.size (by sl_kernel_rfl) y

def out0_B_16 : Vec F S8x128 .f32 :=
  VO0_16.read (Elt F) (VO0_16.writes (Elt F) VO0_16.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.1)

theorem cover0_B_17 (y : S1x1024.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.1, y ∈ pc.1.set :=
  View.cover_of_tiledL _ S1x1024.size (by sl_kernel_rfl) y

def out0_B_17 : Vec F S1x1024 .f32 :=
  VO0_17.read (Elt F) (VO0_17.writes (Elt F) VO0_17.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.1)

theorem cover0_B_18 (y : S1x1024.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.1, y ∈ pc.1.set :=
  View.cover_of_tiledL _ S1x1024.size (by sl_kernel_rfl) y

def out0_B_18 : Vec F S1x1024 .f32 :=
  VO0_18.read (Elt F) (VO0_18.writes (Elt F) VO0_18.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.1)

theorem cover0_B_19 (y : S1x1024.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.1, y ∈ pc.1.set :=
  View.cover_of_tiledL _ S1x1024.size (by sl_kernel_rfl) y

def out0_B_19 : Vec F S1x1024 .f32 :=
  VO0_19.read (Elt F) (VO0_19.writes (Elt F) VO0_19.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.1)

theorem cover0_B_20 (y : S1x1024.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.2.1, y ∈ pc.1.set :=
  View.cover_of_tiledL _ S1x1024.size (by sl_kernel_rfl) y

def out0_B_20 : Vec F S1x1024 .f32 :=
  VO0_20.read (Elt F) (VO0_20.writes (Elt F) VO0_20.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.2.1)

theorem cover0_B_21 (y : S1x2816.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.2.2.1, y ∈ pc.1.set :=
  View.cover_of_tiledL _ S1x2816.size (by sl_kernel_rfl) y

def out0_B_21 : Vec F S1x2816 .f32 :=
  VO0_21.read (Elt F) (VO0_21.writes (Elt F) VO0_21.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.2.2.1)

theorem cover0_B_22 (y : S3x2816.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.2.2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.2.2.2.1 S1x2816.size (by sl_kernel_rfl) y

def out0_B_22 : Vec F S3x2816 .f32 :=
  VO0_22.read (Elt F) (VO0_22.writes (Elt F) VO0_22.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.2.2.2.1)

/-- Case B's pieces for scratch `arg26`, which the kernel carries between points, cover it: 45 pieces (stores and landed copies) of several sizes (`S1x256x128`, `S22x8x128`) tiling it when cut into blocks of `![1, 8, 128]` (Lib/Ring.lean `Piece.tiledBy`). -/
theorem scover0_B_2 (y : S22x264x128.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.2.2.2.2.1, y ∈ pc.1.set :=
  View.cover_of_tiledBy (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.2.2.2.2.1 ![1, 8, 128] (by sl_kernel_rfl) y

/-- What case B leaves in scratch `arg26`: its pieces read back over junk. -/
def sout0_B_2 : Vec F S22x264x128 .f32 :=
  VS0_2.read (Elt F) (VS0_2.writes (Elt F) VS0_2.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2).2.2.2.2.2.2.2.2.2.2.2.1)

end Cert.KernelIdeal.Gen

end
-- ==== Proof.Ideal.Frame.lean ====
/- What the outputs hold point by point, the proof data of the launch, the body's obligation, the run and the frame. -/
module

public import proofs.«01_k».proof.Proof.Ideal.OutsA
public import proofs.«01_k».proof.Proof.Ideal.OutsB
public import Idealize.ShloMosaic.Lib.Claim

@[expose] public section

-- membership in a rectangle of production extents (`View.cover_of_tiled`): checking it
-- goes once over each coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The body's run at a first point. -/
abbrev runA0 (c : Dev nD) (t : Fin cfg0.N) (h0 : t.val % 16 = 0) :=
  kernelRun0_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What the outputs' buffers and the carried scratch hold after the body at a first point. -/
def outsA0 (c : Dev nD) (t : Fin cfg0.N) (h0 : t.val % 16 = 0) : Vec F S256x1024 .f32 × Vec F S256x1024 .bf16 × Vec F S256x5632 .bf16 × Vec F S256x2816 .bf16 × Vec F S8x128 .f32 × Vec F S1x1024 .f32 × Vec F S1x1024 .f32 × Vec F S1x1024 .f32 × Vec F S1x1024 .f32 × Vec F S1x2816 .f32 × Vec F S3x2816 .f32 × Vec F S22x264x128 .f32 :=
  (VO0_12.read (Elt F) (VO0_12.writes (Elt F) VO0_12.junk (runA0 m c t h0).1),
    VO0_13.read (Elt F) (VO0_13.writes (Elt F) VO0_13.junk (runA0 m c t h0).2.1),
    VO0_14.read (Elt F) (VO0_14.writes (Elt F) VO0_14.junk (runA0 m c t h0).2.2.1),
    VO0_15.read (Elt F) (VO0_15.writes (Elt F) VO0_15.junk (runA0 m c t h0).2.2.2.1),
    VO0_16.read (Elt F) (VO0_16.writes (Elt F) VO0_16.junk (runA0 m c t h0).2.2.2.2.1),
    VO0_17.read (Elt F) (VO0_17.writes (Elt F) VO0_17.junk (runA0 m c t h0).2.2.2.2.2.1),
    VO0_18.read (Elt F) (VO0_18.writes (Elt F) VO0_18.junk (runA0 m c t h0).2.2.2.2.2.2.1),
    VO0_19.read (Elt F) (VO0_19.writes (Elt F) VO0_19.junk (runA0 m c t h0).2.2.2.2.2.2.2.1),
    VO0_20.read (Elt F) (VO0_20.writes (Elt F) VO0_20.junk (runA0 m c t h0).2.2.2.2.2.2.2.2.1),
    VO0_21.read (Elt F) (VO0_21.writes (Elt F) VO0_21.junk (runA0 m c t h0).2.2.2.2.2.2.2.2.2.1),
    VO0_22.read (Elt F) (VO0_22.writes (Elt F) VO0_22.junk (runA0 m c t h0).2.2.2.2.2.2.2.2.2.2.1),
    VS0_2.read (Elt F) (VS0_2.writes (Elt F) VS0_2.junk (runA0 m c t h0).2.2.2.2.2.2.2.2.2.2.2.1))

/-- The body's run at a later point. -/
abbrev runB0 (c : Dev nD) (t : Fin cfg0.N) (h0 : ¬t.val % 16 = 0)
    (p : Vec F S256x1024 .f32 × Vec F S256x1024 .bf16 × Vec F S256x5632 .bf16 × Vec F S256x2816 .bf16 × Vec F S8x128 .f32 × Vec F S1x1024 .f32 × Vec F S1x1024 .f32 × Vec F S1x1024 .f32 × Vec F S1x1024 .f32 × Vec F S1x2816 .f32 × Vec F S3x2816 .f32 × Vec F S22x264x128 .f32) :=
  kernelRun0_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.1 p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2

/-- What the outputs' buffers and the carried scratch hold after the body at a later point, over what they held before it. -/
def outsB0 (c : Dev nD) (t : Fin cfg0.N) (h0 : ¬t.val % 16 = 0)
    (p : Vec F S256x1024 .f32 × Vec F S256x1024 .bf16 × Vec F S256x5632 .bf16 × Vec F S256x2816 .bf16 × Vec F S8x128 .f32 × Vec F S1x1024 .f32 × Vec F S1x1024 .f32 × Vec F S1x1024 .f32 × Vec F S1x1024 .f32 × Vec F S1x2816 .f32 × Vec F S3x2816 .f32 × Vec F S22x264x128 .f32) : Vec F S256x1024 .f32 × Vec F S256x1024 .bf16 × Vec F S256x5632 .bf16 × Vec F S256x2816 .bf16 × Vec F S8x128 .f32 × Vec F S1x1024 .f32 × Vec F S1x1024 .f32 × Vec F S1x1024 .f32 × Vec F S1x1024 .f32 × Vec F S1x2816 .f32 × Vec F S3x2816 .f32 × Vec F S22x264x128 .f32 :=
  (VO0_12.read (Elt F) (VO0_12.writes (Elt F) VO0_12.junk (runB0 m c t h0 p).1),
    VO0_13.read (Elt F) (VO0_13.writes (Elt F) VO0_13.junk (runB0 m c t h0 p).2.1),
    VO0_14.read (Elt F) (VO0_14.writes (Elt F) VO0_14.junk (runB0 m c t h0 p).2.2.1),
    VO0_15.read (Elt F) (VO0_15.writes (Elt F) VO0_15.junk (runB0 m c t h0 p).2.2.2.1),
    VO0_16.read (Elt F) (VO0_16.writes (Elt F) VO0_16.junk (runB0 m c t h0 p).2.2.2.2.1),
    VO0_17.read (Elt F) (VO0_17.writes (Elt F) VO0_17.junk (runB0 m c t h0 p).2.2.2.2.2.1),
    VO0_18.read (Elt F) (VO0_18.writes (Elt F) VO0_18.junk (runB0 m c t h0 p).2.2.2.2.2.2.1),
    VO0_19.read (Elt F) (VO0_19.writes (Elt F) VO0_19.junk (runB0 m c t h0 p).2.2.2.2.2.2.2.1),
    VO0_20.read (Elt F) (VO0_20.writes (Elt F) VO0_20.junk (runB0 m c t h0 p).2.2.2.2.2.2.2.2.1),
    VO0_21.read (Elt F) (VO0_21.writes (Elt F) VO0_21.junk (runB0 m c t h0 p).2.2.2.2.2.2.2.2.2.1),
    VO0_22.read (Elt F) (VO0_22.writes (Elt F) VO0_22.junk (runB0 m c t h0 p).2.2.2.2.2.2.2.2.2.2.1),
    VS0_2.read (Elt F) (VS0_2.writes (Elt F) VS0_2.junk (runB0 m c t h0 p).2.2.2.2.2.2.2.2.2.2.2.1))

/-- What the outputs' buffers and the carried scratch hold after the body at position `n`. -/
def outsAt0 (c : Dev nD) : (n : ℕ) → n < cfg0.N → Vec F S256x1024 .f32 × Vec F S256x1024 .bf16 × Vec F S256x5632 .bf16 × Vec F S256x2816 .bf16 × Vec F S8x128 .f32 × Vec F S1x1024 .f32 × Vec F S1x1024 .f32 × Vec F S1x1024 .f32 × Vec F S1x1024 .f32 × Vec F S1x2816 .f32 × Vec F S3x2816 .f32 × Vec F S22x264x128 .f32
  | 0, hn => outsA0 m c ⟨0, hn⟩ (Nat.zero_mod _)
  | n + 1, hn =>
    if h0 : (n + 1) % 16 = 0 then outsA0 m c ⟨n + 1, hn⟩ h0
    else outsB0 m c ⟨n + 1, hn⟩ h0 (outsAt0 c n (Nat.lt_of_succ_lt hn))

/-- `outsAt0` at a first point. -/
theorem outsAt0_first (c : Dev nD) (t : Fin cfg0.N) (h0 : t.val % 16 = 0) :
    outsAt0 m c t.val t.isLt = outsA0 m c t h0 := by
  obtain ⟨n, hn⟩ := t
  cases n with
  | zero => rfl
  | succ n => exact dif_pos h0

/-- `outsAt0` at a later point, over what the point before left. -/
theorem outsAt0_later (c : Dev nD) (t : Fin cfg0.N) (h0 : ¬t.val % 16 = 0) :
    outsAt0 m c t.val t.isLt = outsB0 m c t h0 (outsAt0 m c (t.val - 1) (Nat.lt_of_le_of_lt (Nat.sub_le _ _) t.isLt)) := by
  obtain ⟨n, hn⟩ := t
  cases n with
  | zero => exact absurd (Nat.zero_mod _) h0
  | succ n => exact dif_neg h0

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).2.2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨20, _⟩ => (outsAt0 m c t.val t.isLt).2.2.2.2.2.2.2.2.1
    | ⟨21, _⟩ => (outsAt0 m c t.val t.isLt).2.2.2.2.2.2.2.2.2.1
    | ⟨22, _⟩ => (outsAt0 m c t.val t.isLt).2.2.2.2.2.2.2.2.2.2.1
    | ⟨_ + 23, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]
theorem after0_19 (c : Dev nD) (t : Fin cfg0.N) : (dats m 0 c).after 19 t = (outsAt0 m c t.val t.isLt).2.2.2.2.2.2.2.1 := by dsimp only [dats]
theorem after0_20 (c : Dev nD) (t : Fin cfg0.N) : (dats m 0 c).after 20 t = (outsAt0 m c t.val t.isLt).2.2.2.2.2.2.2.2.1 := by dsimp only [dats]
theorem after0_21 (c : Dev nD) (t : Fin cfg0.N) : (dats m 0 c).after 21 t = (outsAt0 m c t.val t.isLt).2.2.2.2.2.2.2.2.2.1 := by dsimp only [dats]
theorem after0_22 (c : Dev nD) (t : Fin cfg0.N) : (dats m 0 c).after 22 t = (outsAt0 m c t.val t.isLt).2.2.2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 16's current staging buffer holds what the body left at the point before: the point is
    not the first, the buffer was not written back between (`flush0_16`), the window is live and uncut (Lib/Pipeline/Frame.lean
    `Dat.before_out_kept`). -/
theorem before0_16_B (c : Dev nD) (t : Fin cfg0.N) (h0 : ¬t.val % 16 = 0) (d) :
    (dats m 0 c).before 16 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 16 = 0) (d) :
    (dats m 0 c).before 17 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
theorem before0_18_B (c : Dev nD) (t : Fin cfg0.N) (h0 : ¬t.val % 16 = 0) (d) :
    (dats m 0 c).before 18 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
theorem before0_19_B (c : Dev nD) (t : Fin cfg0.N) (h0 : ¬t.val % 16 = 0) (d) :
    (dats m 0 c).before 19 t d = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]
theorem before0_20_B (c : Dev nD) (t : Fin cfg0.N) (h0 : ¬t.val % 16 = 0) (d) :
    (dats m 0 c).before 20 t d = (outsAt0 m c (t.val - 1) (Nat.lt_of_le_of_lt (Nat.sub_le _ _) t.isLt)).2.2.2.2.2.2.2.2.1 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
theorem before0_21_B (c : Dev nD) (t : Fin cfg0.N) (h0 : ¬t.val % 16 = 0) (d) :
    (dats m 0 c).before 21 t d = (outsAt0 m c (t.val - 1) (Nat.lt_of_le_of_lt (Nat.sub_le _ _) t.isLt)).2.2.2.2.2.2.2.2.2.1 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]
theorem before0_22_B (c : Dev nD) (t : Fin cfg0.N) (h0 : ¬t.val % 16 = 0) (d) :
    (dats m 0 c).before 22 t d = (outsAt0 m c (t.val - 1) (Nat.lt_of_le_of_lt (Nat.sub_le _ _) t.isLt)).2.2.2.2.2.2.2.2.2.2.1 := by
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_first m c t h0, outsA0]
      unfold runA0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexact HS0
      isplitl [HS1]; · iexact HS1
      isplitl [HS2]; · iexact HS2
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%fT0, HS0⟩, ⟨%fT1, HS1⟩, ⟨%es2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          unfold owns; iexists _; isplitr
          swap; · iexact HS2
          ipureintro; exact View.read_writes_of_cover _ _ _ _ _ (fun y => scover0_A_2 (y := y) ..)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (fun y => cover0_A_12 (y := y) ..)
      isplitl [H13]
      · unfold owns; iexists _; isplitr
        swap; · iexact H13
        ipureintro; exact View.read_writes_of_cover _ _ _ _ _ (fun y => cover0_A_13 (y := y) ..)
      isplitl [H14]
      · unfold owns; iexists _; isplitr
        swap; · iexact H14
        ipureintro; exact View.read_writes_of_cover _ _ _ _ _ (fun y => cover0_A_14 (y := y) ..)
      isplitl [H15]
      · unfold owns; iexists _; isplitr
        swap; · iexact H15
        ipureintro; exact View.read_writes_of_cover _ _ _ _ _ (fun y => cover0_A_15 (y := y) ..)
      isplitl [H16]
      · unfold owns; iexists _; isplitr
        swap; · iexact H16
        ipureintro; exact View.read_writes_of_cover _ _ _ _ _ (fun y => cover0_A_16 (y := y) ..)
      isplitl [H17]
      · unfold owns; iexists _; isplitr
        swap; · iexact H17
        ipureintro; exact View.read_writes_of_cover _ _ _ _ _ (fun y => cover0_A_17 (y := y) ..)
      isplitl [H18]
      · unfold owns; iexists _; isplitr
        swap; · iexact H18
        ipureintro; exact View.read_writes_of_cover _ _ _ _ _ (fun y => cover0_A_18 (y := y) ..)
      isplitl [H19]
      · unfold owns; iexists _; isplitr
        swap; · iexact H19
        ipureintro; exact View.read_writes_of_cover _ _ _ _ _ (fun y => cover0_A_19 (y := y) ..)
      isplitl [H20]
      · unfold owns; iexists _; isplitr
        swap; · iexact H20
        ipureintro; exact View.read_writes_of_cover _ _ _ _ _ (fun y => cover0_A_20 (y := y) ..)
      isplitl [H21]
      · unfold owns; iexists _; isplitr
        swap; · iexact H21
        ipureintro; exact View.read_writes_of_cover _ _ _ _ _ (fun y => cover0_A_21 (y := y) ..)
      unfold owns; iexists _; isplitr
      swap; · iexact H22
      ipureintro; exact View.read_writes_of_cover _ _ _ _ _ (fun y => cover0_A_22 (y := y) ..)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_later m c t h0, outsB0]
      simp only [before0_16_B m c t h0, before0_17_B m c t h0, before0_18_B m c t h0, before0_19_B m c t h0, before0_20_B m c t h0, before0_21_B m c t h0, before0_22_B m c t h0]
      unfold runB0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _ _).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [HS0]; · iexact HS0
      isplitl [HS1]; · iexact HS1
      isplitl [HS2]; · iexact HS2
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%fT0, HS0⟩, ⟨%fT1, HS1⟩, ⟨%es2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          unfold owns; iexists _; isplitr
          swap; · iexact HS2
          ipureintro; exact View.read_writes_of_cover _ _ _ _ _ (fun y => scover0_B_2 (y := y) ..)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (fun y => cover0_B_12 (y := y) ..)
      isplitl [H13]
      · unfold owns; iexists _; isplitr
        swap; · iexact H13
        ipureintro; exact View.read_writes_of_cover _ _ _ _ _ (fun y => cover0_B_13 (y := y) ..)
      isplitl [H14]
      · unfold owns; iexists _; isplitr
        swap; · iexact H14
        ipureintro; exact View.read_writes_of_cover _ _ _ _ _ (fun y => cover0_B_14 (y := y) ..)
      isplitl [H15]
      · unfold owns; iexists _; isplitr
        swap; · iexact H15
        ipureintro; exact View.read_writes_of_cover _ _ _ _ _ (fun y => cover0_B_15 (y := y) ..)
      isplitl [H16]
      · unfold owns; iexists _; isplitr
        swap; · iexact H16
        ipureintro; exact View.read_writes_of_cover _ _ _ _ _ (fun y => cover0_B_16 (y := y) ..)
      isplitl [H17]
      · unfold owns; iexists _; isplitr
        swap; · iexact H17
        ipureintro; exact View.read_writes_of_cover _ _ _ _ _ (fun y => cover0_B_17 (y := y) ..)
      isplitl [H18]
      · unfold owns; iexists _; isplitr
        swap; · iexact H18
        ipureintro; exact View.read_writes_of_cover _ _ _ _ _ (fun y => cover0_B_18 (y := y) ..)
      isplitl [H19]
      · unfold owns; iexists _; isplitr
        swap; · iexact H19
        ipureintro; exact View.read_writes_of_cover _ _ _ _ _ (fun y => cover0_B_19 (y := y) ..)
      isplitl [H20]
      · unfold owns; iexists _; isplitr
        swap; · iexact H20
        ipureintro; exact View.read_writes_of_cover _ _ _ _ _ (fun y => cover0_B_20 (y := y) ..)
      isplitl [H21]
      · unfold owns; iexists _; isplitr
        swap; · iexact H21
        ipureintro; exact View.read_writes_of_cover _ _ _ _ _ (fun y => cover0_B_21 (y := y) ..)
      unfold owns; iexists _; isplitr
      swap; · iexact H22
      ipureintro; exact View.read_writes_of_cover _ _ _ _ _ (fun y => cover0_B_22 (y := y) ..)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.Ideal.Value.lean ====
/- What each point writes back to each output array of the ideal kernel, and the run with the arrays named. -/
module

public import proofs.«01_k».proof.Proof.Ideal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the run's contents for that window after the body (`Gen.outsAt0`: its component 0), read through the window's block. -/
theorem flushed12 (c : Dev nD) (t : Fin cfg0.N) :
    (dats m 0 c).flushed 12 t = (cfg0.win 12).cut (grid0.coords t) ((outsAt0 m c t.val t.isLt).1) := by
  show (cfg0.win 12).cut (grid0.coords t) ((dats m 0 c).after 12 t) = _
  rw [after0_12]

/-- The index map sends distinct grid points to distinct block indices (decided over the 16 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

theorem flushed13 (c : Dev nD) (t : Fin cfg0.N) :
    (dats m 0 c).flushed 13 t = (cfg0.win 13).cut (grid0.coords t) ((outsAt0 m c t.val t.isLt).2.1) := by
  show (cfg0.win 13).cut (grid0.coords t) ((dats m 0 c).after 13 t) = _
  rw [after0_13]

theorem idx_inj13 : ∀ t t' : Fin cfg0.N, win0_13.index t = win0_13.index t' → t = t' :=
  (by decide +kernel : ∀ t t' : Fin grid0.N, win0_13.index t = win0_13.index t' → t = t')

theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

theorem flushed14 (c : Dev nD) (t : Fin cfg0.N) :
    (dats m 0 c).flushed 14 t = (cfg0.win 14).cut (grid0.coords t) ((outsAt0 m c t.val t.isLt).2.2.1) := by
  show (cfg0.win 14).cut (grid0.coords t) ((dats m 0 c).after 14 t) = _
  rw [after0_14]

theorem idx_inj14 : ∀ t t' : Fin cfg0.N, win0_14.index t = win0_14.index t' → t = t' :=
  (by decide +kernel : ∀ t t' : Fin grid0.N, win0_14.index t = win0_14.index t' → t = t')

theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

theorem flushed15 (c : Dev nD) (t : Fin cfg0.N) :
    (dats m 0 c).flushed 15 t = (cfg0.win 15).cut (grid0.coords t) ((outsAt0 m c t.val t.isLt).2.2.2.1) := by
  show (cfg0.win 15).cut (grid0.coords t) ((dats m 0 c).after 15 t) = _
  rw [after0_15]

theorem idx_inj15 : ∀ t t' : Fin cfg0.N, win0_15.index t = win0_15.index t' → t = t' :=
  (by decide +kernel : ∀ t t' : Fin grid0.N, win0_15.index t = win0_15.index t' → t = t')

theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

theorem flushed16 (c : Dev nD) (t : Fin cfg0.N) :
    (dats m 0 c).flushed 16 t = (cfg0.win 16).cut (grid0.coords t) ((outsAt0 m c t.val t.isLt).2.2.2.2.1) := by
  show (cfg0.win 16).cut (grid0.coords t) ((dats m 0 c).after 16 t) = _
  rw [after0_16]

theorem flushed17 (c : Dev nD) (t : Fin cfg0.N) :
    (dats m 0 c).flushed 17 t = (cfg0.win 17).cut (grid0.coords t) ((outsAt0 m c t.val t.isLt).2.2.2.2.2.1) := by
  show (cfg0.win 17).cut (grid0.coords t) ((dats m 0 c).after 17 t) = _
  rw [after0_17]

theorem flushed18 (c : Dev nD) (t : Fin cfg0.N) :
    (dats m 0 c).flushed 18 t = (cfg0.win 18).cut (grid0.coords t) ((outsAt0 m c t.val t.isLt).2.2.2.2.2.2.1) := by
  show (cfg0.win 18).cut (grid0.coords t) ((dats m 0 c).after 18 t) = _
  rw [after0_18]

theorem flushed19 (c : Dev nD) (t : Fin cfg0.N) :
    (dats m 0 c).flushed 19 t = (cfg0.win 19).cut (grid0.coords t) ((outsAt0 m c t.val t.isLt).2.2.2.2.2.2.2.1) := by
  show (cfg0.win 19).cut (grid0.coords t) ((dats m 0 c).after 19 t) = _
  rw [after0_19]

theorem flushed20 (c : Dev nD) (t : Fin cfg0.N) :
    (dats m 0 c).flushed 20 t = (cfg0.win 20).cut (grid0.coords t) ((outsAt0 m c t.val t.isLt).2.2.2.2.2.2.2.2.1) := by
  show (cfg0.win 20).cut (grid0.coords t) ((dats m 0 c).after 20 t) = _
  rw [after0_20]

theorem flushed21 (c : Dev nD) (t : Fin cfg0.N) :
    (dats m 0 c).flushed 21 t = (cfg0.win 21).cut (grid0.coords t) ((outsAt0 m c t.val t.isLt).2.2.2.2.2.2.2.2.2.1) := by
  show (cfg0.win 21).cut (grid0.coords t) ((dats m 0 c).after 21 t) = _
  rw [after0_21]

theorem flushed22 (c : Dev nD) (t : Fin cfg0.N) :
    (dats m 0 c).flushed 22 t = (cfg0.win 22).cut (grid0.coords t) ((outsAt0 m c t.val t.isLt).2.2.2.2.2.2.2.2.2.2.1) := by
  show (cfg0.win 22).cut (grid0.coords t) ((dats m 0 c).after 22 t) = _
  rw [after0_22]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v21_0) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v21_1) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v21_2) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v21_3) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v21_4) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v21_5) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v21_6) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v21_7) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v21_8) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v21_9) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v21_10) = (dats m 0 c).arrAt 22 cfg0.N :=
  (h c).1 22

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 7).trans (((dats m 0 c).arrAt_in 7 rfl _).trans ((A_eq m c 7).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 9).trans (((dats m 0 c).arrAt_in 9 rfl _).trans ((A_eq m c 9).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 10).trans (((dats m 0 c).arrAt_in 10 rfl _).trans ((A_eq m c 10).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 11).trans (((dats m 0 c).arrAt_in 11 rfl _).trans ((A_eq m c 11).trans (V_main_arg9 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v21_0) = (dats m 0 c).arrAt 12 cfg0.N
      ∧ r.2.mem ((c : Thread nD τ).loc main_v21_1) = (dats m 0 c).arrAt 13 cfg0.N
      ∧ r.2.mem ((c : Thread nD τ).loc main_v21_2) = (dats m 0 c).arrAt 14 cfg0.N
      ∧ r.2.mem ((c : Thread nD τ).loc main_v21_3) = (dats m 0 c).arrAt 15 cfg0.N
      ∧ r.2.mem ((c : Thread nD τ).loc main_v21_4) = (dats m 0 c).arrAt 16 cfg0.N
      ∧ r.2.mem ((c : Thread nD τ).loc main_v21_5) = (dats m 0 c).arrAt 17 cfg0.N
      ∧ r.2.mem ((c : Thread nD τ).loc main_v21_6) = (dats m 0 c).arrAt 18 cfg0.N
      ∧ r.2.mem ((c : Thread nD τ).loc main_v21_7) = (dats m 0 c).arrAt 19 cfg0.N
      ∧ r.2.mem ((c : Thread nD τ).loc main_v21_8) = (dats m 0 c).arrAt 20 cfg0.N
      ∧ r.2.mem ((c : Thread nD τ).loc main_v21_9) = (dats m 0 c).arrAt 21 cfg0.N
      ∧ r.2.mem ((c : Thread nD τ).loc main_v21_10) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post12 m r h c,
      post13 m r h c,
      post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Value

end
-- ==== Proof.Same.lean ====
/- The kernel and its idealised form have the same text, so a run of the one over any floats is a run of the other. -/
module

public import proofs.«01_k».proof.Defs
public import proofs.«01_k».proof.Proof.Gen.Kernel
public import proofs.«01_k».proof.Proof.Ideal.Frame

@[expose] public section

set_option maxRecDepth 65536
set_option maxHeartbeats 4000000

noncomputable section

namespace Cert.Proof

open Idealize.ShloMosaic Idealize.SL.Sem

/-- The two host programs are the same. -/
theorem same_main : Cert.Kernel.main (F := Bits) = Cert.KernelIdeal.main (F := Bits) := rfl

/-- The two kernels' bodies are the same. -/
theorem same_bodies : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

/-- The two body tables, with the pipelines, are the same. -/
theorem same_defs : Cert.Kernel.defs (F := Bits) = Cert.KernelIdeal.defs (F := Bits) := by
  unfold Cert.Kernel.defs Cert.KernelIdeal.defs
  exact congrArg (Pipeline.defs (Cert.Kernel.pcfgs (F := Bits))) same_bodies

/-- The kernel leaves its arguments unchanged and every semaphore at zero: the idealised kernel's run, over the float words. -/
theorem kernel_frame : Cert.quiescent_Kernel := fun m g _ => by
  rw [same_defs, same_main]
  exact Cert.KernelIdeal.Gen.frame (F := Bits) m g

end Cert.Proof

end
-- ==== Proof.Ops.lean ====
/- The ideal operations on extended reals that are reals: each one's value is the real operation's, and the literals the
   programs hold are the reals named here. -/
module

public import Idealize.ShloMosaic.PureOps.Ideal
public import Idealize.ShloMosaic.PureOps.Ideal.Laws
public import Idealize.ShloMosaic.Lib.ValueIdx

@[expose] public section

noncomputable section

namespace FfnStep

open Idealize.ShloMosaic

/-- The factor of the residual branch, the rational its float word holds. -/
def alpha : ℝ := 9975792 / 8388608

/-- The number the variance of a norm is shifted by, the rational its float word holds. -/
def eps : ℝ := 10995116 / 1099511627776

theorem eps_pos : 0 < eps := by unfold eps; norm_num

theorem lit_zero : Ideal.ofBits .f32 0x00000000#32 = ((0 : ℝ) : EReal) := by
  simp
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_width : Ideal.ofBits .f32 0x44800000#32 = ((1024 : ℝ) : EReal) := by
  simp [Ideal.ofBits, Ideal.ieee, -EReal.coe_mul]; norm_num
theorem lit_inv_width : Ideal.ofBits .f32 0x3A800000#32 = ((1 / 1024 : ℝ) : EReal) := by
  simp [Ideal.ofBits, Ideal.ieee, -EReal.coe_mul]; norm_num
theorem lit_eps : Ideal.ofBits .f32 0x3727C5AC#32 = ((eps : ℝ) : EReal) := by
  simp [Ideal.ofBits, Ideal.ieee, eps, -EReal.coe_mul]; norm_num
theorem lit_alpha : Ideal.ofBits .f32 0x3F9837F0#32 = ((alpha : ℝ) : EReal) := by
  simp [Ideal.ofBits, Ideal.ieee, alpha, -EReal.coe_mul]; norm_num

variable {φ : FTy} {a b : EReal} {x y : ℝ}

theorem re_add (ha : a = (x : EReal)) (hb : b = (y : EReal)) : FloatOps.addf (F := Ideal) (φ := φ) a b = ((x + y : ℝ) : EReal) := by
  subst ha hb; exact (EReal.coe_add x y).symm
theorem re_sub (ha : a = (x : EReal)) (hb : b = (y : EReal)) : FloatOps.subf (F := Ideal) (φ := φ) a b = ((x - y : ℝ) : EReal) := by
  subst ha hb; exact (EReal.coe_sub x y).symm
theorem re_mul (ha : a = (x : EReal)) (hb : b = (y : EReal)) : FloatOps.mulf (F := Ideal) (φ := φ) a b = ((x * y : ℝ) : EReal) := by
  subst ha hb; exact (EReal.coe_mul x y).symm
theorem re_div (ha : a = (x : EReal)) (hb : b = (y : EReal)) (hy : y ≠ 0) :
    FloatOps.hostDivf (F := Ideal) (φ := φ) a b = ((x / y : ℝ) : EReal) := by
  subst ha hb; exact (Ideal.div_coe hy _).trans (by rw [← EReal.coe_mul, mul_one_div])
theorem re_kdiv (ha : a = (x : EReal)) (hb : b = (y : EReal)) (hy : y ≠ 0) :
    FloatOps.divf (F := Ideal) (φ := φ) a b = ((x / y : ℝ) : EReal) := by
  subst ha hb; exact (Ideal.div_coe hy _).trans (by rw [← EReal.coe_mul, mul_one_div])
theorem re_neg (ha : a = (x : EReal)) : FloatOps.hostNegf (F := Ideal) (φ := φ) a = ((-x : ℝ) : EReal) := by
  subst ha; exact (EReal.coe_neg x).symm
theorem re_exp (ha : a = (x : EReal)) : FloatOps.hostUnary (F := Ideal) (φ := φ) .exp a = ((Real.exp x : ℝ) : EReal) := by
  subst ha; exact Ideal.exp_coe x
theorem re_tanh (ha : a = (x : EReal)) : FloatOps.tanh (F := Ideal) (φ := φ) a = ((Real.tanh x : ℝ) : EReal) := by
  subst ha; exact Ideal.tanh_coe x
theorem ideal_rsqrt (hx : 0 < x) : Ideal.rsqrt (x : EReal) = (((√x)⁻¹ : ℝ) : EReal) := by
  rw [Ideal.rsqrt_coe, if_neg (not_lt.mpr hx.le), if_neg hx.ne']
theorem re_rsqrt (ha : a = (x : EReal)) (hx : 0 < x) :
    FloatOps.hostUnary (F := Ideal) (φ := φ) .rsqrt a = (((√x)⁻¹ : ℝ) : EReal) := by
  subst ha; exact ideal_rsqrt hx
theorem re_krsqrt (ha : a = (x : EReal)) (hx : 0 < x) :
    FloatOps.rsqrt (F := Ideal) (φ := φ) a = (((√x)⁻¹ : ℝ) : EReal) := by
  subst ha; exact ideal_rsqrt hx

/-- A sum of reals, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert k s hk ih => rw [Finset.sum_insert hk, Finset.sum_insert hk, ih, EReal.coe_add]

/-- A reduction's sum from a zero start, its terms real. -/
theorem re_sum {ι : Type} [Fintype ι] {c : EReal} {g : ι → EReal} {f : ι → ℝ} (hc : c = ((0 : ℝ) : EReal))
    (h : ∀ k, g k = ((f k : ℝ) : EReal)) : c + ∑ k, g k = ((∑ k, f k : ℝ) : EReal) := by
  rw [hc, Finset.sum_congr rfl (fun k _ => h k), coe_sum, EReal.coe_zero, zero_add]

/-- A product's sum, its terms products of reals. -/
theorem re_dot {ι : Type} [Fintype ι] {g g' : ι → EReal} {f f' : ι → ℝ}
    (h : ∀ k, g k = ((f k : ℝ) : EReal)) (h' : ∀ k, g' k = ((f' k : ℝ) : EReal)) :
    ∑ k, g k * g' k = ((∑ k, f k * f' k : ℝ) : EReal) := by
  rw [← coe_sum]
  exact Finset.sum_congr rfl fun k _ => by rw [h k, h' k, EReal.coe_mul]

end FfnStep
-- ==== Proof.Spec.lean ====
/- The mathematics of the step over the reals: the forward values of the first norm, the gated convolution and the second
   norm, and their gradients, as functions of a row and a column. -/
module

public import proofs.«01_k».proof.Proof.Ops

@[expose] public section

noncomputable section

namespace FfnStep

/-- The ten arguments as real tables: the input of the first norm, its scale and shift, the up projection, the
    convolution's taps and shift, the down projection, the second norm's scale and shift, the target. -/
structure Args where
  z : ℕ → ℕ → ℝ
  g1 : ℕ → ℕ → ℝ
  b1 : ℕ → ℕ → ℝ
  wu : ℕ → ℕ → ℝ
  cw : ℕ → ℕ → ℝ
  cb : ℕ → ℕ → ℝ
  wd : ℕ → ℕ → ℝ
  g2 : ℕ → ℕ → ℝ
  b2 : ℕ → ℕ → ℝ
  tg : ℕ → ℕ → ℝ

/-- A row's mean over its 1024 columns. -/
def mean (f : ℕ → ℝ) : ℝ := (∑ k : Fin 1024, f k.val) / 1024

variable (A : Args)

def mu (r : ℕ) : ℝ := mean fun c => A.z r c
def xc (r c : ℕ) : ℝ := A.z r c - mu A r
def vr (r : ℕ) : ℝ := (mean fun c => xc A r c * xc A r c) + eps
def rs (r : ℕ) : ℝ := (√(vr A r))⁻¹
def xh (r c : ℕ) : ℝ := xc A r c * rs A r
def n1 (r c : ℕ) : ℝ := xh A r c * A.g1 0 c + A.b1 0 c
def u (r c : ℕ) : ℝ := ∑ k : Fin 1024, n1 A r k.val * A.wu k.val c
/-- The gate's rows behind two rows of zeros. -/
def gp (r c : ℕ) : ℝ := if r < 2 then 0 else u A (r - 2) (2816 + c)
def hh (r c : ℕ) : ℝ := A.cb 0 c + (gp A r c * A.cw 0 c + gp A (r + 1) c * A.cw 1 c + gp A (r + 2) c * A.cw 2 c)
def sg (r c : ℕ) : ℝ := 1 / (1 + Real.exp (-hh A r c))
def act (r c : ℕ) : ℝ := hh A r c * sg A r c
def fv (r c : ℕ) : ℝ := act A r c * u A r c
def z2 (r c : ℕ) : ℝ := alpha * n1 A r c + ∑ k : Fin 2816, fv A r k.val * A.wd k.val c
def mu2 (r : ℕ) : ℝ := mean fun c => z2 A r c
def xc2 (r c : ℕ) : ℝ := z2 A r c - mu2 A r
def vr2 (r : ℕ) : ℝ := (mean fun c => xc2 A r c * xc2 A r c) + eps
def rs2 (r : ℕ) : ℝ := (√(vr2 A r))⁻¹
def xh2 (r c : ℕ) : ℝ := xc2 A r c * rs2 A r
def diff (r c : ℕ) : ℝ := xh2 A r c * A.g2 0 c + A.b2 0 c - A.tg r c
def sq (r : ℕ) : ℝ := ∑ k : Fin 1024, diff A r k.val * diff A r k.val
def loss : ℝ := 1 / 2 * ∑ r : Fin 4096, sq A r.val / 1024
def dy (r c : ℕ) : ℝ := diff A r c * (1 / 1024)
def dg2 (c : ℕ) : ℝ := ∑ r : Fin 4096, dy A r.val c * xh2 A r.val c
def db2 (c : ℕ) : ℝ := ∑ r : Fin 4096, dy A r.val c
def dyg (r c : ℕ) : ℝ := dy A r c * A.g2 0 c
def dz2 (r c : ℕ) : ℝ :=
  rs2 A r * (dyg A r c - mean (dyg A r) - xh2 A r c * mean fun k => dyg A r k * xh2 A r k)
def df (r c : ℕ) : ℝ := ∑ k : Fin 1024, dz2 A r k.val * A.wd c k.val
def dval (r c : ℕ) : ℝ := df A r c * act A r c
def dh (r c : ℕ) : ℝ := df A r c * (u A r c * (sg A r c + act A r c * (1 - sg A r c)))
/-- The convolution's gradient in front of rows of zeros. -/
def dhz (r c : ℕ) : ℝ := if r < 4096 then dh A r c else 0
def dgate (r c : ℕ) : ℝ := A.cw 2 c * dhz A r c + A.cw 1 c * dhz A (r + 1) c + A.cw 0 c * dhz A (r + 2) c
def du (r c : ℕ) : ℝ := if c < 2816 then dval A r c else dgate A r (c - 2816)
def dcb (c : ℕ) : ℝ := ∑ r : Fin 4096, dh A r.val c
def dcw (j c : ℕ) : ℝ := ∑ r : Fin 4096, gp A (r.val + j) c * dh A r.val c
def dx1 (r c : ℕ) : ℝ := alpha * dz2 A r c + ∑ k : Fin 5632, du A r k.val * A.wu c k.val
def dg1 (c : ℕ) : ℝ := ∑ r : Fin 4096, dx1 A r.val c * xh A r.val c
def db1 (c : ℕ) : ℝ := ∑ r : Fin 4096, dx1 A r.val c
def dxg (r c : ℕ) : ℝ := dx1 A r c * A.g1 0 c
def dz1 (r c : ℕ) : ℝ :=
  rs A r * (dxg A r c - mean (dxg A r) - xh A r c * mean fun k => dxg A r k * xh A r k)

/-! ### Facts -/

theorem mean_sq_nonneg (f : ℕ → ℝ) : 0 ≤ mean fun c => f c * f c :=
  div_nonneg (Finset.sum_nonneg fun _ _ => mul_self_nonneg _) (by norm_num)

theorem vr_pos (r : ℕ) : 0 < vr A r := add_pos_of_nonneg_of_pos (mean_sq_nonneg (xc A r)) eps_pos
theorem vr2_pos (r : ℕ) : 0 < vr2 A r := add_pos_of_nonneg_of_pos (mean_sq_nonneg (xc2 A r)) eps_pos

/-- A row less its mean sums to zero. -/
theorem sum_centred (f : ℕ → ℝ) : ∑ k : Fin 1024, (f k.val - mean f) = 0 := by
  rw [Finset.sum_sub_distrib, Finset.sum_const, Finset.card_univ, Fintype.card_fin, nsmul_eq_mul, mean]
  push_cast; ring

/-- The norm's gradient as differentiation writes it, term by term, is its closed form. -/
theorem norm_gradient (xc d : ℕ → ℝ) (v : ℝ) (hv : 0 < v) (h0 : ∑ k : Fin 1024, xc k.val = 0) (c : ℕ) :
    (d c * (√v)⁻¹
        + (∑ _j : Fin 1, ((∑ k : Fin 1024, xc k.val * d k.val) * (-(1 / 2) * ((√v)⁻¹ / v))) / 1024) * (2 * xc c))
      + (∑ _j : Fin 1, ((∑ k : Fin 1024, -(d k.val * (√v)⁻¹))
          + ∑ k : Fin 1024, -((∑ _j : Fin 1, ((∑ k : Fin 1024, xc k.val * d k.val) * (-(1 / 2) * ((√v)⁻¹ / v))) / 1024)
              * (2 * xc k.val))) / 1024)
      = (√v)⁻¹ * (d c - mean d - xc c * (√v)⁻¹ * mean fun k => d k * (xc k * (√v)⁻¹)) := by
  have hs : (√v)⁻¹ / v = (√v)⁻¹ * ((√v)⁻¹ * (√v)⁻¹) := by
    rw [← mul_inv, Real.mul_self_sqrt hv.le, div_eq_mul_inv]
  rw [hs]
  generalize (√v)⁻¹ = s
  have e1 : ∑ k : Fin 1024, -(d k.val * s) = -((∑ k : Fin 1024, d k.val) * s) := by
    rw [Finset.sum_neg_distrib, Finset.sum_mul]
  have e2 : ∀ q : ℝ, ∑ k : Fin 1024, -(q * (2 * xc k.val)) = 0 := fun q => by
    rw [Finset.sum_neg_distrib, ← Finset.mul_sum, ← Finset.mul_sum, h0]; simp
  have e3 : ∑ k : Fin 1024, d k.val * (xc k.val * s) = (∑ k : Fin 1024, xc k.val * d k.val) * s := by
    rw [Finset.sum_mul]; exact Finset.sum_congr rfl fun k _ => by ring
  simp only [Fin.sum_univ_one, mean]
  rw [e1, e2, e3]
  ring

/-- The logistic function by the hyperbolic tangent of half the argument. -/
theorem sg_eq_tanh (x : ℝ) : 1 / 2 * Real.tanh (1 / 2 * x) + 1 / 2 = 1 / (1 + Real.exp (-x)) := by
  have h1 : (0 : ℝ) < Real.exp (1 / 2 * x) := Real.exp_pos _
  have h2 : (0 : ℝ) < Real.exp (-(1 / 2 * x)) := Real.exp_pos _
  have h3 : Real.exp (-x) = Real.exp (-(1 / 2 * x)) * Real.exp (-(1 / 2 * x)) := by rw [← Real.exp_add]; ring_nf
  have h4 : Real.exp (1 / 2 * x) * Real.exp (-(1 / 2 * x)) = 1 := by rw [← Real.exp_add]; simp
  rw [Real.tanh_eq_sinh_div_cosh, Real.sinh_eq, Real.cosh_eq, h3]
  generalize Real.exp (1 / 2 * x) = p at *
  generalize Real.exp (-(1 / 2 * x)) = q at *
  have hp : p = q⁻¹ := eq_inv_of_mul_eq_one_left h4
  subst hp
  field_simp
  ring

/-- A tap's gradient, the gate's rows against the convolution's gradient so many rows later. -/
theorem dcw_shift (j c : ℕ) (hj : j ≤ 2) :
    ∑ r : Fin 4096, dhz A (r.val + (2 - j)) c * u A r.val (2816 + c) = dcw A j c := by
  have e1 : ∑ r : Fin 4096, dhz A (r.val + (2 - j)) c * u A r.val (2816 + c)
      = ∑ r ∈ Finset.range 4096, dhz A (r + (2 - j)) c * gp A (r + 2) c := by
    rw [Finset.sum_range]
    refine Finset.sum_congr rfl fun r _ => ?_
    rw [gp, if_neg (by omega), Nat.add_sub_cancel]
  have e2 : dcw A j c = ∑ r ∈ Finset.range 4096, dhz A r c * gp A (r + j) c := by
    rw [dcw, Finset.sum_range]
    refine Finset.sum_congr rfl fun r _ => ?_
    rw [dhz, if_pos r.isLt, mul_comm]
  rw [e1, e2]
  have z1 : ∀ r, 4096 ≤ r → dhz A r c = 0 := fun r h => by rw [dhz, if_neg (by omega)]
  have z2 : ∀ r, r < 2 → gp A r c = 0 := fun r h => by rw [gp, if_pos h]
  generalize dhz A = p at *
  generalize gp A = q at *
  interval_cases j
  · rw [show (4096 : ℕ) = 4094 + 1 + 1 from rfl, Finset.sum_range_succ _ (4094 + 1), Finset.sum_range_succ _ 4094,
      Finset.sum_range_succ' _ (4094 + 1), Finset.sum_range_succ' _ 4094]
    simp [z1, z2]
  · rw [show (4096 : ℕ) = 4095 + 1 from rfl, Finset.sum_range_succ _ 4095, Finset.sum_range_succ' _ 4095]
    simp [z1, z2]
  · rfl

end FfnStep
-- ==== Proof.RefForward.lean ====
/- The reference's operations one by one, up to the step's difference from its target: each value at an index is the real table's entry. -/
module

public import proofs.«01_k».proof.Proof.Spec
public import proofs.«01_k».proof.Proof.Gen.ReferenceIdeal.Read
public import Idealize.ShloMosaic.Lib.KernelVsHost

@[expose] public section

set_option maxRecDepth 16384

noncomputable section

namespace FfnStep.Ref

open Idealize.ShloMosaic Idealize.ShloMosaic.ValueIdx Cert.ReferenceIdeal Cert.ReferenceIdeal.Gen Cert.ReferenceIdeal.Read

variable {A : Args} {x0 : (⟨S4096x1024, .f32⟩ : BufTy).Contents (Elt Ideal)}
  {x1 x2 : (⟨S1x1024, .f32⟩ : BufTy).Contents (Elt Ideal)} {x3 : (⟨S1024x5632, .f32⟩ : BufTy).Contents (Elt Ideal)}
  {x4 : (⟨S3x2816, .f32⟩ : BufTy).Contents (Elt Ideal)} {x5 : (⟨S1x2816, .f32⟩ : BufTy).Contents (Elt Ideal)}
  {x6 : (⟨S2816x1024, .f32⟩ : BufTy).Contents (Elt Ideal)} {x7 x8 : (⟨S1x1024, .f32⟩ : BufTy).Contents (Elt Ideal)}
  {x9 : (⟨S4096x1024, .f32⟩ : BufTy).Contents (Elt Ideal)}

/-- The ten argument arrays hold the real tables of `A`. -/
structure Reads (A : Args) (x0 : (⟨S4096x1024, .f32⟩ : BufTy).Contents (Elt Ideal))
    (x1 x2 : (⟨S1x1024, .f32⟩ : BufTy).Contents (Elt Ideal)) (x3 : (⟨S1024x5632, .f32⟩ : BufTy).Contents (Elt Ideal))
    (x4 : (⟨S3x2816, .f32⟩ : BufTy).Contents (Elt Ideal)) (x5 : (⟨S1x2816, .f32⟩ : BufTy).Contents (Elt Ideal))
    (x6 : (⟨S2816x1024, .f32⟩ : BufTy).Contents (Elt Ideal)) (x7 x8 : (⟨S1x1024, .f32⟩ : BufTy).Contents (Elt Ideal))
    (x9 : (⟨S4096x1024, .f32⟩ : BufTy).Contents (Elt Ideal)) : Prop where
  z : ∀ i, x0 i = ((A.z (i 0).val (i 1).val : ℝ) : EReal)
  g1 : ∀ i, x1 i = ((A.g1 (i 0).val (i 1).val : ℝ) : EReal)
  b1 : ∀ i, x2 i = ((A.b1 (i 0).val (i 1).val : ℝ) : EReal)
  wu : ∀ i, x3 i = ((A.wu (i 0).val (i 1).val : ℝ) : EReal)
  cw : ∀ i, x4 i = ((A.cw (i 0).val (i 1).val : ℝ) : EReal)
  cb : ∀ i, x5 i = ((A.cb (i 0).val (i 1).val : ℝ) : EReal)
  wd : ∀ i, x6 i = ((A.wd (i 0).val (i 1).val : ℝ) : EReal)
  g2 : ∀ i, x7 i = ((A.g2 (i 0).val (i 1).val : ℝ) : EReal)
  b2 : ∀ i, x8 i = ((A.b2 (i 0).val (i 1).val : ℝ) : EReal)
  tg : ∀ i, x9 i = ((A.tg (i 0).val (i 1).val : ℝ) : EReal)

theorem r_cst (i : S_.Idx) :
    val_main_cst (F := Ideal) i = ((0 : ℝ) : EReal) :=
  (val_main_cst_apply i).trans lit_zero

variable (h : Reads A x0 x1 x2 x3 x4 x5 x6 x7 x8 x9)

include h

theorem r_v0 (i : S4096.Idx) :
    val_main_v0 (F := Ideal) x0 i = ((∑ k : Fin 1024, (A.z (i 0).val k.val) : ℝ) : EReal) :=
  (val_main_v0_apply x0 i).trans (re_sum (r_cst _) (fun k => h.z _))

theorem r_v1 (i : S4096x1.Idx) :
    val_main_v1 (F := Ideal) x0 i = ((∑ k : Fin 1024, (A.z (i 0).val k.val) : ℝ) : EReal) :=
  (val_main_v1_apply x0 i).trans (r_v0 h _)

omit h in
theorem r_cst_0 (i : S_.Idx) :
    val_main_cst_0 (F := Ideal) i = ((1024 : ℝ) : EReal) :=
  (val_main_cst_0_apply i).trans lit_width

omit h in
theorem r_v2 (i : S4096x1.Idx) :
    val_main_v2 (F := Ideal) i = ((1024 : ℝ) : EReal) :=
  (val_main_v2_apply i).trans (r_cst_0 _)

theorem r_v3 (i : S4096x1.Idx) :
    val_main_v3 (F := Ideal) x0 i = ((mu A (i 0).val : ℝ) : EReal) :=
  (val_main_v3_apply x0 i).trans (re_div (r_v1 h i) (r_v2 i) (by norm_num))

theorem r_v4 (i : S4096x1024.Idx) :
    val_main_v4 (F := Ideal) x0 i = ((mu A (i 0).val : ℝ) : EReal) :=
  (val_main_v4_apply x0 i).trans (r_v3 h _)

theorem r_v5 (i : S4096x1024.Idx) :
    val_main_v5 (F := Ideal) x0 i = ((xc A (i 0).val (i 1).val : ℝ) : EReal) :=
  (val_main_v5_apply x0 i).trans (re_sub (h.z i) (r_v4 h i))

theorem r_v6 (i : S4096x1024.Idx) :
    val_main_v6 (F := Ideal) x0 i = (((xc A (i 0).val (i 1).val) * (xc A (i 0).val (i 1).val) : ℝ) : EReal) :=
  (val_main_v6_apply x0 i).trans (re_mul (r_v5 h i) (r_v5 h i))

omit h in
theorem r_cst_1 (i : S_.Idx) :
    val_main_cst_1 (F := Ideal) i = ((2 : ℝ) : EReal) :=
  (val_main_cst_1_apply i).trans lit_two

omit h in
theorem r_v7 (i : S4096x1024.Idx) :
    val_main_v7 (F := Ideal) i = ((2 : ℝ) : EReal) :=
  (val_main_v7_apply i).trans (r_cst_1 _)

theorem r_v8 (i : S4096x1024.Idx) :
    val_main_v8 (F := Ideal) x0 i = ((2 * (xc A (i 0).val (i 1).val) : ℝ) : EReal) :=
  (val_main_v8_apply x0 i).trans (re_mul (r_v7 i) (r_v5 h i))

omit h in
theorem r_cst_2 (i : S_.Idx) :
    val_main_cst_2 (F := Ideal) i = ((0 : ℝ) : EReal) :=
  (val_main_cst_2_apply i).trans lit_zero

theorem r_v9 (i : S4096.Idx) :
    val_main_v9 (F := Ideal) x0 i = ((∑ k : Fin 1024, ((xc A (i 0).val k.val) * (xc A (i 0).val k.val)) : ℝ) : EReal) :=
  (val_main_v9_apply x0 i).trans (re_sum (r_cst_2 _) (fun k => r_v6 h _))

theorem r_v10 (i : S4096x1.Idx) :
    val_main_v10 (F := Ideal) x0 i = ((∑ k : Fin 1024, ((xc A (i 0).val k.val) * (xc A (i 0).val k.val)) : ℝ) : EReal) :=
  (val_main_v10_apply x0 i).trans (r_v9 h _)

omit h in
theorem r_cst_3 (i : S_.Idx) :
    val_main_cst_3 (F := Ideal) i = ((1024 : ℝ) : EReal) :=
  (val_main_cst_3_apply i).trans lit_width

omit h in
theorem r_v11 (i : S4096x1.Idx) :
    val_main_v11 (F := Ideal) i = ((1024 : ℝ) : EReal) :=
  (val_main_v11_apply i).trans (r_cst_3 _)

theorem r_v12 (i : S4096x1.Idx) :
    val_main_v12 (F := Ideal) x0 i = (((∑ k : Fin 1024, ((xc A (i 0).val k.val) * (xc A (i 0).val k.val))) / 1024 : ℝ) : EReal) :=
  (val_main_v12_apply x0 i).trans (re_div (r_v10 h i) (r_v11 i) (by norm_num))

theorem r_v13 (i : S4096x1024.Idx) :
    val_main_v13 (F := Ideal) x0 i = ((mu A (i 0).val : ℝ) : EReal) :=
  (val_main_v13_apply x0 i).trans (r_v3 h _)

theorem r_v14 (i : S4096x1024.Idx) :
    val_main_v14 (F := Ideal) x0 i = ((xc A (i 0).val (i 1).val : ℝ) : EReal) :=
  (val_main_v14_apply x0 i).trans (re_sub (h.z i) (r_v13 h i))

omit h in
theorem r_cst_4 (i : S_.Idx) :
    val_main_cst_4 (F := Ideal) i = ((eps : ℝ) : EReal) :=
  (val_main_cst_4_apply i).trans lit_eps

omit h in
theorem r_v15 (i : S4096x1.Idx) :
    val_main_v15 (F := Ideal) i = ((eps : ℝ) : EReal) :=
  (val_main_v15_apply i).trans (r_cst_4 _)

theorem r_v16 (i : S4096x1.Idx) :
    val_main_v16 (F := Ideal) x0 i = ((vr A (i 0).val : ℝ) : EReal) :=
  (val_main_v16_apply x0 i).trans (re_add (r_v12 h i) (r_v15 i))

theorem r_v17 (i : S4096x1.Idx) :
    val_main_v17 (F := Ideal) x0 i = ((rs A (i 0).val : ℝ) : EReal) :=
  (val_main_v17_apply x0 i).trans (re_rsqrt (r_v16 h i) (vr_pos A _))

theorem r_v18 (i : S4096x1.Idx) :
    val_main_v18 (F := Ideal) x0 i = (((rs A (i 0).val) / (vr A (i 0).val) : ℝ) : EReal) :=
  (val_main_v18_apply x0 i).trans (re_div (r_v17 h i) (r_v16 h i) (vr_pos A _).ne')

omit h in
theorem r_cst_5 (i : S_.Idx) :
    val_main_cst_5 (F := Ideal) i = (((-(1 / 2)) : ℝ) : EReal) :=
  (val_main_cst_5_apply i).trans lit_neg_half

omit h in
theorem r_v19 (i : S4096x1.Idx) :
    val_main_v19 (F := Ideal) i = (((-(1 / 2)) : ℝ) : EReal) :=
  (val_main_v19_apply i).trans (r_cst_5 _)

theorem r_v20 (i : S4096x1.Idx) :
    val_main_v20 (F := Ideal) x0 i = ((((-(1 / 2))) * ((rs A (i 0).val) / (vr A (i 0).val)) : ℝ) : EReal) :=
  (val_main_v20_apply x0 i).trans (re_mul (r_v19 i) (r_v18 h i))

theorem r_v21 (i : S4096x1024.Idx) :
    val_main_v21 (F := Ideal) x0 i = ((rs A (i 0).val : ℝ) : EReal) :=
  (val_main_v21_apply x0 i).trans (r_v17 h _)

theorem r_v22 (i : S4096x1024.Idx) :
    val_main_v22 (F := Ideal) x0 i = ((xh A (i 0).val (i 1).val : ℝ) : EReal) :=
  (val_main_v22_apply x0 i).trans (re_mul (r_v14 h i) (r_v21 h i))

theorem r_v23 (i : S4096x1024.Idx) :
    val_main_v23 (F := Ideal) x1 i = ((A.g1 0 (i 1).val : ℝ) : EReal) :=
  (val_main_v23_apply x1 i).trans (h.g1 _)

theorem r_v24 (i : S4096x1024.Idx) :
    val_main_v24 (F := Ideal) x0 x1 i = (((xh A (i 0).val (i 1).val) * (A.g1 0 (i 1).val) : ℝ) : EReal) :=
  (val_main_v24_apply x0 x1 i).trans (re_mul (r_v22 h i) (r_v23 h i))

theorem r_v25 (i : S4096x1024.Idx) :
    val_main_v25 (F := Ideal) x2 i = ((A.b1 0 (i 1).val : ℝ) : EReal) :=
  (val_main_v25_apply x2 i).trans (h.b1 _)

theorem r_v26 (i : S4096x1024.Idx) :
    val_main_v26 (F := Ideal) x0 x1 x2 i = ((n1 A (i 0).val (i 1).val : ℝ) : EReal) :=
  (val_main_v26_apply ..).trans (re_add (r_v24 h i) (r_v25 h i))

theorem r_v27 (i : S4096x5632.Idx) :
    val_main_v27 (F := Ideal) x0 x1 x2 x3 i = ((u A (i 0).val (i 1).val : ℝ) : EReal) :=
  (val_main_v27_apply ..).trans (re_dot (fun k => r_v26 h _) (fun k => h.wu _))

theorem r_v28 (i : S4096x2816.Idx) :
    val_main_v28 (F := Ideal) x0 x1 x2 x3 i = ((u A (i 0).val (i 1).val : ℝ) : EReal) :=
  (val_main_v28_apply ..).trans (r_v27 h _)

theorem r_v29 (i : S4096x2816.Idx) :
    val_main_v29 (F := Ideal) x0 x1 x2 x3 i = ((u A (i 0).val (2816 + (i 1).val) : ℝ) : EReal) :=
  (val_main_v29_apply ..).trans (r_v27 h _)

omit h in
theorem r_cst_6 (i : S_.Idx) :
    val_main_cst_6 (F := Ideal) i = ((0 : ℝ) : EReal) :=
  (val_main_cst_6_apply i).trans lit_zero

omit h in
theorem r_v30 (i : S2x2816.Idx) :
    val_main_v30 (F := Ideal) i = ((0 : ℝ) : EReal) :=
  (val_main_v30_apply i).trans (r_cst_6 _)

theorem r_v31 (i : S4098x2816.Idx) :
    val_main_v31 (F := Ideal) x0 x1 x2 x3 i = ((gp A (i 0).val (i 1).val : ℝ) : EReal) := by
  have h0 : (i 0).val < 4098 := (i 0).isLt
  unfold val_main_v31
  by_cases hr : (i 0).val < 2
  · rw [concatenate_pair_apply_left (t := S4098x2816) (s₁ := S2x2816) (s₂ := S4096x2816) 0 _ _ _ i rfl (ix2 (n0 := 2) (n1 := 2816) ⟨(i 0).val, hr⟩ (i 1)) (fun b => match b with | ⟨0, _⟩ => rfl | ⟨1, _⟩ => rfl)]
    exact (r_v30 _).trans (by rw [gp, if_pos hr])
  · rw [concatenate_pair_apply_right (t := S4098x2816) (s₁ := S2x2816) (s₂ := S4096x2816) 0 _ _ _ i rfl rfl (ix2 (n0 := 4096) (n1 := 2816) ⟨(i 0).val - 2, by omega⟩ (i 1))
      (fun b hb => match b, hb with | ⟨0, _⟩, hb => absurd rfl hb | ⟨1, _⟩, _ => rfl) (by show (i 0).val - 2 + 2 = (i 0).val; omega)]
    exact (r_v29 h _).trans (by rw [gp, if_neg hr])

omit h in
theorem r_cst_7 (i : S_.Idx) :
    val_main_cst_7 (F := Ideal) i = ((0 : ℝ) : EReal) :=
  (val_main_cst_7_apply i).trans lit_zero

theorem r_v33 (i : S4096x2816.Idx) :
    val_main_v33 (F := Ideal) x0 x1 x2 x3 i = ((gp A (i 0).val (i 1).val : ℝ) : EReal) :=
  (val_main_v33_apply ..).trans (r_v31 h _)

theorem r_v34 (i : S1x2816.Idx) :
    val_main_v34 (F := Ideal) x4 i = ((A.cw (i 0).val (i 1).val : ℝ) : EReal) :=
  (val_main_v34_apply x4 i).trans (h.cw _)

theorem r_v35 (i : S4096x2816.Idx) :
    val_main_v35 (F := Ideal) x4 i = ((A.cw 0 (i 1).val : ℝ) : EReal) :=
  (val_main_v35_apply x4 i).trans (r_v34 h _)

theorem r_v36 (i : S4096x2816.Idx) :
    val_main_v36 (F := Ideal) x0 x1 x2 x3 x4 i = (((gp A (i 0).val (i 1).val) * (A.cw 0 (i 1).val) : ℝ) : EReal) :=
  (val_main_v36_apply ..).trans (re_mul (r_v33 h i) (r_v35 h i))

omit h in
theorem r_cst_8 (i : S_.Idx) :
    val_main_cst_8 (F := Ideal) i = ((0 : ℝ) : EReal) :=
  (val_main_cst_8_apply i).trans lit_zero

omit h in
theorem r_v37 (i : S4096x2816.Idx) :
    val_main_v37 (F := Ideal) i = ((0 : ℝ) : EReal) :=
  (val_main_v37_apply i).trans (r_cst_8 _)

theorem r_v38 (i : S4096x2816.Idx) :
    val_main_v38 (F := Ideal) x0 x1 x2 x3 x4 i = ((0 + ((gp A (i 0).val (i 1).val) * (A.cw 0 (i 1).val)) : ℝ) : EReal) :=
  (val_main_v38_apply ..).trans (re_add (r_v37 i) (r_v36 h i))

theorem r_v39 (i : S4096x2816.Idx) :
    val_main_v39 (F := Ideal) x0 x1 x2 x3 i = ((gp A ((i 0).val + 1) (i 1).val : ℝ) : EReal) :=
  ((val_main_v39_apply ..).trans (r_v31 h _) : _ = ((gp A (1 + (i 0).val) (i 1).val : ℝ) : EReal)).trans (congrArg (fun x : ℝ => (x : EReal)) (by
    rw [Nat.add_comm]))

theorem r_v40 (i : S1x2816.Idx) :
    val_main_v40 (F := Ideal) x4 i = ((A.cw (1 + (i 0).val) (i 1).val : ℝ) : EReal) :=
  (val_main_v40_apply x4 i).trans (h.cw _)

theorem r_v41 (i : S4096x2816.Idx) :
    val_main_v41 (F := Ideal) x4 i = ((A.cw (1 + 0) (i 1).val : ℝ) : EReal) :=
  (val_main_v41_apply x4 i).trans (r_v40 h _)

theorem r_v42 (i : S4096x2816.Idx) :
    val_main_v42 (F := Ideal) x0 x1 x2 x3 x4 i = (((gp A ((i 0).val + 1) (i 1).val) * (A.cw (1 + 0) (i 1).val) : ℝ) : EReal) :=
  (val_main_v42_apply ..).trans (re_mul (r_v39 h i) (r_v41 h i))

theorem r_v43 (i : S4096x2816.Idx) :
    val_main_v43 (F := Ideal) x0 x1 x2 x3 x4 i = (((0 + ((gp A (i 0).val (i 1).val) * (A.cw 0 (i 1).val))) + ((gp A ((i 0).val + 1) (i 1).val) * (A.cw (1 + 0) (i 1).val)) : ℝ) : EReal) :=
  (val_main_v43_apply ..).trans (re_add (r_v38 h i) (r_v42 h i))

theorem r_v44 (i : S4096x2816.Idx) :
    val_main_v44 (F := Ideal) x0 x1 x2 x3 i = ((gp A ((i 0).val + 2) (i 1).val : ℝ) : EReal) :=
  ((val_main_v44_apply ..).trans (r_v31 h _) : _ = ((gp A (2 + (i 0).val) (i 1).val : ℝ) : EReal)).trans (congrArg (fun x : ℝ => (x : EReal)) (by
    rw [Nat.add_comm]))

theorem r_v45 (i : S1x2816.Idx) :
    val_main_v45 (F := Ideal) x4 i = ((A.cw (2 + (i 0).val) (i 1).val : ℝ) : EReal) :=
  (val_main_v45_apply x4 i).trans (h.cw _)

theorem r_v46 (i : S4096x2816.Idx) :
    val_main_v46 (F := Ideal) x4 i = ((A.cw (2 + 0) (i 1).val : ℝ) : EReal) :=
  (val_main_v46_apply x4 i).trans (r_v45 h _)

theorem r_v47 (i : S4096x2816.Idx) :
    val_main_v47 (F := Ideal) x0 x1 x2 x3 x4 i = (((gp A ((i 0).val + 2) (i 1).val) * (A.cw (2 + 0) (i 1).val) : ℝ) : EReal) :=
  (val_main_v47_apply ..).trans (re_mul (r_v44 h i) (r_v46 h i))

theorem r_v48 (i : S4096x2816.Idx) :
    val_main_v48 (F := Ideal) x0 x1 x2 x3 x4 i = ((((0 + ((gp A (i 0).val (i 1).val) * (A.cw 0 (i 1).val))) + ((gp A ((i 0).val + 1) (i 1).val) * (A.cw (1 + 0) (i 1).val))) + ((gp A ((i 0).val + 2) (i 1).val) * (A.cw (2 + 0) (i 1).val)) : ℝ) : EReal) :=
  (val_main_v48_apply ..).trans (re_add (r_v43 h i) (r_v47 h i))

theorem r_v49 (i : S4096x2816.Idx) :
    val_main_v49 (F := Ideal) x5 i = ((A.cb 0 (i 1).val : ℝ) : EReal) :=
  (val_main_v49_apply x5 i).trans (h.cb _)

theorem r_v50 (i : S4096x2816.Idx) :
    val_main_v50 (F := Ideal) x0 x1 x2 x3 x4 x5 i = ((hh A (i 0).val (i 1).val : ℝ) : EReal) :=
  ((val_main_v50_apply ..).trans (re_add (r_v49 h i) (r_v48 h i)) : _ = (((A.cb 0 (i 1).val) + (((0 + ((gp A (i 0).val (i 1).val) * (A.cw 0 (i 1).val))) + ((gp A ((i 0).val + 1) (i 1).val) * (A.cw (1 + 0) (i 1).val))) + ((gp A ((i 0).val + 2) (i 1).val) * (A.cw (2 + 0) (i 1).val))) : ℝ) : EReal)).trans (congrArg (fun x : ℝ => (x : EReal)) (by
    unfold hh; ring))

theorem r_call0_v0 (i : S4096x2816.Idx) :
    val_main_call0_v0 (F := Ideal) x0 x1 x2 x3 x4 x5 i = ((-(hh A (i 0).val (i 1).val) : ℝ) : EReal) :=
  (val_main_call0_v0_apply ..).trans (re_neg (r_v50 h i))

theorem r_call0_v1 (i : S4096x2816.Idx) :
    val_main_call0_v1 (F := Ideal) x0 x1 x2 x3 x4 x5 i = ((Real.exp (-(hh A (i 0).val (i 1).val)) : ℝ) : EReal) :=
  (val_main_call0_v1_apply ..).trans (re_exp (r_call0_v0 h i))

omit h in
theorem r_call0_cst (i : S_.Idx) :
    val_main_call0_cst (F := Ideal) i = ((1 : ℝ) : EReal) :=
  (val_main_call0_cst_apply i).trans lit_one

omit h in
theorem r_call0_v2 (i : S4096x2816.Idx) :
    val_main_call0_v2 (F := Ideal) i = ((1 : ℝ) : EReal) :=
  (val_main_call0_v2_apply i).trans (r_call0_cst _)

theorem r_call0_v3 (i : S4096x2816.Idx) :
    val_main_call0_v3 (F := Ideal) x0 x1 x2 x3 x4 x5 i = ((1 + (Real.exp (-(hh A (i 0).val (i 1).val))) : ℝ) : EReal) :=
  (val_main_call0_v3_apply ..).trans (re_add (r_call0_v2 i) (r_call0_v1 h i))

omit h in
theorem r_call0_cst_0 (i : S_.Idx) :
    val_main_call0_cst_0 (F := Ideal) i = ((1 : ℝ) : EReal) :=
  (val_main_call0_cst_0_apply i).trans lit_one

omit h in
theorem r_call0_v4 (i : S4096x2816.Idx) :
    val_main_call0_v4 (F := Ideal) i = ((1 : ℝ) : EReal) :=
  (val_main_call0_v4_apply i).trans (r_call0_cst_0 _)

theorem r_v51_2 (i : S4096x2816.Idx) :
    val_main_v51_2 (F := Ideal) x0 x1 x2 x3 x4 x5 i = ((sg A (i 0).val (i 1).val : ℝ) : EReal) :=
  (val_main_v51_2_apply ..).trans (re_div (r_call0_v4 i) (r_call0_v3 h i) (by positivity))

omit h in
theorem r_call0_cst_1 (i : S_.Idx) :
    val_main_call0_cst_1 (F := Ideal) i = ((1 : ℝ) : EReal) :=
  (val_main_call0_cst_1_apply i).trans lit_one

omit h in
theorem r_call0_v6 (i : S4096x2816.Idx) :
    val_main_call0_v6 (F := Ideal) i = ((1 : ℝ) : EReal) :=
  (val_main_call0_v6_apply i).trans (r_call0_cst_1 _)

theorem r_call0_v7 (i : S4096x2816.Idx) :
    val_main_call0_v7 (F := Ideal) x0 x1 x2 x3 x4 x5 i = ((1 - (sg A (i 0).val (i 1).val) : ℝ) : EReal) :=
  (val_main_call0_v7_apply ..).trans (re_sub (r_call0_v6 i) (r_v51_2 h i))

theorem r_v51_1 (i : S4096x2816.Idx) :
    val_main_v51_1 (F := Ideal) x0 x1 x2 x3 x4 x5 i = (((sg A (i 0).val (i 1).val) * (1 - (sg A (i 0).val (i 1).val)) : ℝ) : EReal) :=
  (val_main_v51_1_apply ..).trans (re_mul (r_v51_2 h i) (r_call0_v7 h i))

theorem r_v51_0 (i : S4096x2816.Idx) :
    val_main_v51_0 (F := Ideal) x0 x1 x2 x3 x4 x5 i = ((act A (i 0).val (i 1).val : ℝ) : EReal) :=
  (val_main_v51_0_apply ..).trans (re_mul (r_v50 h i) (r_v51_2 h i))

theorem r_v52 (i : S4096x2816.Idx) :
    val_main_v52 (F := Ideal) x0 x1 x2 x3 x4 x5 i = ((fv A (i 0).val (i 1).val : ℝ) : EReal) :=
  (val_main_v52_apply ..).trans (re_mul (r_v51_0 h i) (r_v28 h i))

omit h in
theorem r_cst_9 (i : S_.Idx) :
    val_main_cst_9 (F := Ideal) i = ((alpha : ℝ) : EReal) :=
  (val_main_cst_9_apply i).trans lit_alpha

omit h in
theorem r_v53 (i : S4096x1024.Idx) :
    val_main_v53 (F := Ideal) i = ((alpha : ℝ) : EReal) :=
  (val_main_v53_apply i).trans (r_cst_9 _)

theorem r_v54 (i : S4096x1024.Idx) :
    val_main_v54 (F := Ideal) x0 x1 x2 i = ((alpha * (n1 A (i 0).val (i 1).val) : ℝ) : EReal) :=
  (val_main_v54_apply ..).trans (re_mul (r_v53 i) (r_v26 h i))

theorem r_v55 (i : S4096x1024.Idx) :
    val_main_v55 (F := Ideal) x0 x1 x2 x3 x4 x5 x6 i = ((∑ k : Fin 2816, (fv A (i 0).val k.val) * (A.wd k.val (i 1).val) : ℝ) : EReal) :=
  (val_main_v55_apply ..).trans (re_dot (fun k => r_v52 h _) (fun k => h.wd _))

theorem r_v56 (i : S4096x1024.Idx) :
    val_main_v56 (F := Ideal) x0 x1 x2 x3 x4 x5 x6 i = ((z2 A (i 0).val (i 1).val : ℝ) : EReal) :=
  (val_main_v56_apply ..).trans (re_add (r_v54 h i) (r_v55 h i))

omit h in
theorem r_cst_10 (i : S_.Idx) :
    val_main_cst_10 (F := Ideal) i = ((0 : ℝ) : EReal) :=
  (val_main_cst_10_apply i).trans lit_zero

theorem r_v57 (i : S4096.Idx) :
    val_main_v57 (F := Ideal) x0 x1 x2 x3 x4 x5 x6 i = ((∑ k : Fin 1024, (z2 A (i 0).val k.val) : ℝ) : EReal) :=
  (val_main_v57_apply ..).trans (re_sum (r_cst_10 _) (fun k => r_v56 h _))

theorem r_v58 (i : S4096x1.Idx) :
    val_main_v58 (F := Ideal) x0 x1 x2 x3 x4 x5 x6 i = ((∑ k : Fin 1024, (z2 A (i 0).val k.val) : ℝ) : EReal) :=
  (val_main_v58_apply ..).trans (r_v57 h _)

omit h in
theorem r_cst_11 (i : S_.Idx) :
    val_main_cst_11 (F := Ideal) i = ((1024 : ℝ) : EReal) :=
  (val_main_cst_11_apply i).trans lit_width

omit h in
theorem r_v59 (i : S4096x1.Idx) :
    val_main_v59 (F := Ideal) i = ((1024 : ℝ) : EReal) :=
  (val_main_v59_apply i).trans (r_cst_11 _)

theorem r_v60 (i : S4096x1.Idx) :
    val_main_v60 (F := Ideal) x0 x1 x2 x3 x4 x5 x6 i = ((mu2 A (i 0).val : ℝ) : EReal) :=
  (val_main_v60_apply ..).trans (re_div (r_v58 h i) (r_v59 i) (by norm_num))

theorem r_v61 (i : S4096x1024.Idx) :
    val_main_v61 (F := Ideal) x0 x1 x2 x3 x4 x5 x6 i = ((mu2 A (i 0).val : ℝ) : EReal) :=
  (val_main_v61_apply ..).trans (r_v60 h _)

theorem r_v62 (i : S4096x1024.Idx) :
    val_main_v62 (F := Ideal) x0 x1 x2 x3 x4 x5 x6 i = ((xc2 A (i 0).val (i 1).val : ℝ) : EReal) :=
  (val_main_v62_apply ..).trans (re_sub (r_v56 h i) (r_v61 h i))

theorem r_v63 (i : S4096x1024.Idx) :
    val_main_v63 (F := Ideal) x0 x1 x2 x3 x4 x5 x6 i = (((xc2 A (i 0).val (i 1).val) * (xc2 A (i 0).val (i 1).val) : ℝ) : EReal) :=
  (val_main_v63_apply ..).trans (re_mul (r_v62 h i) (r_v62 h i))

omit h in
theorem r_cst_12 (i : S_.Idx) :
    val_main_cst_12 (F := Ideal) i = ((2 : ℝ) : EReal) :=
  (val_main_cst_12_apply i).trans lit_two

omit h in
theorem r_v64 (i : S4096x1024.Idx) :
    val_main_v64 (F := Ideal) i = ((2 : ℝ) : EReal) :=
  (val_main_v64_apply i).trans (r_cst_12 _)

theorem r_v65 (i : S4096x1024.Idx) :
    val_main_v65 (F := Ideal) x0 x1 x2 x3 x4 x5 x6 i = ((2 * (xc2 A (i 0).val (i 1).val) : ℝ) : EReal) :=
  (val_main_v65_apply ..).trans (re_mul (r_v64 i) (r_v62 h i))

omit h in
theorem r_cst_13 (i : S_.Idx) :
    val_main_cst_13 (F := Ideal) i = ((0 : ℝ) : EReal) :=
  (val_main_cst_13_apply i).trans lit_zero

theorem r_v66 (i : S4096.Idx) :
    val_main_v66 (F := Ideal) x0 x1 x2 x3 x4 x5 x6 i = ((∑ k : Fin 1024, ((xc2 A (i 0).val k.val) * (xc2 A (i 0).val k.val)) : ℝ) : EReal) :=
  (val_main_v66_apply ..).trans (re_sum (r_cst_13 _) (fun k => r_v63 h _))

theorem r_v67 (i : S4096x1.Idx) :
    val_main_v67 (F := Ideal) x0 x1 x2 x3 x4 x5 x6 i = ((∑ k : Fin 1024, ((xc2 A (i 0).val k.val) * (xc2 A (i 0).val k.val)) : ℝ) : EReal) :=
  (val_main_v67_apply ..).trans (r_v66 h _)

omit h in
theorem r_cst_14 (i : S_.Idx) :
    val_main_cst_14 (F := Ideal) i = ((1024 : ℝ) : EReal) :=
  (val_main_cst_14_apply i).trans lit_width

omit h in
theorem r_v68 (i : S4096x1.Idx) :
    val_main_v68 (F := Ideal) i = ((1024 : ℝ) : EReal) :=
  (val_main_v68_apply i).trans (r_cst_14 _)

theorem r_v69 (i : S4096x1.Idx) :
    val_main_v69 (F := Ideal) x0 x1 x2 x3 x4 x5 x6 i = (((∑ k : Fin 1024, ((xc2 A (i 0).val k.val) * (xc2 A (i 0).val k.val))) / 1024 : ℝ) : EReal) :=
  (val_main_v69_apply ..).trans (re_div (r_v67 h i) (r_v68 i) (by norm_num))

theorem r_v70 (i : S4096x1024.Idx) :
    val_main_v70 (F := Ideal) x0 x1 x2 x3 x4 x5 x6 i = ((mu2 A (i 0).val : ℝ) : EReal) :=
  (val_main_v70_apply ..).trans (r_v60 h _)

theorem r_v71 (i : S4096x1024.Idx) :
    val_main_v71 (F := Ideal) x0 x1 x2 x3 x4 x5 x6 i = ((xc2 A (i 0).val (i 1).val : ℝ) : EReal) :=
  (val_main_v71_apply ..).trans (re_sub (r_v56 h i) (r_v70 h i))

omit h in
theorem r_cst_15 (i : S_.Idx) :
    val_main_cst_15 (F := Ideal) i = ((eps : ℝ) : EReal) :=
  (val_main_cst_15_apply i).trans lit_eps

omit h in
theorem r_v72 (i : S4096x1.Idx) :
    val_main_v72 (F := Ideal) i = ((eps : ℝ) : EReal) :=
  (val_main_v72_apply i).trans (r_cst_15 _)

theorem r_v73 (i : S4096x1.Idx) :
    val_main_v73 (F := Ideal) x0 x1 x2 x3 x4 x5 x6 i = ((vr2 A (i 0).val : ℝ) : EReal) :=
  (val_main_v73_apply ..).trans (re_add (r_v69 h i) (r_v72 i))

theorem r_v74 (i : S4096x1.Idx) :
    val_main_v74 (F := Ideal) x0 x1 x2 x3 x4 x5 x6 i = ((rs2 A (i 0).val : ℝ) : EReal) :=
  (val_main_v74_apply ..).trans (re_rsqrt (r_v73 h i) (vr2_pos A _))

theorem r_v75 (i : S4096x1.Idx) :
    val_main_v75 (F := Ideal) x0 x1 x2 x3 x4 x5 x6 i = (((rs2 A (i 0).val) / (vr2 A (i 0).val) : ℝ) : EReal) :=
  (val_main_v75_apply ..).trans (re_div (r_v74 h i) (r_v73 h i) (vr2_pos A _).ne')

omit h in
theorem r_cst_16 (i : S_.Idx) :
    val_main_cst_16 (F := Ideal) i = (((-(1 / 2)) : ℝ) : EReal) :=
  (val_main_cst_16_apply i).trans lit_neg_half

omit h in
theorem r_v76 (i : S4096x1.Idx) :
    val_main_v76 (F := Ideal) i = (((-(1 / 2)) : ℝ) : EReal) :=
  (val_main_v76_apply i).trans (r_cst_16 _)

theorem r_v77 (i : S4096x1.Idx) :
    val_main_v77 (F := Ideal) x0 x1 x2 x3 x4 x5 x6 i = ((((-(1 / 2))) * ((rs2 A (i 0).val) / (vr2 A (i 0).val)) : ℝ) : EReal) :=
  (val_main_v77_apply ..).trans (re_mul (r_v76 i) (r_v75 h i))

theorem r_v78 (i : S4096x1024.Idx) :
    val_main_v78 (F := Ideal) x0 x1 x2 x3 x4 x5 x6 i = ((rs2 A (i 0).val : ℝ) : EReal) :=
  (val_main_v78_apply ..).trans (r_v74 h _)

theorem r_v79 (i : S4096x1024.Idx) :
    val_main_v79 (F := Ideal) x0 x1 x2 x3 x4 x5 x6 i = ((xh2 A (i 0).val (i 1).val : ℝ) : EReal) :=
  (val_main_v79_apply ..).trans (re_mul (r_v71 h i) (r_v78 h i))

theorem r_v80 (i : S4096x1024.Idx) :
    val_main_v80 (F := Ideal) x7 i = ((A.g2 0 (i 1).val : ℝ) : EReal) :=
  (val_main_v80_apply x7 i).trans (h.g2 _)

theorem r_v81 (i : S4096x1024.Idx) :
    val_main_v81 (F := Ideal) x0 x1 x2 x3 x4 x5 x6 x7 i = (((xh2 A (i 0).val (i 1).val) * (A.g2 0 (i 1).val) : ℝ) : EReal) :=
  (val_main_v81_apply ..).trans (re_mul (r_v79 h i) (r_v80 h i))

theorem r_v82 (i : S4096x1024.Idx) :
    val_main_v82 (F := Ideal) x8 i = ((A.b2 0 (i 1).val : ℝ) : EReal) :=
  (val_main_v82_apply x8 i).trans (h.b2 _)

theorem r_v83 (i : S4096x1024.Idx) :
    val_main_v83 (F := Ideal) x0 x1 x2 x3 x4 x5 x6 x7 x8 i = ((((xh2 A (i 0).val (i 1).val) * (A.g2 0 (i 1).val)) + (A.b2 0 (i 1).val) : ℝ) : EReal) :=
  (val_main_v83_apply ..).trans (re_add (r_v81 h i) (r_v82 h i))

theorem r_v84 (i : S4096x1024.Idx) :
    val_main_v84 (F := Ideal) x0 x1 x2 x3 x4 x5 x6 x7 x8 x9 i = ((diff A (i 0).val (i 1).val : ℝ) : EReal) :=
  (val_main_v84_apply ..).trans (re_sub (r_v83 h i) (h.tg i))

end FfnStep.Ref
-- ==== Proof.Block.Table.lean ====
/- Arrays of extended reals that hold real tables, and what the vector operations make of them. -/
module

public import proofs.«01_k».proof.Proof.Ops
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.Lib.Pipeline.FrameBody
public import Idealize.ShloMosaic.Lib.KernelVsHost

@[expose] public section

set_option maxRecDepth 16384

noncomputable section

namespace FfnStep

open Idealize.ShloMosaic Idealize.ShloMosaic.ValueIdx

/-- The matrix `v` holds the real table `f`. -/
def Tab {a b : ℕ} (v : (⟨2, ![a, b]⟩ : Shape).Idx → EReal) (f : ℕ → ℕ → ℝ) : Prop :=
  ∀ (r : Fin a) (c : Fin b), v (ix2 r c) = ((f r.val c.val : ℝ) : EReal)

variable {a b : ℕ} {φ ψ : FTy} {f g : ℕ → ℕ → ℝ}

theorem Tab.congr {v : (⟨2, ![a, b]⟩ : Shape).Idx → EReal} (h : Tab v f)
    (e : ∀ r c, r < a → c < b → f r c = g r c) : Tab v g := fun r c => by
  rw [h r c, e r.val c.val r.isLt c.isLt]

/-- The entry at an index given by its coordinates. -/
theorem Tab.at {v : (⟨2, ![a, b]⟩ : Shape).Idx → EReal} (h : Tab v f) (i : (⟨2, ![a, b]⟩ : Shape).Idx) :
    v i = ((f (i 0).val (i 1).val : ℝ) : EReal) := by
  conv_lhs => rw [eq_ix2 i]
  exact h _ _

/-! ### Pointwise operations -/

theorem tab_add {x y : FVec Ideal ⟨2, ![a, b]⟩ φ} (hx : Tab x f) (hy : Tab y g) :
    Tab (addf x y) fun r c => f r c + g r c := fun r c => re_add (φ := φ) (hx r c) (hy r c)
theorem tab_sub {x y : FVec Ideal ⟨2, ![a, b]⟩ φ} (hx : Tab x f) (hy : Tab y g) :
    Tab (subf x y) fun r c => f r c - g r c := fun r c => re_sub (φ := φ) (hx r c) (hy r c)
theorem tab_mul {x y : FVec Ideal ⟨2, ![a, b]⟩ φ} (hx : Tab x f) (hy : Tab y g) :
    Tab (mulf x y) fun r c => f r c * g r c := fun r c => re_mul (φ := φ) (hx r c) (hy r c)
theorem tab_div {x y : FVec Ideal ⟨2, ![a, b]⟩ φ} (hx : Tab x f) (hy : Tab y g) (h0 : ∀ r c, r < a → g r c ≠ 0) :
    Tab (divf x y) fun r c => f r c / g r c := fun r c => re_kdiv (φ := φ) (hx r c) (hy r c) (h0 _ _ r.isLt)
theorem tab_tanh {x : FVec Ideal ⟨2, ![a, b]⟩ φ} (hx : Tab x f) :
    Tab (tanh x) fun r c => Real.tanh (f r c) := fun r c => re_tanh (φ := φ) (hx r c)
theorem tab_rsqrt {x : FVec Ideal ⟨2, ![a, b]⟩ φ} (hx : Tab x f) (h0 : ∀ r c, r < a → 0 < f r c) :
    Tab (rsqrt x) fun r c => (√(f r c))⁻¹ := fun r c => re_krsqrt (φ := φ) (hx r c) (h0 _ _ r.isLt)
theorem tab_trunc {x : FVec Ideal ⟨2, ![a, b]⟩ φ} (h : ψ.bits < φ.bits) (hx : Tab x f) :
    Tab (truncf ψ x h : FVec Ideal ⟨2, ![a, b]⟩ ψ) f := hx
theorem tab_const {x : EReal} {t : ℝ} (hx : x = (t : EReal)) :
    Tab (broadcast (⟨2, ![a, b]⟩ : Shape) x) fun _ _ => t := fun _ _ => hx

/-! ### Layout -/

/-- A cast to the same shape changes nothing. -/
theorem tab_self {v : (⟨2, ![a, b]⟩ : Shape).Idx → EReal} (h : (⟨2, ![a, b]⟩ : Shape).ShapeCasts ⟨2, ![a, b]⟩) (hv : Tab v f) :
    Tab (shapeCast ⟨2, ![a, b]⟩ v h) f := fun r c =>
  (shapeCast_apply v h (ix2 r c) (ix2 r c) rfl).trans (hv r c)

theorem tab_row {v : (⟨2, ![1, b]⟩ : Shape).Idx → EReal} (h : (⟨2, ![1, b]⟩ : Shape).Broadcasts ⟨2, ![a, b]⟩) (hv : Tab v f) :
    Tab (broadcastTo ⟨2, ![a, b]⟩ v h) fun _ c => f 0 c := fun r c =>
  (broadcastTo_1b_ab_apply v h r c).trans (hv 0 c)

theorem tab_col {v : (⟨2, ![a, 1]⟩ : Shape).Idx → EReal} (h : (⟨2, ![a, 1]⟩ : Shape).Broadcasts ⟨2, ![a, b]⟩) (hv : Tab v f) :
    Tab (broadcastTo ⟨2, ![a, b]⟩ v h) fun r _ => f r 0 := fun r c => by
  refine (broadcastTo_apply v h (ix2 r c) (ix2 r (0 : Fin 1)) fun ax => ?_).trans (hv r 0)
  match ax with
  | ⟨0, _⟩ =>
    show r.val = if a = 1 then 0 else r.val
    split
    · have := r.isLt; omega
    · rfl
  | ⟨1, _⟩ => rfl

theorem tab_rows {n : ℕ} {v : (⟨2, ![n, b]⟩ : Shape).Idx → EReal} (o : ℕ) (h : (⟨2, ![n, b]⟩ : Shape).Slices ![o, 0] ⟨2, ![a, b]⟩)
    (ho : o + a ≤ n) (hv : Tab v f) :
    Tab (extractStridedSlice ⟨2, ![a, b]⟩ ![o, 0] v h) fun r c => f (o + r) c := fun r c =>
  (slice2_axis0_apply o v h r c ⟨o + r.val, by have := r.isLt; omega⟩ rfl).trans (hv _ c)

/-- The first rows from one matrix, the rest from another. -/
theorem tab_stack {m n : ℕ} {x : (⟨2, ![m, b]⟩ : Shape).Idx → EReal} {y : (⟨2, ![n, b]⟩ : Shape).Idx → EReal}
    (h : Shape.Concatenates [⟨2, ![m, b]⟩, ⟨2, ![n, b]⟩] (⟨2, ![a, b]⟩ : Shape) 0) (ha : a = m + n) (hx : Tab x f) (hy : Tab y g) :
    Tab (concatenate ⟨2, ![a, b]⟩ 0 [⟨⟨2, ![m, b]⟩, x⟩, ⟨⟨2, ![n, b]⟩, y⟩] h)
      fun r c => if r < m then f r c else g (r - m) c := fun r c => by
  show _ = (((if r.val < m then f r.val c.val else g (r.val - m) c.val) : ℝ) : EReal)
  by_cases hr : r.val < m
  · rw [if_pos hr]
    refine (concatenate_pair_apply_left (t := ⟨2, ![a, b]⟩) (s₁ := ⟨2, ![m, b]⟩) (s₂ := ⟨2, ![n, b]⟩) 0 x y h (ix2 r c) rfl
      (ix2 (⟨r.val, hr⟩ : Fin m) c) fun ax => ?_).trans (hx _ _)
    match ax with
    | ⟨0, _⟩ => rfl
    | ⟨1, _⟩ => rfl
  · rw [if_neg hr]
    have hlt : r.val - m < n := by have := r.isLt; omega
    refine (concatenate_pair_apply_right (t := ⟨2, ![a, b]⟩) (s₁ := ⟨2, ![m, b]⟩) (s₂ := ⟨2, ![n, b]⟩) 0 x y h (ix2 r c) rfl rfl
      (ix2 (⟨r.val - m, hlt⟩ : Fin n) c) ?_ ?_).trans (hy _ _)
    · intro ax hax
      match ax with
      | ⟨0, _⟩ => exact absurd rfl hax
      | ⟨1, _⟩ => rfl
    · show r.val - m + m = r.val
      omega

/-- A strip of 128 columns from column `o` on. -/
abbrev Strip (f : ℕ → ℕ → ℝ) (o : ℕ) (v : (⟨2, ![256, 128]⟩ : Shape).Idx → EReal) : Prop := Tab v fun r l => f r (o + l)

/-- Twenty-two matrices of 128 columns side by side. -/
theorem tab_cat {a0 a1 a2 a3 a4 a5 a6 a7 a8 a9 a10 a11 a12 a13 a14 a15 a16 a17 a18 a19 a20 a21 : (⟨2, ![256, 128]⟩ : Shape).Idx → EReal}
    (h : Shape.Concatenates (([⟨⟨2, ![256, 128]⟩, a0⟩, ⟨⟨2, ![256, 128]⟩, a1⟩, ⟨⟨2, ![256, 128]⟩, a2⟩, ⟨⟨2, ![256, 128]⟩, a3⟩, ⟨⟨2, ![256, 128]⟩, a4⟩, ⟨⟨2, ![256, 128]⟩, a5⟩, ⟨⟨2, ![256, 128]⟩, a6⟩, ⟨⟨2, ![256, 128]⟩, a7⟩, ⟨⟨2, ![256, 128]⟩, a8⟩, ⟨⟨2, ![256, 128]⟩, a9⟩, ⟨⟨2, ![256, 128]⟩, a10⟩, ⟨⟨2, ![256, 128]⟩, a11⟩, ⟨⟨2, ![256, 128]⟩, a12⟩, ⟨⟨2, ![256, 128]⟩, a13⟩, ⟨⟨2, ![256, 128]⟩, a14⟩, ⟨⟨2, ![256, 128]⟩, a15⟩, ⟨⟨2, ![256, 128]⟩, a16⟩, ⟨⟨2, ![256, 128]⟩, a17⟩, ⟨⟨2, ![256, 128]⟩, a18⟩, ⟨⟨2, ![256, 128]⟩, a19⟩, ⟨⟨2, ![256, 128]⟩, a20⟩, ⟨⟨2, ![256, 128]⟩, a21⟩] : List ((s : Shape) × (s.Idx → EReal))).map (·.1)) (⟨2, ![256, 2816]⟩ : Shape) 1)
    (h0 : Tab a0 fun r l => f r (0 + l)) (h1 : Tab a1 fun r l => f r (128 + l)) (h2 : Tab a2 fun r l => f r (256 + l))
    (h3 : Tab a3 fun r l => f r (384 + l)) (h4 : Tab a4 fun r l => f r (512 + l)) (h5 : Tab a5 fun r l => f r (640 + l))
    (h6 : Tab a6 fun r l => f r (768 + l)) (h7 : Tab a7 fun r l => f r (896 + l)) (h8 : Tab a8 fun r l => f r (1024 + l))
    (h9 : Tab a9 fun r l => f r (1152 + l)) (h10 : Tab a10 fun r l => f r (1280 + l)) (h11 : Tab a11 fun r l => f r (1408 + l))
    (h12 : Tab a12 fun r l => f r (1536 + l)) (h13 : Tab a13 fun r l => f r (1664 + l)) (h14 : Tab a14 fun r l => f r (1792 + l))
    (h15 : Tab a15 fun r l => f r (1920 + l)) (h16 : Tab a16 fun r l => f r (2048 + l)) (h17 : Tab a17 fun r l => f r (2176 + l))
    (h18 : Tab a18 fun r l => f r (2304 + l)) (h19 : Tab a19 fun r l => f r (2432 + l)) (h20 : Tab a20 fun r l => f r (2560 + l))
    (h21 : Tab a21 fun r l => f r (2688 + l)) :
    Tab (concatenate ⟨2, ![256, 2816]⟩ 1 [⟨⟨2, ![256, 128]⟩, a0⟩, ⟨⟨2, ![256, 128]⟩, a1⟩, ⟨⟨2, ![256, 128]⟩, a2⟩, ⟨⟨2, ![256, 128]⟩, a3⟩, ⟨⟨2, ![256, 128]⟩, a4⟩, ⟨⟨2, ![256, 128]⟩, a5⟩, ⟨⟨2, ![256, 128]⟩, a6⟩, ⟨⟨2, ![256, 128]⟩, a7⟩, ⟨⟨2, ![256, 128]⟩, a8⟩, ⟨⟨2, ![256, 128]⟩, a9⟩, ⟨⟨2, ![256, 128]⟩, a10⟩, ⟨⟨2, ![256, 128]⟩, a11⟩, ⟨⟨2, ![256, 128]⟩, a12⟩, ⟨⟨2, ![256, 128]⟩, a13⟩, ⟨⟨2, ![256, 128]⟩, a14⟩, ⟨⟨2, ![256, 128]⟩, a15⟩, ⟨⟨2, ![256, 128]⟩, a16⟩, ⟨⟨2, ![256, 128]⟩, a17⟩, ⟨⟨2, ![256, 128]⟩, a18⟩, ⟨⟨2, ![256, 128]⟩, a19⟩, ⟨⟨2, ![256, 128]⟩, a20⟩, ⟨⟨2, ![256, 128]⟩, a21⟩] h) f := fun r c => by
  let xs : Fin 22 → (⟨2, ![256, 128]⟩ : Shape).Idx → EReal := ![a0, a1, a2, a3, a4, a5, a6, a7, a8, a9, a10, a11, a12, a13, a14, a15, a16, a17, a18, a19, a20, a21]
  have hxs : ∀ n : Fin 22, Tab (xs n) fun r l => f r (128 * n.val + l) := fun n => match n with
    | ⟨0, _⟩ => h0
    | ⟨1, _⟩ => h1
    | ⟨2, _⟩ => h2
    | ⟨3, _⟩ => h3
    | ⟨4, _⟩ => h4
    | ⟨5, _⟩ => h5
    | ⟨6, _⟩ => h6
    | ⟨7, _⟩ => h7
    | ⟨8, _⟩ => h8
    | ⟨9, _⟩ => h9
    | ⟨10, _⟩ => h10
    | ⟨11, _⟩ => h11
    | ⟨12, _⟩ => h12
    | ⟨13, _⟩ => h13
    | ⟨14, _⟩ => h14
    | ⟨15, _⟩ => h15
    | ⟨16, _⟩ => h16
    | ⟨17, _⟩ => h17
    | ⟨18, _⟩ => h18
    | ⟨19, _⟩ => h19
    | ⟨20, _⟩ => h20
    | ⟨21, _⟩ => h21
    | ⟨_ + 22, h⟩ => absurd h (by omega)
  have hc := c.isLt
  have hn : c.val / 128 < 22 := by omega
  have hm : c.val % 128 < 128 := Nat.mod_lt _ (by norm_num)
  refine (concatenate_ofFn_apply (t := ⟨2, ![256, 2816]⟩) (s₁ := ⟨2, ![256, 128]⟩) 1 xs h rfl 128 rfl (ix2 r c) ⟨c.val / 128, hn⟩ rfl
    (ix2 r (⟨c.val % 128, hm⟩ : Fin 128)) rfl fun ax hax => ?_).trans ?_
  · match ax with
    | ⟨0, _⟩ => rfl
    | ⟨1, _⟩ => exact absurd rfl hax
  · rw [hxs ⟨c.val / 128, hn⟩ r ⟨c.val % 128, hm⟩]
    show ((f r.val (128 * (c.val / 128) + c.val % 128) : ℝ) : EReal) = _
    rw [Nat.div_add_mod]

/-! ### Sums and products -/

theorem tab_sum_cols {v : FVec Ideal ⟨2, ![a, b]⟩ φ} (acc : BitVec φ.bits) (h : (⟨2, ![a, b]⟩ : Shape).Reduces [1] ⟨1, ![a]⟩)
    (hφ : FKind.Formats φ) (hacc : acc = FKind.add.neutral φ hφ) (hc : (⟨1, ![a]⟩ : Shape).ShapeCasts ⟨2, ![a, 1]⟩) (hv : Tab v f) :
    Tab (shapeCast ⟨2, ![a, 1]⟩ (multiReduction .add [1] ⟨1, ![a]⟩ v acc h hφ hacc) hc) fun r _ => ∑ k : Fin b, f r k.val := fun r c => by
  refine (shapeCast_a_a1_apply _ hc r c).trans ?_
  rw [Ideal.multiReduction_add_single v acc h hφ hacc (ix1 r)]
  refine (Finset.sum_congr rfl fun k _ => ?_).trans (coe_sum Finset.univ fun k : Fin b => f r.val k.val)
  refine (congrArg v ?_).trans (hv r k)
  funext ax; apply Fin.ext
  match ax with
  | ⟨0, _⟩ => rfl
  | ⟨1, _⟩ => rfl

theorem tab_sum_rows {v : FVec Ideal ⟨2, ![a, b]⟩ φ} (acc : BitVec φ.bits) (h : (⟨2, ![a, b]⟩ : Shape).Reduces [0] ⟨1, ![b]⟩)
    (hφ : FKind.Formats φ) (hacc : acc = FKind.add.neutral φ hφ) (hc : (⟨1, ![b]⟩ : Shape).ShapeCasts ⟨2, ![1, b]⟩) (hv : Tab v f) :
    Tab (shapeCast ⟨2, ![1, b]⟩ (multiReduction .add [0] ⟨1, ![b]⟩ v acc h hφ hacc) hc) fun _ c => ∑ k : Fin a, f k.val c := fun r c => by
  refine (shapeCast_a_1a_apply _ hc r c).trans ?_
  rw [Ideal.multiReduction_add_single v acc h hφ hacc (ix1 c)]
  refine (Finset.sum_congr rfl fun k _ => ?_).trans (coe_sum Finset.univ fun k : Fin a => f k.val c.val)
  refine (congrArg v ?_).trans (hv k c)
  funext ax; apply Fin.ext
  match ax with
  | ⟨0, _⟩ => rfl
  | ⟨1, _⟩ => rfl

/-- A product contracting both matrices' columns, over a zero accumulator. -/
theorem tab_nt {M K N : ℕ} {x : FVec Ideal ⟨2, ![M, K]⟩ φ} {y : FVec Ideal ⟨2, ![N, K]⟩ ψ}
    (d : DotDims ⟨2, ![M, K]⟩ ⟨2, ![N, K]⟩ ⟨2, ![M, N]⟩) (hd : d = DotDims.transposedRhs M K N) (prec : Option ContractPrecision)
    (hx : Tab x f) (hy : Tab y g) :
    Tab (matmul d prec x y (constant ⟨2, ![M, N]⟩ .f32 0x00000000#32)) fun r c => ∑ k : Fin K, f r k.val * g c k.val := fun r c => by
  subst hd
  refine (Ideal.matmul_transposedRhs_apply prec x y _ r c).trans ?_
  rw [re_dot (fun k => hx r k) (fun k => hy c k)]
  exact (congrArg (· + _) Ideal.ofBits_zero_f32).trans (zero_add _)

/-- A plain product, over a zero accumulator. -/
theorem tab_nn {M K N : ℕ} {x : FVec Ideal ⟨2, ![M, K]⟩ φ} {y : FVec Ideal ⟨2, ![K, N]⟩ ψ}
    (d : DotDims ⟨2, ![M, K]⟩ ⟨2, ![K, N]⟩ ⟨2, ![M, N]⟩) (hd : d = DotDims.plain M K N) (prec : Option ContractPrecision)
    (hx : Tab x f) (hy : Tab y g) :
    Tab (matmul d prec x y (constant ⟨2, ![M, N]⟩ .f32 0x00000000#32)) fun r c => ∑ k : Fin K, f r k.val * g k.val c := fun r c => by
  subst hd
  refine (Ideal.matmul_plain_apply prec x y _ r c).trans ?_
  rw [re_dot (fun k => hx r k) (fun k => hy k c)]
  exact (congrArg (· + _) Ideal.ofBits_zero_f32).trans (zero_add _)

/-! ### Buffers: loads, and strips of 128 columns -/

section Buffers

variable {sig : RefSig} {κ : Kind} {sp : Space} {n m : ℕ}

/-- A load of a rectangle of a whole buffer that holds a table. -/
theorem tab_load {M : Memref sig κ sp (⟨2, ![n, m]⟩ : Shape) .f32} (hM : M.IsWhole)
    {X : (⟨2, ![n, m]⟩ : Shape).Idx → EReal} (o p : ℕ)
    (inb : ∀ ax, (![o, p] : Fin 2 → ℕ) ax + (⟨2, ![a, b]⟩ : Shape).size ax ≤ (⟨2, ![n, m]⟩ : Shape).size ax)
    (hX : Tab X f) :
    Tab (a := a) (b := b) (M.view.readAt (Elt Ideal) (Rect.unit (s := ⟨2, ![n, m]⟩) ![o, p] (⟨2, ![a, b]⟩ : Shape).size inb).toLoadRect (hM.unread X))
      fun r c => f (o + r) (p + c) := fun r c => by
  rw [View.readAt_eq_ld, hM.read_unread]
  refine (hX.at _).trans ?_
  show ((f (o + 1 * r.val) (p + 1 * c.val) : ℝ) : EReal) = _
  rw [Nat.one_mul, Nat.one_mul]

/-- A load of a whole buffer. -/
theorem tab_load0 {M : Memref sig κ sp (⟨2, ![a, b]⟩ : Shape) .f32} (hM : M.IsWhole)
    {X : (⟨2, ![a, b]⟩ : Shape).Idx → EReal}
    (inb : ∀ ax, (![0, 0] : Fin 2 → ℕ) ax + (⟨2, ![a, b]⟩ : Shape).size ax ≤ (⟨2, ![a, b]⟩ : Shape).size ax)
    (hX : Tab X f) :
    Tab (a := a) (b := b) (M.view.readAt (Elt Ideal) (Rect.unit (s := ⟨2, ![a, b]⟩) ![0, 0] (⟨2, ![a, b]⟩ : Shape).size inb).toLoadRect (hM.unread X)) f :=
  (tab_load hM 0 0 inb hX).congr fun r c _ _ => by rw [Nat.zero_add, Nat.zero_add]

/-- A load of a rectangle of a whole half-width buffer that holds a table. -/
theorem tab_loadh {M : Memref sig κ sp (⟨2, ![n, m]⟩ : Shape) .bf16} (hM : M.IsWhole)
    {X : (⟨2, ![n, m]⟩ : Shape).Idx → EReal} (o p : ℕ)
    (inb : ∀ ax, (![o, p] : Fin 2 → ℕ) ax + (⟨2, ![a, b]⟩ : Shape).size ax ≤ (⟨2, ![n, m]⟩ : Shape).size ax)
    (hX : Tab X f) :
    Tab (a := a) (b := b) (M.view.readAt (Elt Ideal) (Rect.unit (s := ⟨2, ![n, m]⟩) ![o, p] (⟨2, ![a, b]⟩ : Shape).size inb).toLoadRect (hM.unread X))
      fun r c => f (o + r) (p + c) := fun r c => by
  rw [View.readAt_eq_ld, hM.read_unread]
  refine (hX.at _).trans ?_
  show ((f (o + 1 * r.val) (p + 1 * c.val) : ℝ) : EReal) = _
  rw [Nat.one_mul, Nat.one_mul]

/-- A load of a whole half-width buffer. -/
theorem tab_loadh0 {M : Memref sig κ sp (⟨2, ![a, b]⟩ : Shape) .bf16} (hM : M.IsWhole)
    {X : (⟨2, ![a, b]⟩ : Shape).Idx → EReal}
    (inb : ∀ ax, (![0, 0] : Fin 2 → ℕ) ax + (⟨2, ![a, b]⟩ : Shape).size ax ≤ (⟨2, ![a, b]⟩ : Shape).size ax)
    (hX : Tab X f) :
    Tab (a := a) (b := b) (M.view.readAt (Elt Ideal) (Rect.unit (s := ⟨2, ![a, b]⟩) ![0, 0] (⟨2, ![a, b]⟩ : Shape).size inb).toLoadRect (hM.unread X)) f :=
  (tab_loadh hM 0 0 inb hX).congr fun r c _ _ => by rw [Nat.zero_add, Nat.zero_add]

/-- The buffer's 22 strips of 128 columns hold the table's, in their first `M` rows. -/
def Strips (X : (⟨3, ![22, n, 128]⟩ : Shape).Idx → EReal) (M : ℕ) (f : ℕ → ℕ → ℝ) : Prop :=
  ∀ (k : Fin 22) (r : Fin n) (l : Fin 128), r.val < M → X (ix3 k r l) = ((f r.val (128 * k.val + l.val) : ℝ) : EReal)

/-- A strip's rows from `o`, taken as a matrix. -/
theorem tab_strip {X : (⟨3, ![22, n, 128]⟩ : Shape).Idx → EReal} {M : ℕ} (k o : ℕ) (hk : k < 22) (hM : o + 256 ≤ M)
    (hn : o + 256 ≤ n)
    (inb : ∀ ax, (![k, o, 0] : Fin 3 → ℕ) ax + (⟨3, ![1, 256, 128]⟩ : Shape).size ax ≤ (⟨3, ![22, n, 128]⟩ : Shape).size ax)
    (hc : (⟨3, ![1, 256, 128]⟩ : Shape).ShapeCasts ⟨2, ![256, 128]⟩) (h : Strips X M f) :
    Tab (shapeCast ⟨2, ![256, 128]⟩
        (fun j => X ((Rect.unit (s := ⟨3, ![22, n, 128]⟩) ![k, o, 0] (⟨3, ![1, 256, 128]⟩ : Shape).size inb).emb j)) hc)
      fun r l => f (o + r) (128 * k + l) := fun r l => by
  refine (shapeCast_1ab_ab_apply _ hc r l).trans ?_
  have hr := r.isLt
  refine Eq.trans (congrArg X ?_) (h ⟨k, hk⟩ ⟨o + r.val, by omega⟩ l (by show o + r.val < M; omega))
  funext ax; apply Fin.ext
  match ax with
  | ⟨0, _⟩ => show k + 1 * 0 = k; omega
  | ⟨1, _⟩ => show o + 1 * r.val = o + r.val; omega
  | ⟨2, _⟩ => show 0 + 1 * l.val = l.val; omega

/-- Such a load after stores that fix every entry it reads. -/
theorem tab_strip_cov {v : View sig κ sp (⟨3, ![22, n, 128]⟩ : Shape) .f32}
    {L : List (View.Piece (Elt Ideal) (⟨3, ![22, n, 128]⟩ : Shape) .f32)} {M : ℕ} (k o : ℕ) (h : Strips (View.canon L) M f)
    (hk : k < 22 := by norm_num) (hM : o + 256 ≤ M := by norm_num) (hn : o + 256 ≤ n := by norm_num)
    (inb : ∀ ax, (![k, o, 0] : Fin 3 → ℕ) ax + (⟨3, ![1, 256, 128]⟩ : Shape).size ax ≤ (⟨3, ![22, n, 128]⟩ : Shape).size ax := by decide)
    (hc : (⟨3, ![1, 256, 128]⟩ : Shape).ShapeCasts ⟨2, ![256, 128]⟩ := by decide) :
    Tab (shapeCast ⟨2, ![256, 128]⟩
        (v.readCov L (Rect.unit (s := ⟨3, ![22, n, 128]⟩) ![k, o, 0] (⟨3, ![1, 256, 128]⟩ : Shape).size inb).toLoadRect) hc)
      fun r l => f (o + r) (128 * k + l) := by
  rw [View.readCov_eq_canon']
  exact tab_strip k o hk hM hn inb hc h

/-- Such a load after stores over known contents. -/
theorem tab_strip_at {v : View sig κ sp (⟨3, ![22, n, 128]⟩ : Shape) .f32} {q : v.ty.Contents (Elt Ideal)} {M : ℕ} (k o : ℕ)
    (h : Strips (v.read (Elt Ideal) q) M f) (hk : k < 22 := by norm_num) (hM : o + 256 ≤ M := by norm_num)
    (hn : o + 256 ≤ n := by norm_num)
    (inb : ∀ ax, (![k, o, 0] : Fin 3 → ℕ) ax + (⟨3, ![1, 256, 128]⟩ : Shape).size ax ≤ (⟨3, ![22, n, 128]⟩ : Shape).size ax := by decide)
    (hc : (⟨3, ![1, 256, 128]⟩ : Shape).ShapeCasts ⟨2, ![256, 128]⟩ := by decide) :
    Tab (shapeCast ⟨2, ![256, 128]⟩
        (v.readAt (Elt Ideal) (Rect.unit (s := ⟨3, ![22, n, 128]⟩) ![k, o, 0] (⟨3, ![1, 256, 128]⟩ : Shape).size inb).toLoadRect q) hc)
      fun r l => f (o + r) (128 * k + l) :=
  tab_strip k o hk hM hn inb hc h

/-- The entry a strip's store at strip `k` is to hold. -/
def stripAt (f : ℕ → ℕ → ℝ) : (⟨3, ![22, n, 128]⟩ : Shape).Idx → EReal := fun y =>
  ((f (y 1).val (128 * (y 0).val + (y 2).val) : ℝ) : EReal)

/-- The columns from `o = 128 k` of a matrix, stored at strip `k`. -/
theorem piece_slice (k o : ℕ) (ho : o = 128 * k) {p : ℕ} {v : (⟨2, ![p, 2816]⟩ : Shape).Idx → EReal}
    (inb : ∀ ax, (![k, 0, 0] : Fin 3 → ℕ) ax + (⟨3, ![1, p, 128]⟩ : Shape).size ax ≤ (⟨3, ![22, n, 128]⟩ : Shape).size ax)
    (hs : (⟨2, ![p, 2816]⟩ : Shape).Slices ![0, o] ⟨2, ![p, 128]⟩) (hc : (⟨2, ![p, 128]⟩ : Shape).ShapeCasts ⟨3, ![1, p, 128]⟩)
    (hk : k < 22) (hv : Tab v f) :
    ∀ x : (Rect.unit (s := ⟨3, ![22, n, 128]⟩) ![k, 0, 0] (⟨3, ![1, p, 128]⟩ : Shape).size inb).shape.Idx,
      shapeCast ⟨3, ![1, p, 128]⟩ (extractStridedSlice ⟨2, ![p, 128]⟩ ![0, o] v hs) hc x
        = stripAt (n := n) f ((Rect.unit (s := ⟨3, ![22, n, 128]⟩) ![k, 0, 0] (⟨3, ![1, p, 128]⟩ : Shape).size inb).emb x) := fun x => by
  change (⟨3, ![1, p, 128]⟩ : Shape).Idx at x
  subst ho
  obtain ⟨x0, x1, x2, rfl⟩ : ∃ (x0 : Fin 1) (x1 : Fin p) (x2 : Fin 128), x = ix3 x0 x1 x2 := ⟨x 0, x 1, x 2, eq_ix3 x⟩
  have h2 := x2.isLt
  have h0 : x0.val = 0 := by omega
  refine (shapeCast_ab_1ab_apply _ hc x0 x1 x2).trans ?_
  refine (slice2_axis1_apply (128 * k) v hs x1 x2 ⟨128 * k + x2.val, by omega⟩ rfl).trans ?_
  refine (hv _ _).trans ?_
  show ((f x1.val (128 * k + x2.val) : ℝ) : EReal)
    = ((f (0 + 1 * x1.val) (128 * (k + 1 * x0.val) + (0 + 1 * x2.val)) : ℝ) : EReal)
  rw [h0, Nat.mul_zero, Nat.add_zero, Nat.one_mul, Nat.one_mul, Nat.zero_add, Nat.zero_add]

end Buffers

end FfnStep
-- ==== Proof.Block.Payloads.lean ====
/- One tile: each value the kernel's body computes from the tile's inputs holds the tile's rows of the step's table. -/
module

public import proofs.«01_k».proof.Proof.Spec
public import proofs.«01_k».proof.Proof.Block.Table
public import proofs.«01_k».proof.Proof.Gen.KernelIdeal.Skeleton

@[expose] public section

set_option maxRecDepth 16384

noncomputable section

namespace FfnStep.Block

open Idealize.ShloMosaic Idealize.ShloMosaic.ValueIdx Cert.KernelIdeal Cert.KernelIdeal.Gen

variable {A : Args} {b : ℕ}

/-- The gate's rows from sixteen before the tile's first, zeros before the array's first. -/
def gx (A : Args) (b r c : ℕ) : ℝ := if b + r < 16 then 0 else u A (b + r - 16) (2816 + c)

theorem gx_zero (r c : ℕ) : gx A b (14 + r) c = gp A (b + r) c := by
  unfold gx gp
  by_cases h : b + r < 2
  · rw [if_pos h, if_pos (by omega)]
  · rw [if_neg h, if_neg (by omega), show b + (14 + r) - 16 = b + r - 2 by omega]

theorem gx_one (r c : ℕ) : gx A b (15 + r) c = gp A (b + r + 1) c := by
  rw [show 15 + r = 14 + (r + 1) by omega, gx_zero, Nat.add_assoc]

theorem gx_two (r c : ℕ) : gx A b (16 + r) c = gp A (b + r + 2) c := by
  rw [show 16 + r = 14 + (r + 2) by omega, gx_zero, Nat.add_assoc]

theorem gx_tile (r c : ℕ) : gx A b (16 + r) c = u A (b + r) (2816 + c) := by
  unfold gx
  rw [if_neg (by omega), show b + (16 + r) - 16 = b + r by omega]

/-- The first tile, the last point's, is the masked one. -/
theorem mask_first {α : Type} (T : ℕ) (hT : T < 16) (x y : α) :
    Scalar.select (Scalar.cmpi .eq (Scalar.subi 15#32 (BitVec.ofNat 32 (15 - T))) 0#32) x y = if T = 0 then x else y := by
  interval_cases T <;> rfl

/-- The sum over all entries of a matrix, taken as a one-entry array and read. -/
theorem tab_total {v : FVec Ideal S256x1024 .f32} (hv : Tab v fun r c => diff A (b + r) c * diff A (b + r) c) :
    extractAt ![0, 0, 0] (shapeCast S1x1x1 (multiReduction .add [1, 2] S1 (shapeCast S1x256x1024 v shapeCasts_S256x1024_S1x256x1024)
        0x00000000#32 reduces_S1x256x1024_S1 (.inl rfl) rfl) shapeCasts_S1_S1x1x1) inpos_S1x1x1_p0_0_0
      = ((∑ r : Fin 256, sq A (b + r.val) : ℝ) : EReal) := by
  unfold extractAt
  refine (shapeCast_apply _ shapeCasts_S1_S1x1x1 _ (ix1 (0 : Fin 1)) (by decide)).trans ?_
  refine (Ideal.multiReduction_add_total _ _ _ (fun x => match x with | ⟨0, _⟩ => rfl) _ _ _).trans ?_
  refine (Equiv.sum_comp (Shape.reshapeEquiv shapeCasts_S256x1024_S1x256x1024) v).trans ?_
  rw [sum_idx2]
  refine (Finset.sum_congr rfl fun r _ => ?_).trans (coe_sum Finset.univ fun r : Fin 256 => sq A (b + r.val))
  exact (Finset.sum_congr rfl fun k _ => hv r k).trans (coe_sum Finset.univ fun k : Fin 1024 => _)

theorem dx1_halves (r c : ℕ) : dx1 A r c = alpha * dz2 A r c + ∑ k : Fin 2816, dval A r k.val * A.wu c k.val
    + ∑ k : Fin 2816, dgate A r k.val * A.wu c (2816 + k.val) := by
  have e : ∑ k : Fin (2816 + 2816), du A r k.val * A.wu c k.val
      = ∑ k : Fin 2816, dval A r k.val * A.wu c k.val + ∑ k : Fin 2816, dgate A r k.val * A.wu c (2816 + k.val) := by
    rw [Fin.sum_univ_add]
    refine congrArg₂ (· + ·) (Finset.sum_congr rfl fun k _ => ?_) (Finset.sum_congr rfl fun k _ => ?_)
    · rw [Fin.val_castAdd, du, if_pos k.isLt]
    · rw [Fin.val_natAdd, du, if_neg (by omega), Nat.add_sub_cancel_left]
  rw [dx1, add_assoc, ← e]

/-- The 22 strips side by side make the whole width. -/
abbrev strips_join := concatenates_S256x128_S256x128_S256x128_S256x128_S256x128_S256x128_S256x128_S256x128_S256x128_S256x128_S256x128_S256x128_S256x128_S256x128_S256x128_S256x128_S256x128_S256x128_S256x128_S256x128_S256x128_S256x128_S256x2816_d1

/-- The tile of the normalised rows. -/
theorem t_pay9 {v6 : Vec Ideal S256x1024 .f32}
    (hv6 : Tab v6 fun r c => xh A (b + r) c) :
    Tab (k0_pay9 (F := Ideal) v6) (fun r c => xh A (b + r) c) :=
  tab_self _ hv6

/-- The first norm's output. -/
theorem t_pay10 {v4 v5 : Vec Ideal S1x1024 .f32} {v6 : Vec Ideal S256x1024 .f32}
    (hv4 : Tab v4 A.g1) (hv5 : Tab v5 A.b1) (hv6 : Tab v6 fun r c => xh A (b + r) c) :
    Tab (k0_pay10 (F := Ideal) v4 v5 v6) (fun r c => n1 A (b + r) c) :=
  tab_add (tab_mul (t_pay9 hv6) (tab_row _ hv4)) (tab_row _ hv5)

theorem t_pay11 {v4 v5 : Vec Ideal S1x1024 .f32} {v6 : Vec Ideal S256x1024 .f32}
    (hv4 : Tab v4 A.g1) (hv5 : Tab v5 A.b1) (hv6 : Tab v6 fun r c => xh A (b + r) c) :
    Tab (k0_pay11 (F := Ideal) v4 v5 v6) (fun r c => n1 A (b + r) c) :=
  tab_trunc _ (t_pay10 hv4 hv5 hv6)

/-- The up projection's first half. -/
theorem t_pay12 {v4 v5 : Vec Ideal S1x1024 .f32} {v6 : Vec Ideal S256x1024 .f32} {v25 : Vec Ideal S2816x1024 .bf16}
    (hv4 : Tab v4 A.g1) (hv5 : Tab v5 A.b1) (hv6 : Tab v6 fun r c => xh A (b + r) c) (hv25 : Tab v25 fun r c => A.wu c r) :
    Tab (k0_pay12 (F := Ideal) v4 v5 v6 v25) (fun r c => u A (b + r) c) :=
  tab_nt _ rfl none (t_pay11 hv4 hv5 hv6) (tab_self _ hv25)

/-- The up projection's second half, its sixteen rows before the tile in front; these are zeros for the first tile. -/
theorem t_pay13 {i : grid0.Coords} {T : ℕ} {v4 v5 : Vec Ideal S1x1024 .f32} {v6 : Vec Ideal S256x1024 .f32} {v13 : Vec Ideal S16x1024 .f32} {v28 : Vec Ideal S2816x1024 .bf16} {q : ℕ → ℕ → ℝ} (hT : T < 16) (hi : (i 0).val = 15 - T)
    (hv4 : Tab v4 A.g1) (hv5 : Tab v5 A.b1) (hv6 : Tab v6 fun r c => xh A (256 * T + r) c) (hv13 : Tab v13 q)
    (hq : ∀ r c, T ≠ 0 → q r c = xh A (256 * T - 16 + r) c) (hv28 : Tab v28 fun r c => A.wu c (2816 + r)) :
    Tab (k0_pay13 (F := Ideal) i v4 v5 v6 v13 v28) fun r c => gx A (256 * T) r c := by
  have hsel : (Scalar.select (Scalar.cmpi .eq (Scalar.subi 15#32 (BitVec.ofNat 32 (i 0).val)) 0#32)
      (Scalar.ofBits (F := Ideal) .f32 0x00000000#32) (Scalar.ofBits (F := Ideal) .f32 0x3F800000#32) : EReal)
      = (((if T = 0 then 0 else 1 : ℝ)) : EReal) := by
    rw [hi, mask_first T hT]
    split
    · exact lit_zero
    · exact lit_one
  refine (tab_nt _ rfl none (tab_stack concatenates_S16x1024_S256x1024_S272x1024_d0 rfl
    (tab_trunc bitsLt_bf16_f32 (tab_mul (tab_add (tab_mul (tab_self shapeCasts_S16x1024_S16x1024 hv13)
      (tab_row broadcasts_S1x1024_S16x1024 hv4)) (tab_row broadcasts_S1x1024_S16x1024 hv5)) (tab_const hsel)))
    (t_pay11 hv4 hv5 hv6)) (tab_self _ hv28) : Tab (k0_pay13 (F := Ideal) i v4 v5 v6 v13 v28) _).congr fun r c hr _ => ?_
  unfold gx u
  by_cases h : r < 16
  · by_cases h0 : T = 0
    · subst h0
      rw [if_pos (show 256 * 0 + r < 16 by omega)]
      exact Finset.sum_eq_zero fun k _ => by rw [if_pos h, if_pos rfl, mul_zero, zero_mul]
    · rw [if_neg (show ¬ 256 * T + r < 16 by omega)]
      refine Finset.sum_congr rfl fun k _ => ?_
      rw [if_pos h, if_neg h0, mul_one, hq r k.val h0, n1, show 256 * T + r - 16 = 256 * T - 16 + r by omega]
  · rw [if_neg (show ¬ 256 * T + r < 16 by omega)]
    refine Finset.sum_congr rfl fun k _ => ?_
    rw [if_neg h, show 256 * T + r - 16 = 256 * T + (r - 16) by omega]

/-- The shift and the first tap. -/
theorem t_pay50 {q : ℕ → ℕ → ℝ} {v119 v120 : Vec Ideal S1x2816 .f32} {v122 v124 v126 v128 v130 v132 v134 v136 v138 v140 v142 v144 v146 : Vec Ideal S256x128 .f32} {v147 v149 v151 v153 v155 v157 v159 v161 v163 : Vec Ideal S1x256x128 .f32}
    (hv119 : Tab v119 A.cb) (hv120 : Tab v120 fun r c => A.cw r c) (q0 : Strip q 0 v122) (q1 : Strip q 128 v124) (q2 : Strip q 256 v126) (q3 : Strip q 384 v128) (q4 : Strip q 512 v130) (q5 : Strip q 640 v132) (q6 : Strip q 768 v134) (q7 : Strip q 896 v136) (q8 : Strip q 1024 v138) (q9 : Strip q 1152 v140) (q10 : Strip q 1280 v142) (q11 : Strip q 1408 v144) (q12 : Strip q 1536 v146) (q13 : Tab (a := 256) (b := 128) (shapeCast S256x128 v147 shapeCasts_S1x256x128_S256x128) fun r l => q r (1664 + l)) (q14 : Tab (a := 256) (b := 128) (shapeCast S256x128 v149 shapeCasts_S1x256x128_S256x128) fun r l => q r (1792 + l)) (q15 : Tab (a := 256) (b := 128) (shapeCast S256x128 v151 shapeCasts_S1x256x128_S256x128) fun r l => q r (1920 + l)) (q16 : Tab (a := 256) (b := 128) (shapeCast S256x128 v153 shapeCasts_S1x256x128_S256x128) fun r l => q r (2048 + l)) (q17 : Tab (a := 256) (b := 128) (shapeCast S256x128 v155 shapeCasts_S1x256x128_S256x128) fun r l => q r (2176 + l)) (q18 : Tab (a := 256) (b := 128) (shapeCast S256x128 v157 shapeCasts_S1x256x128_S256x128) fun r l => q r (2304 + l)) (q19 : Tab (a := 256) (b := 128) (shapeCast S256x128 v159 shapeCasts_S1x256x128_S256x128) fun r l => q r (2432 + l)) (q20 : Tab (a := 256) (b := 128) (shapeCast S256x128 v161 shapeCasts_S1x256x128_S256x128) fun r l => q r (2560 + l)) (q21 : Tab (a := 256) (b := 128) (shapeCast S256x128 v163 shapeCasts_S1x256x128_S256x128) fun r l => q r (2688 + l)) :
    Tab (k0_pay50 (F := Ideal) v119 v120 v122 v124 v126 v128 v130 v132 v134 v136 v138 v140 v142 v144 v146 v147 v149 v151 v153 v155 v157 v159 v161 v163) (fun r c => A.cb 0 c + A.cw 0 c * q r c) :=
  tab_add (tab_row _ hv119) (tab_mul (tab_row _ hv120) (tab_cat strips_join q0 q1 q2 q3 q4 q5 q6 q7 q8 q9 q10 q11 q12 q13 q14 q15 q16 q17 q18 q19 q20 q21))

/-- The convolution of the gate. -/
theorem t_pay64 {q : ℕ → ℕ → ℝ} {v30 : Vec Ideal S272x2816 .f32} {v169 : Vec Ideal S256x2816 .f32} {v170 : Vec Ideal S1x2816 .f32} {v172 v174 v176 v178 v180 v182 v184 v186 v188 v190 v192 v194 v196 : Vec Ideal S256x128 .f32} {v197 v199 v201 v203 v205 v207 v209 v211 v213 : Vec Ideal S1x256x128 .f32} {v219 : Vec Ideal S1x2816 .f32}
    (hv30 : Tab v30 fun r c => gx A b r c) (hv169 : Tab v169 fun r c => A.cb 0 c + A.cw 0 c * gp A (b + r) c) (hv170 : Tab v170 fun r c => A.cw (1 + r) c) (hv219 : Tab v219 fun r c => A.cw (2 + r) c) (hq : ∀ r c, q r c = gp A (b + r + 1) c) (q0 : Strip q 0 v172) (q1 : Strip q 128 v174) (q2 : Strip q 256 v176) (q3 : Strip q 384 v178) (q4 : Strip q 512 v180) (q5 : Strip q 640 v182) (q6 : Strip q 768 v184) (q7 : Strip q 896 v186) (q8 : Strip q 1024 v188) (q9 : Strip q 1152 v190) (q10 : Strip q 1280 v192) (q11 : Strip q 1408 v194) (q12 : Strip q 1536 v196) (q13 : Tab (a := 256) (b := 128) (shapeCast S256x128 v197 shapeCasts_S1x256x128_S256x128) fun r l => q r (1664 + l)) (q14 : Tab (a := 256) (b := 128) (shapeCast S256x128 v199 shapeCasts_S1x256x128_S256x128) fun r l => q r (1792 + l)) (q15 : Tab (a := 256) (b := 128) (shapeCast S256x128 v201 shapeCasts_S1x256x128_S256x128) fun r l => q r (1920 + l)) (q16 : Tab (a := 256) (b := 128) (shapeCast S256x128 v203 shapeCasts_S1x256x128_S256x128) fun r l => q r (2048 + l)) (q17 : Tab (a := 256) (b := 128) (shapeCast S256x128 v205 shapeCasts_S1x256x128_S256x128) fun r l => q r (2176 + l)) (q18 : Tab (a := 256) (b := 128) (shapeCast S256x128 v207 shapeCasts_S1x256x128_S256x128) fun r l => q r (2304 + l)) (q19 : Tab (a := 256) (b := 128) (shapeCast S256x128 v209 shapeCasts_S1x256x128_S256x128) fun r l => q r (2432 + l)) (q20 : Tab (a := 256) (b := 128) (shapeCast S256x128 v211 shapeCasts_S1x256x128_S256x128) fun r l => q r (2560 + l)) (q21 : Tab (a := 256) (b := 128) (shapeCast S256x128 v213 shapeCasts_S1x256x128_S256x128) fun r l => q r (2688 + l)) :
    Tab (k0_pay64 (F := Ideal) v30 v169 v170 v172 v174 v176 v178 v180 v182 v184 v186 v188 v190 v192 v194 v196 v197 v199 v201 v203 v205 v207 v209 v211 v213 v219) (fun r c => hh A (b + r) c) :=
  (tab_add (tab_add hv169 (tab_mul (tab_row _ hv170) (tab_cat strips_join q0 q1 q2 q3 q4 q5 q6 q7 q8 q9 q10 q11 q12 q13 q14 q15 q16 q17 q18 q19 q20 q21))) (tab_mul (tab_row _ hv219) (tab_rows 16 _ (by norm_num) hv30))
    : Tab (k0_pay64 (F := Ideal) v30 v169 v170 v172 v174 v176 v178 v180 v182 v184 v186 v188 v190 v192 v194 v196 v197 v199 v201 v203 v205 v207 v209 v211 v213 v219) _).congr fun r c _ _ => by
    rw [hq r c, gx_two, hh]; ring

theorem t_pay65 {b : ℕ} {v30 : Vec Ideal S272x2816 .f32} {v169 : Vec Ideal S256x2816 .f32} {v170 : Vec Ideal S1x2816 .f32} {v172 v174 v176 v178 v180 v182 v184 v186 v188 v190 v192 v194 v196 : Vec Ideal S256x128 .f32} {v197 v199 v201 v203 v205 v207 v209 v211 v213 : Vec Ideal S1x256x128 .f32} {v219 : Vec Ideal S1x2816 .f32}
    (h : Tab (k0_pay64 (F := Ideal) v30 v169 v170 v172 v174 v176 v178 v180 v182 v184 v186 v188 v190 v192 v194 v196 v197 v199 v201 v203 v205 v207 v209 v211 v213 v219) fun r c => hh A (b + r) c) :
    Tab (k0_pay65 (F := Ideal) v30 v169 v170 v172 v174 v176 v178 v180 v182 v184 v186 v188 v190 v192 v194 v196 v197 v199 v201 v203 v205 v207 v209 v211 v213 v219) fun r c => Real.tanh (1 / 2 * hh A (b + r) c) :=
  tab_tanh (tab_mul (tab_const lit_half) h)

theorem t_pay66
     :
    Tab (k0_pay66 (F := Ideal) ) (fun _ _ => (1 / 2 : ℝ)) :=
  tab_const lit_half

/-- The logistic of the convolution. -/
theorem t_pay67 {v226 v227 : Vec Ideal S256x2816 .f32}
    (hv226 : Tab v226 fun r c => Real.tanh (1 / 2 * hh A (b + r) c)) (hv227 : Tab v227 fun _ _ => (1 / 2 : ℝ)) :
    Tab (k0_pay67 (F := Ideal) v226 v227) (fun r c => sg A (b + r) c) :=
  (tab_add (tab_mul hv227 hv226) (tab_const lit_half) : Tab (k0_pay67 (F := Ideal) v226 v227) _).congr fun r c _ _ => by
    rw [sg_eq_tanh, sg]

/-- The gate's activation. -/
theorem t_pay68 {v223 v226 v227 : Vec Ideal S256x2816 .f32}
    (hv223 : Tab v223 fun r c => hh A (b + r) c) (hv226 : Tab v226 fun r c => Real.tanh (1 / 2 * hh A (b + r) c)) (hv227 : Tab v227 fun _ _ => (1 / 2 : ℝ)) :
    Tab (k0_pay68 (F := Ideal) v223 v226 v227) (fun r c => act A (b + r) c) :=
  tab_mul hv223 (t_pay67 hv226 hv227)

/-- The activation's derivative times the up projection's first half. -/
theorem t_pay92 {v27 v230 v231 : Vec Ideal S256x2816 .f32}
    (hv27 : Tab v27 fun r c => u A (b + r) c) (hv230 : Tab v230 fun r c => sg A (b + r) c) (hv231 : Tab v231 fun r c => act A (b + r) c) :
    Tab (k0_pay92 (F := Ideal) v27 v230 v231) (fun r c => u A (b + r) c * (sg A (b + r) c + act A (b + r) c * (1 - sg A (b + r) c))) :=
  tab_self _ (tab_mul hv27 (tab_add hv230 (tab_mul hv231 (tab_sub (tab_const lit_one) hv230))))

/-- The gated product. -/
theorem t_pay93 {v27 v231 : Vec Ideal S256x2816 .f32}
    (hv27 : Tab v27 fun r c => u A (b + r) c) (hv231 : Tab v231 fun r c => act A (b + r) c) :
    Tab (k0_pay93 (F := Ideal) v27 v231) (fun r c => fv A (b + r) c) :=
  tab_trunc _ (tab_mul hv231 hv27)

/-- The second norm's input less its mean. -/
theorem t_pay94 {v11 : Vec Ideal S256x1024 .f32} {v27 v231 : Vec Ideal S256x2816 .f32} {v333 : Vec Ideal S2816x1024 .bf16}
    (hv11 : Tab v11 fun r c => n1 A (b + r) c) (hv27 : Tab v27 fun r c => u A (b + r) c) (hv231 : Tab v231 fun r c => act A (b + r) c) (hv333 : Tab v333 A.wd) :
    Tab (k0_pay94 (F := Ideal) v11 v27 v231 v333) (fun r c => xc2 A (b + r) c) :=
  have hz : Tab _ fun r c => z2 A (b + r) c := tab_add (tab_mul (tab_const lit_alpha) hv11)
      (tab_nn dot_S256x2816_S2816x1024_S256x1024_1_0_0_1_n_n rfl none (t_pay93 hv27 hv231) (tab_self shapeCasts_S2816x1024_S2816x1024 hv333))
  tab_sub hz (tab_col _ (tab_div (tab_sum_cols _ _ _ _ _ hz) (tab_const lit_width) fun _ _ _ => by norm_num))

/-- The second norm's reciprocal root. -/
theorem t_pay95 {v11 : Vec Ideal S256x1024 .f32} {v27 v231 : Vec Ideal S256x2816 .f32} {v333 : Vec Ideal S2816x1024 .bf16}
    (hv11 : Tab v11 fun r c => n1 A (b + r) c) (hv27 : Tab v27 fun r c => u A (b + r) c) (hv231 : Tab v231 fun r c => act A (b + r) c) (hv333 : Tab v333 A.wd) :
    Tab (k0_pay95 (F := Ideal) v11 v27 v231 v333) (fun r _ => rs2 A (b + r)) :=
  tab_rsqrt (tab_add (tab_div (tab_sum_cols _ _ _ _ _ (tab_mul (t_pay94 hv11 hv27 hv231 hv333) (t_pay94 hv11 hv27 hv231 hv333))) (tab_const lit_width)
      fun _ _ _ => by norm_num) (tab_const lit_eps)) fun r _ _ => vr2_pos A (b + r)

theorem t_pay96 {v11 : Vec Ideal S256x1024 .f32} {v27 v231 : Vec Ideal S256x2816 .f32} {v333 : Vec Ideal S2816x1024 .bf16}
    (hv11 : Tab v11 fun r c => n1 A (b + r) c) (hv27 : Tab v27 fun r c => u A (b + r) c) (hv231 : Tab v231 fun r c => act A (b + r) c) (hv333 : Tab v333 A.wd) :
    Tab (k0_pay96 (F := Ideal) v11 v27 v231 v333) (fun r c => xh2 A (b + r) c) :=
  tab_mul (t_pay94 hv11 hv27 hv231 hv333) (tab_col _ (t_pay95 hv11 hv27 hv231 hv333))

theorem t_pay97 {v11 : Vec Ideal S256x1024 .f32} {v27 v231 : Vec Ideal S256x2816 .f32} {v333 : Vec Ideal S2816x1024 .bf16} {v353 v356 : Vec Ideal S1x1024 .f32}
    (hv11 : Tab v11 fun r c => n1 A (b + r) c) (hv27 : Tab v27 fun r c => u A (b + r) c) (hv231 : Tab v231 fun r c => act A (b + r) c) (hv333 : Tab v333 A.wd) (hv353 : Tab v353 A.g2) (hv356 : Tab v356 A.b2) :
    Tab (k0_pay97 (F := Ideal) v11 v27 v231 v333 v353 v356) (fun r c => xh2 A (b + r) c * A.g2 0 c + A.b2 0 c) :=
  tab_add (tab_mul (t_pay96 hv11 hv27 hv231 hv333) (tab_row _ hv353)) (tab_row _ hv356)

/-- The difference from the target. -/
theorem t_pay98 {v358 v359 : Vec Ideal S256x1024 .f32}
    (hv358 : Tab v358 fun r c => xh2 A (b + r) c * A.g2 0 c + A.b2 0 c) (hv359 : Tab v359 fun r c => A.tg (b + r) c) :
    Tab (k0_pay98 (F := Ideal) v358 v359) (fun r c => diff A (b + r) c) :=
  tab_sub hv358 hv359

/-- The loss so far, plus the tile's. -/
theorem t_pay99 {q : ℕ → ℕ → ℝ} {v358 v359 : Vec Ideal S256x1024 .f32} {v361 : Vec Ideal S8x128 .f32}
    (hv358 : Tab v358 fun r c => xh2 A (b + r) c * A.g2 0 c + A.b2 0 c) (hv359 : Tab v359 fun r c => A.tg (b + r) c) (hv361 : Tab v361 q) :
    Tab (k0_pay99 (F := Ideal) v358 v359 v361) (fun r c => q r c + 1 / 2 * (∑ r : Fin 256, sq A (b + r.val)) / 1024) :=
  tab_add (tab_self _ hv361) (tab_const (re_kdiv (φ := .f32) (re_mul (φ := .f32) lit_half
    (tab_total (tab_mul (t_pay98 hv358 hv359) (t_pay98 hv358 hv359)))) lit_width (by norm_num)))

theorem t_pay100 {v358 v359 : Vec Ideal S256x1024 .f32}
    (hv358 : Tab v358 fun r c => xh2 A (b + r) c * A.g2 0 c + A.b2 0 c) (hv359 : Tab v359 fun r c => A.tg (b + r) c) :
    Tab (k0_pay100 (F := Ideal) v358 v359) (fun r c => dy A (b + r) c) :=
  tab_mul (t_pay98 hv358 hv359) (tab_const lit_inv_width)

theorem t_pay101 {q : ℕ → ℕ → ℝ} {v352 v358 v359 : Vec Ideal S256x1024 .f32} {v375 : Vec Ideal S1x1024 .f32}
    (hv352 : Tab v352 fun r c => xh2 A (b + r) c) (hv358 : Tab v358 fun r c => xh2 A (b + r) c * A.g2 0 c + A.b2 0 c) (hv359 : Tab v359 fun r c => A.tg (b + r) c) (hv375 : Tab v375 q) :
    Tab (k0_pay101 (F := Ideal) v352 v358 v359 v375) (fun r c => q r c + ∑ k : Fin 256, dy A (b + k.val) c * xh2 A (b + k.val) c) :=
  tab_add (tab_self _ hv375) (tab_sum_rows _ _ _ _ _ (tab_mul (t_pay100 hv358 hv359) hv352))

theorem t_pay102 {q : ℕ → ℕ → ℝ} {v358 v359 : Vec Ideal S256x1024 .f32} {v382 : Vec Ideal S1x1024 .f32}
    (hv358 : Tab v358 fun r c => xh2 A (b + r) c * A.g2 0 c + A.b2 0 c) (hv359 : Tab v359 fun r c => A.tg (b + r) c) (hv382 : Tab v382 q) :
    Tab (k0_pay102 (F := Ideal) v358 v359 v382) (fun r c => q r c + ∑ k : Fin 256, dy A (b + k.val) c) :=
  tab_add (tab_self _ hv382) (tab_sum_rows _ _ _ _ _ (t_pay100 hv358 hv359))

theorem t_pay103 {v358 v359 : Vec Ideal S256x1024 .f32} {v388 : Vec Ideal S1x1024 .f32}
    (hv358 : Tab v358 fun r c => xh2 A (b + r) c * A.g2 0 c + A.b2 0 c) (hv359 : Tab v359 fun r c => A.tg (b + r) c) (hv388 : Tab v388 A.g2) :
    Tab (k0_pay103 (F := Ideal) v358 v359 v388) (fun r c => dyg A (b + r) c) :=
  tab_mul (t_pay100 hv358 hv359) (tab_row _ hv388)

theorem t_pay104 {v358 v359 : Vec Ideal S256x1024 .f32} {v388 : Vec Ideal S1x1024 .f32}
    (hv358 : Tab v358 fun r c => xh2 A (b + r) c * A.g2 0 c + A.b2 0 c) (hv359 : Tab v359 fun r c => A.tg (b + r) c) (hv388 : Tab v388 A.g2) :
    Tab (k0_pay104 (F := Ideal) v358 v359 v388) (fun r _ => ∑ k : Fin 1024, dyg A (b + r) k.val) :=
  tab_sum_cols _ _ _ _ _ (t_pay103 hv358 hv359 hv388)

/-- The second norm's gradient. -/
theorem t_pay105 {v350 : Vec Ideal S256x1 .f32} {v352 v390 : Vec Ideal S256x1024 .f32} {v392 : Vec Ideal S256x1 .f32}
    (hv350 : Tab v350 fun r _ => rs2 A (b + r)) (hv352 : Tab v352 fun r c => xh2 A (b + r) c) (hv390 : Tab v390 fun r c => dyg A (b + r) c) (hv392 : Tab v392 fun r _ => ∑ k : Fin 1024, dyg A (b + r) k.val) :
    Tab (k0_pay105 (F := Ideal) v350 v352 v390 v392) (fun r c => dz2 A (b + r) c) :=
  tab_mul (tab_col _ hv350) (tab_sub (tab_sub hv390 (tab_col _ (tab_div hv392 (tab_const lit_width) fun _ _ _ => by norm_num)))
    (tab_mul hv352 (tab_col _ (tab_div (tab_sum_cols _ _ _ _ _ (tab_mul hv390 hv352)) (tab_const lit_width) fun _ _ _ => by norm_num))))

theorem t_pay106 {v350 : Vec Ideal S256x1 .f32} {v352 v390 : Vec Ideal S256x1024 .f32} {v392 : Vec Ideal S256x1 .f32}
    (hv350 : Tab v350 fun r _ => rs2 A (b + r)) (hv352 : Tab v352 fun r c => xh2 A (b + r) c) (hv390 : Tab v390 fun r c => dyg A (b + r) c) (hv392 : Tab v392 fun r _ => ∑ k : Fin 1024, dyg A (b + r) k.val) :
    Tab (k0_pay106 (F := Ideal) v350 v352 v390 v392) (fun r c => dz2 A (b + r) c) :=
  tab_trunc _ (t_pay105 hv350 hv352 hv390 hv392)

/-- The gated product's gradient. -/
theorem t_pay107 {v350 : Vec Ideal S256x1 .f32} {v352 v390 : Vec Ideal S256x1024 .f32} {v392 : Vec Ideal S256x1 .f32} {v409 : Vec Ideal S2816x1024 .bf16}
    (hv350 : Tab v350 fun r _ => rs2 A (b + r)) (hv352 : Tab v352 fun r c => xh2 A (b + r) c) (hv390 : Tab v390 fun r c => dyg A (b + r) c) (hv392 : Tab v392 fun r _ => ∑ k : Fin 1024, dyg A (b + r) k.val) (hv409 : Tab v409 A.wd) :
    Tab (k0_pay107 (F := Ideal) v350 v352 v390 v392 v409) (fun r c => df A (b + r) c) :=
  tab_nt _ rfl none (t_pay106 hv350 hv352 hv390 hv392) (tab_self _ hv409)

/-- The gradient of the up projection's first half. -/
theorem t_pay126 {q : ℕ → ℕ → ℝ} {v411 : Vec Ideal S256x2816 .f32} {v413 v415 v417 v419 v421 v423 v425 v427 v429 v431 v433 v435 v437 v439 v441 v443 v445 v447 : Vec Ideal S256x128 .f32} {v448 v450 v452 v454 : Vec Ideal S1x256x128 .f32}
    (hv411 : Tab v411 fun r c => df A (b + r) c) (q0 : Strip q 0 v413) (q1 : Strip q 128 v415) (q2 : Strip q 256 v417) (q3 : Strip q 384 v419) (q4 : Strip q 512 v421) (q5 : Strip q 640 v423) (q6 : Strip q 768 v425) (q7 : Strip q 896 v427) (q8 : Strip q 1024 v429) (q9 : Strip q 1152 v431) (q10 : Strip q 1280 v433) (q11 : Strip q 1408 v435) (q12 : Strip q 1536 v437) (q13 : Strip q 1664 v439) (q14 : Strip q 1792 v441) (q15 : Strip q 1920 v443) (q16 : Strip q 2048 v445) (q17 : Strip q 2176 v447) (q18 : Tab (a := 256) (b := 128) (shapeCast S256x128 v448 shapeCasts_S1x256x128_S256x128) fun r l => q r (2304 + l)) (q19 : Tab (a := 256) (b := 128) (shapeCast S256x128 v450 shapeCasts_S1x256x128_S256x128) fun r l => q r (2432 + l)) (q20 : Tab (a := 256) (b := 128) (shapeCast S256x128 v452 shapeCasts_S1x256x128_S256x128) fun r l => q r (2560 + l)) (q21 : Tab (a := 256) (b := 128) (shapeCast S256x128 v454 shapeCasts_S1x256x128_S256x128) fun r l => q r (2688 + l)) :
    Tab (k0_pay126 (F := Ideal) v411 v413 v415 v417 v419 v421 v423 v425 v427 v429 v431 v433 v435 v437 v439 v441 v443 v445 v447 v448 v450 v452 v454) (fun r c => df A (b + r) c * q r c) :=
  tab_mul hv411 (tab_cat strips_join q0 q1 q2 q3 q4 q5 q6 q7 q8 q9 q10 q11 q12 q13 q14 q15 q16 q17 q18 q19 q20 q21)

/-- The convolution's gradient. -/
theorem t_pay127 {v411 v458 : Vec Ideal S256x2816 .f32}
    (hv411 : Tab v411 fun r c => df A (b + r) c) (hv458 : Tab v458 fun r c => u A (b + r) c * (sg A (b + r) c + act A (b + r) c * (1 - sg A (b + r) c))) :
    Tab (k0_pay127 (F := Ideal) v411 v458) (fun r c => dh A (b + r) c) :=
  tab_mul hv411 hv458

theorem t_pay206 {q : ℕ → ℕ → ℝ} {v639 v641 v643 v645 v647 v649 v651 v653 v655 v657 v659 : Vec Ideal S256x128 .f32} {v660 v662 v664 v666 v668 v670 v672 v674 v676 v678 v680 : Vec Ideal S1x256x128 .f32}
    (q0 : Strip q 0 v639) (q1 : Strip q 128 v641) (q2 : Strip q 256 v643) (q3 : Strip q 384 v645) (q4 : Strip q 512 v647) (q5 : Strip q 640 v649) (q6 : Strip q 768 v651) (q7 : Strip q 896 v653) (q8 : Strip q 1024 v655) (q9 : Strip q 1152 v657) (q10 : Strip q 1280 v659) (q11 : Tab (a := 256) (b := 128) (shapeCast S256x128 v660 shapeCasts_S1x256x128_S256x128) fun r l => q r (1408 + l)) (q12 : Tab (a := 256) (b := 128) (shapeCast S256x128 v662 shapeCasts_S1x256x128_S256x128) fun r l => q r (1536 + l)) (q13 : Tab (a := 256) (b := 128) (shapeCast S256x128 v664 shapeCasts_S1x256x128_S256x128) fun r l => q r (1664 + l)) (q14 : Tab (a := 256) (b := 128) (shapeCast S256x128 v666 shapeCasts_S1x256x128_S256x128) fun r l => q r (1792 + l)) (q15 : Tab (a := 256) (b := 128) (shapeCast S256x128 v668 shapeCasts_S1x256x128_S256x128) fun r l => q r (1920 + l)) (q16 : Tab (a := 256) (b := 128) (shapeCast S256x128 v670 shapeCasts_S1x256x128_S256x128) fun r l => q r (2048 + l)) (q17 : Tab (a := 256) (b := 128) (shapeCast S256x128 v672 shapeCasts_S1x256x128_S256x128) fun r l => q r (2176 + l)) (q18 : Tab (a := 256) (b := 128) (shapeCast S256x128 v674 shapeCasts_S1x256x128_S256x128) fun r l => q r (2304 + l)) (q19 : Tab (a := 256) (b := 128) (shapeCast S256x128 v676 shapeCasts_S1x256x128_S256x128) fun r l => q r (2432 + l)) (q20 : Tab (a := 256) (b := 128) (shapeCast S256x128 v678 shapeCasts_S1x256x128_S256x128) fun r l => q r (2560 + l)) (q21 : Tab (a := 256) (b := 128) (shapeCast S256x128 v680 shapeCasts_S1x256x128_S256x128) fun r l => q r (2688 + l)) :
    Tab (k0_pay206 (F := Ideal) v639 v641 v643 v645 v647 v649 v651 v653 v655 v657 v659 v660 v662 v664 v666 v668 v670 v672 v674 v676 v678 v680) q :=
  (tab_cat strips_join q0 q1 q2 q3 q4 q5 q6 q7 q8 q9 q10 q11 q12 q13 q14 q15 q16 q17 q18 q19 q20 q21)

theorem t_pay207 {q : ℕ → ℕ → ℝ} {v683 : Vec Ideal S1x2816 .f32}
    (hv683 : Tab v683 q) :
    Tab (k0_pay207 (F := Ideal) v683) q :=
  tab_self _ hv683

theorem t_pay208 {v459 : Vec Ideal S256x2816 .f32}
    (hv459 : Tab v459 fun r c => dh A (b + r) c) :
    Tab (k0_pay208 (F := Ideal) v459) (fun _ c => ∑ k : Fin 256, dh A (b + k.val) c) :=
  tab_sum_rows _ _ _ _ _ hv459

theorem t_pay209 {q q' : ℕ → ℕ → ℝ} {v684 v686 : Vec Ideal S1x2816 .f32}
    (hv684 : Tab v684 q) (hv686 : Tab v686 q') :
    Tab (k0_pay209 (F := Ideal) v684 v686) (fun r c => q r c + q' r c) :=
  tab_add hv684 hv686

theorem t_pay210 {p p' q : ℕ → ℕ → ℝ} {v637 v682 : Vec Ideal S256x2816 .f32} {v689 : Vec Ideal S1x2816 .f32}
    (hv637 : Tab v637 p) (hv682 : Tab v682 p') (hv689 : Tab v689 q) :
    Tab (k0_pay210 (F := Ideal) v637 v682 v689) (fun r c => q r c + ∑ k : Fin 256, p k.val c * p' k.val c) :=
  tab_add (tab_self _ hv689) (tab_sum_rows _ _ _ _ _ (tab_mul hv637 hv682))

theorem t_pay211 {p p' q : ℕ → ℕ → ℝ} {v592 v682 : Vec Ideal S256x2816 .f32} {v696 : Vec Ideal S1x2816 .f32}
    (hv592 : Tab v592 p) (hv682 : Tab v682 p') (hv696 : Tab v696 q) :
    Tab (k0_pay211 (F := Ideal) v592 v682 v696) (fun r c => q r c + ∑ k : Fin 256, p k.val c * p' k.val c) :=
  tab_add (tab_self _ hv696) (tab_sum_rows _ _ _ _ _ (tab_mul hv592 hv682))

theorem t_pay212 {p p' q : ℕ → ℕ → ℝ} {v459 v682 : Vec Ideal S256x2816 .f32} {v703 : Vec Ideal S1x2816 .f32}
    (hv459 : Tab v459 p) (hv682 : Tab v682 p') (hv703 : Tab v703 q) :
    Tab (k0_pay212 (F := Ideal) v459 v682 v703) (fun r c => q r c + ∑ k : Fin 256, p k.val c * p' k.val c) :=
  tab_add (tab_self _ hv703) (tab_sum_rows _ _ _ _ _ (tab_mul hv459 hv682))

theorem t_pay213 {v459 v592 : Vec Ideal S256x2816 .f32} {v710 v713 : Vec Ideal S1x2816 .f32}
    (hv459 : Tab v459 fun r c => dhz A (b + r) c) (hv592 : Tab v592 fun r c => dhz A (b + r + 1) c) (hv710 : Tab v710 fun r c => A.cw (2 + r) c) (hv713 : Tab v713 fun r c => A.cw (1 + r) c) :
    Tab (k0_pay213 (F := Ideal) v459 v592 v710 v713) (fun r c => A.cw 2 c * dhz A (b + r) c + A.cw 1 c * dhz A (b + r + 1) c) :=
  tab_add (tab_mul (tab_row _ hv710) hv459) (tab_mul (tab_row _ hv713) hv592)

theorem t_pay214 {v637 : Vec Ideal S256x2816 .f32} {v717 : Vec Ideal S1x2816 .f32}
    (hv637 : Tab v637 fun r c => dhz A (b + r + 2) c) (hv717 : Tab v717 A.cw) :
    Tab (k0_pay214 (F := Ideal) v637 v717) (fun r c => A.cw 0 c * dhz A (b + r + 2) c) :=
  tab_mul (tab_row _ hv717) hv637

theorem t_pay215 {v457 : Vec Ideal S256x2816 .f32}
    (hv457 : Tab v457 fun r c => dval A (b + r) c) :
    Tab (k0_pay215 (F := Ideal) v457) (fun r c => dval A (b + r) c) :=
  tab_trunc _ hv457

/-- The gate's gradient. -/
theorem t_pay216 {v716 v719 : Vec Ideal S256x2816 .f32}
    (hv716 : Tab v716 fun r c => A.cw 2 c * dhz A (b + r) c + A.cw 1 c * dhz A (b + r + 1) c) (hv719 : Tab v719 fun r c => A.cw 0 c * dhz A (b + r + 2) c) :
    Tab (k0_pay216 (F := Ideal) v716 v719) (fun r c => dgate A (b + r) c) :=
  tab_trunc _ (tab_add hv716 hv719)

/-- The first norm's output's gradient. -/
theorem t_pay217 {v406 : Vec Ideal S256x1024 .f32} {v457 v716 v719 : Vec Ideal S256x2816 .f32} {v727 v731 : Vec Ideal S2816x1024 .bf16}
    (hv406 : Tab v406 fun r c => dz2 A (b + r) c) (hv457 : Tab v457 fun r c => dval A (b + r) c) (hv716 : Tab v716 fun r c => A.cw 2 c * dhz A (b + r) c + A.cw 1 c * dhz A (b + r + 1) c) (hv719 : Tab v719 fun r c => A.cw 0 c * dhz A (b + r + 2) c) (hv727 : Tab v727 fun r c => A.wu c r) (hv731 : Tab v731 fun r c => A.wu c (2816 + r)) :
    Tab (k0_pay217 (F := Ideal) v406 v457 v716 v719 v727 v731) (fun r c => dx1 A (b + r) c) :=
  (tab_add (tab_add (tab_mul (tab_const lit_alpha) hv406)
      (tab_nn dot_S256x2816_S2816x1024_S256x1024_1_0_0_1_n_n rfl none (t_pay215 hv457) (tab_self shapeCasts_S2816x1024_S2816x1024 hv727)))
      (tab_nn dot_S256x2816_S2816x1024_S256x1024_1_0_0_1_n_n rfl none (t_pay216 hv716 hv719) (tab_self shapeCasts_S2816x1024_S2816x1024 hv731))
    : Tab (k0_pay217 (F := Ideal) v406 v457 v716 v719 v727 v731) _).congr fun r c _ _ => by rw [dx1_halves]

theorem t_pay219 {q : ℕ → ℕ → ℝ} {v7 v406 : Vec Ideal S256x1024 .f32} {v457 v716 v719 : Vec Ideal S256x2816 .f32} {v727 v731 : Vec Ideal S2816x1024 .bf16} {v739 : Vec Ideal S1x1024 .f32}
    (hv7 : Tab v7 fun r c => xh A (b + r) c) (hv406 : Tab v406 fun r c => dz2 A (b + r) c) (hv457 : Tab v457 fun r c => dval A (b + r) c) (hv716 : Tab v716 fun r c => A.cw 2 c * dhz A (b + r) c + A.cw 1 c * dhz A (b + r + 1) c) (hv719 : Tab v719 fun r c => A.cw 0 c * dhz A (b + r + 2) c) (hv727 : Tab v727 fun r c => A.wu c r) (hv731 : Tab v731 fun r c => A.wu c (2816 + r)) (hv739 : Tab v739 q) :
    Tab (k0_pay219 (F := Ideal) v7 v406 v457 v716 v719 v727 v731 v739) (fun r c => q r c + ∑ k : Fin 256, dx1 A (b + k.val) c * xh A (b + k.val) c) :=
  tab_add (tab_self _ hv739) (tab_sum_rows _ _ _ _ _ (tab_mul (t_pay217 hv406 hv457 hv716 hv719 hv727 hv731) hv7))

theorem t_pay220 {q : ℕ → ℕ → ℝ} {v406 : Vec Ideal S256x1024 .f32} {v457 v716 v719 : Vec Ideal S256x2816 .f32} {v727 v731 : Vec Ideal S2816x1024 .bf16} {v746 : Vec Ideal S1x1024 .f32}
    (hv406 : Tab v406 fun r c => dz2 A (b + r) c) (hv457 : Tab v457 fun r c => dval A (b + r) c) (hv716 : Tab v716 fun r c => A.cw 2 c * dhz A (b + r) c + A.cw 1 c * dhz A (b + r + 1) c) (hv719 : Tab v719 fun r c => A.cw 0 c * dhz A (b + r + 2) c) (hv727 : Tab v727 fun r c => A.wu c r) (hv731 : Tab v731 fun r c => A.wu c (2816 + r)) (hv746 : Tab v746 q) :
    Tab (k0_pay220 (F := Ideal) v406 v457 v716 v719 v727 v731 v746) (fun r c => q r c + ∑ k : Fin 256, dx1 A (b + k.val) c) :=
  tab_add (tab_self _ hv746) (tab_sum_rows _ _ _ _ _ (t_pay217 hv406 hv457 hv716 hv719 hv727 hv731))

/-- The first norm's gradient. -/
theorem t_pay221 {v4 : Vec Ideal S1x1024 .f32} {v7 v734 : Vec Ideal S256x1024 .f32} {v754 : Vec Ideal S256x1 .f32}
    (hv4 : Tab v4 A.g1) (hv7 : Tab v7 fun r c => xh A (b + r) c) (hv734 : Tab v734 fun r c => dx1 A (b + r) c) (hv754 : Tab v754 fun r _ => rs A (b + r)) :
    Tab (k0_pay221 (F := Ideal) v4 v7 v734 v754) (fun r c => dz1 A (b + r) c) :=
  have hd : Tab _ fun r c => dxg A (b + r) c := tab_mul hv734 (tab_row broadcasts_S1x1024_S256x1024 hv4)
  tab_mul (tab_col _ (tab_self _ hv754)) (tab_sub (tab_sub hd (tab_col _ (tab_div (tab_sum_cols _ _ _ _ _ hd) (tab_const lit_width)
    fun _ _ _ => by norm_num))) (tab_mul hv7 (tab_col _ (tab_div (tab_sum_cols _ _ _ _ _ (tab_mul hd hv7)) (tab_const lit_width)
    fun _ _ _ => by norm_num))))

theorem t_pay1 : Tab (k0_pay1 (F := Ideal)) fun _ _ => 0 := tab_const lit_zero

theorem t_pay2 : Tab (k0_pay2 (F := Ideal)) fun _ _ => 0 := tab_const lit_zero

theorem t_pay3 : Tab (k0_pay3 (F := Ideal)) fun _ _ => 0 := tab_const lit_zero

theorem t_pay4 : Tab (k0_pay4 (F := Ideal)) fun _ _ => 0 := tab_const lit_zero

theorem t_pay5 : Tab (k0_pay5 (F := Ideal)) fun _ _ => 0 := tab_const lit_zero

theorem t_pay6 : Tab (k0_pay6 (F := Ideal)) fun _ _ => 0 := tab_const lit_zero

theorem t_pay7 : Tab (k0_pay7 (F := Ideal)) fun _ _ => 0 := tab_const lit_zero

end FfnStep.Block
-- ==== Proof.Block.Writes.lean ====
/- What a buffer holds after a list of stores: strips of 128 columns, rows, and whole stores, as tables. -/
module

public import proofs.«01_k».proof.Proof.Block.Table
public import Idealize.ShloMosaic.Lib.Pipeline.FrameBody
public import Idealize.ShloMosaic.Lib.WritesUnit

@[expose] public section

set_option maxRecDepth 16384

noncomputable section

namespace FfnStep

open Idealize.ShloMosaic Idealize.ShloMosaic.ValueIdx

variable {a b n : ℕ} {f g : ℕ → ℕ → ℝ}

/-- Contents after stores, the newest first: a store's own value where it stored, what was there before elsewhere. -/
structure Over {s : Shape} {e : EltTy} (val : List (View.Piece (Elt Ideal) s e) → s.Idx → Elt Ideal e) : Prop where
  hit : ∀ (r : Rect s) (w : r.shape.Idx → Elt Ideal e) (L : List (View.Piece (Elt Ideal) s e)) (x : r.shape.Idx), val (⟨r, w⟩ :: L) (r.emb x) = w x
  miss : ∀ (p : View.Piece (Elt Ideal) s e) (L : List (View.Piece (Elt Ideal) s e)) (y : s.Idx), y ∉ p.1.set → val (p :: L) y = val L y

theorem over_canon {s : Shape} {e : EltTy} : Over (s := s) (e := e) View.canon :=
  ⟨fun r w L x => View.canon_cons_emb r w L x, fun p L _ h => View.canon_cons_of_not_mem p L h⟩

theorem over_writes {s : Shape} {e : EltTy} {sig : RefSig} {κ : Kind} {sp : Space} (v : View sig κ sp s e) (z : v.ty.Contents (Elt Ideal)) :
    Over fun L => v.read (Elt Ideal) (v.writes (Elt Ideal) z L) :=
  ⟨fun r w L x => View.read_writes_cons_emb v z r w L x, fun p L y h => View.read_writes_cons_miss v z p L y h⟩

/-! ### Strips -/

section Strip

abbrev Buf3 (n : ℕ) : Shape := ⟨3, ![22, n, 128]⟩

variable {val : List (View.Piece (Elt Ideal) (Buf3 n) .f32) → (Buf3 n).Idx → EReal} {L : List (View.Piece (Elt Ideal) (Buf3 n) .f32)}

/-- The first `K` strips hold the table's in their first `M` rows. -/
def Done (X : (Buf3 n).Idx → EReal) (K M : ℕ) (f : ℕ → ℕ → ℝ) : Prop :=
  ∀ (k : Fin 22) (r : Fin n) (l : Fin 128), k.val < K → r.val < M → X (ix3 k r l) = ((f r.val (128 * k.val + l.val) : ℝ) : EReal)

/-- All strips hold the table's in their rows from `M`. -/
def Rest (X : (Buf3 n).Idx → EReal) (M : ℕ) (f : ℕ → ℕ → ℝ) : Prop :=
  ∀ (k : Fin 22) (r : Fin n) (l : Fin 128), M ≤ r.val → X (ix3 k r l) = ((f r.val (128 * k.val + l.val) : ℝ) : EReal)

theorem done_zero {X : (Buf3 n).Idx → EReal} {M : ℕ} : Done X 0 M f := fun k _ _ hk => absurd hk (Nat.not_lt_zero _)

/-- A store of strip `K`. -/
theorem done_cons (hv : Over val) {M : ℕ} (K : ℕ) (h : Done (val L) K M f)
    (inb : ∀ ax, (![K, 0, 0] : Fin 3 → ℕ) ax + (⟨3, ![1, M, 128]⟩ : Shape).size ax ≤ (Buf3 n).size ax)
    (w : (Rect.unit (s := Buf3 n) ![K, 0, 0] (⟨3, ![1, M, 128]⟩ : Shape).size inb).shape.Idx → EReal)
    (hw : ∀ x, w x = stripAt (n := n) f ((Rect.unit (s := Buf3 n) ![K, 0, 0] (⟨3, ![1, M, 128]⟩ : Shape).size inb).emb x)) :
    Done (val (⟨Rect.unit (s := Buf3 n) ![K, 0, 0] (⟨3, ![1, M, 128]⟩ : Shape).size inb, w⟩ :: L)) (K + 1) M f := by
  intro k r l hk hr
  by_cases h' : k.val = K
  · have e : (Rect.unit (s := Buf3 n) ![K, 0, 0] (⟨3, ![1, M, 128]⟩ : Shape).size inb).emb
        (ix3 (0 : Fin 1) (⟨r.val, hr⟩ : Fin M) l : (⟨3, ![1, M, 128]⟩ : Shape).Idx) = ix3 k r l := by
      funext ax; apply Fin.ext
      match ax with
      | ⟨0, _⟩ => show K + 1 * 0 = k.val; omega
      | ⟨1, _⟩ => show 0 + 1 * r.val = r.val; omega
      | ⟨2, _⟩ => show 0 + 1 * l.val = l.val; omega
    have e1 := (hv.hit _ w L _).trans (hw (ix3 (0 : Fin 1) (⟨r.val, hr⟩ : Fin M) l : (⟨3, ![1, M, 128]⟩ : Shape).Idx))
    rw [e] at e1
    exact e1
  · refine (hv.miss _ _ _ fun hm => ?_).trans (h k r l (by omega) hr)
    have h0 := (Rect.mem_set_unit (inb := inb)).1 hm ⟨0, by show 0 < 3; omega⟩
    have h1 : K ≤ k.val ∧ k.val < K + 1 := h0
    omega

/-- A store of a strip's first `M` rows leaves the rest. -/
theorem rest_cons (hv : Over val) {M : ℕ} (h : Rest (val L) M f) (K : ℕ)
    (inb : ∀ ax, (![K, 0, 0] : Fin 3 → ℕ) ax + (⟨3, ![1, M, 128]⟩ : Shape).size ax ≤ (Buf3 n).size ax)
    (w : (Rect.unit (s := Buf3 n) ![K, 0, 0] (⟨3, ![1, M, 128]⟩ : Shape).size inb).shape.Idx → EReal) :
    Rest (val (⟨Rect.unit (s := Buf3 n) ![K, 0, 0] (⟨3, ![1, M, 128]⟩ : Shape).size inb, w⟩ :: L)) M f := by
  intro k r l hr
  refine (hv.miss _ _ _ fun hm => ?_).trans (h k r l hr)
  have h0 := (Rect.mem_set_unit (inb := inb)).1 hm ⟨1, by show 1 < 3; omega⟩
  have h1 : 0 ≤ r.val ∧ r.val < 0 + M := h0
  omega

theorem Done.strips {X : (Buf3 n).Idx → EReal} {M : ℕ} (h : Done X 22 M f) : Strips X M f := fun k r l hr => h k r l k.isLt hr

theorem Done.strips_rest {X : (Buf3 n).Idx → EReal} {M N : ℕ} (h : Done X 22 M f) (h' : Rest X M f) : Strips X N f := fun k r l _ => by
  by_cases hr : r.val < M
  · exact h k r l k.isLt hr
  · exact h' k r l (by omega)

theorem Rest.congr {X : (Buf3 n).Idx → EReal} {M : ℕ} (h : Rest X M f) (e : ∀ r c, M ≤ r → r < n → f r c = g r c) : Rest X M g :=
  fun k r l hr => (h k r l hr).trans (by rw [e _ _ hr r.isLt])

/-- A store of all strips' rows from `M`. -/
theorem rest_store (hv : Over val) {M q : ℕ} (hq : M + q = n)
    (inb : ∀ ax, (![0, M, 0] : Fin 3 → ℕ) ax + (⟨3, ![22, q, 128]⟩ : Shape).size ax ≤ (Buf3 n).size ax)
    (w : (Rect.unit (s := Buf3 n) ![0, M, 0] (⟨3, ![22, q, 128]⟩ : Shape).size inb).shape.Idx → EReal)
    (hw : ∀ (k : Fin 22) (r : Fin q) (l : Fin 128), w (ix3 k r l : (⟨3, ![22, q, 128]⟩ : Shape).Idx) = ((f (M + r.val) (128 * k.val + l.val) : ℝ) : EReal)) :
    Rest (val (⟨Rect.unit (s := Buf3 n) ![0, M, 0] (⟨3, ![22, q, 128]⟩ : Shape).size inb, w⟩ :: L)) M f := by
  intro k r l hr
  have hr' := r.isLt
  have e : (Rect.unit (s := Buf3 n) ![0, M, 0] (⟨3, ![22, q, 128]⟩ : Shape).size inb).emb
      (ix3 k (⟨r.val - M, by omega⟩ : Fin q) l : (⟨3, ![22, q, 128]⟩ : Shape).Idx) = ix3 k r l := by
    funext ax; apply Fin.ext
    match ax with
    | ⟨0, _⟩ => show 0 + 1 * k.val = k.val; omega
    | ⟨1, _⟩ => show M + 1 * (r.val - M) = r.val; omega
    | ⟨2, _⟩ => show 0 + 1 * l.val = l.val; omega
  have e1 := (hv.hit _ w L _).trans (hw k (⟨r.val - M, by omega⟩ : Fin q) l)
  rw [e, show M + (r.val - M) = r.val by omega] at e1
  exact e1

end Strip

/-- The first rows of all strips, read after stores. -/
theorem head_cov {sig : RefSig} {κ : Kind} {sp : Space} {q M : ℕ} (v : View sig κ sp (Buf3 n) .f32)
    {L : List (View.Piece (Elt Ideal) (Buf3 n) .f32)} (hq : q ≤ n) (hM : q ≤ M)
    (inb : ∀ ax, (![0, 0, 0] : Fin 3 → ℕ) ax + (⟨3, ![22, q, 128]⟩ : Shape).size ax ≤ (Buf3 n).size ax)
    (h : Done (View.canon L) 22 M f) (k : Fin 22) (r : Fin q) (l : Fin 128) :
    v.readCov L (Rect.unit (s := Buf3 n) ![0, 0, 0] (⟨3, ![22, q, 128]⟩ : Shape).size inb).toLoadRect (ix3 k r l : (⟨3, ![22, q, 128]⟩ : Shape).Idx)
      = ((f r.val (128 * k.val + l.val) : ℝ) : EReal) := by
  rw [View.readCov_eq_canon']
  have hr := r.isLt
  refine Eq.trans (congrArg (View.canon L) ?_) (h k ⟨r.val, by omega⟩ l k.isLt (by show r.val < M; omega))
  funext ax; apply Fin.ext
  match ax with
  | ⟨0, _⟩ => show 0 + 1 * k.val = k.val; omega
  | ⟨1, _⟩ => show 0 + 1 * r.val = r.val; omega
  | ⟨2, _⟩ => show 0 + 1 * l.val = l.val; omega

/-! ### Whole stores -/

theorem zero2 : (![0, 0] : Fin 2 → ℕ) = fun _ => 0 := by
  funext i
  match i with
  | ⟨0, _⟩ => rfl
  | ⟨1, _⟩ => rfl

/-- A load of a buffer stored whole just before. -/
theorem tab_cov0 {sig : RefSig} {κ : Kind} {sp : Space} (v : View sig κ sp (⟨2, ![a, b]⟩ : Shape) .f32)
    (inb : ∀ ax, (![0, 0] : Fin 2 → ℕ) ax + (⟨2, ![a, b]⟩ : Shape).size ax ≤ (⟨2, ![a, b]⟩ : Shape).size ax)
    {w : (⟨2, ![a, b]⟩ : Shape).Idx → EReal} (hw : Tab w f) :
    Tab (a := a) (b := b) (v.readCov [(⟨Rect.unit (s := ⟨2, ![a, b]⟩) ![0, 0] (⟨2, ![a, b]⟩ : Shape).size inb, w⟩ : View.Piece (Elt Ideal) (⟨2, ![a, b]⟩ : Shape) .f32)]
      (Rect.unit (s := ⟨2, ![a, b]⟩) ![0, 0] (⟨2, ![a, b]⟩ : Shape).size inb).toLoadRect) f := fun r c =>
  (congrFun (View.readCov_unit_zero (Val := Elt Ideal) (e := .f32) v zero2 inb w) (ix2 r c)).trans (hw r c)

/-- An output stored whole. -/
theorem tab_out {sig : RefSig} {κ : Kind} {sp : Space} (v : View sig κ sp (⟨2, ![a, b]⟩ : Shape) .f32)
    (inb : ∀ ax, (![0, 0] : Fin 2 → ℕ) ax + (⟨2, ![a, b]⟩ : Shape).size ax ≤ (⟨2, ![a, b]⟩ : Shape).size ax)
    {w : (⟨2, ![a, b]⟩ : Shape).Idx → EReal} (L : List (View.Piece (Elt Ideal) (⟨2, ![a, b]⟩ : Shape) .f32)) (hw : Tab w f) :
    Tab (a := a) (b := b) (v.read (Elt Ideal) (v.writes (Elt Ideal) v.junk
      ((⟨Rect.unit (s := ⟨2, ![a, b]⟩) ![0, 0] (⟨2, ![a, b]⟩ : Shape).size inb, w⟩ : View.Piece (Elt Ideal) (⟨2, ![a, b]⟩ : Shape) .f32) :: L))) f := fun r c =>
  (View.read_writes_junk_apply_eq_canon v (ix2 r c) _).trans
    ((congrFun (View.canon_cons_unit_zero zero2 inb w L) (ix2 r c)).trans (hw r c))

theorem tab_outh {sig : RefSig} {κ : Kind} {sp : Space} (v : View sig κ sp (⟨2, ![a, b]⟩ : Shape) .bf16)
    (inb : ∀ ax, (![0, 0] : Fin 2 → ℕ) ax + (⟨2, ![a, b]⟩ : Shape).size ax ≤ (⟨2, ![a, b]⟩ : Shape).size ax)
    {w : (⟨2, ![a, b]⟩ : Shape).Idx → EReal} (L : List (View.Piece (Elt Ideal) (⟨2, ![a, b]⟩ : Shape) .bf16)) (hw : Tab w f) :
    Tab (a := a) (b := b) (v.read (Elt Ideal) (v.writes (Elt Ideal) v.junk
      ((⟨Rect.unit (s := ⟨2, ![a, b]⟩) ![0, 0] (⟨2, ![a, b]⟩ : Shape).size inb, w⟩ : View.Piece (Elt Ideal) (⟨2, ![a, b]⟩ : Shape) .bf16) :: L))) f := fun r c =>
  (View.read_writes_junk_apply_eq_canon v (ix2 r c) _).trans
    ((congrFun (View.canon_cons_unit_zero zero2 inb w L) (ix2 r c)).trans (hw r c))

/-- A half-width output stored in two halves of its columns. -/
theorem tab_halves {sig : RefSig} {κ : Kind} {sp : Space} {m : ℕ} (hm : m + m = b) (v : View sig κ sp (⟨2, ![a, b]⟩ : Shape) .bf16)
    (inb : ∀ ax, (![0, m] : Fin 2 → ℕ) ax + (⟨2, ![a, m]⟩ : Shape).size ax ≤ (⟨2, ![a, b]⟩ : Shape).size ax)
    (inb' : ∀ ax, (![0, 0] : Fin 2 → ℕ) ax + (⟨2, ![a, m]⟩ : Shape).size ax ≤ (⟨2, ![a, b]⟩ : Shape).size ax)
    {w w' : (⟨2, ![a, m]⟩ : Shape).Idx → EReal} (hw : Tab w g) (hw' : Tab w' f) :
    Tab (a := a) (b := b) (v.read (Elt Ideal) (v.writes (Elt Ideal) v.junk
      [(⟨Rect.unit (s := ⟨2, ![a, b]⟩) ![0, m] (⟨2, ![a, m]⟩ : Shape).size inb, w⟩ : View.Piece (Elt Ideal) (⟨2, ![a, b]⟩ : Shape) .bf16),
       (⟨Rect.unit (s := ⟨2, ![a, b]⟩) ![0, 0] (⟨2, ![a, m]⟩ : Shape).size inb', w'⟩ : View.Piece (Elt Ideal) (⟨2, ![a, b]⟩ : Shape) .bf16)]))
      fun r c => if c < m then f r c else g r (c - m) := fun r c => by
  have hc := c.isLt
  by_cases h : c.val < m
  · show _ = (((if c.val < m then f r.val c.val else g r.val (c.val - m)) : ℝ) : EReal)
    rw [if_pos h]
    refine (View.read_writes_cons_unit_of_not_mem (Val := Elt Ideal) v _ inb w _ (ix2 r c) rfl (1 : Fin 2) (.inl ?_)).trans ?_
    · exact h
    refine (View.read_writes_cons_unit_of_mem (Val := Elt Ideal) v _ inb' w' [] (ix2 r c) (ix2 r (⟨c.val, h⟩ : Fin m)) rfl fun ax => by
      match ax with
      | ⟨0, _⟩ => show r.val = 0 + r.val; omega
      | ⟨1, _⟩ => show c.val = 0 + c.val; omega).trans ?_
    exact hw' r ⟨c.val, h⟩
  · show _ = (((if c.val < m then f r.val c.val else g r.val (c.val - m)) : ℝ) : EReal)
    rw [if_neg h]
    refine (View.read_writes_cons_unit_of_mem (Val := Elt Ideal) v _ inb w _ (ix2 r c) (ix2 r (⟨c.val - m, by omega⟩ : Fin m)) rfl fun ax => by
      match ax with
      | ⟨0, _⟩ => show r.val = 0 + r.val; omega
      | ⟨1, _⟩ => show c.val = m + (c.val - m); omega).trans ?_
    exact hw r ⟨c.val - m, by omega⟩

/-! ### Rows -/

section Rows

variable {sig : RefSig} {κ : Kind} {sp : Space}

/-- A load of rows of a whole buffer. -/
theorem tab_load_rows {M : Memref sig κ sp (⟨2, ![n, b]⟩ : Shape) .f32} (hM : M.IsWhole)
    {X : (⟨2, ![n, b]⟩ : Shape).Idx → EReal} (o : ℕ)
    (inb : ∀ ax, (![o, 0] : Fin 2 → ℕ) ax + (⟨2, ![a, b]⟩ : Shape).size ax ≤ (⟨2, ![n, b]⟩ : Shape).size ax) (hX : Tab X f) :
    Tab (a := a) (b := b) (M.view.readAt (Elt Ideal) (Rect.unit (s := ⟨2, ![n, b]⟩) ![o, 0] (⟨2, ![a, b]⟩ : Shape).size inb).toLoadRect (hM.unread X))
      fun r c => f (o + r) c := (tab_load hM o 0 inb hX).congr fun r c _ _ => by rw [Nat.zero_add]

theorem tab_load_top {M : Memref sig κ sp (⟨2, ![n, b]⟩ : Shape) .f32} (hM : M.IsWhole)
    {X : (⟨2, ![n, b]⟩ : Shape).Idx → EReal}
    (inb : ∀ ax, (![0, 0] : Fin 2 → ℕ) ax + (⟨2, ![a, b]⟩ : Shape).size ax ≤ (⟨2, ![n, b]⟩ : Shape).size ax) (hX : Tab X f) :
    Tab (a := a) (b := b) (M.view.readAt (Elt Ideal) (Rect.unit (s := ⟨2, ![n, b]⟩) ![0, 0] (⟨2, ![a, b]⟩ : Shape).size inb).toLoadRect (hM.unread X))
      f := (tab_load hM 0 0 inb hX).congr fun r c _ _ => by rw [Nat.zero_add, Nat.zero_add]

theorem tab_loadh_rows {M : Memref sig κ sp (⟨2, ![n, b]⟩ : Shape) .bf16} (hM : M.IsWhole)
    {X : (⟨2, ![n, b]⟩ : Shape).Idx → EReal} (o : ℕ)
    (inb : ∀ ax, (![o, 0] : Fin 2 → ℕ) ax + (⟨2, ![a, b]⟩ : Shape).size ax ≤ (⟨2, ![n, b]⟩ : Shape).size ax) (hX : Tab X f) :
    Tab (a := a) (b := b) (M.view.readAt (Elt Ideal) (Rect.unit (s := ⟨2, ![n, b]⟩) ![o, 0] (⟨2, ![a, b]⟩ : Shape).size inb).toLoadRect (hM.unread X))
      fun r c => f (o + r) c := (tab_loadh hM o 0 inb hX).congr fun r c _ _ => by rw [Nat.zero_add]

theorem tab_loadh_top {M : Memref sig κ sp (⟨2, ![n, b]⟩ : Shape) .bf16} (hM : M.IsWhole)
    {X : (⟨2, ![n, b]⟩ : Shape).Idx → EReal}
    (inb : ∀ ax, (![0, 0] : Fin 2 → ℕ) ax + (⟨2, ![a, b]⟩ : Shape).size ax ≤ (⟨2, ![n, b]⟩ : Shape).size ax) (hX : Tab X f) :
    Tab (a := a) (b := b) (M.view.readAt (Elt Ideal) (Rect.unit (s := ⟨2, ![n, b]⟩) ![0, 0] (⟨2, ![a, b]⟩ : Shape).size inb).toLoadRect (hM.unread X))
      f := (tab_loadh hM 0 0 inb hX).congr fun r c _ _ => by rw [Nat.zero_add, Nat.zero_add]

/-- The rows from `o` hold the table's. -/
def RowsFrom (X : (⟨2, ![n, b]⟩ : Shape).Idx → EReal) (o : ℕ) (f : ℕ → ℕ → ℝ) : Prop :=
  ∀ (j : Fin n) (c : Fin b), o ≤ j.val → X (ix2 j c) = ((f j.val c.val : ℝ) : EReal)

abbrev rowPiece (o : ℕ) (inb : ∀ ax, (![o, 0] : Fin 2 → ℕ) ax + (⟨2, ![1, b]⟩ : Shape).size ax ≤ (⟨2, ![n, b]⟩ : Shape).size ax)
    (w : (⟨2, ![1, b]⟩ : Shape).Idx → EReal) : View.Piece (Elt Ideal) (⟨2, ![n, b]⟩ : Shape) .f32 :=
  ⟨Rect.unit (s := ⟨2, ![n, b]⟩) ![o, 0] (⟨2, ![1, b]⟩ : Shape).size inb, w⟩

theorem rowsFrom_whole (inb : ∀ ax, (![0, 0] : Fin 2 → ℕ) ax + (⟨2, ![a, b]⟩ : Shape).size ax ≤ (⟨2, ![a, b]⟩ : Shape).size ax)
    {w : (⟨2, ![a, b]⟩ : Shape).Idx → EReal} (L : List (View.Piece (Elt Ideal) (⟨2, ![a, b]⟩ : Shape) .f32)) (hw : Tab w f) :
    RowsFrom (View.canon ((⟨Rect.unit (s := ⟨2, ![a, b]⟩) ![0, 0] (⟨2, ![a, b]⟩ : Shape).size inb, w⟩ : View.Piece (Elt Ideal) (⟨2, ![a, b]⟩ : Shape) .f32) :: L)) 0 f :=
  fun r c _ => (congrFun (View.canon_cons_unit_zero zero2 inb w L) (ix2 r c)).trans (hw r c)

theorem rowsFrom_cons {L : List (View.Piece (Elt Ideal) (⟨2, ![n, b]⟩ : Shape) .f32)} (o : ℕ)
    (inb : ∀ ax, (![o, 0] : Fin 2 → ℕ) ax + (⟨2, ![1, b]⟩ : Shape).size ax ≤ (⟨2, ![n, b]⟩ : Shape).size ax)
    (w : (⟨2, ![1, b]⟩ : Shape).Idx → EReal) (h : RowsFrom (View.canon L) o f) : RowsFrom (View.canon (rowPiece o inb w :: L)) (o + 1) f := by
  intro j c hj
  refine (over_canon.miss _ _ _ fun hm => ?_).trans (h j c (by omega))
  have h0 := (Rect.mem_set_unit (inb := inb)).1 hm ⟨0, by show 0 < 2; omega⟩
  have h1 : o ≤ j.val ∧ j.val < o + 1 := h0
  omega

/-- A load of row `o` after stores. -/
theorem tab_row_cov (v : View sig κ sp (⟨2, ![n, b]⟩ : Shape) .f32) {L : List (View.Piece (Elt Ideal) (⟨2, ![n, b]⟩ : Shape) .f32)} (o : ℕ) (ho : o < n)
    (inb : ∀ ax, (![o, 0] : Fin 2 → ℕ) ax + (⟨2, ![1, b]⟩ : Shape).size ax ≤ (⟨2, ![n, b]⟩ : Shape).size ax) (h : RowsFrom (View.canon L) o f) :
    Tab (a := 1) (b := b) (v.readCov L (Rect.unit (s := ⟨2, ![n, b]⟩) ![o, 0] (⟨2, ![1, b]⟩ : Shape).size inb).toLoadRect) fun r c => f (o + r) c :=
  fun r c => by
  rw [View.readCov_eq_canon']
  have hr := r.isLt
  refine Eq.trans (congrArg (View.canon L) ?_) (h ⟨o + r.val, by omega⟩ c (by show o ≤ o + r.val; omega))
  funext ax; apply Fin.ext
  match ax with
  | ⟨0, _⟩ => show o + 1 * r.val = o + r.val; omega
  | ⟨1, _⟩ => show 0 + 1 * c.val = c.val; omega

/-- An output of three rows, stored one by one. -/
theorem tab_out_rows (v : View sig κ sp (⟨2, ![3, b]⟩ : Shape) .f32) {L : List (View.Piece (Elt Ideal) (⟨2, ![3, b]⟩ : Shape) .f32)}
    (inb0 : ∀ ax, (![0, 0] : Fin 2 → ℕ) ax + (⟨2, ![1, b]⟩ : Shape).size ax ≤ (⟨2, ![3, b]⟩ : Shape).size ax)
    (inb1 : ∀ ax, (![1, 0] : Fin 2 → ℕ) ax + (⟨2, ![1, b]⟩ : Shape).size ax ≤ (⟨2, ![3, b]⟩ : Shape).size ax)
    (inb2 : ∀ ax, (![2, 0] : Fin 2 → ℕ) ax + (⟨2, ![1, b]⟩ : Shape).size ax ≤ (⟨2, ![3, b]⟩ : Shape).size ax)
    {w0 w1 w2 : (⟨2, ![1, b]⟩ : Shape).Idx → EReal}
    (h0 : Tab w0 fun r c => f (0 + r) c) (h1 : Tab w1 fun r c => f (1 + r) c) (h2 : Tab w2 fun r c => f (2 + r) c) :
    Tab (a := 3) (b := b) (v.read (Elt Ideal) (v.writes (Elt Ideal) v.junk (rowPiece 2 inb2 w2 :: rowPiece 1 inb1 w1 :: rowPiece 0 inb0 w0 :: L))) f := fun j c => by
  have key : ∀ (o : ℕ) (inb : ∀ ax, (![o, 0] : Fin 2 → ℕ) ax + (⟨2, ![1, b]⟩ : Shape).size ax ≤ (⟨2, ![3, b]⟩ : Shape).size ax)
      (w : (⟨2, ![1, b]⟩ : Shape).Idx → EReal) (L : List (View.Piece (Elt Ideal) (⟨2, ![3, b]⟩ : Shape) .f32)) (j : Fin 3), (j.val = o →
      v.read (Elt Ideal) (v.writes (Elt Ideal) v.junk (rowPiece o inb w :: L)) (ix2 j c) = w (ix2 (0 : Fin 1) c)) ∧ (j.val ≠ o →
      v.read (Elt Ideal) (v.writes (Elt Ideal) v.junk (rowPiece o inb w :: L)) (ix2 j c) = v.read (Elt Ideal) (v.writes (Elt Ideal) v.junk L) (ix2 j c)) := by
    intro o inb w L j
    refine ⟨fun hj => View.read_writes_cons_unit_of_mem v _ inb w L (ix2 j c) (ix2 (0 : Fin 1) c) rfl fun ax => ?_,
      fun hj => View.read_writes_cons_unit_of_not_mem v _ inb w L (ix2 j c) rfl ⟨0, by show 0 < 2; omega⟩ ?_⟩
    · match ax with
      | ⟨0, _⟩ => show j.val = o + 0; omega
      | ⟨1, _⟩ => show c.val = 0 + c.val; omega
    · show j.val < o ∨ o + 1 ≤ j.val
      omega
  have hj := j.isLt
  obtain h | h | h : j.val = 0 ∨ j.val = 1 ∨ j.val = 2 := by omega
  · rw [(key 2 inb2 w2 _ j).2 (by omega), (key 1 inb1 w1 _ j).2 (by omega), (key 0 inb0 w0 _ j).1 h, h]
    exact h0 0 c
  · rw [(key 2 inb2 w2 _ j).2 (by omega), (key 1 inb1 w1 _ j).1 h, h]
    exact h1 0 c
  · rw [(key 2 inb2 w2 _ j).1 h, h]
    exact h2 0 c

end Rows

end FfnStep
-- ==== Proof.Block.Tile.lean ====
/- What one tile's run starts from and what it leaves: the tables of its inputs, of its outputs, of the sums so far, and of the rows
   handed to the next tile. -/
module

public import proofs.«01_k».proof.Proof.Spec
public import proofs.«01_k».proof.Proof.Block.Writes
public import proofs.«01_k».proof.KernelIdeal

@[expose] public section

noncomputable section

namespace FfnStep.Block

open Idealize.ShloMosaic Idealize.ShloMosaic.ValueIdx Cert.KernelIdeal

/-- The sum of `g` over the rows of the first `t` tiles, which run from the array's last tile to its first. -/
def tot (t : ℕ) (g : ℕ → ℝ) : ℝ := ∑ s ∈ Finset.range t, ∑ k : Fin 256, g (256 * (15 - s) + k.val)

theorem tot_zero (g : ℕ → ℝ) : tot 0 g = 0 := rfl

theorem tot_succ {t T : ℕ} (h : T + t = 15) (g : ℕ → ℝ) : tot (t + 1) g = tot t g + ∑ k : Fin 256, g (256 * T + k.val) := by
  rw [tot, Finset.sum_range_succ, show 15 - t = T by omega, tot]

/-- All sixteen tiles are all the rows. -/
theorem tot_all (g : ℕ → ℝ) : tot 16 g = ∑ r : Fin 4096, g r.val := by
  have e : ∀ N : ℕ, ∑ r ∈ Finset.range (256 * N), g r = ∑ s ∈ Finset.range N, ∑ k : Fin 256, g (256 * s + k.val) := by
    intro N
    induction N with
    | zero => rfl
    | succ N ih =>
      rw [Nat.mul_succ, Finset.sum_range_add, ih, Finset.sum_range_succ _ N]
      exact congrArg _ (Finset.sum_range fun k => g (256 * N + k))
  rw [← Finset.sum_range (n := 4096) g, show (4096 : ℕ) = 256 * 16 from rfl, e 16]
  exact Finset.sum_range_reflect (fun s => ∑ k : Fin 256, g (256 * s + k.val)) 16

/-- The inputs of tile `T`, the one of grid point `i`. -/
structure Ins (A : Args) (T : ℕ) (i : grid0.Coords) (x0 : Vec Ideal S256x1024 .f32) (x1 : Vec Ideal S16x1024 .f32) (x2 : Vec Ideal S256x1 .f32)
    (x3 x4 : Vec Ideal S1x1024 .f32) (x5 : Vec Ideal S5632x1024 .bf16) (x6 : Vec Ideal S3x2816 .f32) (x7 : Vec Ideal S1x2816 .f32)
    (x8 : Vec Ideal S2816x1024 .bf16) (x9 x10 : Vec Ideal S1x1024 .f32) (x11 : Vec Ideal S256x1024 .f32) : Prop where
  hT : T < 16
  hi : (i 0).val = 15 - T
  x0 : Tab x0 fun r c => xh A (256 * T + r) c
  x1 : Tab x1 fun r c => xh A (256 * T - 16 + r) c
  x2 : Tab x2 fun r _ => rs A (256 * T + r)
  x3 : Tab x3 A.g1
  x4 : Tab x4 A.b1
  x5 : Tab x5 fun r c => A.wu c r
  x6 : Tab x6 A.cw
  x7 : Tab x7 A.cb
  x8 : Tab x8 A.wd
  x9 : Tab x9 A.g2
  x10 : Tab x10 A.b2
  x11 : Tab x11 fun r c => A.tg (256 * T + r) c

/-- The sums of the first `t` tiles. -/
structure Accs (A : Args) (t : ℕ) (x16 : Vec Ideal S8x128 .f32) (x17 x18 x19 x20 : Vec Ideal S1x1024 .f32) (x21 : Vec Ideal S1x2816 .f32)
    (x22 : Vec Ideal S3x2816 .f32) : Prop where
  x16 : Tab x16 fun _ _ => 1 / 2 * tot t (sq A) / 1024
  x17 : Tab x17 fun _ c => tot t fun r => dy A r c * xh2 A r c
  x18 : Tab x18 fun _ c => tot t fun r => dy A r c
  x19 : Tab x19 fun _ c => tot t fun r => dx1 A r c * xh A r c
  x20 : Tab x20 fun _ c => tot t fun r => dx1 A r c
  x21 : Tab x21 fun _ c => tot t fun r => dh A r c
  x22 : Tab x22 fun j c => tot t fun r => dhz A (r + (2 - j)) c * u A r (2816 + c)

/-- The scratch whose rows from 256 hold the convolution's gradient of the rows after tile `T`. -/
abbrev Carry (A : Args) (T : ℕ) (x : Vec Ideal S22x264x128 .f32) : Prop := Rest (n := 264) x 256 fun r c => dhz A (256 * T + r) c

/-- The outputs of tile `T`. -/
structure Outs (A : Args) (T : ℕ) (x12 : Vec Ideal S256x1024 .f32) (x13 : Vec Ideal S256x1024 .bf16) (x14 : Vec Ideal S256x5632 .bf16)
    (x15 : Vec Ideal S256x2816 .bf16) : Prop where
  x12 : Tab x12 fun r c => dz1 A (256 * T + r) c
  x13 : Tab x13 fun r c => dz2 A (256 * T + r) c
  x14 : Tab x14 fun r c => du A (256 * T + r) c
  x15 : Tab x15 fun r c => fv A (256 * T + r) c

end FfnStep.Block
-- ==== Proof.Block.First.lean ====
/- The first point's run: each value its body names, then its outputs, its sums and what it carries on. -/
module

public import proofs.«01_k».proof.Proof.Block.Payloads
public import proofs.«01_k».proof.Proof.Block.Tile
public import proofs.«01_k».proof.Proof.Ideal.OutsA

@[expose] public section

set_option maxRecDepth 16384
set_option maxHeartbeats 4000000

noncomputable section

namespace FfnStep.First

open Idealize.ShloMosaic Idealize.ShloMosaic.ValueIdx Cert.KernelIdeal Cert.KernelIdeal.Gen FfnStep FfnStep.Block

variable {A : Args} {T : ℕ} {c : Dev nD} {i : grid0.Coords}
  {arg1 : Memref sig .tc .vmem S256x1024 .f32} {harg1 : arg1.IsWhole}
  {arg2 : Memref sig .tc .vmem S16x1024 .f32} {harg2 : arg2.IsWhole}
  {arg3 : Memref sig .tc .vmem S256x1 .f32} {harg3 : arg3.IsWhole}
  {arg4 : Memref sig .tc .vmem S1x1024 .f32} {harg4 : arg4.IsWhole}
  {arg5 : Memref sig .tc .vmem S1x1024 .f32} {harg5 : arg5.IsWhole}
  {arg6 : Memref sig .tc .vmem S5632x1024 .bf16} {harg6 : arg6.IsWhole}
  {arg7 : Memref sig .tc .vmem S3x2816 .f32} {harg7 : arg7.IsWhole}
  {arg8 : Memref sig .tc .vmem S1x2816 .f32} {harg8 : arg8.IsWhole}
  {arg9 : Memref sig .tc .vmem S2816x1024 .bf16} {harg9 : arg9.IsWhole}
  {arg10 : Memref sig .tc .vmem S1x1024 .f32} {harg10 : arg10.IsWhole}
  {arg11 : Memref sig .tc .vmem S1x1024 .f32} {harg11 : arg11.IsWhole}
  {arg12 : Memref sig .tc .vmem S256x1024 .f32} {harg12 : arg12.IsWhole}
  {arg13 : Memref sig .tc .vmem S256x1024 .f32} {harg13 : arg13.IsWhole}
  {arg14 : Memref sig .tc .vmem S256x1024 .bf16} {harg14 : arg14.IsWhole}
  {arg15 : Memref sig .tc .vmem S256x5632 .bf16} {harg15 : arg15.IsWhole}
  {arg16 : Memref sig .tc .vmem S256x2816 .bf16} {harg16 : arg16.IsWhole}
  {arg17 : Memref sig .tc .vmem S8x128 .f32} {harg17 : arg17.IsWhole}
  {arg18 : Memref sig .tc .vmem S1x1024 .f32} {harg18 : arg18.IsWhole}
  {arg19 : Memref sig .tc .vmem S1x1024 .f32} {harg19 : arg19.IsWhole}
  {arg20 : Memref sig .tc .vmem S1x1024 .f32} {harg20 : arg20.IsWhole}
  {arg21 : Memref sig .tc .vmem S1x1024 .f32} {harg21 : arg21.IsWhole}
  {arg22 : Memref sig .tc .vmem S1x2816 .f32} {harg22 : arg22.IsWhole}
  {arg23 : Memref sig .tc .vmem S3x2816 .f32} {harg23 : arg23.IsWhole}
  {arg24 : Memref sig .tc .vmem S22x272x128 .f32} {harg24 : arg24.IsWhole}
  {arg25 : Memref sig .tc .vmem S256x2816 .f32} {harg25 : arg25.IsWhole}
  {arg26 : Memref sig .tc .vmem S22x264x128 .f32} {harg26 : arg26.IsWhole}
  {hc0 : cond0_0 i}
  {x0 : Vec Ideal S256x1024 .f32}
  {x1 : Vec Ideal S16x1024 .f32}
  {x2 : Vec Ideal S256x1 .f32}
  {x3 x4 : Vec Ideal S1x1024 .f32}
  {x5 : Vec Ideal S5632x1024 .bf16}
  {x6 : Vec Ideal S3x2816 .f32}
  {x7 : Vec Ideal S1x2816 .f32}
  {x8 : Vec Ideal S2816x1024 .bf16}
  {x9 x10 : Vec Ideal S1x1024 .f32}
  {x11 : Vec Ideal S256x1024 .f32}
  (h : Ins A T i x0 x1 x2 x3 x4 x5 x6 x7 x8 x9 x10 x11)

include h

omit h in
theorem head8 (v : Vec Ideal S22x8x128 .f32) (k : Fin 22) (r : Fin 8) (l : Fin 128) : k0_pay218 (F := Ideal) v (ix3 k r l) = v (ix3 k r l) :=
  shapeCast_apply v shapeCasts_S22x8x128_S22x8x128 _ _ rfl

omit h in
theorem zeros8 (k : Fin 22) (r : Fin 8) (l : Fin 128) : k0_pay8 (F := Ideal) (ix3 k r l) = (0 : EReal) :=
  (shapeCast_apply (broadcast S22x8x128 (Scalar.ofBits (F := Ideal) .f32 0x00000000#32)) shapeCasts_S22x8x128_S22x8x128 _ (ix3 k r l) rfl).trans
    (lit_zero.trans EReal.coe_zero)

theorem r : Tab (kernelRun0_A.sl.r c arg4 harg4 x3) (A.g1) :=
  tab_load0 harg4 (by decide) h.x3

theorem r_1 : Tab (kernelRun0_A.sl.r_1 c arg1 harg1 x0) (fun r c => xh A (256 * T + r) c) :=
  t_pay9 (hv6 := (tab_load0 harg1 (by decide) h.x0))

/-- The first norm's output. -/
theorem r_2 : Tab (kernelRun0_A.sl.r_2 c arg1 harg1 arg4 harg4 arg5 harg5 x0 x3 x4) (fun r c => n1 A (256 * T + r) c) :=
  t_pay10 (hv4 := (tab_load0 harg4 (by decide) h.x3)) (hv5 := (tab_load0 harg5 (by decide) h.x4)) (hv6 := (tab_load0 harg1 (by decide) h.x0))

theorem r_3 : Tab (kernelRun0_A.sl.r_3 c arg1 harg1 arg4 harg4 arg5 harg5 arg6 harg6 x0 x3 x4 x5) (fun r c => u A (256 * T + r) c) :=
  t_pay12 (hv4 := (tab_load0 harg4 (by decide) h.x3)) (hv5 := (tab_load0 harg5 (by decide) h.x4)) (hv6 := (tab_load0 harg1 (by decide) h.x0)) (hv25 := (tab_loadh_top harg6 (by decide) h.x5))

theorem r_4 : Tab (kernelRun0_A.sl.r_4 c i arg1 harg1 arg2 harg2 arg4 harg4 arg5 harg5 arg6 harg6 x0 x1 x3 x4 x5) (fun r c => gx A (256 * T) r c) :=
  t_pay13 h.hT h.hi (hv4 := (tab_load0 harg4 (by decide) h.x3)) (hv5 := (tab_load0 harg5 (by decide) h.x4)) (hv6 := (tab_load0 harg1 (by decide) h.x0)) (hv13 := (tab_load0 harg2 (by decide) h.x1)) (hq := fun _ _ _ => rfl) (hv28 := (tab_loadh_rows harg6 2816 (by decide) h.x5))

/-- The gate's strips. -/
theorem gate : Done (n := 272) (View.canon (kernelRun0_A.sl.HS0_22 c i arg1 harg1 arg2 harg2 arg4 harg4 arg5 harg5 arg6 harg6 x0 x1 x3 x4 x5)) 22 272 (fun r c => gx A (256 * T) r c) := by
  refine done_cons over_canon 21 ?_ (by decide) _ (piece_slice 21 2688 rfl (by decide) (by decide) (by decide) (by norm_num) (r_4 h))
  refine done_cons over_canon 20 ?_ (by decide) _ (piece_slice 20 2560 rfl (by decide) (by decide) (by decide) (by norm_num) (r_4 h))
  refine done_cons over_canon 19 ?_ (by decide) _ (piece_slice 19 2432 rfl (by decide) (by decide) (by decide) (by norm_num) (r_4 h))
  refine done_cons over_canon 18 ?_ (by decide) _ (piece_slice 18 2304 rfl (by decide) (by decide) (by decide) (by norm_num) (r_4 h))
  refine done_cons over_canon 17 ?_ (by decide) _ (piece_slice 17 2176 rfl (by decide) (by decide) (by decide) (by norm_num) (r_4 h))
  refine done_cons over_canon 16 ?_ (by decide) _ (piece_slice 16 2048 rfl (by decide) (by decide) (by decide) (by norm_num) (r_4 h))
  refine done_cons over_canon 15 ?_ (by decide) _ (piece_slice 15 1920 rfl (by decide) (by decide) (by decide) (by norm_num) (r_4 h))
  refine done_cons over_canon 14 ?_ (by decide) _ (piece_slice 14 1792 rfl (by decide) (by decide) (by decide) (by norm_num) (r_4 h))
  refine done_cons over_canon 13 ?_ (by decide) _ (piece_slice 13 1664 rfl (by decide) (by decide) (by decide) (by norm_num) (r_4 h))
  refine done_cons over_canon 12 ?_ (by decide) _ (piece_slice 12 1536 rfl (by decide) (by decide) (by decide) (by norm_num) (r_4 h))
  refine done_cons over_canon 11 ?_ (by decide) _ (piece_slice 11 1408 rfl (by decide) (by decide) (by decide) (by norm_num) (r_4 h))
  refine done_cons over_canon 10 ?_ (by decide) _ (piece_slice 10 1280 rfl (by decide) (by decide) (by decide) (by norm_num) (r_4 h))
  refine done_cons over_canon 9 ?_ (by decide) _ (piece_slice 9 1152 rfl (by decide) (by decide) (by decide) (by norm_num) (r_4 h))
  refine done_cons over_canon 8 ?_ (by decide) _ (piece_slice 8 1024 rfl (by decide) (by decide) (by decide) (by norm_num) (r_4 h))
  refine done_cons over_canon 7 ?_ (by decide) _ (piece_slice 7 896 rfl (by decide) (by decide) (by decide) (by norm_num) (r_4 h))
  refine done_cons over_canon 6 ?_ (by decide) _ (piece_slice 6 768 rfl (by decide) (by decide) (by decide) (by norm_num) (r_4 h))
  refine done_cons over_canon 5 ?_ (by decide) _ (piece_slice 5 640 rfl (by decide) (by decide) (by decide) (by norm_num) (r_4 h))
  refine done_cons over_canon 4 ?_ (by decide) _ (piece_slice 4 512 rfl (by decide) (by decide) (by decide) (by norm_num) (r_4 h))
  refine done_cons over_canon 3 ?_ (by decide) _ (piece_slice 3 384 rfl (by decide) (by decide) (by decide) (by norm_num) (r_4 h))
  refine done_cons over_canon 2 ?_ (by decide) _ (piece_slice 2 256 rfl (by decide) (by decide) (by decide) (by norm_num) (r_4 h))
  refine done_cons over_canon 1 ?_ (by decide) _ (piece_slice 1 128 rfl (by decide) (by decide) (by decide) (by norm_num) (r_4 h))
  refine done_cons over_canon 0 ?_ (by decide) _ (piece_slice 0 0 rfl (by decide) (by decide) (by decide) (by norm_num) (r_4 h))
  exact done_zero

theorem r_8 : Tab (kernelRun0_A.sl.r_8 c i arg1 harg1 arg2 harg2 arg4 harg4 arg5 harg5 arg6 harg6 arg7 harg7 arg8 harg8 arg24 x0 x1 x3 x4 x5 x6 x7) (fun r c => A.cb 0 c + A.cw 0 c * gp A (256 * T + r) c) :=
  (t_pay50 (q := fun r c => gx A (256 * T) (14 + r) c) (hv119 := (tab_load0 harg8 (by decide) h.x7)) (hv120 := (tab_load_top harg7 (by decide) h.x6)) (q0 := tab_strip_cov 0 14 (gate h).strips) (q1 := tab_strip_cov 1 14 (gate h).strips) (q2 := tab_strip_cov 2 14 (gate h).strips) (q3 := tab_strip_cov 3 14 (gate h).strips) (q4 := tab_strip_cov 4 14 (gate h).strips) (q5 := tab_strip_cov 5 14 (gate h).strips) (q6 := tab_strip_cov 6 14 (gate h).strips) (q7 := tab_strip_cov 7 14 (gate h).strips) (q8 := tab_strip_cov 8 14 (gate h).strips) (q9 := tab_strip_cov 9 14 (gate h).strips) (q10 := tab_strip_cov 10 14 (gate h).strips) (q11 := tab_strip_cov 11 14 (gate h).strips) (q12 := tab_strip_cov 12 14 (gate h).strips) (q13 := tab_strip_cov 13 14 (gate h).strips) (q14 := tab_strip_cov 14 14 (gate h).strips) (q15 := tab_strip_cov 15 14 (gate h).strips) (q16 := tab_strip_cov 16 14 (gate h).strips) (q17 := tab_strip_cov 17 14 (gate h).strips) (q18 := tab_strip_cov 18 14 (gate h).strips) (q19 := tab_strip_cov 19 14 (gate h).strips) (q20 := tab_strip_cov 20 14 (gate h).strips) (q21 := tab_strip_cov 21 14 (gate h).strips)).congr fun r c _ _ => by rw [gx_zero]

/-- The convolution of the gate. -/
theorem r_11 : Tab (kernelRun0_A.sl.r_11 c i arg1 harg1 arg2 harg2 arg4 harg4 arg5 harg5 arg6 harg6 arg7 harg7 arg8 harg8 arg24 x0 x1 x3 x4 x5 x6 x7) (fun r c => hh A (256 * T + r) c) :=
  t_pay64 (q := fun r c => gx A (256 * T) (15 + r) c) (hv30 := r_4 h) (hv169 := r_8 h) (hv170 := (tab_load_rows harg7 1 (by decide) h.x6)) (hv219 := (tab_load_rows harg7 2 (by decide) h.x6)) (hq := gx_one) (q0 := tab_strip_cov 0 15 (gate h).strips) (q1 := tab_strip_cov 1 15 (gate h).strips) (q2 := tab_strip_cov 2 15 (gate h).strips) (q3 := tab_strip_cov 3 15 (gate h).strips) (q4 := tab_strip_cov 4 15 (gate h).strips) (q5 := tab_strip_cov 5 15 (gate h).strips) (q6 := tab_strip_cov 6 15 (gate h).strips) (q7 := tab_strip_cov 7 15 (gate h).strips) (q8 := tab_strip_cov 8 15 (gate h).strips) (q9 := tab_strip_cov 9 15 (gate h).strips) (q10 := tab_strip_cov 10 15 (gate h).strips) (q11 := tab_strip_cov 11 15 (gate h).strips) (q12 := tab_strip_cov 12 15 (gate h).strips) (q13 := tab_strip_cov 13 15 (gate h).strips) (q14 := tab_strip_cov 14 15 (gate h).strips) (q15 := tab_strip_cov 15 15 (gate h).strips) (q16 := tab_strip_cov 16 15 (gate h).strips) (q17 := tab_strip_cov 17 15 (gate h).strips) (q18 := tab_strip_cov 18 15 (gate h).strips) (q19 := tab_strip_cov 19 15 (gate h).strips) (q20 := tab_strip_cov 20 15 (gate h).strips) (q21 := tab_strip_cov 21 15 (gate h).strips)

theorem r_12 : Tab (kernelRun0_A.sl.r_12 c i arg1 harg1 arg2 harg2 arg4 harg4 arg5 harg5 arg6 harg6 arg7 harg7 arg8 harg8 arg24 x0 x1 x3 x4 x5 x6 x7) (fun r c => Real.tanh (1 / 2 * hh A (256 * T + r) c)) :=
  t_pay65 (r_11 h)

theorem r_13 : Tab (kernelRun0_A.sl.r_13 c i arg1 harg1 arg2 harg2 arg4 harg4 arg5 harg5 arg6 harg6 arg7 harg7 arg8 harg8 arg24 x0 x1 x3 x4 x5 x6 x7) (fun r c => sg A (256 * T + r) c) :=
  t_pay67 (hv226 := r_12 h) (hv227 := t_pay66)

/-- The activation. -/
theorem r_14 : Tab (kernelRun0_A.sl.r_14 c i arg1 harg1 arg2 harg2 arg4 harg4 arg5 harg5 arg6 harg6 arg7 harg7 arg8 harg8 arg24 x0 x1 x3 x4 x5 x6 x7) (fun r c => act A (256 * T + r) c) :=
  t_pay68 (hv223 := r_11 h) (hv226 := r_12 h) (hv227 := t_pay66)

/-- The activation's strips. -/
theorem actStrips : Done (n := 264) (View.canon (kernelRun0_A.sl.HS2_23 c i arg1 harg1 arg2 harg2 arg4 harg4 arg5 harg5 arg6 harg6 arg7 harg7 arg8 harg8 arg24 x0 x1 x3 x4 x5 x6 x7)) 22 256 (fun r c => act A (256 * T + r) c) := by
  refine done_cons over_canon 21 ?_ (by decide) _ (piece_slice 21 2688 rfl (by decide) (by decide) (by decide) (by norm_num) (r_14 h))
  refine done_cons over_canon 20 ?_ (by decide) _ (piece_slice 20 2560 rfl (by decide) (by decide) (by decide) (by norm_num) (r_14 h))
  refine done_cons over_canon 19 ?_ (by decide) _ (piece_slice 19 2432 rfl (by decide) (by decide) (by decide) (by norm_num) (r_14 h))
  refine done_cons over_canon 18 ?_ (by decide) _ (piece_slice 18 2304 rfl (by decide) (by decide) (by decide) (by norm_num) (r_14 h))
  refine done_cons over_canon 17 ?_ (by decide) _ (piece_slice 17 2176 rfl (by decide) (by decide) (by decide) (by norm_num) (r_14 h))
  refine done_cons over_canon 16 ?_ (by decide) _ (piece_slice 16 2048 rfl (by decide) (by decide) (by decide) (by norm_num) (r_14 h))
  refine done_cons over_canon 15 ?_ (by decide) _ (piece_slice 15 1920 rfl (by decide) (by decide) (by decide) (by norm_num) (r_14 h))
  refine done_cons over_canon 14 ?_ (by decide) _ (piece_slice 14 1792 rfl (by decide) (by decide) (by decide) (by norm_num) (r_14 h))
  refine done_cons over_canon 13 ?_ (by decide) _ (piece_slice 13 1664 rfl (by decide) (by decide) (by decide) (by norm_num) (r_14 h))
  refine done_cons over_canon 12 ?_ (by decide) _ (piece_slice 12 1536 rfl (by decide) (by decide) (by decide) (by norm_num) (r_14 h))
  refine done_cons over_canon 11 ?_ (by decide) _ (piece_slice 11 1408 rfl (by decide) (by decide) (by decide) (by norm_num) (r_14 h))
  refine done_cons over_canon 10 ?_ (by decide) _ (piece_slice 10 1280 rfl (by decide) (by decide) (by decide) (by norm_num) (r_14 h))
  refine done_cons over_canon 9 ?_ (by decide) _ (piece_slice 9 1152 rfl (by decide) (by decide) (by decide) (by norm_num) (r_14 h))
  refine done_cons over_canon 8 ?_ (by decide) _ (piece_slice 8 1024 rfl (by decide) (by decide) (by decide) (by norm_num) (r_14 h))
  refine done_cons over_canon 7 ?_ (by decide) _ (piece_slice 7 896 rfl (by decide) (by decide) (by decide) (by norm_num) (r_14 h))
  refine done_cons over_canon 6 ?_ (by decide) _ (piece_slice 6 768 rfl (by decide) (by decide) (by decide) (by norm_num) (r_14 h))
  refine done_cons over_canon 5 ?_ (by decide) _ (piece_slice 5 640 rfl (by decide) (by decide) (by decide) (by norm_num) (r_14 h))
  refine done_cons over_canon 4 ?_ (by decide) _ (piece_slice 4 512 rfl (by decide) (by decide) (by decide) (by norm_num) (r_14 h))
  refine done_cons over_canon 3 ?_ (by decide) _ (piece_slice 3 384 rfl (by decide) (by decide) (by decide) (by norm_num) (r_14 h))
  refine done_cons over_canon 2 ?_ (by decide) _ (piece_slice 2 256 rfl (by decide) (by decide) (by decide) (by norm_num) (r_14 h))
  refine done_cons over_canon 1 ?_ (by decide) _ (piece_slice 1 128 rfl (by decide) (by decide) (by decide) (by norm_num) (r_14 h))
  refine done_cons over_canon 0 ?_ (by decide) _ (piece_slice 0 0 rfl (by decide) (by decide) (by decide) (by norm_num) (r_14 h))
  exact done_zero

theorem r_16 : Tab (kernelRun0_A.sl.r_16 c i arg1 harg1 arg2 harg2 arg4 harg4 arg5 harg5 arg6 harg6 arg7 harg7 arg8 harg8 arg9 harg9 arg24 x0 x1 x3 x4 x5 x6 x7 x8) (fun r _ => rs2 A (256 * T + r)) :=
  t_pay95 (hv11 := r_2 h) (hv27 := r_3 h) (hv231 := r_14 h) (hv333 := (tab_loadh0 harg9 (by decide) h.x8))

theorem r_17 : Tab (kernelRun0_A.sl.r_17 c i arg1 harg1 arg2 harg2 arg4 harg4 arg5 harg5 arg6 harg6 arg7 harg7 arg8 harg8 arg9 harg9 arg24 x0 x1 x3 x4 x5 x6 x7 x8) (fun r c => xh2 A (256 * T + r) c) :=
  t_pay96 (hv11 := r_2 h) (hv27 := r_3 h) (hv231 := r_14 h) (hv333 := (tab_loadh0 harg9 (by decide) h.x8))

/-- The second norm's output. -/
theorem r_18 : Tab (kernelRun0_A.sl.r_18 c i arg1 harg1 arg2 harg2 arg4 harg4 arg5 harg5 arg6 harg6 arg7 harg7 arg8 harg8 arg9 harg9 arg10 harg10 arg11 harg11 arg24 x0 x1 x3 x4 x5 x6 x7 x8 x9 x10) (fun r c => xh2 A (256 * T + r) c * A.g2 0 c + A.b2 0 c) :=
  t_pay97 (hv11 := r_2 h) (hv27 := r_3 h) (hv231 := r_14 h) (hv333 := (tab_loadh0 harg9 (by decide) h.x8)) (hv353 := (tab_load0 harg10 (by decide) h.x9)) (hv356 := (tab_load0 harg11 (by decide) h.x10))

theorem r_19 : Tab (kernelRun0_A.sl.r_19 c i arg1 harg1 arg2 harg2 arg4 harg4 arg5 harg5 arg6 harg6 arg7 harg7 arg8 harg8 arg9 harg9 arg10 harg10 arg11 harg11 arg12 harg12 arg24 x0 x1 x3 x4 x5 x6 x7 x8 x9 x10 x11) (fun r c => dyg A (256 * T + r) c) :=
  t_pay103 (hv358 := r_18 h) (hv359 := (tab_load0 harg12 (by decide) h.x11)) (hv388 := (tab_load0 harg10 (by decide) h.x9))

theorem r_20 : Tab (kernelRun0_A.sl.r_20 c i arg1 harg1 arg2 harg2 arg4 harg4 arg5 harg5 arg6 harg6 arg7 harg7 arg8 harg8 arg9 harg9 arg10 harg10 arg11 harg11 arg12 harg12 arg24 x0 x1 x3 x4 x5 x6 x7 x8 x9 x10 x11) (fun r _ => ∑ k : Fin 1024, dyg A (256 * T + r) k.val) :=
  t_pay104 (hv358 := r_18 h) (hv359 := (tab_load0 harg12 (by decide) h.x11)) (hv388 := (tab_load0 harg10 (by decide) h.x9))

/-- The second norm's gradient. -/
theorem r_21 : Tab (kernelRun0_A.sl.r_21 c i arg1 harg1 arg2 harg2 arg4 harg4 arg5 harg5 arg6 harg6 arg7 harg7 arg8 harg8 arg9 harg9 arg10 harg10 arg11 harg11 arg12 harg12 arg24 x0 x1 x3 x4 x5 x6 x7 x8 x9 x10 x11) (fun r c => dz2 A (256 * T + r) c) :=
  t_pay105 (hv350 := r_16 h) (hv352 := r_17 h) (hv390 := r_19 h) (hv392 := r_20 h)

theorem r_22 : Tab (kernelRun0_A.sl.r_22 c i arg1 harg1 arg2 harg2 arg4 harg4 arg5 harg5 arg6 harg6 arg7 harg7 arg8 harg8 arg9 harg9 arg10 harg10 arg11 harg11 arg12 harg12 arg24 x0 x1 x3 x4 x5 x6 x7 x8 x9 x10 x11) (fun r c => df A (256 * T + r) c) :=
  t_pay107 (hv350 := r_16 h) (hv352 := r_17 h) (hv390 := r_19 h) (hv392 := r_20 h) (hv409 := (tab_loadh0 harg9 (by decide) h.x8))

theorem r_29 : Tab (kernelRun0_A.sl.r_29 c i arg1 harg1 arg2 harg2 arg4 harg4 arg5 harg5 arg6 harg6 arg7 harg7 arg8 harg8 arg9 harg9 arg10 harg10 arg11 harg11 arg12 harg12 arg24 arg26 x0 x1 x3 x4 x5 x6 x7 x8 x9 x10 x11) (fun r c => dval A (256 * T + r) c) :=
  (t_pay126 (q := fun r c => act A (256 * T + (0 + r)) c) (hv411 := r_22 h) (q0 := tab_strip_cov 0 0 (actStrips h).strips) (q1 := tab_strip_cov 1 0 (actStrips h).strips) (q2 := tab_strip_cov 2 0 (actStrips h).strips) (q3 := tab_strip_cov 3 0 (actStrips h).strips) (q4 := tab_strip_cov 4 0 (actStrips h).strips) (q5 := tab_strip_cov 5 0 (actStrips h).strips) (q6 := tab_strip_cov 6 0 (actStrips h).strips) (q7 := tab_strip_cov 7 0 (actStrips h).strips) (q8 := tab_strip_cov 8 0 (actStrips h).strips) (q9 := tab_strip_cov 9 0 (actStrips h).strips) (q10 := tab_strip_cov 10 0 (actStrips h).strips) (q11 := tab_strip_cov 11 0 (actStrips h).strips) (q12 := tab_strip_cov 12 0 (actStrips h).strips) (q13 := tab_strip_cov 13 0 (actStrips h).strips) (q14 := tab_strip_cov 14 0 (actStrips h).strips) (q15 := tab_strip_cov 15 0 (actStrips h).strips) (q16 := tab_strip_cov 16 0 (actStrips h).strips) (q17 := tab_strip_cov 17 0 (actStrips h).strips) (q18 := tab_strip_cov 18 0 (actStrips h).strips) (q19 := tab_strip_cov 19 0 (actStrips h).strips) (q20 := tab_strip_cov 20 0 (actStrips h).strips) (q21 := tab_strip_cov 21 0 (actStrips h).strips)).congr fun r c _ _ => by rw [Nat.zero_add, dval]

theorem v458 : Tab (kernelRun0_A.sl.v458 c i arg1 harg1 arg2 harg2 arg4 harg4 arg5 harg5 arg6 harg6 arg7 harg7 arg8 harg8 arg24 arg25 x0 x1 x3 x4 x5 x6 x7) (fun r c => u A (256 * T + r) c * (sg A (256 * T + r) c + act A (256 * T + r) c * (1 - sg A (256 * T + r) c))) :=
  tab_cov0 _ (by decide) (t_pay92 (hv27 := r_3 h) (hv230 := r_13 h) (hv231 := r_14 h))

/-- The convolution's gradient. -/
theorem r_30 : Tab (kernelRun0_A.sl.r_30 c i arg1 harg1 arg2 harg2 arg4 harg4 arg5 harg5 arg6 harg6 arg7 harg7 arg8 harg8 arg9 harg9 arg10 harg10 arg11 harg11 arg12 harg12 arg24 arg25 x0 x1 x3 x4 x5 x6 x7 x8 x9 x10 x11) (fun r c => dh A (256 * T + r) c) :=
  t_pay127 (hv411 := r_22 h) (hv458 := v458 h)

theorem r_30z : Tab (kernelRun0_A.sl.r_30 c i arg1 harg1 arg2 harg2 arg4 harg4 arg5 harg5 arg6 harg6 arg7 harg7 arg8 harg8 arg9 harg9 arg10 harg10 arg11 harg11 arg12 harg12 arg24 arg25 x0 x1 x3 x4 x5 x6 x7 x8 x9 x10 x11) (fun r c => dhz A (256 * T + r) c) :=
  (r_30 h).congr fun r c hr _ => by rw [dhz, if_pos (by have := h.hT; omega)]

/-- Its strips. -/
theorem dhStrips : Done (n := 264) (View.canon (kernelRun0_A.sl.HS2_45 c i arg1 harg1 arg2 harg2 arg4 harg4 arg5 harg5 arg6 harg6 arg7 harg7 arg8 harg8 arg9 harg9 arg10 harg10 arg11 harg11 arg12 harg12 arg24 arg25 x0 x1 x3 x4 x5 x6 x7 x8 x9 x10 x11)) 22 256 (fun r c => dhz A (256 * T + r) c) := by
  refine done_cons over_canon 21 ?_ (by decide) _ (piece_slice 21 2688 rfl (by decide) (by decide) (by decide) (by norm_num) (r_30z h))
  refine done_cons over_canon 20 ?_ (by decide) _ (piece_slice 20 2560 rfl (by decide) (by decide) (by decide) (by norm_num) (r_30z h))
  refine done_cons over_canon 19 ?_ (by decide) _ (piece_slice 19 2432 rfl (by decide) (by decide) (by decide) (by norm_num) (r_30z h))
  refine done_cons over_canon 18 ?_ (by decide) _ (piece_slice 18 2304 rfl (by decide) (by decide) (by decide) (by norm_num) (r_30z h))
  refine done_cons over_canon 17 ?_ (by decide) _ (piece_slice 17 2176 rfl (by decide) (by decide) (by decide) (by norm_num) (r_30z h))
  refine done_cons over_canon 16 ?_ (by decide) _ (piece_slice 16 2048 rfl (by decide) (by decide) (by decide) (by norm_num) (r_30z h))
  refine done_cons over_canon 15 ?_ (by decide) _ (piece_slice 15 1920 rfl (by decide) (by decide) (by decide) (by norm_num) (r_30z h))
  refine done_cons over_canon 14 ?_ (by decide) _ (piece_slice 14 1792 rfl (by decide) (by decide) (by decide) (by norm_num) (r_30z h))
  refine done_cons over_canon 13 ?_ (by decide) _ (piece_slice 13 1664 rfl (by decide) (by decide) (by decide) (by norm_num) (r_30z h))
  refine done_cons over_canon 12 ?_ (by decide) _ (piece_slice 12 1536 rfl (by decide) (by decide) (by decide) (by norm_num) (r_30z h))
  refine done_cons over_canon 11 ?_ (by decide) _ (piece_slice 11 1408 rfl (by decide) (by decide) (by decide) (by norm_num) (r_30z h))
  refine done_cons over_canon 10 ?_ (by decide) _ (piece_slice 10 1280 rfl (by decide) (by decide) (by decide) (by norm_num) (r_30z h))
  refine done_cons over_canon 9 ?_ (by decide) _ (piece_slice 9 1152 rfl (by decide) (by decide) (by decide) (by norm_num) (r_30z h))
  refine done_cons over_canon 8 ?_ (by decide) _ (piece_slice 8 1024 rfl (by decide) (by decide) (by decide) (by norm_num) (r_30z h))
  refine done_cons over_canon 7 ?_ (by decide) _ (piece_slice 7 896 rfl (by decide) (by decide) (by decide) (by norm_num) (r_30z h))
  refine done_cons over_canon 6 ?_ (by decide) _ (piece_slice 6 768 rfl (by decide) (by decide) (by decide) (by norm_num) (r_30z h))
  refine done_cons over_canon 5 ?_ (by decide) _ (piece_slice 5 640 rfl (by decide) (by decide) (by decide) (by norm_num) (r_30z h))
  refine done_cons over_canon 4 ?_ (by decide) _ (piece_slice 4 512 rfl (by decide) (by decide) (by decide) (by norm_num) (r_30z h))
  refine done_cons over_canon 3 ?_ (by decide) _ (piece_slice 3 384 rfl (by decide) (by decide) (by decide) (by norm_num) (r_30z h))
  refine done_cons over_canon 2 ?_ (by decide) _ (piece_slice 2 256 rfl (by decide) (by decide) (by decide) (by norm_num) (r_30z h))
  refine done_cons over_canon 1 ?_ (by decide) _ (piece_slice 1 128 rfl (by decide) (by decide) (by decide) (by norm_num) (r_30z h))
  refine done_cons over_canon 0 ?_ (by decide) _ (piece_slice 0 0 rfl (by decide) (by decide) (by decide) (by norm_num) (r_30z h))
  exact done_zero

/-- After the array's last row stand zeros. -/
theorem dhRest (hT : T = 15) : Rest (n := 264) (View.canon (kernelRun0_A.sl.HS2_45 c i arg1 harg1 arg2 harg2 arg4 harg4 arg5 harg5 arg6 harg6 arg7 harg7 arg8 harg8 arg9 harg9 arg10 harg10 arg11 harg11 arg12 harg12 arg24 arg25 x0 x1 x3 x4 x5 x6 x7 x8 x9 x10 x11)) 256 (fun r c => dhz A (256 * T + r) c) := by
  refine rest_cons over_canon ?_ 21 (by decide) _
  refine rest_cons over_canon ?_ 20 (by decide) _
  refine rest_cons over_canon ?_ 19 (by decide) _
  refine rest_cons over_canon ?_ 18 (by decide) _
  refine rest_cons over_canon ?_ 17 (by decide) _
  refine rest_cons over_canon ?_ 16 (by decide) _
  refine rest_cons over_canon ?_ 15 (by decide) _
  refine rest_cons over_canon ?_ 14 (by decide) _
  refine rest_cons over_canon ?_ 13 (by decide) _
  refine rest_cons over_canon ?_ 12 (by decide) _
  refine rest_cons over_canon ?_ 11 (by decide) _
  refine rest_cons over_canon ?_ 10 (by decide) _
  refine rest_cons over_canon ?_ 9 (by decide) _
  refine rest_cons over_canon ?_ 8 (by decide) _
  refine rest_cons over_canon ?_ 7 (by decide) _
  refine rest_cons over_canon ?_ 6 (by decide) _
  refine rest_cons over_canon ?_ 5 (by decide) _
  refine rest_cons over_canon ?_ 4 (by decide) _
  refine rest_cons over_canon ?_ 3 (by decide) _
  refine rest_cons over_canon ?_ 2 (by decide) _
  refine rest_cons over_canon ?_ 1 (by decide) _
  refine rest_cons over_canon ?_ 0 (by decide) _
  refine rest_cons over_canon ?_ 21 (by decide) _
  refine rest_cons over_canon ?_ 20 (by decide) _
  refine rest_cons over_canon ?_ 19 (by decide) _
  refine rest_cons over_canon ?_ 18 (by decide) _
  refine rest_cons over_canon ?_ 17 (by decide) _
  refine rest_cons over_canon ?_ 16 (by decide) _
  refine rest_cons over_canon ?_ 15 (by decide) _
  refine rest_cons over_canon ?_ 14 (by decide) _
  refine rest_cons over_canon ?_ 13 (by decide) _
  refine rest_cons over_canon ?_ 12 (by decide) _
  refine rest_cons over_canon ?_ 11 (by decide) _
  refine rest_cons over_canon ?_ 10 (by decide) _
  refine rest_cons over_canon ?_ 9 (by decide) _
  refine rest_cons over_canon ?_ 8 (by decide) _
  refine rest_cons over_canon ?_ 7 (by decide) _
  refine rest_cons over_canon ?_ 6 (by decide) _
  refine rest_cons over_canon ?_ 5 (by decide) _
  refine rest_cons over_canon ?_ 4 (by decide) _
  refine rest_cons over_canon ?_ 3 (by decide) _
  refine rest_cons over_canon ?_ 2 (by decide) _
  refine rest_cons over_canon ?_ 1 (by decide) _
  refine rest_cons over_canon ?_ 0 (by decide) _
  exact rest_store over_canon (q := 8) rfl (by decide) _ fun k r l => (zeros8 k r l).trans (by rw [dhz, if_neg (by omega), EReal.coe_zero])

theorem v592 (hT : T = 15) : Tab (kernelRun0_A.sl.v592 c i arg1 harg1 arg2 harg2 arg4 harg4 arg5 harg5 arg6 harg6 arg7 harg7 arg8 harg8 arg9 harg9 arg10 harg10 arg11 harg11 arg12 harg12 arg24 arg25 arg26 x0 x1 x3 x4 x5 x6 x7 x8 x9 x10 x11) (fun r c => dhz A (256 * T + r + 1) c) :=
  (tab_cat (f := fun r c => dhz A (256 * T + (1 + r)) c) strips_join (h0 := tab_strip_cov 0 1 ((dhStrips h).strips_rest (N := 264) (dhRest h hT))) (h1 := tab_strip_cov 1 1 ((dhStrips h).strips_rest (N := 264) (dhRest h hT))) (h2 := tab_strip_cov 2 1 ((dhStrips h).strips_rest (N := 264) (dhRest h hT))) (h3 := tab_strip_cov 3 1 ((dhStrips h).strips_rest (N := 264) (dhRest h hT))) (h4 := tab_strip_cov 4 1 ((dhStrips h).strips_rest (N := 264) (dhRest h hT))) (h5 := tab_strip_cov 5 1 ((dhStrips h).strips_rest (N := 264) (dhRest h hT))) (h6 := tab_strip_cov 6 1 ((dhStrips h).strips_rest (N := 264) (dhRest h hT))) (h7 := tab_strip_cov 7 1 ((dhStrips h).strips_rest (N := 264) (dhRest h hT))) (h8 := tab_strip_cov 8 1 ((dhStrips h).strips_rest (N := 264) (dhRest h hT))) (h9 := tab_strip_cov 9 1 ((dhStrips h).strips_rest (N := 264) (dhRest h hT))) (h10 := tab_strip_cov 10 1 ((dhStrips h).strips_rest (N := 264) (dhRest h hT))) (h11 := tab_strip_cov 11 1 ((dhStrips h).strips_rest (N := 264) (dhRest h hT))) (h12 := tab_strip_cov 12 1 ((dhStrips h).strips_rest (N := 264) (dhRest h hT))) (h13 := tab_strip_cov 13 1 ((dhStrips h).strips_rest (N := 264) (dhRest h hT))) (h14 := tab_strip_cov 14 1 ((dhStrips h).strips_rest (N := 264) (dhRest h hT))) (h15 := tab_strip_cov 15 1 ((dhStrips h).strips_rest (N := 264) (dhRest h hT))) (h16 := tab_strip_cov 16 1 ((dhStrips h).strips_rest (N := 264) (dhRest h hT))) (h17 := tab_strip_cov 17 1 ((dhStrips h).strips_rest (N := 264) (dhRest h hT))) (h18 := tab_strip_cov 18 1 ((dhStrips h).strips_rest (N := 264) (dhRest h hT))) (h19 := tab_strip_cov 19 1 ((dhStrips h).strips_rest (N := 264) (dhRest h hT))) (h20 := tab_strip_cov 20 1 ((dhStrips h).strips_rest (N := 264) (dhRest h hT))) (h21 := tab_strip_cov 21 1 ((dhStrips h).strips_rest (N := 264) (dhRest h hT)))).congr fun r c _ _ => by rw [show 256 * T + (1 + r) = 256 * T + r + 1 by omega]

theorem v637 (hT : T = 15) : Tab (kernelRun0_A.sl.v637 c i arg1 harg1 arg2 harg2 arg4 harg4 arg5 harg5 arg6 harg6 arg7 harg7 arg8 harg8 arg9 harg9 arg10 harg10 arg11 harg11 arg12 harg12 arg24 arg25 arg26 x0 x1 x3 x4 x5 x6 x7 x8 x9 x10 x11) (fun r c => dhz A (256 * T + r + 2) c) :=
  (tab_cat (f := fun r c => dhz A (256 * T + (2 + r)) c) strips_join (h0 := tab_strip_cov 0 2 ((dhStrips h).strips_rest (N := 264) (dhRest h hT))) (h1 := tab_strip_cov 1 2 ((dhStrips h).strips_rest (N := 264) (dhRest h hT))) (h2 := tab_strip_cov 2 2 ((dhStrips h).strips_rest (N := 264) (dhRest h hT))) (h3 := tab_strip_cov 3 2 ((dhStrips h).strips_rest (N := 264) (dhRest h hT))) (h4 := tab_strip_cov 4 2 ((dhStrips h).strips_rest (N := 264) (dhRest h hT))) (h5 := tab_strip_cov 5 2 ((dhStrips h).strips_rest (N := 264) (dhRest h hT))) (h6 := tab_strip_cov 6 2 ((dhStrips h).strips_rest (N := 264) (dhRest h hT))) (h7 := tab_strip_cov 7 2 ((dhStrips h).strips_rest (N := 264) (dhRest h hT))) (h8 := tab_strip_cov 8 2 ((dhStrips h).strips_rest (N := 264) (dhRest h hT))) (h9 := tab_strip_cov 9 2 ((dhStrips h).strips_rest (N := 264) (dhRest h hT))) (h10 := tab_strip_cov 10 2 ((dhStrips h).strips_rest (N := 264) (dhRest h hT))) (h11 := tab_strip_cov 11 2 ((dhStrips h).strips_rest (N := 264) (dhRest h hT))) (h12 := tab_strip_cov 12 2 ((dhStrips h).strips_rest (N := 264) (dhRest h hT))) (h13 := tab_strip_cov 13 2 ((dhStrips h).strips_rest (N := 264) (dhRest h hT))) (h14 := tab_strip_cov 14 2 ((dhStrips h).strips_rest (N := 264) (dhRest h hT))) (h15 := tab_strip_cov 15 2 ((dhStrips h).strips_rest (N := 264) (dhRest h hT))) (h16 := tab_strip_cov 16 2 ((dhStrips h).strips_rest (N := 264) (dhRest h hT))) (h17 := tab_strip_cov 17 2 ((dhStrips h).strips_rest (N := 264) (dhRest h hT))) (h18 := tab_strip_cov 18 2 ((dhStrips h).strips_rest (N := 264) (dhRest h hT))) (h19 := tab_strip_cov 19 2 ((dhStrips h).strips_rest (N := 264) (dhRest h hT))) (h20 := tab_strip_cov 20 2 ((dhStrips h).strips_rest (N := 264) (dhRest h hT))) (h21 := tab_strip_cov 21 2 ((dhStrips h).strips_rest (N := 264) (dhRest h hT)))).congr fun r c _ _ => by rw [show 256 * T + (2 + r) = 256 * T + r + 2 by omega]

theorem r_32 : Tab (kernelRun0_A.sl.r_32 c i arg1 harg1 arg2 harg2 arg4 harg4 arg5 harg5 arg6 harg6 arg24 x0 x1 x3 x4 x5) (fun r c => u A (256 * T + r) (2816 + c)) :=
  (t_pay206 (q := fun r c => gx A (256 * T) (16 + r) c) (q0 := tab_strip_cov 0 16 (gate h).strips) (q1 := tab_strip_cov 1 16 (gate h).strips) (q2 := tab_strip_cov 2 16 (gate h).strips) (q3 := tab_strip_cov 3 16 (gate h).strips) (q4 := tab_strip_cov 4 16 (gate h).strips) (q5 := tab_strip_cov 5 16 (gate h).strips) (q6 := tab_strip_cov 6 16 (gate h).strips) (q7 := tab_strip_cov 7 16 (gate h).strips) (q8 := tab_strip_cov 8 16 (gate h).strips) (q9 := tab_strip_cov 9 16 (gate h).strips) (q10 := tab_strip_cov 10 16 (gate h).strips) (q11 := tab_strip_cov 11 16 (gate h).strips) (q12 := tab_strip_cov 12 16 (gate h).strips) (q13 := tab_strip_cov 13 16 (gate h).strips) (q14 := tab_strip_cov 14 16 (gate h).strips) (q15 := tab_strip_cov 15 16 (gate h).strips) (q16 := tab_strip_cov 16 16 (gate h).strips) (q17 := tab_strip_cov 17 16 (gate h).strips) (q18 := tab_strip_cov 18 16 (gate h).strips) (q19 := tab_strip_cov 19 16 (gate h).strips) (q20 := tab_strip_cov 20 16 (gate h).strips) (q21 := tab_strip_cov 21 16 (gate h).strips)).congr fun r c _ _ => by rw [gx_tile]

theorem r_34 : Tab (kernelRun0_A.sl.r_34 c i arg1 harg1 arg2 harg2 arg4 harg4 arg5 harg5 arg6 harg6 arg7 harg7 arg8 harg8 arg9 harg9 arg10 harg10 arg11 harg11 arg12 harg12 arg24 arg25 x0 x1 x3 x4 x5 x6 x7 x8 x9 x10 x11) (fun _ c => ∑ k : Fin 256, dh A (256 * T + k.val) c) :=
  t_pay208 (hv459 := r_30 h)

theorem r_35 (hT : T = 15) : Tab (kernelRun0_A.sl.r_35 c i arg1 harg1 arg2 harg2 arg4 harg4 arg5 harg5 arg6 harg6 arg7 harg7 arg8 harg8 arg9 harg9 arg10 harg10 arg11 harg11 arg12 harg12 arg24 arg25 arg26 x0 x1 x3 x4 x5 x6 x7 x8 x9 x10 x11) (fun r c => A.cw 2 c * dhz A (256 * T + r) c + A.cw 1 c * dhz A (256 * T + r + 1) c) :=
  t_pay213 (hv459 := r_30z h) (hv592 := v592 h hT) (hv710 := (tab_load_rows harg7 2 (by decide) h.x6)) (hv713 := (tab_load_rows harg7 1 (by decide) h.x6))

theorem r_36 (hT : T = 15) : Tab (kernelRun0_A.sl.r_36 c i arg1 harg1 arg2 harg2 arg4 harg4 arg5 harg5 arg6 harg6 arg7 harg7 arg8 harg8 arg9 harg9 arg10 harg10 arg11 harg11 arg12 harg12 arg24 arg25 arg26 x0 x1 x3 x4 x5 x6 x7 x8 x9 x10 x11) (fun r c => A.cw 0 c * dhz A (256 * T + r + 2) c) :=
  t_pay214 (hv637 := v637 h hT) (hv717 := (tab_load_top harg7 (by decide) h.x6))

/-- The gradient at the first norm's output. -/
theorem r_37 (hT : T = 15) : Tab (kernelRun0_A.sl.r_37 c i arg1 harg1 arg2 harg2 arg4 harg4 arg5 harg5 arg6 harg6 arg7 harg7 arg8 harg8 arg9 harg9 arg10 harg10 arg11 harg11 arg12 harg12 arg24 arg25 arg26 x0 x1 x3 x4 x5 x6 x7 x8 x9 x10 x11) (fun r c => dx1 A (256 * T + r) c) :=
  t_pay217 (hv406 := r_21 h) (hv457 := r_29 h) (hv716 := r_35 h hT) (hv719 := r_36 h hT) (hv727 := (tab_loadh_top harg6 (by decide) h.x5)) (hv731 := (tab_loadh_rows harg6 2816 (by decide) h.x5))

/-- The outputs. -/
theorem outs (hT : T = 15) :
    Outs A T (out0_A_12 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11) (out0_A_13 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11)
      (out0_A_14 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11) (out0_A_15 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11) where
  x12 := tab_out _ (by decide) _ (t_pay221 (hv4 := r h) (hv7 := r_1 h) (hv734 := r_37 h hT) (hv754 := (tab_load0 harg3 (by decide) h.x2)))
  x13 := tab_outh _ (by decide) _ (t_pay106 (hv350 := r_16 h) (hv352 := r_17 h) (hv390 := r_19 h) (hv392 := r_20 h))
  x14 := (tab_halves (by norm_num) _ (by decide) (by decide) (t_pay216 (hv716 := r_35 h hT) (hv719 := r_36 h hT)) (t_pay215 (hv457 := r_29 h))).congr
    fun r c _ _ => by rw [du]
  x15 := tab_outh _ (by decide) _ (t_pay93 (hv27 := r_3 h) (hv231 := r_14 h))

/-- The sums, the tile's added. -/
theorem accs (hT : T = 15) :
    Accs A (0 + 1) (out0_A_16 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11) (out0_A_17 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11) (out0_A_18 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11)
      (out0_A_19 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11) (out0_A_20 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11) (out0_A_21 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11) (out0_A_22 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11) where
  x16 := (tab_out _ (by decide) _ (t_pay99 (hv358 := r_18 h) (hv359 := (tab_load0 harg12 (by decide) h.x11)) (hv361 := (tab_cov0 _ (by decide) t_pay1)))).congr
    fun r c _ _ => by rw [tot_succ (T := T) (by omega)]; simp only [tot_zero]; ring
  x17 := (tab_out _ (by decide) _ (t_pay101 (hv352 := r_17 h) (hv358 := r_18 h) (hv359 := (tab_load0 harg12 (by decide) h.x11)) (hv375 := (tab_cov0 _ (by decide) t_pay2)))).congr
    fun r c _ _ => by rw [tot_succ (T := T) (by omega), tot_zero]
  x18 := (tab_out _ (by decide) _ (t_pay102 (hv358 := r_18 h) (hv359 := (tab_load0 harg12 (by decide) h.x11)) (hv382 := (tab_cov0 _ (by decide) t_pay3)))).congr
    fun r c _ _ => by rw [tot_succ (T := T) (by omega), tot_zero]
  x19 := (tab_out _ (by decide) _ (t_pay219 (hv7 := r_1 h) (hv406 := r_21 h) (hv457 := r_29 h) (hv716 := r_35 h hT) (hv719 := r_36 h hT) (hv727 := (tab_loadh_top harg6 (by decide) h.x5)) (hv731 := (tab_loadh_rows harg6 2816 (by decide) h.x5)) (hv739 := (tab_cov0 _ (by decide) t_pay4)))).congr
    fun r c _ _ => by rw [tot_succ (T := T) (by omega), tot_zero]
  x20 := (tab_out _ (by decide) _ (t_pay220 (hv406 := r_21 h) (hv457 := r_29 h) (hv716 := r_35 h hT) (hv719 := r_36 h hT) (hv727 := (tab_loadh_top harg6 (by decide) h.x5)) (hv731 := (tab_loadh_rows harg6 2816 (by decide) h.x5)) (hv746 := (tab_cov0 _ (by decide) t_pay5)))).congr
    fun r c _ _ => by rw [tot_succ (T := T) (by omega), tot_zero]
  x21 := (tab_out _ (by decide) _ (t_pay209 (hv684 := t_pay207 (hv683 := (tab_cov0 _ (by decide) t_pay6))) (hv686 := r_34 h))).congr
    fun r c _ _ => by rw [tot_succ (T := T) (by omega), tot_zero]
  x22 := tab_out_rows _ (by decide) (by decide) (by decide)
    ((t_pay210 (hv637 := v637 h hT) (hv682 := r_32 h) (hv689 := (tab_row_cov _ 0 (by norm_num) (by decide) (rowsFrom_whole (by decide) [] t_pay7)))).congr fun r c hr _ => by
      rw [tot_succ (T := T) (by omega), tot_zero, show r = 0 by omega])
    ((t_pay211 (hv592 := v592 h hT) (hv682 := r_32 h) (hv696 := (tab_row_cov _ 1 (by norm_num) (by decide) (rowsFrom_cons 0 (by decide) _ (rowsFrom_whole (by decide) [] t_pay7))))).congr fun r c hr _ => by
      rw [tot_succ (T := T) (by omega), tot_zero, show r = 0 by omega])
    ((t_pay212 (hv459 := r_30z h) (hv682 := r_32 h) (hv703 := (tab_row_cov _ 2 (by norm_num) (by decide) (rowsFrom_cons 1 (by decide) _ (rowsFrom_cons 0 (by decide) _ (rowsFrom_whole (by decide) [] t_pay7)))))).congr fun r c hr _ => by
      rw [tot_succ (T := T) (by omega), tot_zero, show r = 0 by omega]
      rfl)

/-- The scratch carries the tile's first rows. -/
theorem carry {T' : ℕ} (hT' : T = T' + 1) : Carry A T' (sout0_A_2 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11) := fun k r l hr => by
  refine (View.read_writes_junk_apply_eq_canon VS0_2 (ix3 k r l) _).trans ?_
  refine (rest_store (f := fun r c => dhz A (256 * T + r - 256) c) over_canon (q := 8) rfl (by decide) _ (fun k r l => ?_) k r l hr).trans
    (by beta_reduce; rw [show 256 * T + r.val - 256 = 256 * T' + r.val by omega])
  refine (head8 _ k r l).trans ((head_cov arg26.view (by norm_num) (M := 256) (by norm_num) (by decide) (dhStrips h) k r l).trans ?_)
  rw [show 256 * T + (256 + r.val) - 256 = 256 * T + r.val by omega]

end FfnStep.First
-- ==== Proof.Block.Later.lean ====
/- A later point's run: each value its body names, then its outputs, its sums and what it carries on. -/
module

public import proofs.«01_k».proof.Proof.Block.Payloads
public import proofs.«01_k».proof.Proof.Block.Tile
public import proofs.«01_k».proof.Proof.Ideal.OutsB

@[expose] public section

set_option maxRecDepth 16384
set_option maxHeartbeats 4000000

noncomputable section

namespace FfnStep.Later

open Idealize.ShloMosaic Idealize.ShloMosaic.ValueIdx Cert.KernelIdeal Cert.KernelIdeal.Gen FfnStep FfnStep.Block

variable {A : Args} {T : ℕ} {c : Dev nD} {i : grid0.Coords}
  {arg1 : Memref sig .tc .vmem S256x1024 .f32} {harg1 : arg1.IsWhole}
  {arg2 : Memref sig .tc .vmem S16x1024 .f32} {harg2 : arg2.IsWhole}
  {arg3 : Memref sig .tc .vmem S256x1 .f32} {harg3 : arg3.IsWhole}
  {arg4 : Memref sig .tc .vmem S1x1024 .f32} {harg4 : arg4.IsWhole}
  {arg5 : Memref sig .tc .vmem S1x1024 .f32} {harg5 : arg5.IsWhole}
  {arg6 : Memref sig .tc .vmem S5632x1024 .bf16} {harg6 : arg6.IsWhole}
  {arg7 : Memref sig .tc .vmem S3x2816 .f32} {harg7 : arg7.IsWhole}
  {arg8 : Memref sig .tc .vmem S1x2816 .f32} {harg8 : arg8.IsWhole}
  {arg9 : Memref sig .tc .vmem S2816x1024 .bf16} {harg9 : arg9.IsWhole}
  {arg10 : Memref sig .tc .vmem S1x1024 .f32} {harg10 : arg10.IsWhole}
  {arg11 : Memref sig .tc .vmem S1x1024 .f32} {harg11 : arg11.IsWhole}
  {arg12 : Memref sig .tc .vmem S256x1024 .f32} {harg12 : arg12.IsWhole}
  {arg13 : Memref sig .tc .vmem S256x1024 .f32} {harg13 : arg13.IsWhole}
  {arg14 : Memref sig .tc .vmem S256x1024 .bf16} {harg14 : arg14.IsWhole}
  {arg15 : Memref sig .tc .vmem S256x5632 .bf16} {harg15 : arg15.IsWhole}
  {arg16 : Memref sig .tc .vmem S256x2816 .bf16} {harg16 : arg16.IsWhole}
  {arg17 : Memref sig .tc .vmem S8x128 .f32} {harg17 : arg17.IsWhole}
  {arg18 : Memref sig .tc .vmem S1x1024 .f32} {harg18 : arg18.IsWhole}
  {arg19 : Memref sig .tc .vmem S1x1024 .f32} {harg19 : arg19.IsWhole}
  {arg20 : Memref sig .tc .vmem S1x1024 .f32} {harg20 : arg20.IsWhole}
  {arg21 : Memref sig .tc .vmem S1x1024 .f32} {harg21 : arg21.IsWhole}
  {arg22 : Memref sig .tc .vmem S1x2816 .f32} {harg22 : arg22.IsWhole}
  {arg23 : Memref sig .tc .vmem S3x2816 .f32} {harg23 : arg23.IsWhole}
  {arg24 : Memref sig .tc .vmem S22x272x128 .f32} {harg24 : arg24.IsWhole}
  {arg25 : Memref sig .tc .vmem S256x2816 .f32} {harg25 : arg25.IsWhole}
  {arg26 : Memref sig .tc .vmem S22x264x128 .f32} {harg26 : arg26.IsWhole}
  {hc0 : ¬cond0_0 i}
  {x0 : Vec Ideal S256x1024 .f32}
  {x1 : Vec Ideal S16x1024 .f32}
  {x2 : Vec Ideal S256x1 .f32}
  {x3 x4 : Vec Ideal S1x1024 .f32}
  {x5 : Vec Ideal S5632x1024 .bf16}
  {x6 : Vec Ideal S3x2816 .f32}
  {x7 : Vec Ideal S1x2816 .f32}
  {x8 : Vec Ideal S2816x1024 .bf16}
  {x9 x10 : Vec Ideal S1x1024 .f32}
  {x11 : Vec Ideal S256x1024 .f32}
  {xo16 : Vec Ideal S8x128 .f32}
  {xo17 xo18 xo19 xo20 : Vec Ideal S1x1024 .f32}
  {xo21 : Vec Ideal S1x2816 .f32}
  {xo22 : Vec Ideal S3x2816 .f32}
  {xs2 : Vec Ideal S22x264x128 .f32}
  (h : Ins A T i x0 x1 x2 x3 x4 x5 x6 x7 x8 x9 x10 x11)

include h

omit h in
theorem head8 (v : Vec Ideal S22x8x128 .f32) (k : Fin 22) (r : Fin 8) (l : Fin 128) : k0_pay218 (F := Ideal) v (ix3 k r l) = v (ix3 k r l) :=
  shapeCast_apply v shapeCasts_S22x8x128_S22x8x128 _ _ rfl

theorem r : Tab (kernelRun0_B.sl.r c arg4 harg4 x3) (A.g1) :=
  tab_load0 harg4 (by decide) h.x3

theorem r_1 : Tab (kernelRun0_B.sl.r_1 c arg1 harg1 x0) (fun r c => xh A (256 * T + r) c) :=
  t_pay9 (hv6 := (tab_load0 harg1 (by decide) h.x0))

/-- The first norm's output. -/
theorem r_2 : Tab (kernelRun0_B.sl.r_2 c arg1 harg1 arg4 harg4 arg5 harg5 x0 x3 x4) (fun r c => n1 A (256 * T + r) c) :=
  t_pay10 (hv4 := (tab_load0 harg4 (by decide) h.x3)) (hv5 := (tab_load0 harg5 (by decide) h.x4)) (hv6 := (tab_load0 harg1 (by decide) h.x0))

theorem r_3 : Tab (kernelRun0_B.sl.r_3 c arg1 harg1 arg4 harg4 arg5 harg5 arg6 harg6 x0 x3 x4 x5) (fun r c => u A (256 * T + r) c) :=
  t_pay12 (hv4 := (tab_load0 harg4 (by decide) h.x3)) (hv5 := (tab_load0 harg5 (by decide) h.x4)) (hv6 := (tab_load0 harg1 (by decide) h.x0)) (hv25 := (tab_loadh_top harg6 (by decide) h.x5))

theorem r_4 : Tab (kernelRun0_B.sl.r_4 c i arg1 harg1 arg2 harg2 arg4 harg4 arg5 harg5 arg6 harg6 x0 x1 x3 x4 x5) (fun r c => gx A (256 * T) r c) :=
  t_pay13 h.hT h.hi (hv4 := (tab_load0 harg4 (by decide) h.x3)) (hv5 := (tab_load0 harg5 (by decide) h.x4)) (hv6 := (tab_load0 harg1 (by decide) h.x0)) (hv13 := (tab_load0 harg2 (by decide) h.x1)) (hq := fun _ _ _ => rfl) (hv28 := (tab_loadh_rows harg6 2816 (by decide) h.x5))

/-- The gate's strips. -/
theorem gate : Done (n := 272) (View.canon (kernelRun0_B.sl.HS0_22 c i arg1 harg1 arg2 harg2 arg4 harg4 arg5 harg5 arg6 harg6 x0 x1 x3 x4 x5)) 22 272 (fun r c => gx A (256 * T) r c) := by
  refine done_cons over_canon 21 ?_ (by decide) _ (piece_slice 21 2688 rfl (by decide) (by decide) (by decide) (by norm_num) (r_4 h))
  refine done_cons over_canon 20 ?_ (by decide) _ (piece_slice 20 2560 rfl (by decide) (by decide) (by decide) (by norm_num) (r_4 h))
  refine done_cons over_canon 19 ?_ (by decide) _ (piece_slice 19 2432 rfl (by decide) (by decide) (by decide) (by norm_num) (r_4 h))
  refine done_cons over_canon 18 ?_ (by decide) _ (piece_slice 18 2304 rfl (by decide) (by decide) (by decide) (by norm_num) (r_4 h))
  refine done_cons over_canon 17 ?_ (by decide) _ (piece_slice 17 2176 rfl (by decide) (by decide) (by decide) (by norm_num) (r_4 h))
  refine done_cons over_canon 16 ?_ (by decide) _ (piece_slice 16 2048 rfl (by decide) (by decide) (by decide) (by norm_num) (r_4 h))
  refine done_cons over_canon 15 ?_ (by decide) _ (piece_slice 15 1920 rfl (by decide) (by decide) (by decide) (by norm_num) (r_4 h))
  refine done_cons over_canon 14 ?_ (by decide) _ (piece_slice 14 1792 rfl (by decide) (by decide) (by decide) (by norm_num) (r_4 h))
  refine done_cons over_canon 13 ?_ (by decide) _ (piece_slice 13 1664 rfl (by decide) (by decide) (by decide) (by norm_num) (r_4 h))
  refine done_cons over_canon 12 ?_ (by decide) _ (piece_slice 12 1536 rfl (by decide) (by decide) (by decide) (by norm_num) (r_4 h))
  refine done_cons over_canon 11 ?_ (by decide) _ (piece_slice 11 1408 rfl (by decide) (by decide) (by decide) (by norm_num) (r_4 h))
  refine done_cons over_canon 10 ?_ (by decide) _ (piece_slice 10 1280 rfl (by decide) (by decide) (by decide) (by norm_num) (r_4 h))
  refine done_cons over_canon 9 ?_ (by decide) _ (piece_slice 9 1152 rfl (by decide) (by decide) (by decide) (by norm_num) (r_4 h))
  refine done_cons over_canon 8 ?_ (by decide) _ (piece_slice 8 1024 rfl (by decide) (by decide) (by decide) (by norm_num) (r_4 h))
  refine done_cons over_canon 7 ?_ (by decide) _ (piece_slice 7 896 rfl (by decide) (by decide) (by decide) (by norm_num) (r_4 h))
  refine done_cons over_canon 6 ?_ (by decide) _ (piece_slice 6 768 rfl (by decide) (by decide) (by decide) (by norm_num) (r_4 h))
  refine done_cons over_canon 5 ?_ (by decide) _ (piece_slice 5 640 rfl (by decide) (by decide) (by decide) (by norm_num) (r_4 h))
  refine done_cons over_canon 4 ?_ (by decide) _ (piece_slice 4 512 rfl (by decide) (by decide) (by decide) (by norm_num) (r_4 h))
  refine done_cons over_canon 3 ?_ (by decide) _ (piece_slice 3 384 rfl (by decide) (by decide) (by decide) (by norm_num) (r_4 h))
  refine done_cons over_canon 2 ?_ (by decide) _ (piece_slice 2 256 rfl (by decide) (by decide) (by decide) (by norm_num) (r_4 h))
  refine done_cons over_canon 1 ?_ (by decide) _ (piece_slice 1 128 rfl (by decide) (by decide) (by decide) (by norm_num) (r_4 h))
  refine done_cons over_canon 0 ?_ (by decide) _ (piece_slice 0 0 rfl (by decide) (by decide) (by decide) (by norm_num) (r_4 h))
  exact done_zero

theorem r_8 : Tab (kernelRun0_B.sl.r_8 c i arg1 harg1 arg2 harg2 arg4 harg4 arg5 harg5 arg6 harg6 arg7 harg7 arg8 harg8 arg24 x0 x1 x3 x4 x5 x6 x7) (fun r c => A.cb 0 c + A.cw 0 c * gp A (256 * T + r) c) :=
  (t_pay50 (q := fun r c => gx A (256 * T) (14 + r) c) (hv119 := (tab_load0 harg8 (by decide) h.x7)) (hv120 := (tab_load_top harg7 (by decide) h.x6)) (q0 := tab_strip_cov 0 14 (gate h).strips) (q1 := tab_strip_cov 1 14 (gate h).strips) (q2 := tab_strip_cov 2 14 (gate h).strips) (q3 := tab_strip_cov 3 14 (gate h).strips) (q4 := tab_strip_cov 4 14 (gate h).strips) (q5 := tab_strip_cov 5 14 (gate h).strips) (q6 := tab_strip_cov 6 14 (gate h).strips) (q7 := tab_strip_cov 7 14 (gate h).strips) (q8 := tab_strip_cov 8 14 (gate h).strips) (q9 := tab_strip_cov 9 14 (gate h).strips) (q10 := tab_strip_cov 10 14 (gate h).strips) (q11 := tab_strip_cov 11 14 (gate h).strips) (q12 := tab_strip_cov 12 14 (gate h).strips) (q13 := tab_strip_cov 13 14 (gate h).strips) (q14 := tab_strip_cov 14 14 (gate h).strips) (q15 := tab_strip_cov 15 14 (gate h).strips) (q16 := tab_strip_cov 16 14 (gate h).strips) (q17 := tab_strip_cov 17 14 (gate h).strips) (q18 := tab_strip_cov 18 14 (gate h).strips) (q19 := tab_strip_cov 19 14 (gate h).strips) (q20 := tab_strip_cov 20 14 (gate h).strips) (q21 := tab_strip_cov 21 14 (gate h).strips)).congr fun r c _ _ => by rw [gx_zero]

/-- The convolution of the gate. -/
theorem r_11 : Tab (kernelRun0_B.sl.r_11 c i arg1 harg1 arg2 harg2 arg4 harg4 arg5 harg5 arg6 harg6 arg7 harg7 arg8 harg8 arg24 x0 x1 x3 x4 x5 x6 x7) (fun r c => hh A (256 * T + r) c) :=
  t_pay64 (q := fun r c => gx A (256 * T) (15 + r) c) (hv30 := r_4 h) (hv169 := r_8 h) (hv170 := (tab_load_rows harg7 1 (by decide) h.x6)) (hv219 := (tab_load_rows harg7 2 (by decide) h.x6)) (hq := gx_one) (q0 := tab_strip_cov 0 15 (gate h).strips) (q1 := tab_strip_cov 1 15 (gate h).strips) (q2 := tab_strip_cov 2 15 (gate h).strips) (q3 := tab_strip_cov 3 15 (gate h).strips) (q4 := tab_strip_cov 4 15 (gate h).strips) (q5 := tab_strip_cov 5 15 (gate h).strips) (q6 := tab_strip_cov 6 15 (gate h).strips) (q7 := tab_strip_cov 7 15 (gate h).strips) (q8 := tab_strip_cov 8 15 (gate h).strips) (q9 := tab_strip_cov 9 15 (gate h).strips) (q10 := tab_strip_cov 10 15 (gate h).strips) (q11 := tab_strip_cov 11 15 (gate h).strips) (q12 := tab_strip_cov 12 15 (gate h).strips) (q13 := tab_strip_cov 13 15 (gate h).strips) (q14 := tab_strip_cov 14 15 (gate h).strips) (q15 := tab_strip_cov 15 15 (gate h).strips) (q16 := tab_strip_cov 16 15 (gate h).strips) (q17 := tab_strip_cov 17 15 (gate h).strips) (q18 := tab_strip_cov 18 15 (gate h).strips) (q19 := tab_strip_cov 19 15 (gate h).strips) (q20 := tab_strip_cov 20 15 (gate h).strips) (q21 := tab_strip_cov 21 15 (gate h).strips)

theorem r_12 : Tab (kernelRun0_B.sl.r_12 c i arg1 harg1 arg2 harg2 arg4 harg4 arg5 harg5 arg6 harg6 arg7 harg7 arg8 harg8 arg24 x0 x1 x3 x4 x5 x6 x7) (fun r c => Real.tanh (1 / 2 * hh A (256 * T + r) c)) :=
  t_pay65 (r_11 h)

theorem r_13 : Tab (kernelRun0_B.sl.r_13 c i arg1 harg1 arg2 harg2 arg4 harg4 arg5 harg5 arg6 harg6 arg7 harg7 arg8 harg8 arg24 x0 x1 x3 x4 x5 x6 x7) (fun r c => sg A (256 * T + r) c) :=
  t_pay67 (hv226 := r_12 h) (hv227 := t_pay66)

/-- The activation. -/
theorem r_14 : Tab (kernelRun0_B.sl.r_14 c i arg1 harg1 arg2 harg2 arg4 harg4 arg5 harg5 arg6 harg6 arg7 harg7 arg8 harg8 arg24 x0 x1 x3 x4 x5 x6 x7) (fun r c => act A (256 * T + r) c) :=
  t_pay68 (hv223 := r_11 h) (hv226 := r_12 h) (hv227 := t_pay66)

/-- The activation's strips. -/
theorem actStrips : Done (n := 264) (View.canon (kernelRun0_B.sl.HS2_22 c i arg1 harg1 arg2 harg2 arg4 harg4 arg5 harg5 arg6 harg6 arg7 harg7 arg8 harg8 arg24 x0 x1 x3 x4 x5 x6 x7)) 22 256 (fun r c => act A (256 * T + r) c) := by
  refine done_cons over_canon 21 ?_ (by decide) _ (piece_slice 21 2688 rfl (by decide) (by decide) (by decide) (by norm_num) (r_14 h))
  refine done_cons over_canon 20 ?_ (by decide) _ (piece_slice 20 2560 rfl (by decide) (by decide) (by decide) (by norm_num) (r_14 h))
  refine done_cons over_canon 19 ?_ (by decide) _ (piece_slice 19 2432 rfl (by decide) (by decide) (by decide) (by norm_num) (r_14 h))
  refine done_cons over_canon 18 ?_ (by decide) _ (piece_slice 18 2304 rfl (by decide) (by decide) (by decide) (by norm_num) (r_14 h))
  refine done_cons over_canon 17 ?_ (by decide) _ (piece_slice 17 2176 rfl (by decide) (by decide) (by decide) (by norm_num) (r_14 h))
  refine done_cons over_canon 16 ?_ (by decide) _ (piece_slice 16 2048 rfl (by decide) (by decide) (by decide) (by norm_num) (r_14 h))
  refine done_cons over_canon 15 ?_ (by decide) _ (piece_slice 15 1920 rfl (by decide) (by decide) (by decide) (by norm_num) (r_14 h))
  refine done_cons over_canon 14 ?_ (by decide) _ (piece_slice 14 1792 rfl (by decide) (by decide) (by decide) (by norm_num) (r_14 h))
  refine done_cons over_canon 13 ?_ (by decide) _ (piece_slice 13 1664 rfl (by decide) (by decide) (by decide) (by norm_num) (r_14 h))
  refine done_cons over_canon 12 ?_ (by decide) _ (piece_slice 12 1536 rfl (by decide) (by decide) (by decide) (by norm_num) (r_14 h))
  refine done_cons over_canon 11 ?_ (by decide) _ (piece_slice 11 1408 rfl (by decide) (by decide) (by decide) (by norm_num) (r_14 h))
  refine done_cons over_canon 10 ?_ (by decide) _ (piece_slice 10 1280 rfl (by decide) (by decide) (by decide) (by norm_num) (r_14 h))
  refine done_cons over_canon 9 ?_ (by decide) _ (piece_slice 9 1152 rfl (by decide) (by decide) (by decide) (by norm_num) (r_14 h))
  refine done_cons over_canon 8 ?_ (by decide) _ (piece_slice 8 1024 rfl (by decide) (by decide) (by decide) (by norm_num) (r_14 h))
  refine done_cons over_canon 7 ?_ (by decide) _ (piece_slice 7 896 rfl (by decide) (by decide) (by decide) (by norm_num) (r_14 h))
  refine done_cons over_canon 6 ?_ (by decide) _ (piece_slice 6 768 rfl (by decide) (by decide) (by decide) (by norm_num) (r_14 h))
  refine done_cons over_canon 5 ?_ (by decide) _ (piece_slice 5 640 rfl (by decide) (by decide) (by decide) (by norm_num) (r_14 h))
  refine done_cons over_canon 4 ?_ (by decide) _ (piece_slice 4 512 rfl (by decide) (by decide) (by decide) (by norm_num) (r_14 h))
  refine done_cons over_canon 3 ?_ (by decide) _ (piece_slice 3 384 rfl (by decide) (by decide) (by decide) (by norm_num) (r_14 h))
  refine done_cons over_canon 2 ?_ (by decide) _ (piece_slice 2 256 rfl (by decide) (by decide) (by decide) (by norm_num) (r_14 h))
  refine done_cons over_canon 1 ?_ (by decide) _ (piece_slice 1 128 rfl (by decide) (by decide) (by decide) (by norm_num) (r_14 h))
  refine done_cons over_canon 0 ?_ (by decide) _ (piece_slice 0 0 rfl (by decide) (by decide) (by decide) (by norm_num) (r_14 h))
  exact done_zero

theorem r_16 : Tab (kernelRun0_B.sl.r_16 c i arg1 harg1 arg2 harg2 arg4 harg4 arg5 harg5 arg6 harg6 arg7 harg7 arg8 harg8 arg9 harg9 arg24 x0 x1 x3 x4 x5 x6 x7 x8) (fun r _ => rs2 A (256 * T + r)) :=
  t_pay95 (hv11 := r_2 h) (hv27 := r_3 h) (hv231 := r_14 h) (hv333 := (tab_loadh0 harg9 (by decide) h.x8))

theorem r_17 : Tab (kernelRun0_B.sl.r_17 c i arg1 harg1 arg2 harg2 arg4 harg4 arg5 harg5 arg6 harg6 arg7 harg7 arg8 harg8 arg9 harg9 arg24 x0 x1 x3 x4 x5 x6 x7 x8) (fun r c => xh2 A (256 * T + r) c) :=
  t_pay96 (hv11 := r_2 h) (hv27 := r_3 h) (hv231 := r_14 h) (hv333 := (tab_loadh0 harg9 (by decide) h.x8))

/-- The second norm's output. -/
theorem r_18 : Tab (kernelRun0_B.sl.r_18 c i arg1 harg1 arg2 harg2 arg4 harg4 arg5 harg5 arg6 harg6 arg7 harg7 arg8 harg8 arg9 harg9 arg10 harg10 arg11 harg11 arg24 x0 x1 x3 x4 x5 x6 x7 x8 x9 x10) (fun r c => xh2 A (256 * T + r) c * A.g2 0 c + A.b2 0 c) :=
  t_pay97 (hv11 := r_2 h) (hv27 := r_3 h) (hv231 := r_14 h) (hv333 := (tab_loadh0 harg9 (by decide) h.x8)) (hv353 := (tab_load0 harg10 (by decide) h.x9)) (hv356 := (tab_load0 harg11 (by decide) h.x10))

theorem r_19 : Tab (kernelRun0_B.sl.r_19 c i arg1 harg1 arg2 harg2 arg4 harg4 arg5 harg5 arg6 harg6 arg7 harg7 arg8 harg8 arg9 harg9 arg10 harg10 arg11 harg11 arg12 harg12 arg24 x0 x1 x3 x4 x5 x6 x7 x8 x9 x10 x11) (fun r c => dyg A (256 * T + r) c) :=
  t_pay103 (hv358 := r_18 h) (hv359 := (tab_load0 harg12 (by decide) h.x11)) (hv388 := (tab_load0 harg10 (by decide) h.x9))

theorem r_20 : Tab (kernelRun0_B.sl.r_20 c i arg1 harg1 arg2 harg2 arg4 harg4 arg5 harg5 arg6 harg6 arg7 harg7 arg8 harg8 arg9 harg9 arg10 harg10 arg11 harg11 arg12 harg12 arg24 x0 x1 x3 x4 x5 x6 x7 x8 x9 x10 x11) (fun r _ => ∑ k : Fin 1024, dyg A (256 * T + r) k.val) :=
  t_pay104 (hv358 := r_18 h) (hv359 := (tab_load0 harg12 (by decide) h.x11)) (hv388 := (tab_load0 harg10 (by decide) h.x9))

/-- The second norm's gradient. -/
theorem r_21 : Tab (kernelRun0_B.sl.r_21 c i arg1 harg1 arg2 harg2 arg4 harg4 arg5 harg5 arg6 harg6 arg7 harg7 arg8 harg8 arg9 harg9 arg10 harg10 arg11 harg11 arg12 harg12 arg24 x0 x1 x3 x4 x5 x6 x7 x8 x9 x10 x11) (fun r c => dz2 A (256 * T + r) c) :=
  t_pay105 (hv350 := r_16 h) (hv352 := r_17 h) (hv390 := r_19 h) (hv392 := r_20 h)

theorem r_22 : Tab (kernelRun0_B.sl.r_22 c i arg1 harg1 arg2 harg2 arg4 harg4 arg5 harg5 arg6 harg6 arg7 harg7 arg8 harg8 arg9 harg9 arg10 harg10 arg11 harg11 arg12 harg12 arg24 x0 x1 x3 x4 x5 x6 x7 x8 x9 x10 x11) (fun r c => df A (256 * T + r) c) :=
  t_pay107 (hv350 := r_16 h) (hv352 := r_17 h) (hv390 := r_19 h) (hv392 := r_20 h) (hv409 := (tab_loadh0 harg9 (by decide) h.x8))

theorem r_29 : Tab (kernelRun0_B.sl.r_29 c i arg1 harg1 arg2 harg2 arg4 harg4 arg5 harg5 arg6 harg6 arg7 harg7 arg8 harg8 arg9 harg9 arg10 harg10 arg11 harg11 arg12 harg12 arg24 arg26 x0 x1 x3 x4 x5 x6 x7 x8 x9 x10 x11) (fun r c => dval A (256 * T + r) c) :=
  (t_pay126 (q := fun r c => act A (256 * T + (0 + r)) c) (hv411 := r_22 h) (q0 := tab_strip_cov 0 0 (actStrips h).strips) (q1 := tab_strip_cov 1 0 (actStrips h).strips) (q2 := tab_strip_cov 2 0 (actStrips h).strips) (q3 := tab_strip_cov 3 0 (actStrips h).strips) (q4 := tab_strip_cov 4 0 (actStrips h).strips) (q5 := tab_strip_cov 5 0 (actStrips h).strips) (q6 := tab_strip_cov 6 0 (actStrips h).strips) (q7 := tab_strip_cov 7 0 (actStrips h).strips) (q8 := tab_strip_cov 8 0 (actStrips h).strips) (q9 := tab_strip_cov 9 0 (actStrips h).strips) (q10 := tab_strip_cov 10 0 (actStrips h).strips) (q11 := tab_strip_cov 11 0 (actStrips h).strips) (q12 := tab_strip_cov 12 0 (actStrips h).strips) (q13 := tab_strip_cov 13 0 (actStrips h).strips) (q14 := tab_strip_cov 14 0 (actStrips h).strips) (q15 := tab_strip_cov 15 0 (actStrips h).strips) (q16 := tab_strip_cov 16 0 (actStrips h).strips) (q17 := tab_strip_cov 17 0 (actStrips h).strips) (q18 := tab_strip_cov 18 0 (actStrips h).strips) (q19 := tab_strip_cov 19 0 (actStrips h).strips) (q20 := tab_strip_cov 20 0 (actStrips h).strips) (q21 := tab_strip_cov 21 0 (actStrips h).strips)).congr fun r c _ _ => by rw [Nat.zero_add, dval]

theorem v458 : Tab (kernelRun0_B.sl.v458 c i arg1 harg1 arg2 harg2 arg4 harg4 arg5 harg5 arg6 harg6 arg7 harg7 arg8 harg8 arg24 arg25 x0 x1 x3 x4 x5 x6 x7) (fun r c => u A (256 * T + r) c * (sg A (256 * T + r) c + act A (256 * T + r) c * (1 - sg A (256 * T + r) c))) :=
  tab_cov0 _ (by decide) (t_pay92 (hv27 := r_3 h) (hv230 := r_13 h) (hv231 := r_14 h))

/-- The convolution's gradient. -/
theorem r_30 : Tab (kernelRun0_B.sl.r_30 c i arg1 harg1 arg2 harg2 arg4 harg4 arg5 harg5 arg6 harg6 arg7 harg7 arg8 harg8 arg9 harg9 arg10 harg10 arg11 harg11 arg12 harg12 arg24 arg25 x0 x1 x3 x4 x5 x6 x7 x8 x9 x10 x11) (fun r c => dh A (256 * T + r) c) :=
  t_pay127 (hv411 := r_22 h) (hv458 := v458 h)

theorem r_30z : Tab (kernelRun0_B.sl.r_30 c i arg1 harg1 arg2 harg2 arg4 harg4 arg5 harg5 arg6 harg6 arg7 harg7 arg8 harg8 arg9 harg9 arg10 harg10 arg11 harg11 arg12 harg12 arg24 arg25 x0 x1 x3 x4 x5 x6 x7 x8 x9 x10 x11) (fun r c => dhz A (256 * T + r) c) :=
  (r_30 h).congr fun r c hr _ => by rw [dhz, if_pos (by have := h.hT; omega)]

/-- Its strips. -/
theorem dhStrips : Done (n := 264) (View.canon (kernelRun0_B.sl.HS2_44 c i arg1 harg1 arg2 harg2 arg4 harg4 arg5 harg5 arg6 harg6 arg7 harg7 arg8 harg8 arg9 harg9 arg10 harg10 arg11 harg11 arg12 harg12 arg24 arg25 x0 x1 x3 x4 x5 x6 x7 x8 x9 x10 x11)) 22 256 (fun r c => dhz A (256 * T + r) c) := by
  refine done_cons over_canon 21 ?_ (by decide) _ (piece_slice 21 2688 rfl (by decide) (by decide) (by decide) (by norm_num) (r_30z h))
  refine done_cons over_canon 20 ?_ (by decide) _ (piece_slice 20 2560 rfl (by decide) (by decide) (by decide) (by norm_num) (r_30z h))
  refine done_cons over_canon 19 ?_ (by decide) _ (piece_slice 19 2432 rfl (by decide) (by decide) (by decide) (by norm_num) (r_30z h))
  refine done_cons over_canon 18 ?_ (by decide) _ (piece_slice 18 2304 rfl (by decide) (by decide) (by decide) (by norm_num) (r_30z h))
  refine done_cons over_canon 17 ?_ (by decide) _ (piece_slice 17 2176 rfl (by decide) (by decide) (by decide) (by norm_num) (r_30z h))
  refine done_cons over_canon 16 ?_ (by decide) _ (piece_slice 16 2048 rfl (by decide) (by decide) (by decide) (by norm_num) (r_30z h))
  refine done_cons over_canon 15 ?_ (by decide) _ (piece_slice 15 1920 rfl (by decide) (by decide) (by decide) (by norm_num) (r_30z h))
  refine done_cons over_canon 14 ?_ (by decide) _ (piece_slice 14 1792 rfl (by decide) (by decide) (by decide) (by norm_num) (r_30z h))
  refine done_cons over_canon 13 ?_ (by decide) _ (piece_slice 13 1664 rfl (by decide) (by decide) (by decide) (by norm_num) (r_30z h))
  refine done_cons over_canon 12 ?_ (by decide) _ (piece_slice 12 1536 rfl (by decide) (by decide) (by decide) (by norm_num) (r_30z h))
  refine done_cons over_canon 11 ?_ (by decide) _ (piece_slice 11 1408 rfl (by decide) (by decide) (by decide) (by norm_num) (r_30z h))
  refine done_cons over_canon 10 ?_ (by decide) _ (piece_slice 10 1280 rfl (by decide) (by decide) (by decide) (by norm_num) (r_30z h))
  refine done_cons over_canon 9 ?_ (by decide) _ (piece_slice 9 1152 rfl (by decide) (by decide) (by decide) (by norm_num) (r_30z h))
  refine done_cons over_canon 8 ?_ (by decide) _ (piece_slice 8 1024 rfl (by decide) (by decide) (by decide) (by norm_num) (r_30z h))
  refine done_cons over_canon 7 ?_ (by decide) _ (piece_slice 7 896 rfl (by decide) (by decide) (by decide) (by norm_num) (r_30z h))
  refine done_cons over_canon 6 ?_ (by decide) _ (piece_slice 6 768 rfl (by decide) (by decide) (by decide) (by norm_num) (r_30z h))
  refine done_cons over_canon 5 ?_ (by decide) _ (piece_slice 5 640 rfl (by decide) (by decide) (by decide) (by norm_num) (r_30z h))
  refine done_cons over_canon 4 ?_ (by decide) _ (piece_slice 4 512 rfl (by decide) (by decide) (by decide) (by norm_num) (r_30z h))
  refine done_cons over_canon 3 ?_ (by decide) _ (piece_slice 3 384 rfl (by decide) (by decide) (by decide) (by norm_num) (r_30z h))
  refine done_cons over_canon 2 ?_ (by decide) _ (piece_slice 2 256 rfl (by decide) (by decide) (by decide) (by norm_num) (r_30z h))
  refine done_cons over_canon 1 ?_ (by decide) _ (piece_slice 1 128 rfl (by decide) (by decide) (by decide) (by norm_num) (r_30z h))
  refine done_cons over_canon 0 ?_ (by decide) _ (piece_slice 0 0 rfl (by decide) (by decide) (by decide) (by norm_num) (r_30z h))
  exact done_zero

theorem dhStripsOver : Done (n := 264) ((fun L => arg26.view.read (Elt Ideal) (arg26.view.writes (Elt Ideal) (harg26.unread xs2) L)) (kernelRun0_B.sl.HS2_44 c i arg1 harg1 arg2 harg2 arg4 harg4 arg5 harg5 arg6 harg6 arg7 harg7 arg8 harg8 arg9 harg9 arg10 harg10 arg11 harg11 arg12 harg12 arg24 arg25 x0 x1 x3 x4 x5 x6 x7 x8 x9 x10 x11)) 22 256 (fun r c => dhz A (256 * T + r) c) := by
  refine done_cons (over_writes arg26.view (harg26.unread xs2)) 21 ?_ (by decide) _ (piece_slice 21 2688 rfl (by decide) (by decide) (by decide) (by norm_num) (r_30z h))
  refine done_cons (over_writes arg26.view (harg26.unread xs2)) 20 ?_ (by decide) _ (piece_slice 20 2560 rfl (by decide) (by decide) (by decide) (by norm_num) (r_30z h))
  refine done_cons (over_writes arg26.view (harg26.unread xs2)) 19 ?_ (by decide) _ (piece_slice 19 2432 rfl (by decide) (by decide) (by decide) (by norm_num) (r_30z h))
  refine done_cons (over_writes arg26.view (harg26.unread xs2)) 18 ?_ (by decide) _ (piece_slice 18 2304 rfl (by decide) (by decide) (by decide) (by norm_num) (r_30z h))
  refine done_cons (over_writes arg26.view (harg26.unread xs2)) 17 ?_ (by decide) _ (piece_slice 17 2176 rfl (by decide) (by decide) (by decide) (by norm_num) (r_30z h))
  refine done_cons (over_writes arg26.view (harg26.unread xs2)) 16 ?_ (by decide) _ (piece_slice 16 2048 rfl (by decide) (by decide) (by decide) (by norm_num) (r_30z h))
  refine done_cons (over_writes arg26.view (harg26.unread xs2)) 15 ?_ (by decide) _ (piece_slice 15 1920 rfl (by decide) (by decide) (by decide) (by norm_num) (r_30z h))
  refine done_cons (over_writes arg26.view (harg26.unread xs2)) 14 ?_ (by decide) _ (piece_slice 14 1792 rfl (by decide) (by decide) (by decide) (by norm_num) (r_30z h))
  refine done_cons (over_writes arg26.view (harg26.unread xs2)) 13 ?_ (by decide) _ (piece_slice 13 1664 rfl (by decide) (by decide) (by decide) (by norm_num) (r_30z h))
  refine done_cons (over_writes arg26.view (harg26.unread xs2)) 12 ?_ (by decide) _ (piece_slice 12 1536 rfl (by decide) (by decide) (by decide) (by norm_num) (r_30z h))
  refine done_cons (over_writes arg26.view (harg26.unread xs2)) 11 ?_ (by decide) _ (piece_slice 11 1408 rfl (by decide) (by decide) (by decide) (by norm_num) (r_30z h))
  refine done_cons (over_writes arg26.view (harg26.unread xs2)) 10 ?_ (by decide) _ (piece_slice 10 1280 rfl (by decide) (by decide) (by decide) (by norm_num) (r_30z h))
  refine done_cons (over_writes arg26.view (harg26.unread xs2)) 9 ?_ (by decide) _ (piece_slice 9 1152 rfl (by decide) (by decide) (by decide) (by norm_num) (r_30z h))
  refine done_cons (over_writes arg26.view (harg26.unread xs2)) 8 ?_ (by decide) _ (piece_slice 8 1024 rfl (by decide) (by decide) (by decide) (by norm_num) (r_30z h))
  refine done_cons (over_writes arg26.view (harg26.unread xs2)) 7 ?_ (by decide) _ (piece_slice 7 896 rfl (by decide) (by decide) (by decide) (by norm_num) (r_30z h))
  refine done_cons (over_writes arg26.view (harg26.unread xs2)) 6 ?_ (by decide) _ (piece_slice 6 768 rfl (by decide) (by decide) (by decide) (by norm_num) (r_30z h))
  refine done_cons (over_writes arg26.view (harg26.unread xs2)) 5 ?_ (by decide) _ (piece_slice 5 640 rfl (by decide) (by decide) (by decide) (by norm_num) (r_30z h))
  refine done_cons (over_writes arg26.view (harg26.unread xs2)) 4 ?_ (by decide) _ (piece_slice 4 512 rfl (by decide) (by decide) (by decide) (by norm_num) (r_30z h))
  refine done_cons (over_writes arg26.view (harg26.unread xs2)) 3 ?_ (by decide) _ (piece_slice 3 384 rfl (by decide) (by decide) (by decide) (by norm_num) (r_30z h))
  refine done_cons (over_writes arg26.view (harg26.unread xs2)) 2 ?_ (by decide) _ (piece_slice 2 256 rfl (by decide) (by decide) (by decide) (by norm_num) (r_30z h))
  refine done_cons (over_writes arg26.view (harg26.unread xs2)) 1 ?_ (by decide) _ (piece_slice 1 128 rfl (by decide) (by decide) (by decide) (by norm_num) (r_30z h))
  refine done_cons (over_writes arg26.view (harg26.unread xs2)) 0 ?_ (by decide) _ (piece_slice 0 0 rfl (by decide) (by decide) (by decide) (by norm_num) (r_30z h))
  exact done_zero

/-- The next tile's rows stay. -/
theorem dhRest (hs : Carry A T xs2) : Rest (n := 264) ((fun L => arg26.view.read (Elt Ideal) (arg26.view.writes (Elt Ideal) (harg26.unread xs2) L)) (kernelRun0_B.sl.HS2_44 c i arg1 harg1 arg2 harg2 arg4 harg4 arg5 harg5 arg6 harg6 arg7 harg7 arg8 harg8 arg9 harg9 arg10 harg10 arg11 harg11 arg12 harg12 arg24 arg25 x0 x1 x3 x4 x5 x6 x7 x8 x9 x10 x11)) 256 (fun r c => dhz A (256 * T + r) c) := by
  refine rest_cons (over_writes arg26.view (harg26.unread xs2)) ?_ 21 (by decide) _
  refine rest_cons (over_writes arg26.view (harg26.unread xs2)) ?_ 20 (by decide) _
  refine rest_cons (over_writes arg26.view (harg26.unread xs2)) ?_ 19 (by decide) _
  refine rest_cons (over_writes arg26.view (harg26.unread xs2)) ?_ 18 (by decide) _
  refine rest_cons (over_writes arg26.view (harg26.unread xs2)) ?_ 17 (by decide) _
  refine rest_cons (over_writes arg26.view (harg26.unread xs2)) ?_ 16 (by decide) _
  refine rest_cons (over_writes arg26.view (harg26.unread xs2)) ?_ 15 (by decide) _
  refine rest_cons (over_writes arg26.view (harg26.unread xs2)) ?_ 14 (by decide) _
  refine rest_cons (over_writes arg26.view (harg26.unread xs2)) ?_ 13 (by decide) _
  refine rest_cons (over_writes arg26.view (harg26.unread xs2)) ?_ 12 (by decide) _
  refine rest_cons (over_writes arg26.view (harg26.unread xs2)) ?_ 11 (by decide) _
  refine rest_cons (over_writes arg26.view (harg26.unread xs2)) ?_ 10 (by decide) _
  refine rest_cons (over_writes arg26.view (harg26.unread xs2)) ?_ 9 (by decide) _
  refine rest_cons (over_writes arg26.view (harg26.unread xs2)) ?_ 8 (by decide) _
  refine rest_cons (over_writes arg26.view (harg26.unread xs2)) ?_ 7 (by decide) _
  refine rest_cons (over_writes arg26.view (harg26.unread xs2)) ?_ 6 (by decide) _
  refine rest_cons (over_writes arg26.view (harg26.unread xs2)) ?_ 5 (by decide) _
  refine rest_cons (over_writes arg26.view (harg26.unread xs2)) ?_ 4 (by decide) _
  refine rest_cons (over_writes arg26.view (harg26.unread xs2)) ?_ 3 (by decide) _
  refine rest_cons (over_writes arg26.view (harg26.unread xs2)) ?_ 2 (by decide) _
  refine rest_cons (over_writes arg26.view (harg26.unread xs2)) ?_ 1 (by decide) _
  refine rest_cons (over_writes arg26.view (harg26.unread xs2)) ?_ 0 (by decide) _
  refine rest_cons (over_writes arg26.view (harg26.unread xs2)) ?_ 21 (by decide) _
  refine rest_cons (over_writes arg26.view (harg26.unread xs2)) ?_ 20 (by decide) _
  refine rest_cons (over_writes arg26.view (harg26.unread xs2)) ?_ 19 (by decide) _
  refine rest_cons (over_writes arg26.view (harg26.unread xs2)) ?_ 18 (by decide) _
  refine rest_cons (over_writes arg26.view (harg26.unread xs2)) ?_ 17 (by decide) _
  refine rest_cons (over_writes arg26.view (harg26.unread xs2)) ?_ 16 (by decide) _
  refine rest_cons (over_writes arg26.view (harg26.unread xs2)) ?_ 15 (by decide) _
  refine rest_cons (over_writes arg26.view (harg26.unread xs2)) ?_ 14 (by decide) _
  refine rest_cons (over_writes arg26.view (harg26.unread xs2)) ?_ 13 (by decide) _
  refine rest_cons (over_writes arg26.view (harg26.unread xs2)) ?_ 12 (by decide) _
  refine rest_cons (over_writes arg26.view (harg26.unread xs2)) ?_ 11 (by decide) _
  refine rest_cons (over_writes arg26.view (harg26.unread xs2)) ?_ 10 (by decide) _
  refine rest_cons (over_writes arg26.view (harg26.unread xs2)) ?_ 9 (by decide) _
  refine rest_cons (over_writes arg26.view (harg26.unread xs2)) ?_ 8 (by decide) _
  refine rest_cons (over_writes arg26.view (harg26.unread xs2)) ?_ 7 (by decide) _
  refine rest_cons (over_writes arg26.view (harg26.unread xs2)) ?_ 6 (by decide) _
  refine rest_cons (over_writes arg26.view (harg26.unread xs2)) ?_ 5 (by decide) _
  refine rest_cons (over_writes arg26.view (harg26.unread xs2)) ?_ 4 (by decide) _
  refine rest_cons (over_writes arg26.view (harg26.unread xs2)) ?_ 3 (by decide) _
  refine rest_cons (over_writes arg26.view (harg26.unread xs2)) ?_ 2 (by decide) _
  refine rest_cons (over_writes arg26.view (harg26.unread xs2)) ?_ 1 (by decide) _
  refine rest_cons (over_writes arg26.view (harg26.unread xs2)) ?_ 0 (by decide) _
  intro k r l hr
  refine (congrFun (harg26.read_unread xs2) (ix3 k r l)).trans (hs k r l hr)

theorem v592 (hs : Carry A T xs2) : Tab (kernelRun0_B.sl.v592 c i arg1 harg1 arg2 harg2 arg4 harg4 arg5 harg5 arg6 harg6 arg7 harg7 arg8 harg8 arg9 harg9 arg10 harg10 arg11 harg11 arg12 harg12 arg24 arg25 arg26 harg26 x0 x1 x3 x4 x5 x6 x7 x8 x9 x10 x11 xs2) (fun r c => dhz A (256 * T + r + 1) c) :=
  (tab_cat (f := fun r c => dhz A (256 * T + (1 + r)) c) strips_join (h0 := tab_strip_at 0 1 ((dhStripsOver h).strips_rest (N := 264) (dhRest h hs))) (h1 := tab_strip_at 1 1 ((dhStripsOver h).strips_rest (N := 264) (dhRest h hs))) (h2 := tab_strip_at 2 1 ((dhStripsOver h).strips_rest (N := 264) (dhRest h hs))) (h3 := tab_strip_at 3 1 ((dhStripsOver h).strips_rest (N := 264) (dhRest h hs))) (h4 := tab_strip_at 4 1 ((dhStripsOver h).strips_rest (N := 264) (dhRest h hs))) (h5 := tab_strip_at 5 1 ((dhStripsOver h).strips_rest (N := 264) (dhRest h hs))) (h6 := tab_strip_at 6 1 ((dhStripsOver h).strips_rest (N := 264) (dhRest h hs))) (h7 := tab_strip_at 7 1 ((dhStripsOver h).strips_rest (N := 264) (dhRest h hs))) (h8 := tab_strip_at 8 1 ((dhStripsOver h).strips_rest (N := 264) (dhRest h hs))) (h9 := tab_strip_at 9 1 ((dhStripsOver h).strips_rest (N := 264) (dhRest h hs))) (h10 := tab_strip_at 10 1 ((dhStripsOver h).strips_rest (N := 264) (dhRest h hs))) (h11 := tab_strip_at 11 1 ((dhStripsOver h).strips_rest (N := 264) (dhRest h hs))) (h12 := tab_strip_at 12 1 ((dhStripsOver h).strips_rest (N := 264) (dhRest h hs))) (h13 := tab_strip_at 13 1 ((dhStripsOver h).strips_rest (N := 264) (dhRest h hs))) (h14 := tab_strip_at 14 1 ((dhStripsOver h).strips_rest (N := 264) (dhRest h hs))) (h15 := tab_strip_at 15 1 ((dhStripsOver h).strips_rest (N := 264) (dhRest h hs))) (h16 := tab_strip_at 16 1 ((dhStripsOver h).strips_rest (N := 264) (dhRest h hs))) (h17 := tab_strip_at 17 1 ((dhStripsOver h).strips_rest (N := 264) (dhRest h hs))) (h18 := tab_strip_at 18 1 ((dhStripsOver h).strips_rest (N := 264) (dhRest h hs))) (h19 := tab_strip_at 19 1 ((dhStripsOver h).strips_rest (N := 264) (dhRest h hs))) (h20 := tab_strip_at 20 1 ((dhStripsOver h).strips_rest (N := 264) (dhRest h hs))) (h21 := tab_strip_at 21 1 ((dhStripsOver h).strips_rest (N := 264) (dhRest h hs)))).congr fun r c _ _ => by rw [show 256 * T + (1 + r) = 256 * T + r + 1 by omega]

theorem v637 (hs : Carry A T xs2) : Tab (kernelRun0_B.sl.v637 c i arg1 harg1 arg2 harg2 arg4 harg4 arg5 harg5 arg6 harg6 arg7 harg7 arg8 harg8 arg9 harg9 arg10 harg10 arg11 harg11 arg12 harg12 arg24 arg25 arg26 harg26 x0 x1 x3 x4 x5 x6 x7 x8 x9 x10 x11 xs2) (fun r c => dhz A (256 * T + r + 2) c) :=
  (tab_cat (f := fun r c => dhz A (256 * T + (2 + r)) c) strips_join (h0 := tab_strip_at 0 2 ((dhStripsOver h).strips_rest (N := 264) (dhRest h hs))) (h1 := tab_strip_at 1 2 ((dhStripsOver h).strips_rest (N := 264) (dhRest h hs))) (h2 := tab_strip_at 2 2 ((dhStripsOver h).strips_rest (N := 264) (dhRest h hs))) (h3 := tab_strip_at 3 2 ((dhStripsOver h).strips_rest (N := 264) (dhRest h hs))) (h4 := tab_strip_at 4 2 ((dhStripsOver h).strips_rest (N := 264) (dhRest h hs))) (h5 := tab_strip_at 5 2 ((dhStripsOver h).strips_rest (N := 264) (dhRest h hs))) (h6 := tab_strip_at 6 2 ((dhStripsOver h).strips_rest (N := 264) (dhRest h hs))) (h7 := tab_strip_at 7 2 ((dhStripsOver h).strips_rest (N := 264) (dhRest h hs))) (h8 := tab_strip_at 8 2 ((dhStripsOver h).strips_rest (N := 264) (dhRest h hs))) (h9 := tab_strip_at 9 2 ((dhStripsOver h).strips_rest (N := 264) (dhRest h hs))) (h10 := tab_strip_at 10 2 ((dhStripsOver h).strips_rest (N := 264) (dhRest h hs))) (h11 := tab_strip_at 11 2 ((dhStripsOver h).strips_rest (N := 264) (dhRest h hs))) (h12 := tab_strip_at 12 2 ((dhStripsOver h).strips_rest (N := 264) (dhRest h hs))) (h13 := tab_strip_at 13 2 ((dhStripsOver h).strips_rest (N := 264) (dhRest h hs))) (h14 := tab_strip_at 14 2 ((dhStripsOver h).strips_rest (N := 264) (dhRest h hs))) (h15 := tab_strip_at 15 2 ((dhStripsOver h).strips_rest (N := 264) (dhRest h hs))) (h16 := tab_strip_at 16 2 ((dhStripsOver h).strips_rest (N := 264) (dhRest h hs))) (h17 := tab_strip_at 17 2 ((dhStripsOver h).strips_rest (N := 264) (dhRest h hs))) (h18 := tab_strip_at 18 2 ((dhStripsOver h).strips_rest (N := 264) (dhRest h hs))) (h19 := tab_strip_at 19 2 ((dhStripsOver h).strips_rest (N := 264) (dhRest h hs))) (h20 := tab_strip_at 20 2 ((dhStripsOver h).strips_rest (N := 264) (dhRest h hs))) (h21 := tab_strip_at 21 2 ((dhStripsOver h).strips_rest (N := 264) (dhRest h hs)))).congr fun r c _ _ => by rw [show 256 * T + (2 + r) = 256 * T + r + 2 by omega]

theorem r_32 : Tab (kernelRun0_B.sl.r_32 c i arg1 harg1 arg2 harg2 arg4 harg4 arg5 harg5 arg6 harg6 arg24 x0 x1 x3 x4 x5) (fun r c => u A (256 * T + r) (2816 + c)) :=
  (t_pay206 (q := fun r c => gx A (256 * T) (16 + r) c) (q0 := tab_strip_cov 0 16 (gate h).strips) (q1 := tab_strip_cov 1 16 (gate h).strips) (q2 := tab_strip_cov 2 16 (gate h).strips) (q3 := tab_strip_cov 3 16 (gate h).strips) (q4 := tab_strip_cov 4 16 (gate h).strips) (q5 := tab_strip_cov 5 16 (gate h).strips) (q6 := tab_strip_cov 6 16 (gate h).strips) (q7 := tab_strip_cov 7 16 (gate h).strips) (q8 := tab_strip_cov 8 16 (gate h).strips) (q9 := tab_strip_cov 9 16 (gate h).strips) (q10 := tab_strip_cov 10 16 (gate h).strips) (q11 := tab_strip_cov 11 16 (gate h).strips) (q12 := tab_strip_cov 12 16 (gate h).strips) (q13 := tab_strip_cov 13 16 (gate h).strips) (q14 := tab_strip_cov 14 16 (gate h).strips) (q15 := tab_strip_cov 15 16 (gate h).strips) (q16 := tab_strip_cov 16 16 (gate h).strips) (q17 := tab_strip_cov 17 16 (gate h).strips) (q18 := tab_strip_cov 18 16 (gate h).strips) (q19 := tab_strip_cov 19 16 (gate h).strips) (q20 := tab_strip_cov 20 16 (gate h).strips) (q21 := tab_strip_cov 21 16 (gate h).strips)).congr fun r c _ _ => by rw [gx_tile]

theorem r_34 : Tab (kernelRun0_B.sl.r_34 c i arg1 harg1 arg2 harg2 arg4 harg4 arg5 harg5 arg6 harg6 arg7 harg7 arg8 harg8 arg9 harg9 arg10 harg10 arg11 harg11 arg12 harg12 arg24 arg25 x0 x1 x3 x4 x5 x6 x7 x8 x9 x10 x11) (fun _ c => ∑ k : Fin 256, dh A (256 * T + k.val) c) :=
  t_pay208 (hv459 := r_30 h)

theorem r_35 (hs : Carry A T xs2) : Tab (kernelRun0_B.sl.r_35 c i arg1 harg1 arg2 harg2 arg4 harg4 arg5 harg5 arg6 harg6 arg7 harg7 arg8 harg8 arg9 harg9 arg10 harg10 arg11 harg11 arg12 harg12 arg24 arg25 arg26 harg26 x0 x1 x3 x4 x5 x6 x7 x8 x9 x10 x11 xs2) (fun r c => A.cw 2 c * dhz A (256 * T + r) c + A.cw 1 c * dhz A (256 * T + r + 1) c) :=
  t_pay213 (hv459 := r_30z h) (hv592 := v592 h hs) (hv710 := (tab_load_rows harg7 2 (by decide) h.x6)) (hv713 := (tab_load_rows harg7 1 (by decide) h.x6))

theorem r_36 (hs : Carry A T xs2) : Tab (kernelRun0_B.sl.r_36 c i arg1 harg1 arg2 harg2 arg4 harg4 arg5 harg5 arg6 harg6 arg7 harg7 arg8 harg8 arg9 harg9 arg10 harg10 arg11 harg11 arg12 harg12 arg24 arg25 arg26 harg26 x0 x1 x3 x4 x5 x6 x7 x8 x9 x10 x11 xs2) (fun r c => A.cw 0 c * dhz A (256 * T + r + 2) c) :=
  t_pay214 (hv637 := v637 h hs) (hv717 := (tab_load_top harg7 (by decide) h.x6))

/-- The gradient at the first norm's output. -/
theorem r_37 (hs : Carry A T xs2) : Tab (kernelRun0_B.sl.r_37 c i arg1 harg1 arg2 harg2 arg4 harg4 arg5 harg5 arg6 harg6 arg7 harg7 arg8 harg8 arg9 harg9 arg10 harg10 arg11 harg11 arg12 harg12 arg24 arg25 arg26 harg26 x0 x1 x3 x4 x5 x6 x7 x8 x9 x10 x11 xs2) (fun r c => dx1 A (256 * T + r) c) :=
  t_pay217 (hv406 := r_21 h) (hv457 := r_29 h) (hv716 := r_35 h hs) (hv719 := r_36 h hs) (hv727 := (tab_loadh_top harg6 (by decide) h.x5)) (hv731 := (tab_loadh_rows harg6 2816 (by decide) h.x5))

/-- The outputs. -/
theorem outs (hs : Carry A T xs2) :
    Outs A T (out0_B_12 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2) (out0_B_13 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2)
      (out0_B_14 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2) (out0_B_15 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2) where
  x12 := tab_out _ (by decide) _ (t_pay221 (hv4 := r h) (hv7 := r_1 h) (hv734 := r_37 h hs) (hv754 := (tab_load0 harg3 (by decide) h.x2)))
  x13 := tab_outh _ (by decide) _ (t_pay106 (hv350 := r_16 h) (hv352 := r_17 h) (hv390 := r_19 h) (hv392 := r_20 h))
  x14 := (tab_halves (by norm_num) _ (by decide) (by decide) (t_pay216 (hv716 := r_35 h hs) (hv719 := r_36 h hs)) (t_pay215 (hv457 := r_29 h))).congr
    fun r c _ _ => by rw [du]
  x15 := tab_outh _ (by decide) _ (t_pay93 (hv27 := r_3 h) (hv231 := r_14 h))

/-- The sums, the tile's added. -/
theorem accs (hs : Carry A T xs2) {t : ℕ} (hTt : T + t = 15) (ha : Accs A t xo16 xo17 xo18 xo19 xo20 xo21 xo22) :
    Accs A (t + 1) (out0_B_16 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2) (out0_B_17 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2) (out0_B_18 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2)
      (out0_B_19 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2) (out0_B_20 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2) (out0_B_21 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2) (out0_B_22 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2) where
  x16 := (tab_out _ (by decide) _ (t_pay99 (hv358 := r_18 h) (hv359 := (tab_load0 harg12 (by decide) h.x11)) (hv361 := (tab_load0 harg17 (by decide) ha.x16)))).congr
    fun r c _ _ => by rw [tot_succ (T := T) (by omega)]; ring
  x17 := (tab_out _ (by decide) _ (t_pay101 (hv352 := r_17 h) (hv358 := r_18 h) (hv359 := (tab_load0 harg12 (by decide) h.x11)) (hv375 := (tab_load0 harg18 (by decide) ha.x17)))).congr
    fun r c _ _ => by rw [tot_succ (T := T) (by omega)]
  x18 := (tab_out _ (by decide) _ (t_pay102 (hv358 := r_18 h) (hv359 := (tab_load0 harg12 (by decide) h.x11)) (hv382 := (tab_load0 harg19 (by decide) ha.x18)))).congr
    fun r c _ _ => by rw [tot_succ (T := T) (by omega)]
  x19 := (tab_out _ (by decide) _ (t_pay219 (hv7 := r_1 h) (hv406 := r_21 h) (hv457 := r_29 h) (hv716 := r_35 h hs) (hv719 := r_36 h hs) (hv727 := (tab_loadh_top harg6 (by decide) h.x5)) (hv731 := (tab_loadh_rows harg6 2816 (by decide) h.x5)) (hv739 := (tab_load0 harg20 (by decide) ha.x19)))).congr
    fun r c _ _ => by rw [tot_succ (T := T) (by omega)]
  x20 := (tab_out _ (by decide) _ (t_pay220 (hv406 := r_21 h) (hv457 := r_29 h) (hv716 := r_35 h hs) (hv719 := r_36 h hs) (hv727 := (tab_loadh_top harg6 (by decide) h.x5)) (hv731 := (tab_loadh_rows harg6 2816 (by decide) h.x5)) (hv746 := (tab_load0 harg21 (by decide) ha.x20)))).congr
    fun r c _ _ => by rw [tot_succ (T := T) (by omega)]
  x21 := (tab_out _ (by decide) _ (t_pay209 (hv684 := t_pay207 (hv683 := (tab_load0 harg22 (by decide) ha.x21))) (hv686 := r_34 h))).congr
    fun r c _ _ => by rw [tot_succ (T := T) (by omega)]
  x22 := tab_out_rows _ (by decide) (by decide) (by decide)
    ((t_pay210 (hv637 := v637 h hs) (hv682 := r_32 h) (hv689 := (tab_load_top harg23 (by decide) ha.x22))).congr fun r c hr _ => by
      rw [tot_succ (T := T) (by omega), show r = 0 by omega])
    ((t_pay211 (hv592 := v592 h hs) (hv682 := r_32 h) (hv696 := (tab_load_rows harg23 1 (by decide) ha.x22))).congr fun r c hr _ => by
      rw [tot_succ (T := T) (by omega), show r = 0 by omega])
    ((t_pay212 (hv459 := r_30z h) (hv682 := r_32 h) (hv703 := (tab_load_rows harg23 2 (by decide) ha.x22))).congr fun r c hr _ => by
      rw [tot_succ (T := T) (by omega), show r = 0 by omega]
      rfl)

/-- The scratch carries the tile's first rows. -/
theorem carry {T' : ℕ} (hT' : T = T' + 1) : Carry A T' (sout0_B_2 c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 hc0 x0 x1 x2 x3 x4 x5 x6 x7 x8 x9 x10 x11 xo16 xo17 xo18 xo19 xo20 xo21 xo22 xs2) := fun k r l hr => by
  refine (View.read_writes_junk_apply_eq_canon VS0_2 (ix3 k r l) _).trans ?_
  refine (rest_store (f := fun r c => dhz A (256 * T + r - 256) c) over_canon (q := 8) rfl (by decide) _ (fun k r l => ?_) k r l hr).trans
    (by beta_reduce; rw [show 256 * T + r.val - 256 = 256 * T' + r.val by omega])
  refine (head8 _ k r l).trans ((head_cov arg26.view (by norm_num) (M := 256) (by norm_num) (by decide) (dhStrips h) k r l).trans ?_)
  rw [show 256 * T + (256 + r.val) - 256 = 256 * T + r.val by omega]

end FfnStep.Later
-- ==== Proof.Points.lean ====
/- The points one after another: what each leaves in the outputs' blocks, in the sums and in the scratch it carries. -/
module

public import proofs.«01_k».proof.Proof.Block.First
public import proofs.«01_k».proof.Proof.Block.Later
public import proofs.«01_k».proof.Proof.Ideal.Frame

@[expose] public section

set_option maxRecDepth 16384
set_option maxHeartbeats 400000

noncomputable section

namespace FfnStep

open Idealize.ShloMosaic Idealize.ShloMosaic.TcCoe Cert.KernelIdeal Cert.KernelIdeal.Gen FfnStep.Block

variable (m : (ℓ : Loc nD τ sig) → Buf (Elt Ideal) ℓ) (c : Dev nD) (A : Args)

/-- The blocks point `t` finds are the inputs of tile `15 - t`. -/
abbrev InsAt (t : Fin cfg0.N) : Prop :=
  Ins A (15 - t.val) (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)

/-- What a point's outputs' buffers and carried scratch hold, together. -/
abbrev Holds : Type := Vec Ideal S256x1024 .f32 × Vec Ideal S256x1024 .bf16 × Vec Ideal S256x5632 .bf16 × Vec Ideal S256x2816 .bf16 × Vec Ideal S8x128 .f32 × Vec Ideal S1x1024 .f32 × Vec Ideal S1x1024 .f32 × Vec Ideal S1x1024 .f32 × Vec Ideal S1x1024 .f32 × Vec Ideal S1x2816 .f32 × Vec Ideal S3x2816 .f32 × Vec Ideal S22x264x128 .f32

/-- Tile `T`'s outputs are in their buffers. -/
def OutsOf (T : ℕ) (o : Holds) : Prop := Outs A T o.1 o.2.1 o.2.2.1 o.2.2.2.1

/-- The sums of the first `t` tiles are in their buffers. -/
def AccsOf (t : ℕ) (o : Holds) : Prop :=
  Accs A t o.2.2.2.2.1 o.2.2.2.2.2.1 o.2.2.2.2.2.2.1 o.2.2.2.2.2.2.2.1 o.2.2.2.2.2.2.2.2.1 o.2.2.2.2.2.2.2.2.2.1 o.2.2.2.2.2.2.2.2.2.2.1

/-- The rows tile `T` needs are in the scratch. -/
def CarryOf (T : ℕ) (o : Holds) : Prop := Carry A T o.2.2.2.2.2.2.2.2.2.2.2

section
variable {A} {T t : ℕ} {a0 : Vec Ideal S256x1024 .f32} {a1 : Vec Ideal S256x1024 .bf16} {a2 : Vec Ideal S256x5632 .bf16} {a3 : Vec Ideal S256x2816 .bf16}
  {a4 : Vec Ideal S8x128 .f32} {a5 a6 a7 a8 : Vec Ideal S1x1024 .f32} {a9 : Vec Ideal S1x2816 .f32} {a10 : Vec Ideal S3x2816 .f32} {a11 : Vec Ideal S22x264x128 .f32}

theorem outsOf_mk (h : Outs A T a0 a1 a2 a3) : OutsOf A T (a0, a1, a2, a3, a4, a5, a6, a7, a8, a9, a10, a11) := h

theorem accsOf_mk (h : Accs A t a4 a5 a6 a7 a8 a9 a10) : AccsOf A t (a0, a1, a2, a3, a4, a5, a6, a7, a8, a9, a10, a11) := h

theorem carryOf_mk (h : Carry A T a11) : CarryOf A T (a0, a1, a2, a3, a4, a5, a6, a7, a8, a9, a10, a11) := h

end

/-- What point `n` leaves: tile `15 - n`'s outputs, the sums of the first `n + 1` tiles, and the rows the next tile needs. -/
def Left (n : ℕ) (o : Holds) : Prop := OutsOf A (15 - n) o ∧ AccsOf A (n + 1) o ∧ (n < 15 → CarryOf A (15 - (n + 1)) o)

/-- The first point's outputs. -/
theorem first_outs (t : Fin cfg0.N) (h0 : t.val = 0) (h : t.val % 16 = 0) (hI : InsAt m c A t) : OutsOf A (15 - t.val) (outsA0 m c t h) := by
  unfold outsA0
  exact outsOf_mk (First.outs hI (by omega))

/-- The first point's sums. -/
theorem first_accs (t : Fin cfg0.N) (h0 : t.val = 0) (h : t.val % 16 = 0) (hI : InsAt m c A t) : AccsOf A (0 + 1) (outsA0 m c t h) := by
  unfold outsA0
  exact accsOf_mk (First.accs hI (by omega))

/-- The first point's scratch. -/
theorem first_carry (t : Fin cfg0.N) (h0 : t.val = 0) (h : t.val % 16 = 0) (hI : InsAt m c A t) : CarryOf A (15 - (t.val + 1)) (outsA0 m c t h) := by
  unfold outsA0
  exact carryOf_mk (First.carry hI (by omega))

/-- The first point, which runs the last tile. -/
theorem left_first (t : Fin cfg0.N) (h0 : t.val = 0) (h : t.val % 16 = 0) (hI : InsAt m c A t) : Left A t.val (outsA0 m c t h) :=
  ⟨first_outs m c A t h0 h hI, by rw [h0]; exact first_accs m c A t h0 h hI, fun _ => first_carry m c A t h0 h hI⟩

/-- A later point's outputs. -/
theorem later_outs (t : Fin cfg0.N) (h : ¬t.val % 16 = 0) (hI : InsAt m c A t) (p : Holds) (hc : CarryOf A (15 - t.val) p) :
    OutsOf A (15 - t.val) (outsB0 m c t h p) := by
  unfold outsB0
  unfold CarryOf at hc
  exact outsOf_mk (Later.outs hI hc)

/-- A later point's sums. -/
theorem later_accs (t : Fin cfg0.N) (h : ¬t.val % 16 = 0) (hI : InsAt m c A t) (p : Holds) (hc : CarryOf A (15 - t.val) p)
    (ha : AccsOf A t.val p) : AccsOf A (t.val + 1) (outsB0 m c t h p) := by
  have hN : cfg0.N = 16 := N_0
  have ht := t.isLt
  unfold outsB0
  unfold CarryOf at hc
  unfold AccsOf at ha
  exact accsOf_mk (Later.accs hI hc (by omega) ha)

/-- A later point's scratch. -/
theorem later_carry (t : Fin cfg0.N) (h : ¬t.val % 16 = 0) (ht : t.val < 15) (hI : InsAt m c A t) (p : Holds) :
    CarryOf A (15 - (t.val + 1)) (outsB0 m c t h p) := by
  unfold outsB0
  exact carryOf_mk (Later.carry hI (by omega))

/-- A later point, after what the point before left. -/
theorem left_later (t : Fin cfg0.N) {n : ℕ} (ht : t.val = n + 1) (hn : n < 15) (h : ¬t.val % 16 = 0) (hI : InsAt m c A t)
    (p : Holds) (hp : Left A n p) : Left A t.val (outsB0 m c t h p) := by
  have hc : CarryOf A (15 - t.val) p := by
    rw [ht]
    exact hp.2.2 hn
  exact ⟨later_outs m c A t h hI p hc, later_accs m c A t h hI p hc (by rw [ht]; exact hp.2.1), fun h' => later_carry m c A t h h' hI p⟩

/-- Every point. -/
theorem left (hI : ∀ t : Fin cfg0.N, InsAt m c A t) : ∀ (n : ℕ) (hn : n < cfg0.N), Left A n (outsAt0 m c n hn) := by
  have hN : cfg0.N = 16 := N_0
  intro n
  induction n with
  | zero =>
    intro hn
    have e := outsAt0_first m c ⟨0, hn⟩ (Nat.zero_mod _)
    have l := left_first m c A ⟨0, hn⟩ rfl (Nat.zero_mod _) (hI ⟨0, hn⟩)
    exact (congrArg (Left A 0) e).mpr l
  | succ n ih =>
    intro hn
    have h0 : ¬(n + 1) % 16 = 0 := by omega
    have e := outsAt0_later m c ⟨n + 1, hn⟩ h0
    have l := left_later m c A ⟨n + 1, hn⟩ (n := n) rfl (by omega) h0 (hI ⟨n + 1, hn⟩) _ (ih (by omega))
    exact (congrArg (Left A (n + 1)) e).mpr l

end FfnStep
-- ==== Proof.Inputs.lean ====
/- What each input block holds: the arrays the launch prepares, the windows' blocks of them, and so the inputs of each tile. -/
module

public import proofs.«01_k».proof.Proof.RefForward
public import proofs.«01_k».proof.Proof.Points

@[expose] public section

set_option maxRecDepth 16384

noncomputable section

namespace FfnStep

open Idealize.ShloMosaic Idealize.ShloMosaic.TcCoe Idealize.ShloMosaic.ValueIdx Cert.KernelIdeal Cert.KernelIdeal.Gen FfnStep.Block

variable (m : (ℓ : Loc nD τ sig) → Buf (Elt Ideal) ℓ) (c : Dev nD) {A : Args}

/-- The argument arrays hold the real tables of `A`. -/
abbrev ReadsArgs (A : Args) : Prop :=
  Ref.Reads A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-! ## The arrays the host prepares -/

/-- The reciprocal deviations the host computes are the reference's. -/
theorem V_main_v13 : V m c main_v13 = Cert.ReferenceIdeal.Read.val_main_v17 (F := Ideal) (m ((c : Thread nD τ).loc main_arg0)) := by
  unfold V
  simp only [hostOps0]
  after_results_simp
  rfl

/-- The normalised rows the host computes are the reference's. -/
theorem V_main_v17 : V m c main_v17 = Cert.ReferenceIdeal.Read.val_main_v22 (F := Ideal) (m ((c : Thread nD τ).loc main_arg0)) := by
  unfold V
  simp only [hostOps0]
  after_results_simp
  rfl

/-- The transposed up-projection. -/
theorem V_main_v19 : V m c main_v19
    = (truncf (F := Ideal) .bf16 (transpose S5632x1024 [1, 0] (m ((c : Thread nD τ).loc main_arg3) : FVec Ideal S1024x5632 .f32) transposes_S1024x5632_S5632x1024_1_0) bitsLt_bf16_f32 : FVec Ideal S5632x1024 .bf16) := by
  unfold V
  simp only [hostOps0]
  after_results_simp

/-- The down-projection. -/
theorem V_main_v20 : V m c main_v20
    = (truncf (F := Ideal) .bf16 (m ((c : Thread nD τ).loc main_arg6) : FVec Ideal S2816x1024 .f32) bitsLt_bf16_f32 : FVec Ideal S2816x1024 .bf16) := by
  unfold V
  simp only [hostOps0]
  after_results_simp

variable (hR : ReadsArgs m c A)
include hR

theorem tab_main_v13 : Tab (a := 4096) (b := 1) (V m c main_v13) fun r _ => rs A r := fun r k => by
  rw [V_main_v13]
  exact Ref.r_v17 hR _

theorem tab_main_v17 : Tab (a := 4096) (b := 1024) (V m c main_v17) (xh A) := fun r k => by
  rw [V_main_v17]
  exact Ref.r_v22 hR _

theorem tab_main_v19 : Tab (a := 5632) (b := 1024) (V m c main_v19) fun r k => A.wu k r := fun r k => by
  rw [V_main_v19]
  exact hR.wu _

theorem tab_main_v20 : Tab (a := 2816) (b := 1024) (V m c main_v20) A.wd := fun r k => by
  rw [V_main_v20]
  exact hR.wd (ix2 r k)

theorem tab_main_arg1 : Tab (a := 1) (b := 1024) (V m c main_arg1) A.g1 := fun r k => by
  rw [V_main_arg1]
  exact hR.g1 (ix2 r k)

theorem tab_main_arg2 : Tab (a := 1) (b := 1024) (V m c main_arg2) A.b1 := fun r k => by
  rw [V_main_arg2]
  exact hR.b1 (ix2 r k)

theorem tab_main_arg4 : Tab (a := 3) (b := 2816) (V m c main_arg4) A.cw := fun r k => by
  rw [V_main_arg4]
  exact hR.cw (ix2 r k)

theorem tab_main_arg5 : Tab (a := 1) (b := 2816) (V m c main_arg5) A.cb := fun r k => by
  rw [V_main_arg5]
  exact hR.cb (ix2 r k)

theorem tab_main_arg7 : Tab (a := 1) (b := 1024) (V m c main_arg7) A.g2 := fun r k => by
  rw [V_main_arg7]
  exact hR.g2 (ix2 r k)

theorem tab_main_arg8 : Tab (a := 1) (b := 1024) (V m c main_arg8) A.b2 := fun r k => by
  rw [V_main_arg8]
  exact hR.b2 (ix2 r k)

theorem tab_main_arg9 : Tab (a := 4096) (b := 1024) (V m c main_arg9) A.tg := fun r k => by
  rw [V_main_arg9]
  exact hR.tg (ix2 r k)

omit hR

/-! ## The windows' blocks -/

theorem idx0 : ∀ t : Fin grid0.N, win0_0.index t 0 = 15 - t.val ∧ win0_0.index t 1 = 0 := by
  decide +kernel

/-- Window 0's block of a table. -/
theorem tab_blk0 (t : Fin cfg0.N) {f : ℕ → ℕ → ℝ} (h : Tab (a := 4096) (b := 1024) (V m c main_v17) f) :
    Tab (a := 256) (b := 1024) (iblk m c 0 t) fun r k => f (256 * (15 - t.val) + r) k := fun r k => by
  have hi := idx0 t
  have ht : t.val < 16 := lt_of_lt_of_eq t.isLt N_0
  have hr := r.isLt
  unfold iblk
  rw [View.read_apply]
  refine Eq.trans (congrArg (V m c main_v17) ?_) (h ⟨256 * (15 - t.val) + r.val, by omega⟩ k)
  funext a
  apply Fin.ext
  match a with
  | ⟨0, _⟩ => show win0_0.index t 0 * 256 + 1 * r.val = 256 * (15 - t.val) + r.val; rw [hi.1]; omega
  | ⟨1, _⟩ => show win0_0.index t 1 * 1024 + 1 * k.val = k.val; rw [hi.2]; omega

theorem idx1 : ∀ t : Fin grid0.N, win0_1.index t 0 = 16 * (15 - t.val) - 1 ∧ win0_1.index t 1 = 0 := by
  decide +kernel

/-- Window 1's block of a table. -/
theorem tab_blk1 (t : Fin cfg0.N) {f : ℕ → ℕ → ℝ} (h : Tab (a := 4096) (b := 1024) (V m c main_v17) f) :
    Tab (a := 16) (b := 1024) (iblk m c 1 t) fun r k => f (16 * (16 * (15 - t.val) - 1) + r) k := fun r k => by
  have hi := idx1 t
  have ht : t.val < 16 := lt_of_lt_of_eq t.isLt N_0
  have hr := r.isLt
  unfold iblk
  rw [View.read_apply]
  refine Eq.trans (congrArg (V m c main_v17) ?_) (h ⟨16 * (16 * (15 - t.val) - 1) + r.val, by omega⟩ k)
  funext a
  apply Fin.ext
  match a with
  | ⟨0, _⟩ => show win0_1.index t 0 * 16 + 1 * r.val = 16 * (16 * (15 - t.val) - 1) + r.val; rw [hi.1]; omega
  | ⟨1, _⟩ => show win0_1.index t 1 * 1024 + 1 * k.val = k.val; rw [hi.2]; omega

theorem idx2 : ∀ t : Fin grid0.N, win0_2.index t 0 = 15 - t.val ∧ win0_2.index t 1 = 0 := by
  decide +kernel

/-- Window 2's block of a table. -/
theorem tab_blk2 (t : Fin cfg0.N) {f : ℕ → ℕ → ℝ} (h : Tab (a := 4096) (b := 1) (V m c main_v13) f) :
    Tab (a := 256) (b := 1) (iblk m c 2 t) fun r k => f (256 * (15 - t.val) + r) k := fun r k => by
  have hi := idx2 t
  have ht : t.val < 16 := lt_of_lt_of_eq t.isLt N_0
  have hr := r.isLt
  unfold iblk
  rw [View.read_apply]
  refine Eq.trans (congrArg (V m c main_v13) ?_) (h ⟨256 * (15 - t.val) + r.val, by omega⟩ k)
  funext a
  apply Fin.ext
  match a with
  | ⟨0, _⟩ => show win0_2.index t 0 * 256 + 1 * r.val = 256 * (15 - t.val) + r.val; rw [hi.1]; omega
  | ⟨1, _⟩ => show win0_2.index t 1 * 1 + 1 * k.val = k.val; rw [hi.2]; omega

theorem idx3 : ∀ t : Fin grid0.N, win0_3.index t 0 = 0 ∧ win0_3.index t 1 = 0 := by
  decide +kernel

/-- Window 3's block of a table. -/
theorem tab_blk3 (t : Fin cfg0.N) {f : ℕ → ℕ → ℝ} (h : Tab (a := 1) (b := 1024) (V m c main_arg1) f) :
    Tab (a := 1) (b := 1024) (iblk m c 3 t) fun r k => f (1 * (0) + r) k := fun r k => by
  have hi := idx3 t
  have ht : t.val < 16 := lt_of_lt_of_eq t.isLt N_0
  have hr := r.isLt
  unfold iblk
  rw [View.read_apply]
  refine Eq.trans (congrArg (V m c main_arg1) ?_) (h ⟨1 * (0) + r.val, by omega⟩ k)
  funext a
  apply Fin.ext
  match a with
  | ⟨0, _⟩ => show win0_3.index t 0 * 1 + 1 * r.val = 1 * (0) + r.val; rw [hi.1]; omega
  | ⟨1, _⟩ => show win0_3.index t 1 * 1024 + 1 * k.val = k.val; rw [hi.2]; omega

theorem idx4 : ∀ t : Fin grid0.N, win0_4.index t 0 = 0 ∧ win0_4.index t 1 = 0 := by
  decide +kernel

/-- Window 4's block of a table. -/
theorem tab_blk4 (t : Fin cfg0.N) {f : ℕ → ℕ → ℝ} (h : Tab (a := 1) (b := 1024) (V m c main_arg2) f) :
    Tab (a := 1) (b := 1024) (iblk m c 4 t) fun r k => f (1 * (0) + r) k := fun r k => by
  have hi := idx4 t
  have ht : t.val < 16 := lt_of_lt_of_eq t.isLt N_0
  have hr := r.isLt
  unfold iblk
  rw [View.read_apply]
  refine Eq.trans (congrArg (V m c main_arg2) ?_) (h ⟨1 * (0) + r.val, by omega⟩ k)
  funext a
  apply Fin.ext
  match a with
  | ⟨0, _⟩ => show win0_4.index t 0 * 1 + 1 * r.val = 1 * (0) + r.val; rw [hi.1]; omega
  | ⟨1, _⟩ => show win0_4.index t 1 * 1024 + 1 * k.val = k.val; rw [hi.2]; omega

theorem idx5 : ∀ t : Fin grid0.N, win0_5.index t 0 = 0 ∧ win0_5.index t 1 = 0 := by
  decide +kernel

/-- Window 5's block of a table. -/
theorem tab_blk5 (t : Fin cfg0.N) {f : ℕ → ℕ → ℝ} (h : Tab (a := 5632) (b := 1024) (V m c main_v19) f) :
    Tab (a := 5632) (b := 1024) (iblk m c 5 t) fun r k => f (5632 * (0) + r) k := fun r k => by
  have hi := idx5 t
  have ht : t.val < 16 := lt_of_lt_of_eq t.isLt N_0
  have hr := r.isLt
  unfold iblk
  rw [View.read_apply]
  refine Eq.trans (congrArg (V m c main_v19) ?_) (h ⟨5632 * (0) + r.val, by omega⟩ k)
  funext a
  apply Fin.ext
  match a with
  | ⟨0, _⟩ => show win0_5.index t 0 * 5632 + 1 * r.val = 5632 * (0) + r.val; rw [hi.1]; omega
  | ⟨1, _⟩ => show win0_5.index t 1 * 1024 + 1 * k.val = k.val; rw [hi.2]; omega

theorem idx6 : ∀ t : Fin grid0.N, win0_6.index t 0 = 0 ∧ win0_6.index t 1 = 0 := by
  decide +kernel

/-- Window 6's block of a table. -/
theorem tab_blk6 (t : Fin cfg0.N) {f : ℕ → ℕ → ℝ} (h : Tab (a := 3) (b := 2816) (V m c main_arg4) f) :
    Tab (a := 3) (b := 2816) (iblk m c 6 t) fun r k => f (3 * (0) + r) k := fun r k => by
  have hi := idx6 t
  have ht : t.val < 16 := lt_of_lt_of_eq t.isLt N_0
  have hr := r.isLt
  unfold iblk
  rw [View.read_apply]
  refine Eq.trans (congrArg (V m c main_arg4) ?_) (h ⟨3 * (0) + r.val, by omega⟩ k)
  funext a
  apply Fin.ext
  match a with
  | ⟨0, _⟩ => show win0_6.index t 0 * 3 + 1 * r.val = 3 * (0) + r.val; rw [hi.1]; omega
  | ⟨1, _⟩ => show win0_6.index t 1 * 2816 + 1 * k.val = k.val; rw [hi.2]; omega

theorem idx7 : ∀ t : Fin grid0.N, win0_7.index t 0 = 0 ∧ win0_7.index t 1 = 0 := by
  decide +kernel

/-- Window 7's block of a table. -/
theorem tab_blk7 (t : Fin cfg0.N) {f : ℕ → ℕ → ℝ} (h : Tab (a := 1) (b := 2816) (V m c main_arg5) f) :
    Tab (a := 1) (b := 2816) (iblk m c 7 t) fun r k => f (1 * (0) + r) k := fun r k => by
  have hi := idx7 t
  have ht : t.val < 16 := lt_of_lt_of_eq t.isLt N_0
  have hr := r.isLt
  unfold iblk
  rw [View.read_apply]
  refine Eq.trans (congrArg (V m c main_arg5) ?_) (h ⟨1 * (0) + r.val, by omega⟩ k)
  funext a
  apply Fin.ext
  match a with
  | ⟨0, _⟩ => show win0_7.index t 0 * 1 + 1 * r.val = 1 * (0) + r.val; rw [hi.1]; omega
  | ⟨1, _⟩ => show win0_7.index t 1 * 2816 + 1 * k.val = k.val; rw [hi.2]; omega

theorem idx8 : ∀ t : Fin grid0.N, win0_8.index t 0 = 0 ∧ win0_8.index t 1 = 0 := by
  decide +kernel

/-- Window 8's block of a table. -/
theorem tab_blk8 (t : Fin cfg0.N) {f : ℕ → ℕ → ℝ} (h : Tab (a := 2816) (b := 1024) (V m c main_v20) f) :
    Tab (a := 2816) (b := 1024) (iblk m c 8 t) fun r k => f (2816 * (0) + r) k := fun r k => by
  have hi := idx8 t
  have ht : t.val < 16 := lt_of_lt_of_eq t.isLt N_0
  have hr := r.isLt
  unfold iblk
  rw [View.read_apply]
  refine Eq.trans (congrArg (V m c main_v20) ?_) (h ⟨2816 * (0) + r.val, by omega⟩ k)
  funext a
  apply Fin.ext
  match a with
  | ⟨0, _⟩ => show win0_8.index t 0 * 2816 + 1 * r.val = 2816 * (0) + r.val; rw [hi.1]; omega
  | ⟨1, _⟩ => show win0_8.index t 1 * 1024 + 1 * k.val = k.val; rw [hi.2]; omega

theorem idx9 : ∀ t : Fin grid0.N, win0_9.index t 0 = 0 ∧ win0_9.index t 1 = 0 := by
  decide +kernel

/-- Window 9's block of a table. -/
theorem tab_blk9 (t : Fin cfg0.N) {f : ℕ → ℕ → ℝ} (h : Tab (a := 1) (b := 1024) (V m c main_arg7) f) :
    Tab (a := 1) (b := 1024) (iblk m c 9 t) fun r k => f (1 * (0) + r) k := fun r k => by
  have hi := idx9 t
  have ht : t.val < 16 := lt_of_lt_of_eq t.isLt N_0
  have hr := r.isLt
  unfold iblk
  rw [View.read_apply]
  refine Eq.trans (congrArg (V m c main_arg7) ?_) (h ⟨1 * (0) + r.val, by omega⟩ k)
  funext a
  apply Fin.ext
  match a with
  | ⟨0, _⟩ => show win0_9.index t 0 * 1 + 1 * r.val = 1 * (0) + r.val; rw [hi.1]; omega
  | ⟨1, _⟩ => show win0_9.index t 1 * 1024 + 1 * k.val = k.val; rw [hi.2]; omega

theorem idx10 : ∀ t : Fin grid0.N, win0_10.index t 0 = 0 ∧ win0_10.index t 1 = 0 := by
  decide +kernel

/-- Window 10's block of a table. -/
theorem tab_blk10 (t : Fin cfg0.N) {f : ℕ → ℕ → ℝ} (h : Tab (a := 1) (b := 1024) (V m c main_arg8) f) :
    Tab (a := 1) (b := 1024) (iblk m c 10 t) fun r k => f (1 * (0) + r) k := fun r k => by
  have hi := idx10 t
  have ht : t.val < 16 := lt_of_lt_of_eq t.isLt N_0
  have hr := r.isLt
  unfold iblk
  rw [View.read_apply]
  refine Eq.trans (congrArg (V m c main_arg8) ?_) (h ⟨1 * (0) + r.val, by omega⟩ k)
  funext a
  apply Fin.ext
  match a with
  | ⟨0, _⟩ => show win0_10.index t 0 * 1 + 1 * r.val = 1 * (0) + r.val; rw [hi.1]; omega
  | ⟨1, _⟩ => show win0_10.index t 1 * 1024 + 1 * k.val = k.val; rw [hi.2]; omega

theorem idx11 : ∀ t : Fin grid0.N, win0_11.index t 0 = 15 - t.val ∧ win0_11.index t 1 = 0 := by
  decide +kernel

/-- Window 11's block of a table. -/
theorem tab_blk11 (t : Fin cfg0.N) {f : ℕ → ℕ → ℝ} (h : Tab (a := 4096) (b := 1024) (V m c main_arg9) f) :
    Tab (a := 256) (b := 1024) (iblk m c 11 t) fun r k => f (256 * (15 - t.val) + r) k := fun r k => by
  have hi := idx11 t
  have ht : t.val < 16 := lt_of_lt_of_eq t.isLt N_0
  have hr := r.isLt
  unfold iblk
  rw [View.read_apply]
  refine Eq.trans (congrArg (V m c main_arg9) ?_) (h ⟨256 * (15 - t.val) + r.val, by omega⟩ k)
  funext a
  apply Fin.ext
  match a with
  | ⟨0, _⟩ => show win0_11.index t 0 * 256 + 1 * r.val = 256 * (15 - t.val) + r.val; rw [hi.1]; omega
  | ⟨1, _⟩ => show win0_11.index t 1 * 1024 + 1 * k.val = k.val; rw [hi.2]; omega

theorem coords0 : ∀ t : Fin grid0.N, (grid0.coords t 0).val = t.val := by
  decide +kernel

/-- The inputs of the tile point `t` runs. -/
theorem insAt (hR : ReadsArgs m c A) (t : Fin cfg0.N) : InsAt m c A t := by
  have ht : t.val < 16 := lt_of_lt_of_eq t.isLt N_0
  exact {
    hT := by omega
    hi := by rw [coords0 t]; omega
    x0 := tab_blk0 m c t (tab_main_v17 m c hR)
    x1 := (tab_blk1 m c t (tab_main_v17 m c hR)).congr fun r k _ _ => by
      rw [show 16 * (16 * (15 - t.val) - 1) + r = 256 * (15 - t.val) - 16 + r by omega]
    x2 := tab_blk2 m c t (tab_main_v13 m c hR)
    x3 := (tab_blk3 m c t (tab_main_arg1 m c hR)).congr fun r k _ _ => by rw [Nat.mul_zero, Nat.zero_add]
    x4 := (tab_blk4 m c t (tab_main_arg2 m c hR)).congr fun r k _ _ => by rw [Nat.mul_zero, Nat.zero_add]
    x5 := (tab_blk5 m c t (tab_main_v19 m c hR)).congr fun r k _ _ => by rw [Nat.mul_zero, Nat.zero_add]
    x6 := (tab_blk6 m c t (tab_main_arg4 m c hR)).congr fun r k _ _ => by rw [Nat.mul_zero, Nat.zero_add]
    x7 := (tab_blk7 m c t (tab_main_arg5 m c hR)).congr fun r k _ _ => by rw [Nat.mul_zero, Nat.zero_add]
    x8 := (tab_blk8 m c t (tab_main_v20 m c hR)).congr fun r k _ _ => by rw [Nat.mul_zero, Nat.zero_add]
    x9 := (tab_blk9 m c t (tab_main_arg7 m c hR)).congr fun r k _ _ => by rw [Nat.mul_zero, Nat.zero_add]
    x10 := (tab_blk10 m c t (tab_main_arg8 m c hR)).congr fun r k _ _ => by rw [Nat.mul_zero, Nat.zero_add]
    x11 := tab_blk11 m c t (tab_main_arg9 m c hR) }

end FfnStep
-- ==== Proof.Finite.lean ====
/- Under the precondition every argument array holds a real table. -/
module

public import proofs.«01_k».proof.Defs
public import proofs.«01_k».proof.Proof.Inputs

@[expose] public section

noncomputable section

namespace Cert.Pre_finite

/-- The precondition's side conditions. -/
theorem facts : Facts where
  bcast_S_S4096x1024 := by decide
  bcast_S_S1x1024 := by decide
  bcast_S_S1024x5632 := by decide
  bcast_S_S3x2816 := by decide
  bcast_S_S1x2816 := by decide
  bcast_S_S2816x1024 := by decide

end Cert.Pre_finite

namespace FfnStep

open Idealize.ShloMosaic Idealize.ShloMosaic.TcCoe Idealize.ShloMosaic.ValueIdx

/-- The real entries of an array, zero outside it. -/
def tableOf {a b : ℕ} (x : (⟨2, ![a, b]⟩ : Shape).Idx → EReal) (r c : ℕ) : ℝ :=
  if h : r < a ∧ c < b then (x (ix2 ⟨r, h.1⟩ ⟨c, h.2⟩)).toReal else 0

/-- An array below +∞ in absolute value is its real entries. -/
theorem eq_tableOf {a b : ℕ} {x y : (⟨2, ![a, b]⟩ : Shape).Idx → EReal} (hy : ∀ i, y i = Ideal.ofBits .f32 0x7F800000#32)
    (h : (fun i => Ideal.cmp .olt (max (x i) (-(x i))) (y i)) = fun _ => 1#1) (i : (⟨2, ![a, b]⟩ : Shape).Idx) :
    x i = ((tableOf x (i 0).val (i 1).val : ℝ) : EReal) := by
  have htop : Ideal.ofBits .f32 0x7F800000#32 = ⊤ := by simp [Ideal.ofBits, Ideal.ieee]
  have hi := congrFun h i
  rw [hy i, htop] at hi
  have hlt : max (x i) (-(x i)) < ⊤ := by
    by_contra hn
    simp [Ideal.cmp, hn] at hi
  rw [max_lt_iff] at hlt
  have hb : x i ≠ ⊥ := fun e => by
    rw [e] at hlt
    simp at hlt
  have hr : (i 0).val < a ∧ (i 1).val < b := ⟨(i 0).isLt, (i 1).isLt⟩
  rw [tableOf, dif_pos hr]
  have hx : (ix2 (⟨(i 0).val, hr.1⟩ : Fin a) (⟨(i 1).val, hr.2⟩ : Fin b)) = i := (eq_ix2 i).symm
  rw [hx, EReal.coe_toReal hlt.1.ne hb]

variable (m : (ℓ : Loc Cert.KernelIdeal.nD Cert.KernelIdeal.τ Cert.KernelIdeal.sig) → Buf (Elt Ideal) ℓ) (c : Dev Cert.KernelIdeal.nD)

open Cert.KernelIdeal

/-- The argument arrays' tables. -/
def argsOf : Args where
  z := tableOf (a := 4096) (b := 1024) (m ((c : Thread nD τ).loc main_arg0))
  g1 := tableOf (a := 1) (b := 1024) (m ((c : Thread nD τ).loc main_arg1))
  b1 := tableOf (a := 1) (b := 1024) (m ((c : Thread nD τ).loc main_arg2))
  wu := tableOf (a := 1024) (b := 5632) (m ((c : Thread nD τ).loc main_arg3))
  cw := tableOf (a := 3) (b := 2816) (m ((c : Thread nD τ).loc main_arg4))
  cb := tableOf (a := 1) (b := 2816) (m ((c : Thread nD τ).loc main_arg5))
  wd := tableOf (a := 2816) (b := 1024) (m ((c : Thread nD τ).loc main_arg6))
  g2 := tableOf (a := 1) (b := 1024) (m ((c : Thread nD τ).loc main_arg7))
  b2 := tableOf (a := 1) (b := 1024) (m ((c : Thread nD τ).loc main_arg8))
  tg := tableOf (a := 4096) (b := 1024) (m ((c : Thread nD τ).loc main_arg9))

/-- Under the precondition the argument arrays are their tables. -/
theorem reads_of_finite (h : Cert.Pre_KernelIdeal_finite (hPre_finite := Cert.Pre_finite.facts) m) : ReadsArgs m c (argsOf m c) := by
  obtain ⟨h0, h1, h2, h3, h4, h5, h6, h7, h8, h9⟩ := h c
  exact {
    z := eq_tableOf (fun _ => rfl) h0
    g1 := eq_tableOf (fun _ => rfl) h1
    b1 := eq_tableOf (fun _ => rfl) h2
    wu := eq_tableOf (fun _ => rfl) h3
    cw := eq_tableOf (fun _ => rfl) h4
    cb := eq_tableOf (fun _ => rfl) h5
    wd := eq_tableOf (fun _ => rfl) h6
    g2 := eq_tableOf (fun _ => rfl) h7
    b2 := eq_tableOf (fun _ => rfl) h8
    tg := eq_tableOf (fun _ => rfl) h9 }

end FfnStep
-- ==== Proof.Arrays.lean ====
/- What the launch leaves in each output array, entry by entry. -/
module

public import proofs.«01_k».proof.Proof.Inputs
public import proofs.«01_k».proof.Proof.Ideal.Value

@[expose] public section

set_option maxRecDepth 16384

noncomputable section

namespace FfnStep

open Idealize.ShloMosaic Idealize.ShloMosaic.TcCoe Idealize.ShloMosaic.ValueIdx Cert.KernelIdeal Cert.KernelIdeal.Gen Cert.KernelIdeal.Value
open FfnStep.Block

variable (m : (ℓ : Loc nD τ sig) → Buf (Elt Ideal) ℓ) (c : Dev nD) {A : Args} (hR : ReadsArgs m c A)
include hR

/-- What point `t` leaves. -/
theorem leftAt (t : Fin cfg0.N) : Left A t.val (outsAt0 m c t.val t.isLt) := left m c A (insAt m c hR) t.val t.isLt

/-- The point that runs the tile of row `r`. -/
def pointOf (r : Fin 4096) : Fin cfg0.N := ⟨15 - r.val / 256, by rw [show cfg0.N = 16 from N_0]; omega⟩

/-- The last point. -/
def lastPoint : Fin cfg0.N := ⟨15, by rw [show cfg0.N = 16 from N_0]; omega⟩

/-! ## The arrays written tile by tile -/

omit hR in
theorem oidx12 : ∀ t : Fin grid0.N, win0_12.index t 0 = 15 - t.val ∧ win0_12.index t 1 = 0 := by
  decide +kernel

omit hR in
theorem oflush12 : ∀ t : Fin cfg0.N, (cfg0.win 12).flush t = true :=
  (by decide +kernel : ∀ t : Fin grid0.N, win0_12.flush t = true)

theorem arr12 : Tab (a := 4096) (b := 1024) ((dats m 0 c).arrAt 12 cfg0.N) (dz1 A) := fun r k => by
  have hr := r.isLt
  have hi := oidx12 (pointOf r)
  have hv : (pointOf r).val = 15 - r.val / 256 := rfl
  have hb := congrFun ((blocks12 m c (pointOf r) (oflush12 _)).trans (flushed12 m c (pointOf r)))
    (ix2 (⟨r.val % 256, Nat.mod_lt _ (by decide)⟩ : Fin 256) k)
  rw [View.read_apply] at hb
  have hl := (leftAt m c hR (pointOf r)).1
  unfold OutsOf at hl
  have hx := hl.x12 ⟨r.val % 256, Nat.mod_lt _ (by decide)⟩ k
  refine (congrArg ((dats m 0 c).arrAt 12 cfg0.N) ?_).trans (hb.trans (hx.trans ?_))
  · funext a
    apply Fin.ext
    match a with
    | ⟨0, _⟩ => show r.val = win0_12.index (pointOf r) 0 * 256 + 1 * (r.val % 256); rw [hi.1, hv]; omega
    | ⟨1, _⟩ => show k.val = win0_12.index (pointOf r) 1 * 1024 + 1 * k.val; rw [hi.2]; omega
  · rw [hv]
    beta_reduce
    rw [show 256 * (15 - (15 - r.val / 256)) + r.val % 256 = r.val by omega]

omit hR in
theorem oidx13 : ∀ t : Fin grid0.N, win0_13.index t 0 = 15 - t.val ∧ win0_13.index t 1 = 0 := by
  decide +kernel

omit hR in
theorem oflush13 : ∀ t : Fin cfg0.N, (cfg0.win 13).flush t = true :=
  (by decide +kernel : ∀ t : Fin grid0.N, win0_13.flush t = true)

theorem arr13 : Tab (a := 4096) (b := 1024) ((dats m 0 c).arrAt 13 cfg0.N) (dz2 A) := fun r k => by
  have hr := r.isLt
  have hi := oidx13 (pointOf r)
  have hv : (pointOf r).val = 15 - r.val / 256 := rfl
  have hb := congrFun ((blocks13 m c (pointOf r) (oflush13 _)).trans (flushed13 m c (pointOf r)))
    (ix2 (⟨r.val % 256, Nat.mod_lt _ (by decide)⟩ : Fin 256) k)
  rw [View.read_apply] at hb
  have hl := (leftAt m c hR (pointOf r)).1
  unfold OutsOf at hl
  have hx := hl.x13 ⟨r.val % 256, Nat.mod_lt _ (by decide)⟩ k
  refine (congrArg ((dats m 0 c).arrAt 13 cfg0.N) ?_).trans (hb.trans (hx.trans ?_))
  · funext a
    apply Fin.ext
    match a with
    | ⟨0, _⟩ => show r.val = win0_13.index (pointOf r) 0 * 256 + 1 * (r.val % 256); rw [hi.1, hv]; omega
    | ⟨1, _⟩ => show k.val = win0_13.index (pointOf r) 1 * 1024 + 1 * k.val; rw [hi.2]; omega
  · rw [hv]
    beta_reduce
    rw [show 256 * (15 - (15 - r.val / 256)) + r.val % 256 = r.val by omega]

omit hR in
theorem oidx14 : ∀ t : Fin grid0.N, win0_14.index t 0 = 15 - t.val ∧ win0_14.index t 1 = 0 := by
  decide +kernel

omit hR in
theorem oflush14 : ∀ t : Fin cfg0.N, (cfg0.win 14).flush t = true :=
  (by decide +kernel : ∀ t : Fin grid0.N, win0_14.flush t = true)

theorem arr14 : Tab (a := 4096) (b := 5632) ((dats m 0 c).arrAt 14 cfg0.N) (du A) := fun r k => by
  have hr := r.isLt
  have hi := oidx14 (pointOf r)
  have hv : (pointOf r).val = 15 - r.val / 256 := rfl
  have hb := congrFun ((blocks14 m c (pointOf r) (oflush14 _)).trans (flushed14 m c (pointOf r)))
    (ix2 (⟨r.val % 256, Nat.mod_lt _ (by decide)⟩ : Fin 256) k)
  rw [View.read_apply] at hb
  have hl := (leftAt m c hR (pointOf r)).1
  unfold OutsOf at hl
  have hx := hl.x14 ⟨r.val % 256, Nat.mod_lt _ (by decide)⟩ k
  refine (congrArg ((dats m 0 c).arrAt 14 cfg0.N) ?_).trans (hb.trans (hx.trans ?_))
  · funext a
    apply Fin.ext
    match a with
    | ⟨0, _⟩ => show r.val = win0_14.index (pointOf r) 0 * 256 + 1 * (r.val % 256); rw [hi.1, hv]; omega
    | ⟨1, _⟩ => show k.val = win0_14.index (pointOf r) 1 * 5632 + 1 * k.val; rw [hi.2]; omega
  · rw [hv]
    beta_reduce
    rw [show 256 * (15 - (15 - r.val / 256)) + r.val % 256 = r.val by omega]

omit hR in
theorem oidx15 : ∀ t : Fin grid0.N, win0_15.index t 0 = 15 - t.val ∧ win0_15.index t 1 = 0 := by
  decide +kernel

omit hR in
theorem oflush15 : ∀ t : Fin cfg0.N, (cfg0.win 15).flush t = true :=
  (by decide +kernel : ∀ t : Fin grid0.N, win0_15.flush t = true)

theorem arr15 : Tab (a := 4096) (b := 2816) ((dats m 0 c).arrAt 15 cfg0.N) (fv A) := fun r k => by
  have hr := r.isLt
  have hi := oidx15 (pointOf r)
  have hv : (pointOf r).val = 15 - r.val / 256 := rfl
  have hb := congrFun ((blocks15 m c (pointOf r) (oflush15 _)).trans (flushed15 m c (pointOf r)))
    (ix2 (⟨r.val % 256, Nat.mod_lt _ (by decide)⟩ : Fin 256) k)
  rw [View.read_apply] at hb
  have hl := (leftAt m c hR (pointOf r)).1
  unfold OutsOf at hl
  have hx := hl.x15 ⟨r.val % 256, Nat.mod_lt _ (by decide)⟩ k
  refine (congrArg ((dats m 0 c).arrAt 15 cfg0.N) ?_).trans (hb.trans (hx.trans ?_))
  · funext a
    apply Fin.ext
    match a with
    | ⟨0, _⟩ => show r.val = win0_15.index (pointOf r) 0 * 256 + 1 * (r.val % 256); rw [hi.1, hv]; omega
    | ⟨1, _⟩ => show k.val = win0_15.index (pointOf r) 1 * 2816 + 1 * k.val; rw [hi.2]; omega
  · rw [hv]
    beta_reduce
    rw [show 256 * (15 - (15 - r.val / 256)) + r.val % 256 = r.val by omega]

/-! ## The sums, written once -/

omit hR in
theorem oidx16 : ∀ t : Fin grid0.N, win0_16.index t 0 = 0 ∧ win0_16.index t 1 = 0 := by
  decide +kernel

omit hR in
theorem oflush16 : ∀ t : Fin cfg0.N, (cfg0.win 16).flush t = decide (t.val = 15) :=
  (by decide +kernel : ∀ t : Fin grid0.N, win0_16.flush t = decide (t.val = 15))

omit hR in
theorem last16 (t : Fin cfg0.N) (h : (cfg0.win 16).flush t = true) : t = lastPoint := by
  rw [oflush16] at h
  exact Fin.ext (of_decide_eq_true h)

theorem arr16 : Tab (a := 8) (b := 128) ((dats m 0 c).arrAt 16 cfg0.N) (fun _ _ => loss A) := fun r k => by
  have hi := oidx16 lastPoint
  have hb := congrFun (((dats m 0 c).read_blk_arrAt_eq_flushed 16
    (fun t t' h h' hne => absurd ((last16 t h).trans (last16 t' h').symm) hne) cfg0.N lastPoint lastPoint.isLt
    ((oflush16 lastPoint).trans (decide_eq_true rfl))).trans (flushed16 m c lastPoint)) (ix2 r k)
  rw [View.read_apply] at hb
  have hl := (leftAt m c hR lastPoint).2.1
  unfold AccsOf at hl
  have hx := hl.x16 r k
  refine (congrArg ((dats m 0 c).arrAt 16 cfg0.N) ?_).trans (hb.trans (hx.trans ?_))
  · funext a
    apply Fin.ext
    match a with
    | ⟨0, _⟩ => show r.val = win0_16.index lastPoint 0 * 8 + 1 * r.val; rw [hi.1]; omega
    | ⟨1, _⟩ => show k.val = win0_16.index lastPoint 1 * 128 + 1 * k.val; rw [hi.2]; omega
  · show ((1 / 2 * tot 16 (sq A) / 1024 : ℝ) : EReal) = _
    rw [tot_all, mul_div_assoc, Finset.sum_div]
    rfl

omit hR in
theorem oidx17 : ∀ t : Fin grid0.N, win0_17.index t 0 = 0 ∧ win0_17.index t 1 = 0 := by
  decide +kernel

omit hR in
theorem oflush17 : ∀ t : Fin cfg0.N, (cfg0.win 17).flush t = decide (t.val = 15) :=
  (by decide +kernel : ∀ t : Fin grid0.N, win0_17.flush t = decide (t.val = 15))

omit hR in
theorem last17 (t : Fin cfg0.N) (h : (cfg0.win 17).flush t = true) : t = lastPoint := by
  rw [oflush17] at h
  exact Fin.ext (of_decide_eq_true h)

theorem arr17 : Tab (a := 1) (b := 1024) ((dats m 0 c).arrAt 17 cfg0.N) (fun _ k => dg2 A k) := fun r k => by
  have hi := oidx17 lastPoint
  have hb := congrFun (((dats m 0 c).read_blk_arrAt_eq_flushed 17
    (fun t t' h h' hne => absurd ((last17 t h).trans (last17 t' h').symm) hne) cfg0.N lastPoint lastPoint.isLt
    ((oflush17 lastPoint).trans (decide_eq_true rfl))).trans (flushed17 m c lastPoint)) (ix2 r k)
  rw [View.read_apply] at hb
  have hl := (leftAt m c hR lastPoint).2.1
  unfold AccsOf at hl
  have hx := hl.x17 r k
  refine (congrArg ((dats m 0 c).arrAt 17 cfg0.N) ?_).trans (hb.trans (hx.trans ?_))
  · funext a
    apply Fin.ext
    match a with
    | ⟨0, _⟩ => show r.val = win0_17.index lastPoint 0 * 1 + 1 * r.val; rw [hi.1]; omega
    | ⟨1, _⟩ => show k.val = win0_17.index lastPoint 1 * 1024 + 1 * k.val; rw [hi.2]; omega
  · show ((tot 16 fun r => dy A r k.val * xh2 A r k.val : ℝ) : EReal) = _
    rw [tot_all]
    rfl

omit hR in
theorem oidx18 : ∀ t : Fin grid0.N, win0_18.index t 0 = 0 ∧ win0_18.index t 1 = 0 := by
  decide +kernel

omit hR in
theorem oflush18 : ∀ t : Fin cfg0.N, (cfg0.win 18).flush t = decide (t.val = 15) :=
  (by decide +kernel : ∀ t : Fin grid0.N, win0_18.flush t = decide (t.val = 15))

omit hR in
theorem last18 (t : Fin cfg0.N) (h : (cfg0.win 18).flush t = true) : t = lastPoint := by
  rw [oflush18] at h
  exact Fin.ext (of_decide_eq_true h)

theorem arr18 : Tab (a := 1) (b := 1024) ((dats m 0 c).arrAt 18 cfg0.N) (fun _ k => db2 A k) := fun r k => by
  have hi := oidx18 lastPoint
  have hb := congrFun (((dats m 0 c).read_blk_arrAt_eq_flushed 18
    (fun t t' h h' hne => absurd ((last18 t h).trans (last18 t' h').symm) hne) cfg0.N lastPoint lastPoint.isLt
    ((oflush18 lastPoint).trans (decide_eq_true rfl))).trans (flushed18 m c lastPoint)) (ix2 r k)
  rw [View.read_apply] at hb
  have hl := (leftAt m c hR lastPoint).2.1
  unfold AccsOf at hl
  have hx := hl.x18 r k
  refine (congrArg ((dats m 0 c).arrAt 18 cfg0.N) ?_).trans (hb.trans (hx.trans ?_))
  · funext a
    apply Fin.ext
    match a with
    | ⟨0, _⟩ => show r.val = win0_18.index lastPoint 0 * 1 + 1 * r.val; rw [hi.1]; omega
    | ⟨1, _⟩ => show k.val = win0_18.index lastPoint 1 * 1024 + 1 * k.val; rw [hi.2]; omega
  · show ((tot 16 fun r => dy A r k.val : ℝ) : EReal) = _
    rw [tot_all]
    rfl

omit hR in
theorem oidx19 : ∀ t : Fin grid0.N, win0_19.index t 0 = 0 ∧ win0_19.index t 1 = 0 := by
  decide +kernel

omit hR in
theorem oflush19 : ∀ t : Fin cfg0.N, (cfg0.win 19).flush t = decide (t.val = 15) :=
  (by decide +kernel : ∀ t : Fin grid0.N, win0_19.flush t = decide (t.val = 15))

omit hR in
theorem last19 (t : Fin cfg0.N) (h : (cfg0.win 19).flush t = true) : t = lastPoint := by
  rw [oflush19] at h
  exact Fin.ext (of_decide_eq_true h)

theorem arr19 : Tab (a := 1) (b := 1024) ((dats m 0 c).arrAt 19 cfg0.N) (fun _ k => dg1 A k) := fun r k => by
  have hi := oidx19 lastPoint
  have hb := congrFun (((dats m 0 c).read_blk_arrAt_eq_flushed 19
    (fun t t' h h' hne => absurd ((last19 t h).trans (last19 t' h').symm) hne) cfg0.N lastPoint lastPoint.isLt
    ((oflush19 lastPoint).trans (decide_eq_true rfl))).trans (flushed19 m c lastPoint)) (ix2 r k)
  rw [View.read_apply] at hb
  have hl := (leftAt m c hR lastPoint).2.1
  unfold AccsOf at hl
  have hx := hl.x19 r k
  refine (congrArg ((dats m 0 c).arrAt 19 cfg0.N) ?_).trans (hb.trans (hx.trans ?_))
  · funext a
    apply Fin.ext
    match a with
    | ⟨0, _⟩ => show r.val = win0_19.index lastPoint 0 * 1 + 1 * r.val; rw [hi.1]; omega
    | ⟨1, _⟩ => show k.val = win0_19.index lastPoint 1 * 1024 + 1 * k.val; rw [hi.2]; omega
  · show ((tot 16 fun r => dx1 A r k.val * xh A r k.val : ℝ) : EReal) = _
    rw [tot_all]
    rfl

omit hR in
theorem oidx20 : ∀ t : Fin grid0.N, win0_20.index t 0 = 0 ∧ win0_20.index t 1 = 0 := by
  decide +kernel

omit hR in
theorem oflush20 : ∀ t : Fin cfg0.N, (cfg0.win 20).flush t = decide (t.val = 15) :=
  (by decide +kernel : ∀ t : Fin grid0.N, win0_20.flush t = decide (t.val = 15))

omit hR in
theorem last20 (t : Fin cfg0.N) (h : (cfg0.win 20).flush t = true) : t = lastPoint := by
  rw [oflush20] at h
  exact Fin.ext (of_decide_eq_true h)

theorem arr20 : Tab (a := 1) (b := 1024) ((dats m 0 c).arrAt 20 cfg0.N) (fun _ k => db1 A k) := fun r k => by
  have hi := oidx20 lastPoint
  have hb := congrFun (((dats m 0 c).read_blk_arrAt_eq_flushed 20
    (fun t t' h h' hne => absurd ((last20 t h).trans (last20 t' h').symm) hne) cfg0.N lastPoint lastPoint.isLt
    ((oflush20 lastPoint).trans (decide_eq_true rfl))).trans (flushed20 m c lastPoint)) (ix2 r k)
  rw [View.read_apply] at hb
  have hl := (leftAt m c hR lastPoint).2.1
  unfold AccsOf at hl
  have hx := hl.x20 r k
  refine (congrArg ((dats m 0 c).arrAt 20 cfg0.N) ?_).trans (hb.trans (hx.trans ?_))
  · funext a
    apply Fin.ext
    match a with
    | ⟨0, _⟩ => show r.val = win0_20.index lastPoint 0 * 1 + 1 * r.val; rw [hi.1]; omega
    | ⟨1, _⟩ => show k.val = win0_20.index lastPoint 1 * 1024 + 1 * k.val; rw [hi.2]; omega
  · show ((tot 16 fun r => dx1 A r k.val : ℝ) : EReal) = _
    rw [tot_all]
    rfl

omit hR in
theorem oidx21 : ∀ t : Fin grid0.N, win0_21.index t 0 = 0 ∧ win0_21.index t 1 = 0 := by
  decide +kernel

omit hR in
theorem oflush21 : ∀ t : Fin cfg0.N, (cfg0.win 21).flush t = decide (t.val = 15) :=
  (by decide +kernel : ∀ t : Fin grid0.N, win0_21.flush t = decide (t.val = 15))

omit hR in
theorem last21 (t : Fin cfg0.N) (h : (cfg0.win 21).flush t = true) : t = lastPoint := by
  rw [oflush21] at h
  exact Fin.ext (of_decide_eq_true h)

theorem arr21 : Tab (a := 1) (b := 2816) ((dats m 0 c).arrAt 21 cfg0.N) (fun _ k => dcb A k) := fun r k => by
  have hi := oidx21 lastPoint
  have hb := congrFun (((dats m 0 c).read_blk_arrAt_eq_flushed 21
    (fun t t' h h' hne => absurd ((last21 t h).trans (last21 t' h').symm) hne) cfg0.N lastPoint lastPoint.isLt
    ((oflush21 lastPoint).trans (decide_eq_true rfl))).trans (flushed21 m c lastPoint)) (ix2 r k)
  rw [View.read_apply] at hb
  have hl := (leftAt m c hR lastPoint).2.1
  unfold AccsOf at hl
  have hx := hl.x21 r k
  refine (congrArg ((dats m 0 c).arrAt 21 cfg0.N) ?_).trans (hb.trans (hx.trans ?_))
  · funext a
    apply Fin.ext
    match a with
    | ⟨0, _⟩ => show r.val = win0_21.index lastPoint 0 * 1 + 1 * r.val; rw [hi.1]; omega
    | ⟨1, _⟩ => show k.val = win0_21.index lastPoint 1 * 2816 + 1 * k.val; rw [hi.2]; omega
  · show ((tot 16 fun r => dh A r k.val : ℝ) : EReal) = _
    rw [tot_all]
    rfl

omit hR in
theorem oidx22 : ∀ t : Fin grid0.N, win0_22.index t 0 = 0 ∧ win0_22.index t 1 = 0 := by
  decide +kernel

omit hR in
theorem oflush22 : ∀ t : Fin cfg0.N, (cfg0.win 22).flush t = decide (t.val = 15) :=
  (by decide +kernel : ∀ t : Fin grid0.N, win0_22.flush t = decide (t.val = 15))

omit hR in
theorem last22 (t : Fin cfg0.N) (h : (cfg0.win 22).flush t = true) : t = lastPoint := by
  rw [oflush22] at h
  exact Fin.ext (of_decide_eq_true h)

theorem arr22 : Tab (a := 3) (b := 2816) ((dats m 0 c).arrAt 22 cfg0.N) (dcw A) := fun r k => by
  have hi := oidx22 lastPoint
  have hb := congrFun (((dats m 0 c).read_blk_arrAt_eq_flushed 22
    (fun t t' h h' hne => absurd ((last22 t h).trans (last22 t' h').symm) hne) cfg0.N lastPoint lastPoint.isLt
    ((oflush22 lastPoint).trans (decide_eq_true rfl))).trans (flushed22 m c lastPoint)) (ix2 r k)
  rw [View.read_apply] at hb
  have hl := (leftAt m c hR lastPoint).2.1
  unfold AccsOf at hl
  have hx := hl.x22 r k
  refine (congrArg ((dats m 0 c).arrAt 22 cfg0.N) ?_).trans (hb.trans (hx.trans ?_))
  · funext a
    apply Fin.ext
    match a with
    | ⟨0, _⟩ => show r.val = win0_22.index lastPoint 0 * 3 + 1 * r.val; rw [hi.1]; omega
    | ⟨1, _⟩ => show k.val = win0_22.index lastPoint 1 * 2816 + 1 * k.val; rw [hi.2]; omega
  · show ((tot 16 fun r0 => dhz A (r0 + (2 - r.val)) k.val * u A r0 (2816 + k.val) : ℝ) : EReal) = _
    rw [tot_all, dcw_shift A r.val k.val (by omega)]

end FfnStep
-- ==== Proof.RefBackward.lean ====
/- The reference's operations one by one, from the step's difference from its target to its gradients: each value at an index is the real table's entry. -/
module

public import proofs.«01_k».proof.Proof.RefForward

@[expose] public section

set_option maxRecDepth 16384

noncomputable section

namespace FfnStep.Ref

open Idealize.ShloMosaic Idealize.ShloMosaic.ValueIdx Cert.ReferenceIdeal Cert.ReferenceIdeal.Gen Cert.ReferenceIdeal.Read

variable {A : Args} {x0 : (⟨S4096x1024, .f32⟩ : BufTy).Contents (Elt Ideal)}
  {x1 x2 : (⟨S1x1024, .f32⟩ : BufTy).Contents (Elt Ideal)} {x3 : (⟨S1024x5632, .f32⟩ : BufTy).Contents (Elt Ideal)}
  {x4 : (⟨S3x2816, .f32⟩ : BufTy).Contents (Elt Ideal)} {x5 : (⟨S1x2816, .f32⟩ : BufTy).Contents (Elt Ideal)}
  {x6 : (⟨S2816x1024, .f32⟩ : BufTy).Contents (Elt Ideal)} {x7 x8 : (⟨S1x1024, .f32⟩ : BufTy).Contents (Elt Ideal)}
  {x9 : (⟨S4096x1024, .f32⟩ : BufTy).Contents (Elt Ideal)}

/-- A sum over a vector's indices is the sum over its entries' places. -/
theorem sum_rows (f : ℕ → ℝ) : ∑ j : S4096.Idx, f (j 0).val = ∑ r : Fin 4096, f r.val := by
  let e : S4096.Idx ≃ Fin 4096 := ⟨fun j => j 0, fun k => ix1 k, fun j => (eq_ix1 j).symm, fun _ => rfl⟩
  exact Equiv.sum_comp e (fun r : Fin 4096 => f r.val)

/-- The three padded rows add up to the gate's gradient. -/
theorem dgate_pads (A : Args) (r c : ℕ) (hr : r < 4096) :
    ((if 2 ≤ 2 + r ∧ 2 + r < 4098 then dh A (2 + r - 2) c * A.cw 2 c else 0)
        + (if 1 ≤ 2 + r ∧ 2 + r < 4097 then dh A (2 + r - 1) c * A.cw 1 c else 0))
      + (if 0 ≤ 2 + r ∧ 2 + r < 4096 then dh A (2 + r) c * A.cw 0 c else 0) = dgate A r c := by
  rw [dgate, dhz, dhz, dhz, if_pos hr, if_pos (by omega), Nat.add_sub_cancel_left, show 2 + r - 1 = r + 1 by omega,
    Nat.add_comm 2 r]
  congr 1
  · congr 1
    · ring
    · by_cases h1 : r + 1 < 4096
      · rw [if_pos (by omega), if_pos h1]; ring
      · rw [if_neg (by omega), if_neg h1, mul_zero]
  · by_cases h2 : r + 2 < 4096
    · rw [if_pos (by omega), if_pos h2]; ring
    · rw [if_neg (by omega), if_neg h2, mul_zero]

variable (h : Reads A x0 x1 x2 x3 x4 x5 x6 x7 x8 x9)

include h

theorem r_v85 (i : S4096x1024.Idx) :
    val_main_v85 (F := Ideal) x0 x1 x2 x3 x4 x5 x6 x7 x8 x9 i = (((diff A (i 0).val (i 1).val) * (diff A (i 0).val (i 1).val) : ℝ) : EReal) :=
  (val_main_v85_apply ..).trans (re_mul (r_v84 h i) (r_v84 h i))

omit h in
theorem r_cst_17 (i : S_.Idx) :
    val_main_cst_17 (F := Ideal) i = ((2 : ℝ) : EReal) :=
  (val_main_cst_17_apply i).trans lit_two

omit h in
theorem r_v86 (i : S4096x1024.Idx) :
    val_main_v86 (F := Ideal) i = ((2 : ℝ) : EReal) :=
  (val_main_v86_apply i).trans (r_cst_17 _)

theorem r_v87 (i : S4096x1024.Idx) :
    val_main_v87 (F := Ideal) x0 x1 x2 x3 x4 x5 x6 x7 x8 x9 i = ((2 * (diff A (i 0).val (i 1).val) : ℝ) : EReal) :=
  (val_main_v87_apply ..).trans (re_mul (r_v86 i) (r_v84 h i))

omit h in
theorem r_cst_18 (i : S_.Idx) :
    val_main_cst_18 (F := Ideal) i = ((0 : ℝ) : EReal) :=
  (val_main_cst_18_apply i).trans lit_zero

theorem r_v88 (i : S4096.Idx) :
    val_main_v88 (F := Ideal) x0 x1 x2 x3 x4 x5 x6 x7 x8 x9 i = ((sq A (i 0).val : ℝ) : EReal) :=
  (val_main_v88_apply ..).trans (re_sum (r_cst_18 _) (fun k => r_v85 h _))

omit h in
theorem r_cst_19 (i : S_.Idx) :
    val_main_cst_19 (F := Ideal) i = ((1024 : ℝ) : EReal) :=
  (val_main_cst_19_apply i).trans lit_width

omit h in
theorem r_v89 (i : S4096.Idx) :
    val_main_v89 (F := Ideal) i = ((1024 : ℝ) : EReal) :=
  (val_main_v89_apply i).trans (r_cst_19 _)

theorem r_v90 (i : S4096.Idx) :
    val_main_v90 (F := Ideal) x0 x1 x2 x3 x4 x5 x6 x7 x8 x9 i = (((sq A (i 0).val) / 1024 : ℝ) : EReal) :=
  (val_main_v90_apply ..).trans (re_div (r_v88 h i) (r_v89 i) (by norm_num))

omit h in
theorem r_cst_20 (i : S_.Idx) :
    val_main_cst_20 (F := Ideal) i = ((0 : ℝ) : EReal) :=
  (val_main_cst_20_apply i).trans lit_zero

theorem r_v91 (i : S_.Idx) :
    val_main_v91 (F := Ideal) x0 x1 x2 x3 x4 x5 x6 x7 x8 x9 i = ((∑ r : Fin 4096, sq A r.val / 1024 : ℝ) : EReal) := by
  rw [val_main_v91_apply, re_sum (r_cst_20 _) (fun j => r_v90 h j)]
  exact congrArg (fun x : ℝ => (x : EReal)) (sum_rows fun r => sq A r / 1024)

omit h in
theorem r_cst_21 (i : S_.Idx) :
    val_main_cst_21 (F := Ideal) i = (((1 / 2) : ℝ) : EReal) :=
  (val_main_cst_21_apply i).trans lit_half

theorem r_v92 (i : S_.Idx) :
    val_main_v92 (F := Ideal) x0 x1 x2 x3 x4 x5 x6 x7 x8 x9 i = ((loss A : ℝ) : EReal) :=
  (val_main_v92_apply ..).trans (re_mul (r_cst_21 i) (r_v91 h i))

omit h in
theorem r_cst_22 (i : S_.Idx) :
    val_main_cst_22 (F := Ideal) i = (((1 / 2) : ℝ) : EReal) :=
  (val_main_cst_22_apply i).trans lit_half

omit h in
theorem r_cst_23 (i : S_.Idx) :
    val_main_cst_23 (F := Ideal) i = ((1 : ℝ) : EReal) :=
  (val_main_cst_23_apply i).trans lit_one

omit h in
theorem r_v93 (i : S_.Idx) :
    val_main_v93 (F := Ideal) i = ((((1 / 2)) * 1 : ℝ) : EReal) :=
  (val_main_v93_apply i).trans (re_mul (r_cst_22 i) (r_cst_23 i))

omit h in
theorem r_v94 (i : S4096.Idx) :
    val_main_v94 (F := Ideal) i = ((((1 / 2)) * 1 : ℝ) : EReal) :=
  (val_main_v94_apply i).trans (r_v93 _)

omit h in
theorem r_cst_24 (i : S_.Idx) :
    val_main_cst_24 (F := Ideal) i = ((1024 : ℝ) : EReal) :=
  (val_main_cst_24_apply i).trans lit_width

omit h in
theorem r_v95 (i : S4096.Idx) :
    val_main_v95 (F := Ideal) i = ((1024 : ℝ) : EReal) :=
  (val_main_v95_apply i).trans (r_cst_24 _)

omit h in
theorem r_v96 (i : S4096.Idx) :
    val_main_v96 (F := Ideal) i = (((((1 / 2)) * 1) / 1024 : ℝ) : EReal) :=
  (val_main_v96_apply i).trans (re_div (r_v94 i) (r_v95 i) (by norm_num))

omit h in
theorem r_v97 (i : S4096x1024.Idx) :
    val_main_v97 (F := Ideal) i = (((((1 / 2)) * 1) / 1024 : ℝ) : EReal) :=
  (val_main_v97_apply i).trans (r_v96 _)

theorem r_v98 (i : S4096x1024.Idx) :
    val_main_v98 (F := Ideal) x0 x1 x2 x3 x4 x5 x6 x7 x8 x9 i = ((dy A (i 0).val (i 1).val : ℝ) : EReal) :=
  ((val_main_v98_apply x0 x1 x2 x3 x4 x5 x6 x7 x8 x9 i).trans (re_mul (r_v97 i) (r_v87 h i)) : _ = ((((((1 / 2)) * 1) / 1024) * (2 * (diff A (i 0).val (i 1).val)) : ℝ) : EReal)).trans (congrArg (fun x : ℝ => (x : EReal)) (by
    unfold dy; ring))

omit h in
theorem r_cst_25 (i : S_.Idx) :
    val_main_cst_25 (F := Ideal) i = ((0 : ℝ) : EReal) :=
  (val_main_cst_25_apply i).trans lit_zero

theorem r_v99 (i : S1024.Idx) :
    val_main_v99 (F := Ideal) x0 x1 x2 x3 x4 x5 x6 x7 x8 x9 i = ((db2 A (i 0).val : ℝ) : EReal) :=
  (val_main_v99_apply ..).trans (re_sum (r_cst_25 _) (fun k => r_v98 h _))

theorem r_v100 (i : S1x1024.Idx) :
    val_main_v100 (F := Ideal) x0 x1 x2 x3 x4 x5 x6 x7 x8 x9 i = ((db2 A (i 1).val : ℝ) : EReal) :=
  ((val_main_v100_apply x0 x1 x2 x3 x4 x5 x6 x7 x8 x9 i).trans (r_v99 h _) : _ = ((db2 A ((i 0).val * 1024 + (i 1).val) : ℝ) : EReal)).trans (congrArg (fun x : ℝ => (x : EReal)) (by
    have h0 : (i 0).val < 1 := (i 0).isLt
    rw [show (i 0).val = 0 by omega, Nat.zero_mul, Nat.zero_add]))

theorem r_v101 (i : S4096x1024.Idx) :
    val_main_v101 (F := Ideal) x0 x1 x2 x3 x4 x5 x6 x7 x8 x9 i = ((dy A (i 0).val (i 1).val * xh2 A (i 0).val (i 1).val : ℝ) : EReal) :=
  ((val_main_v101_apply x0 x1 x2 x3 x4 x5 x6 x7 x8 x9 i).trans (re_mul (r_v79 h i) (r_v98 h i)) : _ = (((xh2 A (i 0).val (i 1).val) * (dy A (i 0).val (i 1).val) : ℝ) : EReal)).trans (congrArg (fun x : ℝ => (x : EReal)) (by
    ring))

omit h in
theorem r_cst_26 (i : S_.Idx) :
    val_main_cst_26 (F := Ideal) i = ((0 : ℝ) : EReal) :=
  (val_main_cst_26_apply i).trans lit_zero

theorem r_v102 (i : S1024.Idx) :
    val_main_v102 (F := Ideal) x0 x1 x2 x3 x4 x5 x6 x7 x8 x9 i = ((dg2 A (i 0).val : ℝ) : EReal) :=
  (val_main_v102_apply ..).trans (re_sum (r_cst_26 _) (fun k => r_v101 h _))

theorem r_v103 (i : S1x1024.Idx) :
    val_main_v103 (F := Ideal) x0 x1 x2 x3 x4 x5 x6 x7 x8 x9 i = ((dg2 A (i 1).val : ℝ) : EReal) :=
  ((val_main_v103_apply x0 x1 x2 x3 x4 x5 x6 x7 x8 x9 i).trans (r_v102 h _) : _ = ((dg2 A ((i 0).val * 1024 + (i 1).val) : ℝ) : EReal)).trans (congrArg (fun x : ℝ => (x : EReal)) (by
    have h0 : (i 0).val < 1 := (i 0).isLt
    rw [show (i 0).val = 0 by omega, Nat.zero_mul, Nat.zero_add]))

theorem r_v104 (i : S4096x1024.Idx) :
    val_main_v104 (F := Ideal) x7 i = ((A.g2 0 (i 1).val : ℝ) : EReal) :=
  (val_main_v104_apply x7 i).trans (h.g2 _)

theorem r_v105 (i : S4096x1024.Idx) :
    val_main_v105 (F := Ideal) x0 x1 x2 x3 x4 x5 x6 x7 x8 x9 i = ((dyg A (i 0).val (i 1).val : ℝ) : EReal) :=
  (val_main_v105_apply ..).trans (re_mul (r_v98 h i) (r_v104 h i))

theorem r_v106 (i : S4096x1024.Idx) :
    val_main_v106 (F := Ideal) x0 x1 x2 x3 x4 x5 x6 x7 x8 x9 i = (((xc2 A (i 0).val (i 1).val) * (dyg A (i 0).val (i 1).val) : ℝ) : EReal) :=
  (val_main_v106_apply ..).trans (re_mul (r_v71 h i) (r_v105 h i))

omit h in
theorem r_cst_27 (i : S_.Idx) :
    val_main_cst_27 (F := Ideal) i = ((0 : ℝ) : EReal) :=
  (val_main_cst_27_apply i).trans lit_zero

theorem r_v107 (i : S4096.Idx) :
    val_main_v107 (F := Ideal) x0 x1 x2 x3 x4 x5 x6 x7 x8 x9 i = ((∑ k : Fin 1024, ((xc2 A (i 0).val k.val) * (dyg A (i 0).val k.val)) : ℝ) : EReal) :=
  (val_main_v107_apply ..).trans (re_sum (r_cst_27 _) (fun k => r_v106 h _))

theorem r_v108 (i : S4096x1.Idx) :
    val_main_v108 (F := Ideal) x0 x1 x2 x3 x4 x5 x6 x7 x8 x9 i = ((∑ k : Fin 1024, ((xc2 A (i 0).val k.val) * (dyg A (i 0).val k.val)) : ℝ) : EReal) :=
  ((val_main_v108_apply x0 x1 x2 x3 x4 x5 x6 x7 x8 x9 i).trans (r_v107 h _) : _ = ((∑ k : Fin 1024, ((xc2 A ((i 0).val * 1 + (i 1).val) k.val) * (dyg A ((i 0).val * 1 + (i 1).val) k.val)) : ℝ) : EReal)).trans (congrArg (fun x : ℝ => (x : EReal)) (by
    have h1 : (i 1).val < 1 := (i 1).isLt
    rw [show (i 0).val * 1 + (i 1).val = (i 0).val by omega]))

theorem r_v109 (i : S4096x1024.Idx) :
    val_main_v109 (F := Ideal) x0 x1 x2 x3 x4 x5 x6 i = ((rs2 A (i 0).val : ℝ) : EReal) :=
  (val_main_v109_apply ..).trans (r_v74 h _)

theorem r_v110 (i : S4096x1024.Idx) :
    val_main_v110 (F := Ideal) x0 x1 x2 x3 x4 x5 x6 x7 x8 x9 i = (((dyg A (i 0).val (i 1).val) * (rs2 A (i 0).val) : ℝ) : EReal) :=
  (val_main_v110_apply ..).trans (re_mul (r_v105 h i) (r_v109 h i))

theorem r_v111 (i : S4096x1.Idx) :
    val_main_v111 (F := Ideal) x0 x1 x2 x3 x4 x5 x6 x7 x8 x9 i = (((∑ k : Fin 1024, ((xc2 A (i 0).val k.val) * (dyg A (i 0).val k.val))) * (((-(1 / 2))) * ((rs2 A (i 0).val) / (vr2 A (i 0).val))) : ℝ) : EReal) :=
  (val_main_v111_apply ..).trans (re_mul (r_v108 h i) (r_v77 h i))

theorem r_v112 (i : S4096x1024.Idx) :
    val_main_v112 (F := Ideal) x0 x1 x2 x3 x4 x5 x6 x7 x8 x9 i = ((-((dyg A (i 0).val (i 1).val) * (rs2 A (i 0).val)) : ℝ) : EReal) :=
  (val_main_v112_apply ..).trans (re_neg (r_v110 h i))

omit h in
theorem r_cst_28 (i : S_.Idx) :
    val_main_cst_28 (F := Ideal) i = ((0 : ℝ) : EReal) :=
  (val_main_cst_28_apply i).trans lit_zero

theorem r_v113 (i : S4096.Idx) :
    val_main_v113 (F := Ideal) x0 x1 x2 x3 x4 x5 x6 x7 x8 x9 i = ((∑ k : Fin 1024, (-((dyg A (i 0).val k.val) * (rs2 A (i 0).val))) : ℝ) : EReal) :=
  (val_main_v113_apply ..).trans (re_sum (r_cst_28 _) (fun k => r_v112 h _))

theorem r_v114 (i : S4096x1.Idx) :
    val_main_v114 (F := Ideal) x0 x1 x2 x3 x4 x5 x6 x7 x8 x9 i = ((∑ k : Fin 1024, (-((dyg A (i 0).val k.val) * (rs2 A (i 0).val))) : ℝ) : EReal) :=
  ((val_main_v114_apply x0 x1 x2 x3 x4 x5 x6 x7 x8 x9 i).trans (r_v113 h _) : _ = ((∑ k : Fin 1024, (-((dyg A ((i 0).val * 1 + (i 1).val) k.val) * (rs2 A ((i 0).val * 1 + (i 1).val)))) : ℝ) : EReal)).trans (congrArg (fun x : ℝ => (x : EReal)) (by
    have h1 : (i 1).val < 1 := (i 1).isLt
    rw [show (i 0).val * 1 + (i 1).val = (i 0).val by omega]))

omit h in
theorem r_cst_29 (i : S_.Idx) :
    val_main_cst_29 (F := Ideal) i = ((1024 : ℝ) : EReal) :=
  (val_main_cst_29_apply i).trans lit_width

omit h in
theorem r_v115 (i : S4096x1.Idx) :
    val_main_v115 (F := Ideal) i = ((1024 : ℝ) : EReal) :=
  (val_main_v115_apply i).trans (r_cst_29 _)

theorem r_v116 (i : S4096x1.Idx) :
    val_main_v116 (F := Ideal) x0 x1 x2 x3 x4 x5 x6 x7 x8 x9 i = ((((∑ k : Fin 1024, ((xc2 A (i 0).val k.val) * (dyg A (i 0).val k.val))) * (((-(1 / 2))) * ((rs2 A (i 0).val) / (vr2 A (i 0).val)))) / 1024 : ℝ) : EReal) :=
  (val_main_v116_apply ..).trans (re_div (r_v111 h i) (r_v115 i) (by norm_num))

omit h in
theorem r_cst_30 (i : S_.Idx) :
    val_main_cst_30 (F := Ideal) i = ((0 : ℝ) : EReal) :=
  (val_main_cst_30_apply i).trans lit_zero

theorem r_v117 (i : S4096.Idx) :
    val_main_v117 (F := Ideal) x0 x1 x2 x3 x4 x5 x6 x7 x8 x9 i = ((∑ k : Fin 1, (((∑ k : Fin 1024, ((xc2 A (i 0).val k.val) * (dyg A (i 0).val k.val))) * (((-(1 / 2))) * ((rs2 A (i 0).val) / (vr2 A (i 0).val)))) / 1024) : ℝ) : EReal) :=
  (val_main_v117_apply ..).trans (re_sum (r_cst_30 _) (fun k => r_v116 h _))

theorem r_v118 (i : S4096x1024.Idx) :
    val_main_v118 (F := Ideal) x0 x1 x2 x3 x4 x5 x6 x7 x8 x9 i = ((∑ k : Fin 1, (((∑ k : Fin 1024, ((xc2 A (i 0).val k.val) * (dyg A (i 0).val k.val))) * (((-(1 / 2))) * ((rs2 A (i 0).val) / (vr2 A (i 0).val)))) / 1024) : ℝ) : EReal) :=
  (val_main_v118_apply ..).trans (r_v117 h _)

theorem r_v119 (i : S4096x1024.Idx) :
    val_main_v119 (F := Ideal) x0 x1 x2 x3 x4 x5 x6 x7 x8 x9 i = (((∑ k : Fin 1, (((∑ k : Fin 1024, ((xc2 A (i 0).val k.val) * (dyg A (i 0).val k.val))) * (((-(1 / 2))) * ((rs2 A (i 0).val) / (vr2 A (i 0).val)))) / 1024)) * (2 * (xc2 A (i 0).val (i 1).val)) : ℝ) : EReal) :=
  (val_main_v119_apply ..).trans (re_mul (r_v118 h i) (r_v65 h i))

theorem r_v120 (i : S4096x1024.Idx) :
    val_main_v120 (F := Ideal) x0 x1 x2 x3 x4 x5 x6 x7 x8 x9 i = ((-((∑ k : Fin 1, (((∑ k : Fin 1024, ((xc2 A (i 0).val k.val) * (dyg A (i 0).val k.val))) * (((-(1 / 2))) * ((rs2 A (i 0).val) / (vr2 A (i 0).val)))) / 1024)) * (2 * (xc2 A (i 0).val (i 1).val))) : ℝ) : EReal) :=
  (val_main_v120_apply ..).trans (re_neg (r_v119 h i))

omit h in
theorem r_cst_31 (i : S_.Idx) :
    val_main_cst_31 (F := Ideal) i = ((0 : ℝ) : EReal) :=
  (val_main_cst_31_apply i).trans lit_zero

theorem r_v121 (i : S4096.Idx) :
    val_main_v121 (F := Ideal) x0 x1 x2 x3 x4 x5 x6 x7 x8 x9 i = ((∑ k : Fin 1024, (-((∑ k : Fin 1, (((∑ k : Fin 1024, ((xc2 A (i 0).val k.val) * (dyg A (i 0).val k.val))) * (((-(1 / 2))) * ((rs2 A (i 0).val) / (vr2 A (i 0).val)))) / 1024)) * (2 * (xc2 A (i 0).val k.val)))) : ℝ) : EReal) :=
  (val_main_v121_apply ..).trans (re_sum (r_cst_31 _) (fun k => r_v120 h _))

theorem r_v122 (i : S4096x1.Idx) :
    val_main_v122 (F := Ideal) x0 x1 x2 x3 x4 x5 x6 x7 x8 x9 i = ((∑ k : Fin 1024, (-((∑ k : Fin 1, (((∑ k : Fin 1024, ((xc2 A (i 0).val k.val) * (dyg A (i 0).val k.val))) * (((-(1 / 2))) * ((rs2 A (i 0).val) / (vr2 A (i 0).val)))) / 1024)) * (2 * (xc2 A (i 0).val k.val)))) : ℝ) : EReal) :=
  ((val_main_v122_apply x0 x1 x2 x3 x4 x5 x6 x7 x8 x9 i).trans (r_v121 h _) : _ = ((∑ k : Fin 1024, (-((∑ k : Fin 1, (((∑ k : Fin 1024, ((xc2 A ((i 0).val * 1 + (i 1).val) k.val) * (dyg A ((i 0).val * 1 + (i 1).val) k.val))) * (((-(1 / 2))) * ((rs2 A ((i 0).val * 1 + (i 1).val)) / (vr2 A ((i 0).val * 1 + (i 1).val))))) / 1024)) * (2 * (xc2 A ((i 0).val * 1 + (i 1).val) k.val)))) : ℝ) : EReal)).trans (congrArg (fun x : ℝ => (x : EReal)) (by
    have h1 : (i 1).val < 1 := (i 1).isLt
    rw [show (i 0).val * 1 + (i 1).val = (i 0).val by omega]))

theorem r_v123 (i : S4096x1024.Idx) :
    val_main_v123 (F := Ideal) x0 x1 x2 x3 x4 x5 x6 x7 x8 x9 i = ((((dyg A (i 0).val (i 1).val) * (rs2 A (i 0).val)) + ((∑ k : Fin 1, (((∑ k : Fin 1024, ((xc2 A (i 0).val k.val) * (dyg A (i 0).val k.val))) * (((-(1 / 2))) * ((rs2 A (i 0).val) / (vr2 A (i 0).val)))) / 1024)) * (2 * (xc2 A (i 0).val (i 1).val))) : ℝ) : EReal) :=
  (val_main_v123_apply ..).trans (re_add (r_v110 h i) (r_v119 h i))

theorem r_v124 (i : S4096x1.Idx) :
    val_main_v124 (F := Ideal) x0 x1 x2 x3 x4 x5 x6 x7 x8 x9 i = (((∑ k : Fin 1024, (-((dyg A (i 0).val k.val) * (rs2 A (i 0).val)))) + (∑ k : Fin 1024, (-((∑ k : Fin 1, (((∑ k : Fin 1024, ((xc2 A (i 0).val k.val) * (dyg A (i 0).val k.val))) * (((-(1 / 2))) * ((rs2 A (i 0).val) / (vr2 A (i 0).val)))) / 1024)) * (2 * (xc2 A (i 0).val k.val))))) : ℝ) : EReal) :=
  (val_main_v124_apply ..).trans (re_add (r_v114 h i) (r_v122 h i))

omit h in
theorem r_cst_32 (i : S_.Idx) :
    val_main_cst_32 (F := Ideal) i = ((1024 : ℝ) : EReal) :=
  (val_main_cst_32_apply i).trans lit_width

omit h in
theorem r_v125 (i : S4096x1.Idx) :
    val_main_v125 (F := Ideal) i = ((1024 : ℝ) : EReal) :=
  (val_main_v125_apply i).trans (r_cst_32 _)

theorem r_v126 (i : S4096x1.Idx) :
    val_main_v126 (F := Ideal) x0 x1 x2 x3 x4 x5 x6 x7 x8 x9 i = ((((∑ k : Fin 1024, (-((dyg A (i 0).val k.val) * (rs2 A (i 0).val)))) + (∑ k : Fin 1024, (-((∑ k : Fin 1, (((∑ k : Fin 1024, ((xc2 A (i 0).val k.val) * (dyg A (i 0).val k.val))) * (((-(1 / 2))) * ((rs2 A (i 0).val) / (vr2 A (i 0).val)))) / 1024)) * (2 * (xc2 A (i 0).val k.val)))))) / 1024 : ℝ) : EReal) :=
  (val_main_v126_apply ..).trans (re_div (r_v124 h i) (r_v125 i) (by norm_num))

omit h in
theorem r_cst_33 (i : S_.Idx) :
    val_main_cst_33 (F := Ideal) i = ((0 : ℝ) : EReal) :=
  (val_main_cst_33_apply i).trans lit_zero

theorem r_v127 (i : S4096.Idx) :
    val_main_v127 (F := Ideal) x0 x1 x2 x3 x4 x5 x6 x7 x8 x9 i = ((∑ k : Fin 1, (((∑ k : Fin 1024, (-((dyg A (i 0).val k.val) * (rs2 A (i 0).val)))) + (∑ k : Fin 1024, (-((∑ k : Fin 1, (((∑ k : Fin 1024, ((xc2 A (i 0).val k.val) * (dyg A (i 0).val k.val))) * (((-(1 / 2))) * ((rs2 A (i 0).val) / (vr2 A (i 0).val)))) / 1024)) * (2 * (xc2 A (i 0).val k.val)))))) / 1024) : ℝ) : EReal) :=
  (val_main_v127_apply ..).trans (re_sum (r_cst_33 _) (fun k => r_v126 h _))

theorem r_v128 (i : S4096x1024.Idx) :
    val_main_v128 (F := Ideal) x0 x1 x2 x3 x4 x5 x6 x7 x8 x9 i = ((∑ k : Fin 1, (((∑ k : Fin 1024, (-((dyg A (i 0).val k.val) * (rs2 A (i 0).val)))) + (∑ k : Fin 1024, (-((∑ k : Fin 1, (((∑ k : Fin 1024, ((xc2 A (i 0).val k.val) * (dyg A (i 0).val k.val))) * (((-(1 / 2))) * ((rs2 A (i 0).val) / (vr2 A (i 0).val)))) / 1024)) * (2 * (xc2 A (i 0).val k.val)))))) / 1024) : ℝ) : EReal) :=
  (val_main_v128_apply ..).trans (r_v127 h _)

theorem r_v129 (i : S4096x1024.Idx) :
    val_main_v129 (F := Ideal) x0 x1 x2 x3 x4 x5 x6 x7 x8 x9 i = ((dz2 A (i 0).val (i 1).val : ℝ) : EReal) :=
  ((val_main_v129_apply x0 x1 x2 x3 x4 x5 x6 x7 x8 x9 i).trans (re_add (r_v123 h i) (r_v128 h i)) : _ = (((((dyg A (i 0).val (i 1).val) * (rs2 A (i 0).val)) + ((∑ k : Fin 1, (((∑ k : Fin 1024, ((xc2 A (i 0).val k.val) * (dyg A (i 0).val k.val))) * (((-(1 / 2))) * ((rs2 A (i 0).val) / (vr2 A (i 0).val)))) / 1024)) * (2 * (xc2 A (i 0).val (i 1).val)))) + (∑ k : Fin 1, (((∑ k : Fin 1024, (-((dyg A (i 0).val k.val) * (rs2 A (i 0).val)))) + (∑ k : Fin 1024, (-((∑ k : Fin 1, (((∑ k : Fin 1024, ((xc2 A (i 0).val k.val) * (dyg A (i 0).val k.val))) * (((-(1 / 2))) * ((rs2 A (i 0).val) / (vr2 A (i 0).val)))) / 1024)) * (2 * (xc2 A (i 0).val k.val)))))) / 1024)) : ℝ) : EReal)).trans (congrArg (fun x : ℝ => (x : EReal)) (by
    exact norm_gradient (xc2 A (i 0).val) (dyg A (i 0).val) (vr2 A (i 0).val) (vr2_pos A _) (sum_centred _) _))

theorem r_v130 (i : S4096x2816.Idx) :
    val_main_v130 (F := Ideal) x0 x1 x2 x3 x4 x5 x6 x7 x8 x9 i = ((df A (i 0).val (i 1).val : ℝ) : EReal) :=
  (val_main_v130_apply ..).trans (re_dot (fun k => r_v129 h _) (fun k => h.wd _))

omit h in
theorem r_cst_34 (i : S_.Idx) :
    val_main_cst_34 (F := Ideal) i = ((alpha : ℝ) : EReal) :=
  (val_main_cst_34_apply i).trans lit_alpha

omit h in
theorem r_v131 (i : S4096x1024.Idx) :
    val_main_v131 (F := Ideal) i = ((alpha : ℝ) : EReal) :=
  (val_main_v131_apply i).trans (r_cst_34 _)

theorem r_v132 (i : S4096x1024.Idx) :
    val_main_v132 (F := Ideal) x0 x1 x2 x3 x4 x5 x6 x7 x8 x9 i = ((alpha * (dz2 A (i 0).val (i 1).val) : ℝ) : EReal) :=
  (val_main_v132_apply ..).trans (re_mul (r_v131 i) (r_v129 h i))

theorem r_v133 (i : S4096x2816.Idx) :
    val_main_v133 (F := Ideal) x0 x1 x2 x3 x4 x5 x6 x7 x8 x9 i = ((dval A (i 0).val (i 1).val : ℝ) : EReal) :=
  ((val_main_v133_apply x0 x1 x2 x3 x4 x5 x6 x7 x8 x9 i).trans (re_mul (r_v51_0 h i) (r_v130 h i)) : _ = (((act A (i 0).val (i 1).val) * (df A (i 0).val (i 1).val) : ℝ) : EReal)).trans (congrArg (fun x : ℝ => (x : EReal)) (by
    unfold dval; ring))

theorem r_v134 (i : S4096x2816.Idx) :
    val_main_v134 (F := Ideal) x0 x1 x2 x3 x4 x5 x6 x7 x8 x9 i = (((df A (i 0).val (i 1).val) * (u A (i 0).val (i 1).val) : ℝ) : EReal) :=
  (val_main_v134_apply ..).trans (re_mul (r_v130 h i) (r_v28 h i))

theorem r_call1_v0 (i : S4096x2816.Idx) :
    val_main_call1_v0 (F := Ideal) x0 x1 x2 x3 x4 x5 x6 x7 x8 x9 i = (((hh A (i 0).val (i 1).val) * ((df A (i 0).val (i 1).val) * (u A (i 0).val (i 1).val)) : ℝ) : EReal) :=
  (val_main_call1_v0_apply ..).trans (re_mul (r_v50 h i) (r_v134 h i))

theorem r_call1_v1 (i : S4096x2816.Idx) :
    val_main_call1_v1 (F := Ideal) x0 x1 x2 x3 x4 x5 x6 x7 x8 x9 i = ((((df A (i 0).val (i 1).val) * (u A (i 0).val (i 1).val)) * (sg A (i 0).val (i 1).val) : ℝ) : EReal) :=
  (val_main_call1_v1_apply ..).trans (re_mul (r_v134 h i) (r_v51_2 h i))

theorem r_call1_v2 (i : S4096x2816.Idx) :
    val_main_call1_v2 (F := Ideal) x0 x1 x2 x3 x4 x5 x6 x7 x8 x9 i = ((((hh A (i 0).val (i 1).val) * ((df A (i 0).val (i 1).val) * (u A (i 0).val (i 1).val))) * ((sg A (i 0).val (i 1).val) * (1 - (sg A (i 0).val (i 1).val))) : ℝ) : EReal) :=
  (val_main_call1_v2_apply ..).trans (re_mul (r_call1_v0 h i) (r_v51_1 h i))

theorem r_v135 (i : S4096x2816.Idx) :
    val_main_v135 (F := Ideal) x0 x1 x2 x3 x4 x5 x6 x7 x8 x9 i = ((dh A (i 0).val (i 1).val : ℝ) : EReal) :=
  ((val_main_v135_apply x0 x1 x2 x3 x4 x5 x6 x7 x8 x9 i).trans (re_add (r_call1_v1 h i) (r_call1_v2 h i)) : _ = (((((df A (i 0).val (i 1).val) * (u A (i 0).val (i 1).val)) * (sg A (i 0).val (i 1).val)) + (((hh A (i 0).val (i 1).val) * ((df A (i 0).val (i 1).val) * (u A (i 0).val (i 1).val))) * ((sg A (i 0).val (i 1).val) * (1 - (sg A (i 0).val (i 1).val)))) : ℝ) : EReal)).trans (congrArg (fun x : ℝ => (x : EReal)) (by
    unfold dh act; ring))

omit h in
theorem r_cst_35 (i : S_.Idx) :
    val_main_cst_35 (F := Ideal) i = ((0 : ℝ) : EReal) :=
  (val_main_cst_35_apply i).trans lit_zero

theorem r_v136 (i : S2816.Idx) :
    val_main_v136 (F := Ideal) x0 x1 x2 x3 x4 x5 x6 x7 x8 x9 i = ((dcb A (i 0).val : ℝ) : EReal) :=
  (val_main_v136_apply ..).trans (re_sum (r_cst_35 _) (fun k => r_v135 h _))

theorem r_v137 (i : S1x2816.Idx) :
    val_main_v137 (F := Ideal) x0 x1 x2 x3 x4 x5 x6 x7 x8 x9 i = ((dcb A (i 1).val : ℝ) : EReal) :=
  ((val_main_v137_apply x0 x1 x2 x3 x4 x5 x6 x7 x8 x9 i).trans (r_v136 h _) : _ = ((dcb A ((i 0).val * 2816 + (i 1).val) : ℝ) : EReal)).trans (congrArg (fun x : ℝ => (x : EReal)) (by
    have h0 : (i 0).val < 1 := (i 0).isLt
    rw [show (i 0).val = 0 by omega, Nat.zero_mul, Nat.zero_add]))

theorem r_v138 (i : S4096x2816.Idx) :
    val_main_v138 (F := Ideal) x0 x1 x2 x3 x4 x5 x6 x7 x8 x9 i = (((gp A ((i 0).val + 2) (i 1).val) * (dh A (i 0).val (i 1).val) : ℝ) : EReal) :=
  (val_main_v138_apply ..).trans (re_mul (r_v44 h i) (r_v135 h i))

omit h in
theorem r_cst_36 (i : S_.Idx) :
    val_main_cst_36 (F := Ideal) i = ((0 : ℝ) : EReal) :=
  (val_main_cst_36_apply i).trans lit_zero

theorem r_v139 (i : S2816.Idx) :
    val_main_v139 (F := Ideal) x0 x1 x2 x3 x4 x5 x6 x7 x8 x9 i = ((dcw A 2 (i 0).val : ℝ) : EReal) :=
  (val_main_v139_apply ..).trans (re_sum (r_cst_36 _) (fun k => r_v138 h _))

theorem r_v140 (i : S1x2816.Idx) :
    val_main_v140 (F := Ideal) x0 x1 x2 x3 x4 x5 x6 x7 x8 x9 i = ((dcw A 2 (i 1).val : ℝ) : EReal) :=
  ((val_main_v140_apply x0 x1 x2 x3 x4 x5 x6 x7 x8 x9 i).trans (r_v139 h _) : _ = ((dcw A 2 ((i 0).val * 2816 + (i 1).val) : ℝ) : EReal)).trans (congrArg (fun x : ℝ => (x : EReal)) (by
    have h0 : (i 0).val < 1 := (i 0).isLt
    rw [show (i 0).val = 0 by omega, Nat.zero_mul, Nat.zero_add]))

theorem r_v141 (i : S4096x2816.Idx) :
    val_main_v141 (F := Ideal) x4 i = ((A.cw (2 + 0) (i 1).val : ℝ) : EReal) :=
  (val_main_v141_apply x4 i).trans (r_v45 h _)

theorem r_v142 (i : S4096x2816.Idx) :
    val_main_v142 (F := Ideal) x0 x1 x2 x3 x4 x5 x6 x7 x8 x9 i = (((dh A (i 0).val (i 1).val) * (A.cw (2 + 0) (i 1).val) : ℝ) : EReal) :=
  (val_main_v142_apply ..).trans (re_mul (r_v135 h i) (r_v141 h i))

omit h in
theorem r_cst_37 (i : S_.Idx) :
    val_main_cst_37 (F := Ideal) i = ((0 : ℝ) : EReal) :=
  (val_main_cst_37_apply i).trans lit_zero

theorem r_v143 (i : S3x2816.Idx) :
    val_main_v143 (F := Ideal) x0 x1 x2 x3 x4 x5 x6 x7 x8 x9 i = ((if 2 ≤ (i 0).val ∧ (i 0).val < 3 then dcw A 2 (i 1).val else 0 : ℝ) : EReal) := by
  have h0 : (i 0).val < 3 := (i 0).isLt
  unfold val_main_v143
  by_cases hr : 2 ≤ (i 0).val ∧ (i 0).val < 3
  · rw [if_pos hr, pad_apply_of_inside (s := S1x2816) _ _ _ _ _ _ _ i (ix2 (n0 := 1) (n1 := 2816) ⟨(i 0).val - 2, by omega⟩ (i 1))
      (fun b => match b with | ⟨0, _⟩ => by show (i 0).val = 2 + ((i 0).val - 2) * (0 + 1); omega | ⟨1, _⟩ => by show (i 1).val = 0 + (i 1).val * (0 + 1); omega)]
    exact r_v140 h _
  · rw [if_neg hr, pad_apply_of_not_inside (s := S1x2816) _ _ _ _ _ _ _ i ⟨0, by decide⟩ (fun hc => hr (by
      have e1 : 2 ≤ (i 0).val := hc.1
      have e2 : ((i 0).val - 2) / (0 + 1) < 1 := hc.2.2
      omega))]
    exact r_cst_37 _

omit h in
theorem r_cst_38 (i : S_.Idx) :
    val_main_cst_38 (F := Ideal) i = ((0 : ℝ) : EReal) :=
  (val_main_cst_38_apply i).trans lit_zero

theorem r_v144 (i : S4098x2816.Idx) :
    val_main_v144 (F := Ideal) x0 x1 x2 x3 x4 x5 x6 x7 x8 x9 i = ((if 2 ≤ (i 0).val ∧ (i 0).val < 4098 then (dh A ((i 0).val - 2) (i 1).val) * (A.cw (2 + 0) (i 1).val) else 0 : ℝ) : EReal) := by
  have h0 : (i 0).val < 4098 := (i 0).isLt
  unfold val_main_v144
  by_cases hr : 2 ≤ (i 0).val ∧ (i 0).val < 4098
  · rw [if_pos hr, pad_apply_of_inside (s := S4096x2816) _ _ _ _ _ _ _ i (ix2 (n0 := 4096) (n1 := 2816) ⟨(i 0).val - 2, by omega⟩ (i 1))
      (fun b => match b with | ⟨0, _⟩ => by show (i 0).val = 2 + ((i 0).val - 2) * (0 + 1); omega | ⟨1, _⟩ => by show (i 1).val = 0 + (i 1).val * (0 + 1); omega)]
    exact r_v142 h _
  · rw [if_neg hr, pad_apply_of_not_inside (s := S4096x2816) _ _ _ _ _ _ _ i ⟨0, by decide⟩ (fun hc => hr (by
      have e1 : 2 ≤ (i 0).val := hc.1
      have e2 : ((i 0).val - 2) / (0 + 1) < 4096 := hc.2.2
      omega))]
    exact r_cst_38 _

theorem r_v145 (i : S4096x2816.Idx) :
    val_main_v145 (F := Ideal) x0 x1 x2 x3 x4 x5 x6 x7 x8 x9 i = (((gp A ((i 0).val + 1) (i 1).val) * (dh A (i 0).val (i 1).val) : ℝ) : EReal) :=
  (val_main_v145_apply ..).trans (re_mul (r_v39 h i) (r_v135 h i))

omit h in
theorem r_cst_39 (i : S_.Idx) :
    val_main_cst_39 (F := Ideal) i = ((0 : ℝ) : EReal) :=
  (val_main_cst_39_apply i).trans lit_zero

theorem r_v146 (i : S2816.Idx) :
    val_main_v146 (F := Ideal) x0 x1 x2 x3 x4 x5 x6 x7 x8 x9 i = ((dcw A 1 (i 0).val : ℝ) : EReal) :=
  (val_main_v146_apply ..).trans (re_sum (r_cst_39 _) (fun k => r_v145 h _))

theorem r_v147 (i : S1x2816.Idx) :
    val_main_v147 (F := Ideal) x0 x1 x2 x3 x4 x5 x6 x7 x8 x9 i = ((dcw A 1 (i 1).val : ℝ) : EReal) :=
  ((val_main_v147_apply x0 x1 x2 x3 x4 x5 x6 x7 x8 x9 i).trans (r_v146 h _) : _ = ((dcw A 1 ((i 0).val * 2816 + (i 1).val) : ℝ) : EReal)).trans (congrArg (fun x : ℝ => (x : EReal)) (by
    have h0 : (i 0).val < 1 := (i 0).isLt
    rw [show (i 0).val = 0 by omega, Nat.zero_mul, Nat.zero_add]))

theorem r_v148 (i : S4096x2816.Idx) :
    val_main_v148 (F := Ideal) x4 i = ((A.cw (1 + 0) (i 1).val : ℝ) : EReal) :=
  (val_main_v148_apply x4 i).trans (r_v40 h _)

theorem r_v149 (i : S4096x2816.Idx) :
    val_main_v149 (F := Ideal) x0 x1 x2 x3 x4 x5 x6 x7 x8 x9 i = (((dh A (i 0).val (i 1).val) * (A.cw (1 + 0) (i 1).val) : ℝ) : EReal) :=
  (val_main_v149_apply ..).trans (re_mul (r_v135 h i) (r_v148 h i))

omit h in
theorem r_cst_40 (i : S_.Idx) :
    val_main_cst_40 (F := Ideal) i = ((0 : ℝ) : EReal) :=
  (val_main_cst_40_apply i).trans lit_zero

theorem r_v150 (i : S3x2816.Idx) :
    val_main_v150 (F := Ideal) x0 x1 x2 x3 x4 x5 x6 x7 x8 x9 i = ((if 1 ≤ (i 0).val ∧ (i 0).val < 2 then dcw A 1 (i 1).val else 0 : ℝ) : EReal) := by
  have h0 : (i 0).val < 3 := (i 0).isLt
  unfold val_main_v150
  by_cases hr : 1 ≤ (i 0).val ∧ (i 0).val < 2
  · rw [if_pos hr, pad_apply_of_inside (s := S1x2816) _ _ _ _ _ _ _ i (ix2 (n0 := 1) (n1 := 2816) ⟨(i 0).val - 1, by omega⟩ (i 1))
      (fun b => match b with | ⟨0, _⟩ => by show (i 0).val = 1 + ((i 0).val - 1) * (0 + 1); omega | ⟨1, _⟩ => by show (i 1).val = 0 + (i 1).val * (0 + 1); omega)]
    exact r_v147 h _
  · rw [if_neg hr, pad_apply_of_not_inside (s := S1x2816) _ _ _ _ _ _ _ i ⟨0, by decide⟩ (fun hc => hr (by
      have e1 : 1 ≤ (i 0).val := hc.1
      have e2 : ((i 0).val - 1) / (0 + 1) < 1 := hc.2.2
      omega))]
    exact r_cst_40 _

theorem r_v151 (i : S3x2816.Idx) :
    val_main_v151 (F := Ideal) x0 x1 x2 x3 x4 x5 x6 x7 x8 x9 i = (((if 2 ≤ (i 0).val ∧ (i 0).val < 3 then dcw A 2 (i 1).val else 0) + (if 1 ≤ (i 0).val ∧ (i 0).val < 2 then dcw A 1 (i 1).val else 0) : ℝ) : EReal) :=
  (val_main_v151_apply ..).trans (re_add (r_v143 h i) (r_v150 h i))

omit h in
theorem r_cst_41 (i : S_.Idx) :
    val_main_cst_41 (F := Ideal) i = ((0 : ℝ) : EReal) :=
  (val_main_cst_41_apply i).trans lit_zero

theorem r_v152 (i : S4098x2816.Idx) :
    val_main_v152 (F := Ideal) x0 x1 x2 x3 x4 x5 x6 x7 x8 x9 i = ((if 1 ≤ (i 0).val ∧ (i 0).val < 4097 then (dh A ((i 0).val - 1) (i 1).val) * (A.cw (1 + 0) (i 1).val) else 0 : ℝ) : EReal) := by
  have h0 : (i 0).val < 4098 := (i 0).isLt
  unfold val_main_v152
  by_cases hr : 1 ≤ (i 0).val ∧ (i 0).val < 4097
  · rw [if_pos hr, pad_apply_of_inside (s := S4096x2816) _ _ _ _ _ _ _ i (ix2 (n0 := 4096) (n1 := 2816) ⟨(i 0).val - 1, by omega⟩ (i 1))
      (fun b => match b with | ⟨0, _⟩ => by show (i 0).val = 1 + ((i 0).val - 1) * (0 + 1); omega | ⟨1, _⟩ => by show (i 1).val = 0 + (i 1).val * (0 + 1); omega)]
    exact r_v149 h _
  · rw [if_neg hr, pad_apply_of_not_inside (s := S4096x2816) _ _ _ _ _ _ _ i ⟨0, by decide⟩ (fun hc => hr (by
      have e1 : 1 ≤ (i 0).val := hc.1
      have e2 : ((i 0).val - 1) / (0 + 1) < 4096 := hc.2.2
      omega))]
    exact r_cst_41 _

theorem r_v153 (i : S4098x2816.Idx) :
    val_main_v153 (F := Ideal) x0 x1 x2 x3 x4 x5 x6 x7 x8 x9 i = (((if 2 ≤ (i 0).val ∧ (i 0).val < 4098 then (dh A ((i 0).val - 2) (i 1).val) * (A.cw (2 + 0) (i 1).val) else 0) + (if 1 ≤ (i 0).val ∧ (i 0).val < 4097 then (dh A ((i 0).val - 1) (i 1).val) * (A.cw (1 + 0) (i 1).val) else 0) : ℝ) : EReal) :=
  (val_main_v153_apply ..).trans (re_add (r_v144 h i) (r_v152 h i))

theorem r_v154 (i : S4096x2816.Idx) :
    val_main_v154 (F := Ideal) x0 x1 x2 x3 x4 x5 x6 x7 x8 x9 i = (((gp A (i 0).val (i 1).val) * (dh A (i 0).val (i 1).val) : ℝ) : EReal) :=
  (val_main_v154_apply ..).trans (re_mul (r_v33 h i) (r_v135 h i))

omit h in
theorem r_cst_42 (i : S_.Idx) :
    val_main_cst_42 (F := Ideal) i = ((0 : ℝ) : EReal) :=
  (val_main_cst_42_apply i).trans lit_zero

theorem r_v155 (i : S2816.Idx) :
    val_main_v155 (F := Ideal) x0 x1 x2 x3 x4 x5 x6 x7 x8 x9 i = ((dcw A 0 (i 0).val : ℝ) : EReal) :=
  (val_main_v155_apply ..).trans (re_sum (r_cst_42 _) (fun k => r_v154 h _))

theorem r_v156 (i : S1x2816.Idx) :
    val_main_v156 (F := Ideal) x0 x1 x2 x3 x4 x5 x6 x7 x8 x9 i = ((dcw A 0 (i 1).val : ℝ) : EReal) :=
  ((val_main_v156_apply x0 x1 x2 x3 x4 x5 x6 x7 x8 x9 i).trans (r_v155 h _) : _ = ((dcw A 0 ((i 0).val * 2816 + (i 1).val) : ℝ) : EReal)).trans (congrArg (fun x : ℝ => (x : EReal)) (by
    have h0 : (i 0).val < 1 := (i 0).isLt
    rw [show (i 0).val = 0 by omega, Nat.zero_mul, Nat.zero_add]))

theorem r_v157 (i : S4096x2816.Idx) :
    val_main_v157 (F := Ideal) x4 i = ((A.cw 0 (i 1).val : ℝ) : EReal) :=
  (val_main_v157_apply x4 i).trans (r_v34 h _)

theorem r_v158 (i : S4096x2816.Idx) :
    val_main_v158 (F := Ideal) x0 x1 x2 x3 x4 x5 x6 x7 x8 x9 i = (((dh A (i 0).val (i 1).val) * (A.cw 0 (i 1).val) : ℝ) : EReal) :=
  (val_main_v158_apply ..).trans (re_mul (r_v135 h i) (r_v157 h i))

omit h in
theorem r_cst_43 (i : S_.Idx) :
    val_main_cst_43 (F := Ideal) i = ((0 : ℝ) : EReal) :=
  (val_main_cst_43_apply i).trans lit_zero

theorem r_v159 (i : S3x2816.Idx) :
    val_main_v159 (F := Ideal) x0 x1 x2 x3 x4 x5 x6 x7 x8 x9 i = ((if 0 ≤ (i 0).val ∧ (i 0).val < 1 then dcw A 0 (i 1).val else 0 : ℝ) : EReal) := by
  have h0 : (i 0).val < 3 := (i 0).isLt
  unfold val_main_v159
  by_cases hr : 0 ≤ (i 0).val ∧ (i 0).val < 1
  · rw [if_pos hr, pad_apply_of_inside (s := S1x2816) _ _ _ _ _ _ _ i (ix2 (n0 := 1) (n1 := 2816) ⟨(i 0).val, by omega⟩ (i 1))
      (fun b => match b with | ⟨0, _⟩ => by show (i 0).val = 0 + ((i 0).val) * (0 + 1); omega | ⟨1, _⟩ => by show (i 1).val = 0 + (i 1).val * (0 + 1); omega)]
    exact r_v156 h _
  · rw [if_neg hr, pad_apply_of_not_inside (s := S1x2816) _ _ _ _ _ _ _ i ⟨0, by decide⟩ (fun hc => hr (by
      have e1 : 0 ≤ (i 0).val := hc.1
      have e2 : ((i 0).val - 0) / (0 + 1) < 1 := hc.2.2
      omega))]
    exact r_cst_43 _

theorem r_v160 (i : S3x2816.Idx) :
    val_main_v160 (F := Ideal) x0 x1 x2 x3 x4 x5 x6 x7 x8 x9 i = ((dcw A (i 0).val (i 1).val : ℝ) : EReal) :=
  ((val_main_v160_apply x0 x1 x2 x3 x4 x5 x6 x7 x8 x9 i).trans (re_add (r_v151 h i) (r_v159 h i)) : _ = ((((if 2 ≤ (i 0).val ∧ (i 0).val < 3 then dcw A 2 (i 1).val else 0) + (if 1 ≤ (i 0).val ∧ (i 0).val < 2 then dcw A 1 (i 1).val else 0)) + (if 0 ≤ (i 0).val ∧ (i 0).val < 1 then dcw A 0 (i 1).val else 0) : ℝ) : EReal)).trans (congrArg (fun x : ℝ => (x : EReal)) (by
    have h3 : (i 0).val < 3 := (i 0).isLt
    interval_cases (i 0).val <;> simp))

omit h in
theorem r_cst_44 (i : S_.Idx) :
    val_main_cst_44 (F := Ideal) i = ((0 : ℝ) : EReal) :=
  (val_main_cst_44_apply i).trans lit_zero

theorem r_v161 (i : S4098x2816.Idx) :
    val_main_v161 (F := Ideal) x0 x1 x2 x3 x4 x5 x6 x7 x8 x9 i = ((if 0 ≤ (i 0).val ∧ (i 0).val < 4096 then (dh A (i 0).val (i 1).val) * (A.cw 0 (i 1).val) else 0 : ℝ) : EReal) := by
  have h0 : (i 0).val < 4098 := (i 0).isLt
  unfold val_main_v161
  by_cases hr : 0 ≤ (i 0).val ∧ (i 0).val < 4096
  · rw [if_pos hr, pad_apply_of_inside (s := S4096x2816) _ _ _ _ _ _ _ i (ix2 (n0 := 4096) (n1 := 2816) ⟨(i 0).val, by omega⟩ (i 1))
      (fun b => match b with | ⟨0, _⟩ => by show (i 0).val = 0 + ((i 0).val) * (0 + 1); omega | ⟨1, _⟩ => by show (i 1).val = 0 + (i 1).val * (0 + 1); omega)]
    exact r_v158 h _
  · rw [if_neg hr, pad_apply_of_not_inside (s := S4096x2816) _ _ _ _ _ _ _ i ⟨0, by decide⟩ (fun hc => hr (by
      have e1 : 0 ≤ (i 0).val := hc.1
      have e2 : ((i 0).val - 0) / (0 + 1) < 4096 := hc.2.2
      omega))]
    exact r_cst_44 _

theorem r_v162 (i : S4098x2816.Idx) :
    val_main_v162 (F := Ideal) x0 x1 x2 x3 x4 x5 x6 x7 x8 x9 i = ((((if 2 ≤ (i 0).val ∧ (i 0).val < 4098 then (dh A ((i 0).val - 2) (i 1).val) * (A.cw (2 + 0) (i 1).val) else 0) + (if 1 ≤ (i 0).val ∧ (i 0).val < 4097 then (dh A ((i 0).val - 1) (i 1).val) * (A.cw (1 + 0) (i 1).val) else 0)) + (if 0 ≤ (i 0).val ∧ (i 0).val < 4096 then (dh A (i 0).val (i 1).val) * (A.cw 0 (i 1).val) else 0) : ℝ) : EReal) :=
  (val_main_v162_apply ..).trans (re_add (r_v153 h i) (r_v161 h i))

theorem r_v164 (i : S4096x2816.Idx) :
    val_main_v164 (F := Ideal) x0 x1 x2 x3 x4 x5 x6 x7 x8 x9 i = ((dgate A (i 0).val (i 1).val : ℝ) : EReal) :=
  ((val_main_v164_apply x0 x1 x2 x3 x4 x5 x6 x7 x8 x9 i).trans (r_v162 h _) : _ = ((((if 2 ≤ (2 + (i 0).val) ∧ (2 + (i 0).val) < 4098 then (dh A ((2 + (i 0).val) - 2) (i 1).val) * (A.cw (2 + 0) (i 1).val) else 0) + (if 1 ≤ (2 + (i 0).val) ∧ (2 + (i 0).val) < 4097 then (dh A ((2 + (i 0).val) - 1) (i 1).val) * (A.cw (1 + 0) (i 1).val) else 0)) + (if 0 ≤ (2 + (i 0).val) ∧ (2 + (i 0).val) < 4096 then (dh A (2 + (i 0).val) (i 1).val) * (A.cw 0 (i 1).val) else 0) : ℝ) : EReal)).trans (congrArg (fun x : ℝ => (x : EReal)) (by
    have h0 : (i 0).val < 4096 := (i 0).isLt
    exact dgate_pads A _ _ h0))

omit h in
theorem r_cst_45 (i : S_.Idx) :
    val_main_cst_45 (F := Ideal) i = ((0 : ℝ) : EReal) :=
  (val_main_cst_45_apply i).trans lit_zero

theorem r_v165 (i : S4096x5632.Idx) :
    val_main_v165 (F := Ideal) x0 x1 x2 x3 x4 x5 x6 x7 x8 x9 i = ((if 2816 ≤ (i 1).val ∧ (i 1).val < 5632 then dgate A (i 0).val ((i 1).val - 2816) else 0 : ℝ) : EReal) := by
  have h0 : (i 1).val < 5632 := (i 1).isLt
  unfold val_main_v165
  by_cases hr : 2816 ≤ (i 1).val ∧ (i 1).val < 5632
  · rw [if_pos hr, pad_apply_of_inside (s := S4096x2816) _ _ _ _ _ _ _ i (ix2 (n0 := 4096) (n1 := 2816) (i 0) ⟨(i 1).val - 2816, by omega⟩)
      (fun b => match b with | ⟨0, _⟩ => by show (i 0).val = 0 + (i 0).val * (0 + 1); omega | ⟨1, _⟩ => by show (i 1).val = 2816 + ((i 1).val - 2816) * (0 + 1); omega)]
    exact r_v164 h _
  · rw [if_neg hr, pad_apply_of_not_inside (s := S4096x2816) _ _ _ _ _ _ _ i ⟨1, by decide⟩ (fun hc => hr (by
      have e1 : 2816 ≤ (i 1).val := hc.1
      have e2 : ((i 1).val - 2816) / (0 + 1) < 2816 := hc.2.2
      omega))]
    exact r_cst_45 _

omit h in
theorem r_cst_46 (i : S_.Idx) :
    val_main_cst_46 (F := Ideal) i = ((0 : ℝ) : EReal) :=
  (val_main_cst_46_apply i).trans lit_zero

theorem r_v166 (i : S4096x5632.Idx) :
    val_main_v166 (F := Ideal) x0 x1 x2 x3 x4 x5 x6 x7 x8 x9 i = ((if 0 ≤ (i 1).val ∧ (i 1).val < 2816 then dval A (i 0).val (i 1).val else 0 : ℝ) : EReal) := by
  have h0 : (i 1).val < 5632 := (i 1).isLt
  unfold val_main_v166
  by_cases hr : 0 ≤ (i 1).val ∧ (i 1).val < 2816
  · rw [if_pos hr, pad_apply_of_inside (s := S4096x2816) _ _ _ _ _ _ _ i (ix2 (n0 := 4096) (n1 := 2816) (i 0) ⟨(i 1).val, by omega⟩)
      (fun b => match b with | ⟨0, _⟩ => by show (i 0).val = 0 + (i 0).val * (0 + 1); omega | ⟨1, _⟩ => by show (i 1).val = 0 + ((i 1).val) * (0 + 1); omega)]
    exact r_v133 h _
  · rw [if_neg hr, pad_apply_of_not_inside (s := S4096x2816) _ _ _ _ _ _ _ i ⟨1, by decide⟩ (fun hc => hr (by
      have e1 : 0 ≤ (i 1).val := hc.1
      have e2 : ((i 1).val - 0) / (0 + 1) < 2816 := hc.2.2
      omega))]
    exact r_cst_46 _

theorem r_v167 (i : S4096x5632.Idx) :
    val_main_v167 (F := Ideal) x0 x1 x2 x3 x4 x5 x6 x7 x8 x9 i = ((du A (i 0).val (i 1).val : ℝ) : EReal) :=
  ((val_main_v167_apply x0 x1 x2 x3 x4 x5 x6 x7 x8 x9 i).trans (re_add (r_v165 h i) (r_v166 h i)) : _ = (((if 2816 ≤ (i 1).val ∧ (i 1).val < 5632 then dgate A (i 0).val ((i 1).val - 2816) else 0) + (if 0 ≤ (i 1).val ∧ (i 1).val < 2816 then dval A (i 0).val (i 1).val else 0) : ℝ) : EReal)).trans (congrArg (fun x : ℝ => (x : EReal)) (by
    have h1 : (i 1).val < 5632 := (i 1).isLt
    unfold du
    by_cases hc : (i 1).val < 2816
    · rw [if_pos hc, if_neg (by omega), if_pos (by omega), zero_add]
    · rw [if_neg hc, if_pos (by omega), if_neg (by omega), add_zero]))

theorem r_v168 (i : S4096x1024.Idx) :
    val_main_v168 (F := Ideal) x0 x1 x2 x3 x4 x5 x6 x7 x8 x9 i = ((∑ k : Fin 5632, (du A (i 0).val k.val) * (A.wu (i 1).val k.val) : ℝ) : EReal) :=
  (val_main_v168_apply ..).trans (re_dot (fun k => r_v167 h _) (fun k => h.wu _))

theorem r_v169 (i : S4096x1024.Idx) :
    val_main_v169 (F := Ideal) x0 x1 x2 x3 x4 x5 x6 x7 x8 x9 i = ((dx1 A (i 0).val (i 1).val : ℝ) : EReal) :=
  (val_main_v169_apply ..).trans (re_add (r_v132 h i) (r_v168 h i))

omit h in
theorem r_cst_47 (i : S_.Idx) :
    val_main_cst_47 (F := Ideal) i = ((0 : ℝ) : EReal) :=
  (val_main_cst_47_apply i).trans lit_zero

theorem r_v170 (i : S1024.Idx) :
    val_main_v170 (F := Ideal) x0 x1 x2 x3 x4 x5 x6 x7 x8 x9 i = ((db1 A (i 0).val : ℝ) : EReal) :=
  (val_main_v170_apply ..).trans (re_sum (r_cst_47 _) (fun k => r_v169 h _))

theorem r_v171 (i : S1x1024.Idx) :
    val_main_v171 (F := Ideal) x0 x1 x2 x3 x4 x5 x6 x7 x8 x9 i = ((db1 A (i 1).val : ℝ) : EReal) :=
  ((val_main_v171_apply x0 x1 x2 x3 x4 x5 x6 x7 x8 x9 i).trans (r_v170 h _) : _ = ((db1 A ((i 0).val * 1024 + (i 1).val) : ℝ) : EReal)).trans (congrArg (fun x : ℝ => (x : EReal)) (by
    have h0 : (i 0).val < 1 := (i 0).isLt
    rw [show (i 0).val = 0 by omega, Nat.zero_mul, Nat.zero_add]))

theorem r_v172 (i : S4096x1024.Idx) :
    val_main_v172 (F := Ideal) x0 x1 x2 x3 x4 x5 x6 x7 x8 x9 i = ((dx1 A (i 0).val (i 1).val * xh A (i 0).val (i 1).val : ℝ) : EReal) :=
  ((val_main_v172_apply x0 x1 x2 x3 x4 x5 x6 x7 x8 x9 i).trans (re_mul (r_v22 h i) (r_v169 h i)) : _ = (((xh A (i 0).val (i 1).val) * (dx1 A (i 0).val (i 1).val) : ℝ) : EReal)).trans (congrArg (fun x : ℝ => (x : EReal)) (by
    ring))

omit h in
theorem r_cst_48 (i : S_.Idx) :
    val_main_cst_48 (F := Ideal) i = ((0 : ℝ) : EReal) :=
  (val_main_cst_48_apply i).trans lit_zero

theorem r_v173 (i : S1024.Idx) :
    val_main_v173 (F := Ideal) x0 x1 x2 x3 x4 x5 x6 x7 x8 x9 i = ((dg1 A (i 0).val : ℝ) : EReal) :=
  (val_main_v173_apply ..).trans (re_sum (r_cst_48 _) (fun k => r_v172 h _))

theorem r_v174 (i : S1x1024.Idx) :
    val_main_v174 (F := Ideal) x0 x1 x2 x3 x4 x5 x6 x7 x8 x9 i = ((dg1 A (i 1).val : ℝ) : EReal) :=
  ((val_main_v174_apply x0 x1 x2 x3 x4 x5 x6 x7 x8 x9 i).trans (r_v173 h _) : _ = ((dg1 A ((i 0).val * 1024 + (i 1).val) : ℝ) : EReal)).trans (congrArg (fun x : ℝ => (x : EReal)) (by
    have h0 : (i 0).val < 1 := (i 0).isLt
    rw [show (i 0).val = 0 by omega, Nat.zero_mul, Nat.zero_add]))

theorem r_v175 (i : S4096x1024.Idx) :
    val_main_v175 (F := Ideal) x1 i = ((A.g1 0 (i 1).val : ℝ) : EReal) :=
  (val_main_v175_apply x1 i).trans (h.g1 _)

theorem r_v176 (i : S4096x1024.Idx) :
    val_main_v176 (F := Ideal) x0 x1 x2 x3 x4 x5 x6 x7 x8 x9 i = ((dxg A (i 0).val (i 1).val : ℝ) : EReal) :=
  (val_main_v176_apply ..).trans (re_mul (r_v169 h i) (r_v175 h i))

theorem r_v177 (i : S4096x1024.Idx) :
    val_main_v177 (F := Ideal) x0 x1 x2 x3 x4 x5 x6 x7 x8 x9 i = (((xc A (i 0).val (i 1).val) * (dxg A (i 0).val (i 1).val) : ℝ) : EReal) :=
  (val_main_v177_apply ..).trans (re_mul (r_v14 h i) (r_v176 h i))

omit h in
theorem r_cst_49 (i : S_.Idx) :
    val_main_cst_49 (F := Ideal) i = ((0 : ℝ) : EReal) :=
  (val_main_cst_49_apply i).trans lit_zero

theorem r_v178 (i : S4096.Idx) :
    val_main_v178 (F := Ideal) x0 x1 x2 x3 x4 x5 x6 x7 x8 x9 i = ((∑ k : Fin 1024, ((xc A (i 0).val k.val) * (dxg A (i 0).val k.val)) : ℝ) : EReal) :=
  (val_main_v178_apply ..).trans (re_sum (r_cst_49 _) (fun k => r_v177 h _))

theorem r_v179 (i : S4096x1.Idx) :
    val_main_v179 (F := Ideal) x0 x1 x2 x3 x4 x5 x6 x7 x8 x9 i = ((∑ k : Fin 1024, ((xc A (i 0).val k.val) * (dxg A (i 0).val k.val)) : ℝ) : EReal) :=
  ((val_main_v179_apply x0 x1 x2 x3 x4 x5 x6 x7 x8 x9 i).trans (r_v178 h _) : _ = ((∑ k : Fin 1024, ((xc A ((i 0).val * 1 + (i 1).val) k.val) * (dxg A ((i 0).val * 1 + (i 1).val) k.val)) : ℝ) : EReal)).trans (congrArg (fun x : ℝ => (x : EReal)) (by
    have h1 : (i 1).val < 1 := (i 1).isLt
    rw [show (i 0).val * 1 + (i 1).val = (i 0).val by omega]))

theorem r_v180 (i : S4096x1024.Idx) :
    val_main_v180 (F := Ideal) x0 i = ((rs A (i 0).val : ℝ) : EReal) :=
  (val_main_v180_apply x0 i).trans (r_v17 h _)

theorem r_v181 (i : S4096x1024.Idx) :
    val_main_v181 (F := Ideal) x0 x1 x2 x3 x4 x5 x6 x7 x8 x9 i = (((dxg A (i 0).val (i 1).val) * (rs A (i 0).val) : ℝ) : EReal) :=
  (val_main_v181_apply ..).trans (re_mul (r_v176 h i) (r_v180 h i))

theorem r_v182 (i : S4096x1.Idx) :
    val_main_v182 (F := Ideal) x0 x1 x2 x3 x4 x5 x6 x7 x8 x9 i = (((∑ k : Fin 1024, ((xc A (i 0).val k.val) * (dxg A (i 0).val k.val))) * (((-(1 / 2))) * ((rs A (i 0).val) / (vr A (i 0).val))) : ℝ) : EReal) :=
  (val_main_v182_apply ..).trans (re_mul (r_v179 h i) (r_v20 h i))

theorem r_v183 (i : S4096x1024.Idx) :
    val_main_v183 (F := Ideal) x0 x1 x2 x3 x4 x5 x6 x7 x8 x9 i = ((-((dxg A (i 0).val (i 1).val) * (rs A (i 0).val)) : ℝ) : EReal) :=
  (val_main_v183_apply ..).trans (re_neg (r_v181 h i))

omit h in
theorem r_cst_50 (i : S_.Idx) :
    val_main_cst_50 (F := Ideal) i = ((0 : ℝ) : EReal) :=
  (val_main_cst_50_apply i).trans lit_zero

theorem r_v184 (i : S4096.Idx) :
    val_main_v184 (F := Ideal) x0 x1 x2 x3 x4 x5 x6 x7 x8 x9 i = ((∑ k : Fin 1024, (-((dxg A (i 0).val k.val) * (rs A (i 0).val))) : ℝ) : EReal) :=
  (val_main_v184_apply ..).trans (re_sum (r_cst_50 _) (fun k => r_v183 h _))

theorem r_v185 (i : S4096x1.Idx) :
    val_main_v185 (F := Ideal) x0 x1 x2 x3 x4 x5 x6 x7 x8 x9 i = ((∑ k : Fin 1024, (-((dxg A (i 0).val k.val) * (rs A (i 0).val))) : ℝ) : EReal) :=
  ((val_main_v185_apply x0 x1 x2 x3 x4 x5 x6 x7 x8 x9 i).trans (r_v184 h _) : _ = ((∑ k : Fin 1024, (-((dxg A ((i 0).val * 1 + (i 1).val) k.val) * (rs A ((i 0).val * 1 + (i 1).val)))) : ℝ) : EReal)).trans (congrArg (fun x : ℝ => (x : EReal)) (by
    have h1 : (i 1).val < 1 := (i 1).isLt
    rw [show (i 0).val * 1 + (i 1).val = (i 0).val by omega]))

omit h in
theorem r_cst_51 (i : S_.Idx) :
    val_main_cst_51 (F := Ideal) i = ((1024 : ℝ) : EReal) :=
  (val_main_cst_51_apply i).trans lit_width

omit h in
theorem r_v186 (i : S4096x1.Idx) :
    val_main_v186 (F := Ideal) i = ((1024 : ℝ) : EReal) :=
  (val_main_v186_apply i).trans (r_cst_51 _)

theorem r_v187 (i : S4096x1.Idx) :
    val_main_v187 (F := Ideal) x0 x1 x2 x3 x4 x5 x6 x7 x8 x9 i = ((((∑ k : Fin 1024, ((xc A (i 0).val k.val) * (dxg A (i 0).val k.val))) * (((-(1 / 2))) * ((rs A (i 0).val) / (vr A (i 0).val)))) / 1024 : ℝ) : EReal) :=
  (val_main_v187_apply ..).trans (re_div (r_v182 h i) (r_v186 i) (by norm_num))

omit h in
theorem r_cst_52 (i : S_.Idx) :
    val_main_cst_52 (F := Ideal) i = ((0 : ℝ) : EReal) :=
  (val_main_cst_52_apply i).trans lit_zero

theorem r_v188 (i : S4096.Idx) :
    val_main_v188 (F := Ideal) x0 x1 x2 x3 x4 x5 x6 x7 x8 x9 i = ((∑ k : Fin 1, (((∑ k : Fin 1024, ((xc A (i 0).val k.val) * (dxg A (i 0).val k.val))) * (((-(1 / 2))) * ((rs A (i 0).val) / (vr A (i 0).val)))) / 1024) : ℝ) : EReal) :=
  (val_main_v188_apply ..).trans (re_sum (r_cst_52 _) (fun k => r_v187 h _))

theorem r_v189 (i : S4096x1024.Idx) :
    val_main_v189 (F := Ideal) x0 x1 x2 x3 x4 x5 x6 x7 x8 x9 i = ((∑ k : Fin 1, (((∑ k : Fin 1024, ((xc A (i 0).val k.val) * (dxg A (i 0).val k.val))) * (((-(1 / 2))) * ((rs A (i 0).val) / (vr A (i 0).val)))) / 1024) : ℝ) : EReal) :=
  (val_main_v189_apply ..).trans (r_v188 h _)

theorem r_v190 (i : S4096x1024.Idx) :
    val_main_v190 (F := Ideal) x0 x1 x2 x3 x4 x5 x6 x7 x8 x9 i = (((∑ k : Fin 1, (((∑ k : Fin 1024, ((xc A (i 0).val k.val) * (dxg A (i 0).val k.val))) * (((-(1 / 2))) * ((rs A (i 0).val) / (vr A (i 0).val)))) / 1024)) * (2 * (xc A (i 0).val (i 1).val)) : ℝ) : EReal) :=
  (val_main_v190_apply ..).trans (re_mul (r_v189 h i) (r_v8 h i))

theorem r_v191 (i : S4096x1024.Idx) :
    val_main_v191 (F := Ideal) x0 x1 x2 x3 x4 x5 x6 x7 x8 x9 i = ((-((∑ k : Fin 1, (((∑ k : Fin 1024, ((xc A (i 0).val k.val) * (dxg A (i 0).val k.val))) * (((-(1 / 2))) * ((rs A (i 0).val) / (vr A (i 0).val)))) / 1024)) * (2 * (xc A (i 0).val (i 1).val))) : ℝ) : EReal) :=
  (val_main_v191_apply ..).trans (re_neg (r_v190 h i))

omit h in
theorem r_cst_53 (i : S_.Idx) :
    val_main_cst_53 (F := Ideal) i = ((0 : ℝ) : EReal) :=
  (val_main_cst_53_apply i).trans lit_zero

theorem r_v192 (i : S4096.Idx) :
    val_main_v192 (F := Ideal) x0 x1 x2 x3 x4 x5 x6 x7 x8 x9 i = ((∑ k : Fin 1024, (-((∑ k : Fin 1, (((∑ k : Fin 1024, ((xc A (i 0).val k.val) * (dxg A (i 0).val k.val))) * (((-(1 / 2))) * ((rs A (i 0).val) / (vr A (i 0).val)))) / 1024)) * (2 * (xc A (i 0).val k.val)))) : ℝ) : EReal) :=
  (val_main_v192_apply ..).trans (re_sum (r_cst_53 _) (fun k => r_v191 h _))

theorem r_v193 (i : S4096x1.Idx) :
    val_main_v193 (F := Ideal) x0 x1 x2 x3 x4 x5 x6 x7 x8 x9 i = ((∑ k : Fin 1024, (-((∑ k : Fin 1, (((∑ k : Fin 1024, ((xc A (i 0).val k.val) * (dxg A (i 0).val k.val))) * (((-(1 / 2))) * ((rs A (i 0).val) / (vr A (i 0).val)))) / 1024)) * (2 * (xc A (i 0).val k.val)))) : ℝ) : EReal) :=
  ((val_main_v193_apply x0 x1 x2 x3 x4 x5 x6 x7 x8 x9 i).trans (r_v192 h _) : _ = ((∑ k : Fin 1024, (-((∑ k : Fin 1, (((∑ k : Fin 1024, ((xc A ((i 0).val * 1 + (i 1).val) k.val) * (dxg A ((i 0).val * 1 + (i 1).val) k.val))) * (((-(1 / 2))) * ((rs A ((i 0).val * 1 + (i 1).val)) / (vr A ((i 0).val * 1 + (i 1).val))))) / 1024)) * (2 * (xc A ((i 0).val * 1 + (i 1).val) k.val)))) : ℝ) : EReal)).trans (congrArg (fun x : ℝ => (x : EReal)) (by
    have h1 : (i 1).val < 1 := (i 1).isLt
    rw [show (i 0).val * 1 + (i 1).val = (i 0).val by omega]))

theorem r_v194 (i : S4096x1024.Idx) :
    val_main_v194 (F := Ideal) x0 x1 x2 x3 x4 x5 x6 x7 x8 x9 i = ((((dxg A (i 0).val (i 1).val) * (rs A (i 0).val)) + ((∑ k : Fin 1, (((∑ k : Fin 1024, ((xc A (i 0).val k.val) * (dxg A (i 0).val k.val))) * (((-(1 / 2))) * ((rs A (i 0).val) / (vr A (i 0).val)))) / 1024)) * (2 * (xc A (i 0).val (i 1).val))) : ℝ) : EReal) :=
  (val_main_v194_apply ..).trans (re_add (r_v181 h i) (r_v190 h i))

theorem r_v195 (i : S4096x1.Idx) :
    val_main_v195 (F := Ideal) x0 x1 x2 x3 x4 x5 x6 x7 x8 x9 i = (((∑ k : Fin 1024, (-((dxg A (i 0).val k.val) * (rs A (i 0).val)))) + (∑ k : Fin 1024, (-((∑ k : Fin 1, (((∑ k : Fin 1024, ((xc A (i 0).val k.val) * (dxg A (i 0).val k.val))) * (((-(1 / 2))) * ((rs A (i 0).val) / (vr A (i 0).val)))) / 1024)) * (2 * (xc A (i 0).val k.val))))) : ℝ) : EReal) :=
  (val_main_v195_apply ..).trans (re_add (r_v185 h i) (r_v193 h i))

omit h in
theorem r_cst_54 (i : S_.Idx) :
    val_main_cst_54 (F := Ideal) i = ((1024 : ℝ) : EReal) :=
  (val_main_cst_54_apply i).trans lit_width

omit h in
theorem r_v196 (i : S4096x1.Idx) :
    val_main_v196 (F := Ideal) i = ((1024 : ℝ) : EReal) :=
  (val_main_v196_apply i).trans (r_cst_54 _)

theorem r_v197 (i : S4096x1.Idx) :
    val_main_v197 (F := Ideal) x0 x1 x2 x3 x4 x5 x6 x7 x8 x9 i = ((((∑ k : Fin 1024, (-((dxg A (i 0).val k.val) * (rs A (i 0).val)))) + (∑ k : Fin 1024, (-((∑ k : Fin 1, (((∑ k : Fin 1024, ((xc A (i 0).val k.val) * (dxg A (i 0).val k.val))) * (((-(1 / 2))) * ((rs A (i 0).val) / (vr A (i 0).val)))) / 1024)) * (2 * (xc A (i 0).val k.val)))))) / 1024 : ℝ) : EReal) :=
  (val_main_v197_apply ..).trans (re_div (r_v195 h i) (r_v196 i) (by norm_num))

omit h in
theorem r_cst_55 (i : S_.Idx) :
    val_main_cst_55 (F := Ideal) i = ((0 : ℝ) : EReal) :=
  (val_main_cst_55_apply i).trans lit_zero

theorem r_v198 (i : S4096.Idx) :
    val_main_v198 (F := Ideal) x0 x1 x2 x3 x4 x5 x6 x7 x8 x9 i = ((∑ k : Fin 1, (((∑ k : Fin 1024, (-((dxg A (i 0).val k.val) * (rs A (i 0).val)))) + (∑ k : Fin 1024, (-((∑ k : Fin 1, (((∑ k : Fin 1024, ((xc A (i 0).val k.val) * (dxg A (i 0).val k.val))) * (((-(1 / 2))) * ((rs A (i 0).val) / (vr A (i 0).val)))) / 1024)) * (2 * (xc A (i 0).val k.val)))))) / 1024) : ℝ) : EReal) :=
  (val_main_v198_apply ..).trans (re_sum (r_cst_55 _) (fun k => r_v197 h _))

theorem r_v199 (i : S4096x1024.Idx) :
    val_main_v199 (F := Ideal) x0 x1 x2 x3 x4 x5 x6 x7 x8 x9 i = ((∑ k : Fin 1, (((∑ k : Fin 1024, (-((dxg A (i 0).val k.val) * (rs A (i 0).val)))) + (∑ k : Fin 1024, (-((∑ k : Fin 1, (((∑ k : Fin 1024, ((xc A (i 0).val k.val) * (dxg A (i 0).val k.val))) * (((-(1 / 2))) * ((rs A (i 0).val) / (vr A (i 0).val)))) / 1024)) * (2 * (xc A (i 0).val k.val)))))) / 1024) : ℝ) : EReal) :=
  (val_main_v199_apply ..).trans (r_v198 h _)

theorem r_v200 (i : S4096x1024.Idx) :
    val_main_v200 (F := Ideal) x0 x1 x2 x3 x4 x5 x6 x7 x8 x9 i = ((dz1 A (i 0).val (i 1).val : ℝ) : EReal) :=
  ((val_main_v200_apply x0 x1 x2 x3 x4 x5 x6 x7 x8 x9 i).trans (re_add (r_v194 h i) (r_v199 h i)) : _ = (((((dxg A (i 0).val (i 1).val) * (rs A (i 0).val)) + ((∑ k : Fin 1, (((∑ k : Fin 1024, ((xc A (i 0).val k.val) * (dxg A (i 0).val k.val))) * (((-(1 / 2))) * ((rs A (i 0).val) / (vr A (i 0).val)))) / 1024)) * (2 * (xc A (i 0).val (i 1).val)))) + (∑ k : Fin 1, (((∑ k : Fin 1024, (-((dxg A (i 0).val k.val) * (rs A (i 0).val)))) + (∑ k : Fin 1024, (-((∑ k : Fin 1, (((∑ k : Fin 1024, ((xc A (i 0).val k.val) * (dxg A (i 0).val k.val))) * (((-(1 / 2))) * ((rs A (i 0).val) / (vr A (i 0).val)))) / 1024)) * (2 * (xc A (i 0).val k.val)))))) / 1024)) : ℝ) : EReal)).trans (congrArg (fun x : ℝ => (x : EReal)) (by
    exact norm_gradient (xc A (i 0).val) (dxg A (i 0).val) (vr A (i 0).val) (vr_pos A _) (sum_centred _) _))

theorem r_v201 (i : S4096x1024.Idx) :
    val_main_v201 (F := Ideal) x0 x1 x2 x3 x4 x5 x6 x7 x8 x9 i = ((dz2 A (i 0).val (i 1).val : ℝ) : EReal) :=
  (val_main_v201_apply ..).trans (r_v129 h i)

theorem r_v202 (i : S4096x5632.Idx) :
    val_main_v202 (F := Ideal) x0 x1 x2 x3 x4 x5 x6 x7 x8 x9 i = ((du A (i 0).val (i 1).val : ℝ) : EReal) :=
  (val_main_v202_apply ..).trans (r_v167 h i)

theorem r_v203 (i : S4096x2816.Idx) :
    val_main_v203 (F := Ideal) x0 x1 x2 x3 x4 x5 i = ((fv A (i 0).val (i 1).val : ℝ) : EReal) :=
  (val_main_v203_apply ..).trans (r_v52 h i)

theorem r_v204 (i : S8x128.Idx) :
    val_main_v204 (F := Ideal) x0 x1 x2 x3 x4 x5 x6 x7 x8 x9 i = ((loss A : ℝ) : EReal) :=
  (val_main_v204_apply ..).trans (r_v92 h _)

end FfnStep.Ref
-- ==== Proof.Equation.lean ====
/- The equation: what the launch leaves in each output array is what the reference computes from the same arguments. -/
module

public import proofs.«01_k».proof.Proof.Arrays
public import proofs.«01_k».proof.Proof.RefBackward
public import proofs.«01_k».proof.Proof.Gen.ReferenceIdeal.Run

@[expose] public section

noncomputable section

namespace FfnStep

open Idealize.ShloMosaic Idealize.ShloMosaic.TcCoe Idealize.ShloMosaic.ValueIdx Idealize.SL.Sem Cert.KernelIdeal Cert.KernelIdeal.Gen
open Cert.KernelIdeal.Value

/-- Two arrays that hold the same table are equal. -/
theorem eq_of_tab {a b : ℕ} {x y : (⟨2, ![a, b]⟩ : Shape).Idx → EReal} {f : ℕ → ℕ → ℝ} (hx : ∀ i, x i = ((f (i 0).val (i 1).val : ℝ) : EReal))
    (hy : Tab y f) : x = y := by
  funext i
  rw [hx i, eq_ix2 i]
  exact (hy (i 0) (i 1)).symm

variable (m : (ℓ : Loc nD τ sig) → Buf (Elt Ideal) ℓ) (c : Dev nD) {A : Args} (hR : ReadsArgs m c A)
variable {x0 : (⟨S4096x1024, .f32⟩ : BufTy).Contents (Elt Ideal)} {x1 x2 : (⟨S1x1024, .f32⟩ : BufTy).Contents (Elt Ideal)} {x3 : (⟨S1024x5632, .f32⟩ : BufTy).Contents (Elt Ideal)}
  {x4 : (⟨S3x2816, .f32⟩ : BufTy).Contents (Elt Ideal)} {x5 : (⟨S1x2816, .f32⟩ : BufTy).Contents (Elt Ideal)} {x6 : (⟨S2816x1024, .f32⟩ : BufTy).Contents (Elt Ideal)}
  {x7 x8 : (⟨S1x1024, .f32⟩ : BufTy).Contents (Elt Ideal)} {x9 : (⟨S4096x1024, .f32⟩ : BufTy).Contents (Elt Ideal)}
variable (h : Ref.Reads A x0 x1 x2 x3 x4 x5 x6 x7 x8 x9)
include hR h

/-- The gradient of the first norm's input. -/
theorem agree_v200 : Cert.ReferenceIdeal.Read.val_main_v200 (F := Ideal) x0 x1 x2 x3 x4 x5 x6 x7 x8 x9 = (dats m 0 c).arrAt 12 cfg0.N :=
  eq_of_tab (a := 4096) (b := 1024) (f := dz1 A) (Ref.r_v200 h) (arr12 m c hR)

/-- The gradient of the down product. -/
theorem agree_v201 : Cert.ReferenceIdeal.Read.val_main_v201 (F := Ideal) x0 x1 x2 x3 x4 x5 x6 x7 x8 x9 = (dats m 0 c).arrAt 13 cfg0.N :=
  eq_of_tab (a := 4096) (b := 1024) (f := dz2 A) (Ref.r_v201 h) (arr13 m c hR)

/-- The gradient of the up product. -/
theorem agree_v202 : Cert.ReferenceIdeal.Read.val_main_v202 (F := Ideal) x0 x1 x2 x3 x4 x5 x6 x7 x8 x9 = (dats m 0 c).arrAt 14 cfg0.N :=
  eq_of_tab (a := 4096) (b := 5632) (f := du A) (Ref.r_v202 h) (arr14 m c hR)

/-- The gated values. -/
theorem agree_v203 : Cert.ReferenceIdeal.Read.val_main_v203 (F := Ideal) x0 x1 x2 x3 x4 x5 = (dats m 0 c).arrAt 15 cfg0.N :=
  eq_of_tab (a := 4096) (b := 2816) (f := fv A) (Ref.r_v203 h) (arr15 m c hR)

/-- The loss. -/
theorem agree_v204 : Cert.ReferenceIdeal.Read.val_main_v204 (F := Ideal) x0 x1 x2 x3 x4 x5 x6 x7 x8 x9 = (dats m 0 c).arrAt 16 cfg0.N :=
  eq_of_tab (a := 8) (b := 128) (f := fun _ _ => loss A) (Ref.r_v204 h) (arr16 m c hR)

/-- The gradient of the second norm's scale. -/
theorem agree_v103 : Cert.ReferenceIdeal.Read.val_main_v103 (F := Ideal) x0 x1 x2 x3 x4 x5 x6 x7 x8 x9 = (dats m 0 c).arrAt 17 cfg0.N :=
  eq_of_tab (a := 1) (b := 1024) (f := fun _ k => dg2 A k) (Ref.r_v103 h) (arr17 m c hR)

/-- The gradient of the second norm's shift. -/
theorem agree_v100 : Cert.ReferenceIdeal.Read.val_main_v100 (F := Ideal) x0 x1 x2 x3 x4 x5 x6 x7 x8 x9 = (dats m 0 c).arrAt 18 cfg0.N :=
  eq_of_tab (a := 1) (b := 1024) (f := fun _ k => db2 A k) (Ref.r_v100 h) (arr18 m c hR)

/-- The gradient of the first norm's scale. -/
theorem agree_v174 : Cert.ReferenceIdeal.Read.val_main_v174 (F := Ideal) x0 x1 x2 x3 x4 x5 x6 x7 x8 x9 = (dats m 0 c).arrAt 19 cfg0.N :=
  eq_of_tab (a := 1) (b := 1024) (f := fun _ k => dg1 A k) (Ref.r_v174 h) (arr19 m c hR)

/-- The gradient of the first norm's shift. -/
theorem agree_v171 : Cert.ReferenceIdeal.Read.val_main_v171 (F := Ideal) x0 x1 x2 x3 x4 x5 x6 x7 x8 x9 = (dats m 0 c).arrAt 20 cfg0.N :=
  eq_of_tab (a := 1) (b := 1024) (f := fun _ k => db1 A k) (Ref.r_v171 h) (arr20 m c hR)

/-- The gradient of the convolution's shift. -/
theorem agree_v137 : Cert.ReferenceIdeal.Read.val_main_v137 (F := Ideal) x0 x1 x2 x3 x4 x5 x6 x7 x8 x9 = (dats m 0 c).arrAt 21 cfg0.N :=
  eq_of_tab (a := 1) (b := 2816) (f := fun _ k => dcb A k) (Ref.r_v137 h) (arr21 m c hR)

/-- The gradient of the convolution's taps. -/
theorem agree_v160 : Cert.ReferenceIdeal.Read.val_main_v160 (F := Ideal) x0 x1 x2 x3 x4 x5 x6 x7 x8 x9 = (dats m 0 c).arrAt 22 cfg0.N :=
  eq_of_tab (a := 3) (b := 2816) (f := dcw A) (Ref.r_v160 h) (arr22 m c hR)

end FfnStep
-- ==== Proof.Weight.Down.lean ====
/- The gradient of the down-projection: each point's block of the product over the tokens, and what the reference computes. -/
module

public import proofs.«01_k».proof.Defs
public import proofs.«01_k».proof.Proof.Gen.GradDown
public import proofs.«01_k».proof.Proof.Gen.GradDown.Frame
public import proofs.«01_k».proof.Proof.Gen.GradDownIdeal
public import proofs.«01_k».proof.Proof.Gen.GradDownIdeal.Value
public import proofs.«01_k».proof.Proof.Gen.GradDownReferenceIdeal
public import proofs.«01_k».proof.Proof.Gen.GradDownReferenceIdeal.Run
public import proofs.«01_k».proof.Proof.Gen.GradDownReferenceIdeal.Read
public import Idealize.ShloMosaic.Lib.Pipeline.ValueKit
public import Idealize.ShloMosaic.Lib.Quiescent

@[expose] public section

set_option maxRecDepth 65536

noncomputable section

namespace GradDown

open Idealize.ShloMosaic Idealize.ShloMosaic.TcCoe Idealize.SL.Sem
open Cert.GradDownIdeal Cert.GradDownIdeal.Gen

/-- The product over the tokens, entry by entry. -/
def grad (a : FVec Ideal S4096x2816 .bf16) (b : FVec Ideal S4096x1024 .bf16) : FVec Ideal S2816x1024 .bf16 :=
  fun i => ∑ q : Fin 4096, a (ix2 q (i 0 : Fin 2816)) * b (ix2 q (i 1 : Fin 1024))

theorem lhs_row (i : S1408x1024.Idx) (q : dot_S4096x1408_S4096x1024_S1408x1024_0_0_1_1_n_n.contr.Idx) : (dot_S4096x1408_S4096x1024_S1408x1024_0_0_1_1_n_n.lhsIdx i q 0).val = (q ⟨0, by decide⟩).val :=
  DotDims.lhsIdx_val_of_single _ rfl i q
theorem rhs_row (i : S1408x1024.Idx) (q : dot_S4096x1408_S4096x1024_S1408x1024_0_0_1_1_n_n.contr.Idx) : (dot_S4096x1408_S4096x1024_S1408x1024_0_0_1_1_n_n.rhsIdx i q 0).val = (q ⟨0, by decide⟩).val :=
  DotDims.rhsIdx_val_of_single _ rfl i q
theorem lhs_column (i : S1408x1024.Idx) (q : dot_S4096x1408_S4096x1024_S1408x1024_0_0_1_1_n_n.contr.Idx) : (dot_S4096x1408_S4096x1024_S1408x1024_0_0_1_1_n_n.lhsIdx i q 1).val = (i 0).val := by
  unfold DotDims.lhsIdx
  rw [dif_neg (show ¬(1 : Fin S4096x1408.rank) ∈ dot_S4096x1408_S4096x1024_S1408x1024_0_0_1_1_n_n.lhsBatch by decide),
    dif_pos (show (1 : Fin S4096x1408.rank) ∈ dot_S4096x1408_S4096x1024_S1408x1024_0_0_1_1_n_n.lhsNonContracting by decide)]
  rfl
theorem rhs_column (i : S1408x1024.Idx) (q : dot_S4096x1408_S4096x1024_S1408x1024_0_0_1_1_n_n.contr.Idx) : (dot_S4096x1408_S4096x1024_S1408x1024_0_0_1_1_n_n.rhsIdx i q 1).val = (i 1).val := by
  unfold DotDims.rhsIdx
  rw [dif_neg (show ¬(1 : Fin S4096x1024.rank) ∈ dot_S4096x1408_S4096x1024_S1408x1024_0_0_1_1_n_n.rhsBatch by decide),
    dif_pos (show (1 : Fin S4096x1024.rank) ∈ dot_S4096x1408_S4096x1024_S1408x1024_0_0_1_1_n_n.rhsNonContracting by decide)]
  rfl

theorem origin : (![0, 0] : Fin 2 → Nat) = fun _ => 0 := funext fun a => by match a with | ⟨0, _⟩ => rfl | ⟨1, _⟩ => rfl

/-- What a point stores: the product of its columns with the whole second matrix. -/
theorem stored (x : Vec Ideal S4096x1408 .bf16) (y : Vec Ideal S4096x1024 .bf16) (r : Fin 1408) (k : Fin 1024) :
    out0_2 x y (ix2 r k) = ∑ q : Fin 4096, x (ix2 q r) * y (ix2 q k) := by
  unfold out0_2
  rw [View.canon_unit_zero origin, View.ld_unit_zero origin, View.ld_unit_zero origin]
  refine (Ideal.matmul_constant_zero_apply (φ₁ := .bf16) (φ₂ := .bf16) dot_S4096x1408_S4096x1024_S1408x1024_0_0_1_1_n_n none x y (ix2 r k)).trans ?_
  rw [← Equiv.sum_comp (ValueIdx.contrEquiv1 dot_S4096x1408_S4096x1024_S1408x1024_0_0_1_1_n_n 4096 rfl rfl).symm]
  refine Finset.sum_congr rfl fun q _ => ?_
  have hq := ValueIdx.contrEquiv1_symm_val dot_S4096x1408_S4096x1024_S1408x1024_0_0_1_1_n_n 4096 rfl rfl q
  refine congrArg₂ (fun u v : EReal => u * v) (congrArg x ?_) (congrArg y ?_)
  · funext a
    apply Fin.ext
    match a with
    | ⟨0, _⟩ => exact (lhs_row _ _).trans hq
    | ⟨1, _⟩ => exact lhs_column _ _
  · funext a
    apply Fin.ext
    match a with
    | ⟨0, _⟩ => exact (rhs_row _ _).trans hq
    | ⟨1, _⟩ => exact rhs_column _ _

variable (m : (ℓ : Loc nD τ sig) → Buf (Elt Ideal) ℓ) (c : Dev nD)

theorem index0 : ∀ t : Fin grid0.N, win0_0.index t 0 = 0 ∧ win0_0.index t 1 = t.val := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- A point's columns of the first matrix. -/
theorem columns (t : Fin cfg0.N) (q : Fin 4096) (r : Fin 1408) (h : 1408 * t.val + r.val < 2816) :
    (iblk m c 0 t : Vec Ideal S4096x1408 .bf16) (ix2 q r)
      = (m ((c : Thread nD τ).loc main_arg0) : FVec Ideal S4096x2816 .bf16) (ix2 q (⟨1408 * t.val + r.val, h⟩ : Fin 2816)) := by
  have hi := index0 t
  unfold iblk
  rw [View.read_apply]
  refine (congrArg (V m c main_arg0) ?_).trans (congrFun (V_main_arg0 m c) _)
  funext a
  apply Fin.ext
  match a with
  | ⟨0, _⟩ => show win0_0.index t 0 * 4096 + 1 * q.val = q.val; rw [hi.1]; omega
  | ⟨1, _⟩ => show win0_0.index t 1 * 1408 + 1 * r.val = 1408 * t.val + r.val; rw [hi.2]; omega

/-- The second matrix, whole at every point. -/
theorem whole (t : Fin cfg0.N) (q : Fin 4096) (k : Fin 1024) :
    (iblk m c 1 t : Vec Ideal S4096x1024 .bf16) (ix2 q k)
      = (m ((c : Thread nD τ).loc main_arg1) : FVec Ideal S4096x1024 .bf16) (ix2 q k) := by
  have hi := index1 t
  unfold iblk
  rw [View.read_apply]
  refine (congrArg (V m c main_arg1) ?_).trans (congrFun (V_main_arg1 m c) _)
  funext a
  apply Fin.ext
  match a with
  | ⟨0, _⟩ => show win0_1.index t 0 * 4096 + 1 * q.val = q.val; rw [hi.1]; omega
  | ⟨1, _⟩ => show win0_1.index t 1 * 1024 + 1 * k.val = k.val; rw [hi.2]; omega

/-- The launch leaves the gradient. -/
theorem left : (dats m 0 c).arrAt 2 cfg0.N
    = grad (m ((c : Thread nD τ).loc main_arg0)) (m ((c : Thread nD τ).loc main_arg1)) := by
  funext i
  obtain ⟨r, k, rfl⟩ : ∃ (r : Fin 2816) (k : Fin 1024), i = ix2 r k :=
    ⟨i 0, i 1, funext fun a => by match a with | ⟨0, _⟩ => rfl | ⟨1, _⟩ => rfl⟩
  have hr := r.isLt
  have hN : cfg0.N = 2 := N_0
  let t : Fin cfg0.N := ⟨r.val / 1408, by omega⟩
  let s : Fin 1408 := ⟨r.val % 1408, Nat.mod_lt _ (by decide)⟩
  have ht : 1408 * t.val + s.val = r.val := by show 1408 * (r.val / 1408) + r.val % 1408 = r.val; omega
  have hi := index2 t
  have hb := congrFun ((Value.blocks2 m c t (flush0_2 t)).trans (Value.flushed2 m c t)) (ix2 s k)
  rw [View.read_apply] at hb
  refine (congrArg ((dats m 0 c).arrAt 2 cfg0.N) ?_).trans (hb.trans ((stored (iblk m c 0 t) (iblk m c 1 t) s k).trans ?_))
  · funext a
    apply Fin.ext
    match a with
    | ⟨0, _⟩ => show r.val = win0_2.index t 0 * 1408 + 1 * s.val; rw [hi.1]; omega
    | ⟨1, _⟩ => show k.val = win0_2.index t 1 * 1024 + 1 * k.val; rw [hi.2]; omega
  · refine Finset.sum_congr rfl fun q _ => ?_
    rw [columns m c t q s (by omega), whole m c t q k]
    exact congrArg (fun u : EReal => u * _)
      (congrArg (fun p : Fin 2816 => (m ((c : Thread nD τ).loc main_arg0) : FVec Ideal S4096x2816 .bf16) (ix2 q p)) (Fin.ext ht))

/-- The reference computes the gradient. -/
theorem wanted (a : FVec Ideal S4096x2816 .bf16) (b : FVec Ideal S4096x1024 .bf16) :
    Cert.GradDownReferenceIdeal.Read.val_main_v6 (F := Ideal) a b = grad a b := by
  funext i
  refine (Cert.GradDownReferenceIdeal.Read.val_main_v5_apply (F := Ideal) a b i).trans
    ((Cert.GradDownReferenceIdeal.Read.val_main_v4_apply a b _).trans (Finset.sum_congr rfl fun q _ => ?_))
  rw [mul_comm]
  refine congrArg₂ (fun u v : EReal => u * v) (congrArg a ?_) (congrArg b ?_) <;>
  · funext x
    match x with
    | ⟨0, _⟩ => rfl
    | ⟨1, _⟩ => rfl

theorem kernel_frame : Cert.quiescent_GradDown := fun m g _ => Cert.GradDown.Gen.frame m g
theorem ideal_frame : Cert.quiescent_GradDownIdeal := fun m g _ => Cert.GradDownIdeal.Gen.frame m g
theorem reference_frame : Cert.quiescent_GradDownReferenceIdeal := fun m g _ =>
  (θ_run _ _ _).mono (fun r hr => ⟨fun c => (hr c).2, sem_eq_zero_of_no_sems (by decide) r.2⟩)
    (Cert.GradDownReferenceIdeal.Value.run m g)

/-- Kernel and reference leave the same gradient. -/
theorem equation : Cert.algebraic_GradDownIdeal_GradDownReferenceIdeal := by
  intro m g m' g' _ hm
  refine ⟨fun c => (dats m 0 c).arrAt 2 cfg0.N, Cert.GradDownIdeal.Value.run_blocks m g, ?_⟩
  refine (θ_run _ _ _).mono (fun r hr c => ⟨(hr c).1.trans ?_, (hr c).2⟩) (Cert.GradDownReferenceIdeal.Value.run m' g')
  refine (Cert.GradDownReferenceIdeal.Read.val_main_v6_eq _ _).trans ((wanted _ _).trans ?_)
  rw [(hm c).1, (hm c).2]
  exact (left m c).symm

end GradDown

end
-- ==== Proof.Adam.Step.lean ====
/- One AdamW step of a weight whose gradient is the sum of four devices' shares: entry by entry, and on arrays of 1024 columns. -/
module

public import Idealize.ShloMosaic.PureOps.Ideal.Laws
public import Idealize.ShloMosaic.Lib.Pipeline.ValueKit
public import Idealize.ShloMosaic.Lib.ValueLayout

@[expose] public section

noncomputable section

namespace AdamStep

open Idealize.ShloMosaic

/-- A constant of the step, as the programs give it: a word of 32 bits. -/
def word (w : BitVec 32) : EReal := Ideal.ofBits .f32 w

/-! ### Entry by entry -/

/-- The device's own share of the gradient and those of three others. -/
def total (own a b c : EReal) : EReal := own + a + b + c
def mean (m g : EReal) : EReal := word 0x3F666666#32 * m + word 0x3DCCCCCD#32 * g
def square (v g : EReal) : EReal := word 0x3F7FBE77#32 * v + word 0x3A83126F#32 * (g * g)
/-- The change of a weight, from its new running means. -/
def change (w m v : EReal) : EReal :=
  word 0xBA83126F#32 * (Ideal.div (Ideal.div m (word 0x3F26BD02#32)) (Ideal.sqrt (Ideal.div v (word 0x3C231ACC#32)) + word 0x322BCC77#32)
    + word 0x3C23D70A#32 * w)

theorem total_eq (own : EReal) (s : Fin 3 → EReal) : own + (word 0x00000000#32 + ∑ k, s k) = total own (s 0) (s 1) (s 2) := by
  rw [show word 0x00000000#32 = 0 from Ideal.ofBits_zero .f32, zero_add, Fin.sum_univ_three, ← add_assoc, ← add_assoc]
  rfl

/-! ### On arrays -/

abbrev Mat (n : ℕ) : Shape := ⟨2, ![n, 1024]⟩
abbrev Slabs (n : ℕ) : Shape := ⟨3, ![3, n, 1024]⟩

variable {n : ℕ} (own : FVec Ideal (Mat n) .bf16) (arrived : FVec Ideal (Slabs n) .bf16) (w m v : FVec Ideal (Mat n) .f32)

def gradAt (r : Fin n) (k : Fin 1024) : EReal :=
  total (own (ix2 r k)) (arrived (ix3 (0 : Fin 3) r k)) (arrived (ix3 (1 : Fin 3) r k)) (arrived (ix3 (2 : Fin 3) r k))
def meanAt (r : Fin n) (k : Fin 1024) : EReal := mean (m (ix2 r k)) (gradAt own arrived r k)
def squareAt (r : Fin n) (k : Fin 1024) : EReal := square (v (ix2 r k)) (gradAt own arrived r k)
def changeAt (r : Fin n) (k : Fin 1024) : EReal := change (w (ix2 r k)) (meanAt own arrived m r k) (squareAt own arrived v r k)

/-- The array of a function of the row and the column. -/
def table (f : Fin n → Fin 1024 → EReal) : FVec Ideal (Mat n) .f32 := fun i => f (i 0 : Fin n) (i 1 : Fin 1024)

theorem eq_table {f : Fin n → Fin 1024 → EReal} {x : FVec Ideal (Mat n) .f32} (h : ∀ r k, x (ix2 r k) = f r k) : x = table f := by
  funext i
  obtain ⟨r, k, rfl⟩ : ∃ (r : Fin n) (k : Fin 1024), i = ix2 r k :=
    ⟨i 0, i 1, funext fun a => by match a with | ⟨0, _⟩ => rfl | ⟨1, _⟩ => rfl⟩
  exact h r k

/-! ### Loads and stores of a block -/

theorem origin : (![0, 0] : Fin 2 → Nat) = fun _ => 0 := funext fun a => by match a with | ⟨0, _⟩ => rfl | ⟨1, _⟩ => rfl

/-- A load of one of the three slabs, without its unit axis. -/
theorem slab (j : Fin 3) (x : Vec Ideal (Slabs n) .bf16)
    (inb : ∀ a, (![j.val, 0, 0] : Fin 3 → ℕ) a + (⟨3, ![1, n, 1024]⟩ : Shape).size a ≤ (Slabs n).size a)
    (h : (⟨3, ![1, n, 1024]⟩ : Shape).ShapeCasts (Mat n)) (r : Fin n) (k : Fin 1024) :
    shapeCast (Mat n) (View.ld x (Rect.unit (s := Slabs n) ![j.val, 0, 0] (⟨3, ![1, n, 1024]⟩ : Shape).size inb) : (⟨3, ![1, n, 1024]⟩ : Shape).Idx → EReal) h (ix2 r k)
      = x (ix3 j r k) :=
  (ValueIdx.shapeCast_1ab_ab_apply _ h r k).trans (View.ld_unit_apply_of x _ _ inb _ (ix3 j r k) fun a => by
    match a with
    | ⟨0, _⟩ => show j.val = j.val + 0; omega
    | ⟨1, _⟩ => show r.val = 0 + r.val; omega
    | ⟨2, _⟩ => show k.val = 0 + k.val; omega)

variable {sig : RefSig} {κ : Kind} {sp : Space} {s : Shape} {e : EltTy}

/-- A load from a whole buffer that holds `x`. -/
theorem load_whole {b : Memref sig κ sp s e} (hb : b.IsWhole) (x : s.Idx → Elt Ideal e) (r : Rect s) :
    View.readAt (Elt Ideal) b.view r.toLoadRect (hb.unread x) = View.ld x r :=
  funext fun y => congrFun (hb.read_unread x) (r.toLoadRect.idx y)

/-- What one store of the whole shape leaves. -/
theorem store_whole (v : View sig κ sp s e) (z : v.ty.Contents (Elt Ideal)) {off : Fin s.rank → Nat} (h : off = fun _ => 0)
    (inb : ∀ a, off a + s.size a ≤ s.size a) (w : s.Idx → Elt Ideal e) :
    v.read (Elt Ideal) (v.writes (Elt Ideal) z [(⟨Rect.unit off s.size inb, w⟩ : View.Piece (Elt Ideal) s e)]) = w := by
  subst h
  funext y
  have hy : (Rect.unit (fun _ => 0) s.size inb).emb y = y := funext fun a => Fin.ext (by
    show 0 + 1 * (y a).val = (y a).val; omega)
  have := View.read_writes_cons_emb v z (Rect.unit (fun _ => 0) s.size inb) w [] y
  rw [hy] at this
  exact this

end AdamStep

end
-- ==== Proof.Adam.Up.lean ====
/- AdamW's step of the up-projection, block by block, and what the reference computes. -/
module

public import proofs.«01_k».proof.Defs
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Value
public import proofs.«01_k».proof.Proof.Gen.AdamUpReferenceIdeal
public import proofs.«01_k».proof.Proof.Gen.AdamUpReferenceIdeal.Run
public import proofs.«01_k».proof.Proof.Gen.AdamUpReferenceIdeal.Read
public import proofs.«01_k».proof.Proof.Adam.Step
public import Idealize.ShloMosaic.Lib.Quiescent

@[expose] public section

set_option maxRecDepth 65536

noncomputable section

namespace AdamUp

open Idealize.ShloMosaic Idealize.ShloMosaic.TcCoe Idealize.SL.Sem
open Cert.AdamUpIdeal Cert.AdamUpIdeal.Gen AdamStep

/-! ### A block -/

section Block

variable (x0 : Vec Ideal S176x1024 .bf16) (x1 : Vec Ideal S3x176x1024 .bf16) (x2 x3 x4 : Vec Ideal S176x1024 .f32)
  (r : Fin 176) (k : Fin 1024)

/-- A slab of the arrived shares, as the body loads it. -/
abbrev loaded (j : Fin 3) (inb : ∀ a, (![j.val, 0, 0] : Fin 3 → ℕ) a + S1x176x1024.size a ≤ S3x176x1024.size a) :
    Vec Ideal S1x176x1024 .bf16 :=
  View.ld x1 (Rect.unit (s := S3x176x1024) ![j.val, 0, 0] S1x176x1024.size inb)

theorem pay2 : k0_pay2 x0 (loaded x1 0 inb_S3x176x1024_S1x176x1024_0_0_0) (loaded x1 1 inb_S3x176x1024_S1x176x1024_1_0_0)
    (loaded x1 2 inb_S3x176x1024_S1x176x1024_2_0_0) (ix2 r k) = gradAt x0 x1 r k :=
  congrArg₂ (fun u v : EReal => u + v)
    (congrArg₂ (fun u v : EReal => u + v)
      (congrArg (fun u : EReal => x0 (ix2 r k) + u) (slab 0 x1 _ shapeCasts_S1x176x1024_S176x1024 r k))
      (slab 1 x1 _ shapeCasts_S1x176x1024_S176x1024 r k))
    (slab 2 x1 _ shapeCasts_S1x176x1024_S176x1024 r k)

theorem pay3 : k0_pay3 x0 (loaded x1 0 inb_S3x176x1024_S1x176x1024_0_0_0) (loaded x1 1 inb_S3x176x1024_S1x176x1024_1_0_0)
    (loaded x1 2 inb_S3x176x1024_S1x176x1024_2_0_0) x3 (ix2 r k) = meanAt x0 x1 x3 r k :=
  congrArg (mean (x3 (ix2 r k))) (pay2 x0 x1 r k)

theorem pay4 : k0_pay4 x0 (loaded x1 0 inb_S3x176x1024_S1x176x1024_0_0_0) (loaded x1 1 inb_S3x176x1024_S1x176x1024_1_0_0)
    (loaded x1 2 inb_S3x176x1024_S1x176x1024_2_0_0) x4 (ix2 r k) = squareAt x0 x1 x4 r k :=
  congrArg (square (x4 (ix2 r k))) (pay2 x0 x1 r k)

theorem pay1 : k0_pay1 x2
    (k0_pay5 x0 (loaded x1 0 inb_S3x176x1024_S1x176x1024_0_0_0) (loaded x1 1 inb_S3x176x1024_S1x176x1024_1_0_0)
      (loaded x1 2 inb_S3x176x1024_S1x176x1024_2_0_0) x3)
    (k0_pay6 x0 (loaded x1 0 inb_S3x176x1024_S1x176x1024_0_0_0) (loaded x1 1 inb_S3x176x1024_S1x176x1024_1_0_0)
      (loaded x1 2 inb_S3x176x1024_S1x176x1024_2_0_0) x4) (ix2 r k) = changeAt x0 x1 x2 x3 x4 r k :=
  congrArg₂ (change (x2 (ix2 r k))) (pay3 x0 x1 x3 r k) (pay4 x0 x1 x4 r k)

variable (c : Dev nD) (i : grid0.Coords)
  {a1 : Memref sig .tc .vmem S176x1024 .bf16} (h1 : a1.IsWhole) {a2 : Memref sig .tc .vmem S3x176x1024 .bf16} (h2 : a2.IsWhole) {a3 : Memref sig .tc .vmem S176x1024 .f32} (h3 : a3.IsWhole)
  {a4 : Memref sig .tc .vmem S176x1024 .f32} (h4 : a4.IsWhole) {a5 : Memref sig .tc .vmem S176x1024 .f32} (h5 : a5.IsWhole) {a7 : Memref sig .tc .vmem S176x1024 .f32} (h7 : a7.IsWhole)
  {a8 : Memref sig .tc .vmem S176x1024 .f32} (h8 : a8.IsWhole) {a9 : Memref sig .tc .vmem S176x1024 .f32} (h9 : a9.IsWhole) {a10 : Memref sig .tc .vmem S176x1024 .f32} (h10 : a10.IsWhole)

theorem stored5 : out0_A_5 c i a1 h1 a2 h2 a3 h3 a4 h4 a5 h5 a7 h7 a8 h8 a9 h9 a10 h10 x0 x1 x2 x3 x4 (ix2 r k) = gradAt x0 x1 r k := by
  unfold out0_A_5 kernelRun0_A
  dsimp only
  rw [store_whole _ _ origin]
  simp only [load_whole]
  rw [View.ld_unit_zero origin]
  exact pay2 x0 x1 r k

theorem stored6 : out0_A_6 c i a1 h1 a2 h2 a3 h3 a4 h4 a5 h5 a7 h7 a8 h8 a9 h9 a10 h10 x0 x1 x2 x3 x4 (ix2 r k) = changeAt x0 x1 x2 x3 x4 r k := by
  unfold out0_A_6 kernelRun0_A
  dsimp only
  unfold kernelRun0_A.sl.r kernelRun0_A.sl.r_3 kernelRun0_A.sl.r_4
  rw [store_whole _ _ origin]
  simp only [load_whole]
  rw [View.ld_unit_zero origin, View.ld_unit_zero origin, View.ld_unit_zero origin, View.ld_unit_zero origin]
  exact pay1 x0 x1 x2 x3 x4 r k

theorem stored7 : out0_A_7 c i a1 h1 a2 h2 a3 h3 a4 h4 a5 h5 a7 h7 a8 h8 a9 h9 a10 h10 x0 x1 x2 x3 x4 (ix2 r k) = meanAt x0 x1 x3 r k := by
  unfold out0_A_7 kernelRun0_A
  dsimp only
  unfold kernelRun0_A.sl.r_1
  rw [store_whole _ _ origin]
  simp only [load_whole]
  rw [View.ld_unit_zero origin, View.ld_unit_zero origin]
  exact pay3 x0 x1 x3 r k

theorem stored8 : out0_A_8 c i a1 h1 a2 h2 a3 h3 a4 h4 a5 h5 a7 h7 a8 h8 a9 h9 a10 h10 x0 x1 x2 x3 x4 (ix2 r k) = squareAt x0 x1 x4 r k := by
  unfold out0_A_8 kernelRun0_A
  dsimp only
  unfold kernelRun0_A.sl.r_2
  rw [store_whole _ _ origin]
  simp only [load_whole]
  rw [View.ld_unit_zero origin, View.ld_unit_zero origin]
  exact pay4 x0 x1 x4 r k

end Block

variable (m : (ℓ : Loc nD τ sig) → Buf (Elt Ideal) ℓ) (c : Dev nD)

/-! ### What a point reads -/

theorem index0 : ∀ t : Fin grid0.N, win0_0.index t 0 = t.val ∧ win0_0.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel

theorem read0 (t : Fin cfg0.N) (r : Fin 176) (k : Fin 1024) (R : Fin 704) (hR : R.val = 176 * t.val + r.val) :
    (iblk m c 0 t : Vec Ideal S176x1024 .bf16) (ix2 r k) = (m ((c : Thread nD τ).loc main_arg0) : FVec Ideal S704x1024 .bf16) (ix2 R k) := by
  have hi := index0 t
  unfold iblk
  rw [View.read_apply]
  refine (congrArg (V m c main_arg0) ?_).trans (congrFun (V_main_arg0 m c) _)
  funext a
  apply Fin.ext
  match a with
  | ⟨0, _⟩ => show win0_0.index t 0 * 176 + 1 * r.val = R.val; rw [hi.1]; omega
  | ⟨1, _⟩ => show win0_0.index t 1 * 1024 + 1 * k.val = k.val; rw [hi.2]; omega

theorem read2 (t : Fin cfg0.N) (r : Fin 176) (k : Fin 1024) (R : Fin 704) (hR : R.val = 176 * t.val + r.val) :
    (iblk m c 2 t : Vec Ideal S176x1024 .f32) (ix2 r k) = (m ((c : Thread nD τ).loc main_arg2) : FVec Ideal S704x1024 .f32) (ix2 R k) := by
  have hi := index2 t
  unfold iblk
  rw [View.read_apply]
  refine (congrArg (V m c main_arg2) ?_).trans (congrFun (V_main_arg2 m c) _)
  funext a
  apply Fin.ext
  match a with
  | ⟨0, _⟩ => show win0_2.index t 0 * 176 + 1 * r.val = R.val; rw [hi.1]; omega
  | ⟨1, _⟩ => show win0_2.index t 1 * 1024 + 1 * k.val = k.val; rw [hi.2]; omega

theorem read3 (t : Fin cfg0.N) (r : Fin 176) (k : Fin 1024) (R : Fin 704) (hR : R.val = 176 * t.val + r.val) :
    (iblk m c 3 t : Vec Ideal S176x1024 .f32) (ix2 r k) = (m ((c : Thread nD τ).loc main_arg3) : FVec Ideal S704x1024 .f32) (ix2 R k) := by
  have hi := index3 t
  unfold iblk
  rw [View.read_apply]
  refine (congrArg (V m c main_arg3) ?_).trans (congrFun (V_main_arg3 m c) _)
  funext a
  apply Fin.ext
  match a with
  | ⟨0, _⟩ => show win0_3.index t 0 * 176 + 1 * r.val = R.val; rw [hi.1]; omega
  | ⟨1, _⟩ => show win0_3.index t 1 * 1024 + 1 * k.val = k.val; rw [hi.2]; omega

theorem read4 (t : Fin cfg0.N) (r : Fin 176) (k : Fin 1024) (R : Fin 704) (hR : R.val = 176 * t.val + r.val) :
    (iblk m c 4 t : Vec Ideal S176x1024 .f32) (ix2 r k) = (m ((c : Thread nD τ).loc main_arg4) : FVec Ideal S704x1024 .f32) (ix2 R k) := by
  have hi := index4 t
  unfold iblk
  rw [View.read_apply]
  refine (congrArg (V m c main_arg4) ?_).trans (congrFun (V_main_arg4 m c) _)
  funext a
  apply Fin.ext
  match a with
  | ⟨0, _⟩ => show win0_4.index t 0 * 176 + 1 * r.val = R.val; rw [hi.1]; omega
  | ⟨1, _⟩ => show win0_4.index t 1 * 1024 + 1 * k.val = k.val; rw [hi.2]; omega

theorem index1 : ∀ t : Fin grid0.N, win0_1.index t 0 = 0 ∧ win0_1.index t 1 = t.val ∧ win0_1.index t 2 = 0 := by decide +kernel
theorem read1 (t : Fin cfg0.N) (j : Fin 3) (r : Fin 176) (k : Fin 1024) (R : Fin 704) (hR : R.val = 176 * t.val + r.val) :
    (iblk m c 1 t : Vec Ideal S3x176x1024 .bf16) (ix3 j r k) = (m ((c : Thread nD τ).loc main_arg1) : FVec Ideal S3x704x1024 .bf16) (ix3 j R k) := by
  have hi := index1 t
  unfold iblk
  rw [View.read_apply]
  refine (congrArg (V m c main_arg1) ?_).trans (congrFun (V_main_arg1 m c) _)
  funext a
  apply Fin.ext
  match a with
  | ⟨0, _⟩ => show win0_1.index t 0 * 3 + 1 * j.val = j.val; rw [hi.1]; omega
  | ⟨1, _⟩ => show win0_1.index t 1 * 176 + 1 * r.val = R.val; rw [hi.2.1]; omega
  | ⟨2, _⟩ => show win0_1.index t 2 * 1024 + 1 * k.val = k.val; rw [hi.2.2]; omega

/-- A point's step is the arrays', at its rows. -/
theorem grad_rows (t : Fin cfg0.N) (r : Fin 176) (k : Fin 1024) (R : Fin 704) (hR : R.val = 176 * t.val + r.val) :
    gradAt (iblk m c 0 t : Vec Ideal S176x1024 .bf16) (iblk m c 1 t : Vec Ideal S3x176x1024 .bf16) r k
      = gradAt (m ((c : Thread nD τ).loc main_arg0) : FVec Ideal S704x1024 .bf16) (m ((c : Thread nD τ).loc main_arg1) : FVec Ideal S3x704x1024 .bf16) R k := by
  unfold gradAt
  rw [read0 m c t r k R hR, read1 m c t 0 r k R hR, read1 m c t 1 r k R hR, read1 m c t 2 r k R hR]

/-! ### What the launch leaves -/

/-- Output 5: the gradient. -/
theorem left5 : (dats m 0 c).arrAt 5 cfg0.N
    = table (gradAt (m ((c : Thread nD τ).loc main_arg0)) (m ((c : Thread nD τ).loc main_arg1))) := by
  refine eq_table fun R k => ?_
  have hr := R.isLt
  have hN : cfg0.N = 4 := N_0
  let t : Fin cfg0.N := ⟨R.val / 176, by omega⟩
  let s : Fin 176 := ⟨R.val % 176, Nat.mod_lt _ (by decide)⟩
  have ht : R.val = 176 * t.val + s.val := by show R.val = 176 * (R.val / 176) + R.val % 176; omega
  have hi := index5 t
  have hb := congrFun ((Value.blocks5 m c t (flush0_5 t)).trans (Value.flushed5_A m c t)) (ix2 s k)
  rw [View.read_apply] at hb
  refine (congrArg ((dats m 0 c).arrAt 5 cfg0.N) ?_).trans (hb.trans ((stored5 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_5.index t 0 * 176 + 1 * s.val; rw [hi.1]; omega
    | ⟨1, _⟩ => show k.val = win0_5.index t 1 * 1024 + 1 * k.val; rw [hi.2]; omega
  · exact grad_rows m c t s k R ht

/-- Output 6: the change of the weight. -/
theorem left6 : (dats m 0 c).arrAt 6 cfg0.N
    = table (changeAt (m ((c : Thread nD τ).loc main_arg0)) (m ((c : Thread nD τ).loc main_arg1)) (m ((c : Thread nD τ).loc main_arg2)) (m ((c : Thread nD τ).loc main_arg3)) (m ((c : Thread nD τ).loc main_arg4))) := by
  refine eq_table fun R k => ?_
  have hr := R.isLt
  have hN : cfg0.N = 4 := N_0
  let t : Fin cfg0.N := ⟨R.val / 176, by omega⟩
  let s : Fin 176 := ⟨R.val % 176, Nat.mod_lt _ (by decide)⟩
  have ht : R.val = 176 * t.val + s.val := by show R.val = 176 * (R.val / 176) + R.val % 176; omega
  have hi := index6 t
  have hb := congrFun ((Value.blocks6 m c t (flush0_6 t)).trans (Value.flushed6_A m c t)) (ix2 s k)
  rw [View.read_apply] at hb
  refine (congrArg ((dats m 0 c).arrAt 6 cfg0.N) ?_).trans (hb.trans ((stored6 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_6.index t 0 * 176 + 1 * s.val; rw [hi.1]; omega
    | ⟨1, _⟩ => show k.val = win0_6.index t 1 * 1024 + 1 * k.val; rw [hi.2]; omega
  · unfold changeAt meanAt squareAt
    rw [grad_rows m c t s k R ht, read2 m c t s k R ht, read3 m c t s k R ht, read4 m c t s k R ht]

/-- Output 7: the running mean. -/
theorem left7 : (dats m 0 c).arrAt 7 cfg0.N
    = table (meanAt (m ((c : Thread nD τ).loc main_arg0)) (m ((c : Thread nD τ).loc main_arg1)) (m ((c : Thread nD τ).loc main_arg3))) := by
  refine eq_table fun R k => ?_
  have hr := R.isLt
  have hN : cfg0.N = 4 := N_0
  let t : Fin cfg0.N := ⟨R.val / 176, by omega⟩
  let s : Fin 176 := ⟨R.val % 176, Nat.mod_lt _ (by decide)⟩
  have ht : R.val = 176 * t.val + s.val := by show R.val = 176 * (R.val / 176) + R.val % 176; omega
  have hi := index7 t
  have hb := congrFun ((Value.blocks7 m c t (flush0_7 t)).trans (Value.flushed7_A m c t)) (ix2 s k)
  rw [View.read_apply] at hb
  refine (congrArg ((dats m 0 c).arrAt 7 cfg0.N) ?_).trans (hb.trans ((stored7 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_7.index t 0 * 176 + 1 * s.val; rw [hi.1]; omega
    | ⟨1, _⟩ => show k.val = win0_7.index t 1 * 1024 + 1 * k.val; rw [hi.2]; omega
  · unfold meanAt
    rw [grad_rows m c t s k R ht, read3 m c t s k R ht]

/-- Output 8: the running mean of the squares. -/
theorem left8 : (dats m 0 c).arrAt 8 cfg0.N
    = table (squareAt (m ((c : Thread nD τ).loc main_arg0)) (m ((c : Thread nD τ).loc main_arg1)) (m ((c : Thread nD τ).loc main_arg4))) := by
  refine eq_table fun R k => ?_
  have hr := R.isLt
  have hN : cfg0.N = 4 := N_0
  let t : Fin cfg0.N := ⟨R.val / 176, by omega⟩
  let s : Fin 176 := ⟨R.val % 176, Nat.mod_lt _ (by decide)⟩
  have ht : R.val = 176 * t.val + s.val := by show R.val = 176 * (R.val / 176) + R.val % 176; omega
  have hi := index8 t
  have hb := congrFun ((Value.blocks8 m c t (flush0_8 t)).trans (Value.flushed8_A m c t)) (ix2 s k)
  rw [View.read_apply] at hb
  refine (congrArg ((dats m 0 c).arrAt 8 cfg0.N) ?_).trans (hb.trans ((stored8 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_8.index t 0 * 176 + 1 * s.val; rw [hi.1]; omega
    | ⟨1, _⟩ => show k.val = win0_8.index t 1 * 1024 + 1 * k.val; rw [hi.2]; omega
  · unfold squareAt
    rw [grad_rows m c t s k R ht, read4 m c t s k R ht]

/-! ### The reference -/

section Reference

open Cert.AdamUpReferenceIdeal.Read

variable (x0 : FVec Ideal S704x1024 .bf16) (x1 : FVec Ideal S3x704x1024 .bf16) (x2 x3 x4 : FVec Ideal S704x1024 .f32)

theorem wanted5_at (r : Fin 704) (k : Fin 1024) : val_main_v3 (F := Ideal) x0 x1 (ix2 r k) = gradAt x0 x1 r k := by
  rw [val_main_v3_apply, val_main_v2_apply]
  refine (total_eq (x0 (ix2 r k)) fun q : Fin 3 => x1 (idx_main_v2 (ix2 r k) q)).trans ?_
  have e : ∀ q : Fin 3, idx_main_v2 (ix2 r k) q = ix3 q r k := fun q => funext fun a => by
    match a with | ⟨0, _⟩ => rfl | ⟨1, _⟩ => rfl | ⟨2, _⟩ => rfl
  unfold gradAt
  rw [e 0, e 1, e 2]

theorem wanted7_at (r : Fin 704) (k : Fin 1024) : val_main_v8 (F := Ideal) x0 x1 x3 (ix2 r k) = meanAt x0 x1 x3 r k := by
  rw [val_main_v8_apply, val_main_v5_apply, val_main_v7_apply, val_main_v4_apply, val_main_v6_apply, wanted5_at]
  rfl

theorem wanted8_at (r : Fin 704) (k : Fin 1024) : val_main_v14 (F := Ideal) x0 x1 x4 (ix2 r k) = squareAt x0 x1 x4 r k := by
  rw [val_main_v14_apply, val_main_v10_apply, val_main_v13_apply, val_main_v9_apply, val_main_v12_apply, val_main_v11_apply, wanted5_at]
  rfl

theorem wanted6_at (r : Fin 704) (k : Fin 1024) : val_main_v27 (F := Ideal) x0 x1 x2 x3 x4 (ix2 r k) = changeAt x0 x1 x2 x3 x4 r k := by
  rw [val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v15_apply, wanted7_at, wanted8_at]
  rfl

theorem wanted5 : val_main_v3 (F := Ideal) x0 x1 = table (gradAt x0 x1) := eq_table (wanted5_at x0 x1)
theorem wanted6 : val_main_v27 (F := Ideal) x0 x1 x2 x3 x4 = table (changeAt x0 x1 x2 x3 x4) := eq_table (wanted6_at x0 x1 x2 x3 x4)
theorem wanted7 : val_main_v8 (F := Ideal) x0 x1 x3 = table (meanAt x0 x1 x3) := eq_table (wanted7_at x0 x1 x3)
theorem wanted8 : val_main_v14 (F := Ideal) x0 x1 x4 = table (squareAt x0 x1 x4) := eq_table (wanted8_at x0 x1 x4)

end Reference

/-! ### The claims -/

theorem kernel_frame : Cert.quiescent_AdamUp := fun m g _ => Cert.AdamUp.Gen.frame m g
theorem ideal_frame : Cert.quiescent_AdamUpIdeal := fun m g _ => Cert.AdamUpIdeal.Gen.frame m g
theorem reference_frame : Cert.quiescent_AdamUpReferenceIdeal := fun m g _ =>
  (θ_run _ _ _).mono (fun r hr => ⟨fun c => (hr c).2.2.2.2, sem_eq_zero_of_no_sems (by decide) r.2⟩)
    (Cert.AdamUpReferenceIdeal.Value.run m g)

/-- Kernel and reference leave the same gradient, change and running means. -/
theorem equation : Cert.algebraic_AdamUpIdeal_AdamUpReferenceIdeal := by
  intro m g m' g' _ hm
  refine ⟨fun c => (dats m 0 c).arrAt 5 cfg0.N, fun c => (dats m 0 c).arrAt 6 cfg0.N, fun c => (dats m 0 c).arrAt 7 cfg0.N,
    fun c => (dats m 0 c).arrAt 8 cfg0.N, Cert.AdamUpIdeal.Value.run_blocks m g, ?_⟩
  refine (θ_run _ _ _).mono (fun r hr c => ?_) (Cert.AdamUpReferenceIdeal.Value.run m' g')
  obtain ⟨h0, h1, h2, h3, h4, -⟩ := hm c
  refine ⟨(hr c).1.trans ?_, (hr c).2.1.trans ?_, (hr c).2.2.1.trans ?_, (hr c).2.2.2.1.trans ?_, (hr c).2.2.2.2⟩
  · refine (Cert.AdamUpReferenceIdeal.Read.val_main_v3_eq _ _).trans ((wanted5 _ _).trans ?_)
    rw [h0, h1]
    exact (left5 m c).symm
  · refine (Cert.AdamUpReferenceIdeal.Read.val_main_v27_eq _ _ _ _ _).trans ((wanted6 _ _ _ _ _).trans ?_)
    rw [h0, h1, h2, h3, h4]
    exact (left6 m c).symm
  · refine (Cert.AdamUpReferenceIdeal.Read.val_main_v8_eq _ _ _).trans ((wanted7 _ _ _).trans ?_)
    rw [h0, h1, h3]
    exact (left7 m c).symm
  · refine (Cert.AdamUpReferenceIdeal.Read.val_main_v14_eq _ _ _).trans ((wanted8 _ _ _).trans ?_)
    rw [h0, h1, h4]
    exact (left8 m c).symm

end AdamUp

end
-- ==== Proof.Adam.Down.lean ====
/- AdamW's step of the down-projection, block by block, and what the reference computes. -/
module

public import proofs.«01_k».proof.Defs
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Value
public import proofs.«01_k».proof.Proof.Gen.AdamDownReferenceIdeal
public import proofs.«01_k».proof.Proof.Gen.AdamDownReferenceIdeal.Run
public import proofs.«01_k».proof.Proof.Gen.AdamDownReferenceIdeal.Read
public import proofs.«01_k».proof.Proof.Adam.Step
public import Idealize.ShloMosaic.Lib.Quiescent

@[expose] public section

set_option maxRecDepth 65536

noncomputable section

namespace AdamDown

open Idealize.ShloMosaic Idealize.ShloMosaic.TcCoe Idealize.SL.Sem
open Cert.AdamDownIdeal Cert.AdamDownIdeal.Gen AdamStep

/-! ### A block -/

section Block

variable (x0 : Vec Ideal S176x1024 .bf16) (x1 : Vec Ideal S3x176x1024 .bf16) (x2 x3 x4 : Vec Ideal S176x1024 .f32)
  (r : Fin 176) (k : Fin 1024)

/-- A slab of the arrived shares, as the body loads it. -/
abbrev loaded (j : Fin 3) (inb : ∀ a, (![j.val, 0, 0] : Fin 3 → ℕ) a + S1x176x1024.size a ≤ S3x176x1024.size a) :
    Vec Ideal S1x176x1024 .bf16 :=
  View.ld x1 (Rect.unit (s := S3x176x1024) ![j.val, 0, 0] S1x176x1024.size inb)

theorem pay2 : k0_pay2 x0 (loaded x1 0 inb_S3x176x1024_S1x176x1024_0_0_0) (loaded x1 1 inb_S3x176x1024_S1x176x1024_1_0_0)
    (loaded x1 2 inb_S3x176x1024_S1x176x1024_2_0_0) (ix2 r k) = gradAt x0 x1 r k :=
  congrArg₂ (fun u v : EReal => u + v)
    (congrArg₂ (fun u v : EReal => u + v)
      (congrArg (fun u : EReal => x0 (ix2 r k) + u) (slab 0 x1 _ shapeCasts_S1x176x1024_S176x1024 r k))
      (slab 1 x1 _ shapeCasts_S1x176x1024_S176x1024 r k))
    (slab 2 x1 _ shapeCasts_S1x176x1024_S176x1024 r k)

theorem pay3 : k0_pay3 x0 (loaded x1 0 inb_S3x176x1024_S1x176x1024_0_0_0) (loaded x1 1 inb_S3x176x1024_S1x176x1024_1_0_0)
    (loaded x1 2 inb_S3x176x1024_S1x176x1024_2_0_0) x3 (ix2 r k) = meanAt x0 x1 x3 r k :=
  congrArg (mean (x3 (ix2 r k))) (pay2 x0 x1 r k)

theorem pay4 : k0_pay4 x0 (loaded x1 0 inb_S3x176x1024_S1x176x1024_0_0_0) (loaded x1 1 inb_S3x176x1024_S1x176x1024_1_0_0)
    (loaded x1 2 inb_S3x176x1024_S1x176x1024_2_0_0) x4 (ix2 r k) = squareAt x0 x1 x4 r k :=
  congrArg (square (x4 (ix2 r k))) (pay2 x0 x1 r k)

theorem pay1 : k0_pay1 x2
    (k0_pay5 x0 (loaded x1 0 inb_S3x176x1024_S1x176x1024_0_0_0) (loaded x1 1 inb_S3x176x1024_S1x176x1024_1_0_0)
      (loaded x1 2 inb_S3x176x1024_S1x176x1024_2_0_0) x3)
    (k0_pay6 x0 (loaded x1 0 inb_S3x176x1024_S1x176x1024_0_0_0) (loaded x1 1 inb_S3x176x1024_S1x176x1024_1_0_0)
      (loaded x1 2 inb_S3x176x1024_S1x176x1024_2_0_0) x4) (ix2 r k) = changeAt x0 x1 x2 x3 x4 r k :=
  congrArg₂ (change (x2 (ix2 r k))) (pay3 x0 x1 x3 r k) (pay4 x0 x1 x4 r k)

variable (c : Dev nD) (i : grid0.Coords)
  {a1 : Memref sig .tc .vmem S176x1024 .bf16} (h1 : a1.IsWhole) {a2 : Memref sig .tc .vmem S3x176x1024 .bf16} (h2 : a2.IsWhole) {a3 : Memref sig .tc .vmem S176x1024 .f32} (h3 : a3.IsWhole)
  {a4 : Memref sig .tc .vmem S176x1024 .f32} (h4 : a4.IsWhole) {a5 : Memref sig .tc .vmem S176x1024 .f32} (h5 : a5.IsWhole) {a7 : Memref sig .tc .vmem S176x1024 .f32} (h7 : a7.IsWhole)
  {a8 : Memref sig .tc .vmem S176x1024 .f32} (h8 : a8.IsWhole) {a9 : Memref sig .tc .vmem S176x1024 .f32} (h9 : a9.IsWhole) {a10 : Memref sig .tc .vmem S176x1024 .f32} (h10 : a10.IsWhole)

theorem stored5 : out0_A_5 c i a1 h1 a2 h2 a3 h3 a4 h4 a5 h5 a7 h7 a8 h8 a9 h9 a10 h10 x0 x1 x2 x3 x4 (ix2 r k) = gradAt x0 x1 r k := by
  unfold out0_A_5 kernelRun0_A
  dsimp only
  rw [store_whole _ _ origin]
  simp only [load_whole]
  rw [View.ld_unit_zero origin]
  exact pay2 x0 x1 r k

theorem stored6 : out0_A_6 c i a1 h1 a2 h2 a3 h3 a4 h4 a5 h5 a7 h7 a8 h8 a9 h9 a10 h10 x0 x1 x2 x3 x4 (ix2 r k) = changeAt x0 x1 x2 x3 x4 r k := by
  unfold out0_A_6 kernelRun0_A
  dsimp only
  unfold kernelRun0_A.sl.r kernelRun0_A.sl.r_3 kernelRun0_A.sl.r_4
  rw [store_whole _ _ origin]
  simp only [load_whole]
  rw [View.ld_unit_zero origin, View.ld_unit_zero origin, View.ld_unit_zero origin, View.ld_unit_zero origin]
  exact pay1 x0 x1 x2 x3 x4 r k

theorem stored7 : out0_A_7 c i a1 h1 a2 h2 a3 h3 a4 h4 a5 h5 a7 h7 a8 h8 a9 h9 a10 h10 x0 x1 x2 x3 x4 (ix2 r k) = meanAt x0 x1 x3 r k := by
  unfold out0_A_7 kernelRun0_A
  dsimp only
  unfold kernelRun0_A.sl.r_1
  rw [store_whole _ _ origin]
  simp only [load_whole]
  rw [View.ld_unit_zero origin, View.ld_unit_zero origin]
  exact pay3 x0 x1 x3 r k

theorem stored8 : out0_A_8 c i a1 h1 a2 h2 a3 h3 a4 h4 a5 h5 a7 h7 a8 h8 a9 h9 a10 h10 x0 x1 x2 x3 x4 (ix2 r k) = squareAt x0 x1 x4 r k := by
  unfold out0_A_8 kernelRun0_A
  dsimp only
  unfold kernelRun0_A.sl.r_2
  rw [store_whole _ _ origin]
  simp only [load_whole]
  rw [View.ld_unit_zero origin, View.ld_unit_zero origin]
  exact pay4 x0 x1 x4 r k

end Block

variable (m : (ℓ : Loc nD τ sig) → Buf (Elt Ideal) ℓ) (c : Dev nD)

/-! ### What a point reads -/

theorem index0 : ∀ t : Fin grid0.N, win0_0.index t 0 = t.val ∧ win0_0.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel

theorem read0 (t : Fin cfg0.N) (r : Fin 176) (k : Fin 1024) (R : Fin 352) (hR : R.val = 176 * t.val + r.val) :
    (iblk m c 0 t : Vec Ideal S176x1024 .bf16) (ix2 r k) = (m ((c : Thread nD τ).loc main_arg0) : FVec Ideal S352x1024 .bf16) (ix2 R k) := by
  have hi := index0 t
  unfold iblk
  rw [View.read_apply]
  refine (congrArg (V m c main_arg0) ?_).trans (congrFun (V_main_arg0 m c) _)
  funext a
  apply Fin.ext
  match a with
  | ⟨0, _⟩ => show win0_0.index t 0 * 176 + 1 * r.val = R.val; rw [hi.1]; omega
  | ⟨1, _⟩ => show win0_0.index t 1 * 1024 + 1 * k.val = k.val; rw [hi.2]; omega

theorem read2 (t : Fin cfg0.N) (r : Fin 176) (k : Fin 1024) (R : Fin 352) (hR : R.val = 176 * t.val + r.val) :
    (iblk m c 2 t : Vec Ideal S176x1024 .f32) (ix2 r k) = (m ((c : Thread nD τ).loc main_arg2) : FVec Ideal S352x1024 .f32) (ix2 R k) := by
  have hi := index2 t
  unfold iblk
  rw [View.read_apply]
  refine (congrArg (V m c main_arg2) ?_).trans (congrFun (V_main_arg2 m c) _)
  funext a
  apply Fin.ext
  match a with
  | ⟨0, _⟩ => show win0_2.index t 0 * 176 + 1 * r.val = R.val; rw [hi.1]; omega
  | ⟨1, _⟩ => show win0_2.index t 1 * 1024 + 1 * k.val = k.val; rw [hi.2]; omega

theorem read3 (t : Fin cfg0.N) (r : Fin 176) (k : Fin 1024) (R : Fin 352) (hR : R.val = 176 * t.val + r.val) :
    (iblk m c 3 t : Vec Ideal S176x1024 .f32) (ix2 r k) = (m ((c : Thread nD τ).loc main_arg3) : FVec Ideal S352x1024 .f32) (ix2 R k) := by
  have hi := index3 t
  unfold iblk
  rw [View.read_apply]
  refine (congrArg (V m c main_arg3) ?_).trans (congrFun (V_main_arg3 m c) _)
  funext a
  apply Fin.ext
  match a with
  | ⟨0, _⟩ => show win0_3.index t 0 * 176 + 1 * r.val = R.val; rw [hi.1]; omega
  | ⟨1, _⟩ => show win0_3.index t 1 * 1024 + 1 * k.val = k.val; rw [hi.2]; omega

theorem read4 (t : Fin cfg0.N) (r : Fin 176) (k : Fin 1024) (R : Fin 352) (hR : R.val = 176 * t.val + r.val) :
    (iblk m c 4 t : Vec Ideal S176x1024 .f32) (ix2 r k) = (m ((c : Thread nD τ).loc main_arg4) : FVec Ideal S352x1024 .f32) (ix2 R k) := by
  have hi := index4 t
  unfold iblk
  rw [View.read_apply]
  refine (congrArg (V m c main_arg4) ?_).trans (congrFun (V_main_arg4 m c) _)
  funext a
  apply Fin.ext
  match a with
  | ⟨0, _⟩ => show win0_4.index t 0 * 176 + 1 * r.val = R.val; rw [hi.1]; omega
  | ⟨1, _⟩ => show win0_4.index t 1 * 1024 + 1 * k.val = k.val; rw [hi.2]; omega

theorem index1 : ∀ t : Fin grid0.N, win0_1.index t 0 = 0 ∧ win0_1.index t 1 = t.val ∧ win0_1.index t 2 = 0 := by decide +kernel
theorem read1 (t : Fin cfg0.N) (j : Fin 3) (r : Fin 176) (k : Fin 1024) (R : Fin 352) (hR : R.val = 176 * t.val + r.val) :
    (iblk m c 1 t : Vec Ideal S3x176x1024 .bf16) (ix3 j r k) = (m ((c : Thread nD τ).loc main_arg1) : FVec Ideal S3x352x1024 .bf16) (ix3 j R k) := by
  have hi := index1 t
  unfold iblk
  rw [View.read_apply]
  refine (congrArg (V m c main_arg1) ?_).trans (congrFun (V_main_arg1 m c) _)
  funext a
  apply Fin.ext
  match a with
  | ⟨0, _⟩ => show win0_1.index t 0 * 3 + 1 * j.val = j.val; rw [hi.1]; omega
  | ⟨1, _⟩ => show win0_1.index t 1 * 176 + 1 * r.val = R.val; rw [hi.2.1]; omega
  | ⟨2, _⟩ => show win0_1.index t 2 * 1024 + 1 * k.val = k.val; rw [hi.2.2]; omega

/-- A point's step is the arrays', at its rows. -/
theorem grad_rows (t : Fin cfg0.N) (r : Fin 176) (k : Fin 1024) (R : Fin 352) (hR : R.val = 176 * t.val + r.val) :
    gradAt (iblk m c 0 t : Vec Ideal S176x1024 .bf16) (iblk m c 1 t : Vec Ideal S3x176x1024 .bf16) r k
      = gradAt (m ((c : Thread nD τ).loc main_arg0) : FVec Ideal S352x1024 .bf16) (m ((c : Thread nD τ).loc main_arg1) : FVec Ideal S3x352x1024 .bf16) R k := by
  unfold gradAt
  rw [read0 m c t r k R hR, read1 m c t 0 r k R hR, read1 m c t 1 r k R hR, read1 m c t 2 r k R hR]

/-! ### What the launch leaves -/

/-- Output 5: the gradient. -/
theorem left5 : (dats m 0 c).arrAt 5 cfg0.N
    = table (gradAt (m ((c : Thread nD τ).loc main_arg0)) (m ((c : Thread nD τ).loc main_arg1))) := by
  refine eq_table fun R k => ?_
  have hr := R.isLt
  have hN : cfg0.N = 2 := N_0
  let t : Fin cfg0.N := ⟨R.val / 176, by omega⟩
  let s : Fin 176 := ⟨R.val % 176, Nat.mod_lt _ (by decide)⟩
  have ht : R.val = 176 * t.val + s.val := by show R.val = 176 * (R.val / 176) + R.val % 176; omega
  have hi := index5 t
  have hb := congrFun ((Value.blocks5 m c t (flush0_5 t)).trans (Value.flushed5_A m c t)) (ix2 s k)
  rw [View.read_apply] at hb
  refine (congrArg ((dats m 0 c).arrAt 5 cfg0.N) ?_).trans (hb.trans ((stored5 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_5.index t 0 * 176 + 1 * s.val; rw [hi.1]; omega
    | ⟨1, _⟩ => show k.val = win0_5.index t 1 * 1024 + 1 * k.val; rw [hi.2]; omega
  · exact grad_rows m c t s k R ht

/-- Output 6: the change of the weight. -/
theorem left6 : (dats m 0 c).arrAt 6 cfg0.N
    = table (changeAt (m ((c : Thread nD τ).loc main_arg0)) (m ((c : Thread nD τ).loc main_arg1)) (m ((c : Thread nD τ).loc main_arg2)) (m ((c : Thread nD τ).loc main_arg3)) (m ((c : Thread nD τ).loc main_arg4))) := by
  refine eq_table fun R k => ?_
  have hr := R.isLt
  have hN : cfg0.N = 2 := N_0
  let t : Fin cfg0.N := ⟨R.val / 176, by omega⟩
  let s : Fin 176 := ⟨R.val % 176, Nat.mod_lt _ (by decide)⟩
  have ht : R.val = 176 * t.val + s.val := by show R.val = 176 * (R.val / 176) + R.val % 176; omega
  have hi := index6 t
  have hb := congrFun ((Value.blocks6 m c t (flush0_6 t)).trans (Value.flushed6_A m c t)) (ix2 s k)
  rw [View.read_apply] at hb
  refine (congrArg ((dats m 0 c).arrAt 6 cfg0.N) ?_).trans (hb.trans ((stored6 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_6.index t 0 * 176 + 1 * s.val; rw [hi.1]; omega
    | ⟨1, _⟩ => show k.val = win0_6.index t 1 * 1024 + 1 * k.val; rw [hi.2]; omega
  · unfold changeAt meanAt squareAt
    rw [grad_rows m c t s k R ht, read2 m c t s k R ht, read3 m c t s k R ht, read4 m c t s k R ht]

/-- Output 7: the running mean. -/
theorem left7 : (dats m 0 c).arrAt 7 cfg0.N
    = table (meanAt (m ((c : Thread nD τ).loc main_arg0)) (m ((c : Thread nD τ).loc main_arg1)) (m ((c : Thread nD τ).loc main_arg3))) := by
  refine eq_table fun R k => ?_
  have hr := R.isLt
  have hN : cfg0.N = 2 := N_0
  let t : Fin cfg0.N := ⟨R.val / 176, by omega⟩
  let s : Fin 176 := ⟨R.val % 176, Nat.mod_lt _ (by decide)⟩
  have ht : R.val = 176 * t.val + s.val := by show R.val = 176 * (R.val / 176) + R.val % 176; omega
  have hi := index7 t
  have hb := congrFun ((Value.blocks7 m c t (flush0_7 t)).trans (Value.flushed7_A m c t)) (ix2 s k)
  rw [View.read_apply] at hb
  refine (congrArg ((dats m 0 c).arrAt 7 cfg0.N) ?_).trans (hb.trans ((stored7 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_7.index t 0 * 176 + 1 * s.val; rw [hi.1]; omega
    | ⟨1, _⟩ => show k.val = win0_7.index t 1 * 1024 + 1 * k.val; rw [hi.2]; omega
  · unfold meanAt
    rw [grad_rows m c t s k R ht, read3 m c t s k R ht]

/-- Output 8: the running mean of the squares. -/
theorem left8 : (dats m 0 c).arrAt 8 cfg0.N
    = table (squareAt (m ((c : Thread nD τ).loc main_arg0)) (m ((c : Thread nD τ).loc main_arg1)) (m ((c : Thread nD τ).loc main_arg4))) := by
  refine eq_table fun R k => ?_
  have hr := R.isLt
  have hN : cfg0.N = 2 := N_0
  let t : Fin cfg0.N := ⟨R.val / 176, by omega⟩
  let s : Fin 176 := ⟨R.val % 176, Nat.mod_lt _ (by decide)⟩
  have ht : R.val = 176 * t.val + s.val := by show R.val = 176 * (R.val / 176) + R.val % 176; omega
  have hi := index8 t
  have hb := congrFun ((Value.blocks8 m c t (flush0_8 t)).trans (Value.flushed8_A m c t)) (ix2 s k)
  rw [View.read_apply] at hb
  refine (congrArg ((dats m 0 c).arrAt 8 cfg0.N) ?_).trans (hb.trans ((stored8 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_8.index t 0 * 176 + 1 * s.val; rw [hi.1]; omega
    | ⟨1, _⟩ => show k.val = win0_8.index t 1 * 1024 + 1 * k.val; rw [hi.2]; omega
  · unfold squareAt
    rw [grad_rows m c t s k R ht, read4 m c t s k R ht]

/-! ### The reference -/

section Reference

open Cert.AdamDownReferenceIdeal.Read

variable (x0 : FVec Ideal S352x1024 .bf16) (x1 : FVec Ideal S3x352x1024 .bf16) (x2 x3 x4 : FVec Ideal S352x1024 .f32)

theorem wanted5_at (r : Fin 352) (k : Fin 1024) : val_main_v3 (F := Ideal) x0 x1 (ix2 r k) = gradAt x0 x1 r k := by
  rw [val_main_v3_apply, val_main_v2_apply]
  refine (total_eq (x0 (ix2 r k)) fun q : Fin 3 => x1 (idx_main_v2 (ix2 r k) q)).trans ?_
  have e : ∀ q : Fin 3, idx_main_v2 (ix2 r k) q = ix3 q r k := fun q => funext fun a => by
    match a with | ⟨0, _⟩ => rfl | ⟨1, _⟩ => rfl | ⟨2, _⟩ => rfl
  unfold gradAt
  rw [e 0, e 1, e 2]

theorem wanted7_at (r : Fin 352) (k : Fin 1024) : val_main_v8 (F := Ideal) x0 x1 x3 (ix2 r k) = meanAt x0 x1 x3 r k := by
  rw [val_main_v8_apply, val_main_v5_apply, val_main_v7_apply, val_main_v4_apply, val_main_v6_apply, wanted5_at]
  rfl

theorem wanted8_at (r : Fin 352) (k : Fin 1024) : val_main_v14 (F := Ideal) x0 x1 x4 (ix2 r k) = squareAt x0 x1 x4 r k := by
  rw [val_main_v14_apply, val_main_v10_apply, val_main_v13_apply, val_main_v9_apply, val_main_v12_apply, val_main_v11_apply, wanted5_at]
  rfl

theorem wanted6_at (r : Fin 352) (k : Fin 1024) : val_main_v27 (F := Ideal) x0 x1 x2 x3 x4 (ix2 r k) = changeAt x0 x1 x2 x3 x4 r k := by
  rw [val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v15_apply, wanted7_at, wanted8_at]
  rfl

theorem wanted5 : val_main_v3 (F := Ideal) x0 x1 = table (gradAt x0 x1) := eq_table (wanted5_at x0 x1)
theorem wanted6 : val_main_v27 (F := Ideal) x0 x1 x2 x3 x4 = table (changeAt x0 x1 x2 x3 x4) := eq_table (wanted6_at x0 x1 x2 x3 x4)
theorem wanted7 : val_main_v8 (F := Ideal) x0 x1 x3 = table (meanAt x0 x1 x3) := eq_table (wanted7_at x0 x1 x3)
theorem wanted8 : val_main_v14 (F := Ideal) x0 x1 x4 = table (squareAt x0 x1 x4) := eq_table (wanted8_at x0 x1 x4)

end Reference

/-! ### The claims -/

theorem kernel_frame : Cert.quiescent_AdamDown := fun m g _ => Cert.AdamDown.Gen.frame m g
theorem ideal_frame : Cert.quiescent_AdamDownIdeal := fun m g _ => Cert.AdamDownIdeal.Gen.frame m g
theorem reference_frame : Cert.quiescent_AdamDownReferenceIdeal := fun m g _ =>
  (θ_run _ _ _).mono (fun r hr => ⟨fun c => (hr c).2.2.2.2, sem_eq_zero_of_no_sems (by decide) r.2⟩)
    (Cert.AdamDownReferenceIdeal.Value.run m g)

/-- Kernel and reference leave the same gradient, change and running means. -/
theorem equation : Cert.algebraic_AdamDownIdeal_AdamDownReferenceIdeal := by
  intro m g m' g' _ hm
  refine ⟨fun c => (dats m 0 c).arrAt 5 cfg0.N, fun c => (dats m 0 c).arrAt 6 cfg0.N, fun c => (dats m 0 c).arrAt 7 cfg0.N,
    fun c => (dats m 0 c).arrAt 8 cfg0.N, Cert.AdamDownIdeal.Value.run_blocks m g, ?_⟩
  refine (θ_run _ _ _).mono (fun r hr c => ?_) (Cert.AdamDownReferenceIdeal.Value.run m' g')
  obtain ⟨h0, h1, h2, h3, h4, -⟩ := hm c
  refine ⟨(hr c).1.trans ?_, (hr c).2.1.trans ?_, (hr c).2.2.1.trans ?_, (hr c).2.2.2.1.trans ?_, (hr c).2.2.2.2⟩
  · refine (Cert.AdamDownReferenceIdeal.Read.val_main_v3_eq _ _).trans ((wanted5 _ _).trans ?_)
    rw [h0, h1]
    exact (left5 m c).symm
  · refine (Cert.AdamDownReferenceIdeal.Read.val_main_v27_eq _ _ _ _ _).trans ((wanted6 _ _ _ _ _).trans ?_)
    rw [h0, h1, h2, h3, h4]
    exact (left6 m c).symm
  · refine (Cert.AdamDownReferenceIdeal.Read.val_main_v8_eq _ _ _).trans ((wanted7 _ _ _).trans ?_)
    rw [h0, h1, h3]
    exact (left7 m c).symm
  · refine (Cert.AdamDownReferenceIdeal.Read.val_main_v14_eq _ _ _).trans ((wanted8 _ _ _).trans ?_)
    rw [h0, h1, h4]
    exact (left8 m c).symm

end AdamDown

end
-- ==== Proof.Adam.Out.lean ====
/- AdamW's step of the output projection, block by block, and what the reference computes. -/
module

public import proofs.«01_k».proof.Defs
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamOutReferenceIdeal.Read
public import proofs.«01_k».proof.Proof.Adam.Step
public import Idealize.ShloMosaic.Lib.Quiescent

@[expose] public section

set_option maxRecDepth 65536

noncomputable section

namespace AdamOut

open Idealize.ShloMosaic Idealize.ShloMosaic.TcCoe Idealize.SL.Sem
open Cert.AdamOutIdeal Cert.AdamOutIdeal.Gen AdamStep

/-! ### A block -/

section Block

variable (x0 : Vec Ideal S64x1024 .bf16) (x1 : Vec Ideal S3x64x1024 .bf16) (x2 x3 x4 : Vec Ideal S64x1024 .f32)
  (r : Fin 64) (k : Fin 1024)

/-- A slab of the arrived shares, as the body loads it. -/
abbrev loaded (j : Fin 3) (inb : ∀ a, (![j.val, 0, 0] : Fin 3 → ℕ) a + S1x64x1024.size a ≤ S3x64x1024.size a) :
    Vec Ideal S1x64x1024 .bf16 :=
  View.ld x1 (Rect.unit (s := S3x64x1024) ![j.val, 0, 0] S1x64x1024.size inb)

theorem pay2 : k0_pay2 x0 (loaded x1 0 inb_S3x64x1024_S1x64x1024_0_0_0) (loaded x1 1 inb_S3x64x1024_S1x64x1024_1_0_0)
    (loaded x1 2 inb_S3x64x1024_S1x64x1024_2_0_0) (ix2 r k) = gradAt x0 x1 r k :=
  congrArg₂ (fun u v : EReal => u + v)
    (congrArg₂ (fun u v : EReal => u + v)
      (congrArg (fun u : EReal => x0 (ix2 r k) + u) (slab 0 x1 _ shapeCasts_S1x64x1024_S64x1024 r k))
      (slab 1 x1 _ shapeCasts_S1x64x1024_S64x1024 r k))
    (slab 2 x1 _ shapeCasts_S1x64x1024_S64x1024 r k)

theorem pay3 : k0_pay3 x0 (loaded x1 0 inb_S3x64x1024_S1x64x1024_0_0_0) (loaded x1 1 inb_S3x64x1024_S1x64x1024_1_0_0)
    (loaded x1 2 inb_S3x64x1024_S1x64x1024_2_0_0) x3 (ix2 r k) = meanAt x0 x1 x3 r k :=
  congrArg (mean (x3 (ix2 r k))) (pay2 x0 x1 r k)

theorem pay4 : k0_pay4 x0 (loaded x1 0 inb_S3x64x1024_S1x64x1024_0_0_0) (loaded x1 1 inb_S3x64x1024_S1x64x1024_1_0_0)
    (loaded x1 2 inb_S3x64x1024_S1x64x1024_2_0_0) x4 (ix2 r k) = squareAt x0 x1 x4 r k :=
  congrArg (square (x4 (ix2 r k))) (pay2 x0 x1 r k)

theorem pay1 : k0_pay1 x2
    (k0_pay5 x0 (loaded x1 0 inb_S3x64x1024_S1x64x1024_0_0_0) (loaded x1 1 inb_S3x64x1024_S1x64x1024_1_0_0)
      (loaded x1 2 inb_S3x64x1024_S1x64x1024_2_0_0) x3)
    (k0_pay6 x0 (loaded x1 0 inb_S3x64x1024_S1x64x1024_0_0_0) (loaded x1 1 inb_S3x64x1024_S1x64x1024_1_0_0)
      (loaded x1 2 inb_S3x64x1024_S1x64x1024_2_0_0) x4) (ix2 r k) = changeAt x0 x1 x2 x3 x4 r k :=
  congrArg₂ (change (x2 (ix2 r k))) (pay3 x0 x1 x3 r k) (pay4 x0 x1 x4 r k)

variable (c : Dev nD) (i : grid0.Coords)
  {a1 : Memref sig .tc .vmem S64x1024 .bf16} (h1 : a1.IsWhole) {a2 : Memref sig .tc .vmem S3x64x1024 .bf16} (h2 : a2.IsWhole) {a3 : Memref sig .tc .vmem S64x1024 .f32} (h3 : a3.IsWhole)
  {a4 : Memref sig .tc .vmem S64x1024 .f32} (h4 : a4.IsWhole) {a5 : Memref sig .tc .vmem S64x1024 .f32} (h5 : a5.IsWhole) {a7 : Memref sig .tc .vmem S64x1024 .f32} (h7 : a7.IsWhole)
  {a8 : Memref sig .tc .vmem S64x1024 .f32} (h8 : a8.IsWhole) {a9 : Memref sig .tc .vmem S64x1024 .f32} (h9 : a9.IsWhole) {a10 : Memref sig .tc .vmem S64x1024 .f32} (h10 : a10.IsWhole)

theorem stored5 : out0_A_5 c i a1 h1 a2 h2 a3 h3 a4 h4 a5 h5 a7 h7 a8 h8 a9 h9 a10 h10 x0 x1 x2 x3 x4 (ix2 r k) = gradAt x0 x1 r k := by
  unfold out0_A_5 kernelRun0_A
  dsimp only
  rw [store_whole _ _ origin]
  simp only [load_whole]
  rw [View.ld_unit_zero origin]
  exact pay2 x0 x1 r k

theorem stored6 : out0_A_6 c i a1 h1 a2 h2 a3 h3 a4 h4 a5 h5 a7 h7 a8 h8 a9 h9 a10 h10 x0 x1 x2 x3 x4 (ix2 r k) = changeAt x0 x1 x2 x3 x4 r k := by
  unfold out0_A_6 kernelRun0_A
  dsimp only
  unfold kernelRun0_A.sl.r kernelRun0_A.sl.r_3 kernelRun0_A.sl.r_4
  rw [store_whole _ _ origin]
  simp only [load_whole]
  rw [View.ld_unit_zero origin, View.ld_unit_zero origin, View.ld_unit_zero origin, View.ld_unit_zero origin]
  exact pay1 x0 x1 x2 x3 x4 r k

theorem stored7 : out0_A_7 c i a1 h1 a2 h2 a3 h3 a4 h4 a5 h5 a7 h7 a8 h8 a9 h9 a10 h10 x0 x1 x2 x3 x4 (ix2 r k) = meanAt x0 x1 x3 r k := by
  unfold out0_A_7 kernelRun0_A
  dsimp only
  unfold kernelRun0_A.sl.r_1
  rw [store_whole _ _ origin]
  simp only [load_whole]
  rw [View.ld_unit_zero origin, View.ld_unit_zero origin]
  exact pay3 x0 x1 x3 r k

theorem stored8 : out0_A_8 c i a1 h1 a2 h2 a3 h3 a4 h4 a5 h5 a7 h7 a8 h8 a9 h9 a10 h10 x0 x1 x2 x3 x4 (ix2 r k) = squareAt x0 x1 x4 r k := by
  unfold out0_A_8 kernelRun0_A
  dsimp only
  unfold kernelRun0_A.sl.r_2
  rw [store_whole _ _ origin]
  simp only [load_whole]
  rw [View.ld_unit_zero origin, View.ld_unit_zero origin]
  exact pay4 x0 x1 x4 r k

end Block

variable (m : (ℓ : Loc nD τ sig) → Buf (Elt Ideal) ℓ) (c : Dev nD)

/-! ### What a point reads -/

theorem index0 : ∀ t : Fin grid0.N, win0_0.index t 0 = t.val ∧ win0_0.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel

theorem read0 (t : Fin cfg0.N) (r : Fin 64) (k : Fin 1024) (R : Fin 128) (hR : R.val = 64 * t.val + r.val) :
    (iblk m c 0 t : Vec Ideal S64x1024 .bf16) (ix2 r k) = (m ((c : Thread nD τ).loc main_arg0) : FVec Ideal S128x1024 .bf16) (ix2 R k) := by
  have hi := index0 t
  unfold iblk
  rw [View.read_apply]
  refine (congrArg (V m c main_arg0) ?_).trans (congrFun (V_main_arg0 m c) _)
  funext a
  apply Fin.ext
  match a with
  | ⟨0, _⟩ => show win0_0.index t 0 * 64 + 1 * r.val = R.val; rw [hi.1]; omega
  | ⟨1, _⟩ => show win0_0.index t 1 * 1024 + 1 * k.val = k.val; rw [hi.2]; omega

theorem read2 (t : Fin cfg0.N) (r : Fin 64) (k : Fin 1024) (R : Fin 128) (hR : R.val = 64 * t.val + r.val) :
    (iblk m c 2 t : Vec Ideal S64x1024 .f32) (ix2 r k) = (m ((c : Thread nD τ).loc main_arg2) : FVec Ideal S128x1024 .f32) (ix2 R k) := by
  have hi := index2 t
  unfold iblk
  rw [View.read_apply]
  refine (congrArg (V m c main_arg2) ?_).trans (congrFun (V_main_arg2 m c) _)
  funext a
  apply Fin.ext
  match a with
  | ⟨0, _⟩ => show win0_2.index t 0 * 64 + 1 * r.val = R.val; rw [hi.1]; omega
  | ⟨1, _⟩ => show win0_2.index t 1 * 1024 + 1 * k.val = k.val; rw [hi.2]; omega

theorem read3 (t : Fin cfg0.N) (r : Fin 64) (k : Fin 1024) (R : Fin 128) (hR : R.val = 64 * t.val + r.val) :
    (iblk m c 3 t : Vec Ideal S64x1024 .f32) (ix2 r k) = (m ((c : Thread nD τ).loc main_arg3) : FVec Ideal S128x1024 .f32) (ix2 R k) := by
  have hi := index3 t
  unfold iblk
  rw [View.read_apply]
  refine (congrArg (V m c main_arg3) ?_).trans (congrFun (V_main_arg3 m c) _)
  funext a
  apply Fin.ext
  match a with
  | ⟨0, _⟩ => show win0_3.index t 0 * 64 + 1 * r.val = R.val; rw [hi.1]; omega
  | ⟨1, _⟩ => show win0_3.index t 1 * 1024 + 1 * k.val = k.val; rw [hi.2]; omega

theorem read4 (t : Fin cfg0.N) (r : Fin 64) (k : Fin 1024) (R : Fin 128) (hR : R.val = 64 * t.val + r.val) :
    (iblk m c 4 t : Vec Ideal S64x1024 .f32) (ix2 r k) = (m ((c : Thread nD τ).loc main_arg4) : FVec Ideal S128x1024 .f32) (ix2 R k) := by
  have hi := index4 t
  unfold iblk
  rw [View.read_apply]
  refine (congrArg (V m c main_arg4) ?_).trans (congrFun (V_main_arg4 m c) _)
  funext a
  apply Fin.ext
  match a with
  | ⟨0, _⟩ => show win0_4.index t 0 * 64 + 1 * r.val = R.val; rw [hi.1]; omega
  | ⟨1, _⟩ => show win0_4.index t 1 * 1024 + 1 * k.val = k.val; rw [hi.2]; omega

theorem index1 : ∀ t : Fin grid0.N, win0_1.index t 0 = 0 ∧ win0_1.index t 1 = t.val ∧ win0_1.index t 2 = 0 := by decide +kernel
theorem read1 (t : Fin cfg0.N) (j : Fin 3) (r : Fin 64) (k : Fin 1024) (R : Fin 128) (hR : R.val = 64 * t.val + r.val) :
    (iblk m c 1 t : Vec Ideal S3x64x1024 .bf16) (ix3 j r k) = (m ((c : Thread nD τ).loc main_arg1) : FVec Ideal S3x128x1024 .bf16) (ix3 j R k) := by
  have hi := index1 t
  unfold iblk
  rw [View.read_apply]
  refine (congrArg (V m c main_arg1) ?_).trans (congrFun (V_main_arg1 m c) _)
  funext a
  apply Fin.ext
  match a with
  | ⟨0, _⟩ => show win0_1.index t 0 * 3 + 1 * j.val = j.val; rw [hi.1]; omega
  | ⟨1, _⟩ => show win0_1.index t 1 * 64 + 1 * r.val = R.val; rw [hi.2.1]; omega
  | ⟨2, _⟩ => show win0_1.index t 2 * 1024 + 1 * k.val = k.val; rw [hi.2.2]; omega

/-- A point's step is the arrays', at its rows. -/
theorem grad_rows (t : Fin cfg0.N) (r : Fin 64) (k : Fin 1024) (R : Fin 128) (hR : R.val = 64 * t.val + r.val) :
    gradAt (iblk m c 0 t : Vec Ideal S64x1024 .bf16) (iblk m c 1 t : Vec Ideal S3x64x1024 .bf16) r k
      = gradAt (m ((c : Thread nD τ).loc main_arg0) : FVec Ideal S128x1024 .bf16) (m ((c : Thread nD τ).loc main_arg1) : FVec Ideal S3x128x1024 .bf16) R k := by
  unfold gradAt
  rw [read0 m c t r k R hR, read1 m c t 0 r k R hR, read1 m c t 1 r k R hR, read1 m c t 2 r k R hR]

/-! ### What the launch leaves -/

/-- Output 5: the gradient. -/
theorem left5 : (dats m 0 c).arrAt 5 cfg0.N
    = table (gradAt (m ((c : Thread nD τ).loc main_arg0)) (m ((c : Thread nD τ).loc main_arg1))) := by
  refine eq_table fun R k => ?_
  have hr := R.isLt
  have hN : cfg0.N = 2 := N_0
  let t : Fin cfg0.N := ⟨R.val / 64, by omega⟩
  let s : Fin 64 := ⟨R.val % 64, Nat.mod_lt _ (by decide)⟩
  have ht : R.val = 64 * t.val + s.val := by show R.val = 64 * (R.val / 64) + R.val % 64; omega
  have hi := index5 t
  have hb := congrFun ((Value.blocks5 m c t (flush0_5 t)).trans (Value.flushed5_A m c t)) (ix2 s k)
  rw [View.read_apply] at hb
  refine (congrArg ((dats m 0 c).arrAt 5 cfg0.N) ?_).trans (hb.trans ((stored5 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_5.index t 0 * 64 + 1 * s.val; rw [hi.1]; omega
    | ⟨1, _⟩ => show k.val = win0_5.index t 1 * 1024 + 1 * k.val; rw [hi.2]; omega
  · exact grad_rows m c t s k R ht

/-- Output 6: the change of the weight. -/
theorem left6 : (dats m 0 c).arrAt 6 cfg0.N
    = table (changeAt (m ((c : Thread nD τ).loc main_arg0)) (m ((c : Thread nD τ).loc main_arg1)) (m ((c : Thread nD τ).loc main_arg2)) (m ((c : Thread nD τ).loc main_arg3)) (m ((c : Thread nD τ).loc main_arg4))) := by
  refine eq_table fun R k => ?_
  have hr := R.isLt
  have hN : cfg0.N = 2 := N_0
  let t : Fin cfg0.N := ⟨R.val / 64, by omega⟩
  let s : Fin 64 := ⟨R.val % 64, Nat.mod_lt _ (by decide)⟩
  have ht : R.val = 64 * t.val + s.val := by show R.val = 64 * (R.val / 64) + R.val % 64; omega
  have hi := index6 t
  have hb := congrFun ((Value.blocks6 m c t (flush0_6 t)).trans (Value.flushed6_A m c t)) (ix2 s k)
  rw [View.read_apply] at hb
  refine (congrArg ((dats m 0 c).arrAt 6 cfg0.N) ?_).trans (hb.trans ((stored6 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_6.index t 0 * 64 + 1 * s.val; rw [hi.1]; omega
    | ⟨1, _⟩ => show k.val = win0_6.index t 1 * 1024 + 1 * k.val; rw [hi.2]; omega
  · unfold changeAt meanAt squareAt
    rw [grad_rows m c t s k R ht, read2 m c t s k R ht, read3 m c t s k R ht, read4 m c t s k R ht]

/-- Output 7: the running mean. -/
theorem left7 : (dats m 0 c).arrAt 7 cfg0.N
    = table (meanAt (m ((c : Thread nD τ).loc main_arg0)) (m ((c : Thread nD τ).loc main_arg1)) (m ((c : Thread nD τ).loc main_arg3))) := by
  refine eq_table fun R k => ?_
  have hr := R.isLt
  have hN : cfg0.N = 2 := N_0
  let t : Fin cfg0.N := ⟨R.val / 64, by omega⟩
  let s : Fin 64 := ⟨R.val % 64, Nat.mod_lt _ (by decide)⟩
  have ht : R.val = 64 * t.val + s.val := by show R.val = 64 * (R.val / 64) + R.val % 64; omega
  have hi := index7 t
  have hb := congrFun ((Value.blocks7 m c t (flush0_7 t)).trans (Value.flushed7_A m c t)) (ix2 s k)
  rw [View.read_apply] at hb
  refine (congrArg ((dats m 0 c).arrAt 7 cfg0.N) ?_).trans (hb.trans ((stored7 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_7.index t 0 * 64 + 1 * s.val; rw [hi.1]; omega
    | ⟨1, _⟩ => show k.val = win0_7.index t 1 * 1024 + 1 * k.val; rw [hi.2]; omega
  · unfold meanAt
    rw [grad_rows m c t s k R ht, read3 m c t s k R ht]

/-- Output 8: the running mean of the squares. -/
theorem left8 : (dats m 0 c).arrAt 8 cfg0.N
    = table (squareAt (m ((c : Thread nD τ).loc main_arg0)) (m ((c : Thread nD τ).loc main_arg1)) (m ((c : Thread nD τ).loc main_arg4))) := by
  refine eq_table fun R k => ?_
  have hr := R.isLt
  have hN : cfg0.N = 2 := N_0
  let t : Fin cfg0.N := ⟨R.val / 64, by omega⟩
  let s : Fin 64 := ⟨R.val % 64, Nat.mod_lt _ (by decide)⟩
  have ht : R.val = 64 * t.val + s.val := by show R.val = 64 * (R.val / 64) + R.val % 64; omega
  have hi := index8 t
  have hb := congrFun ((Value.blocks8 m c t (flush0_8 t)).trans (Value.flushed8_A m c t)) (ix2 s k)
  rw [View.read_apply] at hb
  refine (congrArg ((dats m 0 c).arrAt 8 cfg0.N) ?_).trans (hb.trans ((stored8 (iblk m c 0 t) (iblk m c 1 t) (iblk m c 2 t) (iblk m c 3 t) (iblk m c 4 t) s k c (grid0.coords t) (hs0_0 t) (hs0_1 t) (hs0_2 t) (hs0_3 t) (hs0_4 t) (hs0_5 t) (hs0_6 t) (hs0_7 t) (hs0_8 t)).trans ?_))
  · funext a
    apply Fin.ext
    match a with
    | ⟨0, _⟩ => show R.val = win0_8.index t 0 * 64 + 1 * s.val; rw [hi.1]; omega
    | ⟨1, _⟩ => show k.val = win0_8.index t 1 * 1024 + 1 * k.val; rw [hi.2]; omega
  · unfold squareAt
    rw [grad_rows m c t s k R ht, read4 m c t s k R ht]

/-! ### The reference -/

section Reference

open Cert.AdamOutReferenceIdeal.Read

variable (x0 : FVec Ideal S128x1024 .bf16) (x1 : FVec Ideal S3x128x1024 .bf16) (x2 x3 x4 : FVec Ideal S128x1024 .f32)

theorem wanted5_at (r : Fin 128) (k : Fin 1024) : val_main_v3 (F := Ideal) x0 x1 (ix2 r k) = gradAt x0 x1 r k := by
  rw [val_main_v3_apply, val_main_v2_apply]
  refine (total_eq (x0 (ix2 r k)) fun q : Fin 3 => x1 (idx_main_v2 (ix2 r k) q)).trans ?_
  have e : ∀ q : Fin 3, idx_main_v2 (ix2 r k) q = ix3 q r k := fun q => funext fun a => by
    match a with | ⟨0, _⟩ => rfl | ⟨1, _⟩ => rfl | ⟨2, _⟩ => rfl
  unfold gradAt
  rw [e 0, e 1, e 2]

theorem wanted7_at (r : Fin 128) (k : Fin 1024) : val_main_v8 (F := Ideal) x0 x1 x3 (ix2 r k) = meanAt x0 x1 x3 r k := by
  rw [val_main_v8_apply, val_main_v5_apply, val_main_v7_apply, val_main_v4_apply, val_main_v6_apply, wanted5_at]
  rfl

theorem wanted8_at (r : Fin 128) (k : Fin 1024) : val_main_v14 (F := Ideal) x0 x1 x4 (ix2 r k) = squareAt x0 x1 x4 r k := by
  rw [val_main_v14_apply, val_main_v10_apply, val_main_v13_apply, val_main_v9_apply, val_main_v12_apply, val_main_v11_apply, wanted5_at]
  rfl

theorem wanted6_at (r : Fin 128) (k : Fin 1024) : val_main_v27 (F := Ideal) x0 x1 x2 x3 x4 (ix2 r k) = changeAt x0 x1 x2 x3 x4 r k := by
  rw [val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v15_apply, wanted7_at, wanted8_at]
  rfl

theorem wanted5 : val_main_v3 (F := Ideal) x0 x1 = table (gradAt x0 x1) := eq_table (wanted5_at x0 x1)
theorem wanted6 : val_main_v27 (F := Ideal) x0 x1 x2 x3 x4 = table (changeAt x0 x1 x2 x3 x4) := eq_table (wanted6_at x0 x1 x2 x3 x4)
theorem wanted7 : val_main_v8 (F := Ideal) x0 x1 x3 = table (meanAt x0 x1 x3) := eq_table (wanted7_at x0 x1 x3)
theorem wanted8 : val_main_v14 (F := Ideal) x0 x1 x4 = table (squareAt x0 x1 x4) := eq_table (wanted8_at x0 x1 x4)

end Reference

/-! ### The claims -/

theorem kernel_frame : Cert.quiescent_AdamOut := fun m g _ => Cert.AdamOut.Gen.frame m g
theorem ideal_frame : Cert.quiescent_AdamOutIdeal := fun m g _ => Cert.AdamOutIdeal.Gen.frame m g
theorem reference_frame : Cert.quiescent_AdamOutReferenceIdeal := fun m g _ =>
  (θ_run _ _ _).mono (fun r hr => ⟨fun c => (hr c).2.2.2.2, sem_eq_zero_of_no_sems (by decide) r.2⟩)
    (Cert.AdamOutReferenceIdeal.Value.run m g)

/-- Kernel and reference leave the same gradient, change and running means. -/
theorem equation : Cert.algebraic_AdamOutIdeal_AdamOutReferenceIdeal := by
  intro m g m' g' _ hm
  refine ⟨fun c => (dats m 0 c).arrAt 5 cfg0.N, fun c => (dats m 0 c).arrAt 6 cfg0.N, fun c => (dats m 0 c).arrAt 7 cfg0.N,
    fun c => (dats m 0 c).arrAt 8 cfg0.N, Cert.AdamOutIdeal.Value.run_blocks m g, ?_⟩
  refine (θ_run _ _ _).mono (fun r hr c => ?_) (Cert.AdamOutReferenceIdeal.Value.run m' g')
  obtain ⟨h0, h1, h2, h3, h4, -⟩ := hm c
  refine ⟨(hr c).1.trans ?_, (hr c).2.1.trans ?_, (hr c).2.2.1.trans ?_, (hr c).2.2.2.1.trans ?_, (hr c).2.2.2.2⟩
  · refine (Cert.AdamOutReferenceIdeal.Read.val_main_v3_eq _ _).trans ((wanted5 _ _).trans ?_)
    rw [h0, h1]
    exact (left5 m c).symm
  · refine (Cert.AdamOutReferenceIdeal.Read.val_main_v27_eq _ _ _ _ _).trans ((wanted6 _ _ _ _ _).trans ?_)
    rw [h0, h1, h2, h3, h4]
    exact (left6 m c).symm
  · refine (Cert.AdamOutReferenceIdeal.Read.val_main_v8_eq _ _ _).trans ((wanted7 _ _ _).trans ?_)
    rw [h0, h1, h3]
    exact (left7 m c).symm
  · refine (Cert.AdamOutReferenceIdeal.Read.val_main_v14_eq _ _ _).trans ((wanted8 _ _ _).trans ?_)
    rw [h0, h1, h4]
    exact (left8 m c).symm

end AdamOut

end
-- ==== Proof.Adam.In.lean ====
/- AdamW's step of the input projection, block by block, and what the reference computes. -/
module

public import proofs.«01_k».proof.Defs
public import proofs.«01_k».proof.Proof.Gen.AdamIn
public import proofs.«01_k».proof.Proof.Gen.AdamIn.Frame
public import proofs.«01_k».proof.Proof.Gen.AdamInIdeal
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Adam.Step
public import Idealize.ShloMosaic.Lib.Quiescent

@[expose] public section

set_option maxRecDepth 65536

noncomputable section

namespace AdamIn

open Idealize.ShloMosaic Idealize.ShloMosaic.TcCoe Idealize.SL.Sem
open Cert.AdamInIdeal Cert.AdamInIdeal.Gen AdamStep

/-! ### A block -/

section Block

variable (x0 : Vec Ideal S80x1024 .bf16) (x1 : Vec Ideal S3x80x1024 .bf16) (x2 x3 x4 : Vec Ideal S80x1024 .f32)
  (r : Fin 80) (k : Fin 1024)

/-- A slab of the arrived shares, as the body loads it. -/
abbrev loaded (j : Fin 3) (inb : ∀ a, (![j.val, 0, 0] : Fin 3 → ℕ) a + S1x80x1024.size a ≤ S3x80x1024.size a) :
    Vec Ideal S1x80x1024 .bf16 :=
  View.ld x1 (Rect.unit (s := S3x80x1024) ![j.val, 0, 0] S1x80x1024.size inb)

theorem pay2 : k0_pay2 x0 (loaded x1 0 inb_S3x80x1024_S1x80x1024_0_0_0) (loaded x1 1 inb_S3x80x1024_S1x80x1024_1_0_0)
    (loaded x1 2 inb_S3x80x1024_S1x80x1024_2_0_0) (ix2 r k) = gradAt x0 x1 r k :=
  congrArg₂ (fun u v : EReal => u + v)
    (congrArg₂ (fun u v : EReal => u + v)
      (congrArg (fun u : EReal => x0 (ix2 r k) + u) (slab 0 x1 _ shapeCasts_S1x80x1024_S80x1024 r k))
      (slab 1 x1 _ shapeCasts_S1x80x1024_S80x1024 r k))
    (slab 2 x1 _ shapeCasts_S1x80x1024_S80x1024 r k)

theorem pay3 : k0_pay3 x0 (loaded x1 0 inb_S3x80x1024_S1x80x1024_0_0_0) (loaded x1 1 inb_S3x80x1024_S1x80x1024_1_0_0)
    (loaded x1 2 inb_S3x80x1024_S1x80x1024_2_0_0) x3 (ix2 r k) = meanAt x0 x1 x3 r k :=
  congrArg (mean (x3 (ix2 r k))) (pay2 x0 x1 r k)

theorem pay4 : k0_pay4 x0 (loaded x1 0 inb_S3x80x1024_S1x80x1024_0_0_0) (loaded x1 1 inb_S3x80x1024_S1x80x1024_1_0_0)
    (loaded x1 2 inb_S3x80x1024_S1x80x1024_2_0_0) x4 (ix2 r k) = squareAt x0 x1 x4 r k :=
  congrArg (square (x4 (ix2 r k))) (pay2 x0 x1 r k)

theorem pay1 : k0_pay1 x2
    (k0_pay5 x0 (loaded x1 0 inb_S3x80x1024_S1x80x1024_0_0_0) (loaded x1 1 inb_S3x80x1024_S1x80x1024_1_0_0)
      (loaded x1 2 inb_S3x80x1024_S1x80x1024_2_0_0) x3)
    (k0_pay6 x0 (loaded x1 0 inb_S3x80x1024_S1x80x1024_0_0_0) (loaded x1 1 inb_S3x80x1024_S1x80x1024_1_0_0)
      (loaded x1 2 inb_S3x80x1024_S1x80x1024_2_0_0) x4) (ix2 r k) = changeAt x0 x1 x2 x3 x4 r k :=
  congrArg₂ (change (x2 (ix2 r k))) (pay3 x0 x1 x3 r k) (pay4 x0 x1 x4 r k)

theorem stored5 : out0_5 x0 x1 x2 x3 x4 (ix2 r k) = gradAt x0 x1 r k := by
  unfold out0_5
  rw [View.canon_unit_zero origin]
  rw [View.ld_unit_zero origin]
  exact pay2 x0 x1 r k

theorem stored6 : out0_6 x0 x1 x2 x3 x4 (ix2 r k) = changeAt x0 x1 x2 x3 x4 r k := by
  unfold out0_6
  rw [View.canon_unit_zero origin]
  rw [View.ld_unit_zero origin, View.ld_unit_zero origin, View.ld_unit_zero origin, View.ld_unit_zero origin]
  exact pay1 x0 x1 x2 x3 x4 r k

theorem stored7 : out0_7 x0 x1 x2 x3 x4 (ix2 r k) = meanAt x0 x1 x3 r k := by
  unfold out0_7
  rw [View.canon_unit_zero origin]
  rw [View.ld_unit_zero origin, View.ld_unit_zero origin]
  exact pay3 x0 x1 x3 r k

theorem stored8 : out0_8 x0 x1 x2 x3 x4 (ix2 r k) = squareAt x0 x1 x4 r k := by
  unfold out0_8
  rw [View.canon_unit_zero origin]
  rw [View.ld_unit_zero origin, View.ld_unit_zero origin]
  exact pay4 x0 x1 x4 r k

end Block

variable (m : (ℓ : Loc nD τ sig) → Buf (Elt Ideal) ℓ) (c : Dev nD)

/-! ### What a point reads -/

theorem index0 : ∀ t : Fin grid0.N, win0_0.index t 0 = t.val ∧ win0_0.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel

theorem read0 (t : Fin cfg0.N) (r : Fin 80) (k : Fin 1024) (R : Fin 320) (hR : R.val = 80 * t.val + r.val) :
    (iblk m c 0 t : Vec Ideal S80x1024 .bf16) (ix2 r k) = (m ((c : Thread nD τ).loc main_arg0) : FVec Ideal S320x1024 .bf16) (ix2 R k) := by
  have hi := index0 t
  unfold iblk
  rw [View.read_apply]
  refine (congrArg (V m c main_arg0) ?_).trans (congrFun (V_main_arg0 m c) _)
  funext a
  apply Fin.ext
  match a with
  | ⟨0, _⟩ => show win0_0.index t 0 * 80 + 1 * r.val = R.val; rw [hi.1]; omega
  | ⟨1, _⟩ => show win0_0.index t 1 * 1024 + 1 * k.val = k.val; rw [hi.2]; omega

theorem read2 (t : Fin cfg0.N) (r : Fin 80) (k : Fin 1024) (R : Fin 320) (hR : R.val = 80 * t.val + r.val) :
    (iblk m c 2 t : Vec Ideal S80x1024 .f32) (ix2 r k) = (m ((c : Thread nD τ).loc main_arg2) : FVec Ideal S320x1024 .f32) (ix2 R k) := by
  have hi := index2 t
  unfold iblk
  rw [View.read_apply]
  refine (congrArg (V m c main_arg2) ?_).trans (congrFun (V_main_arg2 m c) _)
  funext a
  apply Fin.ext
  match a with
  | ⟨0, _⟩ => show win0_2.index t 0 * 80 + 1 * r.val = R.val; rw [hi.1]; omega
  | ⟨1, _⟩ => show win0_2.index t 1 * 1024 + 1 * k.val = k.val; rw [hi.2]; omega

theorem read3 (t : Fin cfg0.N) (r : Fin 80) (k : Fin 1024) (R : Fin 320) (hR : R.val = 80 * t.val + r.val) :
    (iblk m c 3 t : Vec Ideal S80x1024 .f32) (ix2 r k) = (m ((c : Thread nD τ).loc main_arg3) : FVec Ideal S320x1024 .f32) (ix2 R k) := by
  have hi := index3 t
  unfold iblk
  rw [View.read_apply]
  refine (congrArg (V m c main_arg3) ?_).trans (congrFun (V_main_arg3 m c) _)
  funext a
  apply Fin.ext
  match a with
  | ⟨0, _⟩ => show win0_3.index t 0 * 80 + 1 * r.val = R.val; rw [hi.1]; omega
  | ⟨1, _⟩ => show win0_3.index t 1 * 1024 + 1 * k.val = k.val; rw [hi.2]; omega

theorem read4 (t : Fin cfg0.N) (r : Fin 80) (k : Fin 1024) (R : Fin 320) (hR : R.val = 80 * t.val + r.val) :
    (iblk m c 4 t : Vec Ideal S80x1024 .f32) (ix2 r k) = (m ((c : Thread nD τ).loc main_arg4) : FVec Ideal S320x1024 .f32) (ix2 R k) := by
  have hi := index4 t
  unfold iblk
  rw [View.read_apply]
  refine (congrArg (V m c main_arg4) ?_).trans (congrFun (V_main_arg4 m c) _)
  funext a
  apply Fin.ext
  match a with
  | ⟨0, _⟩ => show win0_4.index t 0 * 80 + 1 * r.val = R.val; rw [hi.1]; omega
  | ⟨1, _⟩ => show win0_4.index t 1 * 1024 + 1 * k.val = k.val; rw [hi.2]; omega

theorem index1 : ∀ t : Fin grid0.N, win0_1.index t 0 = 0 ∧ win0_1.index t 1 = t.val ∧ win0_1.index t 2 = 0 := by decide +kernel
theorem read1 (t : Fin cfg0.N) (j : Fin 3) (r : Fin 80) (k : Fin 1024) (R : Fin 320) (hR : R.val = 80 * t.val + r.val) :
    (iblk m c 1 t : Vec Ideal S3x80x1024 .bf16) (ix3 j r k) = (m ((c : Thread nD τ).loc main_arg1) : FVec Ideal S3x320x1024 .bf16) (ix3 j R k) := by
  have hi := index1 t
  unfold iblk
  rw [View.read_apply]
  refine (congrArg (V m c main_arg1) ?_).trans (congrFun (V_main_arg1 m c) _)
  funext a
  apply Fin.ext
  match a with
  | ⟨0, _⟩ => show win0_1.index t 0 * 3 + 1 * j.val = j.val; rw [hi.1]; omega
  | ⟨1, _⟩ => show win0_1.index t 1 * 80 + 1 * r.val = R.val; rw [hi.2.1]; omega
  | ⟨2, _⟩ => show win0_1.index t 2 * 1024 + 1 * k.val = k.val; rw [hi.2.2]; omega

/-- A point's step is the arrays', at its rows. -/
theorem grad_rows (t : Fin cfg0.N) (r : Fin 80) (k : Fin 1024) (R : Fin 320) (hR : R.val = 80 * t.val + r.val) :
    gradAt (iblk m c 0 t : Vec Ideal S80x1024 .bf16) (iblk m c 1 t : Vec Ideal S3x80x1024 .bf16) r k
      = gradAt (m ((c : Thread nD τ).loc main_arg0) : FVec Ideal S320x1024 .bf16) (m ((c : Thread nD τ).loc main_arg1) : FVec Ideal S3x320x1024 .bf16) R k := by
  unfold gradAt
  rw [read0 m c t r k R hR, read1 m c t 0 r k R hR, read1 m c t 1 r k R hR, read1 m c t 2 r k R hR]

/-! ### What the launch leaves -/

/-- Output 5: the gradient. -/
theorem left5 : (dats m 0 c).arrAt 5 cfg0.N
    = table (gradAt (m ((c : Thread nD τ).loc main_arg0)) (m ((c : Thread nD τ).loc main_arg1))) := by
  refine eq_table fun R k => ?_
  have hr := R.isLt
  have hN : cfg0.N = 4 := N_0
  let t : Fin cfg0.N := ⟨R.val / 80, by omega⟩
  let s : Fin 80 := ⟨R.val % 80, Nat.mod_lt _ (by decide)⟩
  have ht : R.val = 80 * t.val + s.val := by show R.val = 80 * (R.val / 80) + R.val % 80; omega
  have hi := index5 t
  have hb := congrFun ((Value.blocks5 m c t (flush0_5 t)).trans (Value.flushed5 m c t)) (ix2 s k)
  rw [View.read_apply] at hb
  refine (congrArg ((dats m 0 c).arrAt 5 cfg0.N) ?_).trans (hb.trans ((stored5 (iblk m c 0 t) (iblk m c 1 t) (iblk m c 2 t) (iblk m c 3 t) (iblk m c 4 t) s k).trans ?_))
  · funext a
    apply Fin.ext
    match a with
    | ⟨0, _⟩ => show R.val = win0_5.index t 0 * 80 + 1 * s.val; rw [hi.1]; omega
    | ⟨1, _⟩ => show k.val = win0_5.index t 1 * 1024 + 1 * k.val; rw [hi.2]; omega
  · exact grad_rows m c t s k R ht

/-- Output 6: the change of the weight. -/
theorem left6 : (dats m 0 c).arrAt 6 cfg0.N
    = table (changeAt (m ((c : Thread nD τ).loc main_arg0)) (m ((c : Thread nD τ).loc main_arg1)) (m ((c : Thread nD τ).loc main_arg2)) (m ((c : Thread nD τ).loc main_arg3)) (m ((c : Thread nD τ).loc main_arg4))) := by
  refine eq_table fun R k => ?_
  have hr := R.isLt
  have hN : cfg0.N = 4 := N_0
  let t : Fin cfg0.N := ⟨R.val / 80, by omega⟩
  let s : Fin 80 := ⟨R.val % 80, Nat.mod_lt _ (by decide)⟩
  have ht : R.val = 80 * t.val + s.val := by show R.val = 80 * (R.val / 80) + R.val % 80; omega
  have hi := index6 t
  have hb := congrFun ((Value.blocks6 m c t (flush0_6 t)).trans (Value.flushed6 m c t)) (ix2 s k)
  rw [View.read_apply] at hb
  refine (congrArg ((dats m 0 c).arrAt 6 cfg0.N) ?_).trans (hb.trans ((stored6 (iblk m c 0 t) (iblk m c 1 t) (iblk m c 2 t) (iblk m c 3 t) (iblk m c 4 t) s k).trans ?_))
  · funext a
    apply Fin.ext
    match a with
    | ⟨0, _⟩ => show R.val = win0_6.index t 0 * 80 + 1 * s.val; rw [hi.1]; omega
    | ⟨1, _⟩ => show k.val = win0_6.index t 1 * 1024 + 1 * k.val; rw [hi.2]; omega
  · unfold changeAt meanAt squareAt
    rw [grad_rows m c t s k R ht, read2 m c t s k R ht, read3 m c t s k R ht, read4 m c t s k R ht]

/-- Output 7: the running mean. -/
theorem left7 : (dats m 0 c).arrAt 7 cfg0.N
    = table (meanAt (m ((c : Thread nD τ).loc main_arg0)) (m ((c : Thread nD τ).loc main_arg1)) (m ((c : Thread nD τ).loc main_arg3))) := by
  refine eq_table fun R k => ?_
  have hr := R.isLt
  have hN : cfg0.N = 4 := N_0
  let t : Fin cfg0.N := ⟨R.val / 80, by omega⟩
  let s : Fin 80 := ⟨R.val % 80, Nat.mod_lt _ (by decide)⟩
  have ht : R.val = 80 * t.val + s.val := by show R.val = 80 * (R.val / 80) + R.val % 80; omega
  have hi := index7 t
  have hb := congrFun ((Value.blocks7 m c t (flush0_7 t)).trans (Value.flushed7 m c t)) (ix2 s k)
  rw [View.read_apply] at hb
  refine (congrArg ((dats m 0 c).arrAt 7 cfg0.N) ?_).trans (hb.trans ((stored7 (iblk m c 0 t) (iblk m c 1 t) (iblk m c 2 t) (iblk m c 3 t) (iblk m c 4 t) s k).trans ?_))
  · funext a
    apply Fin.ext
    match a with
    | ⟨0, _⟩ => show R.val = win0_7.index t 0 * 80 + 1 * s.val; rw [hi.1]; omega
    | ⟨1, _⟩ => show k.val = win0_7.index t 1 * 1024 + 1 * k.val; rw [hi.2]; omega
  · unfold meanAt
    rw [grad_rows m c t s k R ht, read3 m c t s k R ht]

/-- Output 8: the running mean of the squares. -/
theorem left8 : (dats m 0 c).arrAt 8 cfg0.N
    = table (squareAt (m ((c : Thread nD τ).loc main_arg0)) (m ((c : Thread nD τ).loc main_arg1)) (m ((c : Thread nD τ).loc main_arg4))) := by
  refine eq_table fun R k => ?_
  have hr := R.isLt
  have hN : cfg0.N = 4 := N_0
  let t : Fin cfg0.N := ⟨R.val / 80, by omega⟩
  let s : Fin 80 := ⟨R.val % 80, Nat.mod_lt _ (by decide)⟩
  have ht : R.val = 80 * t.val + s.val := by show R.val = 80 * (R.val / 80) + R.val % 80; omega
  have hi := index8 t
  have hb := congrFun ((Value.blocks8 m c t (flush0_8 t)).trans (Value.flushed8 m c t)) (ix2 s k)
  rw [View.read_apply] at hb
  refine (congrArg ((dats m 0 c).arrAt 8 cfg0.N) ?_).trans (hb.trans ((stored8 (iblk m c 0 t) (iblk m c 1 t) (iblk m c 2 t) (iblk m c 3 t) (iblk m c 4 t) s k).trans ?_))
  · funext a
    apply Fin.ext
    match a with
    | ⟨0, _⟩ => show R.val = win0_8.index t 0 * 80 + 1 * s.val; rw [hi.1]; omega
    | ⟨1, _⟩ => show k.val = win0_8.index t 1 * 1024 + 1 * k.val; rw [hi.2]; omega
  · unfold squareAt
    rw [grad_rows m c t s k R ht, read4 m c t s k R ht]

/-! ### The reference -/

section Reference

open Cert.AdamInReferenceIdeal.Read

variable (x0 : FVec Ideal S320x1024 .bf16) (x1 : FVec Ideal S3x320x1024 .bf16) (x2 x3 x4 : FVec Ideal S320x1024 .f32)

theorem wanted5_at (r : Fin 320) (k : Fin 1024) : val_main_v3 (F := Ideal) x0 x1 (ix2 r k) = gradAt x0 x1 r k := by
  rw [val_main_v3_apply, val_main_v2_apply]
  refine (total_eq (x0 (ix2 r k)) fun q : Fin 3 => x1 (idx_main_v2 (ix2 r k) q)).trans ?_
  have e : ∀ q : Fin 3, idx_main_v2 (ix2 r k) q = ix3 q r k := fun q => funext fun a => by
    match a with | ⟨0, _⟩ => rfl | ⟨1, _⟩ => rfl | ⟨2, _⟩ => rfl
  unfold gradAt
  rw [e 0, e 1, e 2]

theorem wanted7_at (r : Fin 320) (k : Fin 1024) : val_main_v8 (F := Ideal) x0 x1 x3 (ix2 r k) = meanAt x0 x1 x3 r k := by
  rw [val_main_v8_apply, val_main_v5_apply, val_main_v7_apply, val_main_v4_apply, val_main_v6_apply, wanted5_at]
  rfl

theorem wanted8_at (r : Fin 320) (k : Fin 1024) : val_main_v14 (F := Ideal) x0 x1 x4 (ix2 r k) = squareAt x0 x1 x4 r k := by
  rw [val_main_v14_apply, val_main_v10_apply, val_main_v13_apply, val_main_v9_apply, val_main_v12_apply, val_main_v11_apply, wanted5_at]
  rfl

theorem wanted6_at (r : Fin 320) (k : Fin 1024) : val_main_v27 (F := Ideal) x0 x1 x2 x3 x4 (ix2 r k) = changeAt x0 x1 x2 x3 x4 r k := by
  rw [val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v15_apply, wanted7_at, wanted8_at]
  rfl

theorem wanted5 : val_main_v3 (F := Ideal) x0 x1 = table (gradAt x0 x1) := eq_table (wanted5_at x0 x1)
theorem wanted6 : val_main_v27 (F := Ideal) x0 x1 x2 x3 x4 = table (changeAt x0 x1 x2 x3 x4) := eq_table (wanted6_at x0 x1 x2 x3 x4)
theorem wanted7 : val_main_v8 (F := Ideal) x0 x1 x3 = table (meanAt x0 x1 x3) := eq_table (wanted7_at x0 x1 x3)
theorem wanted8 : val_main_v14 (F := Ideal) x0 x1 x4 = table (squareAt x0 x1 x4) := eq_table (wanted8_at x0 x1 x4)

end Reference

/-! ### The claims -/

theorem kernel_frame : Cert.quiescent_AdamIn := fun m g _ => Cert.AdamIn.Gen.frame m g
theorem ideal_frame : Cert.quiescent_AdamInIdeal := fun m g _ => Cert.AdamInIdeal.Gen.frame m g
theorem reference_frame : Cert.quiescent_AdamInReferenceIdeal := fun m g _ =>
  (θ_run _ _ _).mono (fun r hr => ⟨fun c => (hr c).2.2.2.2, sem_eq_zero_of_no_sems (by decide) r.2⟩)
    (Cert.AdamInReferenceIdeal.Value.run m g)

/-- Kernel and reference leave the same gradient, change and running means. -/
theorem equation : Cert.algebraic_AdamInIdeal_AdamInReferenceIdeal := by
  intro m g m' g' _ hm
  refine ⟨fun c => (dats m 0 c).arrAt 5 cfg0.N, fun c => (dats m 0 c).arrAt 6 cfg0.N, fun c => (dats m 0 c).arrAt 7 cfg0.N,
    fun c => (dats m 0 c).arrAt 8 cfg0.N, Cert.AdamInIdeal.Value.run_blocks m g, ?_⟩
  refine (θ_run _ _ _).mono (fun r hr c => ?_) (Cert.AdamInReferenceIdeal.Value.run m' g')
  obtain ⟨h0, h1, h2, h3, h4⟩ := hm c
  refine ⟨(hr c).1.trans ?_, (hr c).2.1.trans ?_, (hr c).2.2.1.trans ?_, (hr c).2.2.2.1.trans ?_, (hr c).2.2.2.2⟩
  · refine (Cert.AdamInReferenceIdeal.Read.val_main_v3_eq _ _).trans ((wanted5 _ _).trans ?_)
    rw [h0, h1]
    exact (left5 m c).symm
  · refine (Cert.AdamInReferenceIdeal.Read.val_main_v27_eq _ _ _ _ _).trans ((wanted6 _ _ _ _ _).trans ?_)
    rw [h0, h1, h2, h3, h4]
    exact (left6 m c).symm
  · refine (Cert.AdamInReferenceIdeal.Read.val_main_v8_eq _ _ _).trans ((wanted7 _ _ _).trans ?_)
    rw [h0, h1, h3]
    exact (left7 m c).symm
  · refine (Cert.AdamInReferenceIdeal.Read.val_main_v14_eq _ _ _).trans ((wanted8 _ _ _).trans ?_)
    rw [h0, h1, h4]
    exact (left8 m c).symm

end AdamIn

end
-- ==== Proof.Small.Body.lean ====
/- The body of AdamW's step of the small weights, over any floats: what it leaves in each result's buffer. -/
module

public import proofs.«01_k».proof.Proof.Gen.AdamSmallIdeal.Launch
public import proofs.«01_k».proof.Proof.Gen.AdamSmallIdeal.Skeleton
public import proofs.«01_k».proof.Proof.Gen.AdamSmallIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace AdamSmall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamSmallIdeal Cert.AdamSmallIdeal.Gen

variable {F : FTy → Type} [FloatOps F]

local notation "𝕄" => MT nD τ sig Unit (Elt F) ℕ (UR sig nD τ) ℕ

/-! ### What the body computes -/

/-- The contents of the twenty-six arrays that the kernel reads: the packed gradients and the loss; the weights; their running
    means; their running squares; and the gradient of conv_w. -/
@[ext] structure Inputs (F : FTy → Type) where
  x0 : Vec F S704x128 .f32
  x1 : Vec F S512x128 .f32
  x2 : Vec F S1x512 .f32
  x3 : Vec F S1x1024 .f32
  x4 : Vec F S1x1024 .f32
  x5 : Vec F S3x1x352 .f32
  x6 : Vec F S1x2816 .f32
  x7 : Vec F S1x1024 .f32
  x8 : Vec F S1x1024 .f32
  x9 : Vec F S512x128 .f32
  x10 : Vec F S1x512 .f32
  x11 : Vec F S1x1024 .f32
  x12 : Vec F S1x1024 .f32
  x13 : Vec F S3x1x352 .f32
  x14 : Vec F S1x2816 .f32
  x15 : Vec F S1x1024 .f32
  x16 : Vec F S1x1024 .f32
  x17 : Vec F S512x128 .f32
  x18 : Vec F S1x512 .f32
  x19 : Vec F S1x1024 .f32
  x20 : Vec F S1x1024 .f32
  x21 : Vec F S3x1x352 .f32
  x22 : Vec F S1x2816 .f32
  x23 : Vec F S1x1024 .f32
  x24 : Vec F S1x1024 .f32
  x25 : Vec F S3x1x352 .f32

-- The rectangles that the body reads and writes.
abbrev r0_0 : Rect S704x128 := Rect.unit ![640, 0] S1x1.size inb_S704x128_S1x1_640_0
abbrev r0_1 : Rect S1x1 := Rect.unit ![0, 0] S1x1.size inb_S1x1_S1x1_0_0
abbrev r0_2 : Rect S704x128 := Rect.unit ![0, 0] S512x128.size inb_S704x128_S512x128_0_0
abbrev r0_3 : Rect S512x128 := Rect.unit ![0, 0] S512x128.size inb_S512x128_S512x128_0_0
abbrev r0_4 : Rect S704x128 := Rect.unit ![512, 0] S1x128.size inb_S704x128_S1x128_512_0
abbrev r0_5 : Rect S704x128 := Rect.unit ![513, 0] S1x128.size inb_S704x128_S1x128_513_0
abbrev r0_6 : Rect S704x128 := Rect.unit ![514, 0] S1x128.size inb_S704x128_S1x128_514_0
abbrev r0_7 : Rect S704x128 := Rect.unit ![515, 0] S1x128.size inb_S704x128_S1x128_515_0
abbrev r0_8 : Rect S1x512 := Rect.unit ![0, 0] S1x512.size inb_S1x512_S1x512_0_0
abbrev r0_9 : Rect S704x128 := Rect.unit ![520, 0] S1x128.size inb_S704x128_S1x128_520_0
abbrev r0_10 : Rect S704x128 := Rect.unit ![521, 0] S1x128.size inb_S704x128_S1x128_521_0
abbrev r0_11 : Rect S704x128 := Rect.unit ![522, 0] S1x128.size inb_S704x128_S1x128_522_0
abbrev r0_12 : Rect S704x128 := Rect.unit ![523, 0] S1x128.size inb_S704x128_S1x128_523_0
abbrev r0_13 : Rect S704x128 := Rect.unit ![524, 0] S1x128.size inb_S704x128_S1x128_524_0
abbrev r0_14 : Rect S704x128 := Rect.unit ![525, 0] S1x128.size inb_S704x128_S1x128_525_0
abbrev r0_15 : Rect S704x128 := Rect.unit ![526, 0] S1x128.size inb_S704x128_S1x128_526_0
abbrev r0_16 : Rect S704x128 := Rect.unit ![527, 0] S1x128.size inb_S704x128_S1x128_527_0
abbrev r0_17 : Rect S1x1024 := Rect.unit ![0, 0] S1x1024.size inb_S1x1024_S1x1024_0_0
abbrev r0_18 : Rect S704x128 := Rect.unit ![528, 0] S1x128.size inb_S704x128_S1x128_528_0
abbrev r0_19 : Rect S704x128 := Rect.unit ![529, 0] S1x128.size inb_S704x128_S1x128_529_0
abbrev r0_20 : Rect S704x128 := Rect.unit ![530, 0] S1x128.size inb_S704x128_S1x128_530_0
abbrev r0_21 : Rect S704x128 := Rect.unit ![531, 0] S1x128.size inb_S704x128_S1x128_531_0
abbrev r0_22 : Rect S704x128 := Rect.unit ![532, 0] S1x128.size inb_S704x128_S1x128_532_0
abbrev r0_23 : Rect S704x128 := Rect.unit ![533, 0] S1x128.size inb_S704x128_S1x128_533_0
abbrev r0_24 : Rect S704x128 := Rect.unit ![534, 0] S1x128.size inb_S704x128_S1x128_534_0
abbrev r0_25 : Rect S704x128 := Rect.unit ![535, 0] S1x128.size inb_S704x128_S1x128_535_0
abbrev r0_26 : Rect S3x1x352 := Rect.unit ![0, 0, 0] S3x1x352.size inb_S3x1x352_S3x1x352_0_0_0
abbrev r0_27 : Rect S704x128 := Rect.unit ![552, 0] S1x128.size inb_S704x128_S1x128_552_0
abbrev r0_28 : Rect S704x128 := Rect.unit ![553, 0] S1x128.size inb_S704x128_S1x128_553_0
abbrev r0_29 : Rect S704x128 := Rect.unit ![554, 0] S1x128.size inb_S704x128_S1x128_554_0
abbrev r0_30 : Rect S704x128 := Rect.unit ![555, 0] S1x128.size inb_S704x128_S1x128_555_0
abbrev r0_31 : Rect S704x128 := Rect.unit ![556, 0] S1x128.size inb_S704x128_S1x128_556_0
abbrev r0_32 : Rect S704x128 := Rect.unit ![557, 0] S1x128.size inb_S704x128_S1x128_557_0
abbrev r0_33 : Rect S704x128 := Rect.unit ![558, 0] S1x128.size inb_S704x128_S1x128_558_0
abbrev r0_34 : Rect S704x128 := Rect.unit ![559, 0] S1x128.size inb_S704x128_S1x128_559_0
abbrev r0_35 : Rect S704x128 := Rect.unit ![560, 0] S1x128.size inb_S704x128_S1x128_560_0
abbrev r0_36 : Rect S704x128 := Rect.unit ![561, 0] S1x128.size inb_S704x128_S1x128_561_0
abbrev r0_37 : Rect S704x128 := Rect.unit ![562, 0] S1x128.size inb_S704x128_S1x128_562_0
abbrev r0_38 : Rect S704x128 := Rect.unit ![563, 0] S1x128.size inb_S704x128_S1x128_563_0
abbrev r0_39 : Rect S704x128 := Rect.unit ![564, 0] S1x128.size inb_S704x128_S1x128_564_0
abbrev r0_40 : Rect S704x128 := Rect.unit ![565, 0] S1x128.size inb_S704x128_S1x128_565_0
abbrev r0_41 : Rect S704x128 := Rect.unit ![566, 0] S1x128.size inb_S704x128_S1x128_566_0
abbrev r0_42 : Rect S704x128 := Rect.unit ![567, 0] S1x128.size inb_S704x128_S1x128_567_0
abbrev r0_43 : Rect S704x128 := Rect.unit ![568, 0] S1x128.size inb_S704x128_S1x128_568_0
abbrev r0_44 : Rect S704x128 := Rect.unit ![569, 0] S1x128.size inb_S704x128_S1x128_569_0
abbrev r0_45 : Rect S704x128 := Rect.unit ![570, 0] S1x128.size inb_S704x128_S1x128_570_0
abbrev r0_46 : Rect S704x128 := Rect.unit ![571, 0] S1x128.size inb_S704x128_S1x128_571_0
abbrev r0_47 : Rect S704x128 := Rect.unit ![572, 0] S1x128.size inb_S704x128_S1x128_572_0
abbrev r0_48 : Rect S704x128 := Rect.unit ![573, 0] S1x128.size inb_S704x128_S1x128_573_0
abbrev r0_49 : Rect S1x2816 := Rect.unit ![0, 0] S1x2816.size inb_S1x2816_S1x2816_0_0
abbrev r0_50 : Rect S704x128 := Rect.unit ![536, 0] S1x128.size inb_S704x128_S1x128_536_0
abbrev r0_51 : Rect S704x128 := Rect.unit ![537, 0] S1x128.size inb_S704x128_S1x128_537_0
abbrev r0_52 : Rect S704x128 := Rect.unit ![538, 0] S1x128.size inb_S704x128_S1x128_538_0
abbrev r0_53 : Rect S704x128 := Rect.unit ![539, 0] S1x128.size inb_S704x128_S1x128_539_0
abbrev r0_54 : Rect S704x128 := Rect.unit ![540, 0] S1x128.size inb_S704x128_S1x128_540_0
abbrev r0_55 : Rect S704x128 := Rect.unit ![541, 0] S1x128.size inb_S704x128_S1x128_541_0
abbrev r0_56 : Rect S704x128 := Rect.unit ![542, 0] S1x128.size inb_S704x128_S1x128_542_0
abbrev r0_57 : Rect S704x128 := Rect.unit ![543, 0] S1x128.size inb_S704x128_S1x128_543_0
abbrev r0_58 : Rect S704x128 := Rect.unit ![544, 0] S1x128.size inb_S704x128_S1x128_544_0
abbrev r0_59 : Rect S704x128 := Rect.unit ![545, 0] S1x128.size inb_S704x128_S1x128_545_0
abbrev r0_60 : Rect S704x128 := Rect.unit ![546, 0] S1x128.size inb_S704x128_S1x128_546_0
abbrev r0_61 : Rect S704x128 := Rect.unit ![547, 0] S1x128.size inb_S704x128_S1x128_547_0
abbrev r0_62 : Rect S704x128 := Rect.unit ![548, 0] S1x128.size inb_S704x128_S1x128_548_0
abbrev r0_63 : Rect S704x128 := Rect.unit ![549, 0] S1x128.size inb_S704x128_S1x128_549_0
abbrev r0_64 : Rect S704x128 := Rect.unit ![550, 0] S1x128.size inb_S704x128_S1x128_550_0
abbrev r0_65 : Rect S704x128 := Rect.unit ![551, 0] S1x128.size inb_S704x128_S1x128_551_0

section Results

variable (x : Inputs F)

-- What each result's buffer holds after the body.
def out26 : Vec F S512x128 .f32 := (View.ld x.x0 r0_2)
def out27 : Vec F S1x512 .f32 := k0_pay4 (View.ld x.x0 r0_4) (View.ld x.x0 r0_5) (View.ld x.x0 r0_6) (View.ld x.x0 r0_7)
def out28 : Vec F S1x1024 .f32 := k0_pay9 (View.ld x.x0 r0_9) (View.ld x.x0 r0_10) (View.ld x.x0 r0_11) (View.ld x.x0 r0_12)
  (View.ld x.x0 r0_13) (View.ld x.x0 r0_14) (View.ld x.x0 r0_15) (View.ld x.x0 r0_16)
def out29 : Vec F S1x1024 .f32 := k0_pay14 (View.ld x.x0 r0_18) (View.ld x.x0 r0_19) (View.ld x.x0 r0_20) (View.ld x.x0 r0_21)
  (View.ld x.x0 r0_22) (View.ld x.x0 r0_23) (View.ld x.x0 r0_24) (View.ld x.x0 r0_25)
def out30 : Vec F S1x2816 .f32 := k0_pay21 (View.ld x.x0 r0_27) (View.ld x.x0 r0_28) (View.ld x.x0 r0_29) (View.ld x.x0 r0_30)
  (View.ld x.x0 r0_31) (View.ld x.x0 r0_32) (View.ld x.x0 r0_33) (View.ld x.x0 r0_34) (View.ld x.x0 r0_35) (View.ld x.x0 r0_36)
  (View.ld x.x0 r0_37) (View.ld x.x0 r0_38) (View.ld x.x0 r0_39) (View.ld x.x0 r0_40) (View.ld x.x0 r0_41) (View.ld x.x0 r0_42)
  (View.ld x.x0 r0_43) (View.ld x.x0 r0_44) (View.ld x.x0 r0_45) (View.ld x.x0 r0_46) (View.ld x.x0 r0_47) (View.ld x.x0 r0_48)
def out31 : Vec F S1x1024 .f32 := k0_pay26 (View.ld x.x0 r0_50) (View.ld x.x0 r0_51) (View.ld x.x0 r0_52) (View.ld x.x0 r0_53)
  (View.ld x.x0 r0_54) (View.ld x.x0 r0_55) (View.ld x.x0 r0_56) (View.ld x.x0 r0_57)
def out32 : Vec F S1x1024 .f32 := k0_pay30 (View.ld x.x0 r0_58) (View.ld x.x0 r0_59) (View.ld x.x0 r0_60) (View.ld x.x0 r0_61)
  (View.ld x.x0 r0_62) (View.ld x.x0 r0_63) (View.ld x.x0 r0_64) (View.ld x.x0 r0_65)
def out33 : Vec F S512x128 .f32 := k0_pay3 (View.ld x.x0 r0_2) (View.ld x.x1 r0_3) (View.ld x.x9 r0_3) (View.ld x.x17 r0_3)
def out34 : Vec F S1x512 .f32 := k0_pay8 (View.ld x.x2 r0_8) (k0_pay7 (View.ld x.x0 r0_4) (View.ld x.x0 r0_5) (View.ld x.x0 r0_6)
  (View.ld x.x0 r0_7) (View.ld x.x10 r0_8) (View.ld x.x18 r0_8) )
def out35 : Vec F S1x1024 .f32 := k0_pay13 (out28 x) (View.ld x.x3 r0_17) (View.ld x.x19 r0_17) (k0_pay10 (View.ld x.x11 r0_17) )
def out36 : Vec F S1x1024 .f32 := k0_pay17 (View.ld x.x0 r0_18) (View.ld x.x0 r0_19) (View.ld x.x0 r0_20) (View.ld x.x0 r0_21)
  (View.ld x.x0 r0_22) (View.ld x.x0 r0_23) (View.ld x.x0 r0_24) (View.ld x.x0 r0_25) (View.ld x.x4 r0_17) (View.ld x.x12 r0_17)
  (View.ld x.x20 r0_17)
def out37 : Vec F S3x1x352 .f32 := k0_pay20 (View.ld x.x25 r0_26) (View.ld x.x5 r0_26) (View.ld x.x13 r0_26) (View.ld x.x21 r0_26)
def out38 : Vec F S1x2816 .f32 := k0_pay25 (k0_pay24 (View.ld x.x0 r0_27) (View.ld x.x0 r0_28) (View.ld x.x0 r0_29)
  (View.ld x.x0 r0_30) (View.ld x.x0 r0_31) (View.ld x.x0 r0_32) (View.ld x.x0 r0_33) (View.ld x.x0 r0_34) (View.ld x.x0 r0_35)
  (View.ld x.x0 r0_36) (View.ld x.x0 r0_37) (View.ld x.x0 r0_38) (View.ld x.x0 r0_39) (View.ld x.x0 r0_40) (View.ld x.x0 r0_41)
  (View.ld x.x0 r0_42) (View.ld x.x0 r0_43) (View.ld x.x0 r0_44) (View.ld x.x0 r0_45) (View.ld x.x0 r0_46) (View.ld x.x0 r0_47)
  (View.ld x.x0 r0_48) (View.ld x.x6 r0_49) (View.ld x.x14 r0_49) (View.ld x.x22 r0_49) ) (Scalar.ofBits .f32 0xBA83126F#32)
def out39 : Vec F S1x1024 .f32 := k0_pay29 (out31 x) (View.ld x.x7 r0_17) (View.ld x.x23 r0_17) (k0_pay27 (View.ld x.x0 r0_50)
  (View.ld x.x0 r0_51) (View.ld x.x0 r0_52) (View.ld x.x0 r0_53) (View.ld x.x0 r0_54) (View.ld x.x0 r0_55) (View.ld x.x0 r0_56)
  (View.ld x.x0 r0_57) (View.ld x.x15 r0_17) ) (Scalar.ofBits .f32 0x3F7FBE77#32)
def out40 : Vec F S1x1024 .f32 := k0_pay33 (View.ld x.x0 r0_58) (View.ld x.x0 r0_59) (View.ld x.x0 r0_60) (View.ld x.x0 r0_61)
  (View.ld x.x0 r0_62) (View.ld x.x0 r0_63) (View.ld x.x0 r0_64) (View.ld x.x0 r0_65) (View.ld x.x8 r0_17) (View.ld x.x16 r0_17)
  (View.ld x.x24 r0_17)
def out41 : Vec F S512x128 .f32 := k0_pay1 (View.ld x.x0 r0_2) (View.ld x.x9 r0_3)
def out42 : Vec F S1x512 .f32 := k0_pay5 (View.ld x.x0 r0_4) (View.ld x.x0 r0_5) (View.ld x.x0 r0_6) (View.ld x.x0 r0_7)
  (View.ld x.x10 r0_8)
def out43 : Vec F S1x1024 .f32 := k0_pay11 (out28 x) (k0_pay10 (View.ld x.x11 r0_17) )
def out44 : Vec F S1x1024 .f32 := k0_pay15 (View.ld x.x0 r0_18) (View.ld x.x0 r0_19) (View.ld x.x0 r0_20) (View.ld x.x0 r0_21)
  (View.ld x.x0 r0_22) (View.ld x.x0 r0_23) (View.ld x.x0 r0_24) (View.ld x.x0 r0_25) (View.ld x.x12 r0_17)
def out45 : Vec F S3x1x352 .f32 := k0_pay18 (View.ld x.x25 r0_26) (View.ld x.x13 r0_26)
def out46 : Vec F S1x2816 .f32 := k0_pay22 (View.ld x.x0 r0_27) (View.ld x.x0 r0_28) (View.ld x.x0 r0_29) (View.ld x.x0 r0_30)
  (View.ld x.x0 r0_31) (View.ld x.x0 r0_32) (View.ld x.x0 r0_33) (View.ld x.x0 r0_34) (View.ld x.x0 r0_35) (View.ld x.x0 r0_36)
  (View.ld x.x0 r0_37) (View.ld x.x0 r0_38) (View.ld x.x0 r0_39) (View.ld x.x0 r0_40) (View.ld x.x0 r0_41) (View.ld x.x0 r0_42)
  (View.ld x.x0 r0_43) (View.ld x.x0 r0_44) (View.ld x.x0 r0_45) (View.ld x.x0 r0_46) (View.ld x.x0 r0_47) (View.ld x.x0 r0_48)
  (View.ld x.x14 r0_49)
def out47 : Vec F S1x1024 .f32 := k0_pay27 (View.ld x.x0 r0_50) (View.ld x.x0 r0_51) (View.ld x.x0 r0_52) (View.ld x.x0 r0_53)
  (View.ld x.x0 r0_54) (View.ld x.x0 r0_55) (View.ld x.x0 r0_56) (View.ld x.x0 r0_57) (View.ld x.x15 r0_17)
def out48 : Vec F S1x1024 .f32 := k0_pay31 (View.ld x.x0 r0_58) (View.ld x.x0 r0_59) (View.ld x.x0 r0_60) (View.ld x.x0 r0_61)
  (View.ld x.x0 r0_62) (View.ld x.x0 r0_63) (View.ld x.x0 r0_64) (View.ld x.x0 r0_65) (View.ld x.x16 r0_17)
def out49 : Vec F S512x128 .f32 := k0_pay2 (View.ld x.x0 r0_2) (View.ld x.x17 r0_3)
def out50 : Vec F S1x512 .f32 := k0_pay6 (View.ld x.x0 r0_4) (View.ld x.x0 r0_5) (View.ld x.x0 r0_6) (View.ld x.x0 r0_7)
  (View.ld x.x18 r0_8)
def out51 : Vec F S1x1024 .f32 := k0_pay12 (out28 x) (View.ld x.x19 r0_17)
def out52 : Vec F S1x1024 .f32 := k0_pay16 (View.ld x.x0 r0_18) (View.ld x.x0 r0_19) (View.ld x.x0 r0_20) (View.ld x.x0 r0_21)
  (View.ld x.x0 r0_22) (View.ld x.x0 r0_23) (View.ld x.x0 r0_24) (View.ld x.x0 r0_25) (View.ld x.x20 r0_17)
def out53 : Vec F S3x1x352 .f32 := k0_pay19 (View.ld x.x25 r0_26) (View.ld x.x21 r0_26)
def out54 : Vec F S1x2816 .f32 := k0_pay23 (View.ld x.x0 r0_27) (View.ld x.x0 r0_28) (View.ld x.x0 r0_29) (View.ld x.x0 r0_30)
  (View.ld x.x0 r0_31) (View.ld x.x0 r0_32) (View.ld x.x0 r0_33) (View.ld x.x0 r0_34) (View.ld x.x0 r0_35) (View.ld x.x0 r0_36)
  (View.ld x.x0 r0_37) (View.ld x.x0 r0_38) (View.ld x.x0 r0_39) (View.ld x.x0 r0_40) (View.ld x.x0 r0_41) (View.ld x.x0 r0_42)
  (View.ld x.x0 r0_43) (View.ld x.x0 r0_44) (View.ld x.x0 r0_45) (View.ld x.x0 r0_46) (View.ld x.x0 r0_47) (View.ld x.x0 r0_48)
  (View.ld x.x22 r0_49)
def out55 : Vec F S1x1024 .f32 := k0_pay28 (out31 x) (View.ld x.x23 r0_17) (Scalar.ofBits .f32 0x3F7FBE77#32)
def out56 : Vec F S1x1024 .f32 := k0_pay32 (View.ld x.x0 r0_58) (View.ld x.x0 r0_59) (View.ld x.x0 r0_60) (View.ld x.x0 r0_61)
  (View.ld x.x0 r0_62) (View.ld x.x0 r0_63) (View.ld x.x0 r0_64) (View.ld x.x0 r0_65) (View.ld x.x24 r0_17)
def out57 : Vec F S1x1 .f32 := (View.ld x.x0 r0_0)

end Results

/-- What one store of the whole shape leaves. -/
theorem stored {sig : RefSig} {κ : Kind} {sp : Space} {s : Shape} {e : EltTy} (v : View sig κ sp s e) (z : v.ty.Contents (Elt F))
    {off : Fin s.rank → Nat} (h : off = fun _ => 0) (inb : ∀ a, off a + s.size a ≤ s.size a) (w : s.Idx → Elt F e) :
    v.read (Elt F) (v.writes (Elt F) z [(⟨Rect.unit off s.size inb, w⟩ : View.Piece (Elt F) s e)]) = w := by
  subst h
  funext y
  have hy : (Rect.unit (fun _ => 0) s.size inb).emb y = y := funext fun a => Fin.ext (by
    show 0 + 1 * (y a).val = (y a).val; omega)
  have := View.read_writes_cons_emb v z (Rect.unit (fun _ => 0) s.size inb) w [] y
  rwa [hy] at this

theorem origin2 : (![0, 0] : Fin 2 → Nat) = fun _ => 0 := funext fun a => by fin_cases a <;> rfl
theorem origin3 : (![0, 0, 0] : Fin 3 → Nat) = fun _ => 0 := funext fun a => by fin_cases a <;> rfl

/-- Core `c` holds `b` whole, with contents `x`. -/
abbrev hold (c : Dev nD) {s : Shape} {e : EltTy} (b : Memref sig .tc .vmem s e) (x : s.Idx → Elt F e) : sProp 𝕄 :=
  owns (c : Thread nD τ) b fullShare x

section Body

variable
  {b0 : Memref sig .tc .vmem S704x128 .f32} (w0 : b0.IsWhole) {b1 : Memref sig .tc .vmem S512x128 .f32} (w1 : b1.IsWhole)
  {b2 : Memref sig .tc .vmem S1x512 .f32} (w2 : b2.IsWhole) {b3 : Memref sig .tc .vmem S1x1024 .f32} (w3 : b3.IsWhole)
  {b4 : Memref sig .tc .vmem S1x1024 .f32} (w4 : b4.IsWhole) {b5 : Memref sig .tc .vmem S3x1x352 .f32} (w5 : b5.IsWhole)
  {b6 : Memref sig .tc .vmem S1x2816 .f32} (w6 : b6.IsWhole) {b7 : Memref sig .tc .vmem S1x1024 .f32} (w7 : b7.IsWhole)
  {b8 : Memref sig .tc .vmem S1x1024 .f32} (w8 : b8.IsWhole) {b9 : Memref sig .tc .vmem S512x128 .f32} (w9 : b9.IsWhole)
  {b10 : Memref sig .tc .vmem S1x512 .f32} (w10 : b10.IsWhole) {b11 : Memref sig .tc .vmem S1x1024 .f32} (w11 : b11.IsWhole)
  {b12 : Memref sig .tc .vmem S1x1024 .f32} (w12 : b12.IsWhole) {b13 : Memref sig .tc .vmem S3x1x352 .f32} (w13 : b13.IsWhole)
  {b14 : Memref sig .tc .vmem S1x2816 .f32} (w14 : b14.IsWhole) {b15 : Memref sig .tc .vmem S1x1024 .f32} (w15 : b15.IsWhole)
  {b16 : Memref sig .tc .vmem S1x1024 .f32} (w16 : b16.IsWhole) {b17 : Memref sig .tc .vmem S512x128 .f32} (w17 : b17.IsWhole)
  {b18 : Memref sig .tc .vmem S1x512 .f32} (w18 : b18.IsWhole) {b19 : Memref sig .tc .vmem S1x1024 .f32} (w19 : b19.IsWhole)
  {b20 : Memref sig .tc .vmem S1x1024 .f32} (w20 : b20.IsWhole) {b21 : Memref sig .tc .vmem S3x1x352 .f32} (w21 : b21.IsWhole)
  {b22 : Memref sig .tc .vmem S1x2816 .f32} (w22 : b22.IsWhole) {b23 : Memref sig .tc .vmem S1x1024 .f32} (w23 : b23.IsWhole)
  {b24 : Memref sig .tc .vmem S1x1024 .f32} (w24 : b24.IsWhole) {b25 : Memref sig .tc .vmem S3x1x352 .f32} (w25 : b25.IsWhole)
  {b26 : Memref sig .tc .vmem S512x128 .f32} (w26 : b26.IsWhole) {b27 : Memref sig .tc .vmem S1x512 .f32} (w27 : b27.IsWhole)
  {b28 : Memref sig .tc .vmem S1x1024 .f32} (w28 : b28.IsWhole) {b29 : Memref sig .tc .vmem S1x1024 .f32} (w29 : b29.IsWhole)
  {b30 : Memref sig .tc .vmem S1x2816 .f32} (w30 : b30.IsWhole) {b31 : Memref sig .tc .vmem S1x1024 .f32} (w31 : b31.IsWhole)
  {b32 : Memref sig .tc .vmem S1x1024 .f32} (w32 : b32.IsWhole) {b33 : Memref sig .tc .vmem S512x128 .f32} (w33 : b33.IsWhole)
  {b34 : Memref sig .tc .vmem S1x512 .f32} (w34 : b34.IsWhole) {b35 : Memref sig .tc .vmem S1x1024 .f32} (w35 : b35.IsWhole)
  {b36 : Memref sig .tc .vmem S1x1024 .f32} (w36 : b36.IsWhole) {b37 : Memref sig .tc .vmem S3x1x352 .f32} (w37 : b37.IsWhole)
  {b38 : Memref sig .tc .vmem S1x2816 .f32} (w38 : b38.IsWhole) {b39 : Memref sig .tc .vmem S1x1024 .f32} (w39 : b39.IsWhole)
  {b40 : Memref sig .tc .vmem S1x1024 .f32} (w40 : b40.IsWhole) {b41 : Memref sig .tc .vmem S512x128 .f32} (w41 : b41.IsWhole)
  {b42 : Memref sig .tc .vmem S1x512 .f32} (w42 : b42.IsWhole) {b43 : Memref sig .tc .vmem S1x1024 .f32} (w43 : b43.IsWhole)
  {b44 : Memref sig .tc .vmem S1x1024 .f32} (w44 : b44.IsWhole) {b45 : Memref sig .tc .vmem S3x1x352 .f32} (w45 : b45.IsWhole)
  {b46 : Memref sig .tc .vmem S1x2816 .f32} (w46 : b46.IsWhole) {b47 : Memref sig .tc .vmem S1x1024 .f32} (w47 : b47.IsWhole)
  {b48 : Memref sig .tc .vmem S1x1024 .f32} (w48 : b48.IsWhole) {b49 : Memref sig .tc .vmem S512x128 .f32} (w49 : b49.IsWhole)
  {b50 : Memref sig .tc .vmem S1x512 .f32} (w50 : b50.IsWhole) {b51 : Memref sig .tc .vmem S1x1024 .f32} (w51 : b51.IsWhole)
  {b52 : Memref sig .tc .vmem S1x1024 .f32} (w52 : b52.IsWhole) {b53 : Memref sig .tc .vmem S3x1x352 .f32} (w53 : b53.IsWhole)
  {b54 : Memref sig .tc .vmem S1x2816 .f32} (w54 : b54.IsWhole) {b55 : Memref sig .tc .vmem S1x1024 .f32} (w55 : b55.IsWhole)
  {b56 : Memref sig .tc .vmem S1x1024 .f32} (w56 : b56.IsWhole) {b57 : Memref sig .tc .vmem S1x1 .f32} (w57 : b57.IsWhole)

set_option maxHeartbeats 4000000 in
/-- The body, on buffers that hold `x`'s arrays and on results' buffers that hold anything, leaves the former as they were and
    the latter at the results. -/
theorem body_run (c : Dev nD) (E : Set ℕ) (x : Inputs F) (K : PUnit → sProp 𝕄) :
    iprop(hold c b0 x.x0 ∗ hold c b1 x.x1 ∗ hold c b2 x.x2 ∗ hold c b3 x.x3 ∗ hold c b4 x.x4 ∗ hold c b5 x.x5 ∗ hold c b6 x.x6 ∗
      hold c b7 x.x7 ∗ hold c b8 x.x8 ∗ hold c b9 x.x9 ∗ hold c b10 x.x10 ∗ hold c b11 x.x11 ∗ hold c b12 x.x12 ∗
      hold c b13 x.x13 ∗ hold c b14 x.x14 ∗ hold c b15 x.x15 ∗ hold c b16 x.x16 ∗ hold c b17 x.x17 ∗ hold c b18 x.x18 ∗
      hold c b19 x.x19 ∗ hold c b20 x.x20 ∗ hold c b21 x.x21 ∗ hold c b22 x.x22 ∗ hold c b23 x.x23 ∗ hold c b24 x.x24 ∗
      hold c b25 x.x25 ∗ (∃ d, hold c b26 d) ∗ (∃ d, hold c b27 d) ∗ (∃ d, hold c b28 d) ∗ (∃ d, hold c b29 d) ∗
      (∃ d, hold c b30 d) ∗ (∃ d, hold c b31 d) ∗ (∃ d, hold c b32 d) ∗ (∃ d, hold c b33 d) ∗ (∃ d, hold c b34 d) ∗
      (∃ d, hold c b35 d) ∗ (∃ d, hold c b36 d) ∗ (∃ d, hold c b37 d) ∗ (∃ d, hold c b38 d) ∗ (∃ d, hold c b39 d) ∗
      (∃ d, hold c b40 d) ∗ (∃ d, hold c b41 d) ∗ (∃ d, hold c b42 d) ∗ (∃ d, hold c b43 d) ∗ (∃ d, hold c b44 d) ∗
      (∃ d, hold c b45 d) ∗ (∃ d, hold c b46 d) ∗ (∃ d, hold c b47 d) ∗ (∃ d, hold c b48 d) ∗ (∃ d, hold c b49 d) ∗
      (∃ d, hold c b50 d) ∗ (∃ d, hold c b51 d) ∗ (∃ d, hold c b52 d) ∗ (∃ d, hold c b53 d) ∗ (∃ d, hold c b54 d) ∗
      (∃ d, hold c b55 d) ∗ (∃ d, hold c b56 d) ∗ (∃ d, hold c b57 d) ∗ (iprop(hold c b0 x.x0 ∗ hold c b1 x.x1 ∗ hold c b2 x.x2 ∗
      hold c b3 x.x3 ∗ hold c b4 x.x4 ∗ hold c b5 x.x5 ∗ hold c b6 x.x6 ∗ hold c b7 x.x7 ∗ hold c b8 x.x8 ∗ hold c b9 x.x9 ∗
      hold c b10 x.x10 ∗ hold c b11 x.x11 ∗ hold c b12 x.x12 ∗ hold c b13 x.x13 ∗ hold c b14 x.x14 ∗ hold c b15 x.x15 ∗
      hold c b16 x.x16 ∗ hold c b17 x.x17 ∗ hold c b18 x.x18 ∗ hold c b19 x.x19 ∗ hold c b20 x.x20 ∗ hold c b21 x.x21 ∗
      hold c b22 x.x22 ∗ hold c b23 x.x23 ∗ hold c b24 x.x24 ∗ hold c b25 x.x25 ∗ hold c b26 (out26 x) ∗ hold c b27 (out27 x) ∗
      hold c b28 (out28 x) ∗ hold c b29 (out29 x) ∗ hold c b30 (out30 x) ∗ hold c b31 (out31 x) ∗ hold c b32 (out32 x) ∗
      hold c b33 (out33 x) ∗ hold c b34 (out34 x) ∗ hold c b35 (out35 x) ∗ hold c b36 (out36 x) ∗ hold c b37 (out37 x) ∗
      hold c b38 (out38 x) ∗ hold c b39 (out39 x) ∗ hold c b40 (out40 x) ∗ hold c b41 (out41 x) ∗ hold c b42 (out42 x) ∗
      hold c b43 (out43 x) ∗ hold c b44 (out44 x) ∗ hold c b45 (out45 x) ∗ hold c b46 (out46 x) ∗ hold c b47 (out47 x) ∗
      hold c b48 (out48 x) ∗ hold c b49 (out49 x) ∗ hold c b50 (out50 x) ∗ hold c b51 (out51 x) ∗ hold c b52 (out52 x) ∗
      hold c b53 (out53 x) ∗ hold c b54 (out54 x) ∗ hold c b55 (out55 x) ∗ hold c b56 (out56 x) ∗ hold c b57 (out57 x)) -∗ K ⟨⟩))
      ⊢ wp frame (wpE (defs₀ (F := F)) Variants.none c none) E (cc0_adamw_small b0 w0 b1 w1 b2 w2 b3 w3 b4 w4 b5 w5 b6 w6 b7 w7
        b8 w8 b9 w9 b10 w10 b11 w11 b12 w12 b13 w13 b14 w14 b15 w15 b16 w16 b17 w17 b18 w18 b19 w19 b20 w20 b21 w21 b22 w22
        b23 w23 b24 w24 b25 w25 b26 w26 b27 w27 b28 w28 b29 w29 b30 w30 b31 w31 b32 w32 b33 w33 b34 w34 b35 w35 b36 w36 b37 w37
        b38 w38 b39 w39 b40 w40 b41 w41 b42 w42 b43 w43 b44 w44 b45 w45 b46 w46 b47 w47 b48 w48 b49 w49 b50 w50 b51 w51 b52 w52
        b53 w53 b54 w54 b55 w55 b56 w56 b57 w57) K := by
  obtain ⟨x0, x1, x2, x3, x4, x5, x6, x7, x8, x9, x10, x11, x12, x13, x14, x15, x16, x17, x18, x19, x20, x21, x22, x23, x24,
    x25⟩ := x
  simp only [cc0_adamw_small_eq_skeleton]; unfold cc0_adamw_small_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold hold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩,
    ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩,
    ⟨%f14, %h14, H14⟩, ⟨%f15, %h15, H15⟩, ⟨%f16, %h16, H16⟩, ⟨%f17, %h17, H17⟩, ⟨%f18, %h18, H18⟩, ⟨%f19, %h19, H19⟩,
    ⟨%f20, %h20, H20⟩, ⟨%f21, %h21, H21⟩, ⟨%f22, %h22, H22⟩, ⟨%f23, %h23, H23⟩, ⟨%f24, %h24, H24⟩, ⟨%f25, %h25, H25⟩,
    ⟨%d26, %f26, -, H26⟩, ⟨%d27, %f27, -, H27⟩, ⟨%d28, %f28, -, H28⟩, ⟨%d29, %f29, -, H29⟩, ⟨%d30, %f30, -, H30⟩,
    ⟨%d31, %f31, -, H31⟩, ⟨%d32, %f32, -, H32⟩, ⟨%d33, %f33, -, H33⟩, ⟨%d34, %f34, -, H34⟩, ⟨%d35, %f35, -, H35⟩,
    ⟨%d36, %f36, -, H36⟩, ⟨%d37, %f37, -, H37⟩, ⟨%d38, %f38, -, H38⟩, ⟨%d39, %f39, -, H39⟩, ⟨%d40, %f40, -, H40⟩,
    ⟨%d41, %f41, -, H41⟩, ⟨%d42, %f42, -, H42⟩, ⟨%d43, %f43, -, H43⟩, ⟨%d44, %f44, -, H44⟩, ⟨%d45, %f45, -, H45⟩,
    ⟨%d46, %f46, -, H46⟩, ⟨%d47, %f47, -, H47⟩, ⟨%d48, %f48, -, H48⟩, ⟨%d49, %f49, -, H49⟩, ⟨%d50, %f50, -, H50⟩,
    ⟨%d51, %f51, -, H51⟩, ⟨%d52, %f52, -, H52⟩, ⟨%d53, %f53, -, H53⟩, ⟨%d54, %f54, -, H54⟩, ⟨%d55, %f55, -, H55⟩,
    ⟨%d56, %f56, -, H56⟩, ⟨%d57, %f57, -, H57⟩, Hk⟩
  subst h0 h1 h2 h3 h4 h5 h6 h7 h8 h9 h10 h11 h12 h13 h14 h15 h16 h17 h18 h19 h20 h21 h22 h23 h24 h25
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  isplitl [H6]; · iexists f6; isplitr; ipureintro; rfl; iexact H6
  isplitl [H7]; · iexists f7; isplitr; ipureintro; rfl; iexact H7
  isplitl [H8]; · iexists f8; isplitr; ipureintro; rfl; iexact H8
  isplitl [H9]; · iexists f9; isplitr; ipureintro; rfl; iexact H9
  isplitl [H10]; · iexists f10; isplitr; ipureintro; rfl; iexact H10
  isplitl [H11]; · iexists f11; isplitr; ipureintro; rfl; iexact H11
  isplitl [H12]; · iexists f12; isplitr; ipureintro; rfl; iexact H12
  isplitl [H13]; · iexists f13; isplitr; ipureintro; rfl; iexact H13
  isplitl [H14]; · iexists f14; isplitr; ipureintro; rfl; iexact H14
  isplitl [H15]; · iexists f15; isplitr; ipureintro; rfl; iexact H15
  isplitl [H16]; · iexists f16; isplitr; ipureintro; rfl; iexact H16
  isplitl [H17]; · iexists f17; isplitr; ipureintro; rfl; iexact H17
  isplitl [H18]; · iexists f18; isplitr; ipureintro; rfl; iexact H18
  isplitl [H19]; · iexists f19; isplitr; ipureintro; rfl; iexact H19
  isplitl [H20]; · iexists f20; isplitr; ipureintro; rfl; iexact H20
  isplitl [H21]; · iexists f21; isplitr; ipureintro; rfl; iexact H21
  isplitl [H22]; · iexists f22; isplitr; ipureintro; rfl; iexact H22
  isplitl [H23]; · iexists f23; isplitr; ipureintro; rfl; iexact H23
  isplitl [H24]; · iexists f24; isplitr; ipureintro; rfl; iexact H24
  isplitl [H25]; · iexists f25; isplitr; ipureintro; rfl; iexact H25
  isplitl [H26]; · iexists _; isplitr; swap; iexact H26; ipureintro; exact (stored _ _ origin2 _ _).trans rfl
  isplitl [H27]; · iexists _; isplitr; swap; iexact H27; ipureintro; exact (stored _ _ origin2 _ _).trans rfl
  isplitl [H28]; · iexists _; isplitr; swap; iexact H28; ipureintro; exact (stored _ _ origin2 _ _).trans rfl
  isplitl [H29]; · iexists _; isplitr; swap; iexact H29; ipureintro; exact (stored _ _ origin2 _ _).trans rfl
  isplitl [H30]; · iexists _; isplitr; swap; iexact H30; ipureintro; exact (stored _ _ origin2 _ _).trans rfl
  isplitl [H31]; · iexists _; isplitr; swap; iexact H31; ipureintro; exact (stored _ _ origin2 _ _).trans rfl
  isplitl [H32]; · iexists _; isplitr; swap; iexact H32; ipureintro; exact (stored _ _ origin2 _ _).trans rfl
  isplitl [H33]; · iexists _; isplitr; swap; iexact H33; ipureintro; exact (stored _ _ origin2 _ _).trans rfl
  isplitl [H34]; · iexists _; isplitr; swap; iexact H34; ipureintro; exact (stored _ _ origin2 _ _).trans rfl
  isplitl [H35]; · iexists _; isplitr; swap; iexact H35; ipureintro; exact (stored _ _ origin2 _ _).trans rfl
  isplitl [H36]; · iexists _; isplitr; swap; iexact H36; ipureintro; exact (stored _ _ origin2 _ _).trans rfl
  isplitl [H37]; · iexists _; isplitr; swap; iexact H37; ipureintro; exact (stored _ _ origin3 _ _).trans rfl
  isplitl [H38]; · iexists _; isplitr; swap; iexact H38; ipureintro; exact (stored _ _ origin2 _ _).trans rfl
  isplitl [H39]; · iexists _; isplitr; swap; iexact H39; ipureintro; exact (stored _ _ origin2 _ _).trans rfl
  isplitl [H40]; · iexists _; isplitr; swap; iexact H40; ipureintro; exact (stored _ _ origin2 _ _).trans rfl
  isplitl [H41]; · iexists _; isplitr; swap; iexact H41; ipureintro; exact (stored _ _ origin2 _ _).trans rfl
  isplitl [H42]; · iexists _; isplitr; swap; iexact H42; ipureintro; exact (stored _ _ origin2 _ _).trans rfl
  isplitl [H43]; · iexists _; isplitr; swap; iexact H43; ipureintro; exact (stored _ _ origin2 _ _).trans rfl
  isplitl [H44]; · iexists _; isplitr; swap; iexact H44; ipureintro; exact (stored _ _ origin2 _ _).trans rfl
  isplitl [H45]; · iexists _; isplitr; swap; iexact H45; ipureintro; exact (stored _ _ origin3 _ _).trans rfl
  isplitl [H46]; · iexists _; isplitr; swap; iexact H46; ipureintro; exact (stored _ _ origin2 _ _).trans rfl
  isplitl [H47]; · iexists _; isplitr; swap; iexact H47; ipureintro; exact (stored _ _ origin2 _ _).trans rfl
  isplitl [H48]; · iexists _; isplitr; swap; iexact H48; ipureintro; exact (stored _ _ origin2 _ _).trans rfl
  isplitl [H49]; · iexists _; isplitr; swap; iexact H49; ipureintro; exact (stored _ _ origin2 _ _).trans rfl
  isplitl [H50]; · iexists _; isplitr; swap; iexact H50; ipureintro; exact (stored _ _ origin2 _ _).trans rfl
  isplitl [H51]; · iexists _; isplitr; swap; iexact H51; ipureintro; exact (stored _ _ origin2 _ _).trans rfl
  isplitl [H52]; · iexists _; isplitr; swap; iexact H52; ipureintro; exact (stored _ _ origin2 _ _).trans rfl
  isplitl [H53]; · iexists _; isplitr; swap; iexact H53; ipureintro; exact (stored _ _ origin3 _ _).trans rfl
  isplitl [H54]; · iexists _; isplitr; swap; iexact H54; ipureintro; exact (stored _ _ origin2 _ _).trans rfl
  isplitl [H55]; · iexists _; isplitr; swap; iexact H55; ipureintro; exact (stored _ _ origin2 _ _).trans rfl
  isplitl [H56]; · iexists _; isplitr; swap; iexact H56; ipureintro; exact (stored _ _ origin2 _ _).trans rfl
  iexists _; isplitr; swap; iexact H57; ipureintro; exact (stored _ _ origin2 _ _).trans rfl

end Body

end AdamSmall

end
-- ==== Proof.Small.Run.lean ====
/- The run of AdamW's step of the small weights, over any floats, and what every array holds when the launch is over. The launch
   has one grid point, at which each window's block is its whole array. -/
module

public import proofs.«01_k».proof.Proof.Small.Body
public import Idealize.ShloMosaic.Lib.Pipeline.FrameBody
public import Idealize.ShloMosaic.Lib.Pipeline.Value
public import Idealize.ShloMosaic.Lib.Claim

@[expose] public section

set_option maxRecDepth 16384
set_option maxHeartbeats 2000000

noncomputable section

namespace AdamSmall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamSmallIdeal Cert.AdamSmallIdeal.Gen

variable {F : FTy → Type} [FloatOps F]

local notation "𝕄" => MT nD τ sig Unit (Elt F) ℕ (UR sig nD τ) ℕ

/-! ### The launch -/

variable (m : (ℓ : Loc nD τ sig) → Buf (Elt F) ℓ) (ρ : Dev nD → PrngReg)

/-- Core `c`'s arrays, as launched. -/
abbrev V (c : Dev nD) (b : Ref sig .tc) : Buf (Elt F) ((c : Thread nD τ).loc b) := m ((c : Thread nD τ).loc b)

theorem host (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The arrays that the kernel reads. -/
def arrays (c : Dev nD) : Inputs F where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)
  x20 := m ((c : Thread nD τ).loc main_arg20)
  x21 := m ((c : Thread nD τ).loc main_arg21)
  x22 := m ((c : Thread nD τ).loc main_arg22)
  x23 := m ((c : Thread nD τ).loc main_arg23)
  x24 := m ((c : Thread nD τ).loc main_arg24)
  x25 := m ((c : Thread nD τ).loc main_arg25)

/-- What the buffers hold after the body. -/
def dats (_ : Fin 1) (c : Dev nD) : Dat τ (Elt F) Unit ℕ (UR sig nD τ) ℕ cfg0 c where
  A w := V m c (Pipeline.arrRef spec0 w)
  after w t := match w with
    | ⟨0, _⟩ => (arrays m c).x0
    | ⟨1, _⟩ => (arrays m c).x1
    | ⟨2, _⟩ => (arrays m c).x2
    | ⟨3, _⟩ => (arrays m c).x3
    | ⟨4, _⟩ => (arrays m c).x4
    | ⟨5, _⟩ => (arrays m c).x5
    | ⟨6, _⟩ => (arrays m c).x6
    | ⟨7, _⟩ => (arrays m c).x7
    | ⟨8, _⟩ => (arrays m c).x8
    | ⟨9, _⟩ => (arrays m c).x9
    | ⟨10, _⟩ => (arrays m c).x10
    | ⟨11, _⟩ => (arrays m c).x11
    | ⟨12, _⟩ => (arrays m c).x12
    | ⟨13, _⟩ => (arrays m c).x13
    | ⟨14, _⟩ => (arrays m c).x14
    | ⟨15, _⟩ => (arrays m c).x15
    | ⟨16, _⟩ => (arrays m c).x16
    | ⟨17, _⟩ => (arrays m c).x17
    | ⟨18, _⟩ => (arrays m c).x18
    | ⟨19, _⟩ => (arrays m c).x19
    | ⟨20, _⟩ => (arrays m c).x20
    | ⟨21, _⟩ => (arrays m c).x21
    | ⟨22, _⟩ => (arrays m c).x22
    | ⟨23, _⟩ => (arrays m c).x23
    | ⟨24, _⟩ => (arrays m c).x24
    | ⟨25, _⟩ => (arrays m c).x25
    | ⟨26, _⟩ => out26 (arrays m c)
    | ⟨27, _⟩ => out27 (arrays m c)
    | ⟨28, _⟩ => out28 (arrays m c)
    | ⟨29, _⟩ => out29 (arrays m c)
    | ⟨30, _⟩ => out30 (arrays m c)
    | ⟨31, _⟩ => out31 (arrays m c)
    | ⟨32, _⟩ => out32 (arrays m c)
    | ⟨33, _⟩ => out33 (arrays m c)
    | ⟨34, _⟩ => out34 (arrays m c)
    | ⟨35, _⟩ => out35 (arrays m c)
    | ⟨36, _⟩ => out36 (arrays m c)
    | ⟨37, _⟩ => out37 (arrays m c)
    | ⟨38, _⟩ => out38 (arrays m c)
    | ⟨39, _⟩ => out39 (arrays m c)
    | ⟨40, _⟩ => out40 (arrays m c)
    | ⟨41, _⟩ => out41 (arrays m c)
    | ⟨42, _⟩ => out42 (arrays m c)
    | ⟨43, _⟩ => out43 (arrays m c)
    | ⟨44, _⟩ => out44 (arrays m c)
    | ⟨45, _⟩ => out45 (arrays m c)
    | ⟨46, _⟩ => out46 (arrays m c)
    | ⟨47, _⟩ => out47 (arrays m c)
    | ⟨48, _⟩ => out48 (arrays m c)
    | ⟨49, _⟩ => out49 (arrays m c)
    | ⟨50, _⟩ => out50 (arrays m c)
    | ⟨51, _⟩ => out51 (arrays m c)
    | ⟨52, _⟩ => out52 (arrays m c)
    | ⟨53, _⟩ => out53 (arrays m c)
    | ⟨54, _⟩ => out54 (arrays m c)
    | ⟨55, _⟩ => out55 (arrays m c)
    | ⟨56, _⟩ => out56 (arrays m c)
    | ⟨57, _⟩ => out57 (arrays m c)
    | ⟨_ + 58, h⟩ => absurd h (Nat.not_lt.2 (Nat.le_add_left _ _))
  Φ _ := Pipeline.ΦA spec0 c
  q _ := fullShare
  owed _ := 0

theorem launched (c : Dev nD) (w : Fin cfg0.W) : (dats m 0 c).A w = V m c (Pipeline.arrRef spec0 w) := by
  unfold dats; rfl

/-- A block's entry sits at its own place in the array. -/
theorem place (w : Fin cfg0.W) (t : Fin cfg0.N) (j : ((cfg0.win w).xblock (cfg0.grid.coords t)).Idx) (a : Fin (cfg0.win w).shape.rank) :
    (((cfg0.win w).rect t).emb j a : Nat) = j a :=
  Window.rect_emb_val_of_index_zero _ t a (((cfg0.win w).whole_of_rank_zero rfl).2 _ a) j

-- A block's indices are the array's.
theorem emb0 (t : Fin cfg0.N) (j : S704x128.Idx) : ((cfg0.win 0).blk t).view.emb j = j := funext fun a => Fin.ext (place 0 t j a)
theorem emb1 (t : Fin cfg0.N) (j : S512x128.Idx) : ((cfg0.win 1).blk t).view.emb j = j := funext fun a => Fin.ext (place 1 t j a)
theorem emb2 (t : Fin cfg0.N) (j : S1x512.Idx) : ((cfg0.win 2).blk t).view.emb j = j := funext fun a => Fin.ext (place 2 t j a)
theorem emb3 (t : Fin cfg0.N) (j : S1x1024.Idx) : ((cfg0.win 3).blk t).view.emb j = j := funext fun a => Fin.ext (place 3 t j a)
theorem emb4 (t : Fin cfg0.N) (j : S1x1024.Idx) : ((cfg0.win 4).blk t).view.emb j = j := funext fun a => Fin.ext (place 4 t j a)
theorem emb5 (t : Fin cfg0.N) (j : S3x1x352.Idx) : ((cfg0.win 5).blk t).view.emb j = j := funext fun a => Fin.ext (place 5 t j a)
theorem emb6 (t : Fin cfg0.N) (j : S1x2816.Idx) : ((cfg0.win 6).blk t).view.emb j = j := funext fun a => Fin.ext (place 6 t j a)
theorem emb7 (t : Fin cfg0.N) (j : S1x1024.Idx) : ((cfg0.win 7).blk t).view.emb j = j := funext fun a => Fin.ext (place 7 t j a)
theorem emb8 (t : Fin cfg0.N) (j : S1x1024.Idx) : ((cfg0.win 8).blk t).view.emb j = j := funext fun a => Fin.ext (place 8 t j a)
theorem emb9 (t : Fin cfg0.N) (j : S512x128.Idx) : ((cfg0.win 9).blk t).view.emb j = j := funext fun a => Fin.ext (place 9 t j a)
theorem emb10 (t : Fin cfg0.N) (j : S1x512.Idx) : ((cfg0.win 10).blk t).view.emb j = j := funext fun a => Fin.ext (place 10 t j a)
theorem emb11 (t : Fin cfg0.N) (j : S1x1024.Idx) : ((cfg0.win 11).blk t).view.emb j = j := funext fun a => Fin.ext (place 11 t j a)
theorem emb12 (t : Fin cfg0.N) (j : S1x1024.Idx) : ((cfg0.win 12).blk t).view.emb j = j := funext fun a => Fin.ext (place 12 t j a)
theorem emb13 (t : Fin cfg0.N) (j : S3x1x352.Idx) : ((cfg0.win 13).blk t).view.emb j = j := funext fun a => Fin.ext (place 13 t j a)
theorem emb14 (t : Fin cfg0.N) (j : S1x2816.Idx) : ((cfg0.win 14).blk t).view.emb j = j := funext fun a => Fin.ext (place 14 t j a)
theorem emb15 (t : Fin cfg0.N) (j : S1x1024.Idx) : ((cfg0.win 15).blk t).view.emb j = j := funext fun a => Fin.ext (place 15 t j a)
theorem emb16 (t : Fin cfg0.N) (j : S1x1024.Idx) : ((cfg0.win 16).blk t).view.emb j = j := funext fun a => Fin.ext (place 16 t j a)
theorem emb17 (t : Fin cfg0.N) (j : S512x128.Idx) : ((cfg0.win 17).blk t).view.emb j = j := funext fun a => Fin.ext (place 17 t j a)
theorem emb18 (t : Fin cfg0.N) (j : S1x512.Idx) : ((cfg0.win 18).blk t).view.emb j = j := funext fun a => Fin.ext (place 18 t j a)
theorem emb19 (t : Fin cfg0.N) (j : S1x1024.Idx) : ((cfg0.win 19).blk t).view.emb j = j := funext fun a => Fin.ext (place 19 t j a)
theorem emb20 (t : Fin cfg0.N) (j : S1x1024.Idx) : ((cfg0.win 20).blk t).view.emb j = j := funext fun a => Fin.ext (place 20 t j a)
theorem emb21 (t : Fin cfg0.N) (j : S3x1x352.Idx) : ((cfg0.win 21).blk t).view.emb j = j := funext fun a => Fin.ext (place 21 t j a)
theorem emb22 (t : Fin cfg0.N) (j : S1x2816.Idx) : ((cfg0.win 22).blk t).view.emb j = j := funext fun a => Fin.ext (place 22 t j a)
theorem emb23 (t : Fin cfg0.N) (j : S1x1024.Idx) : ((cfg0.win 23).blk t).view.emb j = j := funext fun a => Fin.ext (place 23 t j a)
theorem emb24 (t : Fin cfg0.N) (j : S1x1024.Idx) : ((cfg0.win 24).blk t).view.emb j = j := funext fun a => Fin.ext (place 24 t j a)
theorem emb25 (t : Fin cfg0.N) (j : S3x1x352.Idx) : ((cfg0.win 25).blk t).view.emb j = j := funext fun a => Fin.ext (place 25 t j a)
theorem emb26 (t : Fin cfg0.N) (j : S512x128.Idx) : ((cfg0.win 26).blk t).view.emb j = j := funext fun a => Fin.ext (place 26 t j a)
theorem emb27 (t : Fin cfg0.N) (j : S1x512.Idx) : ((cfg0.win 27).blk t).view.emb j = j := funext fun a => Fin.ext (place 27 t j a)
theorem emb28 (t : Fin cfg0.N) (j : S1x1024.Idx) : ((cfg0.win 28).blk t).view.emb j = j := funext fun a => Fin.ext (place 28 t j a)
theorem emb29 (t : Fin cfg0.N) (j : S1x1024.Idx) : ((cfg0.win 29).blk t).view.emb j = j := funext fun a => Fin.ext (place 29 t j a)
theorem emb30 (t : Fin cfg0.N) (j : S1x2816.Idx) : ((cfg0.win 30).blk t).view.emb j = j := funext fun a => Fin.ext (place 30 t j a)
theorem emb31 (t : Fin cfg0.N) (j : S1x1024.Idx) : ((cfg0.win 31).blk t).view.emb j = j := funext fun a => Fin.ext (place 31 t j a)
theorem emb32 (t : Fin cfg0.N) (j : S1x1024.Idx) : ((cfg0.win 32).blk t).view.emb j = j := funext fun a => Fin.ext (place 32 t j a)
theorem emb33 (t : Fin cfg0.N) (j : S512x128.Idx) : ((cfg0.win 33).blk t).view.emb j = j := funext fun a => Fin.ext (place 33 t j a)
theorem emb34 (t : Fin cfg0.N) (j : S1x512.Idx) : ((cfg0.win 34).blk t).view.emb j = j := funext fun a => Fin.ext (place 34 t j a)
theorem emb35 (t : Fin cfg0.N) (j : S1x1024.Idx) : ((cfg0.win 35).blk t).view.emb j = j := funext fun a => Fin.ext (place 35 t j a)
theorem emb36 (t : Fin cfg0.N) (j : S1x1024.Idx) : ((cfg0.win 36).blk t).view.emb j = j := funext fun a => Fin.ext (place 36 t j a)
theorem emb37 (t : Fin cfg0.N) (j : S3x1x352.Idx) : ((cfg0.win 37).blk t).view.emb j = j := funext fun a => Fin.ext (place 37 t j a)
theorem emb38 (t : Fin cfg0.N) (j : S1x2816.Idx) : ((cfg0.win 38).blk t).view.emb j = j := funext fun a => Fin.ext (place 38 t j a)
theorem emb39 (t : Fin cfg0.N) (j : S1x1024.Idx) : ((cfg0.win 39).blk t).view.emb j = j := funext fun a => Fin.ext (place 39 t j a)
theorem emb40 (t : Fin cfg0.N) (j : S1x1024.Idx) : ((cfg0.win 40).blk t).view.emb j = j := funext fun a => Fin.ext (place 40 t j a)
theorem emb41 (t : Fin cfg0.N) (j : S512x128.Idx) : ((cfg0.win 41).blk t).view.emb j = j := funext fun a => Fin.ext (place 41 t j a)
theorem emb42 (t : Fin cfg0.N) (j : S1x512.Idx) : ((cfg0.win 42).blk t).view.emb j = j := funext fun a => Fin.ext (place 42 t j a)
theorem emb43 (t : Fin cfg0.N) (j : S1x1024.Idx) : ((cfg0.win 43).blk t).view.emb j = j := funext fun a => Fin.ext (place 43 t j a)
theorem emb44 (t : Fin cfg0.N) (j : S1x1024.Idx) : ((cfg0.win 44).blk t).view.emb j = j := funext fun a => Fin.ext (place 44 t j a)
theorem emb45 (t : Fin cfg0.N) (j : S3x1x352.Idx) : ((cfg0.win 45).blk t).view.emb j = j := funext fun a => Fin.ext (place 45 t j a)
theorem emb46 (t : Fin cfg0.N) (j : S1x2816.Idx) : ((cfg0.win 46).blk t).view.emb j = j := funext fun a => Fin.ext (place 46 t j a)
theorem emb47 (t : Fin cfg0.N) (j : S1x1024.Idx) : ((cfg0.win 47).blk t).view.emb j = j := funext fun a => Fin.ext (place 47 t j a)
theorem emb48 (t : Fin cfg0.N) (j : S1x1024.Idx) : ((cfg0.win 48).blk t).view.emb j = j := funext fun a => Fin.ext (place 48 t j a)
theorem emb49 (t : Fin cfg0.N) (j : S512x128.Idx) : ((cfg0.win 49).blk t).view.emb j = j := funext fun a => Fin.ext (place 49 t j a)
theorem emb50 (t : Fin cfg0.N) (j : S1x512.Idx) : ((cfg0.win 50).blk t).view.emb j = j := funext fun a => Fin.ext (place 50 t j a)
theorem emb51 (t : Fin cfg0.N) (j : S1x1024.Idx) : ((cfg0.win 51).blk t).view.emb j = j := funext fun a => Fin.ext (place 51 t j a)
theorem emb52 (t : Fin cfg0.N) (j : S1x1024.Idx) : ((cfg0.win 52).blk t).view.emb j = j := funext fun a => Fin.ext (place 52 t j a)
theorem emb53 (t : Fin cfg0.N) (j : S3x1x352.Idx) : ((cfg0.win 53).blk t).view.emb j = j := funext fun a => Fin.ext (place 53 t j a)
theorem emb54 (t : Fin cfg0.N) (j : S1x2816.Idx) : ((cfg0.win 54).blk t).view.emb j = j := funext fun a => Fin.ext (place 54 t j a)
theorem emb55 (t : Fin cfg0.N) (j : S1x1024.Idx) : ((cfg0.win 55).blk t).view.emb j = j := funext fun a => Fin.ext (place 55 t j a)
theorem emb56 (t : Fin cfg0.N) (j : S1x1024.Idx) : ((cfg0.win 56).blk t).view.emb j = j := funext fun a => Fin.ext (place 56 t j a)
theorem emb57 (t : Fin cfg0.N) (j : S1x1.Idx) : ((cfg0.win 57).blk t).view.emb j = j := funext fun a => Fin.ext (place 57 t j a)

section Buffers

variable (c : Dev nD) (t : Fin cfg0.N)

-- An input's buffer holds the input's block when the body starts.
theorem before0 (d) : (dats m 0 c).before 0 t d = (arrays m c).x0 :=
  have h t : ((cfg0.win 0).blk t).view.read (Elt F) (m ((c : Thread nD τ).loc main_arg0)) = (arrays m c).x0 :=
    funext fun j => congrArg (m ((c : Thread nD τ).loc main_arg0)) (emb0 t j)
  ((dats m 0 c).before_in_eq_fetched 0 rfl (fun _ => rfl) (fun _ _ _ => rfl) (fun t => (h t).symm) t d).trans (h t)
theorem before1 (d) : (dats m 0 c).before 1 t d = (arrays m c).x1 :=
  have h t : ((cfg0.win 1).blk t).view.read (Elt F) (m ((c : Thread nD τ).loc main_arg1)) = (arrays m c).x1 :=
    funext fun j => congrArg (m ((c : Thread nD τ).loc main_arg1)) (emb1 t j)
  ((dats m 0 c).before_in_eq_fetched 1 rfl (fun _ => rfl) (fun _ _ _ => rfl) (fun t => (h t).symm) t d).trans (h t)
theorem before2 (d) : (dats m 0 c).before 2 t d = (arrays m c).x2 :=
  have h t : ((cfg0.win 2).blk t).view.read (Elt F) (m ((c : Thread nD τ).loc main_arg2)) = (arrays m c).x2 :=
    funext fun j => congrArg (m ((c : Thread nD τ).loc main_arg2)) (emb2 t j)
  ((dats m 0 c).before_in_eq_fetched 2 rfl (fun _ => rfl) (fun _ _ _ => rfl) (fun t => (h t).symm) t d).trans (h t)
theorem before3 (d) : (dats m 0 c).before 3 t d = (arrays m c).x3 :=
  have h t : ((cfg0.win 3).blk t).view.read (Elt F) (m ((c : Thread nD τ).loc main_arg3)) = (arrays m c).x3 :=
    funext fun j => congrArg (m ((c : Thread nD τ).loc main_arg3)) (emb3 t j)
  ((dats m 0 c).before_in_eq_fetched 3 rfl (fun _ => rfl) (fun _ _ _ => rfl) (fun t => (h t).symm) t d).trans (h t)
theorem before4 (d) : (dats m 0 c).before 4 t d = (arrays m c).x4 :=
  have h t : ((cfg0.win 4).blk t).view.read (Elt F) (m ((c : Thread nD τ).loc main_arg4)) = (arrays m c).x4 :=
    funext fun j => congrArg (m ((c : Thread nD τ).loc main_arg4)) (emb4 t j)
  ((dats m 0 c).before_in_eq_fetched 4 rfl (fun _ => rfl) (fun _ _ _ => rfl) (fun t => (h t).symm) t d).trans (h t)
theorem before5 (d) : (dats m 0 c).before 5 t d = (arrays m c).x5 :=
  have h t : ((cfg0.win 5).blk t).view.read (Elt F) (m ((c : Thread nD τ).loc main_arg5)) = (arrays m c).x5 :=
    funext fun j => congrArg (m ((c : Thread nD τ).loc main_arg5)) (emb5 t j)
  ((dats m 0 c).before_in_eq_fetched 5 rfl (fun _ => rfl) (fun _ _ _ => rfl) (fun t => (h t).symm) t d).trans (h t)
theorem before6 (d) : (dats m 0 c).before 6 t d = (arrays m c).x6 :=
  have h t : ((cfg0.win 6).blk t).view.read (Elt F) (m ((c : Thread nD τ).loc main_arg6)) = (arrays m c).x6 :=
    funext fun j => congrArg (m ((c : Thread nD τ).loc main_arg6)) (emb6 t j)
  ((dats m 0 c).before_in_eq_fetched 6 rfl (fun _ => rfl) (fun _ _ _ => rfl) (fun t => (h t).symm) t d).trans (h t)
theorem before7 (d) : (dats m 0 c).before 7 t d = (arrays m c).x7 :=
  have h t : ((cfg0.win 7).blk t).view.read (Elt F) (m ((c : Thread nD τ).loc main_arg7)) = (arrays m c).x7 :=
    funext fun j => congrArg (m ((c : Thread nD τ).loc main_arg7)) (emb7 t j)
  ((dats m 0 c).before_in_eq_fetched 7 rfl (fun _ => rfl) (fun _ _ _ => rfl) (fun t => (h t).symm) t d).trans (h t)
theorem before8 (d) : (dats m 0 c).before 8 t d = (arrays m c).x8 :=
  have h t : ((cfg0.win 8).blk t).view.read (Elt F) (m ((c : Thread nD τ).loc main_arg8)) = (arrays m c).x8 :=
    funext fun j => congrArg (m ((c : Thread nD τ).loc main_arg8)) (emb8 t j)
  ((dats m 0 c).before_in_eq_fetched 8 rfl (fun _ => rfl) (fun _ _ _ => rfl) (fun t => (h t).symm) t d).trans (h t)
theorem before9 (d) : (dats m 0 c).before 9 t d = (arrays m c).x9 :=
  have h t : ((cfg0.win 9).blk t).view.read (Elt F) (m ((c : Thread nD τ).loc main_arg9)) = (arrays m c).x9 :=
    funext fun j => congrArg (m ((c : Thread nD τ).loc main_arg9)) (emb9 t j)
  ((dats m 0 c).before_in_eq_fetched 9 rfl (fun _ => rfl) (fun _ _ _ => rfl) (fun t => (h t).symm) t d).trans (h t)
theorem before10 (d) : (dats m 0 c).before 10 t d = (arrays m c).x10 :=
  have h t : ((cfg0.win 10).blk t).view.read (Elt F) (m ((c : Thread nD τ).loc main_arg10)) = (arrays m c).x10 :=
    funext fun j => congrArg (m ((c : Thread nD τ).loc main_arg10)) (emb10 t j)
  ((dats m 0 c).before_in_eq_fetched 10 rfl (fun _ => rfl) (fun _ _ _ => rfl) (fun t => (h t).symm) t d).trans (h t)
theorem before11 (d) : (dats m 0 c).before 11 t d = (arrays m c).x11 :=
  have h t : ((cfg0.win 11).blk t).view.read (Elt F) (m ((c : Thread nD τ).loc main_arg11)) = (arrays m c).x11 :=
    funext fun j => congrArg (m ((c : Thread nD τ).loc main_arg11)) (emb11 t j)
  ((dats m 0 c).before_in_eq_fetched 11 rfl (fun _ => rfl) (fun _ _ _ => rfl) (fun t => (h t).symm) t d).trans (h t)
theorem before12 (d) : (dats m 0 c).before 12 t d = (arrays m c).x12 :=
  have h t : ((cfg0.win 12).blk t).view.read (Elt F) (m ((c : Thread nD τ).loc main_arg12)) = (arrays m c).x12 :=
    funext fun j => congrArg (m ((c : Thread nD τ).loc main_arg12)) (emb12 t j)
  ((dats m 0 c).before_in_eq_fetched 12 rfl (fun _ => rfl) (fun _ _ _ => rfl) (fun t => (h t).symm) t d).trans (h t)
theorem before13 (d) : (dats m 0 c).before 13 t d = (arrays m c).x13 :=
  have h t : ((cfg0.win 13).blk t).view.read (Elt F) (m ((c : Thread nD τ).loc main_arg13)) = (arrays m c).x13 :=
    funext fun j => congrArg (m ((c : Thread nD τ).loc main_arg13)) (emb13 t j)
  ((dats m 0 c).before_in_eq_fetched 13 rfl (fun _ => rfl) (fun _ _ _ => rfl) (fun t => (h t).symm) t d).trans (h t)
theorem before14 (d) : (dats m 0 c).before 14 t d = (arrays m c).x14 :=
  have h t : ((cfg0.win 14).blk t).view.read (Elt F) (m ((c : Thread nD τ).loc main_arg14)) = (arrays m c).x14 :=
    funext fun j => congrArg (m ((c : Thread nD τ).loc main_arg14)) (emb14 t j)
  ((dats m 0 c).before_in_eq_fetched 14 rfl (fun _ => rfl) (fun _ _ _ => rfl) (fun t => (h t).symm) t d).trans (h t)
theorem before15 (d) : (dats m 0 c).before 15 t d = (arrays m c).x15 :=
  have h t : ((cfg0.win 15).blk t).view.read (Elt F) (m ((c : Thread nD τ).loc main_arg15)) = (arrays m c).x15 :=
    funext fun j => congrArg (m ((c : Thread nD τ).loc main_arg15)) (emb15 t j)
  ((dats m 0 c).before_in_eq_fetched 15 rfl (fun _ => rfl) (fun _ _ _ => rfl) (fun t => (h t).symm) t d).trans (h t)
theorem before16 (d) : (dats m 0 c).before 16 t d = (arrays m c).x16 :=
  have h t : ((cfg0.win 16).blk t).view.read (Elt F) (m ((c : Thread nD τ).loc main_arg16)) = (arrays m c).x16 :=
    funext fun j => congrArg (m ((c : Thread nD τ).loc main_arg16)) (emb16 t j)
  ((dats m 0 c).before_in_eq_fetched 16 rfl (fun _ => rfl) (fun _ _ _ => rfl) (fun t => (h t).symm) t d).trans (h t)
theorem before17 (d) : (dats m 0 c).before 17 t d = (arrays m c).x17 :=
  have h t : ((cfg0.win 17).blk t).view.read (Elt F) (m ((c : Thread nD τ).loc main_arg17)) = (arrays m c).x17 :=
    funext fun j => congrArg (m ((c : Thread nD τ).loc main_arg17)) (emb17 t j)
  ((dats m 0 c).before_in_eq_fetched 17 rfl (fun _ => rfl) (fun _ _ _ => rfl) (fun t => (h t).symm) t d).trans (h t)
theorem before18 (d) : (dats m 0 c).before 18 t d = (arrays m c).x18 :=
  have h t : ((cfg0.win 18).blk t).view.read (Elt F) (m ((c : Thread nD τ).loc main_arg18)) = (arrays m c).x18 :=
    funext fun j => congrArg (m ((c : Thread nD τ).loc main_arg18)) (emb18 t j)
  ((dats m 0 c).before_in_eq_fetched 18 rfl (fun _ => rfl) (fun _ _ _ => rfl) (fun t => (h t).symm) t d).trans (h t)
theorem before19 (d) : (dats m 0 c).before 19 t d = (arrays m c).x19 :=
  have h t : ((cfg0.win 19).blk t).view.read (Elt F) (m ((c : Thread nD τ).loc main_arg19)) = (arrays m c).x19 :=
    funext fun j => congrArg (m ((c : Thread nD τ).loc main_arg19)) (emb19 t j)
  ((dats m 0 c).before_in_eq_fetched 19 rfl (fun _ => rfl) (fun _ _ _ => rfl) (fun t => (h t).symm) t d).trans (h t)
theorem before20 (d) : (dats m 0 c).before 20 t d = (arrays m c).x20 :=
  have h t : ((cfg0.win 20).blk t).view.read (Elt F) (m ((c : Thread nD τ).loc main_arg20)) = (arrays m c).x20 :=
    funext fun j => congrArg (m ((c : Thread nD τ).loc main_arg20)) (emb20 t j)
  ((dats m 0 c).before_in_eq_fetched 20 rfl (fun _ => rfl) (fun _ _ _ => rfl) (fun t => (h t).symm) t d).trans (h t)
theorem before21 (d) : (dats m 0 c).before 21 t d = (arrays m c).x21 :=
  have h t : ((cfg0.win 21).blk t).view.read (Elt F) (m ((c : Thread nD τ).loc main_arg21)) = (arrays m c).x21 :=
    funext fun j => congrArg (m ((c : Thread nD τ).loc main_arg21)) (emb21 t j)
  ((dats m 0 c).before_in_eq_fetched 21 rfl (fun _ => rfl) (fun _ _ _ => rfl) (fun t => (h t).symm) t d).trans (h t)
theorem before22 (d) : (dats m 0 c).before 22 t d = (arrays m c).x22 :=
  have h t : ((cfg0.win 22).blk t).view.read (Elt F) (m ((c : Thread nD τ).loc main_arg22)) = (arrays m c).x22 :=
    funext fun j => congrArg (m ((c : Thread nD τ).loc main_arg22)) (emb22 t j)
  ((dats m 0 c).before_in_eq_fetched 22 rfl (fun _ => rfl) (fun _ _ _ => rfl) (fun t => (h t).symm) t d).trans (h t)
theorem before23 (d) : (dats m 0 c).before 23 t d = (arrays m c).x23 :=
  have h t : ((cfg0.win 23).blk t).view.read (Elt F) (m ((c : Thread nD τ).loc main_arg23)) = (arrays m c).x23 :=
    funext fun j => congrArg (m ((c : Thread nD τ).loc main_arg23)) (emb23 t j)
  ((dats m 0 c).before_in_eq_fetched 23 rfl (fun _ => rfl) (fun _ _ _ => rfl) (fun t => (h t).symm) t d).trans (h t)
theorem before24 (d) : (dats m 0 c).before 24 t d = (arrays m c).x24 :=
  have h t : ((cfg0.win 24).blk t).view.read (Elt F) (m ((c : Thread nD τ).loc main_arg24)) = (arrays m c).x24 :=
    funext fun j => congrArg (m ((c : Thread nD τ).loc main_arg24)) (emb24 t j)
  ((dats m 0 c).before_in_eq_fetched 24 rfl (fun _ => rfl) (fun _ _ _ => rfl) (fun t => (h t).symm) t d).trans (h t)
theorem before25 (d) : (dats m 0 c).before 25 t d = (arrays m c).x25 :=
  have h t : ((cfg0.win 25).blk t).view.read (Elt F) (m ((c : Thread nD τ).loc main_arg25)) = (arrays m c).x25 :=
    funext fun j => congrArg (m ((c : Thread nD τ).loc main_arg25)) (emb25 t j)
  ((dats m 0 c).before_in_eq_fetched 25 rfl (fun _ => rfl) (fun _ _ _ => rfl) (fun t => (h t).symm) t d).trans (h t)

/-- What the body starts from, -/
def bodyPre : sProp 𝕄 :=
  iprop((dats m 0 c).Φ t.castSucc ∗ (dats m 0 c).owesAt () t.castSucc ∗ (∃ d, hold c (st0_0 t) ((dats m 0 c).before 0 t d))
    ∗ (∃ d, hold c (st0_1 t) ((dats m 0 c).before 1 t d)) ∗ (∃ d, hold c (st0_2 t) ((dats m 0 c).before 2 t d))
    ∗ (∃ d, hold c (st0_3 t) ((dats m 0 c).before 3 t d)) ∗ (∃ d, hold c (st0_4 t) ((dats m 0 c).before 4 t d))
    ∗ (∃ d, hold c (st0_5 t) ((dats m 0 c).before 5 t d)) ∗ (∃ d, hold c (st0_6 t) ((dats m 0 c).before 6 t d))
    ∗ (∃ d, hold c (st0_7 t) ((dats m 0 c).before 7 t d)) ∗ (∃ d, hold c (st0_8 t) ((dats m 0 c).before 8 t d))
    ∗ (∃ d, hold c (st0_9 t) ((dats m 0 c).before 9 t d)) ∗ (∃ d, hold c (st0_10 t) ((dats m 0 c).before 10 t d))
    ∗ (∃ d, hold c (st0_11 t) ((dats m 0 c).before 11 t d)) ∗ (∃ d, hold c (st0_12 t) ((dats m 0 c).before 12 t d))
    ∗ (∃ d, hold c (st0_13 t) ((dats m 0 c).before 13 t d)) ∗ (∃ d, hold c (st0_14 t) ((dats m 0 c).before 14 t d))
    ∗ (∃ d, hold c (st0_15 t) ((dats m 0 c).before 15 t d)) ∗ (∃ d, hold c (st0_16 t) ((dats m 0 c).before 16 t d))
    ∗ (∃ d, hold c (st0_17 t) ((dats m 0 c).before 17 t d)) ∗ (∃ d, hold c (st0_18 t) ((dats m 0 c).before 18 t d))
    ∗ (∃ d, hold c (st0_19 t) ((dats m 0 c).before 19 t d)) ∗ (∃ d, hold c (st0_20 t) ((dats m 0 c).before 20 t d))
    ∗ (∃ d, hold c (st0_21 t) ((dats m 0 c).before 21 t d)) ∗ (∃ d, hold c (st0_22 t) ((dats m 0 c).before 22 t d))
    ∗ (∃ d, hold c (st0_23 t) ((dats m 0 c).before 23 t d)) ∗ (∃ d, hold c (st0_24 t) ((dats m 0 c).before 24 t d))
    ∗ (∃ d, hold c (st0_25 t) ((dats m 0 c).before 25 t d)) ∗ (∃ d, hold c (st0_26 t) ((dats m 0 c).before 26 t d))
    ∗ (∃ d, hold c (st0_27 t) ((dats m 0 c).before 27 t d)) ∗ (∃ d, hold c (st0_28 t) ((dats m 0 c).before 28 t d))
    ∗ (∃ d, hold c (st0_29 t) ((dats m 0 c).before 29 t d)) ∗ (∃ d, hold c (st0_30 t) ((dats m 0 c).before 30 t d))
    ∗ (∃ d, hold c (st0_31 t) ((dats m 0 c).before 31 t d)) ∗ (∃ d, hold c (st0_32 t) ((dats m 0 c).before 32 t d))
    ∗ (∃ d, hold c (st0_33 t) ((dats m 0 c).before 33 t d)) ∗ (∃ d, hold c (st0_34 t) ((dats m 0 c).before 34 t d))
    ∗ (∃ d, hold c (st0_35 t) ((dats m 0 c).before 35 t d)) ∗ (∃ d, hold c (st0_36 t) ((dats m 0 c).before 36 t d))
    ∗ (∃ d, hold c (st0_37 t) ((dats m 0 c).before 37 t d)) ∗ (∃ d, hold c (st0_38 t) ((dats m 0 c).before 38 t d))
    ∗ (∃ d, hold c (st0_39 t) ((dats m 0 c).before 39 t d)) ∗ (∃ d, hold c (st0_40 t) ((dats m 0 c).before 40 t d))
    ∗ (∃ d, hold c (st0_41 t) ((dats m 0 c).before 41 t d)) ∗ (∃ d, hold c (st0_42 t) ((dats m 0 c).before 42 t d))
    ∗ (∃ d, hold c (st0_43 t) ((dats m 0 c).before 43 t d)) ∗ (∃ d, hold c (st0_44 t) ((dats m 0 c).before 44 t d))
    ∗ (∃ d, hold c (st0_45 t) ((dats m 0 c).before 45 t d)) ∗ (∃ d, hold c (st0_46 t) ((dats m 0 c).before 46 t d))
    ∗ (∃ d, hold c (st0_47 t) ((dats m 0 c).before 47 t d)) ∗ (∃ d, hold c (st0_48 t) ((dats m 0 c).before 48 t d))
    ∗ (∃ d, hold c (st0_49 t) ((dats m 0 c).before 49 t d)) ∗ (∃ d, hold c (st0_50 t) ((dats m 0 c).before 50 t d))
    ∗ (∃ d, hold c (st0_51 t) ((dats m 0 c).before 51 t d)) ∗ (∃ d, hold c (st0_52 t) ((dats m 0 c).before 52 t d))
    ∗ (∃ d, hold c (st0_53 t) ((dats m 0 c).before 53 t d)) ∗ (∃ d, hold c (st0_54 t) ((dats m 0 c).before 54 t d))
    ∗ (∃ d, hold c (st0_55 t) ((dats m 0 c).before 55 t d)) ∗ (∃ d, hold c (st0_56 t) ((dats m 0 c).before 56 t d))
    ∗ (∃ d, hold c (st0_57 t) ((dats m 0 c).before 57 t d)))

/-- and what it leaves. -/
def bodyPost : sProp 𝕄 :=
  iprop((dats m 0 c).Φ t.succ ∗ (dats m 0 c).owesAt () t.succ ∗ hold c (st0_0 t) (arrays m c).x0
    ∗ hold c (st0_1 t) (arrays m c).x1 ∗ hold c (st0_2 t) (arrays m c).x2 ∗ hold c (st0_3 t) (arrays m c).x3
    ∗ hold c (st0_4 t) (arrays m c).x4 ∗ hold c (st0_5 t) (arrays m c).x5 ∗ hold c (st0_6 t) (arrays m c).x6
    ∗ hold c (st0_7 t) (arrays m c).x7 ∗ hold c (st0_8 t) (arrays m c).x8 ∗ hold c (st0_9 t) (arrays m c).x9
    ∗ hold c (st0_10 t) (arrays m c).x10 ∗ hold c (st0_11 t) (arrays m c).x11 ∗ hold c (st0_12 t) (arrays m c).x12
    ∗ hold c (st0_13 t) (arrays m c).x13 ∗ hold c (st0_14 t) (arrays m c).x14 ∗ hold c (st0_15 t) (arrays m c).x15
    ∗ hold c (st0_16 t) (arrays m c).x16 ∗ hold c (st0_17 t) (arrays m c).x17 ∗ hold c (st0_18 t) (arrays m c).x18
    ∗ hold c (st0_19 t) (arrays m c).x19 ∗ hold c (st0_20 t) (arrays m c).x20 ∗ hold c (st0_21 t) (arrays m c).x21
    ∗ hold c (st0_22 t) (arrays m c).x22 ∗ hold c (st0_23 t) (arrays m c).x23 ∗ hold c (st0_24 t) (arrays m c).x24
    ∗ hold c (st0_25 t) (arrays m c).x25 ∗ hold c (st0_26 t) (out26 (arrays m c)) ∗ hold c (st0_27 t) (out27 (arrays m c))
    ∗ hold c (st0_28 t) (out28 (arrays m c)) ∗ hold c (st0_29 t) (out29 (arrays m c)) ∗ hold c (st0_30 t) (out30 (arrays m c))
    ∗ hold c (st0_31 t) (out31 (arrays m c)) ∗ hold c (st0_32 t) (out32 (arrays m c)) ∗ hold c (st0_33 t) (out33 (arrays m c))
    ∗ hold c (st0_34 t) (out34 (arrays m c)) ∗ hold c (st0_35 t) (out35 (arrays m c)) ∗ hold c (st0_36 t) (out36 (arrays m c))
    ∗ hold c (st0_37 t) (out37 (arrays m c)) ∗ hold c (st0_38 t) (out38 (arrays m c)) ∗ hold c (st0_39 t) (out39 (arrays m c))
    ∗ hold c (st0_40 t) (out40 (arrays m c)) ∗ hold c (st0_41 t) (out41 (arrays m c)) ∗ hold c (st0_42 t) (out42 (arrays m c))
    ∗ hold c (st0_43 t) (out43 (arrays m c)) ∗ hold c (st0_44 t) (out44 (arrays m c)) ∗ hold c (st0_45 t) (out45 (arrays m c))
    ∗ hold c (st0_46 t) (out46 (arrays m c)) ∗ hold c (st0_47 t) (out47 (arrays m c)) ∗ hold c (st0_48 t) (out48 (arrays m c))
    ∗ hold c (st0_49 t) (out49 (arrays m c)) ∗ hold c (st0_50 t) (out50 (arrays m c)) ∗ hold c (st0_51 t) (out51 (arrays m c))
    ∗ hold c (st0_52 t) (out52 (arrays m c)) ∗ hold c (st0_53 t) (out53 (arrays m c)) ∗ hold c (st0_54 t) (out54 (arrays m c))
    ∗ hold c (st0_55 t) (out55 (arrays m c)) ∗ hold c (st0_56 t) (out56 (arrays m c)) ∗ hold c (st0_57 t) (out57 (arrays m c)))

theorem body_sound :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11,
    before12, before13, before14, before15, before16, before17, before18, before19, before20, before21, before22, before23,
    before24, before25]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩,
    ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩,
    ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩,
    ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩,
    ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩,
    ⟨%d55, H55⟩, ⟨%d56, H56⟩, ⟨%d57, H57⟩⟩
  iapply (body_run _ _ _ _ _ _ _ _ _ _ _ _ _ _ _ _ _ _ _ _ _ _ _ _ _ _ _ _ _ _ _ _ _ _ _ _ _ _ _ _ _ _ _ _ _ _ _ _ _ _ _ _ _ _ _ _
    _ _ c Set.univ (arrays m c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  iintro ⟨H0, H1, H2, H3, H4, H5, H6, H7, H8, H9, H10, H11, H12, H13, H14, H15, H16, H17, H18, H19, H20, H21, H22, H23, H24, H25,
    H26, H27, H28, H29, H30, H31, H32, H33, H34, H35, H36, H37, H38, H39, H40, H41, H42, H43, H44, H45, H46, H47, H48, H49, H50,
    H51, H52, H53, H54, H55, H56, H57⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  iexact H57

end Buffers

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ### What the launch leaves -/

set_option backward.isDefEq.respectTransparency.types false in
/-- Every run ends, with the arrays at what the blocks add up to and every semaphore at zero. -/
theorem launch_run : θ_run defs (onTc (τ := τ) (main (F := F))) ⟨m, fun _ => 0, ρ⟩
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := host m Variants.none) (hA := launched m) (hΦ := fun _ _ => rfl)

variable (c : Dev nD)

/-- A result's array, where each block is written with its part of `G`, and the one block is the array. -/
theorem ends (w : Fin cfg0.W) {G : Buf (Elt F) ((cfg0.win w).arr.view.loc (c.tc : Thread nD τ))} (hf : ∀ t, (cfg0.win w).flush t = true)
    (hG : ∀ t, (dats m 0 c).flushed w t = ((cfg0.win w).blk t).view.read (Elt F) G)
    (hc : ∀ i, ∃ j, ((cfg0.win w).blk ⟨0, by decide⟩).view.emb j = i) : (dats m 0 c).arrAt w cfg0.N = G :=
  (dats m 0 c).arrAt_eq_of_cover w G (fun t _ => hG t) fun i => by
    obtain ⟨j, h⟩ := hc i
    exact ⟨⟨0, by decide⟩, hf _, h ▸ View.emb_mem_set _ j⟩

-- Each result's array holds what the body computes of the arrays.
theorem left26 : (dats m 0 c).arrAt 26 cfg0.N = out26 (arrays m c) :=
  ends m c 26 flush0_26 (fun t => funext fun i => congrArg (out26 (arrays m c)) (emb26 t i).symm) fun i => ⟨i, emb26 _ i⟩
theorem left27 : (dats m 0 c).arrAt 27 cfg0.N = out27 (arrays m c) :=
  ends m c 27 flush0_27 (fun t => funext fun i => congrArg (out27 (arrays m c)) (emb27 t i).symm) fun i => ⟨i, emb27 _ i⟩
theorem left28 : (dats m 0 c).arrAt 28 cfg0.N = out28 (arrays m c) :=
  ends m c 28 flush0_28 (fun t => funext fun i => congrArg (out28 (arrays m c)) (emb28 t i).symm) fun i => ⟨i, emb28 _ i⟩
theorem left29 : (dats m 0 c).arrAt 29 cfg0.N = out29 (arrays m c) :=
  ends m c 29 flush0_29 (fun t => funext fun i => congrArg (out29 (arrays m c)) (emb29 t i).symm) fun i => ⟨i, emb29 _ i⟩
theorem left30 : (dats m 0 c).arrAt 30 cfg0.N = out30 (arrays m c) :=
  ends m c 30 flush0_30 (fun t => funext fun i => congrArg (out30 (arrays m c)) (emb30 t i).symm) fun i => ⟨i, emb30 _ i⟩
theorem left31 : (dats m 0 c).arrAt 31 cfg0.N = out31 (arrays m c) :=
  ends m c 31 flush0_31 (fun t => funext fun i => congrArg (out31 (arrays m c)) (emb31 t i).symm) fun i => ⟨i, emb31 _ i⟩
theorem left32 : (dats m 0 c).arrAt 32 cfg0.N = out32 (arrays m c) :=
  ends m c 32 flush0_32 (fun t => funext fun i => congrArg (out32 (arrays m c)) (emb32 t i).symm) fun i => ⟨i, emb32 _ i⟩
theorem left33 : (dats m 0 c).arrAt 33 cfg0.N = out33 (arrays m c) :=
  ends m c 33 flush0_33 (fun t => funext fun i => congrArg (out33 (arrays m c)) (emb33 t i).symm) fun i => ⟨i, emb33 _ i⟩
theorem left34 : (dats m 0 c).arrAt 34 cfg0.N = out34 (arrays m c) :=
  ends m c 34 flush0_34 (fun t => funext fun i => congrArg (out34 (arrays m c)) (emb34 t i).symm) fun i => ⟨i, emb34 _ i⟩
theorem left35 : (dats m 0 c).arrAt 35 cfg0.N = out35 (arrays m c) :=
  ends m c 35 flush0_35 (fun t => funext fun i => congrArg (out35 (arrays m c)) (emb35 t i).symm) fun i => ⟨i, emb35 _ i⟩
theorem left36 : (dats m 0 c).arrAt 36 cfg0.N = out36 (arrays m c) :=
  ends m c 36 flush0_36 (fun t => funext fun i => congrArg (out36 (arrays m c)) (emb36 t i).symm) fun i => ⟨i, emb36 _ i⟩
theorem left37 : (dats m 0 c).arrAt 37 cfg0.N = out37 (arrays m c) :=
  ends m c 37 flush0_37 (fun t => funext fun i => congrArg (out37 (arrays m c)) (emb37 t i).symm) fun i => ⟨i, emb37 _ i⟩
theorem left38 : (dats m 0 c).arrAt 38 cfg0.N = out38 (arrays m c) :=
  ends m c 38 flush0_38 (fun t => funext fun i => congrArg (out38 (arrays m c)) (emb38 t i).symm) fun i => ⟨i, emb38 _ i⟩
theorem left39 : (dats m 0 c).arrAt 39 cfg0.N = out39 (arrays m c) :=
  ends m c 39 flush0_39 (fun t => funext fun i => congrArg (out39 (arrays m c)) (emb39 t i).symm) fun i => ⟨i, emb39 _ i⟩
theorem left40 : (dats m 0 c).arrAt 40 cfg0.N = out40 (arrays m c) :=
  ends m c 40 flush0_40 (fun t => funext fun i => congrArg (out40 (arrays m c)) (emb40 t i).symm) fun i => ⟨i, emb40 _ i⟩
theorem left41 : (dats m 0 c).arrAt 41 cfg0.N = out41 (arrays m c) :=
  ends m c 41 flush0_41 (fun t => funext fun i => congrArg (out41 (arrays m c)) (emb41 t i).symm) fun i => ⟨i, emb41 _ i⟩
theorem left42 : (dats m 0 c).arrAt 42 cfg0.N = out42 (arrays m c) :=
  ends m c 42 flush0_42 (fun t => funext fun i => congrArg (out42 (arrays m c)) (emb42 t i).symm) fun i => ⟨i, emb42 _ i⟩
theorem left43 : (dats m 0 c).arrAt 43 cfg0.N = out43 (arrays m c) :=
  ends m c 43 flush0_43 (fun t => funext fun i => congrArg (out43 (arrays m c)) (emb43 t i).symm) fun i => ⟨i, emb43 _ i⟩
theorem left44 : (dats m 0 c).arrAt 44 cfg0.N = out44 (arrays m c) :=
  ends m c 44 flush0_44 (fun t => funext fun i => congrArg (out44 (arrays m c)) (emb44 t i).symm) fun i => ⟨i, emb44 _ i⟩
theorem left45 : (dats m 0 c).arrAt 45 cfg0.N = out45 (arrays m c) :=
  ends m c 45 flush0_45 (fun t => funext fun i => congrArg (out45 (arrays m c)) (emb45 t i).symm) fun i => ⟨i, emb45 _ i⟩
theorem left46 : (dats m 0 c).arrAt 46 cfg0.N = out46 (arrays m c) :=
  ends m c 46 flush0_46 (fun t => funext fun i => congrArg (out46 (arrays m c)) (emb46 t i).symm) fun i => ⟨i, emb46 _ i⟩
theorem left47 : (dats m 0 c).arrAt 47 cfg0.N = out47 (arrays m c) :=
  ends m c 47 flush0_47 (fun t => funext fun i => congrArg (out47 (arrays m c)) (emb47 t i).symm) fun i => ⟨i, emb47 _ i⟩
theorem left48 : (dats m 0 c).arrAt 48 cfg0.N = out48 (arrays m c) :=
  ends m c 48 flush0_48 (fun t => funext fun i => congrArg (out48 (arrays m c)) (emb48 t i).symm) fun i => ⟨i, emb48 _ i⟩
theorem left49 : (dats m 0 c).arrAt 49 cfg0.N = out49 (arrays m c) :=
  ends m c 49 flush0_49 (fun t => funext fun i => congrArg (out49 (arrays m c)) (emb49 t i).symm) fun i => ⟨i, emb49 _ i⟩
theorem left50 : (dats m 0 c).arrAt 50 cfg0.N = out50 (arrays m c) :=
  ends m c 50 flush0_50 (fun t => funext fun i => congrArg (out50 (arrays m c)) (emb50 t i).symm) fun i => ⟨i, emb50 _ i⟩
theorem left51 : (dats m 0 c).arrAt 51 cfg0.N = out51 (arrays m c) :=
  ends m c 51 flush0_51 (fun t => funext fun i => congrArg (out51 (arrays m c)) (emb51 t i).symm) fun i => ⟨i, emb51 _ i⟩
theorem left52 : (dats m 0 c).arrAt 52 cfg0.N = out52 (arrays m c) :=
  ends m c 52 flush0_52 (fun t => funext fun i => congrArg (out52 (arrays m c)) (emb52 t i).symm) fun i => ⟨i, emb52 _ i⟩
theorem left53 : (dats m 0 c).arrAt 53 cfg0.N = out53 (arrays m c) :=
  ends m c 53 flush0_53 (fun t => funext fun i => congrArg (out53 (arrays m c)) (emb53 t i).symm) fun i => ⟨i, emb53 _ i⟩
theorem left54 : (dats m 0 c).arrAt 54 cfg0.N = out54 (arrays m c) :=
  ends m c 54 flush0_54 (fun t => funext fun i => congrArg (out54 (arrays m c)) (emb54 t i).symm) fun i => ⟨i, emb54 _ i⟩
theorem left55 : (dats m 0 c).arrAt 55 cfg0.N = out55 (arrays m c) :=
  ends m c 55 flush0_55 (fun t => funext fun i => congrArg (out55 (arrays m c)) (emb55 t i).symm) fun i => ⟨i, emb55 _ i⟩
theorem left56 : (dats m 0 c).arrAt 56 cfg0.N = out56 (arrays m c) :=
  ends m c 56 flush0_56 (fun t => funext fun i => congrArg (out56 (arrays m c)) (emb56 t i).symm) fun i => ⟨i, emb56 _ i⟩
theorem left57 : (dats m 0 c).arrAt 57 cfg0.N = out57 (arrays m c) :=
  ends m c 57 flush0_57 (fun t => funext fun i => congrArg (out57 (arrays m c)) (emb57 t i).symm) fun i => ⟨i, emb57 _ i⟩

/-- The arguments end as launched. -/
theorem kept {r : PUnit × MemSt nD τ sig (Elt F)} (h : Pipeline.FramePost cfgs (dats m) 0 (V m) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25) :=
  have k w hw := ((h c).1 w).trans (((dats m 0 c).arrAt_in w hw _).trans (launched m c w))
  ⟨k 0 rfl, k 1 rfl, k 2 rfl, k 3 rfl, k 4 rfl, k 5 rfl, k 6 rfl, k 7 rfl, k 8 rfl, k 9 rfl, k 10 rfl, k 11 rfl, k 12 rfl, k 13 rfl, k 14 rfl, k 15 rfl, k 16 rfl, k 17 rfl, k 18 rfl, k 19 rfl, k 20 rfl, k 21 rfl, k 22 rfl, k 23 rfl, k 24 rfl, k 25 rfl⟩

end AdamSmall

end
-- ==== Proof.Small.Step.lean ====
/- AdamW's step of the small weights, whose summed gradients lie packed in one array of rows of 128, and what the reference computes. -/
module

public import proofs.«01_k».proof.Proof.Gen.AdamSmallReferenceIdeal.Read
public import proofs.«01_k».proof.Proof.Adam.Step
public import proofs.«01_k».proof.Proof.Small.Run

@[expose] public section

set_option maxRecDepth 65536

noncomputable section

namespace AdamSmall

open Idealize.ShloMosaic Idealize.ShloMosaic.TcCoe Idealize.SL.Sem
open Cert.AdamSmallIdeal Cert.AdamSmallIdeal.Gen AdamStep
open Cert.AdamSmallReferenceIdeal.Read

/-! ### The step on arrays of any shape -/

section Step

variable {s : Shape}

def meanOf (m g : FVec Ideal s .f32) : FVec Ideal s .f32 := fun i => mean (m i) (g i)
def squareOf (v g : FVec Ideal s .f32) : FVec Ideal s .f32 := fun i => square (v i) (g i)
/-- The change of the weights `w` whose gradients are `g`. -/
def changeOf (w m v g : FVec Ideal s .f32) : FVec Ideal s .f32 := fun i => change (w i) (meanOf m g i) (squareOf v g i)

end Step

/-! ### The gradients

A gradient of `128 N` entries fills `N` rows of the packed array. The kernel sets these rows side by side. -/

section Rows

variable (x : Vec Ideal S704x128 .f32)

/-- Row `R + n`, as the body loads it. -/
def row (R N : ℕ) (h : R + N ≤ 704) (n : Fin N) : Vec Ideal S1x128 .f32 :=
  View.ld x (Rect.unit (s := S704x128) ![R + n.val, 0] S1x128.size fun a => by
    have := n.isLt
    match a with
    | ⟨0, _⟩ => show R + n.val + 1 ≤ 704; omega
    | ⟨1, _⟩ => show 0 + 128 ≤ 128; omega)

theorem row_apply (R N : ℕ) (h : R + N ≤ 704) (n : Fin N) (k : Fin 128) (y : S704x128.Idx) (h0 : (y 0).val = R + n.val)
    (h1 : (y 1).val = k.val) : row x R N h n (ix2 (0 : Fin 1) k) = x y :=
  View.ld_unit_apply_of x _ _ _ _ y fun a => by
    match a with
    | ⟨0, _⟩ => show (y 0).val = R + n.val + 0; omega
    | ⟨1, _⟩ => show (y 1).val = 0 + k.val; omega

/-- `N` rows side by side, read at a column. -/
theorem rows_apply (R N L : ℕ) (h : R + N ≤ 704) (hL : L = 128 * N)
    (hc : Shape.Concatenates ((List.ofFn fun n : Fin N => (⟨S1x128, row x R N h n⟩ : (s : Shape) × (s.Idx → EReal))).map (·.1))
      (⟨2, ![1, L]⟩ : Shape) 1)
    (i : (⟨2, ![1, L]⟩ : Shape).Idx) (y : S704x128.Idx) (h0 : (y 0).val = R + ((i 0).val * L + (i 1).val) / 128)
    (h1 : (y 1).val = ((i 0).val * L + (i 1).val) % 128) :
    concatenate (⟨2, ![1, L]⟩ : Shape) 1 (List.ofFn fun n : Fin N => (⟨S1x128, row x R N h n⟩ : (s : Shape) × (s.Idx → EReal))) hc i = x y := by
  have hz : (i 0).val < 1 := (i 0).isLt
  have hl : (i 1).val < L := (i 1).isLt
  have hz' : (i 0).val = 0 := by omega
  rw [hz', Nat.zero_mul, Nat.zero_add] at h0 h1
  let n : Fin N := ⟨(i 1).val / 128, by omega⟩
  let k : Fin 128 := ⟨(i 1).val % 128, Nat.mod_lt _ (by decide)⟩
  refine (concatenate_ofFn_apply (t := (⟨2, ![1, L]⟩ : Shape)) (s₁ := S1x128) (1 : Fin 2) (row x R N h) hc rfl 128 rfl i n rfl
    (ix2 (0 : Fin 1) k) rfl fun b hb => ?_).trans (row_apply x R N h n k y h0 h1)
  match b with
  | ⟨0, _⟩ => show 0 = (i 0).val; omega
  | ⟨1, _⟩ => exact absurd rfl hb

theorem grad0 : (View.ld x r0_2 : Vec Ideal S512x128 .f32) = val_main_v0 (F := Ideal) x := by
  funext i
  refine (View.ld_unit_apply_of x _ _ _ i (idx_main_v0 i) fun a => ?_).trans (val_main_v0_apply x i).symm
  match a with
  | ⟨0, _⟩ => show (i 0).val = 0 + (i 0).val; omega
  | ⟨1, _⟩ => show (i 1).val = 0 + (i 1).val; omega

theorem grad1 : k0_pay4 (F := Ideal) (View.ld x r0_4) (View.ld x r0_5) (View.ld x r0_6) (View.ld x r0_7)
    = val_main_v2 (F := Ideal) x := by
  funext i
  refine Eq.trans ?_ ((val_main_v2_apply x i).trans (val_main_v1_apply x _)).symm
  exact rows_apply x 512 4 512 (by decide) rfl concatenates_S1x128_S1x128_S1x128_S1x128_S1x512_d1 i (idx_main_v1 (idx_main_v2 i)) rfl rfl

theorem grad2 : k0_pay9 (F := Ideal) (View.ld x r0_9) (View.ld x r0_10) (View.ld x r0_11) (View.ld x r0_12) (View.ld x r0_13) (View.ld x r0_14)
      (View.ld x r0_15) (View.ld x r0_16)
    = val_main_v4 (F := Ideal) x := by
  funext i
  refine Eq.trans ?_ ((val_main_v4_apply x i).trans (val_main_v3_apply x _)).symm
  exact rows_apply x 520 8 1024 (by decide) rfl concatenates_S1x128_S1x128_S1x128_S1x128_S1x128_S1x128_S1x128_S1x128_S1x1024_d1 i (idx_main_v3 (idx_main_v4 i)) rfl rfl

theorem grad3 : k0_pay14 (F := Ideal) (View.ld x r0_18) (View.ld x r0_19) (View.ld x r0_20) (View.ld x r0_21) (View.ld x r0_22) (View.ld x r0_23)
      (View.ld x r0_24) (View.ld x r0_25)
    = val_main_v6 (F := Ideal) x := by
  funext i
  refine Eq.trans ?_ ((val_main_v6_apply x i).trans (val_main_v5_apply x _)).symm
  exact rows_apply x 528 8 1024 (by decide) rfl concatenates_S1x128_S1x128_S1x128_S1x128_S1x128_S1x128_S1x128_S1x128_S1x1024_d1 i (idx_main_v5 (idx_main_v6 i)) rfl rfl

theorem grad5 : k0_pay21 (F := Ideal) (View.ld x r0_27) (View.ld x r0_28) (View.ld x r0_29) (View.ld x r0_30) (View.ld x r0_31) (View.ld x r0_32)
      (View.ld x r0_33) (View.ld x r0_34) (View.ld x r0_35) (View.ld x r0_36) (View.ld x r0_37) (View.ld x r0_38)
      (View.ld x r0_39) (View.ld x r0_40) (View.ld x r0_41) (View.ld x r0_42) (View.ld x r0_43) (View.ld x r0_44)
      (View.ld x r0_45) (View.ld x r0_46) (View.ld x r0_47) (View.ld x r0_48)
    = val_main_v8 (F := Ideal) x := by
  funext i
  refine Eq.trans ?_ ((val_main_v8_apply x i).trans (val_main_v7_apply x _)).symm
  exact rows_apply x 552 22 2816 (by decide) rfl concatenates_S1x128_S1x128_S1x128_S1x128_S1x128_S1x128_S1x128_S1x128_S1x128_S1x128_S1x128_S1x128_S1x128_S1x128_S1x128_S1x128_S1x128_S1x128_S1x128_S1x128_S1x128_S1x128_S1x2816_d1 i (idx_main_v7 (idx_main_v8 i)) rfl rfl

theorem grad6 : k0_pay26 (F := Ideal) (View.ld x r0_50) (View.ld x r0_51) (View.ld x r0_52) (View.ld x r0_53) (View.ld x r0_54) (View.ld x r0_55)
      (View.ld x r0_56) (View.ld x r0_57)
    = val_main_v10 (F := Ideal) x := by
  funext i
  refine Eq.trans ?_ ((val_main_v10_apply x i).trans (val_main_v9_apply x _)).symm
  exact rows_apply x 536 8 1024 (by decide) rfl concatenates_S1x128_S1x128_S1x128_S1x128_S1x128_S1x128_S1x128_S1x128_S1x1024_d1 i (idx_main_v9 (idx_main_v10 i)) rfl rfl

theorem grad7 : k0_pay30 (F := Ideal) (View.ld x r0_58) (View.ld x r0_59) (View.ld x r0_60) (View.ld x r0_61) (View.ld x r0_62) (View.ld x r0_63)
      (View.ld x r0_64) (View.ld x r0_65)
    = val_main_v12 (F := Ideal) x := by
  funext i
  refine Eq.trans ?_ ((val_main_v12_apply x i).trans (val_main_v11_apply x _)).symm
  exact rows_apply x 544 8 1024 (by decide) rfl concatenates_S1x128_S1x128_S1x128_S1x128_S1x128_S1x128_S1x128_S1x128_S1x1024_d1 i (idx_main_v11 (idx_main_v12 i)) rfl rfl

theorem loss : (View.ld x r0_0 : Vec Ideal S1x1 .f32) = val_main_v205 (F := Ideal) x := by
  funext i
  refine (View.ld_unit_apply_of x _ _ _ i (idx_main_v205 i) fun a => ?_).trans (val_main_v205_apply x i).symm
  match a with
  | ⟨0, _⟩ => show 640 + (i 0).val = 640 + (i 0).val; omega
  | ⟨1, _⟩ => show (i 1).val = 0 + (i 1).val; omega

end Rows

/-! ### What the reference computes -/

section Reference

variable (x0 : FVec Ideal S704x128 .f32)

-- w_pool
theorem wantedMean0 (x9 : FVec Ideal S512x128 .f32) : val_main_v17 (F := Ideal) x0 x9 = meanOf x9 (val_main_v0 (F := Ideal) x0) := rfl
theorem wantedSquare0 (x17 : FVec Ideal S512x128 .f32) : val_main_v23 (F := Ideal) x0 x17 = squareOf x17 (val_main_v0 (F := Ideal) x0) := rfl
theorem wantedChange0 (x1 x9 x17 : FVec Ideal S512x128 .f32) : val_main_v36 (F := Ideal) x0 x1 x9 x17
    = changeOf x1 x9 x17 (val_main_v0 (F := Ideal) x0) := rfl

-- pool_scale
theorem wantedMean1 (x10 : FVec Ideal S1x512 .f32) : val_main_v41 (F := Ideal) x0 x10 = meanOf x10 (val_main_v2 (F := Ideal) x0) := rfl
theorem wantedSquare1 (x18 : FVec Ideal S1x512 .f32) : val_main_v47 (F := Ideal) x0 x18 = squareOf x18 (val_main_v2 (F := Ideal) x0) := rfl
theorem wantedChange1 (x2 x10 x18 : FVec Ideal S1x512 .f32) : val_main_v60 (F := Ideal) x0 x2 x10 x18
    = changeOf x2 x10 x18 (val_main_v2 (F := Ideal) x0) := rfl

-- ln1_g
theorem wantedMean2 (x11 : FVec Ideal S1x1024 .f32) : val_main_v65 (F := Ideal) x0 x11 = meanOf x11 (val_main_v4 (F := Ideal) x0) := rfl
theorem wantedSquare2 (x19 : FVec Ideal S1x1024 .f32) : val_main_v71 (F := Ideal) x0 x19 = squareOf x19 (val_main_v4 (F := Ideal) x0) := rfl
theorem wantedChange2 (x3 x11 x19 : FVec Ideal S1x1024 .f32) : val_main_v84 (F := Ideal) x0 x3 x11 x19
    = changeOf x3 x11 x19 (val_main_v4 (F := Ideal) x0) := rfl

-- ln1_b
theorem wantedMean3 (x12 : FVec Ideal S1x1024 .f32) : val_main_v89 (F := Ideal) x0 x12 = meanOf x12 (val_main_v6 (F := Ideal) x0) := rfl
theorem wantedSquare3 (x20 : FVec Ideal S1x1024 .f32) : val_main_v95 (F := Ideal) x0 x20 = squareOf x20 (val_main_v6 (F := Ideal) x0) := rfl
theorem wantedChange3 (x4 x12 x20 : FVec Ideal S1x1024 .f32) : val_main_v108 (F := Ideal) x0 x4 x12 x20
    = changeOf x4 x12 x20 (val_main_v6 (F := Ideal) x0) := rfl

-- conv_w
theorem wantedMean4 (x13 x25 : FVec Ideal S3x1x352 .f32) : val_main_v113 (F := Ideal) x13 x25 = meanOf x13 x25 := rfl
theorem wantedSquare4 (x21 x25 : FVec Ideal S3x1x352 .f32) : val_main_v119 (F := Ideal) x21 x25 = squareOf x21 x25 := rfl
theorem wantedChange4 (x5 x13 x21 x25 : FVec Ideal S3x1x352 .f32) : val_main_v132 (F := Ideal) x5 x13 x21 x25
    = changeOf x5 x13 x21 x25 := rfl

-- conv_b
theorem wantedMean5 (x14 : FVec Ideal S1x2816 .f32) : val_main_v137 (F := Ideal) x0 x14 = meanOf x14 (val_main_v8 (F := Ideal) x0) := rfl
theorem wantedSquare5 (x22 : FVec Ideal S1x2816 .f32) : val_main_v143 (F := Ideal) x0 x22 = squareOf x22 (val_main_v8 (F := Ideal) x0) := rfl
theorem wantedChange5 (x6 x14 x22 : FVec Ideal S1x2816 .f32) : val_main_v156 (F := Ideal) x0 x6 x14 x22
    = changeOf x6 x14 x22 (val_main_v8 (F := Ideal) x0) := rfl

-- ln2_g
theorem wantedMean6 (x15 : FVec Ideal S1x1024 .f32) : val_main_v161 (F := Ideal) x0 x15 = meanOf x15 (val_main_v10 (F := Ideal) x0) := rfl
theorem wantedSquare6 (x23 : FVec Ideal S1x1024 .f32) : val_main_v167 (F := Ideal) x0 x23 = squareOf x23 (val_main_v10 (F := Ideal) x0) := rfl
theorem wantedChange6 (x7 x15 x23 : FVec Ideal S1x1024 .f32) : val_main_v180 (F := Ideal) x0 x7 x15 x23
    = changeOf x7 x15 x23 (val_main_v10 (F := Ideal) x0) := rfl

-- ln2_b
theorem wantedMean7 (x16 : FVec Ideal S1x1024 .f32) : val_main_v185 (F := Ideal) x0 x16 = meanOf x16 (val_main_v12 (F := Ideal) x0) := rfl
theorem wantedSquare7 (x24 : FVec Ideal S1x1024 .f32) : val_main_v191 (F := Ideal) x0 x24 = squareOf x24 (val_main_v12 (F := Ideal) x0) := rfl
theorem wantedChange7 (x8 x16 x24 : FVec Ideal S1x1024 .f32) : val_main_v204 (F := Ideal) x0 x8 x16 x24
    = changeOf x8 x16 x24 (val_main_v12 (F := Ideal) x0) := rfl

end Reference

/-! ### Kernel and reference agree -/

theorem whole3 (x : Vec Ideal S512x128 .f32) : View.ld x r0_3 = x := by rw [View.ld_unit_zero origin2]
theorem whole8 (x : Vec Ideal S1x512 .f32) : View.ld x r0_8 = x := by rw [View.ld_unit_zero origin2]
theorem whole17 (x : Vec Ideal S1x1024 .f32) : View.ld x r0_17 = x := by rw [View.ld_unit_zero origin2]
theorem whole26 (x : Vec Ideal S3x1x352 .f32) : View.ld x r0_26 = x := by rw [View.ld_unit_zero origin3]
theorem whole49 (x : Vec Ideal S1x2816 .f32) : View.ld x r0_49 = x := by rw [View.ld_unit_zero origin2]

section Agree

variable (x : Inputs Ideal)

-- What the reference computes of the arrays is what the body leaves.
theorem agree26 : val_main_v0 (F := Ideal) x.x0 = out26 x := by
  unfold out26
  exact (grad0 _).symm
theorem agree27 : val_main_v2 (F := Ideal) x.x0 = out27 x := by
  unfold out27
  exact (grad1 _).symm
theorem agree28 : val_main_v4 (F := Ideal) x.x0 = out28 x := by
  unfold out28
  exact (grad2 _).symm
theorem agree29 : val_main_v6 (F := Ideal) x.x0 = out29 x := by
  unfold out29
  exact (grad3 _).symm
theorem agree30 : val_main_v8 (F := Ideal) x.x0 = out30 x := by
  unfold out30
  exact (grad5 _).symm
theorem agree31 : val_main_v10 (F := Ideal) x.x0 = out31 x := by
  unfold out31
  exact (grad6 _).symm
theorem agree32 : val_main_v12 (F := Ideal) x.x0 = out32 x := by
  unfold out32
  exact (grad7 _).symm
theorem agree33 : val_main_v36 (F := Ideal) x.x0 x.x1 x.x9 x.x17 = out33 x := by
  unfold out33
  rw [whole3, whole3, whole3]; exact (wantedChange0 _ _ _ _).trans (congrArg (changeOf x.x1 x.x9 x.x17) (grad0 _)).symm
theorem agree34 : val_main_v60 (F := Ideal) x.x0 x.x2 x.x10 x.x18 = out34 x := by
  unfold out34
  rw [whole8, whole8, whole8]; exact (wantedChange1 _ _ _ _).trans (congrArg (changeOf x.x2 x.x10 x.x18) (grad1 _)).symm
theorem agree35 : val_main_v84 (F := Ideal) x.x0 x.x3 x.x11 x.x19 = out35 x := by
  unfold out35 out28
  rw [whole17, whole17, whole17]; exact (wantedChange2 _ _ _ _).trans (congrArg (changeOf x.x3 x.x11 x.x19) (grad2 _)).symm
theorem agree36 : val_main_v108 (F := Ideal) x.x0 x.x4 x.x12 x.x20 = out36 x := by
  unfold out36
  rw [whole17, whole17, whole17]; exact (wantedChange3 _ _ _ _).trans (congrArg (changeOf x.x4 x.x12 x.x20) (grad3 _)).symm
theorem agree37 : val_main_v132 (F := Ideal) x.x5 x.x13 x.x21 x.x25 = out37 x := by
  unfold out37
  rw [whole26, whole26, whole26, whole26]; exact wantedChange4 _ _ _ _
theorem agree38 : val_main_v156 (F := Ideal) x.x0 x.x6 x.x14 x.x22 = out38 x := by
  unfold out38
  rw [whole49, whole49, whole49]; exact (wantedChange5 _ _ _ _).trans (congrArg (changeOf x.x6 x.x14 x.x22) (grad5 _)).symm
theorem agree39 : val_main_v180 (F := Ideal) x.x0 x.x7 x.x15 x.x23 = out39 x := by
  unfold out39 out31
  rw [whole17, whole17, whole17]; exact (wantedChange6 _ _ _ _).trans (congrArg (changeOf x.x7 x.x15 x.x23) (grad6 _)).symm
theorem agree40 : val_main_v204 (F := Ideal) x.x0 x.x8 x.x16 x.x24 = out40 x := by
  unfold out40
  rw [whole17, whole17, whole17]; exact (wantedChange7 _ _ _ _).trans (congrArg (changeOf x.x8 x.x16 x.x24) (grad7 _)).symm
theorem agree41 : val_main_v17 (F := Ideal) x.x0 x.x9 = out41 x := by
  unfold out41
  rw [whole3]; exact (wantedMean0 _ _).trans (congrArg (meanOf x.x9) (grad0 _)).symm
theorem agree42 : val_main_v41 (F := Ideal) x.x0 x.x10 = out42 x := by
  unfold out42
  rw [whole8]; exact (wantedMean1 _ _).trans (congrArg (meanOf x.x10) (grad1 _)).symm
theorem agree43 : val_main_v65 (F := Ideal) x.x0 x.x11 = out43 x := by
  unfold out43 out28
  rw [whole17]; exact (wantedMean2 _ _).trans (congrArg (meanOf x.x11) (grad2 _)).symm
theorem agree44 : val_main_v89 (F := Ideal) x.x0 x.x12 = out44 x := by
  unfold out44
  rw [whole17]; exact (wantedMean3 _ _).trans (congrArg (meanOf x.x12) (grad3 _)).symm
theorem agree45 : val_main_v113 (F := Ideal) x.x13 x.x25 = out45 x := by
  unfold out45
  rw [whole26, whole26]; exact wantedMean4 _ _
theorem agree46 : val_main_v137 (F := Ideal) x.x0 x.x14 = out46 x := by
  unfold out46
  rw [whole49]; exact (wantedMean5 _ _).trans (congrArg (meanOf x.x14) (grad5 _)).symm
theorem agree47 : val_main_v161 (F := Ideal) x.x0 x.x15 = out47 x := by
  unfold out47
  rw [whole17]; exact (wantedMean6 _ _).trans (congrArg (meanOf x.x15) (grad6 _)).symm
theorem agree48 : val_main_v185 (F := Ideal) x.x0 x.x16 = out48 x := by
  unfold out48
  rw [whole17]; exact (wantedMean7 _ _).trans (congrArg (meanOf x.x16) (grad7 _)).symm
theorem agree49 : val_main_v23 (F := Ideal) x.x0 x.x17 = out49 x := by
  unfold out49
  rw [whole3]; exact (wantedSquare0 _ _).trans (congrArg (squareOf x.x17) (grad0 _)).symm
theorem agree50 : val_main_v47 (F := Ideal) x.x0 x.x18 = out50 x := by
  unfold out50
  rw [whole8]; exact (wantedSquare1 _ _).trans (congrArg (squareOf x.x18) (grad1 _)).symm
theorem agree51 : val_main_v71 (F := Ideal) x.x0 x.x19 = out51 x := by
  unfold out51 out28
  rw [whole17]; exact (wantedSquare2 _ _).trans (congrArg (squareOf x.x19) (grad2 _)).symm
theorem agree52 : val_main_v95 (F := Ideal) x.x0 x.x20 = out52 x := by
  unfold out52
  rw [whole17]; exact (wantedSquare3 _ _).trans (congrArg (squareOf x.x20) (grad3 _)).symm
theorem agree53 : val_main_v119 (F := Ideal) x.x21 x.x25 = out53 x := by
  unfold out53
  rw [whole26, whole26]; exact wantedSquare4 _ _
theorem agree54 : val_main_v143 (F := Ideal) x.x0 x.x22 = out54 x := by
  unfold out54
  rw [whole49]; exact (wantedSquare5 _ _).trans (congrArg (squareOf x.x22) (grad5 _)).symm
theorem agree55 : val_main_v167 (F := Ideal) x.x0 x.x23 = out55 x := by
  unfold out55 out31
  rw [whole17]; exact (wantedSquare6 _ _).trans (congrArg (squareOf x.x23) (grad6 _)).symm
theorem agree56 : val_main_v191 (F := Ideal) x.x0 x.x24 = out56 x := by
  unfold out56
  rw [whole17]; exact (wantedSquare7 _ _).trans (congrArg (squareOf x.x24) (grad7 _)).symm
theorem agree57 : val_main_v205 (F := Ideal) x.x0 = out57 x := by
  unfold out57
  exact (loss _).symm

end Agree

end AdamSmall

end
-- ==== Proof.Small.Claims.lean ====
/- The claims of AdamW's step of the small weights. -/
module

public import proofs.«01_k».proof.Defs
public import proofs.«01_k».proof.Proof.Gen.AdamSmall
public import proofs.«01_k».proof.Proof.Gen.AdamSmallIdeal
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.Small.Step
public import Idealize.ShloMosaic.Lib.Quiescent

@[expose] public section

set_option maxRecDepth 65536

noncomputable section

namespace AdamSmall

open Idealize.ShloMosaic Idealize.ShloMosaic.TcCoe Idealize.SL.Sem
open Cert.AdamSmallIdeal Cert.AdamSmallIdeal.Gen AdamStep
open Cert.AdamSmallReferenceIdeal.Read

/-! ### The frames

The kernel and its idealised form have the same text, so a run of the one over any floats is a run of the other. -/

set_option maxHeartbeats 4000000 in
theorem same_main : Cert.AdamSmall.main (F := Bits) = Cert.AdamSmallIdeal.main (F := Bits) := rfl

set_option maxHeartbeats 4000000 in
theorem same_bodies : Cert.AdamSmall.defs₀ (F := Bits) = Cert.AdamSmallIdeal.defs₀ (F := Bits) := by
  unfold Cert.AdamSmall.defs₀ Cert.AdamSmallIdeal.defs₀
  refine congrArg Defs.onTc ?_
  funext l a
  match l, a with
  | ⟨0, _⟩, (t, s) => rfl

set_option maxHeartbeats 4000000 in
theorem same_defs : Cert.AdamSmall.defs (F := Bits) = Cert.AdamSmallIdeal.defs (F := Bits) := by
  unfold Cert.AdamSmall.defs Cert.AdamSmallIdeal.defs
  exact congrArg (Pipeline.defs (Cert.AdamSmall.pcfgs (F := Bits))) same_bodies

set_option maxHeartbeats 4000000 in
theorem kernel_frame : Cert.quiescent_AdamSmall := fun m g _ => by
  rw [same_defs, same_main]
  exact (θ_run _ _ _).mono (fun _ h => ⟨fun c => kept (F := Bits) m c h.1, h.2⟩) (launch_run (F := Bits) m g)

set_option maxHeartbeats 4000000 in
theorem ideal_frame : Cert.quiescent_AdamSmallIdeal := fun m g _ =>
  (θ_run _ _ _).mono (fun _ h => ⟨fun c => kept m c h.1, h.2⟩) (launch_run m g)

theorem reference_frame : Cert.quiescent_AdamSmallReferenceIdeal := fun m g _ =>
  (θ_run _ _ _).mono (fun r hr => ⟨fun c => (hr c).2.2.2.2.2.2.2.2.2.2.2.2.2.2.2.2.2.2.2.2.2.2.2.2.2.2.2.2.2.2.2.2, sem_eq_zero_of_no_sems (by decide) r.2⟩)
    (Cert.AdamSmallReferenceIdeal.Value.run m g)

/-! ### The claim -/

/-- The arrays that the reference reads. -/
def theirs (m : (ℓ : Loc Cert.AdamSmallReferenceIdeal.nD Cert.AdamSmallReferenceIdeal.τ Cert.AdamSmallReferenceIdeal.sig) → Buf (Elt Ideal) ℓ)
    (c : Dev Cert.AdamSmallReferenceIdeal.nD) : Inputs Ideal where
  x0 := m ((c.tc : Thread Cert.AdamSmallReferenceIdeal.nD Cert.AdamSmallReferenceIdeal.τ).loc Cert.AdamSmallReferenceIdeal.main_arg0)
  x1 := m ((c.tc : Thread Cert.AdamSmallReferenceIdeal.nD Cert.AdamSmallReferenceIdeal.τ).loc Cert.AdamSmallReferenceIdeal.main_arg1)
  x2 := m ((c.tc : Thread Cert.AdamSmallReferenceIdeal.nD Cert.AdamSmallReferenceIdeal.τ).loc Cert.AdamSmallReferenceIdeal.main_arg2)
  x3 := m ((c.tc : Thread Cert.AdamSmallReferenceIdeal.nD Cert.AdamSmallReferenceIdeal.τ).loc Cert.AdamSmallReferenceIdeal.main_arg3)
  x4 := m ((c.tc : Thread Cert.AdamSmallReferenceIdeal.nD Cert.AdamSmallReferenceIdeal.τ).loc Cert.AdamSmallReferenceIdeal.main_arg4)
  x5 := m ((c.tc : Thread Cert.AdamSmallReferenceIdeal.nD Cert.AdamSmallReferenceIdeal.τ).loc Cert.AdamSmallReferenceIdeal.main_arg5)
  x6 := m ((c.tc : Thread Cert.AdamSmallReferenceIdeal.nD Cert.AdamSmallReferenceIdeal.τ).loc Cert.AdamSmallReferenceIdeal.main_arg6)
  x7 := m ((c.tc : Thread Cert.AdamSmallReferenceIdeal.nD Cert.AdamSmallReferenceIdeal.τ).loc Cert.AdamSmallReferenceIdeal.main_arg7)
  x8 := m ((c.tc : Thread Cert.AdamSmallReferenceIdeal.nD Cert.AdamSmallReferenceIdeal.τ).loc Cert.AdamSmallReferenceIdeal.main_arg8)
  x9 := m ((c.tc : Thread Cert.AdamSmallReferenceIdeal.nD Cert.AdamSmallReferenceIdeal.τ).loc Cert.AdamSmallReferenceIdeal.main_arg9)
  x10 := m ((c.tc : Thread Cert.AdamSmallReferenceIdeal.nD Cert.AdamSmallReferenceIdeal.τ).loc Cert.AdamSmallReferenceIdeal.main_arg10)
  x11 := m ((c.tc : Thread Cert.AdamSmallReferenceIdeal.nD Cert.AdamSmallReferenceIdeal.τ).loc Cert.AdamSmallReferenceIdeal.main_arg11)
  x12 := m ((c.tc : Thread Cert.AdamSmallReferenceIdeal.nD Cert.AdamSmallReferenceIdeal.τ).loc Cert.AdamSmallReferenceIdeal.main_arg12)
  x13 := m ((c.tc : Thread Cert.AdamSmallReferenceIdeal.nD Cert.AdamSmallReferenceIdeal.τ).loc Cert.AdamSmallReferenceIdeal.main_arg13)
  x14 := m ((c.tc : Thread Cert.AdamSmallReferenceIdeal.nD Cert.AdamSmallReferenceIdeal.τ).loc Cert.AdamSmallReferenceIdeal.main_arg14)
  x15 := m ((c.tc : Thread Cert.AdamSmallReferenceIdeal.nD Cert.AdamSmallReferenceIdeal.τ).loc Cert.AdamSmallReferenceIdeal.main_arg15)
  x16 := m ((c.tc : Thread Cert.AdamSmallReferenceIdeal.nD Cert.AdamSmallReferenceIdeal.τ).loc Cert.AdamSmallReferenceIdeal.main_arg16)
  x17 := m ((c.tc : Thread Cert.AdamSmallReferenceIdeal.nD Cert.AdamSmallReferenceIdeal.τ).loc Cert.AdamSmallReferenceIdeal.main_arg17)
  x18 := m ((c.tc : Thread Cert.AdamSmallReferenceIdeal.nD Cert.AdamSmallReferenceIdeal.τ).loc Cert.AdamSmallReferenceIdeal.main_arg18)
  x19 := m ((c.tc : Thread Cert.AdamSmallReferenceIdeal.nD Cert.AdamSmallReferenceIdeal.τ).loc Cert.AdamSmallReferenceIdeal.main_arg19)
  x20 := m ((c.tc : Thread Cert.AdamSmallReferenceIdeal.nD Cert.AdamSmallReferenceIdeal.τ).loc Cert.AdamSmallReferenceIdeal.main_arg20)
  x21 := m ((c.tc : Thread Cert.AdamSmallReferenceIdeal.nD Cert.AdamSmallReferenceIdeal.τ).loc Cert.AdamSmallReferenceIdeal.main_arg21)
  x22 := m ((c.tc : Thread Cert.AdamSmallReferenceIdeal.nD Cert.AdamSmallReferenceIdeal.τ).loc Cert.AdamSmallReferenceIdeal.main_arg22)
  x23 := m ((c.tc : Thread Cert.AdamSmallReferenceIdeal.nD Cert.AdamSmallReferenceIdeal.τ).loc Cert.AdamSmallReferenceIdeal.main_arg23)
  x24 := m ((c.tc : Thread Cert.AdamSmallReferenceIdeal.nD Cert.AdamSmallReferenceIdeal.τ).loc Cert.AdamSmallReferenceIdeal.main_arg24)
  x25 := m ((c.tc : Thread Cert.AdamSmallReferenceIdeal.nD Cert.AdamSmallReferenceIdeal.τ).loc Cert.AdamSmallReferenceIdeal.main_arg25)

set_option maxHeartbeats 4000000 in
/-- Kernel and reference leave the same gradients, changes, running means and loss. -/
theorem equation : Cert.algebraic_AdamSmallIdeal_AdamSmallReferenceIdeal := by
  intro m g m' g' _ hm
  refine ⟨ fun c => out26 (arrays m c), fun c => out27 (arrays m c), fun c => out28 (arrays m c),
    fun c => out29 (arrays m c), fun c => out30 (arrays m c), fun c => out31 (arrays m c), fun c => out32 (arrays m c),
    fun c => out33 (arrays m c), fun c => out34 (arrays m c), fun c => out35 (arrays m c), fun c => out36 (arrays m c),
    fun c => out37 (arrays m c), fun c => out38 (arrays m c), fun c => out39 (arrays m c), fun c => out40 (arrays m c),
    fun c => out41 (arrays m c), fun c => out42 (arrays m c), fun c => out43 (arrays m c), fun c => out44 (arrays m c),
    fun c => out45 (arrays m c), fun c => out46 (arrays m c), fun c => out47 (arrays m c), fun c => out48 (arrays m c),
    fun c => out49 (arrays m c), fun c => out50 (arrays m c), fun c => out51 (arrays m c), fun c => out52 (arrays m c),
    fun c => out53 (arrays m c), fun c => out54 (arrays m c), fun c => out55 (arrays m c), fun c => out56 (arrays m c),
    fun c => out57 (arrays m c), ?_, ?_⟩
  · exact (θ_run _ _ _).mono (fun r h c => ⟨ ((h.1 c).1 26).trans (left26 m c), ((h.1 c).1 27).trans (left27 m c),
      ((h.1 c).1 28).trans (left28 m c), ((h.1 c).1 29).trans (left29 m c), ((h.1 c).1 30).trans (left30 m c),
      ((h.1 c).1 31).trans (left31 m c), ((h.1 c).1 32).trans (left32 m c), ((h.1 c).1 33).trans (left33 m c),
      ((h.1 c).1 34).trans (left34 m c), ((h.1 c).1 35).trans (left35 m c), ((h.1 c).1 36).trans (left36 m c),
      ((h.1 c).1 37).trans (left37 m c), ((h.1 c).1 38).trans (left38 m c), ((h.1 c).1 39).trans (left39 m c),
      ((h.1 c).1 40).trans (left40 m c), ((h.1 c).1 41).trans (left41 m c), ((h.1 c).1 42).trans (left42 m c),
      ((h.1 c).1 43).trans (left43 m c), ((h.1 c).1 44).trans (left44 m c), ((h.1 c).1 45).trans (left45 m c),
      ((h.1 c).1 46).trans (left46 m c), ((h.1 c).1 47).trans (left47 m c), ((h.1 c).1 48).trans (left48 m c),
      ((h.1 c).1 49).trans (left49 m c), ((h.1 c).1 50).trans (left50 m c), ((h.1 c).1 51).trans (left51 m c),
      ((h.1 c).1 52).trans (left52 m c), ((h.1 c).1 53).trans (left53 m c), ((h.1 c).1 54).trans (left54 m c),
      ((h.1 c).1 55).trans (left55 m c), ((h.1 c).1 56).trans (left56 m c), ((h.1 c).1 57).trans (left57 m c), kept m c h.1⟩)
      (launch_run m g)
  refine (θ_run _ _ _).mono (fun r hr c => ?_) (Cert.AdamSmallReferenceIdeal.Value.run m' g')
  obtain ⟨ h0, h1, h2, h3, h4, h5, h6, h7, h8, h9, h10, h11, h12, h13, h14, h15, h16, h17, h18, h19, h20, h21, h22, h23, h24,
    h25⟩ := hm c
  obtain ⟨ e26, e27, e28, e29, e30, e31, e32, e33, e34, e35, e36, e37, e38, e39, e40, e41, e42, e43, e44, e45, e46, e47, e48,
    e49, e50, e51, e52, e53, e54, e55, e56, e57, ea⟩ := hr c
  have same : theirs m' c = arrays m c := Inputs.ext h0 h1 h2 h3 h4 h5 h6 h7 h8 h9 h10 h11 h12 h13 h14 h15 h16 h17 h18 h19
    h20 h21 h22 h23 h24 h25
  exact ⟨e26.trans ((val_main_v0_eq _).trans ((agree26 (theirs m' c)).trans (congrArg out26 same))),
    e27.trans ((val_main_v2_eq _).trans ((agree27 (theirs m' c)).trans (congrArg out27 same))),
    e28.trans ((val_main_v4_eq _).trans ((agree28 (theirs m' c)).trans (congrArg out28 same))),
    e29.trans ((val_main_v6_eq _).trans ((agree29 (theirs m' c)).trans (congrArg out29 same))),
    e30.trans ((val_main_v8_eq _).trans ((agree30 (theirs m' c)).trans (congrArg out30 same))),
    e31.trans ((val_main_v10_eq _).trans ((agree31 (theirs m' c)).trans (congrArg out31 same))),
    e32.trans ((val_main_v12_eq _).trans ((agree32 (theirs m' c)).trans (congrArg out32 same))),
    e33.trans ((val_main_v36_eq _).trans ((agree33 (theirs m' c)).trans (congrArg out33 same))),
    e34.trans ((val_main_v60_eq _).trans ((agree34 (theirs m' c)).trans (congrArg out34 same))),
    e35.trans ((val_main_v84_eq _).trans ((agree35 (theirs m' c)).trans (congrArg out35 same))),
    e36.trans ((val_main_v108_eq _).trans ((agree36 (theirs m' c)).trans (congrArg out36 same))),
    e37.trans ((val_main_v132_eq _).trans ((agree37 (theirs m' c)).trans (congrArg out37 same))),
    e38.trans ((val_main_v156_eq _).trans ((agree38 (theirs m' c)).trans (congrArg out38 same))),
    e39.trans ((val_main_v180_eq _).trans ((agree39 (theirs m' c)).trans (congrArg out39 same))),
    e40.trans ((val_main_v204_eq _).trans ((agree40 (theirs m' c)).trans (congrArg out40 same))),
    e41.trans ((val_main_v17_eq _).trans ((agree41 (theirs m' c)).trans (congrArg out41 same))),
    e42.trans ((val_main_v41_eq _).trans ((agree42 (theirs m' c)).trans (congrArg out42 same))),
    e43.trans ((val_main_v65_eq _).trans ((agree43 (theirs m' c)).trans (congrArg out43 same))),
    e44.trans ((val_main_v89_eq _).trans ((agree44 (theirs m' c)).trans (congrArg out44 same))),
    e45.trans ((val_main_v113_eq _).trans ((agree45 (theirs m' c)).trans (congrArg out45 same))),
    e46.trans ((val_main_v137_eq _).trans ((agree46 (theirs m' c)).trans (congrArg out46 same))),
    e47.trans ((val_main_v161_eq _).trans ((agree47 (theirs m' c)).trans (congrArg out47 same))),
    e48.trans ((val_main_v185_eq _).trans ((agree48 (theirs m' c)).trans (congrArg out48 same))),
    e49.trans ((val_main_v23_eq _).trans ((agree49 (theirs m' c)).trans (congrArg out49 same))),
    e50.trans ((val_main_v47_eq _).trans ((agree50 (theirs m' c)).trans (congrArg out50 same))),
    e51.trans ((val_main_v71_eq _).trans ((agree51 (theirs m' c)).trans (congrArg out51 same))),
    e52.trans ((val_main_v95_eq _).trans ((agree52 (theirs m' c)).trans (congrArg out52 same))),
    e53.trans ((val_main_v119_eq _).trans ((agree53 (theirs m' c)).trans (congrArg out53 same))),
    e54.trans ((val_main_v143_eq _).trans ((agree54 (theirs m' c)).trans (congrArg out54 same))),
    e55.trans ((val_main_v167_eq _).trans ((agree55 (theirs m' c)).trans (congrArg out55 same))),
    e56.trans ((val_main_v191_eq _).trans ((agree56 (theirs m' c)).trans (congrArg out56 same))),
    e57.trans ((val_main_v205_eq _).trans ((agree57 (theirs m' c)).trans (congrArg out57 same))),
    ea⟩

end AdamSmall

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.GradDown
public import proofs.«01_k».proof.Proof.Gen.GradDown.Frame
public import proofs.«01_k».proof.Proof.Gen.GradDownIdeal
public import proofs.«01_k».proof.Proof.Gen.GradDownIdeal.Frame
public import proofs.«01_k».proof.Proof.Gen.GradDownIdeal.Value
public import proofs.«01_k».proof.Proof.Gen.GradDownReferenceIdeal
public import proofs.«01_k».proof.Proof.Gen.GradDownReferenceIdeal.Run
public import proofs.«01_k».proof.Proof.Gen.GradDownReferenceIdeal.Read
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.AdamUpReferenceIdeal
public import proofs.«01_k».proof.Proof.Gen.AdamUpReferenceIdeal.Run
public import proofs.«01_k».proof.Proof.Gen.AdamUpReferenceIdeal.Read
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.AdamDownReferenceIdeal
public import proofs.«01_k».proof.Proof.Gen.AdamDownReferenceIdeal.Run
public import proofs.«01_k».proof.Proof.Gen.AdamDownReferenceIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamOutReferenceIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Gen.AdamSmall
public import proofs.«01_k».proof.Proof.Gen.AdamSmallIdeal
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.Ideal.Frame
public import proofs.«01_k».proof.Proof.Ideal.Value
public import proofs.«01_k».proof.Proof.Same
public import proofs.«01_k».proof.Proof.Finite
public import proofs.«01_k».proof.Proof.Equation
public import proofs.«01_k».proof.Proof.Weight.Down
public import proofs.«01_k».proof.Proof.Adam.Up
public import proofs.«01_k».proof.Proof.Adam.Down
public import proofs.«01_k».proof.Proof.Adam.Out
public import proofs.«01_k».proof.Proof.Adam.In
public import proofs.«01_k».proof.Proof.Small.Claims
public import Idealize.ShloMosaic.Adequacy
public import Idealize.ShloMosaic.Init
public import Idealize.ShloMosaic.Lib.Quiescent

@[expose] public section

noncomputable section

namespace Cert.Proof

open Idealize.ShloMosaic Idealize.SL.Sem

/-- The idealised kernel leaves its arguments unchanged and every semaphore at zero. -/
theorem ideal_frame : Cert.quiescent_KernelIdeal := fun m g _ => Cert.KernelIdeal.Gen.frame m g

/-- The idealised reference leaves its arguments unchanged and every semaphore at zero. -/
theorem reference_frame : Cert.quiescent_ReferenceIdeal := fun m g _ =>
  (θ_run _ _ _).mono (fun r hr => ⟨fun c => (hr c).2.2.2.2.2.2.2.2.2.2.2, sem_eq_zero_of_no_sems (by decide) r.2⟩)
    (Cert.ReferenceIdeal.Value.run m g)

section
open Cert.KernelIdeal Cert.KernelIdeal.Gen FfnStep

/-- The reference's arguments are the kernel's, so they hold the same tables. -/
theorem reads_reference (m : (ℓ : Loc nD τ sig) → Buf (Elt Ideal) ℓ) (c : Dev nD) {A : Args} (hR : ReadsArgs m c A)
    {x0 : (⟨S4096x1024, .f32⟩ : BufTy).Contents (Elt Ideal)}
    {x1 : (⟨S1x1024, .f32⟩ : BufTy).Contents (Elt Ideal)}
    {x2 : (⟨S1x1024, .f32⟩ : BufTy).Contents (Elt Ideal)}
    {x3 : (⟨S1024x5632, .f32⟩ : BufTy).Contents (Elt Ideal)}
    {x4 : (⟨S3x2816, .f32⟩ : BufTy).Contents (Elt Ideal)}
    {x5 : (⟨S1x2816, .f32⟩ : BufTy).Contents (Elt Ideal)}
    {x6 : (⟨S2816x1024, .f32⟩ : BufTy).Contents (Elt Ideal)}
    {x7 : (⟨S1x1024, .f32⟩ : BufTy).Contents (Elt Ideal)}
    {x8 : (⟨S1x1024, .f32⟩ : BufTy).Contents (Elt Ideal)}
    {x9 : (⟨S4096x1024, .f32⟩ : BufTy).Contents (Elt Ideal)}
    (h : x0 = m ((c.tc : Thread nD τ).loc main_arg0) ∧ x1 = m ((c.tc : Thread nD τ).loc main_arg1) ∧ x2 = m ((c.tc : Thread nD τ).loc main_arg2) ∧ x3 = m ((c.tc : Thread nD τ).loc main_arg3) ∧ x4 = m ((c.tc : Thread nD τ).loc main_arg4) ∧ x5 = m ((c.tc : Thread nD τ).loc main_arg5) ∧ x6 = m ((c.tc : Thread nD τ).loc main_arg6) ∧ x7 = m ((c.tc : Thread nD τ).loc main_arg7) ∧ x8 = m ((c.tc : Thread nD τ).loc main_arg8) ∧ x9 = m ((c.tc : Thread nD τ).loc main_arg9)) :
    Ref.Reads A x0 x1 x2 x3 x4 x5 x6 x7 x8 x9 := by
  obtain ⟨h0, h1, h2, h3, h4, h5, h6, h7, h8, h9⟩ := h
  subst h0 h1 h2 h3 h4 h5 h6 h7 h8 h9
  exact hR

/-- On finite arguments the idealised kernel and the idealised reference leave the same results. -/
theorem equation : Cert.algebraic_KernelIdeal_ReferenceIdeal_pre_finite (hPre_finite := Cert.Pre_finite.facts) := by
  intro m g m' g' hpre hm
  have hR : ∀ c : Dev nD, ReadsArgs m c (argsOf m c) := fun c => reads_of_finite m c hpre
  refine ⟨fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N, fun c => (dats m 0 c).arrAt 18 cfg0.N, fun c => (dats m 0 c).arrAt 19 cfg0.N, fun c => (dats m 0 c).arrAt 20 cfg0.N, fun c => (dats m 0 c).arrAt 21 cfg0.N, fun c => (dats m 0 c).arrAt 22 cfg0.N, Cert.KernelIdeal.Value.run_blocks m g, ?_⟩
  refine (θ_run _ _ _).mono (fun r hr c => ?_) (Cert.ReferenceIdeal.Value.run m' g')
  have h := reads_reference m c (hR c) (hm c)
  obtain ⟨e0, e1, e2, e3, e4, e5, e6, e7, e8, e9, e10, ea⟩ := hr c
  exact ⟨e0.trans ((Cert.ReferenceIdeal.Read.val_main_v200_eq _).trans (agree_v200 m c (hR c) h)), e1.trans ((Cert.ReferenceIdeal.Read.val_main_v201_eq _).trans (agree_v201 m c (hR c) h)), e2.trans ((Cert.ReferenceIdeal.Read.val_main_v202_eq _).trans (agree_v202 m c (hR c) h)), e3.trans ((Cert.ReferenceIdeal.Read.val_main_v203_eq _).trans (agree_v203 m c (hR c) h)), e4.trans ((Cert.ReferenceIdeal.Read.val_main_v204_eq _).trans (agree_v204 m c (hR c) h)), e5.trans ((Cert.ReferenceIdeal.Read.val_main_v103_eq _).trans (agree_v103 m c (hR c) h)), e6.trans ((Cert.ReferenceIdeal.Read.val_main_v100_eq _).trans (agree_v100 m c (hR c) h)), e7.trans ((Cert.ReferenceIdeal.Read.val_main_v174_eq _).trans (agree_v174 m c (hR c) h)), e8.trans ((Cert.ReferenceIdeal.Read.val_main_v171_eq _).trans (agree_v171 m c (hR c) h)), e9.trans ((Cert.ReferenceIdeal.Read.val_main_v137_eq _).trans (agree_v137 m c (hR c) h)), e10.trans ((Cert.ReferenceIdeal.Read.val_main_v160_eq _).trans (agree_v160 m c (hR c) h)), ea⟩

end

/-- Every claim. -/
theorem claim : Cert.Claim :=
  ⟨Cert.Kernel.Gen.facts, Cert.KernelIdeal.Gen.facts, Cert.ReferenceIdeal.Gen.facts, Cert.GradDown.Gen.facts, Cert.GradDownIdeal.Gen.facts,
    Cert.GradDownReferenceIdeal.Gen.facts, Cert.AdamUp.Gen.facts, Cert.AdamUpIdeal.Gen.facts, Cert.AdamUpReferenceIdeal.Gen.facts,
    Cert.AdamDown.Gen.facts, Cert.AdamDownIdeal.Gen.facts, Cert.AdamDownReferenceIdeal.Gen.facts, Cert.AdamOut.Gen.facts,
    Cert.AdamOutIdeal.Gen.facts, Cert.AdamOutReferenceIdeal.Gen.facts, Cert.AdamIn.Gen.facts, Cert.AdamInIdeal.Gen.facts,
    Cert.AdamInReferenceIdeal.Gen.facts, Cert.AdamSmall.Gen.facts, Cert.AdamSmallIdeal.Gen.facts,
    Cert.AdamSmallReferenceIdeal.Gen.facts, Cert.Pre_finite.facts,
    kernel_frame, ideal_frame, fun m g _ => ideal_frame m g trivial, reference_frame, fun m g _ => reference_frame m g trivial,
    GradDown.kernel_frame, GradDown.ideal_frame, GradDown.reference_frame, AdamUp.kernel_frame, AdamUp.ideal_frame, AdamUp.reference_frame,
    AdamDown.kernel_frame, AdamDown.ideal_frame, AdamDown.reference_frame, AdamOut.kernel_frame, AdamOut.ideal_frame,
    AdamOut.reference_frame, AdamIn.kernel_frame, AdamIn.ideal_frame, AdamIn.reference_frame, AdamSmall.kernel_frame, AdamSmall.ideal_frame,
    AdamSmall.reference_frame,
    trivial, equation, trivial, GradDown.equation, trivial, AdamUp.equation, trivial, AdamDown.equation, trivial, AdamOut.equation, trivial,
    AdamIn.equation, trivial, AdamSmall.equation⟩

end Cert.Proof

end
